-- ==== Defs.lean ====
def Pre_Kernel [hPre_pages_and_lengths : Cert.Pre_pages_and_lengths.Facts] (m : (ℓ : Loc Cert.Kernel.nD Cert.Kernel.τ Cert.Kernel.sig) → Buf (Elt Bits) ℓ) : Prop :=
  ∀ c : Dev Cert.Kernel.nD,
    (Cert.Pre_pages_and_lengths.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_pages_and_lengths : Cert.Pre_pages_and_lengths.Facts] (m : (ℓ : Loc Cert.KernelIdeal.nD Cert.KernelIdeal.τ Cert.KernelIdeal.sig) → Buf (Elt Ideal) ℓ) : Prop :=
  ∀ c : Dev Cert.KernelIdeal.nD,
    (Cert.Pre_pages_and_lengths.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_blank_tail [hPre_blank_tail : Cert.Pre_blank_tail.Facts] (m : (ℓ : Loc Cert.KernelIdeal.nD Cert.KernelIdeal.τ Cert.KernelIdeal.sig) → Buf (Elt Ideal) ℓ) : Prop :=
  ∀ c : Dev Cert.KernelIdeal.nD,
    (Cert.Pre_blank_tail.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_blank_tail [hPre_blank_tail : Cert.Pre_blank_tail.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_blank_tail.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_pages_and_lengths : Cert.Pre_pages_and_lengths.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_pages_and_lengths : Cert.Pre_pages_and_lengths.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_blank_tail [hKernelIdeal : Cert.KernelIdeal.Facts] [hPre_blank_tail : Cert.Pre_blank_tail.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_blank_tail m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_blank_tail [hReferenceIdeal : Cert.ReferenceIdeal.Facts] [hPre_blank_tail : Cert.Pre_blank_tail.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_blank_tail m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_blank_tail [hKernelIdeal : Cert.KernelIdeal.Facts] [hReferenceIdeal : Cert.ReferenceIdeal.Facts] [hPre_blank_tail : Cert.Pre_blank_tail.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_blank_tail m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_pages_and_lengths : Cert.Pre_pages_and_lengths.Facts) (hPre_blank_tail : Cert.Pre_blank_tail.Facts),
    quiescent_Kernel (hKernel := hKernel) (hPre_pages_and_lengths := hPre_pages_and_lengths)
    ∧ quiescent_KernelIdeal (hKernelIdeal := hKernelIdeal) (hPre_pages_and_lengths := hPre_pages_and_lengths)
    ∧ quiescent_KernelIdeal_pre_blank_tail (hKernelIdeal := hKernelIdeal) (hPre_blank_tail := hPre_blank_tail)
    ∧ quiescent_ReferenceIdeal (hReferenceIdeal := hReferenceIdeal)
    ∧ quiescent_ReferenceIdeal_pre_blank_tail (hReferenceIdeal := hReferenceIdeal) (hPre_blank_tail := hPre_blank_tail)
    ∧ preserves_Kernel_KernelIdeal
    ∧ algebraic_KernelIdeal_ReferenceIdeal_pre_blank_tail (hKernelIdeal := hKernelIdeal) (hReferenceIdeal := hReferenceIdeal) (hPre_blank_tail := hPre_blank_tail)
-- ==== Pre_blank_tail.lean ====
abbrev S128x1x32x512 : Shape := ⟨4, ![128, 1, 32, 512]⟩
abbrev S128x1x32x64 : Shape := ⟨4, ![128, 1, 32, 64]⟩
abbrev S128x1x512 : Shape := ⟨3, ![128, 1, 512]⟩
abbrev S128x1x64 : Shape := ⟨3, ![128, 1, 64]⟩
abbrev S5120x64x512 : Shape := ⟨3, ![5120, 64, 512]⟩
abbrev S5120x64x4 : Shape := ⟨3, ![5120, 64, 4]⟩
abbrev S5120x64x64 : Shape := ⟨3, ![5120, 64, 64]⟩
abbrev S128x32 : Shape := ⟨2, ![128, 32]⟩
abbrev S128 : Shape := ⟨1, ![128]⟩
abbrev S_ : Shape := ⟨0, ![]⟩
abbrev S128x1 : Shape := ⟨2, ![128, 1]⟩
abbrev S32 : Shape := ⟨1, ![32]⟩
abbrev S1x32 : Shape := ⟨2, ![1, 32]⟩
abbrev S128x32x1x1 : Shape := ⟨4, ![128, 32, 1, 1]⟩
abbrev S128x32x1 : Shape := ⟨3, ![128, 32, 1]⟩
abbrev S128x32x64x4 : Shape := ⟨4, ![128, 32, 64, 4]⟩

class Facts : Prop where
  bcast_S_S128x32 : S_.BroadcastsInDim S128x32 (![] : Fin 0 → Fin S128x32.rank)
  bcast_S_S128 : S_.BroadcastsInDim S128 (![] : Fin 0 → Fin S128.rank)
  bcast_S128_S128x1_0 : S128.BroadcastsInDim S128x1 (![0] : Fin 1 → Fin S128x1.rank)
  bcast_S128x1_S128x32_0_1 : S128x1.BroadcastsInDim S128x32 (![0, 1] : Fin 2 → Fin S128x32.rank)
  bcast_S_S32 : S_.BroadcastsInDim S32 (![] : Fin 0 → Fin S32.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S128x32_S128x32x1x1_0_1 : S128x32.BroadcastsInDim S128x32x1x1 (![0, 1] : Fin 2 → Fin S128x32x1x1.rank)
  bcast_S128x32_S128x32x1_0_1 : S128x32.BroadcastsInDim S128x32x1 (![0, 1] : Fin 2 → Fin S128x32x1.rank)
  bcast_S_S128x32x64x4 : S_.BroadcastsInDim S128x32x64x4 (![] : Fin 0 → Fin S128x32x64x4.rank)
  bcast_S128x32x1x1_S128x32x64x4_0_1_2_3 : S128x32x1x1.BroadcastsInDim S128x32x64x4 (![0, 1, 2, 3] : Fin 4 → Fin S128x32x64x4.rank)
  gather_S5120x64x4_S128x32x1_S128x32x64x4_23_0_n_n_0_2_1644_wf : GatherDims.WF S5120x64x4 S128x32x1 S128x32x64x4 [2, 3] [0] [] [0] [] 2 ![1, 64, 4]

variable [Facts]

def gather_S5120x64x4_S128x32x1_S128x32x64x4_23_0_n_n_0_2_1644 : GatherDims S5120x64x4 S128x32x1 S128x32x64x4 where
  offsetDims := [2, 3]
  collapsedSliceDims := [0]
  operandBatchingDims := []
  startIndicesBatchingDims := []
  startIndexMap := [0]
  indexVectorDim := 2
  sliceSizes := ![1, 64, 4]
  wf := gather_S5120x64x4_S128x32x1_S128x32x64x4_23_0_n_n_0_2_1644_wf
def fn_part1 {F : FTy → Type} [FloatOps F] (main_arg5 : FVec F S5120x64x4 .f32) (main_arg7 : IVec S128x32 32) (main_v9 : IVec S128x32 1) (main_v17 : IVec S128x32 32) (main_v18 : IVec S128x32 32) : IVec S128x32x64x4 1 :=
  let main_v19 : IVec S128x32 1 := cmpi .slt main_v17 main_v18
  let main_v20 : IVec S128x32x1x1 1 := broadcastInDim S128x32x1x1 ![0, 1] bcast_S128x32_S128x32x1x1_0_1 main_v9
  let main_v21 : IVec S128x32x1x1 1 := broadcastInDim S128x32x1x1 ![0, 1] bcast_S128x32_S128x32x1x1_0_1 main_v19
  let main_c_4 : IVec S_ 32 := constantI S_ 32 0#32
  let main_v22 : IVec S128x32 32 := broadcastInDim S128x32 ![] bcast_S_S128x32 main_c_4
  let main_v23 : IVec S128x32 1 := cmpi .slt main_arg7 main_v22
  let main_c_5 : IVec S_ 32 := constantI S_ 32 5120#32
  let main_v24 : IVec S128x32 32 := broadcastInDim S128x32 ![] bcast_S_S128x32 main_c_5
  let main_v25 : IVec S128x32 32 := addi main_arg7 main_v24
  let main_v26 : IVec S128x32 32 := select main_v23 main_v25 main_arg7
  let main_v27 : IVec S128x32x1 32 := broadcastInDim S128x32x1 ![0, 1] bcast_S128x32_S128x32x1_0_1 main_v26
  let main_v28 : FVec F S128x32x64x4 .f32 := (fun x i => Host.gather gather_S5120x64x4_S128x32x1_S128x32x64x4_23_0_n_n_0_2_1644 x i) main_arg5 main_v27
  let main_cst : FVec F S_ .f32 := constant S_ .f32 0x00000000#32
  let main_v29 : FVec F S128x32x64x4 .f32 := broadcastInDim S128x32x64x4 ![] bcast_S_S128x32x64x4 main_cst
  let main_v30 : IVec S128x32x64x4 1 := cmpf .oeq main_v28 main_v29
  let main_v31 : IVec S128x32x64x4 1 := broadcastInDim S128x32x64x4 ![0, 1, 2, 3] bcast_S128x32x1x1_S128x32x64x4_0_1_2_3 main_v21
  let main_v32 : IVec S128x32x64x4 1 := ori main_v31 main_v30
  let main_v33 : IVec S128x32x64x4 1 := broadcastInDim S128x32x64x4 ![0, 1, 2, 3] bcast_S128x32x1x1_S128x32x64x4_0_1_2_3 main_v20
  let main_v34 : IVec S128x32x64x4 1 := andi main_v33 main_v32
  main_v34

def fn {F : FTy → Type} [FloatOps F] (main_arg0 : FVec F S128x1x32x512 .bf16) (main_arg1 : FVec F S128x1x32x64 .bf16) (main_arg2 : FVec F S128x1x512 .bf16) (main_arg3 : FVec F S128x1x64 .bf16) (main_arg4 : FVec F S5120x64x512 .fp8e4m3) (main_arg5 : FVec F S5120x64x4 .f32) (main_arg6 : FVec F S5120x64x64 .bf16) (main_arg7 : IVec S128x32 32) (main_arg8 : IVec S128 32) : IVec S128x32x64x4 1 :=
  let main_c : IVec S_ 32 := constantI S_ 32 0#32
  let main_v0 : IVec S128x32 32 := broadcastInDim S128x32 ![] bcast_S_S128x32 main_c
  let main_v1 : IVec S128x32 1 := cmpi .sge main_arg7 main_v0
  let main_c_0 : IVec S_ 32 := constantI S_ 32 5120#32
  let main_v2 : IVec S128x32 32 := broadcastInDim S128x32 ![] bcast_S_S128x32 main_c_0
  let main_v3 : IVec S128x32 1 := cmpi .slt main_arg7 main_v2
  let main_v4 : IVec S128x32 1 := andi main_v1 main_v3
  let main_c_1 : IVec S_ 32 := constantI S_ 32 2048#32
  let main_v5 : IVec S128 32 := broadcastInDim S128 ![] bcast_S_S128 main_c_1
  let main_v6 : IVec S128 1 := cmpi .sle main_arg8 main_v5
  let main_v7 : IVec S128x1 1 := broadcastInDim S128x1 ![0] bcast_S128_S128x1_0 main_v6
  let main_v8 : IVec S128x32 1 := broadcastInDim S128x32 ![0, 1] bcast_S128x1_S128x32_0_1 main_v7
  let main_v9 : IVec S128x32 1 := andi main_v4 main_v8
  let main_v10 : IVec S32 32 := iotaInDim S32 32 0
  let main_c_2 : IVec S_ 32 := constantI S_ 32 4294967292#32
  let main_v11 : IVec S32 32 := broadcastInDim S32 ![] bcast_S_S32 main_c_2
  let main_v12 : IVec S32 32 := andi main_v10 main_v11
  let main_c_3 : IVec S_ 32 := constantI S_ 32 64#32
  let main_v13 : IVec S32 32 := broadcastInDim S32 ![] bcast_S_S32 main_c_3
  let main_v14 : IVec S32 32 := muli main_v12 main_v13
  let main_v15 : IVec S1x32 32 := broadcastInDim S1x32 ![1] bcast_S32_S1x32_1 main_v14
  let main_v16 : IVec S128x1 32 := broadcastInDim S128x1 ![0] bcast_S128_S128x1_0 main_arg8
  let main_v17 : IVec S128x32 32 := broadcastInDim S128x32 ![0, 1] bcast_S1x32_S128x32_0_1 main_v15
  let main_v18 : IVec S128x32 32 := broadcastInDim S128x32 ![0, 1] bcast_S128x1_S128x32_0_1 main_v16
  fn_part1 (F := F) main_arg5 main_arg7 main_v9 main_v17 main_v18
-- ==== Pre_pages_and_lengths.lean ====
abbrev S128x1x32x512 : Shape := ⟨4, ![128, 1, 32, 512]⟩
abbrev S128x1x32x64 : Shape := ⟨4, ![128, 1, 32, 64]⟩
abbrev S128x1x512 : Shape := ⟨3, ![128, 1, 512]⟩
abbrev S128x1x64 : Shape := ⟨3, ![128, 1, 64]⟩
abbrev S5120x64x512 : Shape := ⟨3, ![5120, 64, 512]⟩
abbrev S5120x64x4 : Shape := ⟨3, ![5120, 64, 4]⟩
abbrev S5120x64x64 : Shape := ⟨3, ![5120, 64, 64]⟩
abbrev S128x32 : Shape := ⟨2, ![128, 32]⟩
abbrev S128 : Shape := ⟨1, ![128]⟩
abbrev S_ : Shape := ⟨0, ![]⟩
abbrev S128x1 : Shape := ⟨2, ![128, 1]⟩

class Facts : Prop where
  bcast_S_S128x32 : S_.BroadcastsInDim S128x32 (![] : Fin 0 → Fin S128x32.rank)
  bcast_S_S128 : S_.BroadcastsInDim S128 (![] : Fin 0 → Fin S128.rank)
  bcast_S128_S128x1_0 : S128.BroadcastsInDim S128x1 (![0] : Fin 1 → Fin S128x1.rank)
  bcast_S128x1_S128x32_0_1 : S128x1.BroadcastsInDim S128x32 (![0, 1] : Fin 2 → Fin S128x32.rank)

variable [Facts]

def fn {F : FTy → Type} [FloatOps F] (main_arg0 : FVec F S128x1x32x512 .bf16) (main_arg1 : FVec F S128x1x32x64 .bf16) (main_arg2 : FVec F S128x1x512 .bf16) (main_arg3 : FVec F S128x1x64 .bf16) (main_arg4 : FVec F S5120x64x512 .fp8e4m3) (main_arg5 : FVec F S5120x64x4 .f32) (main_arg6 : FVec F S5120x64x64 .bf16) (main_arg7 : IVec S128x32 32) (main_arg8 : IVec S128 32) : IVec S128x32 1 :=
  let main_c : IVec S_ 32 := constantI S_ 32 0#32
  let main_v0 : IVec S128x32 32 := broadcastInDim S128x32 ![] bcast_S_S128x32 main_c
  let main_v1 : IVec S128x32 1 := cmpi .sge main_arg7 main_v0
  let main_c_0 : IVec S_ 32 := constantI S_ 32 5120#32
  let main_v2 : IVec S128x32 32 := broadcastInDim S128x32 ![] bcast_S_S128x32 main_c_0
  let main_v3 : IVec S128x32 1 := cmpi .slt main_arg7 main_v2
  let main_v4 : IVec S128x32 1 := andi main_v1 main_v3
  let main_c_1 : IVec S_ 32 := constantI S_ 32 2048#32
  let main_v5 : IVec S128 32 := broadcastInDim S128 ![] bcast_S_S128 main_c_1
  let main_v6 : IVec S128 1 := cmpi .sle main_arg8 main_v5
  let main_v7 : IVec S128x1 1 := broadcastInDim S128x1 ![0] bcast_S128_S128x1_0 main_v6
  let main_v8 : IVec S128x32 1 := broadcastInDim S128x32 ![0, 1] bcast_S128x1_S128x32_0_1 main_v7
  let main_v9 : IVec S128x32 1 := andi main_v4 main_v8
  main_v9
-- ==== Kernel.lean ====
abbrev S128x1x32x512 : Shape := ⟨4, ![128, 1, 32, 512]⟩
abbrev S128x1x32x64 : Shape := ⟨4, ![128, 1, 32, 64]⟩
abbrev S128x1x512 : Shape := ⟨3, ![128, 1, 512]⟩
abbrev S128x1x64 : Shape := ⟨3, ![128, 1, 64]⟩
abbrev S5120x64x512 : Shape := ⟨3, ![5120, 64, 512]⟩
abbrev S5120x64x4 : Shape := ⟨3, ![5120, 64, 4]⟩
abbrev S5120x64x64 : Shape := ⟨3, ![5120, 64, 64]⟩
abbrev S128x32 : Shape := ⟨2, ![128, 32]⟩
abbrev S128 : Shape := ⟨1, ![128]⟩
abbrev S5120x4x64 : Shape := ⟨3, ![5120, 4, 64]⟩
abbrev S128x32x512 : Shape := ⟨3, ![128, 32, 512]⟩
abbrev S128x32x64 : Shape := ⟨3, ![128, 32, 64]⟩
abbrev S1x32x512 : Shape := ⟨3, ![1, 32, 512]⟩
abbrev S1x32x64 : Shape := ⟨3, ![1, 32, 64]⟩
abbrev S1x1x512 : Shape := ⟨3, ![1, 1, 512]⟩
abbrev S1x1x64 : Shape := ⟨3, ![1, 1, 64]⟩
abbrev S2x2048x512 : Shape := ⟨3, ![2, 2048, 512]⟩
abbrev S2x32x4x64 : Shape := ⟨4, ![2, 32, 4, 64]⟩
abbrev S2x2048x64 : Shape := ⟨3, ![2, 2048, 64]⟩
abbrev S8x32x256 : Shape := ⟨3, ![8, 32, 256]⟩
abbrev S2 : Shape := ⟨1, ![2]⟩
abbrev S1 : Shape := ⟨1, ![1]⟩
abbrev S1x1 : Shape := ⟨2, ![1, 1]⟩
abbrev S_ : Shape := ⟨0, ![]⟩
abbrev S1x64x512 : Shape := ⟨3, ![1, 64, 512]⟩
abbrev S64x512 : Shape := ⟨2, ![64, 512]⟩
abbrev S1x1x4x64 : Shape := ⟨4, ![1, 1, 4, 64]⟩
abbrev S4x64 : Shape := ⟨2, ![4, 64]⟩
abbrev S1x4x64 : Shape := ⟨3, ![1, 4, 64]⟩
abbrev S1x64x64 : Shape := ⟨3, ![1, 64, 64]⟩
abbrev S64x64 : Shape := ⟨2, ![64, 64]⟩
abbrev S32x512 : Shape := ⟨2, ![32, 512]⟩
abbrev S32x64 : Shape := ⟨2, ![32, 64]⟩
abbrev S1x512 : Shape := ⟨2, ![1, 512]⟩
abbrev S32 : Shape := ⟨1, ![32]⟩
abbrev S32x1 : Shape := ⟨2, ![32, 1]⟩
abbrev S1x64 : Shape := ⟨2, ![1, 64]⟩
abbrev S1x256x64 : Shape := ⟨3, ![1, 256, 64]⟩
abbrev S256x64 : Shape := ⟨2, ![256, 64]⟩
abbrev S32x256 : Shape := ⟨2, ![32, 256]⟩
abbrev S32x128 : Shape := ⟨2, ![32, 128]⟩
abbrev S1x256x128 : Shape := ⟨3, ![1, 256, 128]⟩
abbrev S256x128 : Shape := ⟨2, ![256, 128]⟩
abbrev S1x1x1x64 : Shape := ⟨4, ![1, 1, 1, 64]⟩
abbrev S1x256 : Shape := ⟨2, ![1, 256]⟩
abbrev S1x32x256 : Shape := ⟨3, ![1, 32, 256]⟩

abbrev nBuf : Space → Nat
  | .hbm => 11
  | .vmem => 14
  | .smem => 2
  | _ => 0

abbrev bufTy : (tb : Table) → Fin (tcTables nBuf tb) → BufTy
  | .hbm, ⟨0, _⟩ => ⟨S128x1x32x512, .bf16⟩
  | .hbm, ⟨1, _⟩ => ⟨S128x1x32x64, .bf16⟩
  | .hbm, ⟨2, _⟩ => ⟨S128x1x512, .bf16⟩
  | .hbm, ⟨3, _⟩ => ⟨S128x1x64, .bf16⟩
  | .hbm, ⟨4, _⟩ => ⟨S5120x64x512, .fp8e4m3⟩
  | .hbm, ⟨5, _⟩ => ⟨S5120x64x4, .f32⟩
  | .hbm, ⟨6, _⟩ => ⟨S5120x64x64, .bf16⟩
  | .hbm, ⟨7, _⟩ => ⟨S5120x4x64, .f32⟩
  | .hbm, ⟨8, _⟩ => ⟨S128x32x512, .bf16⟩
  | .hbm, ⟨9, _⟩ => ⟨S128x32x64, .bf16⟩
  | .hbm, ⟨10, _⟩ => ⟨S128x32x512, .bf16⟩
  | .local _ .vmem, ⟨0, _⟩ => ⟨S1x32x512, .bf16⟩
  | .local _ .vmem, ⟨1, _⟩ => ⟨S1x32x512, .bf16⟩
  | .local _ .vmem, ⟨2, _⟩ => ⟨S1x32x64, .bf16⟩
  | .local _ .vmem, ⟨3, _⟩ => ⟨S1x32x64, .bf16⟩
  | .local _ .vmem, ⟨4, _⟩ => ⟨S1x1x512, .bf16⟩
  | .local _ .vmem, ⟨5, _⟩ => ⟨S1x1x512, .bf16⟩
  | .local _ .vmem, ⟨6, _⟩ => ⟨S1x1x64, .bf16⟩
  | .local _ .vmem, ⟨7, _⟩ => ⟨S1x1x64, .bf16⟩
  | .local _ .vmem, ⟨8, _⟩ => ⟨S1x32x512, .bf16⟩
  | .local _ .vmem, ⟨9, _⟩ => ⟨S1x32x512, .bf16⟩
  | .local _ .vmem, ⟨10, _⟩ => ⟨S2x2048x512, .fp8e4m3⟩
  | .local _ .vmem, ⟨11, _⟩ => ⟨S2x32x4x64, .f32⟩
  | .local _ .vmem, ⟨12, _⟩ => ⟨S2x2048x64, .bf16⟩
  | .local _ .vmem, ⟨13, _⟩ => ⟨S8x32x256, .f32⟩
  | .local _ .smem, ⟨0, _⟩ => ⟨S128x32, .i32⟩
  | .local _ .smem, ⟨1, _⟩ => ⟨S128, .i32⟩
  | _, _ => ⟨S128x1x32x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_arg7 : Ref sig .tc := ⟨.smem, 0, rfl⟩
abbrev main_arg8 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![128], ![false]⟩

abbrev pre0 : Pipeline.Prefetch sig := ⟨2, ![main_arg7.idx, main_arg8.idx], fun | 0 => main_arg7.names | 1 => main_arg8.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop (v118 : BitVec 32) : Scf.Loop 32 :=
  let c0_i32_66 : BitVec 32 := 0#32
  let c256_i32_55 : BitVec 32 := 256#32
  let v119 : BitVec 32 := Scalar.addi v118 c256_i32_55
  let c1_i32_56 : BitVec 32 := 1#32
  let v120 : BitVec 32 := Scalar.subi v119 c1_i32_56
  let c0_i32_58 : BitVec 32 := 0#32
  let v122 : BitVec 1 := Scalar.cmpi .sgt v120 c0_i32_58
  let v123 : BitVec 32 := Scalar.extui v122
  let c0_i32_59 : BitVec 32 := 0#32
  let v124 : BitVec 1 := Scalar.cmpi .slt v120 c0_i32_59
  let v125 : BitVec 32 := Scalar.extui v124
  let v126 : BitVec 32 := Scalar.subi v123 v125
  let c256_i32_57 : BitVec 32 := 256#32
  let c0_i32_60 : BitVec 32 := 0#32
  let v127 : BitVec 1 := Scalar.cmpi .sgt c256_i32_57 c0_i32_60
  let v128 : BitVec 32 := Scalar.extui v127
  let c0_i32_61 : BitVec 32 := 0#32
  let v129 : BitVec 1 := Scalar.cmpi .slt c256_i32_57 c0_i32_61
  let v130 : BitVec 32 := Scalar.extui v129
  let v131 : BitVec 32 := Scalar.subi v128 v130
  let v132 : BitVec 1 := Scalar.cmpi .ne v126 v131
  let v133 : BitVec 32 := Scalar.remsi v120 c256_i32_57
  let c0_i32_62 : BitVec 32 := 0#32
  let v134 : BitVec 1 := Scalar.cmpi .ne v133 c0_i32_62
  let v135 : BitVec 1 := Scalar.andi v132 v134
  let v121 : BitVec 32 := Scalar.divsi v120 c256_i32_57
  let c1_i32_63 : BitVec 32 := 1#32
  let v136 : BitVec 32 := Scalar.subi v121 c1_i32_63
  let v137 : BitVec 32 := Scalar.select v135 v136 v121
  let c4_i32_64 : BitVec 32 := 4#32
  let v138 : BitVec 32 := Scalar.muli v137 c4_i32_64
  let v139 : BitVec 32 := Scalar.subi v138 c0_i32_66
  let c1_i32_67 : BitVec 32 := 1#32
  let v141 : BitVec 32 := Scalar.divsi v139 c1_i32_67
  let v142 : BitVec 32 := Scalar.muli v141 c1_i32_67
  let v143 : BitVec 32 := Scalar.addi c0_i32_66 v142
  let c1_i32_68 : BitVec 32 := 1#32
  ⟨c0_i32_66, v143, c1_i32_68⟩

def k0_off1 (v118 : BitVec 32) (k0_t1 : Fin (k0_t1_loop v118).trips) : Fin 2 → Nat :=
  let c0_70 : Index := 0#32
  let c0_i32_66 : BitVec 32 := 0#32
  let c1_i32_68 : BitVec 32 := 1#32
  let arg18 : BitVec 32 := Scf.iv c0_i32_66 c1_i32_68 k0_t1
  let v144 : Index := Scalar.indexCast arg18
  ![0, v144.toNat]
def k0_mult1 (v118 : BitVec 32) (k0_t1 : Fin (k0_t1_loop v118).trips) : BitVec 32 :=
  let c0_i32_66 : BitVec 32 := 0#32
  let c1_i32_68 : BitVec 32 := 1#32
  let arg18 : BitVec 32 := Scf.iv c0_i32_66 c1_i32_68 k0_t1
  let c64_i32 : BitVec 32 := 64#32
  let v146 : BitVec 32 := Scalar.muli arg18 c64_i32
  v146
def k0_off2 (v118 : BitVec 32) (k0_t1 : Fin (k0_t1_loop v118).trips) : Fin 3 → Nat :=
  let c0_i32_71 : BitVec 32 := 0#32
  let c0_i32_66 : BitVec 32 := 0#32
  let c1_i32_68 : BitVec 32 := 1#32
  let arg18 : BitVec 32 := Scf.iv c0_i32_66 c1_i32_68 k0_t1
  let c64_i32 : BitVec 32 := 64#32
  let v146 : BitVec 32 := Scalar.muli arg18 c64_i32
  let v147 : BitVec 32 := v146
  let c0_i32_73 : BitVec 32 := 0#32
  ![0, v147.toNat, 0]
def k0_off3 (v145 : BitVec 32) : Fin 3 → Nat :=
  let c0_i32_74 : BitVec 32 := 0#32
  let c0_i32_75 : BitVec 32 := 0#32
  ![v145.toNat, 0, 0]

def k0_off4 (v118 : BitVec 32) (k0_t1 : Fin (k0_t1_loop v118).trips) : Fin 4 → Nat :=
  let c0_i32_76 : BitVec 32 := 0#32
  let c0_i32_66 : BitVec 32 := 0#32
  let c1_i32_68 : BitVec 32 := 1#32
  let arg18 : BitVec 32 := Scf.iv c0_i32_66 c1_i32_68 k0_t1
  let c0_i32_78 : BitVec 32 := 0#32
  let c0_i32_79 : BitVec 32 := 0#32
  ![0, arg18.toNat, 0, 0]
def k0_off5 (v145 : BitVec 32) : Fin 3 → Nat :=
  let c0_i32_80 : BitVec 32 := 0#32
  let c0_i32_81 : BitVec 32 := 0#32
  ![v145.toNat, 0, 0]
def k0_off6 (v118 : BitVec 32) (k0_t1 : Fin (k0_t1_loop v118).trips) : Fin 3 → Nat :=
  let c0_i32_82 : BitVec 32 := 0#32
  let c0_i32_66 : BitVec 32 := 0#32
  let c1_i32_68 : BitVec 32 := 1#32
  let arg18 : BitVec 32 := Scf.iv c0_i32_66 c1_i32_68 k0_t1
  let c64_i32 : BitVec 32 := 64#32
  let v146 : BitVec 32 := Scalar.muli arg18 c64_i32
  let v147 : BitVec 32 := v146
  let c0_i32_84 : BitVec 32 := 0#32
  ![0, v147.toNat, 0]
def k0_off7 (v145 : BitVec 32) : Fin 3 → Nat :=
  let c0_i32_85 : BitVec 32 := 0#32
  let c0_i32_86 : BitVec 32 := 0#32
  ![v145.toNat, 0, 0]

def k0_chk2 (i : grid0.Coords) (v145 : BitVec 32) : Prop :=
  (∀ (k0_h1 : k0_cond1 i = 1#1), ∀ a, (k0_off3 v145) a + S1x64x512.size a ≤ S5120x64x512.size a) ∧
  (∀ (k0_h1 : k0_cond1 i = 1#1), ∀ (hinb : ∀ a, (k0_off3 v145) a + S1x64x512.size a ≤ S5120x64x512.size a), (Rect.unit (s := S5120x64x512) (k0_off3 v145) S1x64x512.size hinb).WholeWords (EltTy.packing .fp8e4m3)) ∧
  (∀ (k0_h1 : k0_cond1 i = 1#1), ∀ a, (k0_off5 v145) a + S1x4x64.size a ≤ S5120x4x64.size a) ∧
  (∀ (k0_h1 : k0_cond1 i = 1#1), ∀ a, (k0_off7 v145) a + S1x64x64.size a ≤ S5120x64x64.size a) ∧
  (∀ (k0_h1 : k0_cond1 i = 1#1), ∀ (hinb : ∀ a, (k0_off7 v145) a + S1x64x64.size a ≤ S5120x64x64.size a), (Rect.unit (s := S5120x64x64) (k0_off7 v145) S1x64x64.size hinb).WholeWords (EltTy.packing .bf16))
theorem k0_off3_inb : ∀ (i : grid0.Coords) (v145 : BitVec 32) (k0_hw2 : k0_chk2 i v145), ∀ (k0_h1 : k0_cond1 i = 1#1), ∀ a, (k0_off3 v145) a + S1x64x512.size a ≤ S5120x64x512.size a := fun i v145 k0_hw2 k0_h1 => k0_hw2.1 k0_h1
theorem k0_off3_wordsfp8e4m3 : ∀ (i : grid0.Coords) (v145 : BitVec 32) (k0_hw2 : k0_chk2 i v145), ∀ (k0_h1 : k0_cond1 i = 1#1), (Rect.unit (s := S5120x64x512) (k0_off3 v145) S1x64x512.size (k0_off3_inb i v145 k0_hw2 k0_h1)).WholeWords (EltTy.packing .fp8e4m3) := fun i v145 k0_hw2 k0_h1 => k0_hw2.2.1 k0_h1 (k0_off3_inb i v145 k0_hw2 k0_h1)
theorem k0_off5_inb : ∀ (i : grid0.Coords) (v145 : BitVec 32) (k0_hw2 : k0_chk2 i v145), ∀ (k0_h1 : k0_cond1 i = 1#1), ∀ a, (k0_off5 v145) a + S1x4x64.size a ≤ S5120x4x64.size a := fun i v145 k0_hw2 k0_h1 => k0_hw2.2.2.1 k0_h1
theorem k0_off7_inb : ∀ (i : grid0.Coords) (v145 : BitVec 32) (k0_hw2 : k0_chk2 i v145), ∀ (k0_h1 : k0_cond1 i = 1#1), ∀ a, (k0_off7 v145) a + S1x64x64.size a ≤ S5120x64x64.size a := fun i v145 k0_hw2 k0_h1 => k0_hw2.2.2.2.1 k0_h1
theorem k0_off7_wordsbf16 : ∀ (i : grid0.Coords) (v145 : BitVec 32) (k0_hw2 : k0_chk2 i v145), ∀ (k0_h1 : k0_cond1 i = 1#1), (Rect.unit (s := S5120x64x64) (k0_off7 v145) S1x64x64.size (k0_off7_inb i v145 k0_hw2 k0_h1)).WholeWords (EltTy.packing .bf16) := fun i v145 k0_hw2 k0_h1 => k0_hw2.2.2.2.2 k0_h1 (k0_off7_inb i v145 k0_hw2 k0_h1)

@[reducible] def k0_t2_loop (v118 : BitVec 32) : Scf.Loop 32 :=
  let c0_i32_66 : BitVec 32 := 0#32
  let c256_i32_55 : BitVec 32 := 256#32
  let v119 : BitVec 32 := Scalar.addi v118 c256_i32_55
  let c1_i32_56 : BitVec 32 := 1#32
  let v120 : BitVec 32 := Scalar.subi v119 c1_i32_56
  let c0_i32_58 : BitVec 32 := 0#32
  let v122 : BitVec 1 := Scalar.cmpi .sgt v120 c0_i32_58
  let v123 : BitVec 32 := Scalar.extui v122
  let c0_i32_59 : BitVec 32 := 0#32
  let v124 : BitVec 1 := Scalar.cmpi .slt v120 c0_i32_59
  let v125 : BitVec 32 := Scalar.extui v124
  let v126 : BitVec 32 := Scalar.subi v123 v125
  let c256_i32_57 : BitVec 32 := 256#32
  let c0_i32_60 : BitVec 32 := 0#32
  let v127 : BitVec 1 := Scalar.cmpi .sgt c256_i32_57 c0_i32_60
  let v128 : BitVec 32 := Scalar.extui v127
  let c0_i32_61 : BitVec 32 := 0#32
  let v129 : BitVec 1 := Scalar.cmpi .slt c256_i32_57 c0_i32_61
  let v130 : BitVec 32 := Scalar.extui v129
  let v131 : BitVec 32 := Scalar.subi v128 v130
  let v132 : BitVec 1 := Scalar.cmpi .ne v126 v131
  let v133 : BitVec 32 := Scalar.remsi v120 c256_i32_57
  let c0_i32_62 : BitVec 32 := 0#32
  let v134 : BitVec 1 := Scalar.cmpi .ne v133 c0_i32_62
  let v135 : BitVec 1 := Scalar.andi v132 v134
  let v121 : BitVec 32 := Scalar.divsi v120 c256_i32_57
  let c1_i32_63 : BitVec 32 := 1#32
  let v136 : BitVec 32 := Scalar.subi v121 c1_i32_63
  let v137 : BitVec 32 := Scalar.select v135 v136 v121
  let c4_i32_64 : BitVec 32 := 4#32
  let v138 : BitVec 32 := Scalar.muli v137 c4_i32_64
  let v139 : BitVec 32 := Scalar.subi v138 c0_i32_66
  let c1_i32_67 : BitVec 32 := 1#32
  let v141 : BitVec 32 := Scalar.divsi v139 c1_i32_67
  let v142 : BitVec 32 := Scalar.muli v141 c1_i32_67
  let v143 : BitVec 32 := Scalar.addi c0_i32_66 v142
  let v140 : BitVec 32 := Scalar.addi c0_i32_66 v139
  let c1_i32_69 : BitVec 32 := 1#32
  ⟨v143, v140, c1_i32_69⟩
def k0_off8 (v118 : BitVec 32) (k0_t2 : Fin (k0_t2_loop v118).trips) : Fin 2 → Nat :=
  let c0_70 : Index := 0#32
  let c0_i32_66 : BitVec 32 := 0#32
  let c256_i32_55 : BitVec 32 := 256#32
  let v119 : BitVec 32 := Scalar.addi v118 c256_i32_55
  let c1_i32_56 : BitVec 32 := 1#32
  let v120 : BitVec 32 := Scalar.subi v119 c1_i32_56
  let c0_i32_58 : BitVec 32 := 0#32
  let v122 : BitVec 1 := Scalar.cmpi .sgt v120 c0_i32_58
  let v123 : BitVec 32 := Scalar.extui v122
  let c0_i32_59 : BitVec 32 := 0#32
  let v124 : BitVec 1 := Scalar.cmpi .slt v120 c0_i32_59
  let v125 : BitVec 32 := Scalar.extui v124
  let v126 : BitVec 32 := Scalar.subi v123 v125
  let c256_i32_57 : BitVec 32 := 256#32
  let c0_i32_60 : BitVec 32 := 0#32
  let v127 : BitVec 1 := Scalar.cmpi .sgt c256_i32_57 c0_i32_60
  let v128 : BitVec 32 := Scalar.extui v127
  let c0_i32_61 : BitVec 32 := 0#32
  let v129 : BitVec 1 := Scalar.cmpi .slt c256_i32_57 c0_i32_61
  let v130 : BitVec 32 := Scalar.extui v129
  let v131 : BitVec 32 := Scalar.subi v128 v130
  let v132 : BitVec 1 := Scalar.cmpi .ne v126 v131
  let v133 : BitVec 32 := Scalar.remsi v120 c256_i32_57
  let c0_i32_62 : BitVec 32 := 0#32
  let v134 : BitVec 1 := Scalar.cmpi .ne v133 c0_i32_62
  let v135 : BitVec 1 := Scalar.andi v132 v134
  let v121 : BitVec 32 := Scalar.divsi v120 c256_i32_57
  let c1_i32_63 : BitVec 32 := 1#32
  let v136 : BitVec 32 := Scalar.subi v121 c1_i32_63
  let v137 : BitVec 32 := Scalar.select v135 v136 v121
  let c4_i32_64 : BitVec 32 := 4#32
  let v138 : BitVec 32 := Scalar.muli v137 c4_i32_64
  let v139 : BitVec 32 := Scalar.subi v138 c0_i32_66
  let c1_i32_67 : BitVec 32 := 1#32
  let v141 : BitVec 32 := Scalar.divsi v139 c1_i32_67
  let v142 : BitVec 32 := Scalar.muli v141 c1_i32_67
  let v143 : BitVec 32 := Scalar.addi c0_i32_66 v142
  let c1_i32_69 : BitVec 32 := 1#32
  let arg18 : BitVec 32 := Scf.iv v143 c1_i32_69 k0_t2
  let v144 : Index := Scalar.indexCast arg18
  ![0, v144.toNat]
def k0_mult2 (v118 : BitVec 32) (k0_t2 : Fin (k0_t2_loop v118).trips) : BitVec 32 :=
  let c0_i32_66 : BitVec 32 := 0#32
  let c256_i32_55 : BitVec 32 := 256#32
  let v119 : BitVec 32 := Scalar.addi v118 c256_i32_55
  let c1_i32_56 : BitVec 32 := 1#32
  let v120 : BitVec 32 := Scalar.subi v119 c1_i32_56
  let c0_i32_58 : BitVec 32 := 0#32
  let v122 : BitVec 1 := Scalar.cmpi .sgt v120 c0_i32_58
  let v123 : BitVec 32 := Scalar.extui v122
  let c0_i32_59 : BitVec 32 := 0#32
  let v124 : BitVec 1 := Scalar.cmpi .slt v120 c0_i32_59
  let v125 : BitVec 32 := Scalar.extui v124
  let v126 : BitVec 32 := Scalar.subi v123 v125
  let c256_i32_57 : BitVec 32 := 256#32
  let c0_i32_60 : BitVec 32 := 0#32
  let v127 : BitVec 1 := Scalar.cmpi .sgt c256_i32_57 c0_i32_60
  let v128 : BitVec 32 := Scalar.extui v127
  let c0_i32_61 : BitVec 32 := 0#32
  let v129 : BitVec 1 := Scalar.cmpi .slt c256_i32_57 c0_i32_61
  let v130 : BitVec 32 := Scalar.extui v129
  let v131 : BitVec 32 := Scalar.subi v128 v130
  let v132 : BitVec 1 := Scalar.cmpi .ne v126 v131
  let v133 : BitVec 32 := Scalar.remsi v120 c256_i32_57
  let c0_i32_62 : BitVec 32 := 0#32
  let v134 : BitVec 1 := Scalar.cmpi .ne v133 c0_i32_62
  let v135 : BitVec 1 := Scalar.andi v132 v134
  let v121 : BitVec 32 := Scalar.divsi v120 c256_i32_57
  let c1_i32_63 : BitVec 32 := 1#32
  let v136 : BitVec 32 := Scalar.subi v121 c1_i32_63
  let v137 : BitVec 32 := Scalar.select v135 v136 v121
  let c4_i32_64 : BitVec 32 := 4#32
  let v138 : BitVec 32 := Scalar.muli v137 c4_i32_64
  let v139 : BitVec 32 := Scalar.subi v138 c0_i32_66
  let c1_i32_67 : BitVec 32 := 1#32
  let v141 : BitVec 32 := Scalar.divsi v139 c1_i32_67
  let v142 : BitVec 32 := Scalar.muli v141 c1_i32_67
  let v143 : BitVec 32 := Scalar.addi c0_i32_66 v142
  let c1_i32_69 : BitVec 32 := 1#32
  let arg18 : BitVec 32 := Scf.iv v143 c1_i32_69 k0_t2
  let c64_i32 : BitVec 32 := 64#32
  let v146 : BitVec 32 := Scalar.muli arg18 c64_i32
  v146
def k0_off9 (v118 : BitVec 32) (k0_t2 : Fin (k0_t2_loop v118).trips) : Fin 3 → Nat :=
  let c0_i32_71 : BitVec 32 := 0#32
  let c0_i32_66 : BitVec 32 := 0#32
  let c256_i32_55 : BitVec 32 := 256#32
  let v119 : BitVec 32 := Scalar.addi v118 c256_i32_55
  let c1_i32_56 : BitVec 32 := 1#32
  let v120 : BitVec 32 := Scalar.subi v119 c1_i32_56
  let c0_i32_58 : BitVec 32 := 0#32
  let v122 : BitVec 1 := Scalar.cmpi .sgt v120 c0_i32_58
  let v123 : BitVec 32 := Scalar.extui v122
  let c0_i32_59 : BitVec 32 := 0#32
  let v124 : BitVec 1 := Scalar.cmpi .slt v120 c0_i32_59
  let v125 : BitVec 32 := Scalar.extui v124
  let v126 : BitVec 32 := Scalar.subi v123 v125
  let c256_i32_57 : BitVec 32 := 256#32
  let c0_i32_60 : BitVec 32 := 0#32
  let v127 : BitVec 1 := Scalar.cmpi .sgt c256_i32_57 c0_i32_60
  let v128 : BitVec 32 := Scalar.extui v127
  let c0_i32_61 : BitVec 32 := 0#32
  let v129 : BitVec 1 := Scalar.cmpi .slt c256_i32_57 c0_i32_61
  let v130 : BitVec 32 := Scalar.extui v129
  let v131 : BitVec 32 := Scalar.subi v128 v130
  let v132 : BitVec 1 := Scalar.cmpi .ne v126 v131
  let v133 : BitVec 32 := Scalar.remsi v120 c256_i32_57
  let c0_i32_62 : BitVec 32 := 0#32
  let v134 : BitVec 1 := Scalar.cmpi .ne v133 c0_i32_62
  let v135 : BitVec 1 := Scalar.andi v132 v134
  let v121 : BitVec 32 := Scalar.divsi v120 c256_i32_57
  let c1_i32_63 : BitVec 32 := 1#32
  let v136 : BitVec 32 := Scalar.subi v121 c1_i32_63
  let v137 : BitVec 32 := Scalar.select v135 v136 v121
  let c4_i32_64 : BitVec 32 := 4#32
  let v138 : BitVec 32 := Scalar.muli v137 c4_i32_64
  let v139 : BitVec 32 := Scalar.subi v138 c0_i32_66
  let c1_i32_67 : BitVec 32 := 1#32
  let v141 : BitVec 32 := Scalar.divsi v139 c1_i32_67
  let v142 : BitVec 32 := Scalar.muli v141 c1_i32_67
  let v143 : BitVec 32 := Scalar.addi c0_i32_66 v142
  let c1_i32_69 : BitVec 32 := 1#32
  let arg18 : BitVec 32 := Scf.iv v143 c1_i32_69 k0_t2
  let c64_i32 : BitVec 32 := 64#32
  let v146 : BitVec 32 := Scalar.muli arg18 c64_i32
  let v147 : BitVec 32 := v146
  let c0_i32_73 : BitVec 32 := 0#32
  ![0, v147.toNat, 0]
def k0_off10 (v145 : BitVec 32) : Fin 3 → Nat :=
  let c0_i32_74 : BitVec 32 := 0#32
  let c0_i32_75 : BitVec 32 := 0#32
  ![v145.toNat, 0, 0]

def k0_off11 (v118 : BitVec 32) (k0_t2 : Fin (k0_t2_loop v118).trips) : Fin 4 → Nat :=
  let c0_i32_76 : BitVec 32 := 0#32
  let c0_i32_66 : BitVec 32 := 0#32
  let c256_i32_55 : BitVec 32 := 256#32
  let v119 : BitVec 32 := Scalar.addi v118 c256_i32_55
  let c1_i32_56 : BitVec 32 := 1#32
  let v120 : BitVec 32 := Scalar.subi v119 c1_i32_56
  let c0_i32_58 : BitVec 32 := 0#32
  let v122 : BitVec 1 := Scalar.cmpi .sgt v120 c0_i32_58
  let v123 : BitVec 32 := Scalar.extui v122
  let c0_i32_59 : BitVec 32 := 0#32
  let v124 : BitVec 1 := Scalar.cmpi .slt v120 c0_i32_59
  let v125 : BitVec 32 := Scalar.extui v124
  let v126 : BitVec 32 := Scalar.subi v123 v125
  let c256_i32_57 : BitVec 32 := 256#32
  let c0_i32_60 : BitVec 32 := 0#32
  let v127 : BitVec 1 := Scalar.cmpi .sgt c256_i32_57 c0_i32_60
  let v128 : BitVec 32 := Scalar.extui v127
  let c0_i32_61 : BitVec 32 := 0#32
  let v129 : BitVec 1 := Scalar.cmpi .slt c256_i32_57 c0_i32_61
  let v130 : BitVec 32 := Scalar.extui v129
  let v131 : BitVec 32 := Scalar.subi v128 v130
  let v132 : BitVec 1 := Scalar.cmpi .ne v126 v131
  let v133 : BitVec 32 := Scalar.remsi v120 c256_i32_57
  let c0_i32_62 : BitVec 32 := 0#32
  let v134 : BitVec 1 := Scalar.cmpi .ne v133 c0_i32_62
  let v135 : BitVec 1 := Scalar.andi v132 v134
  let v121 : BitVec 32 := Scalar.divsi v120 c256_i32_57
  let c1_i32_63 : BitVec 32 := 1#32
  let v136 : BitVec 32 := Scalar.subi v121 c1_i32_63
  let v137 : BitVec 32 := Scalar.select v135 v136 v121
  let c4_i32_64 : BitVec 32 := 4#32
  let v138 : BitVec 32 := Scalar.muli v137 c4_i32_64
  let v139 : BitVec 32 := Scalar.subi v138 c0_i32_66
  let c1_i32_67 : BitVec 32 := 1#32
  let v141 : BitVec 32 := Scalar.divsi v139 c1_i32_67
  let v142 : BitVec 32 := Scalar.muli v141 c1_i32_67
  let v143 : BitVec 32 := Scalar.addi c0_i32_66 v142
  let c1_i32_69 : BitVec 32 := 1#32
  let arg18 : BitVec 32 := Scf.iv v143 c1_i32_69 k0_t2
  let c0_i32_78 : BitVec 32 := 0#32
  let c0_i32_79 : BitVec 32 := 0#32
  ![0, arg18.toNat, 0, 0]
def k0_off12 (v145 : BitVec 32) : Fin 3 → Nat :=
  let c0_i32_80 : BitVec 32 := 0#32
  let c0_i32_81 : BitVec 32 := 0#32
  ![v145.toNat, 0, 0]
def k0_off13 (v118 : BitVec 32) (k0_t2 : Fin (k0_t2_loop v118).trips) : Fin 3 → Nat :=
  let c0_i32_82 : BitVec 32 := 0#32
  let c0_i32_66 : BitVec 32 := 0#32
  let c256_i32_55 : BitVec 32 := 256#32
  let v119 : BitVec 32 := Scalar.addi v118 c256_i32_55
  let c1_i32_56 : BitVec 32 := 1#32
  let v120 : BitVec 32 := Scalar.subi v119 c1_i32_56
  let c0_i32_58 : BitVec 32 := 0#32
  let v122 : BitVec 1 := Scalar.cmpi .sgt v120 c0_i32_58
  let v123 : BitVec 32 := Scalar.extui v122
  let c0_i32_59 : BitVec 32 := 0#32
  let v124 : BitVec 1 := Scalar.cmpi .slt v120 c0_i32_59
  let v125 : BitVec 32 := Scalar.extui v124
  let v126 : BitVec 32 := Scalar.subi v123 v125
  let c256_i32_57 : BitVec 32 := 256#32
  let c0_i32_60 : BitVec 32 := 0#32
  let v127 : BitVec 1 := Scalar.cmpi .sgt c256_i32_57 c0_i32_60
  let v128 : BitVec 32 := Scalar.extui v127
  let c0_i32_61 : BitVec 32 := 0#32
  let v129 : BitVec 1 := Scalar.cmpi .slt c256_i32_57 c0_i32_61
  let v130 : BitVec 32 := Scalar.extui v129
  let v131 : BitVec 32 := Scalar.subi v128 v130
  let v132 : BitVec 1 := Scalar.cmpi .ne v126 v131
  let v133 : BitVec 32 := Scalar.remsi v120 c256_i32_57
  let c0_i32_62 : BitVec 32 := 0#32
  let v134 : BitVec 1 := Scalar.cmpi .ne v133 c0_i32_62
  let v135 : BitVec 1 := Scalar.andi v132 v134
  let v121 : BitVec 32 := Scalar.divsi v120 c256_i32_57
  let c1_i32_63 : BitVec 32 := 1#32
  let v136 : BitVec 32 := Scalar.subi v121 c1_i32_63
  let v137 : BitVec 32 := Scalar.select v135 v136 v121
  let c4_i32_64 : BitVec 32 := 4#32
  let v138 : BitVec 32 := Scalar.muli v137 c4_i32_64
  let v139 : BitVec 32 := Scalar.subi v138 c0_i32_66
  let c1_i32_67 : BitVec 32 := 1#32
  let v141 : BitVec 32 := Scalar.divsi v139 c1_i32_67
  let v142 : BitVec 32 := Scalar.muli v141 c1_i32_67
  let v143 : BitVec 32 := Scalar.addi c0_i32_66 v142
  let c1_i32_69 : BitVec 32 := 1#32
  let arg18 : BitVec 32 := Scf.iv v143 c1_i32_69 k0_t2
  let c64_i32 : BitVec 32 := 64#32
  let v146 : BitVec 32 := Scalar.muli arg18 c64_i32
  let v147 : BitVec 32 := v146
  let c0_i32_84 : BitVec 32 := 0#32
  ![0, v147.toNat, 0]
def k0_off14 (v145 : BitVec 32) : Fin 3 → Nat :=
  let c0_i32_85 : BitVec 32 := 0#32
  let c0_i32_86 : BitVec 32 := 0#32
  ![v145.toNat, 0, 0]

def k0_chk3 (i : grid0.Coords) (v145 : BitVec 32) : Prop :=
  (∀ (k0_h1 : k0_cond1 i = 1#1), ∀ a, (k0_off10 v145) a + S1x64x512.size a ≤ S5120x64x512.size a) ∧
  (∀ (k0_h1 : k0_cond1 i = 1#1), ∀ (hinb : ∀ a, (k0_off10 v145) a + S1x64x512.size a ≤ S5120x64x512.size a), (Rect.unit (s := S5120x64x512) (k0_off10 v145) S1x64x512.size hinb).WholeWords (EltTy.packing .fp8e4m3)) ∧
  (∀ (k0_h1 : k0_cond1 i = 1#1), ∀ a, (k0_off12 v145) a + S1x4x64.size a ≤ S5120x4x64.size a) ∧
  (∀ (k0_h1 : k0_cond1 i = 1#1), ∀ a, (k0_off14 v145) a + S1x64x64.size a ≤ S5120x64x64.size a) ∧
  (∀ (k0_h1 : k0_cond1 i = 1#1), ∀ (hinb : ∀ a, (k0_off14 v145) a + S1x64x64.size a ≤ S5120x64x64.size a), (Rect.unit (s := S5120x64x64) (k0_off14 v145) S1x64x64.size hinb).WholeWords (EltTy.packing .bf16))
theorem k0_off10_inb : ∀ (i : grid0.Coords) (v145 : BitVec 32) (k0_hw3 : k0_chk3 i v145), ∀ (k0_h1 : k0_cond1 i = 1#1), ∀ a, (k0_off10 v145) a + S1x64x512.size a ≤ S5120x64x512.size a := fun i v145 k0_hw3 k0_h1 => k0_hw3.1 k0_h1
theorem k0_off10_wordsfp8e4m3 : ∀ (i : grid0.Coords) (v145 : BitVec 32) (k0_hw3 : k0_chk3 i v145), ∀ (k0_h1 : k0_cond1 i = 1#1), (Rect.unit (s := S5120x64x512) (k0_off10 v145) S1x64x512.size (k0_off10_inb i v145 k0_hw3 k0_h1)).WholeWords (EltTy.packing .fp8e4m3) := fun i v145 k0_hw3 k0_h1 => k0_hw3.2.1 k0_h1 (k0_off10_inb i v145 k0_hw3 k0_h1)
theorem k0_off12_inb : ∀ (i : grid0.Coords) (v145 : BitVec 32) (k0_hw3 : k0_chk3 i v145), ∀ (k0_h1 : k0_cond1 i = 1#1), ∀ a, (k0_off12 v145) a + S1x4x64.size a ≤ S5120x4x64.size a := fun i v145 k0_hw3 k0_h1 => k0_hw3.2.2.1 k0_h1
theorem k0_off14_inb : ∀ (i : grid0.Coords) (v145 : BitVec 32) (k0_hw3 : k0_chk3 i v145), ∀ (k0_h1 : k0_cond1 i = 1#1), ∀ a, (k0_off14 v145) a + S1x64x64.size a ≤ S5120x64x64.size a := fun i v145 k0_hw3 k0_h1 => k0_hw3.2.2.2.1 k0_h1
theorem k0_off14_wordsbf16 : ∀ (i : grid0.Coords) (v145 : BitVec 32) (k0_hw3 : k0_chk3 i v145), ∀ (k0_h1 : k0_cond1 i = 1#1), (Rect.unit (s := S5120x64x64) (k0_off14 v145) S1x64x64.size (k0_off14_inb i v145 k0_hw3 k0_h1)).WholeWords (EltTy.packing .bf16) := fun i v145 k0_hw3 k0_h1 => k0_hw3.2.2.2.2 k0_h1 (k0_off14_inb i v145 k0_hw3 k0_h1)

def k0_chk1 (i : grid0.Coords) (v118 : BitVec 32) : Prop :=
  (∀ (k0_h1 : k0_cond1 i = 1#1), (k0_t1_loop v118).OK) ∧
  (∀ k0_t1 : Fin (k0_t1_loop v118).trips, ∀ (k0_h1 : k0_cond1 i = 1#1), ∀ a, (k0_off1 v118 k0_t1) a + S1x1.size a ≤ S128x32.size a) ∧
  (∀ k0_t1 : Fin (k0_t1_loop v118).trips, ∀ (k0_h1 : k0_cond1 i = 1#1), 64 ∣ (k0_mult1 v118 k0_t1).toNat) ∧
  (∀ k0_t1 : Fin (k0_t1_loop v118).trips, ∀ (k0_h1 : k0_cond1 i = 1#1), ∀ a, (k0_off2 v118 k0_t1) a + S1x64x512.size a ≤ S2x2048x512.size a) ∧
  (∀ k0_t1 : Fin (k0_t1_loop v118).trips, ∀ (k0_h1 : k0_cond1 i = 1#1), ∀ (hinb : ∀ a, (k0_off2 v118 k0_t1) a + S1x64x512.size a ≤ S2x2048x512.size a), (Rect.unit (s := S2x2048x512) (k0_off2 v118 k0_t1) S1x64x512.size hinb).WholeWords (EltTy.packing .fp8e4m3)) ∧
  (∀ k0_t1 : Fin (k0_t1_loop v118).trips, ∀ (k0_h1 : k0_cond1 i = 1#1), ∀ a, (k0_off4 v118 k0_t1) a + S1x1x4x64.size a ≤ S2x32x4x64.size a) ∧
  (∀ k0_t1 : Fin (k0_t1_loop v118).trips, ∀ (k0_h1 : k0_cond1 i = 1#1), ∀ a, (k0_off6 v118 k0_t1) a + S1x64x64.size a ≤ S2x2048x64.size a) ∧
  (∀ k0_t1 : Fin (k0_t1_loop v118).trips, ∀ (k0_h1 : k0_cond1 i = 1#1), ∀ (hinb : ∀ a, (k0_off6 v118 k0_t1) a + S1x64x64.size a ≤ S2x2048x64.size a), (Rect.unit (s := S2x2048x64) (k0_off6 v118 k0_t1) S1x64x64.size hinb).WholeWords (EltTy.packing .bf16)) ∧
  (∀ (k0_h1 : k0_cond1 i = 1#1), (k0_t2_loop v118).OK) ∧
  (∀ k0_t2 : Fin (k0_t2_loop v118).trips, ∀ (k0_h1 : k0_cond1 i = 1#1), ∀ a, (k0_off8 v118 k0_t2) a + S1x1.size a ≤ S128x32.size a) ∧
  (∀ k0_t2 : Fin (k0_t2_loop v118).trips, ∀ (k0_h1 : k0_cond1 i = 1#1), 64 ∣ (k0_mult2 v118 k0_t2).toNat) ∧
  (∀ k0_t2 : Fin (k0_t2_loop v118).trips, ∀ (k0_h1 : k0_cond1 i = 1#1), ∀ a, (k0_off9 v118 k0_t2) a + S1x64x512.size a ≤ S2x2048x512.size a) ∧
  (∀ k0_t2 : Fin (k0_t2_loop v118).trips, ∀ (k0_h1 : k0_cond1 i = 1#1), ∀ (hinb : ∀ a, (k0_off9 v118 k0_t2) a + S1x64x512.size a ≤ S2x2048x512.size a), (Rect.unit (s := S2x2048x512) (k0_off9 v118 k0_t2) S1x64x512.size hinb).WholeWords (EltTy.packing .fp8e4m3)) ∧
  (∀ k0_t2 : Fin (k0_t2_loop v118).trips, ∀ (k0_h1 : k0_cond1 i = 1#1), ∀ a, (k0_off11 v118 k0_t2) a + S1x1x4x64.size a ≤ S2x32x4x64.size a) ∧
  (∀ k0_t2 : Fin (k0_t2_loop v118).trips, ∀ (k0_h1 : k0_cond1 i = 1#1), ∀ a, (k0_off13 v118 k0_t2) a + S1x64x64.size a ≤ S2x2048x64.size a) ∧
  (∀ k0_t2 : Fin (k0_t2_loop v118).trips, ∀ (k0_h1 : k0_cond1 i = 1#1), ∀ (hinb : ∀ a, (k0_off13 v118 k0_t2) a + S1x64x64.size a ≤ S2x2048x64.size a), (Rect.unit (s := S2x2048x64) (k0_off13 v118 k0_t2) S1x64x64.size hinb).WholeWords (EltTy.packing .bf16))
theorem k0_t1_ok : ∀ (i : grid0.Coords) (v118 : BitVec 32) (k0_hw1 : k0_chk1 i v118), ∀ (k0_h1 : k0_cond1 i = 1#1), (k0_t1_loop v118).OK := fun i v118 k0_hw1 k0_h1 => k0_hw1.1 k0_h1
theorem k0_off1_inb : ∀ (i : grid0.Coords) (v118 : BitVec 32) (k0_hw1 : k0_chk1 i v118) (k0_t1 : Fin (k0_t1_loop v118).trips), ∀ (k0_h1 : k0_cond1 i = 1#1), ∀ a, (k0_off1 v118 k0_t1) a + S1x1.size a ≤ S128x32.size a := fun i v118 k0_hw1 k0_t1 k0_h1 => k0_hw1.2.1 k0_t1 k0_h1
theorem k0_mult1_dvd : ∀ (i : grid0.Coords) (v118 : BitVec 32) (k0_hw1 : k0_chk1 i v118) (k0_t1 : Fin (k0_t1_loop v118).trips), ∀ (k0_h1 : k0_cond1 i = 1#1), 64 ∣ (k0_mult1 v118 k0_t1).toNat := fun i v118 k0_hw1 k0_t1 k0_h1 => k0_hw1.2.2.1 k0_t1 k0_h1
theorem k0_off2_inb : ∀ (i : grid0.Coords) (v118 : BitVec 32) (k0_hw1 : k0_chk1 i v118) (k0_t1 : Fin (k0_t1_loop v118).trips), ∀ (k0_h1 : k0_cond1 i = 1#1), ∀ a, (k0_off2 v118 k0_t1) a + S1x64x512.size a ≤ S2x2048x512.size a := fun i v118 k0_hw1 k0_t1 k0_h1 => k0_hw1.2.2.2.1 k0_t1 k0_h1
theorem k0_off2_wordsfp8e4m3 : ∀ (i : grid0.Coords) (v118 : BitVec 32) (k0_hw1 : k0_chk1 i v118) (k0_t1 : Fin (k0_t1_loop v118).trips), ∀ (k0_h1 : k0_cond1 i = 1#1), (Rect.unit (s := S2x2048x512) (k0_off2 v118 k0_t1) S1x64x512.size (k0_off2_inb i v118 k0_hw1 k0_t1 k0_h1)).WholeWords (EltTy.packing .fp8e4m3) := fun i v118 k0_hw1 k0_t1 k0_h1 => k0_hw1.2.2.2.2.1 k0_t1 k0_h1 (k0_off2_inb i v118 k0_hw1 k0_t1 k0_h1)
theorem k0_off4_inb : ∀ (i : grid0.Coords) (v118 : BitVec 32) (k0_hw1 : k0_chk1 i v118) (k0_t1 : Fin (k0_t1_loop v118).trips), ∀ (k0_h1 : k0_cond1 i = 1#1), ∀ a, (k0_off4 v118 k0_t1) a + S1x1x4x64.size a ≤ S2x32x4x64.size a := fun i v118 k0_hw1 k0_t1 k0_h1 => k0_hw1.2.2.2.2.2.1 k0_t1 k0_h1
theorem k0_off6_inb : ∀ (i : grid0.Coords) (v118 : BitVec 32) (k0_hw1 : k0_chk1 i v118) (k0_t1 : Fin (k0_t1_loop v118).trips), ∀ (k0_h1 : k0_cond1 i = 1#1), ∀ a, (k0_off6 v118 k0_t1) a + S1x64x64.size a ≤ S2x2048x64.size a := fun i v118 k0_hw1 k0_t1 k0_h1 => k0_hw1.2.2.2.2.2.2.1 k0_t1 k0_h1
theorem k0_off6_wordsbf16 : ∀ (i : grid0.Coords) (v118 : BitVec 32) (k0_hw1 : k0_chk1 i v118) (k0_t1 : Fin (k0_t1_loop v118).trips), ∀ (k0_h1 : k0_cond1 i = 1#1), (Rect.unit (s := S2x2048x64) (k0_off6 v118 k0_t1) S1x64x64.size (k0_off6_inb i v118 k0_hw1 k0_t1 k0_h1)).WholeWords (EltTy.packing .bf16) := fun i v118 k0_hw1 k0_t1 k0_h1 => k0_hw1.2.2.2.2.2.2.2.1 k0_t1 k0_h1 (k0_off6_inb i v118 k0_hw1 k0_t1 k0_h1)
theorem k0_t2_ok : ∀ (i : grid0.Coords) (v118 : BitVec 32) (k0_hw1 : k0_chk1 i v118), ∀ (k0_h1 : k0_cond1 i = 1#1), (k0_t2_loop v118).OK := fun i v118 k0_hw1 k0_h1 => k0_hw1.2.2.2.2.2.2.2.2.1 k0_h1
theorem k0_off8_inb : ∀ (i : grid0.Coords) (v118 : BitVec 32) (k0_hw1 : k0_chk1 i v118) (k0_t2 : Fin (k0_t2_loop v118).trips), ∀ (k0_h1 : k0_cond1 i = 1#1), ∀ a, (k0_off8 v118 k0_t2) a + S1x1.size a ≤ S128x32.size a := fun i v118 k0_hw1 k0_t2 k0_h1 => k0_hw1.2.2.2.2.2.2.2.2.2.1 k0_t2 k0_h1
theorem k0_mult2_dvd : ∀ (i : grid0.Coords) (v118 : BitVec 32) (k0_hw1 : k0_chk1 i v118) (k0_t2 : Fin (k0_t2_loop v118).trips), ∀ (k0_h1 : k0_cond1 i = 1#1), 64 ∣ (k0_mult2 v118 k0_t2).toNat := fun i v118 k0_hw1 k0_t2 k0_h1 => k0_hw1.2.2.2.2.2.2.2.2.2.2.1 k0_t2 k0_h1
theorem k0_off9_inb : ∀ (i : grid0.Coords) (v118 : BitVec 32) (k0_hw1 : k0_chk1 i v118) (k0_t2 : Fin (k0_t2_loop v118).trips), ∀ (k0_h1 : k0_cond1 i = 1#1), ∀ a, (k0_off9 v118 k0_t2) a + S1x64x512.size a ≤ S2x2048x512.size a := fun i v118 k0_hw1 k0_t2 k0_h1 => k0_hw1.2.2.2.2.2.2.2.2.2.2.2.1 k0_t2 k0_h1
theorem k0_off9_wordsfp8e4m3 : ∀ (i : grid0.Coords) (v118 : BitVec 32) (k0_hw1 : k0_chk1 i v118) (k0_t2 : Fin (k0_t2_loop v118).trips), ∀ (k0_h1 : k0_cond1 i = 1#1), (Rect.unit (s := S2x2048x512) (k0_off9 v118 k0_t2) S1x64x512.size (k0_off9_inb i v118 k0_hw1 k0_t2 k0_h1)).WholeWords (EltTy.packing .fp8e4m3) := fun i v118 k0_hw1 k0_t2 k0_h1 => k0_hw1.2.2.2.2.2.2.2.2.2.2.2.2.1 k0_t2 k0_h1 (k0_off9_inb i v118 k0_hw1 k0_t2 k0_h1)
theorem k0_off11_inb : ∀ (i : grid0.Coords) (v118 : BitVec 32) (k0_hw1 : k0_chk1 i v118) (k0_t2 : Fin (k0_t2_loop v118).trips), ∀ (k0_h1 : k0_cond1 i = 1#1), ∀ a, (k0_off11 v118 k0_t2) a + S1x1x4x64.size a ≤ S2x32x4x64.size a := fun i v118 k0_hw1 k0_t2 k0_h1 => k0_hw1.2.2.2.2.2.2.2.2.2.2.2.2.2.1 k0_t2 k0_h1
theorem k0_off13_inb : ∀ (i : grid0.Coords) (v118 : BitVec 32) (k0_hw1 : k0_chk1 i v118) (k0_t2 : Fin (k0_t2_loop v118).trips), ∀ (k0_h1 : k0_cond1 i = 1#1), ∀ a, (k0_off13 v118 k0_t2) a + S1x64x64.size a ≤ S2x2048x64.size a := fun i v118 k0_hw1 k0_t2 k0_h1 => k0_hw1.2.2.2.2.2.2.2.2.2.2.2.2.2.2.1 k0_t2 k0_h1
theorem k0_off13_wordsbf16 : ∀ (i : grid0.Coords) (v118 : BitVec 32) (k0_hw1 : k0_chk1 i v118) (k0_t2 : Fin (k0_t2_loop v118).trips), ∀ (k0_h1 : k0_cond1 i = 1#1), (Rect.unit (s := S2x2048x64) (k0_off13 v118 k0_t2) S1x64x64.size (k0_off13_inb i v118 k0_hw1 k0_t2 k0_h1)).WholeWords (EltTy.packing .bf16) := fun i v118 k0_hw1 k0_t2 k0_h1 => k0_hw1.2.2.2.2.2.2.2.2.2.2.2.2.2.2.2 k0_t2 k0_h1 (k0_off13_inb i v118 k0_hw1 k0_t2 k0_h1)

def k0_cond2 (i : grid0.Coords) : BitVec 1 :=
  let arg0 : BitVec 32 := BitVec.ofNat 32 (i 0).val
  let c1_i32 : BitVec 32 := 1#32
  let v4 : BitVec 32 := Scalar.addi arg0 c1_i32
  let c128_i32 : BitVec 32 := 128#32
  let v5 : BitVec 1 := Scalar.cmpi .slt v4 c128_i32
  let v6 : BitVec 32 := Scalar.extui v5
  let c0_i32_1 : BitVec 32 := 0#32
  let v7 : BitVec 1 := Scalar.cmpi .ne v6 c0_i32_1
  v7

def k0_off15 (i : grid0.Coords) : Fin 1 → Nat :=
  let arg0 : BitVec 32 := BitVec.ofNat 32 (i 0).val
  let c1_i32_54 : BitVec 32 := 1#32
  let v118 : BitVec 32 := Scalar.addi arg0 c1_i32_54
  let v120 : Index := Scalar.indexCast v118
  ![v120.toNat]
@[reducible] def k0_t3_loop (v121 : BitVec 32) : Scf.Loop 32 :=
  let c0_i32_67 : BitVec 32 := 0#32
  let c256_i32_56 : BitVec 32 := 256#32
  let v122 : BitVec 32 := Scalar.addi v121 c256_i32_56
  let c1_i32_57 : BitVec 32 := 1#32
  let v123 : BitVec 32 := Scalar.subi v122 c1_i32_57
  let c0_i32_59 : BitVec 32 := 0#32
  let v125 : BitVec 1 := Scalar.cmpi .sgt v123 c0_i32_59
  let v126 : BitVec 32 := Scalar.extui v125
  let c0_i32_60 : BitVec 32 := 0#32
  let v127 : BitVec 1 := Scalar.cmpi .slt v123 c0_i32_60
  let v128 : BitVec 32 := Scalar.extui v127
  let v129 : BitVec 32 := Scalar.subi v126 v128
  let c256_i32_58 : BitVec 32 := 256#32
  let c0_i32_61 : BitVec 32 := 0#32
  let v130 : BitVec 1 := Scalar.cmpi .sgt c256_i32_58 c0_i32_61
  let v131 : BitVec 32 := Scalar.extui v130
  let c0_i32_62 : BitVec 32 := 0#32
  let v132 : BitVec 1 := Scalar.cmpi .slt c256_i32_58 c0_i32_62
  let v133 : BitVec 32 := Scalar.extui v132
  let v134 : BitVec 32 := Scalar.subi v131 v133
  let v135 : BitVec 1 := Scalar.cmpi .ne v129 v134
  let v136 : BitVec 32 := Scalar.remsi v123 c256_i32_58
  let c0_i32_63 : BitVec 32 := 0#32
  let v137 : BitVec 1 := Scalar.cmpi .ne v136 c0_i32_63
  let v138 : BitVec 1 := Scalar.andi v135 v137
  let v124 : BitVec 32 := Scalar.divsi v123 c256_i32_58
  let c1_i32_64 : BitVec 32 := 1#32
  let v139 : BitVec 32 := Scalar.subi v124 c1_i32_64
  let v140 : BitVec 32 := Scalar.select v138 v139 v124
  let c4_i32_65 : BitVec 32 := 4#32
  let v141 : BitVec 32 := Scalar.muli v140 c4_i32_65
  let v142 : BitVec 32 := Scalar.subi v141 c0_i32_67
  let c1_i32_68 : BitVec 32 := 1#32
  let v144 : BitVec 32 := Scalar.divsi v142 c1_i32_68
  let v145 : BitVec 32 := Scalar.muli v144 c1_i32_68
  let v146 : BitVec 32 := Scalar.addi c0_i32_67 v145
  let c1_i32_69 : BitVec 32 := 1#32
  ⟨c0_i32_67, v146, c1_i32_69⟩

def k0_off16 (i : grid0.Coords) (v121 : BitVec 32) (k0_t3 : Fin (k0_t3_loop v121).trips) : Fin 2 → Nat :=
  let arg0 : BitVec 32 := BitVec.ofNat 32 (i 0).val
  let c1_i32_54 : BitVec 32 := 1#32
  let v118 : BitVec 32 := Scalar.addi arg0 c1_i32_54
  let v147 : Index := Scalar.indexCast v118
  let c0_i32_67 : BitVec 32 := 0#32
  let c1_i32_69 : BitVec 32 := 1#32
  let arg18 : BitVec 32 := Scf.iv c0_i32_67 c1_i32_69 k0_t3
  let v148 : Index := Scalar.indexCast arg18
  ![v147.toNat, v148.toNat]
def k0_mult3 (v121 : BitVec 32) (k0_t3 : Fin (k0_t3_loop v121).trips) : BitVec 32 :=
  let c0_i32_67 : BitVec 32 := 0#32
  let c1_i32_69 : BitVec 32 := 1#32
  let arg18 : BitVec 32 := Scf.iv c0_i32_67 c1_i32_69 k0_t3
  let c64_i32 : BitVec 32 := 64#32
  let v150 : BitVec 32 := Scalar.muli arg18 c64_i32
  v150
def k0_off17 (i : grid0.Coords) : Fin 1 → Nat :=
  let c1_i32_55 : BitVec 32 := 1#32
  let arg0 : BitVec 32 := BitVec.ofNat 32 (i 0).val
  let c2_i32 : BitVec 32 := 2#32
  let v0 : BitVec 32 := Scalar.remsi arg0 c2_i32
  let v119 : BitVec 32 := Scalar.subi c1_i32_55 v0
  ![v119.toNat]
def k0_off18 (i : grid0.Coords) (v121 : BitVec 32) (k0_t3 : Fin (k0_t3_loop v121).trips) : Fin 3 → Nat :=
  let c1_i32_55 : BitVec 32 := 1#32
  let arg0 : BitVec 32 := BitVec.ofNat 32 (i 0).val
  let c2_i32 : BitVec 32 := 2#32
  let v0 : BitVec 32 := Scalar.remsi arg0 c2_i32
  let v119 : BitVec 32 := Scalar.subi c1_i32_55 v0
  let c0_i32_67 : BitVec 32 := 0#32
  let c1_i32_69 : BitVec 32 := 1#32
  let arg18 : BitVec 32 := Scf.iv c0_i32_67 c1_i32_69 k0_t3
  let c64_i32 : BitVec 32 := 64#32
  let v150 : BitVec 32 := Scalar.muli arg18 c64_i32
  let v151 : BitVec 32 := v150
  let c0_i32_71 : BitVec 32 := 0#32
  ![v119.toNat, v151.toNat, 0]
def k0_off19 (v149 : BitVec 32) : Fin 3 → Nat :=
  let c0_i32_72 : BitVec 32 := 0#32
  let c0_i32_73 : BitVec 32 := 0#32
  ![v149.toNat, 0, 0]

def k0_off20 (i : grid0.Coords) : Fin 1 → Nat :=
  let c1_i32_55 : BitVec 32 := 1#32
  let arg0 : BitVec 32 := BitVec.ofNat 32 (i 0).val
  let c2_i32 : BitVec 32 := 2#32
  let v0 : BitVec 32 := Scalar.remsi arg0 c2_i32
  let v119 : BitVec 32 := Scalar.subi c1_i32_55 v0
  ![v119.toNat]
def k0_off21 (i : grid0.Coords) (v121 : BitVec 32) (k0_t3 : Fin (k0_t3_loop v121).trips) : Fin 4 → Nat :=
  let c1_i32_55 : BitVec 32 := 1#32
  let arg0 : BitVec 32 := BitVec.ofNat 32 (i 0).val
  let c2_i32 : BitVec 32 := 2#32
  let v0 : BitVec 32 := Scalar.remsi arg0 c2_i32
  let v119 : BitVec 32 := Scalar.subi c1_i32_55 v0
  let c0_i32_67 : BitVec 32 := 0#32
  let c1_i32_69 : BitVec 32 := 1#32
  let arg18 : BitVec 32 := Scf.iv c0_i32_67 c1_i32_69 k0_t3
  let c0_i32_74 : BitVec 32 := 0#32
  let c0_i32_75 : BitVec 32 := 0#32
  ![v119.toNat, arg18.toNat, 0, 0]
def k0_off22 (v149 : BitVec 32) : Fin 3 → Nat :=
  let c0_i32_76 : BitVec 32 := 0#32
  let c0_i32_77 : BitVec 32 := 0#32
  ![v149.toNat, 0, 0]
def k0_off23 (i : grid0.Coords) (v121 : BitVec 32) (k0_t3 : Fin (k0_t3_loop v121).trips) : Fin 3 → Nat :=
  let c1_i32_55 : BitVec 32 := 1#32
  let arg0 : BitVec 32 := BitVec.ofNat 32 (i 0).val
  let c2_i32 : BitVec 32 := 2#32
  let v0 : BitVec 32 := Scalar.remsi arg0 c2_i32
  let v119 : BitVec 32 := Scalar.subi c1_i32_55 v0
  let c0_i32_67 : BitVec 32 := 0#32
  let c1_i32_69 : BitVec 32 := 1#32
  let arg18 : BitVec 32 := Scf.iv c0_i32_67 c1_i32_69 k0_t3
  let c64_i32 : BitVec 32 := 64#32
  let v150 : BitVec 32 := Scalar.muli arg18 c64_i32
  let v151 : BitVec 32 := v150
  let c0_i32_78 : BitVec 32 := 0#32
  ![v119.toNat, v151.toNat, 0]
def k0_off24 (v149 : BitVec 32) : Fin 3 → Nat :=
  let c0_i32_79 : BitVec 32 := 0#32
  let c0_i32_80 : BitVec 32 := 0#32
  ![v149.toNat, 0, 0]

def k0_chk5 (i : grid0.Coords) (v149 : BitVec 32) : Prop :=
  (∀ (k0_h2 : k0_cond2 i = 1#1), ∀ a, (k0_off19 v149) a + S1x64x512.size a ≤ S5120x64x512.size a) ∧
  (∀ (k0_h2 : k0_cond2 i = 1#1), ∀ (hinb : ∀ a, (k0_off19 v149) a + S1x64x512.size a ≤ S5120x64x512.size a), (Rect.unit (s := S5120x64x512) (k0_off19 v149) S1x64x512.size hinb).WholeWords (EltTy.packing .fp8e4m3)) ∧
  (∀ (k0_h2 : k0_cond2 i = 1#1), ∀ a, (k0_off22 v149) a + S1x4x64.size a ≤ S5120x4x64.size a) ∧
  (∀ (k0_h2 : k0_cond2 i = 1#1), ∀ a, (k0_off24 v149) a + S1x64x64.size a ≤ S5120x64x64.size a) ∧
  (∀ (k0_h2 : k0_cond2 i = 1#1), ∀ (hinb : ∀ a, (k0_off24 v149) a + S1x64x64.size a ≤ S5120x64x64.size a), (Rect.unit (s := S5120x64x64) (k0_off24 v149) S1x64x64.size hinb).WholeWords (EltTy.packing .bf16))
theorem k0_off19_inb : ∀ (i : grid0.Coords) (v149 : BitVec 32) (k0_hw5 : k0_chk5 i v149), ∀ (k0_h2 : k0_cond2 i = 1#1), ∀ a, (k0_off19 v149) a + S1x64x512.size a ≤ S5120x64x512.size a := fun i v149 k0_hw5 k0_h2 => k0_hw5.1 k0_h2
theorem k0_off19_wordsfp8e4m3 : ∀ (i : grid0.Coords) (v149 : BitVec 32) (k0_hw5 : k0_chk5 i v149), ∀ (k0_h2 : k0_cond2 i = 1#1), (Rect.unit (s := S5120x64x512) (k0_off19 v149) S1x64x512.size (k0_off19_inb i v149 k0_hw5 k0_h2)).WholeWords (EltTy.packing .fp8e4m3) := fun i v149 k0_hw5 k0_h2 => k0_hw5.2.1 k0_h2 (k0_off19_inb i v149 k0_hw5 k0_h2)
theorem k0_off22_inb : ∀ (i : grid0.Coords) (v149 : BitVec 32) (k0_hw5 : k0_chk5 i v149), ∀ (k0_h2 : k0_cond2 i = 1#1), ∀ a, (k0_off22 v149) a + S1x4x64.size a ≤ S5120x4x64.size a := fun i v149 k0_hw5 k0_h2 => k0_hw5.2.2.1 k0_h2
theorem k0_off24_inb : ∀ (i : grid0.Coords) (v149 : BitVec 32) (k0_hw5 : k0_chk5 i v149), ∀ (k0_h2 : k0_cond2 i = 1#1), ∀ a, (k0_off24 v149) a + S1x64x64.size a ≤ S5120x64x64.size a := fun i v149 k0_hw5 k0_h2 => k0_hw5.2.2.2.1 k0_h2
theorem k0_off24_wordsbf16 : ∀ (i : grid0.Coords) (v149 : BitVec 32) (k0_hw5 : k0_chk5 i v149), ∀ (k0_h2 : k0_cond2 i = 1#1), (Rect.unit (s := S5120x64x64) (k0_off24 v149) S1x64x64.size (k0_off24_inb i v149 k0_hw5 k0_h2)).WholeWords (EltTy.packing .bf16) := fun i v149 k0_hw5 k0_h2 => k0_hw5.2.2.2.2 k0_h2 (k0_off24_inb i v149 k0_hw5 k0_h2)

@[reducible] def k0_t4_loop (v121 : BitVec 32) : Scf.Loop 32 :=
  let c0_i32_67 : BitVec 32 := 0#32
  let c256_i32_56 : BitVec 32 := 256#32
  let v122 : BitVec 32 := Scalar.addi v121 c256_i32_56
  let c1_i32_57 : BitVec 32 := 1#32
  let v123 : BitVec 32 := Scalar.subi v122 c1_i32_57
  let c0_i32_59 : BitVec 32 := 0#32
  let v125 : BitVec 1 := Scalar.cmpi .sgt v123 c0_i32_59
  let v126 : BitVec 32 := Scalar.extui v125
  let c0_i32_60 : BitVec 32 := 0#32
  let v127 : BitVec 1 := Scalar.cmpi .slt v123 c0_i32_60
  let v128 : BitVec 32 := Scalar.extui v127
  let v129 : BitVec 32 := Scalar.subi v126 v128
  let c256_i32_58 : BitVec 32 := 256#32
  let c0_i32_61 : BitVec 32 := 0#32
  let v130 : BitVec 1 := Scalar.cmpi .sgt c256_i32_58 c0_i32_61
  let v131 : BitVec 32 := Scalar.extui v130
  let c0_i32_62 : BitVec 32 := 0#32
  let v132 : BitVec 1 := Scalar.cmpi .slt c256_i32_58 c0_i32_62
  let v133 : BitVec 32 := Scalar.extui v132
  let v134 : BitVec 32 := Scalar.subi v131 v133
  let v135 : BitVec 1 := Scalar.cmpi .ne v129 v134
  let v136 : BitVec 32 := Scalar.remsi v123 c256_i32_58
  let c0_i32_63 : BitVec 32 := 0#32
  let v137 : BitVec 1 := Scalar.cmpi .ne v136 c0_i32_63
  let v138 : BitVec 1 := Scalar.andi v135 v137
  let v124 : BitVec 32 := Scalar.divsi v123 c256_i32_58
  let c1_i32_64 : BitVec 32 := 1#32
  let v139 : BitVec 32 := Scalar.subi v124 c1_i32_64
  let v140 : BitVec 32 := Scalar.select v138 v139 v124
  let c4_i32_65 : BitVec 32 := 4#32
  let v141 : BitVec 32 := Scalar.muli v140 c4_i32_65
  let v142 : BitVec 32 := Scalar.subi v141 c0_i32_67
  let c1_i32_68 : BitVec 32 := 1#32
  let v144 : BitVec 32 := Scalar.divsi v142 c1_i32_68
  let v145 : BitVec 32 := Scalar.muli v144 c1_i32_68
  let v146 : BitVec 32 := Scalar.addi c0_i32_67 v145
  let v143 : BitVec 32 := Scalar.addi c0_i32_67 v142
  let c1_i32_70 : BitVec 32 := 1#32
  ⟨v146, v143, c1_i32_70⟩
def k0_off25 (i : grid0.Coords) (v121 : BitVec 32) (k0_t4 : Fin (k0_t4_loop v121).trips) : Fin 2 → Nat :=
  let arg0 : BitVec 32 := BitVec.ofNat 32 (i 0).val
  let c1_i32_54 : BitVec 32 := 1#32
  let v118 : BitVec 32 := Scalar.addi arg0 c1_i32_54
  let v147 : Index := Scalar.indexCast v118
  let c0_i32_67 : BitVec 32 := 0#32
  let c256_i32_56 : BitVec 32 := 256#32
  let v122 : BitVec 32 := Scalar.addi v121 c256_i32_56
  let c1_i32_57 : BitVec 32 := 1#32
  let v123 : BitVec 32 := Scalar.subi v122 c1_i32_57
  let c0_i32_59 : BitVec 32 := 0#32
  let v125 : BitVec 1 := Scalar.cmpi .sgt v123 c0_i32_59
  let v126 : BitVec 32 := Scalar.extui v125
  let c0_i32_60 : BitVec 32 := 0#32
  let v127 : BitVec 1 := Scalar.cmpi .slt v123 c0_i32_60
  let v128 : BitVec 32 := Scalar.extui v127
  let v129 : BitVec 32 := Scalar.subi v126 v128
  let c256_i32_58 : BitVec 32 := 256#32
  let c0_i32_61 : BitVec 32 := 0#32
  let v130 : BitVec 1 := Scalar.cmpi .sgt c256_i32_58 c0_i32_61
  let v131 : BitVec 32 := Scalar.extui v130
  let c0_i32_62 : BitVec 32 := 0#32
  let v132 : BitVec 1 := Scalar.cmpi .slt c256_i32_58 c0_i32_62
  let v133 : BitVec 32 := Scalar.extui v132
  let v134 : BitVec 32 := Scalar.subi v131 v133
  let v135 : BitVec 1 := Scalar.cmpi .ne v129 v134
  let v136 : BitVec 32 := Scalar.remsi v123 c256_i32_58
  let c0_i32_63 : BitVec 32 := 0#32
  let v137 : BitVec 1 := Scalar.cmpi .ne v136 c0_i32_63
  let v138 : BitVec 1 := Scalar.andi v135 v137
  let v124 : BitVec 32 := Scalar.divsi v123 c256_i32_58
  let c1_i32_64 : BitVec 32 := 1#32
  let v139 : BitVec 32 := Scalar.subi v124 c1_i32_64
  let v140 : BitVec 32 := Scalar.select v138 v139 v124
  let c4_i32_65 : BitVec 32 := 4#32
  let v141 : BitVec 32 := Scalar.muli v140 c4_i32_65
  let v142 : BitVec 32 := Scalar.subi v141 c0_i32_67
  let c1_i32_68 : BitVec 32 := 1#32
  let v144 : BitVec 32 := Scalar.divsi v142 c1_i32_68
  let v145 : BitVec 32 := Scalar.muli v144 c1_i32_68
  let v146 : BitVec 32 := Scalar.addi c0_i32_67 v145
  let c1_i32_70 : BitVec 32 := 1#32
  let arg18 : BitVec 32 := Scf.iv v146 c1_i32_70 k0_t4
  let v148 : Index := Scalar.indexCast arg18
  ![v147.toNat, v148.toNat]
def k0_mult4 (v121 : BitVec 32) (k0_t4 : Fin (k0_t4_loop v121).trips) : BitVec 32 :=
  let c0_i32_67 : BitVec 32 := 0#32
  let c256_i32_56 : BitVec 32 := 256#32
  let v122 : BitVec 32 := Scalar.addi v121 c256_i32_56
  let c1_i32_57 : BitVec 32 := 1#32
  let v123 : BitVec 32 := Scalar.subi v122 c1_i32_57
  let c0_i32_59 : BitVec 32 := 0#32
  let v125 : BitVec 1 := Scalar.cmpi .sgt v123 c0_i32_59
  let v126 : BitVec 32 := Scalar.extui v125
  let c0_i32_60 : BitVec 32 := 0#32
  let v127 : BitVec 1 := Scalar.cmpi .slt v123 c0_i32_60
  let v128 : BitVec 32 := Scalar.extui v127
  let v129 : BitVec 32 := Scalar.subi v126 v128
  let c256_i32_58 : BitVec 32 := 256#32
  let c0_i32_61 : BitVec 32 := 0#32
  let v130 : BitVec 1 := Scalar.cmpi .sgt c256_i32_58 c0_i32_61
  let v131 : BitVec 32 := Scalar.extui v130
  let c0_i32_62 : BitVec 32 := 0#32
  let v132 : BitVec 1 := Scalar.cmpi .slt c256_i32_58 c0_i32_62
  let v133 : BitVec 32 := Scalar.extui v132
  let v134 : BitVec 32 := Scalar.subi v131 v133
  let v135 : BitVec 1 := Scalar.cmpi .ne v129 v134
  let v136 : BitVec 32 := Scalar.remsi v123 c256_i32_58
  let c0_i32_63 : BitVec 32 := 0#32
  let v137 : BitVec 1 := Scalar.cmpi .ne v136 c0_i32_63
  let v138 : BitVec 1 := Scalar.andi v135 v137
  let v124 : BitVec 32 := Scalar.divsi v123 c256_i32_58
  let c1_i32_64 : BitVec 32 := 1#32
  let v139 : BitVec 32 := Scalar.subi v124 c1_i32_64
  let v140 : BitVec 32 := Scalar.select v138 v139 v124
  let c4_i32_65 : BitVec 32 := 4#32
  let v141 : BitVec 32 := Scalar.muli v140 c4_i32_65
  let v142 : BitVec 32 := Scalar.subi v141 c0_i32_67
  let c1_i32_68 : BitVec 32 := 1#32
  let v144 : BitVec 32 := Scalar.divsi v142 c1_i32_68
  let v145 : BitVec 32 := Scalar.muli v144 c1_i32_68
  let v146 : BitVec 32 := Scalar.addi c0_i32_67 v145
  let c1_i32_70 : BitVec 32 := 1#32
  let arg18 : BitVec 32 := Scf.iv v146 c1_i32_70 k0_t4
  let c64_i32 : BitVec 32 := 64#32
  let v150 : BitVec 32 := Scalar.muli arg18 c64_i32
  v150
def k0_off26 (i : grid0.Coords) : Fin 1 → Nat :=
  let c1_i32_55 : BitVec 32 := 1#32
  let arg0 : BitVec 32 := BitVec.ofNat 32 (i 0).val
  let c2_i32 : BitVec 32 := 2#32
  let v0 : BitVec 32 := Scalar.remsi arg0 c2_i32
  let v119 : BitVec 32 := Scalar.subi c1_i32_55 v0
  ![v119.toNat]
def k0_off27 (i : grid0.Coords) (v121 : BitVec 32) (k0_t4 : Fin (k0_t4_loop v121).trips) : Fin 3 → Nat :=
  let c1_i32_55 : BitVec 32 := 1#32
  let arg0 : BitVec 32 := BitVec.ofNat 32 (i 0).val
  let c2_i32 : BitVec 32 := 2#32
  let v0 : BitVec 32 := Scalar.remsi arg0 c2_i32
  let v119 : BitVec 32 := Scalar.subi c1_i32_55 v0
  let c0_i32_67 : BitVec 32 := 0#32
  let c256_i32_56 : BitVec 32 := 256#32
  let v122 : BitVec 32 := Scalar.addi v121 c256_i32_56
  let c1_i32_57 : BitVec 32 := 1#32
  let v123 : BitVec 32 := Scalar.subi v122 c1_i32_57
  let c0_i32_59 : BitVec 32 := 0#32
  let v125 : BitVec 1 := Scalar.cmpi .sgt v123 c0_i32_59
  let v126 : BitVec 32 := Scalar.extui v125
  let c0_i32_60 : BitVec 32 := 0#32
  let v127 : BitVec 1 := Scalar.cmpi .slt v123 c0_i32_60
  let v128 : BitVec 32 := Scalar.extui v127
  let v129 : BitVec 32 := Scalar.subi v126 v128
  let c256_i32_58 : BitVec 32 := 256#32
  let c0_i32_61 : BitVec 32 := 0#32
  let v130 : BitVec 1 := Scalar.cmpi .sgt c256_i32_58 c0_i32_61
  let v131 : BitVec 32 := Scalar.extui v130
  let c0_i32_62 : BitVec 32 := 0#32
  let v132 : BitVec 1 := Scalar.cmpi .slt c256_i32_58 c0_i32_62
  let v133 : BitVec 32 := Scalar.extui v132
  let v134 : BitVec 32 := Scalar.subi v131 v133
  let v135 : BitVec 1 := Scalar.cmpi .ne v129 v134
  let v136 : BitVec 32 := Scalar.remsi v123 c256_i32_58
  let c0_i32_63 : BitVec 32 := 0#32
  let v137 : BitVec 1 := Scalar.cmpi .ne v136 c0_i32_63
  let v138 : BitVec 1 := Scalar.andi v135 v137
  let v124 : BitVec 32 := Scalar.divsi v123 c256_i32_58
  let c1_i32_64 : BitVec 32 := 1#32
  let v139 : BitVec 32 := Scalar.subi v124 c1_i32_64
  let v140 : BitVec 32 := Scalar.select v138 v139 v124
  let c4_i32_65 : BitVec 32 := 4#32
  let v141 : BitVec 32 := Scalar.muli v140 c4_i32_65
  let v142 : BitVec 32 := Scalar.subi v141 c0_i32_67
  let c1_i32_68 : BitVec 32 := 1#32
  let v144 : BitVec 32 := Scalar.divsi v142 c1_i32_68
  let v145 : BitVec 32 := Scalar.muli v144 c1_i32_68
  let v146 : BitVec 32 := Scalar.addi c0_i32_67 v145
  let c1_i32_70 : BitVec 32 := 1#32
  let arg18 : BitVec 32 := Scf.iv v146 c1_i32_70 k0_t4
  let c64_i32 : BitVec 32 := 64#32
  let v150 : BitVec 32 := Scalar.muli arg18 c64_i32
  let v151 : BitVec 32 := v150
  let c0_i32_71 : BitVec 32 := 0#32
  ![v119.toNat, v151.toNat, 0]
def k0_off28 (v149 : BitVec 32) : Fin 3 → Nat :=
  let c0_i32_72 : BitVec 32 := 0#32
  let c0_i32_73 : BitVec 32 := 0#32
  ![v149.toNat, 0, 0]

def k0_off29 (i : grid0.Coords) : Fin 1 → Nat :=
  let c1_i32_55 : BitVec 32 := 1#32
  let arg0 : BitVec 32 := BitVec.ofNat 32 (i 0).val
  let c2_i32 : BitVec 32 := 2#32
  let v0 : BitVec 32 := Scalar.remsi arg0 c2_i32
  let v119 : BitVec 32 := Scalar.subi c1_i32_55 v0
  ![v119.toNat]
def k0_off30 (i : grid0.Coords) (v121 : BitVec 32) (k0_t4 : Fin (k0_t4_loop v121).trips) : Fin 4 → Nat :=
  let c1_i32_55 : BitVec 32 := 1#32
  let arg0 : BitVec 32 := BitVec.ofNat 32 (i 0).val
  let c2_i32 : BitVec 32 := 2#32
  let v0 : BitVec 32 := Scalar.remsi arg0 c2_i32
  let v119 : BitVec 32 := Scalar.subi c1_i32_55 v0
  let c0_i32_67 : BitVec 32 := 0#32
  let c256_i32_56 : BitVec 32 := 256#32
  let v122 : BitVec 32 := Scalar.addi v121 c256_i32_56
  let c1_i32_57 : BitVec 32 := 1#32
  let v123 : BitVec 32 := Scalar.subi v122 c1_i32_57
  let c0_i32_59 : BitVec 32 := 0#32
  let v125 : BitVec 1 := Scalar.cmpi .sgt v123 c0_i32_59
  let v126 : BitVec 32 := Scalar.extui v125
  let c0_i32_60 : BitVec 32 := 0#32
  let v127 : BitVec 1 := Scalar.cmpi .slt v123 c0_i32_60
  let v128 : BitVec 32 := Scalar.extui v127
  let v129 : BitVec 32 := Scalar.subi v126 v128
  let c256_i32_58 : BitVec 32 := 256#32
  let c0_i32_61 : BitVec 32 := 0#32
  let v130 : BitVec 1 := Scalar.cmpi .sgt c256_i32_58 c0_i32_61
  let v131 : BitVec 32 := Scalar.extui v130
  let c0_i32_62 : BitVec 32 := 0#32
  let v132 : BitVec 1 := Scalar.cmpi .slt c256_i32_58 c0_i32_62
  let v133 : BitVec 32 := Scalar.extui v132
  let v134 : BitVec 32 := Scalar.subi v131 v133
  let v135 : BitVec 1 := Scalar.cmpi .ne v129 v134
  let v136 : BitVec 32 := Scalar.remsi v123 c256_i32_58
  let c0_i32_63 : BitVec 32 := 0#32
  let v137 : BitVec 1 := Scalar.cmpi .ne v136 c0_i32_63
  let v138 : BitVec 1 := Scalar.andi v135 v137
  let v124 : BitVec 32 := Scalar.divsi v123 c256_i32_58
  let c1_i32_64 : BitVec 32 := 1#32
  let v139 : BitVec 32 := Scalar.subi v124 c1_i32_64
  let v140 : BitVec 32 := Scalar.select v138 v139 v124
  let c4_i32_65 : BitVec 32 := 4#32
  let v141 : BitVec 32 := Scalar.muli v140 c4_i32_65
  let v142 : BitVec 32 := Scalar.subi v141 c0_i32_67
  let c1_i32_68 : BitVec 32 := 1#32
  let v144 : BitVec 32 := Scalar.divsi v142 c1_i32_68
  let v145 : BitVec 32 := Scalar.muli v144 c1_i32_68
  let v146 : BitVec 32 := Scalar.addi c0_i32_67 v145
  let c1_i32_70 : BitVec 32 := 1#32
  let arg18 : BitVec 32 := Scf.iv v146 c1_i32_70 k0_t4
  let c0_i32_74 : BitVec 32 := 0#32
  let c0_i32_75 : BitVec 32 := 0#32
  ![v119.toNat, arg18.toNat, 0, 0]
def k0_off31 (v149 : BitVec 32) : Fin 3 → Nat :=
  let c0_i32_76 : BitVec 32 := 0#32
  let c0_i32_77 : BitVec 32 := 0#32
  ![v149.toNat, 0, 0]
def k0_off32 (i : grid0.Coords) (v121 : BitVec 32) (k0_t4 : Fin (k0_t4_loop v121).trips) : Fin 3 → Nat :=
  let c1_i32_55 : BitVec 32 := 1#32
  let arg0 : BitVec 32 := BitVec.ofNat 32 (i 0).val
  let c2_i32 : BitVec 32 := 2#32
  let v0 : BitVec 32 := Scalar.remsi arg0 c2_i32
  let v119 : BitVec 32 := Scalar.subi c1_i32_55 v0
  let c0_i32_67 : BitVec 32 := 0#32
  let c256_i32_56 : BitVec 32 := 256#32
  let v122 : BitVec 32 := Scalar.addi v121 c256_i32_56
  let c1_i32_57 : BitVec 32 := 1#32
  let v123 : BitVec 32 := Scalar.subi v122 c1_i32_57
  let c0_i32_59 : BitVec 32 := 0#32
  let v125 : BitVec 1 := Scalar.cmpi .sgt v123 c0_i32_59
  let v126 : BitVec 32 := Scalar.extui v125
  let c0_i32_60 : BitVec 32 := 0#32
  let v127 : BitVec 1 := Scalar.cmpi .slt v123 c0_i32_60
  let v128 : BitVec 32 := Scalar.extui v127
  let v129 : BitVec 32 := Scalar.subi v126 v128
  let c256_i32_58 : BitVec 32 := 256#32
  let c0_i32_61 : BitVec 32 := 0#32
  let v130 : BitVec 1 := Scalar.cmpi .sgt c256_i32_58 c0_i32_61
  let v131 : BitVec 32 := Scalar.extui v130
  let c0_i32_62 : BitVec 32 := 0#32
  let v132 : BitVec 1 := Scalar.cmpi .slt c256_i32_58 c0_i32_62
  let v133 : BitVec 32 := Scalar.extui v132
  let v134 : BitVec 32 := Scalar.subi v131 v133
  let v135 : BitVec 1 := Scalar.cmpi .ne v129 v134
  let v136 : BitVec 32 := Scalar.remsi v123 c256_i32_58
  let c0_i32_63 : BitVec 32 := 0#32
  let v137 : BitVec 1 := Scalar.cmpi .ne v136 c0_i32_63
  let v138 : BitVec 1 := Scalar.andi v135 v137
  let v124 : BitVec 32 := Scalar.divsi v123 c256_i32_58
  let c1_i32_64 : BitVec 32 := 1#32
  let v139 : BitVec 32 := Scalar.subi v124 c1_i32_64
  let v140 : BitVec 32 := Scalar.select v138 v139 v124
  let c4_i32_65 : BitVec 32 := 4#32
  let v141 : BitVec 32 := Scalar.muli v140 c4_i32_65
  let v142 : BitVec 32 := Scalar.subi v141 c0_i32_67
  let c1_i32_68 : BitVec 32 := 1#32
  let v144 : BitVec 32 := Scalar.divsi v142 c1_i32_68
  let v145 : BitVec 32 := Scalar.muli v144 c1_i32_68
  let v146 : BitVec 32 := Scalar.addi c0_i32_67 v145
  let c1_i32_70 : BitVec 32 := 1#32
  let arg18 : BitVec 32 := Scf.iv v146 c1_i32_70 k0_t4
  let c64_i32 : BitVec 32 := 64#32
  let v150 : BitVec 32 := Scalar.muli arg18 c64_i32
  let v151 : BitVec 32 := v150
  let c0_i32_78 : BitVec 32 := 0#32
  ![v119.toNat, v151.toNat, 0]
def k0_off33 (v149 : BitVec 32) : Fin 3 → Nat :=
  let c0_i32_79 : BitVec 32 := 0#32
  let c0_i32_80 : BitVec 32 := 0#32
  ![v149.toNat, 0, 0]

def k0_chk6 (i : grid0.Coords) (v149 : BitVec 32) : Prop :=
  (∀ (k0_h2 : k0_cond2 i = 1#1), ∀ a, (k0_off28 v149) a + S1x64x512.size a ≤ S5120x64x512.size a) ∧
  (∀ (k0_h2 : k0_cond2 i = 1#1), ∀ (hinb : ∀ a, (k0_off28 v149) a + S1x64x512.size a ≤ S5120x64x512.size a), (Rect.unit (s := S5120x64x512) (k0_off28 v149) S1x64x512.size hinb).WholeWords (EltTy.packing .fp8e4m3)) ∧
  (∀ (k0_h2 : k0_cond2 i = 1#1), ∀ a, (k0_off31 v149) a + S1x4x64.size a ≤ S5120x4x64.size a) ∧
  (∀ (k0_h2 : k0_cond2 i = 1#1), ∀ a, (k0_off33 v149) a + S1x64x64.size a ≤ S5120x64x64.size a) ∧
  (∀ (k0_h2 : k0_cond2 i = 1#1), ∀ (hinb : ∀ a, (k0_off33 v149) a + S1x64x64.size a ≤ S5120x64x64.size a), (Rect.unit (s := S5120x64x64) (k0_off33 v149) S1x64x64.size hinb).WholeWords (EltTy.packing .bf16))
theorem k0_off28_inb : ∀ (i : grid0.Coords) (v149 : BitVec 32) (k0_hw6 : k0_chk6 i v149), ∀ (k0_h2 : k0_cond2 i = 1#1), ∀ a, (k0_off28 v149) a + S1x64x512.size a ≤ S5120x64x512.size a := fun i v149 k0_hw6 k0_h2 => k0_hw6.1 k0_h2
theorem k0_off28_wordsfp8e4m3 : ∀ (i : grid0.Coords) (v149 : BitVec 32) (k0_hw6 : k0_chk6 i v149), ∀ (k0_h2 : k0_cond2 i = 1#1), (Rect.unit (s := S5120x64x512) (k0_off28 v149) S1x64x512.size (k0_off28_inb i v149 k0_hw6 k0_h2)).WholeWords (EltTy.packing .fp8e4m3) := fun i v149 k0_hw6 k0_h2 => k0_hw6.2.1 k0_h2 (k0_off28_inb i v149 k0_hw6 k0_h2)
theorem k0_off31_inb : ∀ (i : grid0.Coords) (v149 : BitVec 32) (k0_hw6 : k0_chk6 i v149), ∀ (k0_h2 : k0_cond2 i = 1#1), ∀ a, (k0_off31 v149) a + S1x4x64.size a ≤ S5120x4x64.size a := fun i v149 k0_hw6 k0_h2 => k0_hw6.2.2.1 k0_h2
theorem k0_off33_inb : ∀ (i : grid0.Coords) (v149 : BitVec 32) (k0_hw6 : k0_chk6 i v149), ∀ (k0_h2 : k0_cond2 i = 1#1), ∀ a, (k0_off33 v149) a + S1x64x64.size a ≤ S5120x64x64.size a := fun i v149 k0_hw6 k0_h2 => k0_hw6.2.2.2.1 k0_h2
theorem k0_off33_wordsbf16 : ∀ (i : grid0.Coords) (v149 : BitVec 32) (k0_hw6 : k0_chk6 i v149), ∀ (k0_h2 : k0_cond2 i = 1#1), (Rect.unit (s := S5120x64x64) (k0_off33 v149) S1x64x64.size (k0_off33_inb i v149 k0_hw6 k0_h2)).WholeWords (EltTy.packing .bf16) := fun i v149 k0_hw6 k0_h2 => k0_hw6.2.2.2.2 k0_h2 (k0_off33_inb i v149 k0_hw6 k0_h2)

def k0_chk4 (i : grid0.Coords) (v121 : BitVec 32) : Prop :=
  (∀ (k0_h2 : k0_cond2 i = 1#1), (k0_t3_loop v121).OK) ∧
  (∀ k0_t3 : Fin (k0_t3_loop v121).trips, ∀ (k0_h2 : k0_cond2 i = 1#1), ∀ a, (k0_off16 i v121 k0_t3) a + S1x1.size a ≤ S128x32.size a) ∧
  (∀ k0_t3 : Fin (k0_t3_loop v121).trips, ∀ (k0_h2 : k0_cond2 i = 1#1), 64 ∣ (k0_mult3 v121 k0_t3).toNat) ∧
  (∀ k0_t3 : Fin (k0_t3_loop v121).trips, ∀ (k0_h2 : k0_cond2 i = 1#1), ∀ a, (k0_off18 i v121 k0_t3) a + S1x64x512.size a ≤ S2x2048x512.size a) ∧
  (∀ k0_t3 : Fin (k0_t3_loop v121).trips, ∀ (k0_h2 : k0_cond2 i = 1#1), ∀ (hinb : ∀ a, (k0_off18 i v121 k0_t3) a + S1x64x512.size a ≤ S2x2048x512.size a), (Rect.unit (s := S2x2048x512) (k0_off18 i v121 k0_t3) S1x64x512.size hinb).WholeWords (EltTy.packing .fp8e4m3)) ∧
  (∀ k0_t3 : Fin (k0_t3_loop v121).trips, ∀ (k0_h2 : k0_cond2 i = 1#1), ∀ a, (k0_off21 i v121 k0_t3) a + S1x1x4x64.size a ≤ S2x32x4x64.size a) ∧
  (∀ k0_t3 : Fin (k0_t3_loop v121).trips, ∀ (k0_h2 : k0_cond2 i = 1#1), ∀ a, (k0_off23 i v121 k0_t3) a + S1x64x64.size a ≤ S2x2048x64.size a) ∧
  (∀ k0_t3 : Fin (k0_t3_loop v121).trips, ∀ (k0_h2 : k0_cond2 i = 1#1), ∀ (hinb : ∀ a, (k0_off23 i v121 k0_t3) a + S1x64x64.size a ≤ S2x2048x64.size a), (Rect.unit (s := S2x2048x64) (k0_off23 i v121 k0_t3) S1x64x64.size hinb).WholeWords (EltTy.packing .bf16)) ∧
  (∀ (k0_h2 : k0_cond2 i = 1#1), (k0_t4_loop v121).OK) ∧
  (∀ k0_t4 : Fin (k0_t4_loop v121).trips, ∀ (k0_h2 : k0_cond2 i = 1#1), ∀ a, (k0_off25 i v121 k0_t4) a + S1x1.size a ≤ S128x32.size a) ∧
  (∀ k0_t4 : Fin (k0_t4_loop v121).trips, ∀ (k0_h2 : k0_cond2 i = 1#1), 64 ∣ (k0_mult4 v121 k0_t4).toNat) ∧
  (∀ k0_t4 : Fin (k0_t4_loop v121).trips, ∀ (k0_h2 : k0_cond2 i = 1#1), ∀ a, (k0_off27 i v121 k0_t4) a + S1x64x512.size a ≤ S2x2048x512.size a) ∧
  (∀ k0_t4 : Fin (k0_t4_loop v121).trips, ∀ (k0_h2 : k0_cond2 i = 1#1), ∀ (hinb : ∀ a, (k0_off27 i v121 k0_t4) a + S1x64x512.size a ≤ S2x2048x512.size a), (Rect.unit (s := S2x2048x512) (k0_off27 i v121 k0_t4) S1x64x512.size hinb).WholeWords (EltTy.packing .fp8e4m3)) ∧
  (∀ k0_t4 : Fin (k0_t4_loop v121).trips, ∀ (k0_h2 : k0_cond2 i = 1#1), ∀ a, (k0_off30 i v121 k0_t4) a + S1x1x4x64.size a ≤ S2x32x4x64.size a) ∧
  (∀ k0_t4 : Fin (k0_t4_loop v121).trips, ∀ (k0_h2 : k0_cond2 i = 1#1), ∀ a, (k0_off32 i v121 k0_t4) a + S1x64x64.size a ≤ S2x2048x64.size a) ∧
  (∀ k0_t4 : Fin (k0_t4_loop v121).trips, ∀ (k0_h2 : k0_cond2 i = 1#1), ∀ (hinb : ∀ a, (k0_off32 i v121 k0_t4) a + S1x64x64.size a ≤ S2x2048x64.size a), (Rect.unit (s := S2x2048x64) (k0_off32 i v121 k0_t4) S1x64x64.size hinb).WholeWords (EltTy.packing .bf16))
theorem k0_t3_ok : ∀ (i : grid0.Coords) (v121 : BitVec 32) (k0_hw4 : k0_chk4 i v121), ∀ (k0_h2 : k0_cond2 i = 1#1), (k0_t3_loop v121).OK := fun i v121 k0_hw4 k0_h2 => k0_hw4.1 k0_h2
theorem k0_off16_inb : ∀ (i : grid0.Coords) (v121 : BitVec 32) (k0_hw4 : k0_chk4 i v121) (k0_t3 : Fin (k0_t3_loop v121).trips), ∀ (k0_h2 : k0_cond2 i = 1#1), ∀ a, (k0_off16 i v121 k0_t3) a + S1x1.size a ≤ S128x32.size a := fun i v121 k0_hw4 k0_t3 k0_h2 => k0_hw4.2.1 k0_t3 k0_h2
theorem k0_mult3_dvd : ∀ (i : grid0.Coords) (v121 : BitVec 32) (k0_hw4 : k0_chk4 i v121) (k0_t3 : Fin (k0_t3_loop v121).trips), ∀ (k0_h2 : k0_cond2 i = 1#1), 64 ∣ (k0_mult3 v121 k0_t3).toNat := fun i v121 k0_hw4 k0_t3 k0_h2 => k0_hw4.2.2.1 k0_t3 k0_h2
theorem k0_off18_inb : ∀ (i : grid0.Coords) (v121 : BitVec 32) (k0_hw4 : k0_chk4 i v121) (k0_t3 : Fin (k0_t3_loop v121).trips), ∀ (k0_h2 : k0_cond2 i = 1#1), ∀ a, (k0_off18 i v121 k0_t3) a + S1x64x512.size a ≤ S2x2048x512.size a := fun i v121 k0_hw4 k0_t3 k0_h2 => k0_hw4.2.2.2.1 k0_t3 k0_h2
theorem k0_off18_wordsfp8e4m3 : ∀ (i : grid0.Coords) (v121 : BitVec 32) (k0_hw4 : k0_chk4 i v121) (k0_t3 : Fin (k0_t3_loop v121).trips), ∀ (k0_h2 : k0_cond2 i = 1#1), (Rect.unit (s := S2x2048x512) (k0_off18 i v121 k0_t3) S1x64x512.size (k0_off18_inb i v121 k0_hw4 k0_t3 k0_h2)).WholeWords (EltTy.packing .fp8e4m3) := fun i v121 k0_hw4 k0_t3 k0_h2 => k0_hw4.2.2.2.2.1 k0_t3 k0_h2 (k0_off18_inb i v121 k0_hw4 k0_t3 k0_h2)
theorem k0_off21_inb : ∀ (i : grid0.Coords) (v121 : BitVec 32) (k0_hw4 : k0_chk4 i v121) (k0_t3 : Fin (k0_t3_loop v121).trips), ∀ (k0_h2 : k0_cond2 i = 1#1), ∀ a, (k0_off21 i v121 k0_t3) a + S1x1x4x64.size a ≤ S2x32x4x64.size a := fun i v121 k0_hw4 k0_t3 k0_h2 => k0_hw4.2.2.2.2.2.1 k0_t3 k0_h2
theorem k0_off23_inb : ∀ (i : grid0.Coords) (v121 : BitVec 32) (k0_hw4 : k0_chk4 i v121) (k0_t3 : Fin (k0_t3_loop v121).trips), ∀ (k0_h2 : k0_cond2 i = 1#1), ∀ a, (k0_off23 i v121 k0_t3) a + S1x64x64.size a ≤ S2x2048x64.size a := fun i v121 k0_hw4 k0_t3 k0_h2 => k0_hw4.2.2.2.2.2.2.1 k0_t3 k0_h2
theorem k0_off23_wordsbf16 : ∀ (i : grid0.Coords) (v121 : BitVec 32) (k0_hw4 : k0_chk4 i v121) (k0_t3 : Fin (k0_t3_loop v121).trips), ∀ (k0_h2 : k0_cond2 i = 1#1), (Rect.unit (s := S2x2048x64) (k0_off23 i v121 k0_t3) S1x64x64.size (k0_off23_inb i v121 k0_hw4 k0_t3 k0_h2)).WholeWords (EltTy.packing .bf16) := fun i v121 k0_hw4 k0_t3 k0_h2 => k0_hw4.2.2.2.2.2.2.2.1 k0_t3 k0_h2 (k0_off23_inb i v121 k0_hw4 k0_t3 k0_h2)
theorem k0_t4_ok : ∀ (i : grid0.Coords) (v121 : BitVec 32) (k0_hw4 : k0_chk4 i v121), ∀ (k0_h2 : k0_cond2 i = 1#1), (k0_t4_loop v121).OK := fun i v121 k0_hw4 k0_h2 => k0_hw4.2.2.2.2.2.2.2.2.1 k0_h2
theorem k0_off25_inb : ∀ (i : grid0.Coords) (v121 : BitVec 32) (k0_hw4 : k0_chk4 i v121) (k0_t4 : Fin (k0_t4_loop v121).trips), ∀ (k0_h2 : k0_cond2 i = 1#1), ∀ a, (k0_off25 i v121 k0_t4) a + S1x1.size a ≤ S128x32.size a := fun i v121 k0_hw4 k0_t4 k0_h2 => k0_hw4.2.2.2.2.2.2.2.2.2.1 k0_t4 k0_h2
theorem k0_mult4_dvd : ∀ (i : grid0.Coords) (v121 : BitVec 32) (k0_hw4 : k0_chk4 i v121) (k0_t4 : Fin (k0_t4_loop v121).trips), ∀ (k0_h2 : k0_cond2 i = 1#1), 64 ∣ (k0_mult4 v121 k0_t4).toNat := fun i v121 k0_hw4 k0_t4 k0_h2 => k0_hw4.2.2.2.2.2.2.2.2.2.2.1 k0_t4 k0_h2
theorem k0_off27_inb : ∀ (i : grid0.Coords) (v121 : BitVec 32) (k0_hw4 : k0_chk4 i v121) (k0_t4 : Fin (k0_t4_loop v121).trips), ∀ (k0_h2 : k0_cond2 i = 1#1), ∀ a, (k0_off27 i v121 k0_t4) a + S1x64x512.size a ≤ S2x2048x512.size a := fun i v121 k0_hw4 k0_t4 k0_h2 => k0_hw4.2.2.2.2.2.2.2.2.2.2.2.1 k0_t4 k0_h2
theorem k0_off27_wordsfp8e4m3 : ∀ (i : grid0.Coords) (v121 : BitVec 32) (k0_hw4 : k0_chk4 i v121) (k0_t4 : Fin (k0_t4_loop v121).trips), ∀ (k0_h2 : k0_cond2 i = 1#1), (Rect.unit (s := S2x2048x512) (k0_off27 i v121 k0_t4) S1x64x512.size (k0_off27_inb i v121 k0_hw4 k0_t4 k0_h2)).WholeWords (EltTy.packing .fp8e4m3) := fun i v121 k0_hw4 k0_t4 k0_h2 => k0_hw4.2.2.2.2.2.2.2.2.2.2.2.2.1 k0_t4 k0_h2 (k0_off27_inb i v121 k0_hw4 k0_t4 k0_h2)
theorem k0_off30_inb : ∀ (i : grid0.Coords) (v121 : BitVec 32) (k0_hw4 : k0_chk4 i v121) (k0_t4 : Fin (k0_t4_loop v121).trips), ∀ (k0_h2 : k0_cond2 i = 1#1), ∀ a, (k0_off30 i v121 k0_t4) a + S1x1x4x64.size a ≤ S2x32x4x64.size a := fun i v121 k0_hw4 k0_t4 k0_h2 => k0_hw4.2.2.2.2.2.2.2.2.2.2.2.2.2.1 k0_t4 k0_h2
theorem k0_off32_inb : ∀ (i : grid0.Coords) (v121 : BitVec 32) (k0_hw4 : k0_chk4 i v121) (k0_t4 : Fin (k0_t4_loop v121).trips), ∀ (k0_h2 : k0_cond2 i = 1#1), ∀ a, (k0_off32 i v121 k0_t4) a + S1x64x64.size a ≤ S2x2048x64.size a := fun i v121 k0_hw4 k0_t4 k0_h2 => k0_hw4.2.2.2.2.2.2.2.2.2.2.2.2.2.2.1 k0_t4 k0_h2
theorem k0_off32_wordsbf16 : ∀ (i : grid0.Coords) (v121 : BitVec 32) (k0_hw4 : k0_chk4 i v121) (k0_t4 : Fin (k0_t4_loop v121).trips), ∀ (k0_h2 : k0_cond2 i = 1#1), (Rect.unit (s := S2x2048x64) (k0_off32 i v121 k0_t4) S1x64x64.size (k0_off32_inb i v121 k0_hw4 k0_t4 k0_h2)).WholeWords (EltTy.packing .bf16) := fun i v121 k0_hw4 k0_t4 k0_h2 => k0_hw4.2.2.2.2.2.2.2.2.2.2.2.2.2.2.2 k0_t4 k0_h2 (k0_off32_inb i v121 k0_hw4 k0_t4 k0_h2)

def k0_off34 (i : grid0.Coords) : Fin 1 → Nat :=
  let arg0 : BitVec 32 := BitVec.ofNat 32 (i 0).val
  let v8 : Index := Scalar.indexCast arg0
  ![v8.toNat]
@[reducible] def k0_t5_loop (v9 : BitVec 32) : Scf.Loop 32 :=
  let c0_i32_11 : BitVec 32 := 0#32
  let c256_i32 : BitVec 32 := 256#32
  let v10 : BitVec 32 := Scalar.addi v9 c256_i32
  let c1_i32_2 : BitVec 32 := 1#32
  let v11 : BitVec 32 := Scalar.subi v10 c1_i32_2
  let c0_i32_4 : BitVec 32 := 0#32
  let v13 : BitVec 1 := Scalar.cmpi .sgt v11 c0_i32_4
  let v14 : BitVec 32 := Scalar.extui v13
  let c0_i32_5 : BitVec 32 := 0#32
  let v15 : BitVec 1 := Scalar.cmpi .slt v11 c0_i32_5
  let v16 : BitVec 32 := Scalar.extui v15
  let v17 : BitVec 32 := Scalar.subi v14 v16
  let c256_i32_3 : BitVec 32 := 256#32
  let c0_i32_6 : BitVec 32 := 0#32
  let v18 : BitVec 1 := Scalar.cmpi .sgt c256_i32_3 c0_i32_6
  let v19 : BitVec 32 := Scalar.extui v18
  let c0_i32_7 : BitVec 32 := 0#32
  let v20 : BitVec 1 := Scalar.cmpi .slt c256_i32_3 c0_i32_7
  let v21 : BitVec 32 := Scalar.extui v20
  let v22 : BitVec 32 := Scalar.subi v19 v21
  let v23 : BitVec 1 := Scalar.cmpi .ne v17 v22
  let v24 : BitVec 32 := Scalar.remsi v11 c256_i32_3
  let c0_i32_8 : BitVec 32 := 0#32
  let v25 : BitVec 1 := Scalar.cmpi .ne v24 c0_i32_8
  let v26 : BitVec 1 := Scalar.andi v23 v25
  let v12 : BitVec 32 := Scalar.divsi v11 c256_i32_3
  let c1_i32_9 : BitVec 32 := 1#32
  let v27 : BitVec 32 := Scalar.subi v12 c1_i32_9
  let v28 : BitVec 32 := Scalar.select v26 v27 v12
  let c4_i32 : BitVec 32 := 4#32
  let v29 : BitVec 32 := Scalar.muli v28 c4_i32
  let v30 : BitVec 32 := Scalar.subi v29 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let c1_i32_13 : BitVec 32 := 1#32
  ⟨c0_i32_11, v34, c1_i32_13⟩

def k0_off35 (i : grid0.Coords) (v9 : BitVec 32) (k0_t5 : Fin (k0_t5_loop v9).trips) : Fin 2 → Nat :=
  let arg0 : BitVec 32 := BitVec.ofNat 32 (i 0).val
  let v118 : Index := Scalar.indexCast arg0
  let c0_i32_11 : BitVec 32 := 0#32
  let c1_i32_13 : BitVec 32 := 1#32
  let arg18 : BitVec 32 := Scf.iv c0_i32_11 c1_i32_13 k0_t5
  let v119 : Index := Scalar.indexCast arg18
  ![v118.toNat, v119.toNat]
def k0_mult5 (v9 : BitVec 32) (k0_t5 : Fin (k0_t5_loop v9).trips) : BitVec 32 :=
  let c0_i32_11 : BitVec 32 := 0#32
  let c1_i32_13 : BitVec 32 := 1#32
  let arg18 : BitVec 32 := Scf.iv c0_i32_11 c1_i32_13 k0_t5
  let c64_i32 : BitVec 32 := 64#32
  let v121 : BitVec 32 := Scalar.muli arg18 c64_i32
  v121
def k0_off36 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off37 (i : grid0.Coords) (v9 : BitVec 32) (k0_t5 : Fin (k0_t5_loop v9).trips) : Fin 3 → Nat :=
  let arg0 : BitVec 32 := BitVec.ofNat 32 (i 0).val
  let c2_i32 : BitVec 32 := 2#32
  let v0 : BitVec 32 := Scalar.remsi arg0 c2_i32
  let c0_i32_11 : BitVec 32 := 0#32
  let c1_i32_13 : BitVec 32 := 1#32
  let arg18 : BitVec 32 := Scf.iv c0_i32_11 c1_i32_13 k0_t5
  let c64_i32 : BitVec 32 := 64#32
  let v121 : BitVec 32 := Scalar.muli arg18 c64_i32
  let v122 : BitVec 32 := v121
  let c0_i32_54 : BitVec 32 := 0#32
  ![v0.toNat, v122.toNat, 0]
def k0_off38 (v120 : BitVec 32) : Fin 3 → Nat :=
  let c0_i32_55 : BitVec 32 := 0#32
  let c0_i32_56 : BitVec 32 := 0#32
  ![v120.toNat, 0, 0]

def k0_off39 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off40 (i : grid0.Coords) (v9 : BitVec 32) (k0_t5 : Fin (k0_t5_loop v9).trips) : Fin 4 → Nat :=
  let arg0 : BitVec 32 := BitVec.ofNat 32 (i 0).val
  let c2_i32 : BitVec 32 := 2#32
  let v0 : BitVec 32 := Scalar.remsi arg0 c2_i32
  let c0_i32_11 : BitVec 32 := 0#32
  let c1_i32_13 : BitVec 32 := 1#32
  let arg18 : BitVec 32 := Scf.iv c0_i32_11 c1_i32_13 k0_t5
  let c0_i32_57 : BitVec 32 := 0#32
  let c0_i32_58 : BitVec 32 := 0#32
  ![v0.toNat, arg18.toNat, 0, 0]
def k0_off41 (v120 : BitVec 32) : Fin 3 → Nat :=
  let c0_i32_59 : BitVec 32 := 0#32
  let c0_i32_60 : BitVec 32 := 0#32
  ![v120.toNat, 0, 0]
def k0_off42 (i : grid0.Coords) (v9 : BitVec 32) (k0_t5 : Fin (k0_t5_loop v9).trips) : Fin 3 → Nat :=
  let arg0 : BitVec 32 := BitVec.ofNat 32 (i 0).val
  let c2_i32 : BitVec 32 := 2#32
  let v0 : BitVec 32 := Scalar.remsi arg0 c2_i32
  let c0_i32_11 : BitVec 32 := 0#32
  let c1_i32_13 : BitVec 32 := 1#32
  let arg18 : BitVec 32 := Scf.iv c0_i32_11 c1_i32_13 k0_t5
  let c64_i32 : BitVec 32 := 64#32
  let v121 : BitVec 32 := Scalar.muli arg18 c64_i32
  let v122 : BitVec 32 := v121
  let c0_i32_61 : BitVec 32 := 0#32
  ![v0.toNat, v122.toNat, 0]
def k0_off43 (v120 : BitVec 32) : Fin 3 → Nat :=
  let c0_i32_62 : BitVec 32 := 0#32
  let c0_i32_63 : BitVec 32 := 0#32
  ![v120.toNat, 0, 0]

def k0_chk8 (v120 : BitVec 32) : Prop :=
  (∀ a, (k0_off38 v120) a + S1x64x512.size a ≤ S5120x64x512.size a) ∧
  (∀ (hinb : ∀ a, (k0_off38 v120) a + S1x64x512.size a ≤ S5120x64x512.size a), (Rect.unit (s := S5120x64x512) (k0_off38 v120) S1x64x512.size hinb).WholeWords (EltTy.packing .fp8e4m3)) ∧
  (∀ a, (k0_off41 v120) a + S1x4x64.size a ≤ S5120x4x64.size a) ∧
  (∀ a, (k0_off43 v120) a + S1x64x64.size a ≤ S5120x64x64.size a) ∧
  (∀ (hinb : ∀ a, (k0_off43 v120) a + S1x64x64.size a ≤ S5120x64x64.size a), (Rect.unit (s := S5120x64x64) (k0_off43 v120) S1x64x64.size hinb).WholeWords (EltTy.packing .bf16))
theorem k0_off38_inb : ∀ (v120 : BitVec 32) (k0_hw8 : k0_chk8 v120), ∀ a, (k0_off38 v120) a + S1x64x512.size a ≤ S5120x64x512.size a := fun v120 k0_hw8 => k0_hw8.1
theorem k0_off38_wordsfp8e4m3 : ∀ (v120 : BitVec 32) (k0_hw8 : k0_chk8 v120), (Rect.unit (s := S5120x64x512) (k0_off38 v120) S1x64x512.size (k0_off38_inb v120 k0_hw8)).WholeWords (EltTy.packing .fp8e4m3) := fun v120 k0_hw8 => k0_hw8.2.1 (k0_off38_inb v120 k0_hw8)
theorem k0_off41_inb : ∀ (v120 : BitVec 32) (k0_hw8 : k0_chk8 v120), ∀ a, (k0_off41 v120) a + S1x4x64.size a ≤ S5120x4x64.size a := fun v120 k0_hw8 => k0_hw8.2.2.1
theorem k0_off43_inb : ∀ (v120 : BitVec 32) (k0_hw8 : k0_chk8 v120), ∀ a, (k0_off43 v120) a + S1x64x64.size a ≤ S5120x64x64.size a := fun v120 k0_hw8 => k0_hw8.2.2.2.1
theorem k0_off43_wordsbf16 : ∀ (v120 : BitVec 32) (k0_hw8 : k0_chk8 v120), (Rect.unit (s := S5120x64x64) (k0_off43 v120) S1x64x64.size (k0_off43_inb v120 k0_hw8)).WholeWords (EltTy.packing .bf16) := fun v120 k0_hw8 => k0_hw8.2.2.2.2 (k0_off43_inb v120 k0_hw8)

@[reducible] def k0_t6_loop (v9 : BitVec 32) : Scf.Loop 32 :=
  let c0_i32_11 : BitVec 32 := 0#32
  let c256_i32 : BitVec 32 := 256#32
  let v10 : BitVec 32 := Scalar.addi v9 c256_i32
  let c1_i32_2 : BitVec 32 := 1#32
  let v11 : BitVec 32 := Scalar.subi v10 c1_i32_2
  let c0_i32_4 : BitVec 32 := 0#32
  let v13 : BitVec 1 := Scalar.cmpi .sgt v11 c0_i32_4
  let v14 : BitVec 32 := Scalar.extui v13
  let c0_i32_5 : BitVec 32 := 0#32
  let v15 : BitVec 1 := Scalar.cmpi .slt v11 c0_i32_5
  let v16 : BitVec 32 := Scalar.extui v15
  let v17 : BitVec 32 := Scalar.subi v14 v16
  let c256_i32_3 : BitVec 32 := 256#32
  let c0_i32_6 : BitVec 32 := 0#32
  let v18 : BitVec 1 := Scalar.cmpi .sgt c256_i32_3 c0_i32_6
  let v19 : BitVec 32 := Scalar.extui v18
  let c0_i32_7 : BitVec 32 := 0#32
  let v20 : BitVec 1 := Scalar.cmpi .slt c256_i32_3 c0_i32_7
  let v21 : BitVec 32 := Scalar.extui v20
  let v22 : BitVec 32 := Scalar.subi v19 v21
  let v23 : BitVec 1 := Scalar.cmpi .ne v17 v22
  let v24 : BitVec 32 := Scalar.remsi v11 c256_i32_3
  let c0_i32_8 : BitVec 32 := 0#32
  let v25 : BitVec 1 := Scalar.cmpi .ne v24 c0_i32_8
  let v26 : BitVec 1 := Scalar.andi v23 v25
  let v12 : BitVec 32 := Scalar.divsi v11 c256_i32_3
  let c1_i32_9 : BitVec 32 := 1#32
  let v27 : BitVec 32 := Scalar.subi v12 c1_i32_9
  let v28 : BitVec 32 := Scalar.select v26 v27 v12
  let c4_i32 : BitVec 32 := 4#32
  let v29 : BitVec 32 := Scalar.muli v28 c4_i32
  let v30 : BitVec 32 := Scalar.subi v29 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let v31 : BitVec 32 := Scalar.addi c0_i32_11 v30
  let c1_i32_14 : BitVec 32 := 1#32
  ⟨v34, v31, c1_i32_14⟩
def k0_off44 (i : grid0.Coords) (v9 : BitVec 32) (k0_t6 : Fin (k0_t6_loop v9).trips) : Fin 2 → Nat :=
  let arg0 : BitVec 32 := BitVec.ofNat 32 (i 0).val
  let v118 : Index := Scalar.indexCast arg0
  let c0_i32_11 : BitVec 32 := 0#32
  let c256_i32 : BitVec 32 := 256#32
  let v10 : BitVec 32 := Scalar.addi v9 c256_i32
  let c1_i32_2 : BitVec 32 := 1#32
  let v11 : BitVec 32 := Scalar.subi v10 c1_i32_2
  let c0_i32_4 : BitVec 32 := 0#32
  let v13 : BitVec 1 := Scalar.cmpi .sgt v11 c0_i32_4
  let v14 : BitVec 32 := Scalar.extui v13
  let c0_i32_5 : BitVec 32 := 0#32
  let v15 : BitVec 1 := Scalar.cmpi .slt v11 c0_i32_5
  let v16 : BitVec 32 := Scalar.extui v15
  let v17 : BitVec 32 := Scalar.subi v14 v16
  let c256_i32_3 : BitVec 32 := 256#32
  let c0_i32_6 : BitVec 32 := 0#32
  let v18 : BitVec 1 := Scalar.cmpi .sgt c256_i32_3 c0_i32_6
  let v19 : BitVec 32 := Scalar.extui v18
  let c0_i32_7 : BitVec 32 := 0#32
  let v20 : BitVec 1 := Scalar.cmpi .slt c256_i32_3 c0_i32_7
  let v21 : BitVec 32 := Scalar.extui v20
  let v22 : BitVec 32 := Scalar.subi v19 v21
  let v23 : BitVec 1 := Scalar.cmpi .ne v17 v22
  let v24 : BitVec 32 := Scalar.remsi v11 c256_i32_3
  let c0_i32_8 : BitVec 32 := 0#32
  let v25 : BitVec 1 := Scalar.cmpi .ne v24 c0_i32_8
  let v26 : BitVec 1 := Scalar.andi v23 v25
  let v12 : BitVec 32 := Scalar.divsi v11 c256_i32_3
  let c1_i32_9 : BitVec 32 := 1#32
  let v27 : BitVec 32 := Scalar.subi v12 c1_i32_9
  let v28 : BitVec 32 := Scalar.select v26 v27 v12
  let c4_i32 : BitVec 32 := 4#32
  let v29 : BitVec 32 := Scalar.muli v28 c4_i32
  let v30 : BitVec 32 := Scalar.subi v29 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let c1_i32_14 : BitVec 32 := 1#32
  let arg18 : BitVec 32 := Scf.iv v34 c1_i32_14 k0_t6
  let v119 : Index := Scalar.indexCast arg18
  ![v118.toNat, v119.toNat]
def k0_mult6 (v9 : BitVec 32) (k0_t6 : Fin (k0_t6_loop v9).trips) : BitVec 32 :=
  let c0_i32_11 : BitVec 32 := 0#32
  let c256_i32 : BitVec 32 := 256#32
  let v10 : BitVec 32 := Scalar.addi v9 c256_i32
  let c1_i32_2 : BitVec 32 := 1#32
  let v11 : BitVec 32 := Scalar.subi v10 c1_i32_2
  let c0_i32_4 : BitVec 32 := 0#32
  let v13 : BitVec 1 := Scalar.cmpi .sgt v11 c0_i32_4
  let v14 : BitVec 32 := Scalar.extui v13
  let c0_i32_5 : BitVec 32 := 0#32
  let v15 : BitVec 1 := Scalar.cmpi .slt v11 c0_i32_5
  let v16 : BitVec 32 := Scalar.extui v15
  let v17 : BitVec 32 := Scalar.subi v14 v16
  let c256_i32_3 : BitVec 32 := 256#32
  let c0_i32_6 : BitVec 32 := 0#32
  let v18 : BitVec 1 := Scalar.cmpi .sgt c256_i32_3 c0_i32_6
  let v19 : BitVec 32 := Scalar.extui v18
  let c0_i32_7 : BitVec 32 := 0#32
  let v20 : BitVec 1 := Scalar.cmpi .slt c256_i32_3 c0_i32_7
  let v21 : BitVec 32 := Scalar.extui v20
  let v22 : BitVec 32 := Scalar.subi v19 v21
  let v23 : BitVec 1 := Scalar.cmpi .ne v17 v22
  let v24 : BitVec 32 := Scalar.remsi v11 c256_i32_3
  let c0_i32_8 : BitVec 32 := 0#32
  let v25 : BitVec 1 := Scalar.cmpi .ne v24 c0_i32_8
  let v26 : BitVec 1 := Scalar.andi v23 v25
  let v12 : BitVec 32 := Scalar.divsi v11 c256_i32_3
  let c1_i32_9 : BitVec 32 := 1#32
  let v27 : BitVec 32 := Scalar.subi v12 c1_i32_9
  let v28 : BitVec 32 := Scalar.select v26 v27 v12
  let c4_i32 : BitVec 32 := 4#32
  let v29 : BitVec 32 := Scalar.muli v28 c4_i32
  let v30 : BitVec 32 := Scalar.subi v29 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let c1_i32_14 : BitVec 32 := 1#32
  let arg18 : BitVec 32 := Scf.iv v34 c1_i32_14 k0_t6
  let c64_i32 : BitVec 32 := 64#32
  let v121 : BitVec 32 := Scalar.muli arg18 c64_i32
  v121
def k0_off45 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off46 (i : grid0.Coords) (v9 : BitVec 32) (k0_t6 : Fin (k0_t6_loop v9).trips) : Fin 3 → Nat :=
  let arg0 : BitVec 32 := BitVec.ofNat 32 (i 0).val
  let c2_i32 : BitVec 32 := 2#32
  let v0 : BitVec 32 := Scalar.remsi arg0 c2_i32
  let c0_i32_11 : BitVec 32 := 0#32
  let c256_i32 : BitVec 32 := 256#32
  let v10 : BitVec 32 := Scalar.addi v9 c256_i32
  let c1_i32_2 : BitVec 32 := 1#32
  let v11 : BitVec 32 := Scalar.subi v10 c1_i32_2
  let c0_i32_4 : BitVec 32 := 0#32
  let v13 : BitVec 1 := Scalar.cmpi .sgt v11 c0_i32_4
  let v14 : BitVec 32 := Scalar.extui v13
  let c0_i32_5 : BitVec 32 := 0#32
  let v15 : BitVec 1 := Scalar.cmpi .slt v11 c0_i32_5
  let v16 : BitVec 32 := Scalar.extui v15
  let v17 : BitVec 32 := Scalar.subi v14 v16
  let c256_i32_3 : BitVec 32 := 256#32
  let c0_i32_6 : BitVec 32 := 0#32
  let v18 : BitVec 1 := Scalar.cmpi .sgt c256_i32_3 c0_i32_6
  let v19 : BitVec 32 := Scalar.extui v18
  let c0_i32_7 : BitVec 32 := 0#32
  let v20 : BitVec 1 := Scalar.cmpi .slt c256_i32_3 c0_i32_7
  let v21 : BitVec 32 := Scalar.extui v20
  let v22 : BitVec 32 := Scalar.subi v19 v21
  let v23 : BitVec 1 := Scalar.cmpi .ne v17 v22
  let v24 : BitVec 32 := Scalar.remsi v11 c256_i32_3
  let c0_i32_8 : BitVec 32 := 0#32
  let v25 : BitVec 1 := Scalar.cmpi .ne v24 c0_i32_8
  let v26 : BitVec 1 := Scalar.andi v23 v25
  let v12 : BitVec 32 := Scalar.divsi v11 c256_i32_3
  let c1_i32_9 : BitVec 32 := 1#32
  let v27 : BitVec 32 := Scalar.subi v12 c1_i32_9
  let v28 : BitVec 32 := Scalar.select v26 v27 v12
  let c4_i32 : BitVec 32 := 4#32
  let v29 : BitVec 32 := Scalar.muli v28 c4_i32
  let v30 : BitVec 32 := Scalar.subi v29 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let c1_i32_14 : BitVec 32 := 1#32
  let arg18 : BitVec 32 := Scf.iv v34 c1_i32_14 k0_t6
  let c64_i32 : BitVec 32 := 64#32
  let v121 : BitVec 32 := Scalar.muli arg18 c64_i32
  let v122 : BitVec 32 := v121
  let c0_i32_54 : BitVec 32 := 0#32
  ![v0.toNat, v122.toNat, 0]
def k0_off47 (v120 : BitVec 32) : Fin 3 → Nat :=
  let c0_i32_55 : BitVec 32 := 0#32
  let c0_i32_56 : BitVec 32 := 0#32
  ![v120.toNat, 0, 0]

def k0_off48 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off49 (i : grid0.Coords) (v9 : BitVec 32) (k0_t6 : Fin (k0_t6_loop v9).trips) : Fin 4 → Nat :=
  let arg0 : BitVec 32 := BitVec.ofNat 32 (i 0).val
  let c2_i32 : BitVec 32 := 2#32
  let v0 : BitVec 32 := Scalar.remsi arg0 c2_i32
  let c0_i32_11 : BitVec 32 := 0#32
  let c256_i32 : BitVec 32 := 256#32
  let v10 : BitVec 32 := Scalar.addi v9 c256_i32
  let c1_i32_2 : BitVec 32 := 1#32
  let v11 : BitVec 32 := Scalar.subi v10 c1_i32_2
  let c0_i32_4 : BitVec 32 := 0#32
  let v13 : BitVec 1 := Scalar.cmpi .sgt v11 c0_i32_4
  let v14 : BitVec 32 := Scalar.extui v13
  let c0_i32_5 : BitVec 32 := 0#32
  let v15 : BitVec 1 := Scalar.cmpi .slt v11 c0_i32_5
  let v16 : BitVec 32 := Scalar.extui v15
  let v17 : BitVec 32 := Scalar.subi v14 v16
  let c256_i32_3 : BitVec 32 := 256#32
  let c0_i32_6 : BitVec 32 := 0#32
  let v18 : BitVec 1 := Scalar.cmpi .sgt c256_i32_3 c0_i32_6
  let v19 : BitVec 32 := Scalar.extui v18
  let c0_i32_7 : BitVec 32 := 0#32
  let v20 : BitVec 1 := Scalar.cmpi .slt c256_i32_3 c0_i32_7
  let v21 : BitVec 32 := Scalar.extui v20
  let v22 : BitVec 32 := Scalar.subi v19 v21
  let v23 : BitVec 1 := Scalar.cmpi .ne v17 v22
  let v24 : BitVec 32 := Scalar.remsi v11 c256_i32_3
  let c0_i32_8 : BitVec 32 := 0#32
  let v25 : BitVec 1 := Scalar.cmpi .ne v24 c0_i32_8
  let v26 : BitVec 1 := Scalar.andi v23 v25
  let v12 : BitVec 32 := Scalar.divsi v11 c256_i32_3
  let c1_i32_9 : BitVec 32 := 1#32
  let v27 : BitVec 32 := Scalar.subi v12 c1_i32_9
  let v28 : BitVec 32 := Scalar.select v26 v27 v12
  let c4_i32 : BitVec 32 := 4#32
  let v29 : BitVec 32 := Scalar.muli v28 c4_i32
  let v30 : BitVec 32 := Scalar.subi v29 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let c1_i32_14 : BitVec 32 := 1#32
  let arg18 : BitVec 32 := Scf.iv v34 c1_i32_14 k0_t6
  let c0_i32_57 : BitVec 32 := 0#32
  let c0_i32_58 : BitVec 32 := 0#32
  ![v0.toNat, arg18.toNat, 0, 0]
def k0_off50 (v120 : BitVec 32) : Fin 3 → Nat :=
  let c0_i32_59 : BitVec 32 := 0#32
  let c0_i32_60 : BitVec 32 := 0#32
  ![v120.toNat, 0, 0]
def k0_off51 (i : grid0.Coords) (v9 : BitVec 32) (k0_t6 : Fin (k0_t6_loop v9).trips) : Fin 3 → Nat :=
  let arg0 : BitVec 32 := BitVec.ofNat 32 (i 0).val
  let c2_i32 : BitVec 32 := 2#32
  let v0 : BitVec 32 := Scalar.remsi arg0 c2_i32
  let c0_i32_11 : BitVec 32 := 0#32
  let c256_i32 : BitVec 32 := 256#32
  let v10 : BitVec 32 := Scalar.addi v9 c256_i32
  let c1_i32_2 : BitVec 32 := 1#32
  let v11 : BitVec 32 := Scalar.subi v10 c1_i32_2
  let c0_i32_4 : BitVec 32 := 0#32
  let v13 : BitVec 1 := Scalar.cmpi .sgt v11 c0_i32_4
  let v14 : BitVec 32 := Scalar.extui v13
  let c0_i32_5 : BitVec 32 := 0#32
  let v15 : BitVec 1 := Scalar.cmpi .slt v11 c0_i32_5
  let v16 : BitVec 32 := Scalar.extui v15
  let v17 : BitVec 32 := Scalar.subi v14 v16
  let c256_i32_3 : BitVec 32 := 256#32
  let c0_i32_6 : BitVec 32 := 0#32
  let v18 : BitVec 1 := Scalar.cmpi .sgt c256_i32_3 c0_i32_6
  let v19 : BitVec 32 := Scalar.extui v18
  let c0_i32_7 : BitVec 32 := 0#32
  let v20 : BitVec 1 := Scalar.cmpi .slt c256_i32_3 c0_i32_7
  let v21 : BitVec 32 := Scalar.extui v20
  let v22 : BitVec 32 := Scalar.subi v19 v21
  let v23 : BitVec 1 := Scalar.cmpi .ne v17 v22
  let v24 : BitVec 32 := Scalar.remsi v11 c256_i32_3
  let c0_i32_8 : BitVec 32 := 0#32
  let v25 : BitVec 1 := Scalar.cmpi .ne v24 c0_i32_8
  let v26 : BitVec 1 := Scalar.andi v23 v25
  let v12 : BitVec 32 := Scalar.divsi v11 c256_i32_3
  let c1_i32_9 : BitVec 32 := 1#32
  let v27 : BitVec 32 := Scalar.subi v12 c1_i32_9
  let v28 : BitVec 32 := Scalar.select v26 v27 v12
  let c4_i32 : BitVec 32 := 4#32
  let v29 : BitVec 32 := Scalar.muli v28 c4_i32
  let v30 : BitVec 32 := Scalar.subi v29 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let c1_i32_14 : BitVec 32 := 1#32
  let arg18 : BitVec 32 := Scf.iv v34 c1_i32_14 k0_t6
  let c64_i32 : BitVec 32 := 64#32
  let v121 : BitVec 32 := Scalar.muli arg18 c64_i32
  let v122 : BitVec 32 := v121
  let c0_i32_61 : BitVec 32 := 0#32
  ![v0.toNat, v122.toNat, 0]
def k0_off52 (v120 : BitVec 32) : Fin 3 → Nat :=
  let c0_i32_62 : BitVec 32 := 0#32
  let c0_i32_63 : BitVec 32 := 0#32
  ![v120.toNat, 0, 0]

def k0_chk9 (v120 : BitVec 32) : Prop :=
  (∀ a, (k0_off47 v120) a + S1x64x512.size a ≤ S5120x64x512.size a) ∧
  (∀ (hinb : ∀ a, (k0_off47 v120) a + S1x64x512.size a ≤ S5120x64x512.size a), (Rect.unit (s := S5120x64x512) (k0_off47 v120) S1x64x512.size hinb).WholeWords (EltTy.packing .fp8e4m3)) ∧
  (∀ a, (k0_off50 v120) a + S1x4x64.size a ≤ S5120x4x64.size a) ∧
  (∀ a, (k0_off52 v120) a + S1x64x64.size a ≤ S5120x64x64.size a) ∧
  (∀ (hinb : ∀ a, (k0_off52 v120) a + S1x64x64.size a ≤ S5120x64x64.size a), (Rect.unit (s := S5120x64x64) (k0_off52 v120) S1x64x64.size hinb).WholeWords (EltTy.packing .bf16))
theorem k0_off47_inb : ∀ (v120 : BitVec 32) (k0_hw9 : k0_chk9 v120), ∀ a, (k0_off47 v120) a + S1x64x512.size a ≤ S5120x64x512.size a := fun v120 k0_hw9 => k0_hw9.1
theorem k0_off47_wordsfp8e4m3 : ∀ (v120 : BitVec 32) (k0_hw9 : k0_chk9 v120), (Rect.unit (s := S5120x64x512) (k0_off47 v120) S1x64x512.size (k0_off47_inb v120 k0_hw9)).WholeWords (EltTy.packing .fp8e4m3) := fun v120 k0_hw9 => k0_hw9.2.1 (k0_off47_inb v120 k0_hw9)
theorem k0_off50_inb : ∀ (v120 : BitVec 32) (k0_hw9 : k0_chk9 v120), ∀ a, (k0_off50 v120) a + S1x4x64.size a ≤ S5120x4x64.size a := fun v120 k0_hw9 => k0_hw9.2.2.1
theorem k0_off52_inb : ∀ (v120 : BitVec 32) (k0_hw9 : k0_chk9 v120), ∀ a, (k0_off52 v120) a + S1x64x64.size a ≤ S5120x64x64.size a := fun v120 k0_hw9 => k0_hw9.2.2.2.1
theorem k0_off52_wordsbf16 : ∀ (v120 : BitVec 32) (k0_hw9 : k0_chk9 v120), (Rect.unit (s := S5120x64x64) (k0_off52 v120) S1x64x64.size (k0_off52_inb v120 k0_hw9)).WholeWords (EltTy.packing .bf16) := fun v120 k0_hw9 => k0_hw9.2.2.2.2 (k0_off52_inb v120 k0_hw9)

def k0_chk7 (i : grid0.Coords) (v9 : BitVec 32) : Prop :=
  ((k0_t5_loop v9).OK) ∧
  (∀ k0_t5 : Fin (k0_t5_loop v9).trips, ∀ a, (k0_off35 i v9 k0_t5) a + S1x1.size a ≤ S128x32.size a) ∧
  (∀ k0_t5 : Fin (k0_t5_loop v9).trips, 64 ∣ (k0_mult5 v9 k0_t5).toNat) ∧
  (∀ k0_t5 : Fin (k0_t5_loop v9).trips, ∀ a, (k0_off37 i v9 k0_t5) a + S1x64x512.size a ≤ S2x2048x512.size a) ∧
  (∀ k0_t5 : Fin (k0_t5_loop v9).trips, ∀ (hinb : ∀ a, (k0_off37 i v9 k0_t5) a + S1x64x512.size a ≤ S2x2048x512.size a), (Rect.unit (s := S2x2048x512) (k0_off37 i v9 k0_t5) S1x64x512.size hinb).WholeWords (EltTy.packing .fp8e4m3)) ∧
  (∀ k0_t5 : Fin (k0_t5_loop v9).trips, ∀ a, (k0_off40 i v9 k0_t5) a + S1x1x4x64.size a ≤ S2x32x4x64.size a) ∧
  (∀ k0_t5 : Fin (k0_t5_loop v9).trips, ∀ a, (k0_off42 i v9 k0_t5) a + S1x64x64.size a ≤ S2x2048x64.size a) ∧
  (∀ k0_t5 : Fin (k0_t5_loop v9).trips, ∀ (hinb : ∀ a, (k0_off42 i v9 k0_t5) a + S1x64x64.size a ≤ S2x2048x64.size a), (Rect.unit (s := S2x2048x64) (k0_off42 i v9 k0_t5) S1x64x64.size hinb).WholeWords (EltTy.packing .bf16)) ∧
  ((k0_t6_loop v9).OK) ∧
  (∀ k0_t6 : Fin (k0_t6_loop v9).trips, ∀ a, (k0_off44 i v9 k0_t6) a + S1x1.size a ≤ S128x32.size a) ∧
  (∀ k0_t6 : Fin (k0_t6_loop v9).trips, 64 ∣ (k0_mult6 v9 k0_t6).toNat) ∧
  (∀ k0_t6 : Fin (k0_t6_loop v9).trips, ∀ a, (k0_off46 i v9 k0_t6) a + S1x64x512.size a ≤ S2x2048x512.size a) ∧
  (∀ k0_t6 : Fin (k0_t6_loop v9).trips, ∀ (hinb : ∀ a, (k0_off46 i v9 k0_t6) a + S1x64x512.size a ≤ S2x2048x512.size a), (Rect.unit (s := S2x2048x512) (k0_off46 i v9 k0_t6) S1x64x512.size hinb).WholeWords (EltTy.packing .fp8e4m3)) ∧
  (∀ k0_t6 : Fin (k0_t6_loop v9).trips, ∀ a, (k0_off49 i v9 k0_t6) a + S1x1x4x64.size a ≤ S2x32x4x64.size a) ∧
  (∀ k0_t6 : Fin (k0_t6_loop v9).trips, ∀ a, (k0_off51 i v9 k0_t6) a + S1x64x64.size a ≤ S2x2048x64.size a) ∧
  (∀ k0_t6 : Fin (k0_t6_loop v9).trips, ∀ (hinb : ∀ a, (k0_off51 i v9 k0_t6) a + S1x64x64.size a ≤ S2x2048x64.size a), (Rect.unit (s := S2x2048x64) (k0_off51 i v9 k0_t6) S1x64x64.size hinb).WholeWords (EltTy.packing .bf16))
theorem k0_t5_ok : ∀ (i : grid0.Coords) (v9 : BitVec 32) (k0_hw7 : k0_chk7 i v9), (k0_t5_loop v9).OK := fun i v9 k0_hw7 => k0_hw7.1
theorem k0_off35_inb : ∀ (i : grid0.Coords) (v9 : BitVec 32) (k0_hw7 : k0_chk7 i v9) (k0_t5 : Fin (k0_t5_loop v9).trips), ∀ a, (k0_off35 i v9 k0_t5) a + S1x1.size a ≤ S128x32.size a := fun i v9 k0_hw7 k0_t5 => k0_hw7.2.1 k0_t5
theorem k0_mult5_dvd : ∀ (i : grid0.Coords) (v9 : BitVec 32) (k0_hw7 : k0_chk7 i v9) (k0_t5 : Fin (k0_t5_loop v9).trips), 64 ∣ (k0_mult5 v9 k0_t5).toNat := fun i v9 k0_hw7 k0_t5 => k0_hw7.2.2.1 k0_t5
theorem k0_off37_inb : ∀ (i : grid0.Coords) (v9 : BitVec 32) (k0_hw7 : k0_chk7 i v9) (k0_t5 : Fin (k0_t5_loop v9).trips), ∀ a, (k0_off37 i v9 k0_t5) a + S1x64x512.size a ≤ S2x2048x512.size a := fun i v9 k0_hw7 k0_t5 => k0_hw7.2.2.2.1 k0_t5
theorem k0_off37_wordsfp8e4m3 : ∀ (i : grid0.Coords) (v9 : BitVec 32) (k0_hw7 : k0_chk7 i v9) (k0_t5 : Fin (k0_t5_loop v9).trips), (Rect.unit (s := S2x2048x512) (k0_off37 i v9 k0_t5) S1x64x512.size (k0_off37_inb i v9 k0_hw7 k0_t5)).WholeWords (EltTy.packing .fp8e4m3) := fun i v9 k0_hw7 k0_t5 => k0_hw7.2.2.2.2.1 k0_t5 (k0_off37_inb i v9 k0_hw7 k0_t5)
theorem k0_off40_inb : ∀ (i : grid0.Coords) (v9 : BitVec 32) (k0_hw7 : k0_chk7 i v9) (k0_t5 : Fin (k0_t5_loop v9).trips), ∀ a, (k0_off40 i v9 k0_t5) a + S1x1x4x64.size a ≤ S2x32x4x64.size a := fun i v9 k0_hw7 k0_t5 => k0_hw7.2.2.2.2.2.1 k0_t5
theorem k0_off42_inb : ∀ (i : grid0.Coords) (v9 : BitVec 32) (k0_hw7 : k0_chk7 i v9) (k0_t5 : Fin (k0_t5_loop v9).trips), ∀ a, (k0_off42 i v9 k0_t5) a + S1x64x64.size a ≤ S2x2048x64.size a := fun i v9 k0_hw7 k0_t5 => k0_hw7.2.2.2.2.2.2.1 k0_t5
theorem k0_off42_wordsbf16 : ∀ (i : grid0.Coords) (v9 : BitVec 32) (k0_hw7 : k0_chk7 i v9) (k0_t5 : Fin (k0_t5_loop v9).trips), (Rect.unit (s := S2x2048x64) (k0_off42 i v9 k0_t5) S1x64x64.size (k0_off42_inb i v9 k0_hw7 k0_t5)).WholeWords (EltTy.packing .bf16) := fun i v9 k0_hw7 k0_t5 => k0_hw7.2.2.2.2.2.2.2.1 k0_t5 (k0_off42_inb i v9 k0_hw7 k0_t5)
theorem k0_t6_ok : ∀ (i : grid0.Coords) (v9 : BitVec 32) (k0_hw7 : k0_chk7 i v9), (k0_t6_loop v9).OK := fun i v9 k0_hw7 => k0_hw7.2.2.2.2.2.2.2.2.1
theorem k0_off44_inb : ∀ (i : grid0.Coords) (v9 : BitVec 32) (k0_hw7 : k0_chk7 i v9) (k0_t6 : Fin (k0_t6_loop v9).trips), ∀ a, (k0_off44 i v9 k0_t6) a + S1x1.size a ≤ S128x32.size a := fun i v9 k0_hw7 k0_t6 => k0_hw7.2.2.2.2.2.2.2.2.2.1 k0_t6
theorem k0_mult6_dvd : ∀ (i : grid0.Coords) (v9 : BitVec 32) (k0_hw7 : k0_chk7 i v9) (k0_t6 : Fin (k0_t6_loop v9).trips), 64 ∣ (k0_mult6 v9 k0_t6).toNat := fun i v9 k0_hw7 k0_t6 => k0_hw7.2.2.2.2.2.2.2.2.2.2.1 k0_t6
theorem k0_off46_inb : ∀ (i : grid0.Coords) (v9 : BitVec 32) (k0_hw7 : k0_chk7 i v9) (k0_t6 : Fin (k0_t6_loop v9).trips), ∀ a, (k0_off46 i v9 k0_t6) a + S1x64x512.size a ≤ S2x2048x512.size a := fun i v9 k0_hw7 k0_t6 => k0_hw7.2.2.2.2.2.2.2.2.2.2.2.1 k0_t6
theorem k0_off46_wordsfp8e4m3 : ∀ (i : grid0.Coords) (v9 : BitVec 32) (k0_hw7 : k0_chk7 i v9) (k0_t6 : Fin (k0_t6_loop v9).trips), (Rect.unit (s := S2x2048x512) (k0_off46 i v9 k0_t6) S1x64x512.size (k0_off46_inb i v9 k0_hw7 k0_t6)).WholeWords (EltTy.packing .fp8e4m3) := fun i v9 k0_hw7 k0_t6 => k0_hw7.2.2.2.2.2.2.2.2.2.2.2.2.1 k0_t6 (k0_off46_inb i v9 k0_hw7 k0_t6)
theorem k0_off49_inb : ∀ (i : grid0.Coords) (v9 : BitVec 32) (k0_hw7 : k0_chk7 i v9) (k0_t6 : Fin (k0_t6_loop v9).trips), ∀ a, (k0_off49 i v9 k0_t6) a + S1x1x4x64.size a ≤ S2x32x4x64.size a := fun i v9 k0_hw7 k0_t6 => k0_hw7.2.2.2.2.2.2.2.2.2.2.2.2.2.1 k0_t6
theorem k0_off51_inb : ∀ (i : grid0.Coords) (v9 : BitVec 32) (k0_hw7 : k0_chk7 i v9) (k0_t6 : Fin (k0_t6_loop v9).trips), ∀ a, (k0_off51 i v9 k0_t6) a + S1x64x64.size a ≤ S2x2048x64.size a := fun i v9 k0_hw7 k0_t6 => k0_hw7.2.2.2.2.2.2.2.2.2.2.2.2.2.2.1 k0_t6
theorem k0_off51_wordsbf16 : ∀ (i : grid0.Coords) (v9 : BitVec 32) (k0_hw7 : k0_chk7 i v9) (k0_t6 : Fin (k0_t6_loop v9).trips), (Rect.unit (s := S2x2048x64) (k0_off51 i v9 k0_t6) S1x64x64.size (k0_off51_inb i v9 k0_hw7 k0_t6)).WholeWords (EltTy.packing .bf16) := fun i v9 k0_hw7 k0_t6 => k0_hw7.2.2.2.2.2.2.2.2.2.2.2.2.2.2.2 k0_t6 (k0_off51_inb i v9 k0_hw7 k0_t6)

def k0_off53 (i : grid0.Coords) : Fin 1 → Nat :=
  let arg0 : BitVec 32 := BitVec.ofNat 32 (i 0).val
  let v35 : Index := Scalar.indexCast arg0
  ![v35.toNat]
@[reducible] def k0_t7_loop (v42 : BitVec 32) : Scf.Loop 32 :=
  let c0_i32_37 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v81 : BitVec 32 := Scalar.subi v61 c0_i32_37
  let c1_i32_38 : BitVec 32 := 1#32
  let v83 : BitVec 32 := Scalar.divsi v81 c1_i32_38
  let v84 : BitVec 32 := Scalar.muli v83 c1_i32_38
  let v85 : BitVec 32 := Scalar.addi c0_i32_37 v84
  let c1_i32_39 : BitVec 32 := 1#32
  ⟨c0_i32_37, v85, c1_i32_39⟩

def k0_mult7 (v42 : BitVec 32) (k0_t7 : Fin (k0_t7_loop v42).trips) : BitVec 32 :=
  let c0_i32_37 : BitVec 32 := 0#32
  let c1_i32_39 : BitVec 32 := 1#32
  let arg18 : BitVec 32 := Scf.iv c0_i32_37 c1_i32_39 k0_t7
  let c256_i32_54 : BitVec 32 := 256#32
  let v118 : BitVec 32 := Scalar.muli arg18 c256_i32_54
  v118
def k0_off54 (i : grid0.Coords) (v42 : BitVec 32) (k0_t7 : Fin (k0_t7_loop v42).trips) : Fin 3 → Nat :=
  let arg0 : BitVec 32 := BitVec.ofNat 32 (i 0).val
  let c2_i32 : BitVec 32 := 2#32
  let v0 : BitVec 32 := Scalar.remsi arg0 c2_i32
  let v120 : Index := Scalar.indexCast v0
  let c0_i32_37 : BitVec 32 := 0#32
  let c1_i32_39 : BitVec 32 := 1#32
  let arg18 : BitVec 32 := Scf.iv c0_i32_37 c1_i32_39 k0_t7
  let c256_i32_54 : BitVec 32 := 256#32
  let v118 : BitVec 32 := Scalar.muli arg18 c256_i32_54
  let v119 : BitVec 32 := v118
  let v121 : Index := Scalar.indexCast v119
  let c0_55 : Index := 0#32
  ![v120.toNat, v121.toNat, 0]
def k0_off55 (i : grid0.Coords) (v42 : BitVec 32) (k0_t7 : Fin (k0_t7_loop v42).trips) : Fin 3 → Nat :=
  let arg0 : BitVec 32 := BitVec.ofNat 32 (i 0).val
  let c2_i32 : BitVec 32 := 2#32
  let v0 : BitVec 32 := Scalar.remsi arg0 c2_i32
  let v126 : Index := Scalar.indexCast v0
  let c0_i32_37 : BitVec 32 := 0#32
  let c1_i32_39 : BitVec 32 := 1#32
  let arg18 : BitVec 32 := Scf.iv c0_i32_37 c1_i32_39 k0_t7
  let c256_i32_54 : BitVec 32 := 256#32
  let v118 : BitVec 32 := Scalar.muli arg18 c256_i32_54
  let v119 : BitVec 32 := v118
  let v127 : Index := Scalar.indexCast v119
  let c0_57 : Index := 0#32
  ![v126.toNat, v127.toNat, 0]
def k0_off56 (i : grid0.Coords) (v42 : BitVec 32) (k0_t7 : Fin (k0_t7_loop v42).trips) (c0_i32_60 : BitVec 32) : Fin 4 → Nat :=
  let arg0 : BitVec 32 := BitVec.ofNat 32 (i 0).val
  let c2_i32 : BitVec 32 := 2#32
  let v0 : BitVec 32 := Scalar.remsi arg0 c2_i32
  let v134 : Index := Scalar.indexCast v0
  let c0_i32_37 : BitVec 32 := 0#32
  let c1_i32_39 : BitVec 32 := 1#32
  let arg18 : BitVec 32 := Scf.iv c0_i32_37 c1_i32_39 k0_t7
  let c4_i32_59 : BitVec 32 := 4#32
  let v132 : BitVec 32 := Scalar.muli arg18 c4_i32_59
  let v133 : BitVec 32 := Scalar.addi v132 c0_i32_60
  let v135 : Index := Scalar.indexCast v133
  let c0_61 : Index := 0#32
  let c0_62 : Index := 0#32
  ![v134.toNat, v135.toNat, 0, 0]
def k0_off57 (i : grid0.Coords) (v42 : BitVec 32) (k0_t7 : Fin (k0_t7_loop v42).trips) : Fin 3 → Nat :=
  let arg0 : BitVec 32 := BitVec.ofNat 32 (i 0).val
  let c2_i32 : BitVec 32 := 2#32
  let v0 : BitVec 32 := Scalar.remsi arg0 c2_i32
  let v161 : Index := Scalar.indexCast v0
  let c0_i32_37 : BitVec 32 := 0#32
  let c1_i32_39 : BitVec 32 := 1#32
  let arg18 : BitVec 32 := Scf.iv c0_i32_37 c1_i32_39 k0_t7
  let c256_i32_54 : BitVec 32 := 256#32
  let v118 : BitVec 32 := Scalar.muli arg18 c256_i32_54
  let v119 : BitVec 32 := v118
  let v162 : Index := Scalar.indexCast v119
  let c128 : Index := 128#32
  ![v161.toNat, v162.toNat, 128]
def k0_off58 (i : grid0.Coords) (v42 : BitVec 32) (k0_t7 : Fin (k0_t7_loop v42).trips) (c0_i32_76 : BitVec 32) : Fin 4 → Nat :=
  let arg0 : BitVec 32 := BitVec.ofNat 32 (i 0).val
  let c2_i32 : BitVec 32 := 2#32
  let v0 : BitVec 32 := Scalar.remsi arg0 c2_i32
  let v169 : Index := Scalar.indexCast v0
  let c0_i32_37 : BitVec 32 := 0#32
  let c1_i32_39 : BitVec 32 := 1#32
  let arg18 : BitVec 32 := Scf.iv c0_i32_37 c1_i32_39 k0_t7
  let c4_i32_75 : BitVec 32 := 4#32
  let v167 : BitVec 32 := Scalar.muli arg18 c4_i32_75
  let v168 : BitVec 32 := Scalar.addi v167 c0_i32_76
  let v170 : Index := Scalar.indexCast v168
  let c1 : Index := 1#32
  let c0_77 : Index := 0#32
  ![v169.toNat, v170.toNat, 1, 0]
def k0_off59 (i : grid0.Coords) (v42 : BitVec 32) (k0_t7 : Fin (k0_t7_loop v42).trips) : Fin 3 → Nat :=
  let arg0 : BitVec 32 := BitVec.ofNat 32 (i 0).val
  let c2_i32 : BitVec 32 := 2#32
  let v0 : BitVec 32 := Scalar.remsi arg0 c2_i32
  let v196 : Index := Scalar.indexCast v0
  let c0_i32_37 : BitVec 32 := 0#32
  let c1_i32_39 : BitVec 32 := 1#32
  let arg18 : BitVec 32 := Scf.iv c0_i32_37 c1_i32_39 k0_t7
  let c256_i32_54 : BitVec 32 := 256#32
  let v118 : BitVec 32 := Scalar.muli arg18 c256_i32_54
  let v119 : BitVec 32 := v118
  let v197 : Index := Scalar.indexCast v119
  let c256 : Index := 256#32
  ![v196.toNat, v197.toNat, 256]
def k0_off60 (i : grid0.Coords) (v42 : BitVec 32) (k0_t7 : Fin (k0_t7_loop v42).trips) (c0_i32_92 : BitVec 32) : Fin 4 → Nat :=
  let arg0 : BitVec 32 := BitVec.ofNat 32 (i 0).val
  let c2_i32 : BitVec 32 := 2#32
  let v0 : BitVec 32 := Scalar.remsi arg0 c2_i32
  let v204 : Index := Scalar.indexCast v0
  let c0_i32_37 : BitVec 32 := 0#32
  let c1_i32_39 : BitVec 32 := 1#32
  let arg18 : BitVec 32 := Scf.iv c0_i32_37 c1_i32_39 k0_t7
  let c4_i32_91 : BitVec 32 := 4#32
  let v202 : BitVec 32 := Scalar.muli arg18 c4_i32_91
  let v203 : BitVec 32 := Scalar.addi v202 c0_i32_92
  let v205 : Index := Scalar.indexCast v203
  let c2 : Index := 2#32
  let c0_93 : Index := 0#32
  ![v204.toNat, v205.toNat, 2, 0]
def k0_off61 (i : grid0.Coords) (v42 : BitVec 32) (k0_t7 : Fin (k0_t7_loop v42).trips) : Fin 3 → Nat :=
  let arg0 : BitVec 32 := BitVec.ofNat 32 (i 0).val
  let c2_i32 : BitVec 32 := 2#32
  let v0 : BitVec 32 := Scalar.remsi arg0 c2_i32
  let v231 : Index := Scalar.indexCast v0
  let c0_i32_37 : BitVec 32 := 0#32
  let c1_i32_39 : BitVec 32 := 1#32
  let arg18 : BitVec 32 := Scf.iv c0_i32_37 c1_i32_39 k0_t7
  let c256_i32_54 : BitVec 32 := 256#32
  let v118 : BitVec 32 := Scalar.muli arg18 c256_i32_54
  let v119 : BitVec 32 := v118
  let v232 : Index := Scalar.indexCast v119
  let c384 : Index := 384#32
  ![v231.toNat, v232.toNat, 384]
def k0_off62 (i : grid0.Coords) (v42 : BitVec 32) (k0_t7 : Fin (k0_t7_loop v42).trips) (c0_i32_108 : BitVec 32) : Fin 4 → Nat :=
  let arg0 : BitVec 32 := BitVec.ofNat 32 (i 0).val
  let c2_i32 : BitVec 32 := 2#32
  let v0 : BitVec 32 := Scalar.remsi arg0 c2_i32
  let v239 : Index := Scalar.indexCast v0
  let c0_i32_37 : BitVec 32 := 0#32
  let c1_i32_39 : BitVec 32 := 1#32
  let arg18 : BitVec 32 := Scf.iv c0_i32_37 c1_i32_39 k0_t7
  let c4_i32_107 : BitVec 32 := 4#32
  let v237 : BitVec 32 := Scalar.muli arg18 c4_i32_107
  let v238 : BitVec 32 := Scalar.addi v237 c0_i32_108
  let v240 : Index := Scalar.indexCast v238
  let c3 : Index := 3#32
  let c0_109 : Index := 0#32
  ![v239.toNat, v240.toNat, 3, 0]
def k0_off63 (v42 : BitVec 32) (k0_t7 : Fin (k0_t7_loop v42).trips) : Fin 3 → Nat :=
  let c0_i32_37 : BitVec 32 := 0#32
  let c1_i32_39 : BitVec 32 := 1#32
  let arg18 : BitVec 32 := Scf.iv c0_i32_37 c1_i32_39 k0_t7
  let v275 : Index := Scalar.indexCast arg18
  let c0_125 : Index := 0#32
  let c0_126 : Index := 0#32
  ![v275.toNat, 0, 0]
@[reducible] def k0_t8_loop (v42 : BitVec 32) : Scf.Loop 32 :=
  let c0_i32_37 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v81 : BitVec 32 := Scalar.subi v61 c0_i32_37
  let c1_i32_38 : BitVec 32 := 1#32
  let v83 : BitVec 32 := Scalar.divsi v81 c1_i32_38
  let v84 : BitVec 32 := Scalar.muli v83 c1_i32_38
  let v85 : BitVec 32 := Scalar.addi c0_i32_37 v84
  let v82 : BitVec 32 := Scalar.addi c0_i32_37 v81
  let c1_i32_40 : BitVec 32 := 1#32
  ⟨v85, v82, c1_i32_40⟩
def k0_mult8 (v42 : BitVec 32) (k0_t8 : Fin (k0_t8_loop v42).trips) : BitVec 32 :=
  let c0_i32_37 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v81 : BitVec 32 := Scalar.subi v61 c0_i32_37
  let c1_i32_38 : BitVec 32 := 1#32
  let v83 : BitVec 32 := Scalar.divsi v81 c1_i32_38
  let v84 : BitVec 32 := Scalar.muli v83 c1_i32_38
  let v85 : BitVec 32 := Scalar.addi c0_i32_37 v84
  let c1_i32_40 : BitVec 32 := 1#32
  let arg18 : BitVec 32 := Scf.iv v85 c1_i32_40 k0_t8
  let c256_i32_54 : BitVec 32 := 256#32
  let v118 : BitVec 32 := Scalar.muli arg18 c256_i32_54
  v118
def k0_off64 (i : grid0.Coords) (v42 : BitVec 32) (k0_t8 : Fin (k0_t8_loop v42).trips) : Fin 3 → Nat :=
  let arg0 : BitVec 32 := BitVec.ofNat 32 (i 0).val
  let c2_i32 : BitVec 32 := 2#32
  let v0 : BitVec 32 := Scalar.remsi arg0 c2_i32
  let v120 : Index := Scalar.indexCast v0
  let c0_i32_37 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v81 : BitVec 32 := Scalar.subi v61 c0_i32_37
  let c1_i32_38 : BitVec 32 := 1#32
  let v83 : BitVec 32 := Scalar.divsi v81 c1_i32_38
  let v84 : BitVec 32 := Scalar.muli v83 c1_i32_38
  let v85 : BitVec 32 := Scalar.addi c0_i32_37 v84
  let c1_i32_40 : BitVec 32 := 1#32
  let arg18 : BitVec 32 := Scf.iv v85 c1_i32_40 k0_t8
  let c256_i32_54 : BitVec 32 := 256#32
  let v118 : BitVec 32 := Scalar.muli arg18 c256_i32_54
  let v119 : BitVec 32 := v118
  let v121 : Index := Scalar.indexCast v119
  let c0_55 : Index := 0#32
  ![v120.toNat, v121.toNat, 0]
def k0_off65 (i : grid0.Coords) (v42 : BitVec 32) (k0_t8 : Fin (k0_t8_loop v42).trips) : Fin 3 → Nat :=
  let arg0 : BitVec 32 := BitVec.ofNat 32 (i 0).val
  let c2_i32 : BitVec 32 := 2#32
  let v0 : BitVec 32 := Scalar.remsi arg0 c2_i32
  let v126 : Index := Scalar.indexCast v0
  let c0_i32_37 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v81 : BitVec 32 := Scalar.subi v61 c0_i32_37
  let c1_i32_38 : BitVec 32 := 1#32
  let v83 : BitVec 32 := Scalar.divsi v81 c1_i32_38
  let v84 : BitVec 32 := Scalar.muli v83 c1_i32_38
  let v85 : BitVec 32 := Scalar.addi c0_i32_37 v84
  let c1_i32_40 : BitVec 32 := 1#32
  let arg18 : BitVec 32 := Scf.iv v85 c1_i32_40 k0_t8
  let c256_i32_54 : BitVec 32 := 256#32
  let v118 : BitVec 32 := Scalar.muli arg18 c256_i32_54
  let v119 : BitVec 32 := v118
  let v127 : Index := Scalar.indexCast v119
  let c0_57 : Index := 0#32
  ![v126.toNat, v127.toNat, 0]
def k0_off66 (i : grid0.Coords) (v42 : BitVec 32) (k0_t8 : Fin (k0_t8_loop v42).trips) (c0_i32_60 : BitVec 32) : Fin 4 → Nat :=
  let arg0 : BitVec 32 := BitVec.ofNat 32 (i 0).val
  let c2_i32 : BitVec 32 := 2#32
  let v0 : BitVec 32 := Scalar.remsi arg0 c2_i32
  let v134 : Index := Scalar.indexCast v0
  let c0_i32_37 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v81 : BitVec 32 := Scalar.subi v61 c0_i32_37
  let c1_i32_38 : BitVec 32 := 1#32
  let v83 : BitVec 32 := Scalar.divsi v81 c1_i32_38
  let v84 : BitVec 32 := Scalar.muli v83 c1_i32_38
  let v85 : BitVec 32 := Scalar.addi c0_i32_37 v84
  let c1_i32_40 : BitVec 32 := 1#32
  let arg18 : BitVec 32 := Scf.iv v85 c1_i32_40 k0_t8
  let c4_i32_59 : BitVec 32 := 4#32
  let v132 : BitVec 32 := Scalar.muli arg18 c4_i32_59
  let v133 : BitVec 32 := Scalar.addi v132 c0_i32_60
  let v135 : Index := Scalar.indexCast v133
  let c0_61 : Index := 0#32
  let c0_62 : Index := 0#32
  ![v134.toNat, v135.toNat, 0, 0]
def k0_off67 (i : grid0.Coords) (v42 : BitVec 32) (k0_t8 : Fin (k0_t8_loop v42).trips) : Fin 3 → Nat :=
  let arg0 : BitVec 32 := BitVec.ofNat 32 (i 0).val
  let c2_i32 : BitVec 32 := 2#32
  let v0 : BitVec 32 := Scalar.remsi arg0 c2_i32
  let v161 : Index := Scalar.indexCast v0
  let c0_i32_37 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v81 : BitVec 32 := Scalar.subi v61 c0_i32_37
  let c1_i32_38 : BitVec 32 := 1#32
  let v83 : BitVec 32 := Scalar.divsi v81 c1_i32_38
  let v84 : BitVec 32 := Scalar.muli v83 c1_i32_38
  let v85 : BitVec 32 := Scalar.addi c0_i32_37 v84
  let c1_i32_40 : BitVec 32 := 1#32
  let arg18 : BitVec 32 := Scf.iv v85 c1_i32_40 k0_t8
  let c256_i32_54 : BitVec 32 := 256#32
  let v118 : BitVec 32 := Scalar.muli arg18 c256_i32_54
  let v119 : BitVec 32 := v118
  let v162 : Index := Scalar.indexCast v119
  let c128 : Index := 128#32
  ![v161.toNat, v162.toNat, 128]
def k0_off68 (i : grid0.Coords) (v42 : BitVec 32) (k0_t8 : Fin (k0_t8_loop v42).trips) (c0_i32_76 : BitVec 32) : Fin 4 → Nat :=
  let arg0 : BitVec 32 := BitVec.ofNat 32 (i 0).val
  let c2_i32 : BitVec 32 := 2#32
  let v0 : BitVec 32 := Scalar.remsi arg0 c2_i32
  let v169 : Index := Scalar.indexCast v0
  let c0_i32_37 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v81 : BitVec 32 := Scalar.subi v61 c0_i32_37
  let c1_i32_38 : BitVec 32 := 1#32
  let v83 : BitVec 32 := Scalar.divsi v81 c1_i32_38
  let v84 : BitVec 32 := Scalar.muli v83 c1_i32_38
  let v85 : BitVec 32 := Scalar.addi c0_i32_37 v84
  let c1_i32_40 : BitVec 32 := 1#32
  let arg18 : BitVec 32 := Scf.iv v85 c1_i32_40 k0_t8
  let c4_i32_75 : BitVec 32 := 4#32
  let v167 : BitVec 32 := Scalar.muli arg18 c4_i32_75
  let v168 : BitVec 32 := Scalar.addi v167 c0_i32_76
  let v170 : Index := Scalar.indexCast v168
  let c1 : Index := 1#32
  let c0_77 : Index := 0#32
  ![v169.toNat, v170.toNat, 1, 0]
def k0_off69 (i : grid0.Coords) (v42 : BitVec 32) (k0_t8 : Fin (k0_t8_loop v42).trips) : Fin 3 → Nat :=
  let arg0 : BitVec 32 := BitVec.ofNat 32 (i 0).val
  let c2_i32 : BitVec 32 := 2#32
  let v0 : BitVec 32 := Scalar.remsi arg0 c2_i32
  let v196 : Index := Scalar.indexCast v0
  let c0_i32_37 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v81 : BitVec 32 := Scalar.subi v61 c0_i32_37
  let c1_i32_38 : BitVec 32 := 1#32
  let v83 : BitVec 32 := Scalar.divsi v81 c1_i32_38
  let v84 : BitVec 32 := Scalar.muli v83 c1_i32_38
  let v85 : BitVec 32 := Scalar.addi c0_i32_37 v84
  let c1_i32_40 : BitVec 32 := 1#32
  let arg18 : BitVec 32 := Scf.iv v85 c1_i32_40 k0_t8
  let c256_i32_54 : BitVec 32 := 256#32
  let v118 : BitVec 32 := Scalar.muli arg18 c256_i32_54
  let v119 : BitVec 32 := v118
  let v197 : Index := Scalar.indexCast v119
  let c256 : Index := 256#32
  ![v196.toNat, v197.toNat, 256]
def k0_off70 (i : grid0.Coords) (v42 : BitVec 32) (k0_t8 : Fin (k0_t8_loop v42).trips) (c0_i32_92 : BitVec 32) : Fin 4 → Nat :=
  let arg0 : BitVec 32 := BitVec.ofNat 32 (i 0).val
  let c2_i32 : BitVec 32 := 2#32
  let v0 : BitVec 32 := Scalar.remsi arg0 c2_i32
  let v204 : Index := Scalar.indexCast v0
  let c0_i32_37 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v81 : BitVec 32 := Scalar.subi v61 c0_i32_37
  let c1_i32_38 : BitVec 32 := 1#32
  let v83 : BitVec 32 := Scalar.divsi v81 c1_i32_38
  let v84 : BitVec 32 := Scalar.muli v83 c1_i32_38
  let v85 : BitVec 32 := Scalar.addi c0_i32_37 v84
  let c1_i32_40 : BitVec 32 := 1#32
  let arg18 : BitVec 32 := Scf.iv v85 c1_i32_40 k0_t8
  let c4_i32_91 : BitVec 32 := 4#32
  let v202 : BitVec 32 := Scalar.muli arg18 c4_i32_91
  let v203 : BitVec 32 := Scalar.addi v202 c0_i32_92
  let v205 : Index := Scalar.indexCast v203
  let c2 : Index := 2#32
  let c0_93 : Index := 0#32
  ![v204.toNat, v205.toNat, 2, 0]
def k0_off71 (i : grid0.Coords) (v42 : BitVec 32) (k0_t8 : Fin (k0_t8_loop v42).trips) : Fin 3 → Nat :=
  let arg0 : BitVec 32 := BitVec.ofNat 32 (i 0).val
  let c2_i32 : BitVec 32 := 2#32
  let v0 : BitVec 32 := Scalar.remsi arg0 c2_i32
  let v231 : Index := Scalar.indexCast v0
  let c0_i32_37 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v81 : BitVec 32 := Scalar.subi v61 c0_i32_37
  let c1_i32_38 : BitVec 32 := 1#32
  let v83 : BitVec 32 := Scalar.divsi v81 c1_i32_38
  let v84 : BitVec 32 := Scalar.muli v83 c1_i32_38
  let v85 : BitVec 32 := Scalar.addi c0_i32_37 v84
  let c1_i32_40 : BitVec 32 := 1#32
  let arg18 : BitVec 32 := Scf.iv v85 c1_i32_40 k0_t8
  let c256_i32_54 : BitVec 32 := 256#32
  let v118 : BitVec 32 := Scalar.muli arg18 c256_i32_54
  let v119 : BitVec 32 := v118
  let v232 : Index := Scalar.indexCast v119
  let c384 : Index := 384#32
  ![v231.toNat, v232.toNat, 384]
def k0_off72 (i : grid0.Coords) (v42 : BitVec 32) (k0_t8 : Fin (k0_t8_loop v42).trips) (c0_i32_108 : BitVec 32) : Fin 4 → Nat :=
  let arg0 : BitVec 32 := BitVec.ofNat 32 (i 0).val
  let c2_i32 : BitVec 32 := 2#32
  let v0 : BitVec 32 := Scalar.remsi arg0 c2_i32
  let v239 : Index := Scalar.indexCast v0
  let c0_i32_37 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v81 : BitVec 32 := Scalar.subi v61 c0_i32_37
  let c1_i32_38 : BitVec 32 := 1#32
  let v83 : BitVec 32 := Scalar.divsi v81 c1_i32_38
  let v84 : BitVec 32 := Scalar.muli v83 c1_i32_38
  let v85 : BitVec 32 := Scalar.addi c0_i32_37 v84
  let c1_i32_40 : BitVec 32 := 1#32
  let arg18 : BitVec 32 := Scf.iv v85 c1_i32_40 k0_t8
  let c4_i32_107 : BitVec 32 := 4#32
  let v237 : BitVec 32 := Scalar.muli arg18 c4_i32_107
  let v238 : BitVec 32 := Scalar.addi v237 c0_i32_108
  let v240 : Index := Scalar.indexCast v238
  let c3 : Index := 3#32
  let c0_109 : Index := 0#32
  ![v239.toNat, v240.toNat, 3, 0]
def k0_off73 (v42 : BitVec 32) (k0_t8 : Fin (k0_t8_loop v42).trips) : Fin 3 → Nat :=
  let c0_i32_37 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v81 : BitVec 32 := Scalar.subi v61 c0_i32_37
  let c1_i32_38 : BitVec 32 := 1#32
  let v83 : BitVec 32 := Scalar.divsi v81 c1_i32_38
  let v84 : BitVec 32 := Scalar.muli v83 c1_i32_38
  let v85 : BitVec 32 := Scalar.addi c0_i32_37 v84
  let c1_i32_40 : BitVec 32 := 1#32
  let arg18 : BitVec 32 := Scf.iv v85 c1_i32_40 k0_t8
  let v275 : Index := Scalar.indexCast arg18
  let c0_125 : Index := 0#32
  let c0_126 : Index := 0#32
  ![v275.toNat, 0, 0]
@[reducible] def k0_t9_loop (v42 : BitVec 32) : Scf.Loop 32 :=
  let c0_i32_42 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v91 : BitVec 32 := Scalar.subi v61 c0_i32_42
  let c1_i32_43 : BitVec 32 := 1#32
  let v93 : BitVec 32 := Scalar.divsi v91 c1_i32_43
  let v94 : BitVec 32 := Scalar.muli v93 c1_i32_43
  let v95 : BitVec 32 := Scalar.addi c0_i32_42 v94
  let c1_i32_44 : BitVec 32 := 1#32
  ⟨c0_i32_42, v95, c1_i32_44⟩
def k0_off74 (v42 : BitVec 32) (k0_t9 : Fin (k0_t9_loop v42).trips) : Fin 3 → Nat :=
  let c0_i32_42 : BitVec 32 := 0#32
  let c1_i32_44 : BitVec 32 := 1#32
  let arg18 : BitVec 32 := Scf.iv c0_i32_42 c1_i32_44 k0_t9
  let v118 : Index := Scalar.indexCast arg18
  let c0_54 : Index := 0#32
  let c0_55 : Index := 0#32
  ![v118.toNat, 0, 0]
@[reducible] def k0_t10_loop (v42 : BitVec 32) : Scf.Loop 32 :=
  let c0_i32_42 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v91 : BitVec 32 := Scalar.subi v61 c0_i32_42
  let c1_i32_43 : BitVec 32 := 1#32
  let v93 : BitVec 32 := Scalar.divsi v91 c1_i32_43
  let v94 : BitVec 32 := Scalar.muli v93 c1_i32_43
  let v95 : BitVec 32 := Scalar.addi c0_i32_42 v94
  let v92 : BitVec 32 := Scalar.addi c0_i32_42 v91
  let c1_i32_45 : BitVec 32 := 1#32
  ⟨v95, v92, c1_i32_45⟩
def k0_off75 (v42 : BitVec 32) (k0_t10 : Fin (k0_t10_loop v42).trips) : Fin 3 → Nat :=
  let c0_i32_42 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v91 : BitVec 32 := Scalar.subi v61 c0_i32_42
  let c1_i32_43 : BitVec 32 := 1#32
  let v93 : BitVec 32 := Scalar.divsi v91 c1_i32_43
  let v94 : BitVec 32 := Scalar.muli v93 c1_i32_43
  let v95 : BitVec 32 := Scalar.addi c0_i32_42 v94
  let c1_i32_45 : BitVec 32 := 1#32
  let arg18 : BitVec 32 := Scf.iv v95 c1_i32_45 k0_t10
  let v118 : Index := Scalar.indexCast arg18
  let c0_54 : Index := 0#32
  let c0_55 : Index := 0#32
  ![v118.toNat, 0, 0]
@[reducible] def k0_t11_loop (v42 : BitVec 32) : Scf.Loop 32 :=
  let c0_i32_47 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v100 : BitVec 32 := Scalar.subi v61 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let c1_i32_49 : BitVec 32 := 1#32
  ⟨c0_i32_47, v104, c1_i32_49⟩
def k0_mult9 (v42 : BitVec 32) (k0_t11 : Fin (k0_t11_loop v42).trips) : BitVec 32 :=
  let c0_i32_47 : BitVec 32 := 0#32
  let c1_i32_49 : BitVec 32 := 1#32
  let arg18 : BitVec 32 := Scf.iv c0_i32_47 c1_i32_49 k0_t11
  let c256_i32_54 : BitVec 32 := 256#32
  let v118 : BitVec 32 := Scalar.muli arg18 c256_i32_54
  v118
def k0_off76 (v42 : BitVec 32) (k0_t11 : Fin (k0_t11_loop v42).trips) : Fin 3 → Nat :=
  let c0_i32_47 : BitVec 32 := 0#32
  let c1_i32_49 : BitVec 32 := 1#32
  let arg18 : BitVec 32 := Scf.iv c0_i32_47 c1_i32_49 k0_t11
  let v120 : Index := Scalar.indexCast arg18
  let c0_55 : Index := 0#32
  let c0_56 : Index := 0#32
  ![v120.toNat, 0, 0]
def k0_off77 (i : grid0.Coords) (v42 : BitVec 32) (k0_t11 : Fin (k0_t11_loop v42).trips) (c0_i32_58 : BitVec 32) : Fin 4 → Nat :=
  let arg0 : BitVec 32 := BitVec.ofNat 32 (i 0).val
  let c2_i32 : BitVec 32 := 2#32
  let v0 : BitVec 32 := Scalar.remsi arg0 c2_i32
  let v128 : Index := Scalar.indexCast v0
  let c0_i32_47 : BitVec 32 := 0#32
  let c1_i32_49 : BitVec 32 := 1#32
  let arg18 : BitVec 32 := Scf.iv c0_i32_47 c1_i32_49 k0_t11
  let c4_i32_57 : BitVec 32 := 4#32
  let v126 : BitVec 32 := Scalar.muli arg18 c4_i32_57
  let v127 : BitVec 32 := Scalar.addi v126 c0_i32_58
  let v129 : Index := Scalar.indexCast v127
  let c0_59 : Index := 0#32
  let c0_60 : Index := 0#32
  ![v128.toNat, v129.toNat, 0, 0]
def k0_off78 (i : grid0.Coords) (v42 : BitVec 32) (k0_t11 : Fin (k0_t11_loop v42).trips) : Fin 3 → Nat :=
  let arg0 : BitVec 32 := BitVec.ofNat 32 (i 0).val
  let c2_i32 : BitVec 32 := 2#32
  let v0 : BitVec 32 := Scalar.remsi arg0 c2_i32
  let v154 : Index := Scalar.indexCast v0
  let c0_i32_47 : BitVec 32 := 0#32
  let c1_i32_49 : BitVec 32 := 1#32
  let arg18 : BitVec 32 := Scf.iv c0_i32_47 c1_i32_49 k0_t11
  let c256_i32_54 : BitVec 32 := 256#32
  let v118 : BitVec 32 := Scalar.muli arg18 c256_i32_54
  let v119 : BitVec 32 := v118
  let v155 : Index := Scalar.indexCast v119
  let c0_72 : Index := 0#32
  ![v154.toNat, v155.toNat, 0]
def k0_off79 (i : grid0.Coords) (v42 : BitVec 32) (k0_t11 : Fin (k0_t11_loop v42).trips) (c0_i32_75 : BitVec 32) : Fin 4 → Nat :=
  let arg0 : BitVec 32 := BitVec.ofNat 32 (i 0).val
  let c2_i32 : BitVec 32 := 2#32
  let v0 : BitVec 32 := Scalar.remsi arg0 c2_i32
  let v162 : Index := Scalar.indexCast v0
  let c0_i32_47 : BitVec 32 := 0#32
  let c1_i32_49 : BitVec 32 := 1#32
  let arg18 : BitVec 32 := Scf.iv c0_i32_47 c1_i32_49 k0_t11
  let c4_i32_74 : BitVec 32 := 4#32
  let v160 : BitVec 32 := Scalar.muli arg18 c4_i32_74
  let v161 : BitVec 32 := Scalar.addi v160 c0_i32_75
  let v163 : Index := Scalar.indexCast v161
  let c1 : Index := 1#32
  let c0_76 : Index := 0#32
  ![v162.toNat, v163.toNat, 1, 0]
def k0_off80 (i : grid0.Coords) (v42 : BitVec 32) (k0_t11 : Fin (k0_t11_loop v42).trips) : Fin 3 → Nat :=
  let arg0 : BitVec 32 := BitVec.ofNat 32 (i 0).val
  let c2_i32 : BitVec 32 := 2#32
  let v0 : BitVec 32 := Scalar.remsi arg0 c2_i32
  let v188 : Index := Scalar.indexCast v0
  let c0_i32_47 : BitVec 32 := 0#32
  let c1_i32_49 : BitVec 32 := 1#32
  let arg18 : BitVec 32 := Scf.iv c0_i32_47 c1_i32_49 k0_t11
  let c256_i32_54 : BitVec 32 := 256#32
  let v118 : BitVec 32 := Scalar.muli arg18 c256_i32_54
  let v119 : BitVec 32 := v118
  let v189 : Index := Scalar.indexCast v119
  let c128 : Index := 128#32
  ![v188.toNat, v189.toNat, 128]
def k0_off81 (i : grid0.Coords) (v42 : BitVec 32) (k0_t11 : Fin (k0_t11_loop v42).trips) (c0_i32_91 : BitVec 32) : Fin 4 → Nat :=
  let arg0 : BitVec 32 := BitVec.ofNat 32 (i 0).val
  let c2_i32 : BitVec 32 := 2#32
  let v0 : BitVec 32 := Scalar.remsi arg0 c2_i32
  let v196 : Index := Scalar.indexCast v0
  let c0_i32_47 : BitVec 32 := 0#32
  let c1_i32_49 : BitVec 32 := 1#32
  let arg18 : BitVec 32 := Scf.iv c0_i32_47 c1_i32_49 k0_t11
  let c4_i32_90 : BitVec 32 := 4#32
  let v194 : BitVec 32 := Scalar.muli arg18 c4_i32_90
  let v195 : BitVec 32 := Scalar.addi v194 c0_i32_91
  let v197 : Index := Scalar.indexCast v195
  let c2 : Index := 2#32
  let c0_92 : Index := 0#32
  ![v196.toNat, v197.toNat, 2, 0]
def k0_off82 (i : grid0.Coords) (v42 : BitVec 32) (k0_t11 : Fin (k0_t11_loop v42).trips) : Fin 3 → Nat :=
  let arg0 : BitVec 32 := BitVec.ofNat 32 (i 0).val
  let c2_i32 : BitVec 32 := 2#32
  let v0 : BitVec 32 := Scalar.remsi arg0 c2_i32
  let v222 : Index := Scalar.indexCast v0
  let c0_i32_47 : BitVec 32 := 0#32
  let c1_i32_49 : BitVec 32 := 1#32
  let arg18 : BitVec 32 := Scf.iv c0_i32_47 c1_i32_49 k0_t11
  let c256_i32_54 : BitVec 32 := 256#32
  let v118 : BitVec 32 := Scalar.muli arg18 c256_i32_54
  let v119 : BitVec 32 := v118
  let v223 : Index := Scalar.indexCast v119
  let c256 : Index := 256#32
  ![v222.toNat, v223.toNat, 256]
def k0_off83 (i : grid0.Coords) (v42 : BitVec 32) (k0_t11 : Fin (k0_t11_loop v42).trips) (c0_i32_107 : BitVec 32) : Fin 4 → Nat :=
  let arg0 : BitVec 32 := BitVec.ofNat 32 (i 0).val
  let c2_i32 : BitVec 32 := 2#32
  let v0 : BitVec 32 := Scalar.remsi arg0 c2_i32
  let v230 : Index := Scalar.indexCast v0
  let c0_i32_47 : BitVec 32 := 0#32
  let c1_i32_49 : BitVec 32 := 1#32
  let arg18 : BitVec 32 := Scf.iv c0_i32_47 c1_i32_49 k0_t11
  let c4_i32_106 : BitVec 32 := 4#32
  let v228 : BitVec 32 := Scalar.muli arg18 c4_i32_106
  let v229 : BitVec 32 := Scalar.addi v228 c0_i32_107
  let v231 : Index := Scalar.indexCast v229
  let c3 : Index := 3#32
  let c0_108 : Index := 0#32
  ![v230.toNat, v231.toNat, 3, 0]
def k0_off84 (i : grid0.Coords) (v42 : BitVec 32) (k0_t11 : Fin (k0_t11_loop v42).trips) : Fin 3 → Nat :=
  let arg0 : BitVec 32 := BitVec.ofNat 32 (i 0).val
  let c2_i32 : BitVec 32 := 2#32
  let v0 : BitVec 32 := Scalar.remsi arg0 c2_i32
  let v256 : Index := Scalar.indexCast v0
  let c0_i32_47 : BitVec 32 := 0#32
  let c1_i32_49 : BitVec 32 := 1#32
  let arg18 : BitVec 32 := Scf.iv c0_i32_47 c1_i32_49 k0_t11
  let c256_i32_54 : BitVec 32 := 256#32
  let v118 : BitVec 32 := Scalar.muli arg18 c256_i32_54
  let v119 : BitVec 32 := v118
  let v257 : Index := Scalar.indexCast v119
  let c384 : Index := 384#32
  ![v256.toNat, v257.toNat, 384]
@[reducible] def k0_t12_loop (v42 : BitVec 32) : Scf.Loop 32 :=
  let c0_i32_47 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v100 : BitVec 32 := Scalar.subi v61 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let v101 : BitVec 32 := Scalar.addi c0_i32_47 v100
  let c1_i32_50 : BitVec 32 := 1#32
  ⟨v104, v101, c1_i32_50⟩
def k0_mult10 (v42 : BitVec 32) (k0_t12 : Fin (k0_t12_loop v42).trips) : BitVec 32 :=
  let c0_i32_47 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v100 : BitVec 32 := Scalar.subi v61 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let c1_i32_50 : BitVec 32 := 1#32
  let arg18 : BitVec 32 := Scf.iv v104 c1_i32_50 k0_t12
  let c256_i32_54 : BitVec 32 := 256#32
  let v118 : BitVec 32 := Scalar.muli arg18 c256_i32_54
  v118
def k0_off85 (v42 : BitVec 32) (k0_t12 : Fin (k0_t12_loop v42).trips) : Fin 3 → Nat :=
  let c0_i32_47 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v100 : BitVec 32 := Scalar.subi v61 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let c1_i32_50 : BitVec 32 := 1#32
  let arg18 : BitVec 32 := Scf.iv v104 c1_i32_50 k0_t12
  let v120 : Index := Scalar.indexCast arg18
  let c0_55 : Index := 0#32
  let c0_56 : Index := 0#32
  ![v120.toNat, 0, 0]
def k0_off86 (i : grid0.Coords) (v42 : BitVec 32) (k0_t12 : Fin (k0_t12_loop v42).trips) (c0_i32_58 : BitVec 32) : Fin 4 → Nat :=
  let arg0 : BitVec 32 := BitVec.ofNat 32 (i 0).val
  let c2_i32 : BitVec 32 := 2#32
  let v0 : BitVec 32 := Scalar.remsi arg0 c2_i32
  let v128 : Index := Scalar.indexCast v0
  let c0_i32_47 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v100 : BitVec 32 := Scalar.subi v61 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let c1_i32_50 : BitVec 32 := 1#32
  let arg18 : BitVec 32 := Scf.iv v104 c1_i32_50 k0_t12
  let c4_i32_57 : BitVec 32 := 4#32
  let v126 : BitVec 32 := Scalar.muli arg18 c4_i32_57
  let v127 : BitVec 32 := Scalar.addi v126 c0_i32_58
  let v129 : Index := Scalar.indexCast v127
  let c0_59 : Index := 0#32
  let c0_60 : Index := 0#32
  ![v128.toNat, v129.toNat, 0, 0]
def k0_off87 (i : grid0.Coords) (v42 : BitVec 32) (k0_t12 : Fin (k0_t12_loop v42).trips) : Fin 3 → Nat :=
  let arg0 : BitVec 32 := BitVec.ofNat 32 (i 0).val
  let c2_i32 : BitVec 32 := 2#32
  let v0 : BitVec 32 := Scalar.remsi arg0 c2_i32
  let v154 : Index := Scalar.indexCast v0
  let c0_i32_47 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v100 : BitVec 32 := Scalar.subi v61 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let c1_i32_50 : BitVec 32 := 1#32
  let arg18 : BitVec 32 := Scf.iv v104 c1_i32_50 k0_t12
  let c256_i32_54 : BitVec 32 := 256#32
  let v118 : BitVec 32 := Scalar.muli arg18 c256_i32_54
  let v119 : BitVec 32 := v118
  let v155 : Index := Scalar.indexCast v119
  let c0_72 : Index := 0#32
  ![v154.toNat, v155.toNat, 0]
def k0_off88 (i : grid0.Coords) (v42 : BitVec 32) (k0_t12 : Fin (k0_t12_loop v42).trips) (c0_i32_75 : BitVec 32) : Fin 4 → Nat :=
  let arg0 : BitVec 32 := BitVec.ofNat 32 (i 0).val
  let c2_i32 : BitVec 32 := 2#32
  let v0 : BitVec 32 := Scalar.remsi arg0 c2_i32
  let v162 : Index := Scalar.indexCast v0
  let c0_i32_47 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v100 : BitVec 32 := Scalar.subi v61 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let c1_i32_50 : BitVec 32 := 1#32
  let arg18 : BitVec 32 := Scf.iv v104 c1_i32_50 k0_t12
  let c4_i32_74 : BitVec 32 := 4#32
  let v160 : BitVec 32 := Scalar.muli arg18 c4_i32_74
  let v161 : BitVec 32 := Scalar.addi v160 c0_i32_75
  let v163 : Index := Scalar.indexCast v161
  let c1 : Index := 1#32
  let c0_76 : Index := 0#32
  ![v162.toNat, v163.toNat, 1, 0]
def k0_off89 (i : grid0.Coords) (v42 : BitVec 32) (k0_t12 : Fin (k0_t12_loop v42).trips) : Fin 3 → Nat :=
  let arg0 : BitVec 32 := BitVec.ofNat 32 (i 0).val
  let c2_i32 : BitVec 32 := 2#32
  let v0 : BitVec 32 := Scalar.remsi arg0 c2_i32
  let v188 : Index := Scalar.indexCast v0
  let c0_i32_47 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v100 : BitVec 32 := Scalar.subi v61 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let c1_i32_50 : BitVec 32 := 1#32
  let arg18 : BitVec 32 := Scf.iv v104 c1_i32_50 k0_t12
  let c256_i32_54 : BitVec 32 := 256#32
  let v118 : BitVec 32 := Scalar.muli arg18 c256_i32_54
  let v119 : BitVec 32 := v118
  let v189 : Index := Scalar.indexCast v119
  let c128 : Index := 128#32
  ![v188.toNat, v189.toNat, 128]
def k0_off90 (i : grid0.Coords) (v42 : BitVec 32) (k0_t12 : Fin (k0_t12_loop v42).trips) (c0_i32_91 : BitVec 32) : Fin 4 → Nat :=
  let arg0 : BitVec 32 := BitVec.ofNat 32 (i 0).val
  let c2_i32 : BitVec 32 := 2#32
  let v0 : BitVec 32 := Scalar.remsi arg0 c2_i32
  let v196 : Index := Scalar.indexCast v0
  let c0_i32_47 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v100 : BitVec 32 := Scalar.subi v61 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let c1_i32_50 : BitVec 32 := 1#32
  let arg18 : BitVec 32 := Scf.iv v104 c1_i32_50 k0_t12
  let c4_i32_90 : BitVec 32 := 4#32
  let v194 : BitVec 32 := Scalar.muli arg18 c4_i32_90
  let v195 : BitVec 32 := Scalar.addi v194 c0_i32_91
  let v197 : Index := Scalar.indexCast v195
  let c2 : Index := 2#32
  let c0_92 : Index := 0#32
  ![v196.toNat, v197.toNat, 2, 0]
def k0_off91 (i : grid0.Coords) (v42 : BitVec 32) (k0_t12 : Fin (k0_t12_loop v42).trips) : Fin 3 → Nat :=
  let arg0 : BitVec 32 := BitVec.ofNat 32 (i 0).val
  let c2_i32 : BitVec 32 := 2#32
  let v0 : BitVec 32 := Scalar.remsi arg0 c2_i32
  let v222 : Index := Scalar.indexCast v0
  let c0_i32_47 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v100 : BitVec 32 := Scalar.subi v61 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let c1_i32_50 : BitVec 32 := 1#32
  let arg18 : BitVec 32 := Scf.iv v104 c1_i32_50 k0_t12
  let c256_i32_54 : BitVec 32 := 256#32
  let v118 : BitVec 32 := Scalar.muli arg18 c256_i32_54
  let v119 : BitVec 32 := v118
  let v223 : Index := Scalar.indexCast v119
  let c256 : Index := 256#32
  ![v222.toNat, v223.toNat, 256]
def k0_off92 (i : grid0.Coords) (v42 : BitVec 32) (k0_t12 : Fin (k0_t12_loop v42).trips) (c0_i32_107 : BitVec 32) : Fin 4 → Nat :=
  let arg0 : BitVec 32 := BitVec.ofNat 32 (i 0).val
  let c2_i32 : BitVec 32 := 2#32
  let v0 : BitVec 32 := Scalar.remsi arg0 c2_i32
  let v230 : Index := Scalar.indexCast v0
  let c0_i32_47 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v100 : BitVec 32 := Scalar.subi v61 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let c1_i32_50 : BitVec 32 := 1#32
  let arg18 : BitVec 32 := Scf.iv v104 c1_i32_50 k0_t12
  let c4_i32_106 : BitVec 32 := 4#32
  let v228 : BitVec 32 := Scalar.muli arg18 c4_i32_106
  let v229 : BitVec 32 := Scalar.addi v228 c0_i32_107
  let v231 : Index := Scalar.indexCast v229
  let c3 : Index := 3#32
  let c0_108 : Index := 0#32
  ![v230.toNat, v231.toNat, 3, 0]
def k0_off93 (i : grid0.Coords) (v42 : BitVec 32) (k0_t12 : Fin (k0_t12_loop v42).trips) : Fin 3 → Nat :=
  let arg0 : BitVec 32 := BitVec.ofNat 32 (i 0).val
  let c2_i32 : BitVec 32 := 2#32
  let v0 : BitVec 32 := Scalar.remsi arg0 c2_i32
  let v256 : Index := Scalar.indexCast v0
  let c0_i32_47 : BitVec 32 := 0#32
  let c256_i32_20 : BitVec 32 := 256#32
  let v43 : BitVec 32 := Scalar.addi v42 c256_i32_20
  let c1_i32_21 : BitVec 32 := 1#32
  let v44 : BitVec 32 := Scalar.subi v43 c1_i32_21
  let c0_i32_23 : BitVec 32 := 0#32
  let v46 : BitVec 1 := Scalar.cmpi .sgt v44 c0_i32_23
  let v47 : BitVec 32 := Scalar.extui v46
  let c0_i32_24 : BitVec 32 := 0#32
  let v48 : BitVec 1 := Scalar.cmpi .slt v44 c0_i32_24
  let v49 : BitVec 32 := Scalar.extui v48
  let v50 : BitVec 32 := Scalar.subi v47 v49
  let c256_i32_22 : BitVec 32 := 256#32
  let c0_i32_25 : BitVec 32 := 0#32
  let v51 : BitVec 1 := Scalar.cmpi .sgt c256_i32_22 c0_i32_25
  let v52 : BitVec 32 := Scalar.extui v51
  let c0_i32_26 : BitVec 32 := 0#32
  let v53 : BitVec 1 := Scalar.cmpi .slt c256_i32_22 c0_i32_26
  let v54 : BitVec 32 := Scalar.extui v53
  let v55 : BitVec 32 := Scalar.subi v52 v54
  let v56 : BitVec 1 := Scalar.cmpi .ne v50 v55
  let v57 : BitVec 32 := Scalar.remsi v44 c256_i32_22
  let c0_i32_27 : BitVec 32 := 0#32
  let v58 : BitVec 1 := Scalar.cmpi .ne v57 c0_i32_27
  let v59 : BitVec 1 := Scalar.andi v56 v58
  let v45 : BitVec 32 := Scalar.divsi v44 c256_i32_22
  let c1_i32_28 : BitVec 32 := 1#32
  let v60 : BitVec 32 := Scalar.subi v45 c1_i32_28
  let v61 : BitVec 32 := Scalar.select v59 v60 v45
  let v100 : BitVec 32 := Scalar.subi v61 c0_i32_47
  let c1_i32_48 : BitVec 32 := 1#32
  let v102 : BitVec 32 := Scalar.divsi v100 c1_i32_48
  let v103 : BitVec 32 := Scalar.muli v102 c1_i32_48
  let v104 : BitVec 32 := Scalar.addi c0_i32_47 v103
  let c1_i32_50 : BitVec 32 := 1#32
  let arg18 : BitVec 32 := Scf.iv v104 c1_i32_50 k0_t12
  let c256_i32_54 : BitVec 32 := 256#32
  let v118 : BitVec 32 := Scalar.muli arg18 c256_i32_54
  let v119 : BitVec 32 := v118
  let v257 : Index := Scalar.indexCast v119
  let c384 : Index := 384#32
  ![v256.toNat, v257.toNat, 384]

def k0_chk10_0 (i : grid0.Coords) (v42 : BitVec 32) : Prop :=
  ((k0_t7_loop v42).OK) ∧
  (∀ k0_t7 : Fin (k0_t7_loop v42).trips, 256 ∣ (k0_mult7 v42 k0_t7).toNat) ∧
  (∀ k0_t7 : Fin (k0_t7_loop v42).trips, ∀ a, (k0_off54 i v42 k0_t7) a + S1x256x64.size a ≤ S2x2048x64.size a) ∧
  (∀ k0_t7 : Fin (k0_t7_loop v42).trips, ∀ a, (k0_off55 i v42 k0_t7) a + S1x256x128.size a ≤ S2x2048x512.size a) ∧
  (∀ k0_t7 : Fin (k0_t7_loop v42).trips, ∀ (r : Fin 4), ∀ a, (k0_off56 i v42 k0_t7 (BitVec.ofNat 32 r.val)) a + S1x1x1x64.size a ≤ S2x32x4x64.size a) ∧
  (∀ k0_t7 : Fin (k0_t7_loop v42).trips, ∀ a, (k0_off57 i v42 k0_t7) a + S1x256x128.size a ≤ S2x2048x512.size a) ∧
  (∀ k0_t7 : Fin (k0_t7_loop v42).trips, ∀ (r : Fin 4), ∀ a, (k0_off58 i v42 k0_t7 (BitVec.ofNat 32 r.val)) a + S1x1x1x64.size a ≤ S2x32x4x64.size a) ∧
  (∀ k0_t7 : Fin (k0_t7_loop v42).trips, ∀ a, (k0_off59 i v42 k0_t7) a + S1x256x128.size a ≤ S2x2048x512.size a) ∧
  (∀ k0_t7 : Fin (k0_t7_loop v42).trips, ∀ (r : Fin 4), ∀ a, (k0_off60 i v42 k0_t7 (BitVec.ofNat 32 r.val)) a + S1x1x1x64.size a ≤ S2x32x4x64.size a) ∧
  (∀ k0_t7 : Fin (k0_t7_loop v42).trips, ∀ a, (k0_off61 i v42 k0_t7) a + S1x256x128.size a ≤ S2x2048x512.size a) ∧
  (∀ k0_t7 : Fin (k0_t7_loop v42).trips, ∀ (r : Fin 4), ∀ a, (k0_off62 i v42 k0_t7 (BitVec.ofNat 32 r.val)) a + S1x1x1x64.size a ≤ S2x32x4x64.size a) ∧
  (∀ k0_t7 : Fin (k0_t7_loop v42).trips, ∀ a, (k0_off63 v42 k0_t7) a + S1x32x256.size a ≤ S8x32x256.size a) ∧
  ((k0_t8_loop v42).OK) ∧
  (∀ k0_t8 : Fin (k0_t8_loop v42).trips, 256 ∣ (k0_mult8 v42 k0_t8).toNat) ∧
  (∀ k0_t8 : Fin (k0_t8_loop v42).trips, ∀ a, (k0_off64 i v42 k0_t8) a + S1x256x64.size a ≤ S2x2048x64.size a) ∧
  (∀ k0_t8 : Fin (k0_t8_loop v42).trips, ∀ a, (k0_off65 i v42 k0_t8) a + S1x256x128.size a ≤ S2x2048x512.size a) ∧
  (∀ k0_t8 : Fin (k0_t8_loop v42).trips, ∀ (r : Fin 4), ∀ a, (k0_off66 i v42 k0_t8 (BitVec.ofNat 32 r.val)) a + S1x1x1x64.size a ≤ S2x32x4x64.size a) ∧
  (∀ k0_t8 : Fin (k0_t8_loop v42).trips, ∀ a, (k0_off67 i v42 k0_t8) a + S1x256x128.size a ≤ S2x2048x512.size a) ∧
  (∀ k0_t8 : Fin (k0_t8_loop v42).trips, ∀ (r : Fin 4), ∀ a, (k0_off68 i v42 k0_t8 (BitVec.ofNat 32 r.val)) a + S1x1x1x64.size a ≤ S2x32x4x64.size a) ∧
  (∀ k0_t8 : Fin (k0_t8_loop v42).trips, ∀ a, (k0_off69 i v42 k0_t8) a + S1x256x128.size a ≤ S2x2048x512.size a) ∧
  (∀ k0_t8 : Fin (k0_t8_loop v42).trips, ∀ (r : Fin 4), ∀ a, (k0_off70 i v42 k0_t8 (BitVec.ofNat 32 r.val)) a + S1x1x1x64.size a ≤ S2x32x4x64.size a) ∧
  (∀ k0_t8 : Fin (k0_t8_loop v42).trips, ∀ a, (k0_off71 i v42 k0_t8) a + S1x256x128.size a ≤ S2x2048x512.size a) ∧
  (∀ k0_t8 : Fin (k0_t8_loop v42).trips, ∀ (r : Fin 4), ∀ a, (k0_off72 i v42 k0_t8 (BitVec.ofNat 32 r.val)) a + S1x1x1x64.size a ≤ S2x32x4x64.size a) ∧
  (∀ k0_t8 : Fin (k0_t8_loop v42).trips, ∀ a, (k0_off73 v42 k0_t8) a + S1x32x256.size a ≤ S8x32x256.size a) ∧
  ((k0_t9_loop v42).OK) ∧
  (∀ k0_t9 : Fin (k0_t9_loop v42).trips, ∀ a, (k0_off74 v42 k0_t9) a + S1x32x256.size a ≤ S8x32x256.size a) ∧
  ((k0_t10_loop v42).OK) ∧
  (∀ k0_t10 : Fin (k0_t10_loop v42).trips, ∀ a, (k0_off75 v42 k0_t10) a + S1x32x256.size a ≤ S8x32x256.size a) ∧
  ((k0_t11_loop v42).OK) ∧
  (∀ k0_t11 : Fin (k0_t11_loop v42).trips, 256 ∣ (k0_mult9 v42 k0_t11).toNat) ∧
  (∀ k0_t11 : Fin (k0_t11_loop v42).trips, ∀ a, (k0_off76 v42 k0_t11) a + S1x32x256.size a ≤ S8x32x256.size a) ∧
  (∀ k0_t11 : Fin (k0_t11_loop v42).trips, ∀ (r : Fin 4), ∀ a, (k0_off77 i v42 k0_t11 (BitVec.ofNat 32 r.val)) a + S1x1x1x64.size a ≤ S2x32x4x64.size a)
def k0_chk10_1 (i : grid0.Coords) (v42 : BitVec 32) : Prop :=
  (∀ k0_t11 : Fin (k0_t11_loop v42).trips, ∀ a, (k0_off78 i v42 k0_t11) a + S1x256x128.size a ≤ S2x2048x512.size a) ∧
  (∀ k0_t11 : Fin (k0_t11_loop v42).trips, ∀ (r : Fin 4), ∀ a, (k0_off79 i v42 k0_t11 (BitVec.ofNat 32 r.val)) a + S1x1x1x64.size a ≤ S2x32x4x64.size a) ∧
  (∀ k0_t11 : Fin (k0_t11_loop v42).trips, ∀ a, (k0_off80 i v42 k0_t11) a + S1x256x128.size a ≤ S2x2048x512.size a) ∧
  (∀ k0_t11 : Fin (k0_t11_loop v42).trips, ∀ (r : Fin 4), ∀ a, (k0_off81 i v42 k0_t11 (BitVec.ofNat 32 r.val)) a + S1x1x1x64.size a ≤ S2x32x4x64.size a) ∧
  (∀ k0_t11 : Fin (k0_t11_loop v42).trips, ∀ a, (k0_off82 i v42 k0_t11) a + S1x256x128.size a ≤ S2x2048x512.size a) ∧
  (∀ k0_t11 : Fin (k0_t11_loop v42).trips, ∀ (r : Fin 4), ∀ a, (k0_off83 i v42 k0_t11 (BitVec.ofNat 32 r.val)) a + S1x1x1x64.size a ≤ S2x32x4x64.size a) ∧
  (∀ k0_t11 : Fin (k0_t11_loop v42).trips, ∀ a, (k0_off84 i v42 k0_t11) a + S1x256x128.size a ≤ S2x2048x512.size a) ∧
  ((k0_t12_loop v42).OK) ∧
  (∀ k0_t12 : Fin (k0_t12_loop v42).trips, 256 ∣ (k0_mult10 v42 k0_t12).toNat) ∧
  (∀ k0_t12 : Fin (k0_t12_loop v42).trips, ∀ a, (k0_off85 v42 k0_t12) a + S1x32x256.size a ≤ S8x32x256.size a) ∧
  (∀ k0_t12 : Fin (k0_t12_loop v42).trips, ∀ (r : Fin 4), ∀ a, (k0_off86 i v42 k0_t12 (BitVec.ofNat 32 r.val)) a + S1x1x1x64.size a ≤ S2x32x4x64.size a) ∧
  (∀ k0_t12 : Fin (k0_t12_loop v42).trips, ∀ a, (k0_off87 i v42 k0_t12) a + S1x256x128.size a ≤ S2x2048x512.size a) ∧
  (∀ k0_t12 : Fin (k0_t12_loop v42).trips, ∀ (r : Fin 4), ∀ a, (k0_off88 i v42 k0_t12 (BitVec.ofNat 32 r.val)) a + S1x1x1x64.size a ≤ S2x32x4x64.size a) ∧
  (∀ k0_t12 : Fin (k0_t12_loop v42).trips, ∀ a, (k0_off89 i v42 k0_t12) a + S1x256x128.size a ≤ S2x2048x512.size a) ∧
  (∀ k0_t12 : Fin (k0_t12_loop v42).trips, ∀ (r : Fin 4), ∀ a, (k0_off90 i v42 k0_t12 (BitVec.ofNat 32 r.val)) a + S1x1x1x64.size a ≤ S2x32x4x64.size a) ∧
  (∀ k0_t12 : Fin (k0_t12_loop v42).trips, ∀ a, (k0_off91 i v42 k0_t12) a + S1x256x128.size a ≤ S2x2048x512.size a) ∧
  (∀ k0_t12 : Fin (k0_t12_loop v42).trips, ∀ (r : Fin 4), ∀ a, (k0_off92 i v42 k0_t12 (BitVec.ofNat 32 r.val)) a + S1x1x1x64.size a ≤ S2x32x4x64.size a) ∧
  (∀ k0_t12 : Fin (k0_t12_loop v42).trips, ∀ a, (k0_off93 i v42 k0_t12) a + S1x256x128.size a ≤ S2x2048x512.size a)
def k0_chk10 (i : grid0.Coords) (v42 : BitVec 32) : Prop :=
  k0_chk10_0 i v42 ∧
  k0_chk10_1 i v42
theorem k0_t7_ok : ∀ (i : grid0.Coords) (v42 : BitVec 32) (k0_hw10 : k0_chk10 i v42), (k0_t7_loop v42).OK := fun i v42 k0_hw10 => k0_hw10.1.1
theorem k0_mult7_dvd : ∀ (i : grid0.Coords) (v42 : BitVec 32) (k0_hw10 : k0_chk10 i v42) (k0_t7 : Fin (k0_t7_loop v42).trips), 256 ∣ (k0_mult7 v42 k0_t7).toNat := fun i v42 k0_hw10 k0_t7 => k0_hw10.1.2.1 k0_t7
theorem k0_off54_inb : ∀ (i : grid0.Coords) (v42 : BitVec 32) (k0_hw10 : k0_chk10 i v42) (k0_t7 : Fin (k0_t7_loop v42).trips), ∀ a, (k0_off54 i v42 k0_t7) a + S1x256x64.size a ≤ S2x2048x64.size a := fun i v42 k0_hw10 k0_t7 => k0_hw10.1.2.2.1 k0_t7
theorem k0_off55_inb : ∀ (i : grid0.Coords) (v42 : BitVec 32) (k0_hw10 : k0_chk10 i v42) (k0_t7 : Fin (k0_t7_loop v42).trips), ∀ a, (k0_off55 i v42 k0_t7) a + S1x256x128.size a ≤ S2x2048x512.size a := fun i v42 k0_hw10 k0_t7 => k0_hw10.1.2.2.2.1 k0_t7
theorem k0_off56_inb : ∀ (i : grid0.Coords) (v42 : BitVec 32) (k0_hw10 : k0_chk10 i v42) (k0_t7 : Fin (k0_t7_loop v42).trips), ∀ (r : Fin 4), ∀ a, (k0_off56 i v42 k0_t7 (BitVec.ofNat 32 r.val)) a + S1x1x1x64.size a ≤ S2x32x4x64.size a := fun i v42 k0_hw10 k0_t7 r => k0_hw10.1.2.2.2.2.1 k0_t7 r
theorem k0_off57_inb : ∀ (i : grid0.Coords) (v42 : BitVec 32) (k0_hw10 : k0_chk10 i v42) (k0_t7 : Fin (k0_t7_loop v42).trips), ∀ a, (k0_off57 i v42 k0_t7) a + S1x256x128.size a ≤ S2x2048x512.size a := fun i v42 k0_hw10 k0_t7 => k0_hw10.1.2.2.2.2.2.1 k0_t7
theorem k0_off58_inb : ∀ (i : grid0.Coords) (v42 : BitVec 32) (k0_hw10 : k0_chk10 i v42) (k0_t7 : Fin (k0_t7_loop v42).trips), ∀ (r : Fin 4), ∀ a, (k0_off58 i v42 k0_t7 (BitVec.ofNat 32 r.val)) a + S1x1x1x64.size a ≤ S2x32x4x64.size a := fun i v42 k0_hw10 k0_t7 r => k0_hw10.1.2.2.2.2.2.2.1 k0_t7 r
theorem k0_off59_inb : ∀ (i : grid0.Coords) (v42 : BitVec 32) (k0_hw10 : k0_chk10 i v42) (k0_t7 : Fin (k0_t7_loop v42).trips), ∀ a, (k0_off59 i v42 k0_t7) a + S1x256x128.size a ≤ S2x2048x512.size a := fun i v42 k0_hw10 k0_t7 => k0_hw10.1.2.2.2.2.2.2.2.1 k0_t7
theorem k0_off60_inb : ∀ (i : grid0.Coords) (v42 : BitVec 32) (k0_hw10 : k0_chk10 i v42) (k0_t7 : Fin (k0_t7_loop v42).trips), ∀ (r : Fin 4), ∀ a, (k0_off60 i v42 k0_t7 (BitVec.ofNat 32 r.val)) a + S1x1x1x64.size a ≤ S2x32x4x64.size a := fun i v42 k0_hw10 k0_t7 r => k0_hw10.1.2.2.2.2.2.2.2.2.1 k0_t7 r
theorem k0_off61_inb : ∀ (i : grid0.Coords) (v42 : BitVec 32) (k0_hw10 : k0_chk10 i v42) (k0_t7 : Fin (k0_t7_loop v42).trips), ∀ a, (k0_off61 i v42 k0_t7) a + S1x256x128.size a ≤ S2x2048x512.size a := fun i v42 k0_hw10 k0_t7 => k0_hw10.1.2.2.2.2.2.2.2.2.2.1 k0_t7
theorem k0_off62_inb : ∀ (i : grid0.Coords) (v42 : BitVec 32) (k0_hw10 : k0_chk10 i v42) (k0_t7 : Fin (k0_t7_loop v42).trips), ∀ (r : Fin 4), ∀ a, (k0_off62 i v42 k0_t7 (BitVec.ofNat 32 r.val)) a + S1x1x1x64.size a ≤ S2x32x4x64.size a := fun i v42 k0_hw10 k0_t7 r => k0_hw10.1.2.2.2.2.2.2.2.2.2.2.1 k0_t7 r
theorem k0_off63_inb : ∀ (i : grid0.Coords) (v42 : BitVec 32) (k0_hw10 : k0_chk10 i v42) (k0_t7 : Fin (k0_t7_loop v42).trips), ∀ a, (k0_off63 v42 k0_t7) a + S1x32x256.size a ≤ S8x32x256.size a := fun i v42 k0_hw10 k0_t7 => k0_hw10.1.2.2.2.2.2.2.2.2.2.2.2.1 k0_t7
theorem k0_t8_ok : ∀ (i : grid0.Coords) (v42 : BitVec 32) (k0_hw10 : k0_chk10 i v42), (k0_t8_loop v42).OK := fun i v42 k0_hw10 => k0_hw10.1.2.2.2.2.2.2.2.2.2.2.2.2.1
theorem k0_mult8_dvd : ∀ (i : grid0.Coords) (v42 : BitVec 32) (k0_hw10 : k0_chk10 i v42) (k0_t8 : Fin (k0_t8_loop v42).trips), 256 ∣ (k0_mult8 v42 k0_t8).toNat := fun i v42 k0_hw10 k0_t8 => k0_hw10.1.2.2.2.2.2.2.2.2.2.2.2.2.2.1 k0_t8
theorem k0_off64_inb : ∀ (i : grid0.Coords) (v42 : BitVec 32) (k0_hw10 : k0_chk10 i v42) (k0_t8 : Fin (k0_t8_loop v42).trips), ∀ a, (k0_off64 i v42 k0_t8) a + S1x256x64.size a ≤ S2x2048x64.size a := fun i v42 k0_hw10 k0_t8 => k0_hw10.1.2.2.2.2.2.2.2.2.2.2.2.2.2.2.1 k0_t8
theorem k0_off65_inb : ∀ (i : grid0.Coords) (v42 : BitVec 32) (k0_hw10 : k0_chk10 i v42) (k0_t8 : Fin (k0_t8_loop v42).trips), ∀ a, (k0_off65 i v42 k0_t8) a + S1x256x128.size a ≤ S2x2048x512.size a := fun i v42 k0_hw10 k0_t8 => k0_hw10.1.2.2.2.2.2.2.2.2.2.2.2.2.2.2.2.1 k0_t8
theorem k0_off66_inb : ∀ (i : grid0.Coords) (v42 : BitVec 32) (k0_hw10 : k0_chk10 i v42) (k0_t8 : Fin (k0_t8_loop v42).trips), ∀ (r : Fin 4), ∀ a, (k0_off66 i v42 k0_t8 (BitVec.ofNat 32 r.val)) a + S1x1x1x64.size a ≤ S2x32x4x64.size a := fun i v42 k0_hw10 k0_t8 r => k0_hw10.1.2.2.2.2.2.2.2.2.2.2.2.2.2.2.2.2.1 k0_t8 r
theorem k0_off67_inb : ∀ (i : grid0.Coords) (v42 : BitVec 32) (k0_hw10 : k0_chk10 i v42) (k0_t8 : Fin (k0_t8_loop v42).trips), ∀ a, (k0_off67 i v42 k0_t8) a + S1x256x128.size a ≤ S2x2048x512.size a := fun i v42 k0_hw10 k0_t8 => k0_hw10.1.2.2.2.2.2.2.2.2.2.2.2.2.2.2.2.2.2.1 k0_t8
theorem k0_off68_inb : ∀ (i : grid0.Coords) (v42 : BitVec 32) (k0_hw10 : k0_chk10 i v42) (k0_t8 : Fin (k0_t8_loop v42).trips), ∀ (r : Fin 4), ∀ a, (k0_off68 i v42 k0_t8 (BitVec.ofNat 32 r.val)) a + S1x1x1x64.size a ≤ S2x32x4x64.size a := fun i v42 k0_hw10 k0_t8 r => k0_hw10.1.2.2.2.2.2.2.2.2.2.2.2.2.2.2.2.2.2.2.1 k0_t8 r
theorem k0_off69_inb : ∀ (i : grid0.Coords) (v42 : BitVec 32) (k0_hw10 : k0_chk10 i v42) (k0_t8 : Fin (k0_t8_loop v42).trips), ∀ a, (k0_off69 i v42 k0_t8) a + S1x256x128.size a ≤ S2x2048x512.size a := fun i v42 k0_hw10 k0_t8 => k0_hw10.1.2.2.2.2.2.2.2.2.2.2.2.2.2.2.2.2.2.2.2.1 k0_t8
theorem k0_off70_inb : ∀ (i : grid0.Coords) (v42 : BitVec 32) (k0_hw10 : k0_chk10 i v42) (k0_t8 : Fin (k0_t8_loop v42).trips), ∀ (r : Fin 4), ∀ a, (k0_off70 i v42 k0_t8 (BitVec.ofNat 32 r.val)) a + S1x1x1x64.size a ≤ S2x32x4x64.size a := fun i v42 k0_hw10 k0_t8 r => k0_hw10.1.2.2.2.2.2.2.2.2.2.2.2.2.2.2.2.2.2.2.2.2.1 k0_t8 r
theorem k0_off71_inb : ∀ (i : grid0.Coords) (v42 : BitVec 32) (k0_hw10 : k0_chk10 i v42) (k0_t8 : Fin (k0_t8_loop v42).trips), ∀ a, (k0_off71 i v42 k0_t8) a + S1x256x128.size a ≤ S2x2048x512.size a := fun i v42 k0_hw10 k0_t8 => k0_hw10.1.2.2.2.2.2.2.2.2.2.2.2.2.2.2.2.2.2.2.2.2.2.1 k0_t8
theorem k0_off72_inb : ∀ (i : grid0.Coords) (v42 : BitVec 32) (k0_hw10 : k0_chk10 i v42) (k0_t8 : Fin (k0_t8_loop v42).trips), ∀ (r : Fin 4), ∀ a, (k0_off72 i v42 k0_t8 (BitVec.ofNat 32 r.val)) a + S1x1x1x64.size a ≤ S2x32x4x64.size a := fun i v42 k0_hw10 k0_t8 r => k0_hw10.1.2.2.2.2.2.2.2.2.2.2.2.2.2.2.2.2.2.2.2.2.2.2.1 k0_t8 r
theorem k0_off73_inb : ∀ (i : grid0.Coords) (v42 : BitVec 32) (k0_hw10 : k0_chk10 i v42) (k0_t8 : Fin (k0_t8_loop v42).trips), ∀ a, (k0_off73 v42 k0_t8) a + S1x32x256.size a ≤ S8x32x256.size a := fun i v42 k0_hw10 k0_t8 => k0_hw10.1.2.2.2.2.2.2.2.2.2.2.2.2.2.2.2.2.2.2.2.2.2.2.2.1 k0_t8
theorem k0_t9_ok : ∀ (i : grid0.Coords) (v42 : BitVec 32) (k0_hw10 : k0_chk10 i v42), (k0_t9_loop v42).OK := fun i v42 k0_hw10 => k0_hw10.1.2.2.2.2.2.2.2.2.2.2.2.2.2.2.2.2.2.2.2.2.2.2.2.2.1
theorem k0_off74_inb : ∀ (i : grid0.Coords) (v42 : BitVec 32) (k0_hw10 : k0_chk10 i v42) (k0_t9 : Fin (k0_t9_loop v42).trips), ∀ a, (k0_off74 v42 k0_t9) a + S1x32x256.size a ≤ S8x32x256.size a := fun i v42 k0_hw10 k0_t9 => k0_hw10.1.2.2.2.2.2.2.2.2.2.2.2.2.2.2.2.2.2.2.2.2.2.2.2.2.2.1 k0_t9
theorem k0_t10_ok : ∀ (i : grid0.Coords) (v42 : BitVec 32) (k0_hw10 : k0_chk10 i v42), (k0_t10_loop v42).OK := fun i v42 k0_hw10 => k0_hw10.1.2.2.2.2.2.2.2.2.2.2.2.2.2.2.2.2.2.2.2.2.2.2.2.2.2.2.1
theorem k0_off75_inb : ∀ (i : grid0.Coords) (v42 : BitVec 32) (k0_hw10 : k0_chk10 i v42) (k0_t10 : Fin (k0_t10_loop v42).trips), ∀ a, (k0_off75 v42 k0_t10) a + S1x32x256.size a ≤ S8x32x256.size a := fun i v42 k0_hw10 k0_t10 => k0_hw10.1.2.2.2.2.2.2.2.2.2.2.2.2.2.2.2.2.2.2.2.2.2.2.2.2.2.2.2.1 k0_t10
theorem k0_t11_ok : ∀ (i : grid0.Coords) (v42 : BitVec 32) (k0_hw10 : k0_chk10 i v42), (k0_t11_loop v42).OK := fun i v42 k0_hw10 => k0_hw10.1.2.2.2.2.2.2.2.2.2.2.2.2.2.2.2.2.2.2.2.2.2.2.2.2.2.2.2.2.1
theorem k0_mult9_dvd : ∀ (i : grid0.Coords) (v42 : BitVec 32) (k0_hw10 : k0_chk10 i v42) (k0_t11 : Fin (k0_t11_loop v42).trips), 256 ∣ (k0_mult9 v42 k0_t11).toNat := fun i v42 k0_hw10 k0_t11 => k0_hw10.1.2.2.2.2.2.2.2.2.2.2.2.2.2.2.2.2.2.2.2.2.2.2.2.2.2.2.2.2.2.1 k0_t11
theorem k0_off76_inb : ∀ (i : grid0.Coords) (v42 : BitVec 32) (k0_hw10 : k0_chk10 i v42) (k0_t11 : Fin (k0_t11_loop v42).trips), ∀ a, (k0_off76 v42 k0_t11) a + S1x32x256.size a ≤ S8x32x256.size a := fun i v42 k0_hw10 k0_t11 => k0_hw10.1.2.2.2.2.2.2.2.2.2.2.2.2.2.2.2.2.2.2.2.2.2.2.2.2.2.2.2.2.2.2.1 k0_t11
theorem k0_off77_inb : ∀ (i : grid0.Coords) (v42 : BitVec 32) (k0_hw10 : k0_chk10 i v42) (k0_t11 : Fin (k0_t11_loop v42).trips), ∀ (r : Fin 4), ∀ a, (k0_off77 i v42 k0_t11 (BitVec.ofNat 32 r.val)) a + S1x1x1x64.size a ≤ S2x32x4x64.size a := fun i v42 k0_hw10 k0_t11 r => k0_hw10.1.2.2.2.2.2.2.2.2.2.2.2.2.2.2.2.2.2.2.2.2.2.2.2.2.2.2.2.2.2.2.2 k0_t11 r
theorem k0_off78_inb : ∀ (i : grid0.Coords) (v42 : BitVec 32) (k0_hw10 : k0_chk10 i v42) (k0_t11 : Fin (k0_t11_loop v42).trips), ∀ a, (k0_off78 i v42 k0_t11) a + S1x256x128.size a ≤ S2x2048x512.size a := fun i v42 k0_hw10 k0_t11 => k0_hw10.2.1 k0_t11
theorem k0_off79_inb : ∀ (i : grid0.Coords) (v42 : BitVec 32) (k0_hw10 : k0_chk10 i v42) (k0_t11 : Fin (k0_t11_loop v42).trips), ∀ (r : Fin 4), ∀ a, (k0_off79 i v42 k0_t11 (BitVec.ofNat 32 r.val)) a + S1x1x1x64.size a ≤ S2x32x4x64.size a := fun i v42 k0_hw10 k0_t11 r => k0_hw10.2.2.1 k0_t11 r
theorem k0_off80_inb : ∀ (i : grid0.Coords) (v42 : BitVec 32) (k0_hw10 : k0_chk10 i v42) (k0_t11 : Fin (k0_t11_loop v42).trips), ∀ a, (k0_off80 i v42 k0_t11) a + S1x256x128.size a ≤ S2x2048x512.size a := fun i v42 k0_hw10 k0_t11 => k0_hw10.2.2.2.1 k0_t11
theorem k0_off81_inb : ∀ (i : grid0.Coords) (v42 : BitVec 32) (k0_hw10 : k0_chk10 i v42) (k0_t11 : Fin (k0_t11_loop v42).trips), ∀ (r : Fin 4), ∀ a, (k0_off81 i v42 k0_t11 (BitVec.ofNat 32 r.val)) a + S1x1x1x64.size a ≤ S2x32x4x64.size a := fun i v42 k0_hw10 k0_t11 r => k0_hw10.2.2.2.2.1 k0_t11 r
theorem k0_off82_inb : ∀ (i : grid0.Coords) (v42 : BitVec 32) (k0_hw10 : k0_chk10 i v42) (k0_t11 : Fin (k0_t11_loop v42).trips), ∀ a, (k0_off82 i v42 k0_t11) a + S1x256x128.size a ≤ S2x2048x512.size a := fun i v42 k0_hw10 k0_t11 => k0_hw10.2.2.2.2.2.1 k0_t11
theorem k0_off83_inb : ∀ (i : grid0.Coords) (v42 : BitVec 32) (k0_hw10 : k0_chk10 i v42) (k0_t11 : Fin (k0_t11_loop v42).trips), ∀ (r : Fin 4), ∀ a, (k0_off83 i v42 k0_t11 (BitVec.ofNat 32 r.val)) a + S1x1x1x64.size a ≤ S2x32x4x64.size a := fun i v42 k0_hw10 k0_t11 r => k0_hw10.2.2.2.2.2.2.1 k0_t11 r
theorem k0_off84_inb : ∀ (i : grid0.Coords) (v42 : BitVec 32) (k0_hw10 : k0_chk10 i v42) (k0_t11 : Fin (k0_t11_loop v42).trips), ∀ a, (k0_off84 i v42 k0_t11) a + S1x256x128.size a ≤ S2x2048x512.size a := fun i v42 k0_hw10 k0_t11 => k0_hw10.2.2.2.2.2.2.2.1 k0_t11
theorem k0_t12_ok : ∀ (i : grid0.Coords) (v42 : BitVec 32) (k0_hw10 : k0_chk10 i v42), (k0_t12_loop v42).OK := fun i v42 k0_hw10 => k0_hw10.2.2.2.2.2.2.2.2.1
theorem k0_mult10_dvd : ∀ (i : grid0.Coords) (v42 : BitVec 32) (k0_hw10 : k0_chk10 i v42) (k0_t12 : Fin (k0_t12_loop v42).trips), 256 ∣ (k0_mult10 v42 k0_t12).toNat := fun i v42 k0_hw10 k0_t12 => k0_hw10.2.2.2.2.2.2.2.2.2.1 k0_t12
theorem k0_off85_inb : ∀ (i : grid0.Coords) (v42 : BitVec 32) (k0_hw10 : k0_chk10 i v42) (k0_t12 : Fin (k0_t12_loop v42).trips), ∀ a, (k0_off85 v42 k0_t12) a + S1x32x256.size a ≤ S8x32x256.size a := fun i v42 k0_hw10 k0_t12 => k0_hw10.2.2.2.2.2.2.2.2.2.2.1 k0_t12
theorem k0_off86_inb : ∀ (i : grid0.Coords) (v42 : BitVec 32) (k0_hw10 : k0_chk10 i v42) (k0_t12 : Fin (k0_t12_loop v42).trips), ∀ (r : Fin 4), ∀ a, (k0_off86 i v42 k0_t12 (BitVec.ofNat 32 r.val)) a + S1x1x1x64.size a ≤ S2x32x4x64.size a := fun i v42 k0_hw10 k0_t12 r => k0_hw10.2.2.2.2.2.2.2.2.2.2.2.1 k0_t12 r
theorem k0_off87_inb : ∀ (i : grid0.Coords) (v42 : BitVec 32) (k0_hw10 : k0_chk10 i v42) (k0_t12 : Fin (k0_t12_loop v42).trips), ∀ a, (k0_off87 i v42 k0_t12) a + S1x256x128.size a ≤ S2x2048x512.size a := fun i v42 k0_hw10 k0_t12 => k0_hw10.2.2.2.2.2.2.2.2.2.2.2.2.1 k0_t12
theorem k0_off88_inb : ∀ (i : grid0.Coords) (v42 : BitVec 32) (k0_hw10 : k0_chk10 i v42) (k0_t12 : Fin (k0_t12_loop v42).trips), ∀ (r : Fin 4), ∀ a, (k0_off88 i v42 k0_t12 (BitVec.ofNat 32 r.val)) a + S1x1x1x64.size a ≤ S2x32x4x64.size a := fun i v42 k0_hw10 k0_t12 r => k0_hw10.2.2.2.2.2.2.2.2.2.2.2.2.2.1 k0_t12 r
theorem k0_off89_inb : ∀ (i : grid0.Coords) (v42 : BitVec 32) (k0_hw10 : k0_chk10 i v42) (k0_t12 : Fin (k0_t12_loop v42).trips), ∀ a, (k0_off89 i v42 k0_t12) a + S1x256x128.size a ≤ S2x2048x512.size a := fun i v42 k0_hw10 k0_t12 => k0_hw10.2.2.2.2.2.2.2.2.2.2.2.2.2.2.1 k0_t12
theorem k0_off90_inb : ∀ (i : grid0.Coords) (v42 : BitVec 32) (k0_hw10 : k0_chk10 i v42) (k0_t12 : Fin (k0_t12_loop v42).trips), ∀ (r : Fin 4), ∀ a, (k0_off90 i v42 k0_t12 (BitVec.ofNat 32 r.val)) a + S1x1x1x64.size a ≤ S2x32x4x64.size a := fun i v42 k0_hw10 k0_t12 r => k0_hw10.2.2.2.2.2.2.2.2.2.2.2.2.2.2.2.1 k0_t12 r
theorem k0_off91_inb : ∀ (i : grid0.Coords) (v42 : BitVec 32) (k0_hw10 : k0_chk10 i v42) (k0_t12 : Fin (k0_t12_loop v42).trips), ∀ a, (k0_off91 i v42 k0_t12) a + S1x256x128.size a ≤ S2x2048x512.size a := fun i v42 k0_hw10 k0_t12 => k0_hw10.2.2.2.2.2.2.2.2.2.2.2.2.2.2.2.2.1 k0_t12
theorem k0_off92_inb : ∀ (i : grid0.Coords) (v42 : BitVec 32) (k0_hw10 : k0_chk10 i v42) (k0_t12 : Fin (k0_t12_loop v42).trips), ∀ (r : Fin 4), ∀ a, (k0_off92 i v42 k0_t12 (BitVec.ofNat 32 r.val)) a + S1x1x1x64.size a ≤ S2x32x4x64.size a := fun i v42 k0_hw10 k0_t12 r => k0_hw10.2.2.2.2.2.2.2.2.2.2.2.2.2.2.2.2.2.1 k0_t12 r
theorem k0_off93_inb : ∀ (i : grid0.Coords) (v42 : BitVec 32) (k0_hw10 : k0_chk10 i v42) (k0_t12 : Fin (k0_t12_loop v42).trips), ∀ a, (k0_off93 i v42 k0_t12) a + S1x256x128.size a ≤ S2x2048x512.size a := fun i v42 k0_hw10 k0_t12 => k0_hw10.2.2.2.2.2.2.2.2.2.2.2.2.2.2.2.2.2.2 k0_t12

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S128x1x32x512 : Shape := ⟨4, ![128, 1, 32, 512]⟩
abbrev S128x1x32x64 : Shape := ⟨4, ![128, 1, 32, 64]⟩
abbrev S128x1x512 : Shape := ⟨3, ![128, 1, 512]⟩
abbrev S128x1x64 : Shape := ⟨3, ![128, 1, 64]⟩
abbrev S5120x64x512 : Shape := ⟨3, ![5120, 64, 512]⟩
abbrev S5120x64x4 : Shape := ⟨3, ![5120, 64, 4]⟩
abbrev S5120x64x64 : Shape := ⟨3, ![5120, 64, 64]⟩
abbrev S128x32 : Shape := ⟨2, ![128, 32]⟩
abbrev S128 : Shape := ⟨1, ![128]⟩
abbrev S_ : Shape := ⟨0, ![]⟩
abbrev S128x32x1 : Shape := ⟨3, ![128, 32, 1]⟩
abbrev S128x32x64x512 : Shape := ⟨4, ![128, 32, 64, 512]⟩
abbrev S128x2048x512 : Shape := ⟨3, ![128, 2048, 512]⟩
abbrev S128x32x64x4 : Shape := ⟨4, ![128, 32, 64, 4]⟩
abbrev S128x2048x4 : Shape := ⟨3, ![128, 2048, 4]⟩
abbrev S128x32x64x64 : Shape := ⟨4, ![128, 32, 64, 64]⟩
abbrev S128x2048x64 : Shape := ⟨3, ![128, 2048, 64]⟩
abbrev S4x128x2048 : Shape := ⟨3, ![4, 128, 2048]⟩
abbrev S128x2048x128 : Shape := ⟨3, ![128, 2048, 128]⟩
abbrev S128x1x32x128 : Shape := ⟨4, ![128, 1, 32, 128]⟩
abbrev S128x1x32x2048 : Shape := ⟨4, ![128, 1, 32, 2048]⟩
abbrev S1x128x2048 : Shape := ⟨3, ![1, 128, 2048]⟩
abbrev S128x2048 : Shape := ⟨2, ![128, 2048]⟩
abbrev S128x1x1x2048 : Shape := ⟨4, ![128, 1, 1, 2048]⟩
abbrev S128x1x32x1 : Shape := ⟨4, ![128, 1, 32, 1]⟩
abbrev S2048 : Shape := ⟨1, ![2048]⟩
abbrev S1x2048 : Shape := ⟨2, ![1, 2048]⟩
abbrev S128x1 : Shape := ⟨2, ![128, 1]⟩
abbrev S1 : Shape := ⟨1, ![1]⟩
abbrev S1x1 : Shape := ⟨2, ![1, 1]⟩
abbrev S1x1x1x1 : Shape := ⟨4, ![1, 1, 1, 1]⟩
abbrev S128x1x32 : Shape := ⟨3, ![128, 1, 32]⟩
abbrev S128x32x512 : Shape := ⟨3, ![128, 32, 512]⟩

abbrev nBuf : Space → Nat
  | .hbm => 164
  | .vmem => 2
  | .smem => 0
  | _ => 0

abbrev hbmTy0_0 (i : Nat) : BufTy := match i % 128 with
  | 0 => ⟨S128x1x32x512, .bf16⟩
  | 1 => ⟨S128x1x32x64, .bf16⟩
  | 2 => ⟨S128x1x512, .bf16⟩
  | 3 => ⟨S128x1x64, .bf16⟩
  | 4 => ⟨S5120x64x512, .fp8e4m3⟩
  | 5 => ⟨S5120x64x4, .f32⟩
  | 6 => ⟨S5120x64x64, .bf16⟩
  | 7 => ⟨S128x32, .i32⟩
  | 8 => ⟨S128, .i32⟩
  | 9 => ⟨S5120x64x512, .bf16⟩
  | 10 => ⟨S_, .i32⟩
  | 11 => ⟨S128x32, .i32⟩
  | 12 => ⟨S128x32, .i1⟩
  | 13 => ⟨S_, .i32⟩
  | 14 => ⟨S128x32, .i32⟩
  | 15 => ⟨S128x32, .i32⟩
  | 16 => ⟨S128x32, .i32⟩
  | 17 => ⟨S128x32x1, .i32⟩
  | 18 => ⟨S128x32x64x512, .bf16⟩
  | 19 => ⟨S128x2048x512, .bf16⟩
  | 20 => ⟨S_, .i32⟩
  | 21 => ⟨S128x32, .i32⟩
  | 22 => ⟨S128x32, .i1⟩
  | 23 => ⟨S_, .i32⟩
  | 24 => ⟨S128x32, .i32⟩
  | 25 => ⟨S128x32, .i32⟩
  | 26 => ⟨S128x32, .i32⟩
  | 27 => ⟨S128x32x1, .i32⟩
  | 28 => ⟨S128x32x64x4, .f32⟩
  | 29 => ⟨S128x2048x4, .f32⟩
  | 30 => ⟨S_, .i32⟩
  | 31 => ⟨S128x32, .i32⟩
  | 32 => ⟨S128x32, .i1⟩
  | 33 => ⟨S_, .i32⟩
  | 34 => ⟨S128x32, .i32⟩
  | 35 => ⟨S128x32, .i32⟩
  | 36 => ⟨S128x32, .i32⟩
  | 37 => ⟨S128x32x1, .i32⟩
  | 38 => ⟨S128x32x64x64, .bf16⟩
  | 39 => ⟨S128x2048x64, .bf16⟩
  | 40 => ⟨S4x128x2048, .f32⟩
  | 41 => ⟨S4x128x2048, .bf16⟩
  | 42 => ⟨S128x2048x128, .bf16⟩
  | 43 => ⟨S128x2048x128, .bf16⟩
  | 44 => ⟨S128x2048x128, .bf16⟩
  | 45 => ⟨S128x2048x128, .bf16⟩
  | 46 => ⟨S128x1x32x128, .bf16⟩
  | 47 => ⟨S128x1x32x2048, .f32⟩
  | 48 => ⟨S1x128x2048, .f32⟩
  | 49 => ⟨S128x2048, .f32⟩
  | 50 => ⟨S128x1x1x2048, .f32⟩
  | 51 => ⟨S128x1x32x2048, .f32⟩
  | 52 => ⟨S128x1x32x2048, .f32⟩
  | 53 => ⟨S128x1x32x128, .bf16⟩
  | 54 => ⟨S128x1x32x2048, .f32⟩
  | 55 => ⟨S1x128x2048, .f32⟩
  | 56 => ⟨S128x2048, .f32⟩
  | 57 => ⟨S128x1x1x2048, .f32⟩
  | 58 => ⟨S128x1x32x2048, .f32⟩
  | 59 => ⟨S128x1x32x2048, .f32⟩
  | 60 => ⟨S128x1x32x2048, .f32⟩
  | 61 => ⟨S128x1x32x128, .bf16⟩
  | 62 => ⟨S128x1x32x2048, .f32⟩
  | 63 => ⟨S1x128x2048, .f32⟩
  | 64 => ⟨S128x2048, .f32⟩
  | 65 => ⟨S128x1x1x2048, .f32⟩
  | 66 => ⟨S128x1x32x2048, .f32⟩
  | 67 => ⟨S128x1x32x2048, .f32⟩
  | 68 => ⟨S128x1x32x2048, .f32⟩
  | 69 => ⟨S128x1x32x128, .bf16⟩
  | 70 => ⟨S128x1x32x2048, .f32⟩
  | 71 => ⟨S1x128x2048, .f32⟩
  | 72 => ⟨S128x2048, .f32⟩
  | 73 => ⟨S128x1x1x2048, .f32⟩
  | 74 => ⟨S128x1x32x2048, .f32⟩
  | 75 => ⟨S128x1x32x2048, .f32⟩
  | 76 => ⟨S128x1x32x2048, .f32⟩
  | 77 => ⟨S128x1x32x2048, .f32⟩
  | 78 => ⟨S128x1x32x2048, .f32⟩
  | 79 => ⟨S_, .f32⟩
  | 80 => ⟨S128x1x32x2048, .f32⟩
  | 81 => ⟨S128x1x32x2048, .f32⟩
  | 82 => ⟨S128x1x32x1, .f32⟩
  | 83 => ⟨S128x1x32x1, .f32⟩
  | 84 => ⟨S128x1x32x1, .f32⟩
  | 85 => ⟨S_, .f32⟩
  | 86 => ⟨S128x1x32x1, .f32⟩
  | 87 => ⟨S128x1x32x1, .f32⟩
  | 88 => ⟨S2048, .i32⟩
  | 89 => ⟨S1x2048, .i32⟩
  | 90 => ⟨S128x1, .i32⟩
  | 91 => ⟨S128x2048, .i32⟩
  | 92 => ⟨S128x2048, .i32⟩
  | 93 => ⟨S128x2048, .i1⟩
  | 94 => ⟨S1, .i32⟩
  | 95 => ⟨S1x1, .i32⟩
  | 96 => ⟨S1, .i32⟩
  | 97 => ⟨S1x1, .i32⟩
  | 98 => ⟨S1x1, .i1⟩
  | 99 => ⟨S128x1x1x2048, .i1⟩
  | 100 => ⟨S_, .f32⟩
  | 101 => ⟨S_, .f32⟩
  | 102 => ⟨S128x1x32x2048, .i1⟩
  | 103 => ⟨S128x1x32x2048, .f32⟩
  | 104 => ⟨S128x1x32x2048, .f32⟩
  | 105 => ⟨S1x1x1x1, .i1⟩
  | 106 => ⟨S_, .f32⟩
  | 107 => ⟨S_, .f32⟩
  | 108 => ⟨S128x1x32x1, .i1⟩
  | 109 => ⟨S128x1x32x1, .f32⟩
  | 110 => ⟨S128x1x32x1, .f32⟩
  | 111 => ⟨S_, .f32⟩
  | 112 => ⟨S128x1x32, .f32⟩
  | 113 => ⟨S128x1x32x1, .f32⟩
  | 114 => ⟨S_, .f32⟩
  | 115 => ⟨S128x1x32, .f32⟩
  | 116 => ⟨S128x1x32x1, .f32⟩
  | 117 => ⟨S128x1x32x1, .f32⟩
  | 118 => ⟨S128x1x32x2048, .f32⟩
  | 119 => ⟨S128x1x32x2048, .f32⟩
  | 120 => ⟨S128x1x32x2048, .f32⟩
  | 121 => ⟨S128x1x32x1, .f32⟩
  | 122 => ⟨S128x1x32x1, .f32⟩
  | 123 => ⟨S_, .f32⟩
  | 124 => ⟨S128x1x32, .f32⟩
  | 125 => ⟨S128x1x32x1, .f32⟩
  | 126 => ⟨S_, .f32⟩
  | 127 => ⟨S128x1x32, .f32⟩
  | _ => ⟨S128x1x32x512, .bf16⟩

abbrev hbmTy0_1 (i : Nat) : BufTy := match i % 128 with
  | 0 => ⟨S128x1x32x1, .f32⟩
  | 1 => ⟨S128x1x32x1, .f32⟩
  | 2 => ⟨S128x1x32x2048, .f32⟩
  | 3 => ⟨S128x1x32x2048, .f32⟩
  | 4 => ⟨S128x1x32x2048, .bf16⟩
  | 5 => ⟨S128x1x32x1, .f32⟩
  | 6 => ⟨S128x1x32x1, .bf16⟩
  | 7 => ⟨S1x128x2048, .bf16⟩
  | 8 => ⟨S128x2048, .bf16⟩
  | 9 => ⟨S128x1x1x2048, .bf16⟩
  | 10 => ⟨S128x1x32x2048, .bf16⟩
  | 11 => ⟨S128x1x32x2048, .bf16⟩
  | 12 => ⟨S128x1x32x128, .f32⟩
  | 13 => ⟨S1x128x2048, .bf16⟩
  | 14 => ⟨S128x2048, .bf16⟩
  | 15 => ⟨S128x1x1x2048, .bf16⟩
  | 16 => ⟨S128x1x32x2048, .bf16⟩
  | 17 => ⟨S128x1x32x2048, .bf16⟩
  | 18 => ⟨S128x1x32x128, .f32⟩
  | 19 => ⟨S1x128x2048, .bf16⟩
  | 20 => ⟨S128x2048, .bf16⟩
  | 21 => ⟨S128x1x1x2048, .bf16⟩
  | 22 => ⟨S128x1x32x2048, .bf16⟩
  | 23 => ⟨S128x1x32x2048, .bf16⟩
  | 24 => ⟨S128x1x32x128, .f32⟩
  | 25 => ⟨S1x128x2048, .bf16⟩
  | 26 => ⟨S128x2048, .bf16⟩
  | 27 => ⟨S128x1x1x2048, .bf16⟩
  | 28 => ⟨S128x1x32x2048, .bf16⟩
  | 29 => ⟨S128x1x32x2048, .bf16⟩
  | 30 => ⟨S128x1x32x128, .f32⟩
  | 31 => ⟨S128x1x32x512, .f32⟩
  | 32 => ⟨S128x1x32x512, .f32⟩
  | 33 => ⟨S128x1x32x512, .f32⟩
  | 34 => ⟨S128x1x32x512, .bf16⟩
  | 35 => ⟨S128x32x512, .bf16⟩
  | _ => ⟨S128x1x32x512, .bf16⟩

abbrev hbmTy (i : Nat) : BufTy := match i / 128 with
  | 0 => hbmTy0_0 i
  | 1 => hbmTy0_1 i
  | _ => ⟨S128x1x32x512, .bf16⟩

abbrev bufTy : (tb : Table) → Fin (tcTables nBuf tb) → BufTy
  | .hbm, ⟨i, _⟩ => hbmTy i
  | .local _ .vmem, ⟨0, _⟩ => ⟨S5120x64x512, .fp8e4m3⟩
  | .local _ .vmem, ⟨1, _⟩ => ⟨S5120x64x512, .bf16⟩
  | _, _ => ⟨S128x1x32x512, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_5 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_6 : Ref sig .tc := ⟨.hbm, 100, rfl⟩
abbrev main_call0_v0 : Ref sig .tc := ⟨.hbm, 101, rfl⟩
abbrev main_call0_v1 : Ref sig .tc := ⟨.hbm, 102, rfl⟩
abbrev main_call0_v2 : Ref sig .tc := ⟨.hbm, 103, rfl⟩
abbrev main_v83 : Ref sig .tc := ⟨.hbm, 104, rfl⟩
abbrev main_v84 : Ref sig .tc := ⟨.hbm, 105, rfl⟩
abbrev main_cst_7 : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_v85 : Ref sig .tc := ⟨.hbm, 110, rfl⟩
abbrev main_cst_8 : Ref sig .tc := ⟨.hbm, 111, rfl⟩
abbrev main_v86 : Ref sig .tc := ⟨.hbm, 112, rfl⟩
abbrev main_v87 : Ref sig .tc := ⟨.hbm, 113, rfl⟩
abbrev main_cst_9 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_10 : Ref sig .tc := ⟨.hbm, 123, rfl⟩
abbrev main_v96 : Ref sig .tc := ⟨.hbm, 124, rfl⟩
abbrev main_v97 : Ref sig .tc := ⟨.hbm, 125, rfl⟩
abbrev main_cst_11 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S5120x64x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Words.lean ====
/-
  How often the kernel's loops run. The kernel computes a sequence's number of blocks of 256 positions as
  (length + 256 - 1) floor-divided by 256, by the usual chain of signed operations on 32-bit words. The copy loops
  run 4 times that number, the compute loops run that number, and the remainder loop behind each of them never runs.
  Everything here is about words only and does not depend on a program.
-/
module

public import Idealize.ShloMosaic.Lib.PageRing.Trips

@[expose] public section

namespace Cert.Words

open Idealize.ShloMosaic Idealize.ShloMosaic.Affine Idealize.ShloMosaic.PageRing

/-- The length plus 255. -/
@[reducible] def xW (v : BitVec 32) : BitVec 32 := Scalar.subi (Scalar.addi v 256#32) 1#32

/-- The number of blocks of 256 positions, as the kernel computes it. -/
@[reducible] def nbW (v : BitVec 32) : BitVec 32 :=
  Scalar.select
    (Scalar.andi
      (Scalar.cmpi .ne (Scalar.subi (Scalar.extui (Scalar.cmpi .sgt (xW v) 0#32)) (Scalar.extui (Scalar.cmpi .slt (xW v) 0#32)))
        (Scalar.subi (Scalar.extui (Scalar.cmpi .sgt 256#32 0#32)) (Scalar.extui (Scalar.cmpi .slt 256#32 0#32))))
      (Scalar.cmpi .ne (Scalar.remsi (xW v) 256#32) 0#32))
    (Scalar.subi (Scalar.divsi (xW v) 256#32) 1#32) (Scalar.divsi (xW v) 256#32)

/-- A loop from zero to a count word by steps of one. -/
@[reducible] def liveLoop (x : BitVec 32) : Scf.Loop 32 :=
  ⟨0#32, Scalar.addi 0#32 (Scalar.muli (Scalar.divsi (Scalar.subi x 0#32) 1#32) 1#32), 1#32⟩

/-- The remainder loop behind it. -/
@[reducible] def deadLoop (x : BitVec 32) : Scf.Loop 32 :=
  ⟨Scalar.addi 0#32 (Scalar.muli (Scalar.divsi (Scalar.subi x 0#32) 1#32) 1#32), Scalar.addi 0#32 (Scalar.subi x 0#32), 1#32⟩

/-- The bounds of a remainder loop are one word. -/
theorem deadLoop_lb_eq (x : BitVec 32) : (deadLoop x).lb = (deadLoop x).ub := by
  show Scalar.addi 0#32 (Scalar.muli (Scalar.divsi (Scalar.subi x 0#32) 1#32) 1#32) = Scalar.addi 0#32 (Scalar.subi x 0#32)
  simp only [Scalar.muli, Scalar.divsi, IntOp.muli, WordArith.divsi_one, BitVec.mul_one]

/-- A remainder loop never runs. -/
theorem deadLoop_trips (x : BitVec 32) : (deadLoop x).trips = 0 := by
  show Scf.trips (deadLoop x).lb (deadLoop x).ub 1#32 = 0
  rw [deadLoop_lb_eq]
  exact trips_eq (word _) (word _) (lit 1) 0 ⟨by decide, by omega⟩

/-- A remainder loop is well formed. -/
theorem deadLoop_ok (x : BitVec 32) : (deadLoop x).OK := by
  show Scf.OK (deadLoop x).lb (deadLoop x).ub 1#32
  rw [deadLoop_lb_eq]
  have := word_range (deadLoop x).ub
  exact ok (word _) (word _) (lit 1) ⟨by decide, by omega⟩

/-- The number of blocks of a sequence of the given length word; none if the length is negative. -/
def nblk (v : BitVec 32) : ℕ := ((v.toInt + 255) / 256).toNat

/-- A length of at most 2048 has at most eight blocks. -/
theorem nblk_le {v : BitVec 32} (h : v.toInt ≤ 2048) : nblk v ≤ 8 := by unfold nblk; omega

/-- The length plus 255 does not wrap. -/
theorem xW_isInt {v : BitVec 32} (h : v.toInt ≤ 2048) : IsInt (xW v) (v.toInt + 255) := by
  have hr := word_range v
  have h1 : IsInt (Scalar.addi v 256#32) (v.toInt + 256) := Affine.addi (word v) (lit 256) ⟨rfl, by omega, by omega⟩
  exact Affine.subi h1 (lit 1) ⟨by omega, by omega, by omega⟩

/-- A quotient of a nonpositive number by 256 that rounds toward zero. -/
theorem tdiv_range {x : Int} (h0 : x ≤ 0) (h1 : -2 ^ 31 ≤ x) : -2 ^ 23 ≤ x.tdiv 256 ∧ x.tdiv 256 ≤ 0 := by
  have e : x.tdiv 256 = -((-x) / 256) := by
    have : x = -(-x) := by omega
    rw [this, Int.neg_tdiv, Int.tdiv_eq_ediv_of_nonneg (by omega), Int.neg_neg]
  rw [e]; omega

/-- A selection is one of its two operands. -/
theorem select_cases (c : BitVec 1) (a b : BitVec 32) : Scalar.select c a b = a ∨ Scalar.select c a b = b := by
  unfold Scalar.select; split
  · exact Or.inl rfl
  · exact Or.inr rfl

/-- The word of the number of blocks: the number itself if the length is not negative, and otherwise something not
    positive. -/
theorem nbW_isInt {v : BitVec 32} (h : v.toInt ≤ 2048) :
    ∃ e : Int, IsInt (nbW v) e ∧ e.toNat = nblk v ∧ -2 ^ 24 ≤ e ∧ e ≤ 8 := by
  have hx := xW_isInt h
  have hr := word_range v
  have h256 : IsInt 256#32 (256 : Int) := lit 256
  by_cases hn : 0 ≤ v.toInt + 255
  · refine ⟨(v.toInt + 255) / 256, ?_, rfl, by omega, by omega⟩
    have hd : IsInt (Scalar.divsi (xW v) 256#32) ((v.toInt + 255) / 256) := Affine.divsi hx h256 ⟨rfl, hn, by omega⟩
    have hd1 : IsInt (Scalar.subi (Scalar.divsi (xW v) 256#32) 1#32) ((v.toInt + 255) / 256 - 1) :=
      Affine.subi hd (lit 1) ⟨rfl, by omega, by omega⟩
    refine select_fails ?_ hd1 hd rfl
    have hs256 : IsInt (Scalar.subi (Scalar.extui (Scalar.cmpi .sgt 256#32 0#32)) (Scalar.extui (Scalar.cmpi .slt 256#32 0#32))) 1 :=
      Affine.subi (extui_holds (sgt_holds h256 (lit 0) (by omega)) rfl) (extui_fails (slt_fails h256 (lit 0) (by omega)) rfl) (by decide)
    have hlt : Fails (Scalar.cmpi .slt (xW v) 0#32) := slt_fails hx (lit 0) (by omega)
    by_cases h0 : v.toInt + 255 = 0
    · have hrem : IsInt (Scalar.remsi (xW v) 256#32) 0 := Affine.remsi hx h256 ⟨by rw [h0, Int.zero_emod], hn, by omega⟩
      exact andi_fails_right (cmpi_term _ (word _) (word _)) (ne_fails hrem (lit 0) rfl)
    · have h2 : IsInt (Scalar.subi (Scalar.extui (Scalar.cmpi .sgt (xW v) 0#32)) (Scalar.extui (Scalar.cmpi .slt (xW v) 0#32))) 1 :=
        Affine.subi (extui_holds (sgt_holds hx (lit 0) (by omega)) rfl) (extui_fails hlt rfl) (by decide)
      exact andi_fails_left (ne_fails h2 hs256 rfl) (cmpi_term _ (word _) (word _))
  · have hn' : v.toInt + 255 < 0 := by omega
    have hx' : (xW v).toInt = v.toInt + 255 := by unfold IsInt at hx; exact hx
    have hd : (Scalar.divsi (xW v) 256#32).toInt = (v.toInt + 255).tdiv 256 := by
      show (IntOp.divsi _ (xW v) 256#32).toInt = _
      unfold IntOp.divsi
      rw [if_neg (by simp [IntOp.SDivCorner]), BitVec.toInt_sdiv_of_ne_or_ne _ _ (Or.inr (by decide)), hx']
      rfl
    have hd' : IsInt (Scalar.divsi (xW v) 256#32) ((v.toInt + 255).tdiv 256) := by unfold IsInt; exact hd
    have ht := tdiv_range (x := v.toInt + 255) (by omega) (by omega)
    have hz : nblk v = 0 := by unfold nblk; omega
    have hd1 : IsInt (Scalar.subi (Scalar.divsi (xW v) 256#32) 1#32) ((v.toInt + 255).tdiv 256 - 1) :=
      Affine.subi (e := (v.toInt + 255).tdiv 256 - 1) hd' (lit 1) ⟨rfl, by omega, by omega⟩
    rcases select_cases (Scalar.andi
      (Scalar.cmpi .ne (Scalar.subi (Scalar.extui (Scalar.cmpi .sgt (xW v) 0#32)) (Scalar.extui (Scalar.cmpi .slt (xW v) 0#32)))
        (Scalar.subi (Scalar.extui (Scalar.cmpi .sgt 256#32 0#32)) (Scalar.extui (Scalar.cmpi .slt 256#32 0#32))))
      (Scalar.cmpi .ne (Scalar.remsi (xW v) 256#32) 0#32))
      (Scalar.subi (Scalar.divsi (xW v) 256#32) 1#32) (Scalar.divsi (xW v) 256#32) with hc | hc
    · refine ⟨(v.toInt + 255).tdiv 256 - 1, ?_, by omega, by omega, by omega⟩
      unfold nbW; rw [hc]; exact hd1
    · refine ⟨(v.toInt + 255).tdiv 256, ?_, by omega, by omega, by omega⟩
      unfold nbW; rw [hc]; exact hd'

/-- A loop to a small count word: as many trips as the word says, none if it is negative. -/
theorem liveLoop_trips {x : BitVec 32} {e : Int} (h : IsInt x e) (h1 : -2 ^ 30 ≤ e) (h2 : e ≤ 2 ^ 30) :
    (liveLoop x).trips = e.toNat ∧ (liveLoop x).OK := by
  have hs : IsInt (Scalar.subi x 0#32) e := Affine.subi h (lit 0) ⟨by simp, by omega, by omega⟩
  have hd := Affine.divsi_one hs (lit 1) (e := e) ⟨rfl, rfl⟩
  have hm := Affine.muli hd (lit 1) (e := e) ⟨by simp, by omega, by omega⟩
  have hu := Affine.addi (lit 0) hm (e := e) ⟨by simp, by omega, by omega⟩
  refine ⟨?_, ok (lit 0) hu (lit 1) ⟨by decide, by omega⟩⟩
  by_cases h0 : 0 ≤ e
  · exact trips_eq (lit 0) hu (lit 1) _ ⟨by decide, by omega⟩
  · rw [show e.toNat = 0 by omega]
    exact Nat.le_zero.mp (trips_le (lit 0) hu (lit 1) 0 ⟨by decide, by omega⟩)

/-- A compute loop runs once per block. -/
theorem blk_trips {v : BitVec 32} (h : v.toInt ≤ 2048) : (liveLoop (nbW v)).trips = nblk v ∧ (liveLoop (nbW v)).OK := by
  obtain ⟨e, he, hn, h1, h2⟩ := nbW_isInt h
  have := liveLoop_trips he (by omega) (by omega)
  rwa [hn] at this

/-- A copy loop runs once per page, four pages to the block. -/
theorem pg_trips {v : BitVec 32} (h : v.toInt ≤ 2048) :
    (liveLoop (Scalar.muli (nbW v) 4#32)).trips = 4 * nblk v ∧ (liveLoop (Scalar.muli (nbW v) 4#32)).OK := by
  obtain ⟨e, he, hn, h1, h2⟩ := nbW_isInt h
  have hm : IsInt (Scalar.muli (nbW v) 4#32) (e * 4) := Affine.muli he (lit 4) ⟨by simp, by omega, by omega⟩
  have := liveLoop_trips hm (by omega) (by omega)
  rwa [show (e * 4).toNat = 4 * nblk v by omega] at this

/-- Trip `k`'s induction word of a loop from zero by ones. -/
theorem iv_eq (k : ℕ) : Scf.iv 0#32 1#32 k = BitVec.ofNat 32 k := by
  rw [Scf.iv_eq_ofInt]
  simp

/-- A small trip number times 64. -/
theorem mul64 {k : ℕ} (hk : k < 32) : (Scalar.muli (Scf.iv 0#32 1#32 k) 64#32).toNat = 64 * k := by
  rw [iv_eq]
  exact (by decide : ∀ k : Fin 32, (Scalar.muli (BitVec.ofNat 32 k.val) 64#32).toNat = 64 * k.val) ⟨k, hk⟩

/-- A small trip number times 256. -/
theorem mul256 {k : ℕ} (hk : k < 8) : (Scalar.muli (Scf.iv 0#32 1#32 k) 256#32).toNat = 256 * k := by
  rw [iv_eq]
  exact (by decide : ∀ k : Fin 8, (Scalar.muli (BitVec.ofNat 32 k.val) 256#32).toNat = 256 * k.val) ⟨k, hk⟩

/-- Four times a small trip number, plus a page of the block. -/
theorem mul4add {k : ℕ} (hk : k < 8) (r : Fin 4) :
    (Scalar.addi (Scalar.muli (Scf.iv 0#32 1#32 k) 4#32) (BitVec.ofNat 32 r.val)).toNat = 4 * k + r.val := by
  rw [iv_eq]
  exact (by decide : ∀ (k : Fin 8) (r : Fin 4), (Scalar.addi (Scalar.muli (BitVec.ofNat 32 k.val) 4#32) (BitVec.ofNat 32 r.val)).toNat
    = 4 * k.val + r.val) ⟨k, hk⟩ r

/-- A small trip number as an index. -/
theorem ivNat {k : ℕ} (hk : k < 32) : (Scf.iv 0#32 1#32 k).toNat = k := by
  rw [iv_eq, BitVec.toNat_ofNat]
  omega

/-- The slot of a grid point: its number modulo two. -/
theorem slotW {i : ℕ} (hi : i < 128) : (Scalar.remsi (BitVec.ofNat 32 i) 2#32).toNat = i % 2 :=
  (by decide +kernel : ∀ i : Fin 128, (Scalar.remsi (BitVec.ofNat 32 i.val) 2#32).toNat = i.val % 2) ⟨i, hi⟩

/-- The other slot. -/
theorem slotW' {i : ℕ} (hi : i < 128) : (Scalar.subi 1#32 (Scalar.remsi (BitVec.ofNat 32 i) 2#32)).toNat = 1 - i % 2 :=
  (by decide +kernel : ∀ i : Fin 128, (Scalar.subi 1#32 (Scalar.remsi (BitVec.ofNat 32 i.val) 2#32)).toNat = 1 - i.val % 2) ⟨i, hi⟩

/-- A small number as an index. -/
theorem ofNat_toNat {i : ℕ} (hi : i ≤ 128) : (BitVec.ofNat 32 i).toNat = i := by
  rw [BitVec.toNat_ofNat]
  omega

/-- The next grid point's number as an index. -/
theorem succW {i : ℕ} (hi : i < 128) : (Scalar.addi (BitVec.ofNat 32 i) 1#32).toNat = i + 1 :=
  (by decide +kernel : ∀ i : Fin 128, (Scalar.addi (BitVec.ofNat 32 i.val) 1#32).toNat = i.val + 1) ⟨i, hi⟩

end Cert.Words
-- ==== Proof.K.Checks.lean ====
/-
  The address checks of the kernel, and the offsets its memory operations use in plain numbers. A sequence's length is
  at most 2048, so a copy loop makes at most 32 trips and a compute loop at most 8; every offset is then inside its
  buffer. Offsets of slot and row are rewritten from word arithmetic to numbers.
-/
module

public import proofs.«01_k».proof.Proof.Gen.Kernel.Launch
public import proofs.«01_k».proof.Proof.Gen.Kernel.Skeleton
public import proofs.«01_k».proof.Proof.Words

@[expose] public section

namespace Cert.Kernel.Hand

open Idealize.ShloMosaic Cert.Kernel.Gen Cert.Words

/-- A grid point's number. -/
abbrev pt (i : grid0.Coords) : ℕ := (i 0).val

/-- There are 128 grid points. -/
theorem pt_lt (i : grid0.Coords) : pt i < 128 := (i 0).isLt

/-- The slot of a grid point is 0 or 1. -/
theorem slot_lt (i : grid0.Coords) : pt i % 2 < 2 := Nat.mod_lt _ (by decide)

/-! ## Trip counts -/

variable {v : BitVec 32} (h : v.toInt ≤ 2048)
include h

/-- A copy loop copies four pages for each block. -/
theorem copy_trips : (liveLoop (Scalar.muli (nbW v) 4#32)).trips = 4 * nblk v := (pg_trips h).1
/-- So at most 32 pages. -/
theorem copy_lt (k : Fin (liveLoop (Scalar.muli (nbW v) 4#32)).trips) : k.val < 32 := by
  have h1 := lt_of_lt_of_eq k.isLt (copy_trips h)
  have h2 := nblk_le h
  omega
/-- A compute loop handles at most eight blocks. -/
theorem blk_lt (k : Fin (liveLoop (nbW v)).trips) : k.val < 8 := by
  have h1 := lt_of_lt_of_eq k.isLt (blk_trips h).1
  have h2 := nblk_le h
  omega
omit h
/-- A remainder loop has no trip. -/
theorem dead_elim (x : BitVec 32) (k : Fin (deadLoop x).trips) {P : Prop} : P :=
  absurd (lt_of_lt_of_eq k.isLt (deadLoop_trips x)) (Nat.not_lt_zero _)

/-! ## Rectangles inside their buffers -/

/-- A page of codes lies inside the codes buffer. -/
theorem inbC {s k : ℕ} (hs : s < 2) (hk : k < 32) {off : Fin 3 → ℕ} (e : off = ![s, 64 * k, 0]) :
    ∀ a, off a + S1x64x512.size a ≤ S2x2048x512.size a := by
  subst e; intro a; fin_cases a <;> simp [Shape.size] <;> omega
/-- A page of scales lies inside the scale buffer. -/
theorem inbS {s k : ℕ} (hs : s < 2) (hk : k < 32) {off : Fin 4 → ℕ} (e : off = ![s, k, 0, 0]) :
    ∀ a, off a + S1x1x4x64.size a ≤ S2x32x4x64.size a := by
  subst e; intro a; fin_cases a <;> simp [Shape.size] <;> omega
/-- A page of rope keys lies inside the rope buffer. -/
theorem inbR {s k : ℕ} (hs : s < 2) (hk : k < 32) {off : Fin 3 → ℕ} (e : off = ![s, 64 * k, 0]) :
    ∀ a, off a + S1x64x64.size a ≤ S2x2048x64.size a := by
  subst e; intro a; fin_cases a <;> simp [Shape.size] <;> omega
/-- A page of the codes pool. -/
theorem inbPC {w : ℕ} (hw : w < 5120) {off : Fin 3 → ℕ} (e : off = ![w, 0, 0]) :
    ∀ a, off a + S1x64x512.size a ≤ S5120x64x512.size a := by
  subst e; intro a; fin_cases a <;> simp [Shape.size] <;> omega
/-- A page of the scale pool. -/
theorem inbPS {w : ℕ} (hw : w < 5120) {off : Fin 3 → ℕ} (e : off = ![w, 0, 0]) :
    ∀ a, off a + S1x4x64.size a ≤ S5120x4x64.size a := by
  subst e; intro a; fin_cases a <;> simp [Shape.size] <;> omega
/-- A page of the rope pool. -/
theorem inbPR {w : ℕ} (hw : w < 5120) {off : Fin 3 → ℕ} (e : off = ![w, 0, 0]) :
    ∀ a, off a + S1x64x64.size a ≤ S5120x64x64.size a := by
  subst e; intro a; fin_cases a <;> simp [Shape.size] <;> omega
/-- A block of codes of one group of columns. -/
theorem inbBC {s k g : ℕ} (hs : s < 2) (hk : k < 8) (hg : g ≤ 384) {off : Fin 3 → ℕ} (e : off = ![s, 256 * k, g]) :
    ∀ a, off a + S1x256x128.size a ≤ S2x2048x512.size a := by
  subst e; intro a; fin_cases a <;> simp [Shape.size] <;> omega
/-- One page's scales of one group. -/
theorem inbBS {s p g : ℕ} (hs : s < 2) (hp : p < 32) (hg : g < 4) {off : Fin 4 → ℕ} (e : off = ![s, p, g, 0]) :
    ∀ a, off a + S1x1x1x64.size a ≤ S2x32x4x64.size a := by
  subst e; intro a; fin_cases a <;> simp [Shape.size] <;> omega
/-- A block of rope keys. -/
theorem inbBR {s k : ℕ} (hs : s < 2) (hk : k < 8) {off : Fin 3 → ℕ} (e : off = ![s, 256 * k, 0]) :
    ∀ a, off a + S1x256x64.size a ≤ S2x2048x64.size a := by
  subst e; intro a; fin_cases a <;> simp [Shape.size] <;> omega
/-- A block of scores. -/
theorem inbSc {k : ℕ} (hk : k < 8) {off : Fin 3 → ℕ} (e : off = ![k, 0, 0]) :
    ∀ a, off a + S1x32x256.size a ≤ S8x32x256.size a := by
  subst e; intro a; fin_cases a <;> simp [Shape.size] <;> omega
/-- A word of the page table. -/
theorem inbT {r k : ℕ} (hr : r < 128) (hk : k < 32) {off : Fin 2 → ℕ} (e : off = ![r, k]) :
    ∀ a, off a + S1x1.size a ≤ S128x32.size a := by
  subst e; intro a; fin_cases a <;> simp [Shape.size] <;> omega

/-- A page of codes is whole words. -/
theorem wwC {s k : ℕ} {off : Fin 3 → ℕ} (e : off = ![s, 64 * k, 0]) :
    ∀ hinb, (Rect.unit (s := S2x2048x512) off S1x64x512.size hinb).WholeWords (EltTy.packing .fp8e4m3) := by
  subst e
  have h2 : 2 ≤ S2x2048x512.rank := by decide
  have h4 : 4 ∣ 64 * k := by omega
  exact fun hinb => Affine.words_of_packed (Affine.packed_dvd h2 h4 (by decide +revert))
/-- A page of rope keys is whole words. -/
theorem wwR {s k : ℕ} {off : Fin 3 → ℕ} (e : off = ![s, 64 * k, 0]) :
    ∀ hinb, (Rect.unit (s := S2x2048x64) off S1x64x64.size hinb).WholeWords (EltTy.packing .bf16) := by
  subst e
  have h2 : 2 ≤ S2x2048x64.rank := by decide
  have h4 : 2 ∣ 64 * k := by omega
  exact fun hinb => Affine.words_of_packed (Affine.packed_dvd h2 h4 (by decide +revert))
/-- A page of the codes pool is whole words. -/
theorem wwPC {w : ℕ} {off : Fin 3 → ℕ} (e : off = ![w, 0, 0]) :
    ∀ hinb, (Rect.unit (s := S5120x64x512) off S1x64x512.size hinb).WholeWords (EltTy.packing .fp8e4m3) := by
  subst e
  exact fun hinb => Affine.words_rows (by decide) rfl rfl
/-- A page of the rope pool is whole words. -/
theorem wwPR {w : ℕ} {off : Fin 3 → ℕ} (e : off = ![w, 0, 0]) :
    ∀ hinb, (Rect.unit (s := S5120x64x64) off S1x64x64.size hinb).WholeWords (EltTy.packing .bf16) := by
  subst e
  exact fun hinb => Affine.words_rows (by decide) rfl rfl

/-! ## The offsets of the first copy loop (sequence 0 into slot 0) -/

/-- Where the page table is read for the first sequence, copied before the first grid point. -/
theorem off1_eq (k : Fin (k0_t1_loop v).trips) (hk : k.val < 32) : k0_off1 v k = ![0, k.val] := by
  show ![0, (Scf.iv 0#32 1#32 k.val).toNat] = _
  rw [ivNat hk]
/-- The place in a slot where a page of codes goes. -/
theorem off2_eq (k : Fin (k0_t1_loop v).trips) (hk : k.val < 32) : k0_off2 v k = ![0, 64 * k.val, 0] := by
  show ![0, (Scalar.muli (Scf.iv 0#32 1#32 k.val) 64#32).toNat, 0] = _
  rw [mul64 hk]
/-- The place in a slot where a page of scales goes. -/
theorem off4_eq (k : Fin (k0_t1_loop v).trips) (hk : k.val < 32) : k0_off4 v k = ![0, k.val, 0, 0] := by
  show ![0, (Scf.iv 0#32 1#32 k.val).toNat, 0, 0] = _
  rw [ivNat hk]
/-- The place in a slot where a page of rope keys goes. -/
theorem off6_eq (k : Fin (k0_t1_loop v).trips) (hk : k.val < 32) : k0_off6 v k = ![0, 64 * k.val, 0] := by
  show ![0, (Scalar.muli (Scf.iv 0#32 1#32 k.val) 64#32).toNat, 0] = _
  rw [mul64 hk]

/-! ## The offsets of the second copy loop (the next sequence into the other slot) -/

/-- Where the page table is read for the next sequence. -/
theorem off16_eq (i : grid0.Coords) (k : Fin (k0_t3_loop v).trips) (hk : k.val < 32) : k0_off16 i v k = ![pt i + 1, k.val] := by
  show ![(Scalar.addi (BitVec.ofNat 32 (i 0).val) 1#32).toNat, (Scf.iv 0#32 1#32 k.val).toNat] = _
  rw [ivNat hk, succW (pt_lt i)]
/-- The place in a slot where a page of codes goes. -/
theorem off18_eq (i : grid0.Coords) (k : Fin (k0_t3_loop v).trips) (hk : k.val < 32) :
    k0_off18 i v k = ![1 - pt i % 2, 64 * k.val, 0] := by
  show ![(Scalar.subi 1#32 (Scalar.remsi (BitVec.ofNat 32 (i 0).val) 2#32)).toNat, (Scalar.muli (Scf.iv 0#32 1#32 k.val) 64#32).toNat, 0] = _
  rw [mul64 hk, slotW' (pt_lt i)]
/-- The place in a slot where a page of scales goes. -/
theorem off21_eq (i : grid0.Coords) (k : Fin (k0_t3_loop v).trips) (hk : k.val < 32) :
    k0_off21 i v k = ![1 - pt i % 2, k.val, 0, 0] := by
  show ![(Scalar.subi 1#32 (Scalar.remsi (BitVec.ofNat 32 (i 0).val) 2#32)).toNat, (Scf.iv 0#32 1#32 k.val).toNat, 0, 0] = _
  rw [ivNat hk, slotW' (pt_lt i)]
/-- The place in a slot where a page of rope keys goes. -/
theorem off23_eq (i : grid0.Coords) (k : Fin (k0_t3_loop v).trips) (hk : k.val < 32) :
    k0_off23 i v k = ![1 - pt i % 2, 64 * k.val, 0] := off18_eq i k hk

/-! ## The offsets of the wait loop -/

/-- Where the page table is read for the grid point's own sequence. -/
theorem off35_eq (i : grid0.Coords) (k : Fin (k0_t5_loop v).trips) (hk : k.val < 32) : k0_off35 i v k = ![pt i, k.val] := by
  show ![(BitVec.ofNat 32 (i 0).val).toNat, (Scf.iv 0#32 1#32 k.val).toNat] = _
  rw [ivNat hk, ofNat_toNat (pt_lt i).le]
/-- The place in a slot where a page of codes goes. -/
theorem off37_eq (i : grid0.Coords) (k : Fin (k0_t5_loop v).trips) (hk : k.val < 32) :
    k0_off37 i v k = ![pt i % 2, 64 * k.val, 0] := by
  show ![(Scalar.remsi (BitVec.ofNat 32 (i 0).val) 2#32).toNat, (Scalar.muli (Scf.iv 0#32 1#32 k.val) 64#32).toNat, 0] = _
  rw [mul64 hk, slotW (pt_lt i)]
/-- The place in a slot where a page of scales goes. -/
theorem off40_eq (i : grid0.Coords) (k : Fin (k0_t5_loop v).trips) (hk : k.val < 32) :
    k0_off40 i v k = ![pt i % 2, k.val, 0, 0] := by
  show ![(Scalar.remsi (BitVec.ofNat 32 (i 0).val) 2#32).toNat, (Scf.iv 0#32 1#32 k.val).toNat, 0, 0] = _
  rw [ivNat hk, slotW (pt_lt i)]
/-- The place in a slot where a page of rope keys goes. -/
theorem off42_eq (i : grid0.Coords) (k : Fin (k0_t5_loop v).trips) (hk : k.val < 32) :
    k0_off42 i v k = ![pt i % 2, 64 * k.val, 0] := off37_eq i k hk

/-! ## The offsets of the compute loops -/

/-- A block of rows of a slot, from column `g` on: the form shared by all loads of codes and rope keys. -/
theorem blockOff (i : grid0.Coords) {k : ℕ} (hk : k < 8) (g : ℕ) :
    ![(Scalar.remsi (BitVec.ofNat 32 (i 0).val) 2#32).toNat, (Scalar.muli (Scf.iv 0#32 1#32 k) 256#32).toNat, g] = ![pt i % 2, 256 * k, g] := by
  rw [mul256 hk, slotW (pt_lt i)]
/-- A page's scales of group `g` in a slot: the form shared by all loads of scales. -/
theorem scaleOff (i : grid0.Coords) {k : ℕ} (hk : k < 8) (g : ℕ) (r : Fin 4) :
    ![(Scalar.remsi (BitVec.ofNat 32 (i 0).val) 2#32).toNat, (Scalar.addi (Scalar.muli (Scf.iv 0#32 1#32 k) 4#32) (BitVec.ofNat 32 r.val)).toNat, g, 0]
      = ![pt i % 2, 4 * k + r.val, g, 0] := by
  rw [mul4add hk, slotW (pt_lt i)]
/-- Where a block's rope keys are read. -/
theorem off54_eq (i : grid0.Coords) (k : Fin (k0_t7_loop v).trips) (hk : k.val < 8) : k0_off54 i v k = ![pt i % 2, 256 * k.val, 0] := blockOff i hk 0
/-- Where a block's codes of the first group are read, for the scores. -/
theorem off55_eq (i : grid0.Coords) (k : Fin (k0_t7_loop v).trips) (hk : k.val < 8) : k0_off55 i v k = ![pt i % 2, 256 * k.val, 0] := blockOff i hk 0
/-- Where a block's codes of the second group are read, for the scores. -/
theorem off57_eq (i : grid0.Coords) (k : Fin (k0_t7_loop v).trips) (hk : k.val < 8) : k0_off57 i v k = ![pt i % 2, 256 * k.val, 128] := blockOff i hk 128
/-- Where a block's codes of the third group are read, for the scores. -/
theorem off59_eq (i : grid0.Coords) (k : Fin (k0_t7_loop v).trips) (hk : k.val < 8) : k0_off59 i v k = ![pt i % 2, 256 * k.val, 256] := blockOff i hk 256
/-- Where a block's codes of the fourth group are read, for the scores. -/
theorem off61_eq (i : grid0.Coords) (k : Fin (k0_t7_loop v).trips) (hk : k.val < 8) : k0_off61 i v k = ![pt i % 2, 256 * k.val, 384] := blockOff i hk 384
/-- Where a page's scales of the first group are read, for the scores. -/
theorem off56_eq (i : grid0.Coords) (k : Fin (k0_t7_loop v).trips) (hk : k.val < 8) (r : Fin 4) :
    k0_off56 i v k (BitVec.ofNat 32 r.val) = ![pt i % 2, 4 * k.val + r.val, 0, 0] := scaleOff i hk 0 r
/-- Where a page's scales of the second group are read, for the scores. -/
theorem off58_eq (i : grid0.Coords) (k : Fin (k0_t7_loop v).trips) (hk : k.val < 8) (r : Fin 4) :
    k0_off58 i v k (BitVec.ofNat 32 r.val) = ![pt i % 2, 4 * k.val + r.val, 1, 0] := scaleOff i hk 1 r
/-- Where a page's scales of the third group are read, for the scores. -/
theorem off60_eq (i : grid0.Coords) (k : Fin (k0_t7_loop v).trips) (hk : k.val < 8) (r : Fin 4) :
    k0_off60 i v k (BitVec.ofNat 32 r.val) = ![pt i % 2, 4 * k.val + r.val, 2, 0] := scaleOff i hk 2 r
/-- Where a page's scales of the fourth group are read, for the scores. -/
theorem off62_eq (i : grid0.Coords) (k : Fin (k0_t7_loop v).trips) (hk : k.val < 8) (r : Fin 4) :
    k0_off62 i v k (BitVec.ofNat 32 r.val) = ![pt i % 2, 4 * k.val + r.val, 3, 0] := scaleOff i hk 3 r
/-- Where a block's scores are stored. -/
theorem off63_eq (k : Fin (k0_t7_loop v).trips) (hk : k.val < 8) : k0_off63 v k = ![k.val, 0, 0] := by
  show ![(Scf.iv 0#32 1#32 k.val).toNat, 0, 0] = _
  rw [ivNat (by omega)]
/-- Where a block's scores are read and its exponentials stored. -/
theorem off74_eq (k : Fin (k0_t9_loop v).trips) (hk : k.val < 8) : k0_off74 v k = ![k.val, 0, 0] := by
  show ![(Scf.iv 0#32 1#32 k.val).toNat, 0, 0] = _
  rw [ivNat (by omega)]
/-- Where a block's exponentials are read. -/
theorem off76_eq (k : Fin (k0_t11_loop v).trips) (hk : k.val < 8) : k0_off76 v k = ![k.val, 0, 0] := by
  show ![(Scf.iv 0#32 1#32 k.val).toNat, 0, 0] = _
  rw [ivNat (by omega)]
/-- Where a block's codes of the first group are read, for the values. -/
theorem off78_eq (i : grid0.Coords) (k : Fin (k0_t11_loop v).trips) (hk : k.val < 8) : k0_off78 i v k = ![pt i % 2, 256 * k.val, 0] := blockOff i hk 0
/-- Where a block's codes of the second group are read, for the values. -/
theorem off80_eq (i : grid0.Coords) (k : Fin (k0_t11_loop v).trips) (hk : k.val < 8) : k0_off80 i v k = ![pt i % 2, 256 * k.val, 128] := blockOff i hk 128
/-- Where a block's codes of the third group are read, for the values. -/
theorem off82_eq (i : grid0.Coords) (k : Fin (k0_t11_loop v).trips) (hk : k.val < 8) : k0_off82 i v k = ![pt i % 2, 256 * k.val, 256] := blockOff i hk 256
/-- Where a block's codes of the fourth group are read, for the values. -/
theorem off84_eq (i : grid0.Coords) (k : Fin (k0_t11_loop v).trips) (hk : k.val < 8) : k0_off84 i v k = ![pt i % 2, 256 * k.val, 384] := blockOff i hk 384
/-- Where a page's scales of the first group are read, for the values. -/
theorem off77_eq (i : grid0.Coords) (k : Fin (k0_t11_loop v).trips) (hk : k.val < 8) (r : Fin 4) :
    k0_off77 i v k (BitVec.ofNat 32 r.val) = ![pt i % 2, 4 * k.val + r.val, 0, 0] := scaleOff i hk 0 r
/-- Where a page's scales of the second group are read, for the values. -/
theorem off79_eq (i : grid0.Coords) (k : Fin (k0_t11_loop v).trips) (hk : k.val < 8) (r : Fin 4) :
    k0_off79 i v k (BitVec.ofNat 32 r.val) = ![pt i % 2, 4 * k.val + r.val, 1, 0] := scaleOff i hk 1 r
/-- Where a page's scales of the third group are read, for the values. -/
theorem off81_eq (i : grid0.Coords) (k : Fin (k0_t11_loop v).trips) (hk : k.val < 8) (r : Fin 4) :
    k0_off81 i v k (BitVec.ofNat 32 r.val) = ![pt i % 2, 4 * k.val + r.val, 2, 0] := scaleOff i hk 2 r
/-- Where a page's scales of the fourth group are read, for the values. -/
theorem off83_eq (i : grid0.Coords) (k : Fin (k0_t11_loop v).trips) (hk : k.val < 8) (r : Fin 4) :
    k0_off83 i v k (BitVec.ofNat 32 r.val) = ![pt i % 2, 4 * k.val + r.val, 3, 0] := scaleOff i hk 3 r

/-! ## The checks -/

/-- A table word that names a page passes the checks of the first copy loop, -/
theorem chk2 (i : grid0.Coords) {w : BitVec 32} (hw : w.toNat < 5120) : k0_chk2 i w :=
  ⟨fun _ => inbPC hw rfl, fun _ => wwPC rfl, fun _ => inbPS hw rfl, fun _ => inbPR hw rfl, fun _ => wwPR rfl⟩
/-- of the second, -/
theorem chk5 (i : grid0.Coords) {w : BitVec 32} (hw : w.toNat < 5120) : k0_chk5 i w :=
  ⟨fun _ => inbPC hw rfl, fun _ => wwPC rfl, fun _ => inbPS hw rfl, fun _ => inbPR hw rfl, fun _ => wwPR rfl⟩
/-- and of the wait loop. -/
theorem chk8 {w : BitVec 32} (hw : w.toNat < 5120) : k0_chk8 w :=
  ⟨inbPC hw rfl, wwPC rfl, inbPS hw rfl, inbPR hw rfl, wwPR rfl⟩

include h
/-- The checks before the first copy loop. -/
theorem chk1 (i : grid0.Coords) : k0_chk1 i v := by
  have hk := copy_lt h
  exact ⟨fun _ => (pg_trips h).2, fun k _ => inbT (by decide) (hk k) (off1_eq k (hk k)),
    fun k _ => (show 64 ∣ (Scalar.muli (Scf.iv 0#32 1#32 k.val) 64#32).toNat by rw [mul64 (hk k)]; omega),
    fun k _ => inbC (by decide) (hk k) (off2_eq k (hk k)), fun k _ => wwC (off2_eq k (hk k)),
    fun k _ => inbS (by decide) (hk k) (off4_eq k (hk k)),
    fun k _ => inbR (by decide) (hk k) (off6_eq k (hk k)), fun k _ => wwR (off6_eq k (hk k)),
    fun _ => deadLoop_ok _, fun k => dead_elim _ k, fun k => dead_elim _ k, fun k => dead_elim _ k, fun k => dead_elim _ k,
    fun k => dead_elim _ k, fun k => dead_elim _ k, fun k => dead_elim _ k⟩
/-- The checks before the second copy loop, at a grid point that has a next one. -/
theorem chk4 (i : grid0.Coords) (hi : k0_cond2 i = 1#1 → pt i + 1 < 128) : k0_chk4 i v := by
  have hk := copy_lt h
  have hs : 1 - pt i % 2 < 2 := by omega
  exact ⟨fun _ => (pg_trips h).2, fun k c => inbT (hi c) (hk k) (off16_eq i k (hk k)),
    fun k _ => (show 64 ∣ (Scalar.muli (Scf.iv 0#32 1#32 k.val) 64#32).toNat by rw [mul64 (hk k)]; omega),
    fun k _ => inbC hs (hk k) (off18_eq i k (hk k)), fun k _ => wwC (off18_eq i k (hk k)),
    fun k _ => inbS hs (hk k) (off21_eq i k (hk k)),
    fun k _ => inbR hs (hk k) (off23_eq i k (hk k)), fun k _ => wwR (off23_eq i k (hk k)),
    fun _ => deadLoop_ok _, fun k => dead_elim _ k, fun k => dead_elim _ k, fun k => dead_elim _ k, fun k => dead_elim _ k,
    fun k => dead_elim _ k, fun k => dead_elim _ k, fun k => dead_elim _ k⟩
/-- The checks before the wait loop. -/
theorem chk7 (i : grid0.Coords) : k0_chk7 i v := by
  have hk := copy_lt h
  have hs := slot_lt i
  exact ⟨(pg_trips h).2, fun k => inbT (pt_lt i) (hk k) (off35_eq i k (hk k)),
    fun k => (show 64 ∣ (Scalar.muli (Scf.iv 0#32 1#32 k.val) 64#32).toNat by rw [mul64 (hk k)]; omega),
    fun k => inbC hs (hk k) (off37_eq i k (hk k)), fun k => wwC (off37_eq i k (hk k)),
    fun k => inbS hs (hk k) (off40_eq i k (hk k)),
    fun k => inbR hs (hk k) (off42_eq i k (hk k)), fun k => wwR (off42_eq i k (hk k)),
    deadLoop_ok _, fun k => dead_elim _ k, fun k => dead_elim _ k, fun k => dead_elim _ k, fun k => dead_elim _ k,
    fun k => dead_elim _ k, fun k => dead_elim _ k, fun k => dead_elim _ k⟩
/-- The checks before the compute loops. -/
theorem chk10 (i : grid0.Coords) : k0_chk10 i v := by
  have hk := blk_lt h
  have hs := slot_lt i
  have hp : ∀ (k : Fin (liveLoop (nbW v)).trips) (r : Fin 4), 4 * k.val + r.val < 32 := fun k r => by
    have := hk k
    omega
  have hm : ∀ k : Fin (liveLoop (nbW v)).trips, 256 ∣ (Scalar.muli (Scf.iv 0#32 1#32 k.val) 256#32).toNat := fun k => by
    rw [mul256 (hk k)]
    omega
  refine ⟨⟨(blk_trips h).2, hm, fun k => inbBR hs (hk k) (off54_eq i k (hk k)),
    fun k => inbBC hs (hk k) (by omega) (off55_eq i k (hk k)), fun k r => inbBS hs (hp k r) (by omega) (off56_eq i k (hk k) r),
    fun k => inbBC hs (hk k) (by omega) (off57_eq i k (hk k)), fun k r => inbBS hs (hp k r) (by omega) (off58_eq i k (hk k) r),
    fun k => inbBC hs (hk k) (by omega) (off59_eq i k (hk k)), fun k r => inbBS hs (hp k r) (by omega) (off60_eq i k (hk k) r),
    fun k => inbBC hs (hk k) (by omega) (off61_eq i k (hk k)), fun k r => inbBS hs (hp k r) (by omega) (off62_eq i k (hk k) r),
    fun k => inbSc (hk k) (off63_eq k (hk k)),
    deadLoop_ok _, fun k => dead_elim _ k, fun k => dead_elim _ k, fun k => dead_elim _ k, fun k => dead_elim _ k,
    fun k => dead_elim _ k, fun k => dead_elim _ k, fun k => dead_elim _ k, fun k => dead_elim _ k, fun k => dead_elim _ k,
    fun k => dead_elim _ k, fun k => dead_elim _ k, (blk_trips h).2, fun k => inbSc (hk k) (off74_eq k (hk k)),
    deadLoop_ok _, fun k => dead_elim _ k, (blk_trips h).2, hm, fun k => inbSc (hk k) (off76_eq k (hk k)),
    fun k r => inbBS hs (hp k r) (by omega) (off77_eq i k (hk k) r)⟩,
    ⟨fun k => inbBC hs (hk k) (by omega) (off78_eq i k (hk k)), fun k r => inbBS hs (hp k r) (by omega) (off79_eq i k (hk k) r),
    fun k => inbBC hs (hk k) (by omega) (off80_eq i k (hk k)), fun k r => inbBS hs (hp k r) (by omega) (off81_eq i k (hk k) r),
    fun k => inbBC hs (hk k) (by omega) (off82_eq i k (hk k)), fun k r => inbBS hs (hp k r) (by omega) (off83_eq i k (hk k) r),
    fun k => inbBC hs (hk k) (by omega) (off84_eq i k (hk k)),
    deadLoop_ok _, fun k => dead_elim _ k, fun k => dead_elim _ k, fun k => dead_elim _ k, fun k => dead_elim _ k,
    fun k => dead_elim _ k, fun k => dead_elim _ k, fun k => dead_elim _ k, fun k => dead_elim _ k, fun k => dead_elim _ k,
    fun k => dead_elim _ k⟩⟩

end Cert.Kernel.Hand
-- ==== Proof.Pages.lean ====
/-
  Pages in flight: `n` transfers that copy pages of a pool into the pieces of a buffer, all counted by one semaphore
  cell. They are started one by one, then waited for one by one, and only when the last unit has been consumed do the
  pieces come back, each with the contents of its page. A transfer borrows a share of its page of the pool. Nothing
  here depends on a program.
-/
module

public import Idealize.ShloMosaic.Lib.Batch
public import Idealize.ShloMosaic.Lib.Ring

@[expose] public section

noncomputable section

namespace Cert.Pages

open Idealize.ShloMosaic Idealize.ShloMosaic.Transfers
open Idealize.SL
open Idealize.SL.BI (sProp Storable bigSep bigSep_insert bigSep_empty bigSep_singleton)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

variable (EC : UEmb Counters (MT nD τ sig Ix Val Name U Lvl)) (c : Thread nD τ) (sm : SemLoc sig) (ι : Ix) (N : ℕ)
variable {ℓd ℓs : Loc nD τ sig}

/-- The pieces of the buffer, the pages of the pool, the share of the pool the transfers draw on, the pool's contents
    and the contents the pieces get. -/
structure Plan (ℓd ℓs : Loc nD τ sig) (Val : EltTy → Type) where
  /-- Piece `t` of the buffer. -/
  P : ℕ → Finset (Idx ℓd)
  /-- The page of the pool that goes there. -/
  R : ℕ → Finset (Idx ℓs)
  /-- The share of the pool. -/
  q : PosShare TreeShare
  /-- The pool. -/
  pool : Buf Val ℓs
  /-- What the buffer holds once the pages have landed. -/
  G : Buf Val ℓd

variable (p : Plan ℓd ℓs Val)

/-- What transfer `t` delivers: its piece with the page's contents, and the borrowed share of the page. -/
def deliv {n : ℕ} (t : Fin n) : sProp 𝕄 :=
  iprop((ℓd ↦[p.P t.val]{fullShare} p.G) ∗ (ℓs ↦[p.R t.val]{shareTokN p.q t.val} p.pool))

instance deliv_storable {n : ℕ} (t : Fin n) : Storable (upEmb : UEmb _ 𝕄) (deliv p t) := by unfold deliv; infer_instance

/-- The part of the buffer the first `n` pieces make. -/
def upTo (n : ℕ) : Finset (Idx ℓd) := (Finset.range n).biUnion p.P

/-- What stays with the core while the transfers fly: the rest of the slot `S`, the rest of the pool's share, and of
    each borrowed share the other pages. -/
def kept (n : ℕ) (S : Finset (Idx ℓd)) (fd : Buf Val ℓd) : sProp 𝕄 :=
  iprop((ℓd ↦[S \ upTo p n]{fullShare} fd) ∗ (ℓs ↦[Finset.univ]{shareDrop p.q n} p.pool)
    ∗ bigSep (Finset.range n) (fun t => ℓs ↦[(p.R t)ᶜ]{shareTokN p.q t} p.pool))

/-- The pieces and page shares of the transfers from the `k`-th on, not yet started. -/
def ready (n k : ℕ) (fd : Buf Val ℓd) : sProp 𝕄 :=
  bigSep (Finset.Ico k n) (fun t => iprop((ℓd ↦[p.P t]{fullShare} fd) ∗ (ℓs ↦[p.R t]{shareTokN p.q t} p.pool)))

/-- `k` of `n` transfers started, `u` units waited for. -/
def Flying (n : ℕ) (S : Finset (Idx ℓd)) (k u : ℕ) : sProp 𝕄 :=
  iprop(∃ fd : Buf Val ℓd, Batch EC c sm ι N (deliv p (n := n)) k u ∗ ready p n k fd ∗ kept p n S fd)

/-- Nothing in flight and no page in the slot. -/
def Idle (S : Finset (Idx ℓd)) : sProp 𝕄 :=
  iprop(semVal (c, sm) 0 ∗ (∃ fd : Buf Val ℓd, ℓd ↦[S]{fullShare} fd) ∗ (ℓs ↦[Finset.univ]{p.q} p.pool))

/-- Every page landed: the slot's first `n` pieces hold the pages. -/
def Landed (n : ℕ) (S : Finset (Idx ℓd)) : sProp 𝕄 :=
  iprop(semVal (c, sm) 0 ∗ (ℓd ↦[upTo p n]{fullShare} p.G) ∗ (∃ fd : Buf Val ℓd, ℓd ↦[S \ upTo p n]{fullShare} fd)
    ∗ (ℓs ↦[Finset.univ]{p.q} p.pool))

omit [Preorder Lvl] in
/-- A share of the pool, split into one share for each transfer, each split into its page and the other pages. -/
theorem pool_split (n : ℕ) :
    (ℓs ↦[Finset.univ]{p.q} p.pool : sProp 𝕄) = iprop((ℓs ↦[Finset.univ]{shareDrop p.q n} p.pool)
      ∗ bigSep (Finset.range n) (fun t => ℓs ↦[p.R t]{shareTokN p.q t} p.pool)
      ∗ bigSep (Finset.range n) (fun t => ℓs ↦[(p.R t)ᶜ]{shareTokN p.q t} p.pool)) := by
  have e : bigSep (Finset.range n) (fun t => (ℓs ↦[Finset.univ]{shareTokN p.q t} p.pool : sProp 𝕄))
      = iprop(bigSep (Finset.range n) (fun t => ℓs ↦[p.R t]{shareTokN p.q t} p.pool)
        ∗ bigSep (Finset.range n) (fun t => ℓs ↦[(p.R t)ᶜ]{shareTokN p.q t} p.pool)) := by
    refine Eq.trans (BI.bigSep_congr fun t _ => ?_) (BI.bigSep_sep (Finset.range n) _ _)
    rw [Finset.compl_eq_univ_sdiff]
    exact BI.equiv_iff.mp ⟨(pointsTo_split_subset (Finset.subset_univ (p.R t))).1, (pointsTo_split_subset (Finset.subset_univ (p.R t))).2⟩
  rw [← e]
  exact BI.equiv_iff.mp ⟨(pointsTo_toks_range p.q n).1, (pointsTo_toks_range p.q n).2⟩

omit [Preorder Lvl] in
/-- The transfers not yet started, all of them: the first `n` pieces of the slot and the borrowed page shares. -/
theorem ready_zero (n : ℕ) (fd : Buf Val ℓd) (hP : ∀ t ∈ Finset.range n, ∀ t' ∈ Finset.range n, t ≠ t' → Disjoint (p.P t) (p.P t')) :
    (ready p n 0 fd : sProp 𝕄) = iprop((ℓd ↦[upTo p n]{fullShare} fd)
      ∗ bigSep (Finset.range n) (fun t => ℓs ↦[p.R t]{shareTokN p.q t} p.pool)) := by
  unfold ready upTo
  rw [pointsTo_biUnion _ _ hP, ← Finset.range_eq_Ico]
  exact BI.bigSep_sep (Finset.range n) _ _

omit [Preorder Lvl] in
/-- The next transfer's piece and page share come off the ones not yet started. -/
theorem ready_step {n k : ℕ} (hk : k < n) (fd : Buf Val ℓd) :
    (ready p n k fd : sProp 𝕄) = iprop(((ℓd ↦[p.P k]{fullShare} fd) ∗ (ℓs ↦[p.R k]{shareTokN p.q k} p.pool)) ∗ ready p n (k + 1) fd) := by
  unfold ready
  rw [show Finset.Ico k n = insert k (Finset.Ico (k + 1) n) by ext x; simp only [Finset.mem_insert, Finset.mem_Ico]; omega, bigSep_insert (by simp)]
  rfl

omit [Preorder Lvl] in
/-- The deliveries all together: the first `n` pieces with the pages' contents, and the borrowed page shares. -/
theorem deliv_all (n : ℕ) (hP : ∀ t ∈ Finset.range n, ∀ t' ∈ Finset.range n, t ≠ t' → Disjoint (p.P t) (p.P t')) :
    (bigSep Finset.univ (deliv p (n := n)) : sProp 𝕄) = iprop((ℓd ↦[upTo p n]{fullShare} p.G)
      ∗ bigSep (Finset.range n) (fun t => ℓs ↦[p.R t]{shareTokN p.q t} p.pool)) := by
  rw [← ready_zero p n p.G hP]
  unfold ready deliv
  rw [← Finset.range_eq_Ico]
  exact Ring.bigSep_fin_eq_range n _ _ fun _ _ => rfl

/-- Before the first transfer: the cell at zero, the slot and the share of the pool make a batch with nothing
    started. -/
theorem start [Infinite Name] [EC.LandsIn (upEmb : UEmb _ 𝕄)] (n : ℕ) (S : Finset (Idx ℓd)) (hS : upTo p n ⊆ S)
    (hP : ∀ t ∈ Finset.range n, ∀ t' ∈ Finset.range n, t ≠ t' → Disjoint (p.P t) (p.P t')) {E : Set Name} :
    Idle c sm p S ⊢ |={E}=> (Flying EC c sm ι N p n S 0 0 : sProp 𝕄) := by
  unfold Idle Flying kept
  rw [pool_split p n]
  iintro ⟨Hv, ⟨%fd, Hd⟩, H0, H1, H2⟩
  imod (batch_alloc' EC c ι N (deliv p (n := n)) (E := E)) $$ Hv with Hb
  imodintro
  iexists fd
  rw [ready_zero p n fd hP]
  ihave Hd := (pointsTo_split_subset hS).1 $$ Hd
  icases Hd with ⟨Hu, Hr⟩
  isplitl [Hb]; · iexact Hb
  isplitl [Hu H1]
  · isplitl [Hu]; · iexact Hu
    iexact H1
  isplitl [Hr]; · iexact Hr
  isplitl [H0]; · iexact H0
  iexact H2

/-- After the last wait: the pages have landed. -/
theorem finish [EC.LandsIn (upEmb : UEmb _ 𝕄)] (hN : 0 < N) (n : ℕ) (S : Finset (Idx ℓd))
    (hP : ∀ t ∈ Finset.range n, ∀ t' ∈ Finset.range n, t ≠ t' → Disjoint (p.P t) (p.P t')) :
    (Flying EC c sm ι N p n S n (N * n) : sProp 𝕄) ⊢ |={Set.univ}=> Landed c sm p n S := by
  unfold Landed Flying kept
  rw [pool_split p n]
  iintro ⟨%fd, Hb, -, Hr, H0, H2⟩
  imod (batch_collect' EC c hN) $$ Hb with ⟨HD, Hv⟩
  imodintro
  ihave HD := (Entails.of_eq (deliv_all p n hP)) $$ HD
  icases HD with ⟨Hu, H1⟩
  isplitl [Hv]; · iexact Hv
  isplitl [Hu]; · iexact Hu
  isplitl [Hr]; · iexists fd; iexact Hr
  isplitl [H0]; · iexact H0
  isplitl [H1]; · iexact H1
  iexact H2

omit [Preorder Lvl] in
/-- A slot whose pages are no longer needed. -/
theorem landed_idle (n : ℕ) (S : Finset (Idx ℓd)) (hS : upTo p n ⊆ S) : (Landed c sm p n S : sProp 𝕄) ⊢ Idle c sm p S := by
  unfold Landed Idle
  iintro ⟨Hv, Hu, ⟨%fd, Hr⟩, Hs⟩
  isplitl [Hv]; · iexact Hv
  isplitl [Hu Hr]
  · iexists (upTo p n).piecewise p.G fd
    iapply (pointsTo_join_subset hS)
    isplitl [Hu]; · iexact Hu
    iexact Hr
  iexact Hs

section Rules

variable {Λ : Labels} {defs : Defs nD τ sig Val Λ} (𝒱 : Variants) (bd : Option 𝒱.V)
variable {α : Type} {Q : α → sProp (MT nD τ sig Ix Val Name U Lvl)} {sp sp' : Space} {s : Shape} {e : EltTy}

/-- Starting the next transfer: its destination is the next piece, its source the next page, and what it writes there
    is what the plan says. -/
theorem issue [Infinite Name] [EC.LandsIn (upEmb : UEmb _ 𝕄)] {s₀ : Shape} {e₀ : EltTy}
    {src : Memref sig c.2.kind sp s₀ e₀} {via : ReadAs Val s₀ e₀ s e} {dst : Memref sig c.2.kind sp' s e}
    {hsrc : src.view.WordExact} {hdst : dst.view.WordExact} {hsem : DmaTarget.Typed (nD := nD) sp sm (.here dst)}
    {k : PUnit → Prog (TpuEff nD τ sig Val Λ c.2) α} (p : Plan (dst.view.loc c) (src.view.loc c) Val)
    (n : ℕ) (S : Finset (Idx (dst.view.loc c))) {j : ℕ}
    (hN : dst.view.amount sm = N) (hj : j < n) (hPj : dst.view.set = p.P j) (hRj : src.view.set = p.R j)
    (hG : ∀ fd, ∀ y ∈ p.P j, dst.view.write Val fd (via.apply (src.view.read Val p.pool)) Finset.univ y = p.G y) :
    Flying EC c sm ι N p n S j 0
      ⊢ iprop((Flying EC c sm ι N p n S (j + 1) 0 -∗ wp frame (wpE defs 𝒱 c bd) Set.univ (k ⟨⟩) Q)
          -∗ wp frame (wpE defs 𝒱 c bd) Set.univ (Prog.lift (.enqueueDmaAs src (.here dst) via sm hsrc hdst hsem) >>= k) Q) := by
  show _ ⊢ iprop(_ -∗ wp frame (wpE defs 𝒱 c bd) Set.univ (.op (.enqueueDmaAs src (.here dst) via sm hsrc hdst hsem) k) Q)
  unfold Flying
  iintro ⟨%fd, Hb, Hr, Hk⟩ Hw
  ihave Hr := (Entails.of_eq (ready_step p hj fd)) $$ Hr
  icases Hr with ⟨⟨Hd, Hs⟩, Hr⟩
  iapply (wp_dmaBatch EC 𝒱 c bd (q := shareTokN p.q j) (fs := p.pool) (Sd := p.P j) (fd := fd) (D := deliv p (n := n)) (j := j) (u := 0)
    ι N hN hPj.le hj (Nat.zero_le _) ?hD) $$ [Hs Hd Hb]
  case hD =>
    unfold deliv
    rw [hRj, pointsTo_congr (hG fd)]
  · isplitl [Hs]; · rw [hRj]; iexact Hs
    isplitl [Hd]; · iexact Hd
    iexact Hb
  iintro Hb
  iapply Hw
  iexists fd
  isplitl [Hb]; · iexact Hb
  isplitl [Hr]; · iexact Hr
  iexact Hk

/-- Waiting for one more transfer's units. -/
theorem await [EC.LandsIn (upEmb : UEmb _ 𝕄)] {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig Val Λ c.2) α} (n : ℕ) (S : Finset (Idx ℓd)) {j : ℕ} (hJ : dstw.view.dmaCredit = N) (hj : j < n) {W : Waits sig Ix} :
    iprop(Flying EC c (.dma sem) ι N p n S n (N * j) ∗ owes c 0 W)
      ⊢ iprop((iprop(Flying EC c (.dma sem) ι N p n S n (N * (j + 1)) ∗ owes c 0 (insert (SemLoc.dma sem, ι) W)) -∗ wp frame (wpE defs 𝒱 c bd) Set.univ (k ⟨⟩) Q)
          -∗ wp frame (wpE defs 𝒱 c bd) Set.univ (Prog.lift (.waitDma2 sem srcw dstw hsrc hdst) >>= k) Q) := by
  show _ ⊢ iprop(_ -∗ wp frame (wpE defs 𝒱 c bd) Set.univ (.op (.waitDma2 sem srcw dstw hsrc hdst) k) Q)
  unfold Flying
  iintro ⟨⟨%fd, Hb, Hr, Hk⟩, HO⟩ Hw
  iapply (wp_waitBatchMul EC 𝒱 c bd ι 1 (N := N) (by rw [hJ, Nat.one_mul]) (D := deliv p (n := n)) (j := n) (u := N * j)
    (by have := Nat.mul_le_mul_left N hj; rw [Nat.mul_succ] at this; omega)) $$ [Hb HO]
  · isplitl [Hb]; · iexact Hb
    iexact HO
  iintro ⟨Hb, HO⟩
  iapply Hw
  rw [show N * j + 1 * N = N * (j + 1) by rw [Nat.one_mul, Nat.mul_succ]]
  isplitr [HO]
  · iexists fd
    isplitl [Hb]; · iexact Hb
    isplitl [Hr]; · iexact Hr
    iexact Hk
  iexact HO

/-- A word of scalar memory, read and bound. -/
theorem readWord {m : Memref sig c.2.kind .smem s e} {r : Rect s} {h1 : r.shape.numel = 1} {hp : e.packing = 1}
    {k : Val e → Prog (TpuEff nD τ sig Val Λ c.2) α} {q : PosShare TreeShare} {f : Buf Val ((m.access r).loc c)} {v : Val e}
    (hv : ∀ x, (m.access r).read Val f x = v) :
    ((m.access r).loc c ↦{q} f)
      ⊢ iprop((((m.access r).loc c ↦{q} f) -∗ wp frame (wpE defs 𝒱 c bd) Set.univ (k v) Q)
        -∗ wp frame (wpE defs 𝒱 c bd) Set.univ (smemLoad m r h1 hp >>= k) Q) := by
  rw [← hv (Shape.Idx.first (h1.symm ▸ Nat.one_pos))]
  exact wp_smemLoadElt 𝒱 c bd Set.univ (hw := View.loads_smem_one hp h1) (k := k) (Finset.subset_univ _)

/-- A load of a window whose contents are known, bound. -/
theorem loadWin {cs : CoreSpace} {m : Memref sig c.2.kind cs s e} {r : Rect s} {hl : m.view.LoadsAt r.toLoadRect}
    {k : (r.shape.Idx → Val e) → Prog (TpuEff nD τ sig Val Λ c.2) α} {S : Finset (Idx ((m.access r).loc c))} {q : PosShare TreeShare}
    {f : Buf Val ((m.access r).loc c)} {v : r.shape.Idx → Val e} (hv : (m.access r).read Val f = v) (hS : (m.access r).set ⊆ S) :
    ((m.access r).loc c ↦[S]{q} f)
      ⊢ iprop((((m.access r).loc c ↦[S]{q} f) -∗ wp frame (wpE defs 𝒱 c bd) Set.univ (k v) Q)
        -∗ wp frame (wpE defs 𝒱 c bd) Set.univ (Prog.lift (.load m r.toLoadRect hl) >>= k) Q) := by
  subst hv
  exact wp_load_rect 𝒱 c bd Set.univ (k := k) hS

/-- A store whose result is known, bound. -/
theorem storeWin {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {f g : Buf Val ((m.access r).loc c)}
    (hg : (m.access r).write Val f w Finset.univ = g) :
    ((m.access r).loc c ↦{fullShare} f)
      ⊢ iprop((((m.access r).loc c ↦{fullShare} g) -∗ wp frame (wpE defs 𝒱 c bd) Set.univ (k ⟨⟩) Q)
        -∗ wp frame (wpE defs 𝒱 c bd) Set.univ (Prog.lift (.store m r w Finset.univ hx hm) >>= k) Q) := by
  subst hg
  exact wp_store 𝒱 c bd Set.univ (k := k) (Finset.subset_univ _)

/-- A load from a buffer held at known contents. -/
theorem loadOwn {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e}
    {v : r.shape.Idx → Val e} (hv : ∀ y, X (r.emb y) = v y) :
    owns c m q X ⊢ iprop((owns c m q X -∗ wp frame (wpE defs 𝒱 c bd) Set.univ (k v) Q)
        -∗ wp (M := 𝕄) frame (wpE defs 𝒱 c bd) Set.univ (Prog.lift (.load m r.toLoadRect hl) >>= k) Q) := by
  unfold owns
  iintro ⟨%f, %hf, H⟩ Hk
  have h : (m.access r).read Val f = v := funext fun y => (congrFun hf (r.emb y)).trans (hv y)
  iapply (loadWin (m := m) (r := r) (hl := hl) (k := k) (S := m.view.set) (f := f) (v := v) c 𝒱 bd h (View.set_slice_subset _ r)) $$ H
  iintro H
  iapply Hk
  iexists f
  isplitr; · ipureintro; exact hf
  iexact H

/-- A store over a whole buffer. -/
theorem storeOwn {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X Y : s.Idx → Val e}
    (hY : ∀ y, w y = Y (r.emb y)) (hr : ∀ x, ∃ y, r.emb y = x) :
    owns c m fullShare X ⊢ iprop((owns c m fullShare Y -∗ wp frame (wpE defs 𝒱 c bd) Set.univ (k ⟨⟩) Q)
        -∗ wp (M := 𝕄) frame (wpE defs 𝒱 c bd) Set.univ (Prog.lift (.store m r w Finset.univ hx hm) >>= k) Q) := by
  unfold owns
  iintro ⟨%f, %hf, H⟩ Hk
  have h : m.view.read Val ((m.access r).write Val f w Finset.univ) = Y := by
    funext x
    obtain ⟨y, rfl⟩ := hr x
    exact (congrFun (View.read_write_univ (v := m.access r) f w) y).trans (hY y)
  iapply (show ((m.access r).loc c ↦[m.view.set]{fullShare} f)
      ⊢ iprop((((m.access r).loc c ↦[m.view.set]{fullShare} ((m.access r).write Val f w Finset.univ)) -∗ wp frame (wpE defs 𝒱 c bd) Set.univ (k ⟨⟩) Q)
        -∗ wp (M := 𝕄) frame (wpE defs 𝒱 c bd) Set.univ (Prog.lift (.store m r w Finset.univ hx hm) >>= k) Q)
    from wp_store 𝒱 c bd Set.univ (k := k) (View.set_slice_subset _ r)) $$ H
  iintro H
  iapply Hk
  iexists _
  isplitr; · ipureintro; exact h
  iexact H

/-- A counted loop by an invariant, bound. -/
theorem loopRule {σ : Type} (l : Scf.Loop 32) {hok : l.OK} {init : σ} {body : Fin l.trips → σ → Prog (TpuEff nD τ sig Val Λ c.2) σ} (I : ℕ → σ → sProp 𝕄)
    (hbody : ∀ (k : Fin l.trips) (acc : σ), I k.val acc ⊢ wp frame (wpE defs 𝒱 c bd) Set.univ (body k acc) (fun acc => I (k.val + 1) acc))
    {k : σ → Prog (TpuEff nD τ sig Val Λ c.2) α} {n : ℕ} (hn : l.trips = n) :
    I 0 init ⊢ iprop((∀ acc, I n acc -∗ wp frame (wpE defs 𝒱 c bd) Set.univ (k acc) Q)
      -∗ wp frame (wpE defs 𝒱 c bd) Set.univ (Scf.Loop.for l hok init body >>= k) Q) := by
  subst hn
  exact Scf.wp_for_bind frame (wpE defs 𝒱 c bd) Set.univ l.lb l.ub l.st hok init body I hbody

omit [Preorder Lvl] in
/-- A loop without trips. -/
theorem loopNone {σ : Type} (l : Scf.Loop 32) (hok : l.OK) (init : σ) (body : Fin l.trips → σ → Prog (TpuEff nD τ sig Val Λ c.2) σ)
    (h : l.trips = 0) : Scf.Loop.for l hok init body = pure init := by
  refine (Scf.for_eq l.lb l.ub l.st hok init body).trans ?_
  have e : List.finRange (Scf.trips l.lb l.ub l.st) = [] := List.eq_nil_of_length_eq_zero (List.length_finRange.trans h)
  rw [e]
  rfl

/-- A check that holds, bound. -/
theorem check {P : Prop} {d : Decidable P} {k : PLift P → Prog (TpuEff nD τ sig Val Λ c.2) α} (h : P) :
    wp frame (wpE defs 𝒱 c bd) Set.univ (k ⟨h⟩) Q ⊢ wp (M := 𝕄) frame (wpE defs 𝒱 c bd) Set.univ (Prog.lift (.assume P d) >>= k) Q :=
  wp_assume 𝒱 c bd Set.univ (k := k) h

end Rules

end Cert.Pages
-- ==== Proof.K.Slot.lean ====
/-
  The two slots of the gather buffers. A slot is half of the three buffers of codes, scales and rope keys; piece `t` of
  a slot is the part that page `t` of a sequence goes to. The pages come from three pools in HBM; which page is the
  `t`-th of a sequence is in the page table.
-/
module

public import proofs.«01_k».proof.Proof.K.Checks
public import proofs.«01_k».proof.Proof.Pages
public import proofs.«01_k».proof.Proof.Gen.Kernel.Launch
public import Idealize.ShloMosaic.Lib.Pipeline.FrameBody
public import Idealize.ShloMosaic.Lib.ValueLayout

@[expose] public section

noncomputable section

namespace Cert.Kernel.Hand

open Idealize.ShloMosaic Idealize.ShloMosaic.TcCoe Cert.Kernel Cert.Kernel.Gen Cert.Words Cert.Pages
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the counters of the transfers. -/
local notation "𝕄" => MT nD τ sig Unit (Elt F) ℕ (Pipeline.UD sig nD τ) ℕ

variable (c : Dev nD)

/-! ## The scalars in SMEM -/

/-- The page table and the lengths, as the scalar unit sees them. -/
abbrev Tab : Type := S128x32.Idx → BitVec 32
abbrev Lens : Type := S128.Idx → BitVec 32

/-- An index of the page table. -/
def ixT (b t : ℕ) : S128x32.Idx := fun a => ⟨![b % 128, t % 32] a, by fin_cases a <;> simp [Shape.size] <;> omega⟩
/-- An index of the lengths. -/
def ixL (b : ℕ) : S128.Idx := fun a => ⟨![b % 128] a, by fin_cases a; simp [Shape.size]; omega⟩

/-- The number of the `t`-th page of sequence `b`. -/
def pg (T : Tab) (b t : ℕ) : ℕ := (T (ixT b t)).toNat % 5120
/-- The length of sequence `b`. -/
def len (L : Lens) (b : ℕ) : BitVec 32 := L (ixL b)
/-- The number of pages copied for sequence `b`. -/
def np (L : Lens) (b : ℕ) : ℕ := 4 * nblk (len L b)

/-- What is asked of the scalars: the table names pages of the pools, and no length is beyond the table. -/
structure Good (T : Tab) (L : Lens) : Prop where
  page : ∀ y, (T y).toNat < 5120
  le : ∀ y, (L y).toInt ≤ 2048

/-! ## Indices of the pools -/

def ixC (w r x : ℕ) : S5120x64x512.Idx := fun a => ⟨![w % 5120, r % 64, x % 512] a, by fin_cases a <;> simp [Shape.size] <;> omega⟩
def ixS (w g r : ℕ) : S5120x4x64.Idx := fun a => ⟨![w % 5120, g % 4, r % 64] a, by fin_cases a <;> simp [Shape.size] <;> omega⟩
def ixR (w r x : ℕ) : S5120x64x64.Idx := fun a => ⟨![w % 5120, r % 64, x % 64] a, by fin_cases a <;> simp [Shape.size] <;> omega⟩

/-! ## What the slots hold once the pages have landed -/

variable (T : Tab)

/-- The codes of sequence `b`: row `p` is row `p mod 64` of its page `p / 64`. -/
def gC (pool : S5120x64x512.Idx → Elt F .fp8e4m3) (b : ℕ) : S2x2048x512.Idx → Elt F .fp8e4m3 := fun y =>
  pool (ixC (pg T b ((y 1).val / 64)) ((y 1).val % 64) (y 2).val)
/-- The scales of sequence `b`. -/
def gS (pool : S5120x4x64.Idx → Elt F .f32) (b : ℕ) : S2x32x4x64.Idx → Elt F .f32 := fun y =>
  pool (ixS (pg T b (y 1).val) (y 2).val (y 3).val)
/-- The rope keys of sequence `b`. -/
def gR (pool : S5120x64x64.Idx → Elt F .bf16) (b : ℕ) : S2x2048x64.Idx → Elt F .bf16 := fun y =>
  pool (ixR (pg T b ((y 1).val / 64)) ((y 1).val % 64) (y 2).val)

/-! ## The plans of the three gathers -/

/-- Half of a buffer. -/
def halfC (s : ℕ) : Finset S2x2048x512.Idx := Finset.univ.filter fun y => (y 0).val = s
def halfS (s : ℕ) : Finset S2x32x4x64.Idx := Finset.univ.filter fun y => (y 0).val = s
def halfR (s : ℕ) : Finset S2x2048x64.Idx := Finset.univ.filter fun y => (y 0).val = s

/-- The gather of codes of sequence `b` into slot `s`. -/
def planC (pool : S5120x64x512.Idx → Elt F .fp8e4m3) (s b : ℕ) :
    Plan ((c : Thread nD τ).loc cc0_scratch0) ((c : Thread nD τ).loc main_arg4) (Elt F) where
  P := fun t => Finset.univ.filter fun y : S2x2048x512.Idx => (y 0).val = s ∧ (y 1).val / 64 = t
  R := fun t => Finset.univ.filter fun y : S5120x64x512.Idx => (y 0).val = pg T b t
  q := Transfers.shareTokN fullShare s
  pool := pool
  G := gC T pool b
/-- The gather of scales. -/
def planS (pool : S5120x4x64.Idx → Elt F .f32) (s b : ℕ) :
    Plan ((c : Thread nD τ).loc cc0_scratch1) ((c : Thread nD τ).loc main_v0) (Elt F) where
  P := fun t => Finset.univ.filter fun y : S2x32x4x64.Idx => (y 0).val = s ∧ (y 1).val = t
  R := fun t => Finset.univ.filter fun y : S5120x4x64.Idx => (y 0).val = pg T b t
  q := Transfers.shareTokN fullShare s
  pool := pool
  G := gS T pool b
/-- The gather of rope keys. -/
def planR (pool : S5120x64x64.Idx → Elt F .bf16) (s b : ℕ) :
    Plan ((c : Thread nD τ).loc cc0_scratch2) ((c : Thread nD τ).loc main_arg6) (Elt F) where
  P := fun t => Finset.univ.filter fun y : S2x2048x64.Idx => (y 0).val = s ∧ (y 1).val / 64 = t
  R := fun t => Finset.univ.filter fun y : S5120x64x64.Idx => (y 0).val = pg T b t
  q := Transfers.shareTokN fullShare s
  pool := pool
  G := gR T pool b

/-! ## The pieces are disjoint and lie in their slot -/

/-- The codes of the first `n` pages of a slot, as a set of indices. -/
theorem upToC (pool : S5120x64x512.Idx → Elt F .fp8e4m3) (s b n : ℕ) (y : S2x2048x512.Idx) :
    y ∈ upTo (planC c T pool s b) n ↔ (y 0).val = s ∧ (y 1).val / 64 < n := by
  show y ∈ (Finset.range n).biUnion (fun t => Finset.univ.filter fun y : S2x2048x512.Idx => (y 0).val = s ∧ (y 1).val / 64 = t) ↔ _
  simp only [Finset.mem_biUnion, Finset.mem_range, Finset.mem_filter, Finset.mem_univ, true_and]
  exact ⟨fun ⟨t, h, h1, h2⟩ => ⟨h1, h2 ▸ h⟩, fun ⟨h1, h2⟩ => ⟨_, h2, h1, rfl⟩⟩
/-- The scales of the first `n` pages of a slot, as a set of indices. -/
theorem upToS (pool : S5120x4x64.Idx → Elt F .f32) (s b n : ℕ) (y : S2x32x4x64.Idx) :
    y ∈ upTo (planS c T pool s b) n ↔ (y 0).val = s ∧ (y 1).val < n := by
  show y ∈ (Finset.range n).biUnion (fun t => Finset.univ.filter fun y : S2x32x4x64.Idx => (y 0).val = s ∧ (y 1).val = t) ↔ _
  simp only [Finset.mem_biUnion, Finset.mem_range, Finset.mem_filter, Finset.mem_univ, true_and]
  exact ⟨fun ⟨t, h, h1, h2⟩ => ⟨h1, h2 ▸ h⟩, fun ⟨h1, h2⟩ => ⟨_, h2, h1, rfl⟩⟩
/-- The rope keys of the first `n` pages of a slot, as a set of indices. -/
theorem upToR (pool : S5120x64x64.Idx → Elt F .bf16) (s b n : ℕ) (y : S2x2048x64.Idx) :
    y ∈ upTo (planR c T pool s b) n ↔ (y 0).val = s ∧ (y 1).val / 64 < n := by
  show y ∈ (Finset.range n).biUnion (fun t => Finset.univ.filter fun y : S2x2048x64.Idx => (y 0).val = s ∧ (y 1).val / 64 = t) ↔ _
  simp only [Finset.mem_biUnion, Finset.mem_range, Finset.mem_filter, Finset.mem_univ, true_and]
  exact ⟨fun ⟨t, h, h1, h2⟩ => ⟨h1, h2 ▸ h⟩, fun ⟨h1, h2⟩ => ⟨_, h2, h1, rfl⟩⟩

/-- The pages of codes of a slot lie in that slot. -/
theorem subC (pool : S5120x64x512.Idx → Elt F .fp8e4m3) (s b n : ℕ) : upTo (planC c T pool s b) n ⊆ halfC s := fun y hy =>
  Finset.mem_filter.mpr ⟨Finset.mem_univ _, ((upToC c T pool s b n y).mp hy).1⟩
/-- The pages of scales of a slot lie in that slot. -/
theorem subS (pool : S5120x4x64.Idx → Elt F .f32) (s b n : ℕ) : upTo (planS c T pool s b) n ⊆ halfS s := fun y hy =>
  Finset.mem_filter.mpr ⟨Finset.mem_univ _, ((upToS c T pool s b n y).mp hy).1⟩
/-- The pages of rope keys of a slot lie in that slot. -/
theorem subR (pool : S5120x64x64.Idx → Elt F .bf16) (s b n : ℕ) : upTo (planR c T pool s b) n ⊆ halfR s := fun y hy =>
  Finset.mem_filter.mpr ⟨Finset.mem_univ _, ((upToR c T pool s b n y).mp hy).1⟩

/-- Two different pages of codes of a slot do not overlap. -/
theorem disjC (pool : S5120x64x512.Idx → Elt F .fp8e4m3) (s b : ℕ) (n : ℕ) :
    ∀ t ∈ Finset.range n, ∀ t' ∈ Finset.range n, t ≠ t' → Disjoint ((planC c T pool s b).P t) ((planC c T pool s b).P t') :=
  fun t _ t' _ h => Finset.disjoint_filter.mpr fun _ _ h1 h2 => h (h1.2.symm.trans h2.2)
/-- Two different pages of scales of a slot do not overlap. -/
theorem disjS (pool : S5120x4x64.Idx → Elt F .f32) (s b : ℕ) (n : ℕ) :
    ∀ t ∈ Finset.range n, ∀ t' ∈ Finset.range n, t ≠ t' → Disjoint ((planS c T pool s b).P t) ((planS c T pool s b).P t') :=
  fun t _ t' _ h => Finset.disjoint_filter.mpr fun _ _ h1 h2 => h (h1.2.symm.trans h2.2)
/-- Two different pages of rope keys of a slot do not overlap. -/
theorem disjR (pool : S5120x64x64.Idx → Elt F .bf16) (s b : ℕ) (n : ℕ) :
    ∀ t ∈ Finset.range n, ∀ t' ∈ Finset.range n, t ≠ t' → Disjoint ((planR c T pool s b).P t) ((planR c T pool s b).P t') :=
  fun t _ t' _ h => Finset.disjoint_filter.mpr fun _ _ h1 h2 => h (h1.2.symm.trans h2.2)

/-! ## The two ends of a transfer -/

/-- Piece of the codes buffer at offsets `o`. -/
abbrev dstC (o : Fin 3 → ℕ) (hi : ∀ a, o a + S1x64x512.size a ≤ S2x2048x512.size a) : Memref sig .tc .vmem S64x512 .fp8e4m3 :=
  ((Memref.whole cc0_scratch0).slice (Rect.unit (s := S2x2048x512) o S1x64x512.size hi) (fun _ => rfl)).squeeze S64x512 squeezes_S1x64x512_S64x512
/-- Page of the codes pool at offsets `o`. -/
abbrev srcC (o : Fin 3 → ℕ) (hi : ∀ a, o a + S1x64x512.size a ≤ S5120x64x512.size a) : Memref sig .tc .hbm S64x512 .fp8e4m3 :=
  ((Memref.whole main_arg4).slice (Rect.unit (s := S5120x64x512) o S1x64x512.size hi) (fun _ => rfl)).squeeze S64x512 squeezes_S1x64x512_S64x512
abbrev dstS (o : Fin 4 → ℕ) (hi : ∀ a, o a + S1x1x4x64.size a ≤ S2x32x4x64.size a) : Memref sig .tc .vmem S4x64 .f32 :=
  ((Memref.whole cc0_scratch1).slice (Rect.unit (s := S2x32x4x64) o S1x1x4x64.size hi) (fun _ => rfl)).squeeze S4x64 squeezes_S1x1x4x64_S4x64
abbrev srcS (o : Fin 3 → ℕ) (hi : ∀ a, o a + S1x4x64.size a ≤ S5120x4x64.size a) : Memref sig .tc .hbm S4x64 .f32 :=
  ((Memref.whole main_v0).slice (Rect.unit (s := S5120x4x64) o S1x4x64.size hi) (fun _ => rfl)).squeeze S4x64 squeezes_S1x4x64_S4x64
abbrev dstR (o : Fin 3 → ℕ) (hi : ∀ a, o a + S1x64x64.size a ≤ S2x2048x64.size a) : Memref sig .tc .vmem S64x64 .bf16 :=
  ((Memref.whole cc0_scratch2).slice (Rect.unit (s := S2x2048x64) o S1x64x64.size hi) (fun _ => rfl)).squeeze S64x64 squeezes_S1x64x64_S64x64
abbrev srcR (o : Fin 3 → ℕ) (hi : ∀ a, o a + S1x64x64.size a ≤ S5120x64x64.size a) : Memref sig .tc .hbm S64x64 .bf16 :=
  ((Memref.whole main_arg6).slice (Rect.unit (s := S5120x64x64) o S1x64x64.size hi) (fun _ => rfl)).squeeze S64x64 squeezes_S1x64x64_S64x64

/-- A statement about three coordinates, one by one. -/
theorem box3 (p : Fin 3 → Prop) : (∀ a, p a) ↔ p 0 ∧ p 1 ∧ p 2 :=
  ⟨fun h => ⟨h 0, h 1, h 2⟩, fun ⟨h0, h1, h2⟩ a => by fin_cases a <;> assumption⟩
/-- A statement about four coordinates, one by one. -/
theorem box4 (p : Fin 4 → Prop) : (∀ a, p a) ↔ p 0 ∧ p 1 ∧ p 2 ∧ p 3 :=
  ⟨fun h => ⟨h 0, h 1, h 2, h 3⟩, fun ⟨h0, h1, h2, h3⟩ a => by fin_cases a <;> assumption⟩

/-- The part of the slots that one copy of codes fills. -/
theorem setC {s k : ℕ} {o : Fin 3 → ℕ} (e : o = ![s, 64 * k, 0]) (hi) :
    (dstC o hi).view.set = Finset.univ.filter fun y : S2x2048x512.Idx => (y 0).val = s ∧ (y 1).val / 64 = k := by
  subst e
  refine (View.set_reshape _ _).trans ((View.set_slice_whole cc0_scratch0 _).trans ?_)
  ext y
  have h2 : (y 2).val < 512 := (y 2).isLt
  rw [Rect.mem_set_unit, Finset.mem_filter]
  refine (box3 _).trans ?_
  show ((s ≤ (y 0).val ∧ (y 0).val < s + 1) ∧ (64 * k ≤ (y 1).val ∧ (y 1).val < 64 * k + 64) ∧ (0 ≤ (y 2).val ∧ (y 2).val < 0 + 512)) ↔ _
  simp only [Finset.mem_univ, true_and]
  omega
/-- The part of the pool that one copy of codes reads. -/
theorem setPC {w : ℕ} {o : Fin 3 → ℕ} (e : o = ![w, 0, 0]) (hi) :
    (srcC o hi).view.set = Finset.univ.filter fun y : S5120x64x512.Idx => (y 0).val = w := by
  subst e
  refine (View.set_reshape _ _).trans ((View.set_slice_whole main_arg4 _).trans ?_)
  ext y
  have h1 : (y 1).val < 64 := (y 1).isLt
  have h2 : (y 2).val < 512 := (y 2).isLt
  rw [Rect.mem_set_unit, Finset.mem_filter]
  refine (box3 _).trans ?_
  show ((w ≤ (y 0).val ∧ (y 0).val < w + 1) ∧ (0 ≤ (y 1).val ∧ (y 1).val < 0 + 64) ∧ (0 ≤ (y 2).val ∧ (y 2).val < 0 + 512)) ↔ _
  simp only [Finset.mem_univ, true_and]
  omega
/-- The part of the slots that one copy of scales fills. -/
theorem setS {s k : ℕ} {o : Fin 4 → ℕ} (e : o = ![s, k, 0, 0]) (hi) :
    (dstS o hi).view.set = Finset.univ.filter fun y : S2x32x4x64.Idx => (y 0).val = s ∧ (y 1).val = k := by
  subst e
  refine (View.set_reshape _ _).trans ((View.set_slice_whole cc0_scratch1 _).trans ?_)
  ext y
  have h2 : (y 2).val < 4 := (y 2).isLt
  have h3 : (y 3).val < 64 := (y 3).isLt
  rw [Rect.mem_set_unit, Finset.mem_filter]
  refine (box4 _).trans ?_
  show ((s ≤ (y 0).val ∧ (y 0).val < s + 1) ∧ (k ≤ (y 1).val ∧ (y 1).val < k + 1) ∧ (0 ≤ (y 2).val ∧ (y 2).val < 0 + 4) ∧ (0 ≤ (y 3).val ∧ (y 3).val < 0 + 64)) ↔ _
  simp only [Finset.mem_univ, true_and]
  omega
/-- The part of the pool that one copy of scales reads. -/
theorem setPS {w : ℕ} {o : Fin 3 → ℕ} (e : o = ![w, 0, 0]) (hi) :
    (srcS o hi).view.set = Finset.univ.filter fun y : S5120x4x64.Idx => (y 0).val = w := by
  subst e
  refine (View.set_reshape _ _).trans ((View.set_slice_whole main_v0 _).trans ?_)
  ext y
  have h1 : (y 1).val < 4 := (y 1).isLt
  have h2 : (y 2).val < 64 := (y 2).isLt
  rw [Rect.mem_set_unit, Finset.mem_filter]
  refine (box3 _).trans ?_
  show ((w ≤ (y 0).val ∧ (y 0).val < w + 1) ∧ (0 ≤ (y 1).val ∧ (y 1).val < 0 + 4) ∧ (0 ≤ (y 2).val ∧ (y 2).val < 0 + 64)) ↔ _
  simp only [Finset.mem_univ, true_and]
  omega
/-- The part of the slots that one copy of rope keys fills. -/
theorem setR {s k : ℕ} {o : Fin 3 → ℕ} (e : o = ![s, 64 * k, 0]) (hi) :
    (dstR o hi).view.set = Finset.univ.filter fun y : S2x2048x64.Idx => (y 0).val = s ∧ (y 1).val / 64 = k := by
  subst e
  refine (View.set_reshape _ _).trans ((View.set_slice_whole cc0_scratch2 _).trans ?_)
  ext y
  have h2 : (y 2).val < 64 := (y 2).isLt
  rw [Rect.mem_set_unit, Finset.mem_filter]
  refine (box3 _).trans ?_
  show ((s ≤ (y 0).val ∧ (y 0).val < s + 1) ∧ (64 * k ≤ (y 1).val ∧ (y 1).val < 64 * k + 64) ∧ (0 ≤ (y 2).val ∧ (y 2).val < 0 + 64)) ↔ _
  simp only [Finset.mem_univ, true_and]
  omega
/-- The part of the pool that one copy of rope keys reads. -/
theorem setPR {w : ℕ} {o : Fin 3 → ℕ} (e : o = ![w, 0, 0]) (hi) :
    (srcR o hi).view.set = Finset.univ.filter fun y : S5120x64x64.Idx => (y 0).val = w := by
  subst e
  refine (View.set_reshape _ _).trans ((View.set_slice_whole main_arg6 _).trans ?_)
  ext y
  have h1 : (y 1).val < 64 := (y 1).isLt
  have h2 : (y 2).val < 64 := (y 2).isLt
  rw [Rect.mem_set_unit, Finset.mem_filter]
  refine (box3 _).trans ?_
  show ((w ≤ (y 0).val ∧ (y 0).val < w + 1) ∧ (0 ≤ (y 1).val ∧ (y 1).val < 0 + 64) ∧ (0 ≤ (y 2).val ∧ (y 2).val < 0 + 64)) ↔ _
  simp only [Finset.mem_univ, true_and]
  omega

/-! ## Where the elements of the two ends lie -/

open Idealize.ShloMosaic.ValueIdx in
/-- An entry of the place one copy of codes fills, by coordinates. -/
theorem embC {o : Fin 3 → ℕ} (hi) (x : Fin 64) (z : Fin 512) (a : Fin 3) :
    ((dstC o hi).view.emb (ix2 x z) a).val = o a + (![0, x.val, z.val] : Fin 3 → ℕ) a := by
  show ((Rect.unit (s := S2x2048x512) o S1x64x512.size hi).emb (Shape.reshapeEquiv _ (ix2 x z)) a).val = _
  rw [reshapeEquiv_ix2_1ab, Rect.emb_apply]
  fin_cases a <;> exact congrArg (_ + ·) (Nat.one_mul _)
open Idealize.ShloMosaic.ValueIdx in
/-- An entry of the page one copy of codes reads, by coordinates. -/
theorem embPC {o : Fin 3 → ℕ} (hi) (x : Fin 64) (z : Fin 512) (a : Fin 3) :
    ((srcC o hi).view.emb (ix2 x z) a).val = o a + (![0, x.val, z.val] : Fin 3 → ℕ) a := by
  show ((Rect.unit (s := S5120x64x512) o S1x64x512.size hi).emb (Shape.reshapeEquiv _ (ix2 x z)) a).val = _
  rw [reshapeEquiv_ix2_1ab, Rect.emb_apply]
  fin_cases a <;> exact congrArg (_ + ·) (Nat.one_mul _)
open Idealize.ShloMosaic.ValueIdx in
/-- An entry of the place one copy of scales fills, by coordinates. -/
theorem embS {o : Fin 4 → ℕ} (hi) (x : Fin 4) (z : Fin 64) (a : Fin 4) :
    ((dstS o hi).view.emb (ix2 x z) a).val = o a + (![0, 0, x.val, z.val] : Fin 4 → ℕ) a := by
  show ((Rect.unit (s := S2x32x4x64) o S1x1x4x64.size hi).emb (Shape.reshapeEquiv _ (ix2 x z)) a).val = _
  rw [reshapeEquiv_ix2_11ab, Rect.emb_apply]
  fin_cases a <;> exact congrArg (_ + ·) (Nat.one_mul _)
open Idealize.ShloMosaic.ValueIdx in
/-- An entry of the page one copy of scales reads, by coordinates. -/
theorem embPS {o : Fin 3 → ℕ} (hi) (x : Fin 4) (z : Fin 64) (a : Fin 3) :
    ((srcS o hi).view.emb (ix2 x z) a).val = o a + (![0, x.val, z.val] : Fin 3 → ℕ) a := by
  show ((Rect.unit (s := S5120x4x64) o S1x4x64.size hi).emb (Shape.reshapeEquiv _ (ix2 x z)) a).val = _
  rw [reshapeEquiv_ix2_1ab, Rect.emb_apply]
  fin_cases a <;> exact congrArg (_ + ·) (Nat.one_mul _)
open Idealize.ShloMosaic.ValueIdx in
/-- An entry of the place one copy of rope keys fills, by coordinates. -/
theorem embR {o : Fin 3 → ℕ} (hi) (x : Fin 64) (z : Fin 64) (a : Fin 3) :
    ((dstR o hi).view.emb (ix2 x z) a).val = o a + (![0, x.val, z.val] : Fin 3 → ℕ) a := by
  show ((Rect.unit (s := S2x2048x64) o S1x64x64.size hi).emb (Shape.reshapeEquiv _ (ix2 x z)) a).val = _
  rw [reshapeEquiv_ix2_1ab, Rect.emb_apply]
  fin_cases a <;> exact congrArg (_ + ·) (Nat.one_mul _)
open Idealize.ShloMosaic.ValueIdx in
/-- An entry of the page one copy of rope keys reads, by coordinates. -/
theorem embPR {o : Fin 3 → ℕ} (hi) (x : Fin 64) (z : Fin 64) (a : Fin 3) :
    ((srcR o hi).view.emb (ix2 x z) a).val = o a + (![0, x.val, z.val] : Fin 3 → ℕ) a := by
  show ((Rect.unit (s := S5120x64x64) o S1x64x64.size hi).emb (Shape.reshapeEquiv _ (ix2 x z)) a).val = _
  rw [reshapeEquiv_ix2_1ab, Rect.emb_apply]
  fin_cases a <;> exact congrArg (_ + ·) (Nat.one_mul _)

/-! ## What a transfer writes -/

open Idealize.ShloMosaic.ValueIdx in
/-- What a landed copy of codes has written is what the slot is meant to hold. -/
theorem wrC {s k w : ℕ} {b : ℕ} (hw : pg T b k = w) (pool : S5120x64x512.Idx → Elt F .fp8e4m3) {o : Fin 3 → ℕ} (e : o = ![s, 64 * k, 0]) (hi)
    {o' : Fin 3 → ℕ} (e' : o' = ![w, 0, 0]) (hi') (fd : S2x2048x512.Idx → Elt F .fp8e4m3) (y : S2x2048x512.Idx)
    (hy : y ∈ (dstC o hi).view.set) :
    (dstC o hi).view.write (Elt F) fd ((ReadAs.same).apply ((srcC o' hi').view.read (Elt F) pool)) Finset.univ y = gC T pool b y := by
  obtain ⟨x, -, rfl⟩ := Finset.mem_map.mp hy
  rw [View.write_emb_of_mem _ _ (Finset.mem_univ x)]
  obtain ⟨p, q, rfl⟩ : ∃ p q, x = ix2 p q := ⟨_, _, eq_ix2 x⟩
  show pool ((srcC o' hi').view.emb _) = pool _
  congr 1
  funext a
  apply Fin.ext
  rw [embPC hi' p q a]
  have h1 := embC hi p q 1
  have h2 := embC hi p q 2
  have hwl : w < 5120 := hw ▸ Nat.mod_lt _ (by norm_num)
  have hp := p.isLt; have hq := q.isLt
  subst e e'
  simp only [Matrix.cons_val] at h1 h2
  show _ = (![pg T b ((((dstC _ hi).view.emb (ix2 p q)) 1).val / 64) % 5120, ((((dstC _ hi).view.emb (ix2 p q)) 1).val % 64) % 64, (((dstC _ hi).view.emb (ix2 p q)) 2).val % 512] : Fin 3 → ℕ) a
  rw [h1, h2, show (64 * k + p.val) / 64 = k by omega, hw, show (64 * k + p.val) % 64 % 64 = p.val by omega, show (0 + q.val) % 512 = q.val by omega, Nat.mod_eq_of_lt hwl]
  fin_cases a <;> simp
open Idealize.ShloMosaic.ValueIdx in
/-- What a landed copy of scales has written is what the slot is meant to hold. -/
theorem wrS {s k w : ℕ} {b : ℕ} (hw : pg T b k = w) (pool : S5120x4x64.Idx → Elt F .f32) {o : Fin 4 → ℕ} (e : o = ![s, k, 0, 0]) (hi)
    {o' : Fin 3 → ℕ} (e' : o' = ![w, 0, 0]) (hi') (fd : S2x32x4x64.Idx → Elt F .f32) (y : S2x32x4x64.Idx)
    (hy : y ∈ (dstS o hi).view.set) :
    (dstS o hi).view.write (Elt F) fd ((ReadAs.same).apply ((srcS o' hi').view.read (Elt F) pool)) Finset.univ y = gS T pool b y := by
  obtain ⟨x, -, rfl⟩ := Finset.mem_map.mp hy
  rw [View.write_emb_of_mem _ _ (Finset.mem_univ x)]
  obtain ⟨p, q, rfl⟩ : ∃ p q, x = ix2 p q := ⟨_, _, eq_ix2 x⟩
  show pool ((srcS o' hi').view.emb _) = pool _
  congr 1
  funext a
  apply Fin.ext
  rw [embPS hi' p q a]
  have h1 := embS hi p q 1
  have h2 := embS hi p q 2
  have h3 := embS hi p q 3
  have hwl : w < 5120 := hw ▸ Nat.mod_lt _ (by norm_num)
  have hp := p.isLt; have hq := q.isLt
  subst e e'
  simp only [Matrix.cons_val] at h1 h2 h3
  show _ = (![pg T b (((dstS _ hi).view.emb (ix2 p q)) 1).val % 5120, (((dstS _ hi).view.emb (ix2 p q)) 2).val % 4, (((dstS _ hi).view.emb (ix2 p q)) 3).val % 64] : Fin 3 → ℕ) a
  rw [h1, h2, h3, Nat.add_zero, hw, show (0 + p.val) % 4 = p.val by omega, show (0 + q.val) % 64 = q.val by omega, Nat.mod_eq_of_lt hwl]
  fin_cases a <;> simp
open Idealize.ShloMosaic.ValueIdx in
/-- What a landed copy of rope keys has written is what the slot is meant to hold. -/
theorem wrR {s k w : ℕ} {b : ℕ} (hw : pg T b k = w) (pool : S5120x64x64.Idx → Elt F .bf16) {o : Fin 3 → ℕ} (e : o = ![s, 64 * k, 0]) (hi)
    {o' : Fin 3 → ℕ} (e' : o' = ![w, 0, 0]) (hi') (fd : S2x2048x64.Idx → Elt F .bf16) (y : S2x2048x64.Idx)
    (hy : y ∈ (dstR o hi).view.set) :
    (dstR o hi).view.write (Elt F) fd ((ReadAs.same).apply ((srcR o' hi').view.read (Elt F) pool)) Finset.univ y = gR T pool b y := by
  obtain ⟨x, -, rfl⟩ := Finset.mem_map.mp hy
  rw [View.write_emb_of_mem _ _ (Finset.mem_univ x)]
  obtain ⟨p, q, rfl⟩ : ∃ p q, x = ix2 p q := ⟨_, _, eq_ix2 x⟩
  show pool ((srcR o' hi').view.emb _) = pool _
  congr 1
  funext a
  apply Fin.ext
  rw [embPR hi' p q a]
  have h1 := embR hi p q 1
  have h2 := embR hi p q 2
  have hwl : w < 5120 := hw ▸ Nat.mod_lt _ (by norm_num)
  have hp := p.isLt; have hq := q.isLt
  subst e e'
  simp only [Matrix.cons_val] at h1 h2
  show _ = (![pg T b ((((dstR _ hi).view.emb (ix2 p q)) 1).val / 64) % 5120, ((((dstR _ hi).view.emb (ix2 p q)) 1).val % 64) % 64, (((dstR _ hi).view.emb (ix2 p q)) 2).val % 64] : Fin 3 → ℕ) a
  rw [h1, h2, show (64 * k + p.val) / 64 = k by omega, hw, show (64 * k + p.val) % 64 % 64 = p.val by omega, show (0 + q.val) % 64 = q.val by omega, Nat.mod_eq_of_lt hwl]
  fin_cases a <;> simp

/-! ## Semaphores and amounts -/

/-- The semaphore cells of slot `s`. -/
def cellC (s : ℕ) : SemLoc sig := .dma ((cc0_scratch4.slice (Rect.unit (s := S2) ![s % 2] S1.size (by intro a; fin_cases a; simp [Shape.size]; omega))).squeeze S_ squeezes_S1_S_).sem
def cellS (s : ℕ) : SemLoc sig := .dma ((cc0_scratch5.slice (Rect.unit (s := S2) ![s % 2] S1.size (by intro a; fin_cases a; simp [Shape.size]; omega))).squeeze S_ squeezes_S1_S_).sem
def cellR (s : ℕ) : SemLoc sig := .dma ((cc0_scratch6.slice (Rect.unit (s := S2) ![s % 2] S1.size (by intro a; fin_cases a; simp [Shape.size]; omega))).squeeze S_ squeezes_S1_S_).sem

/-- The bytes of a page of codes, of scales, of rope keys. -/
def NC : ℕ := (dstC ![0, 0, 0] (by decide)).view.dmaCredit
def NS : ℕ := (dstS ![0, 0, 0, 0] (by decide)).view.dmaCredit
def NR : ℕ := (dstR ![0, 0, 0] (by decide)).view.dmaCredit

/-- The amount by which a copy of codes raises its counter. -/
theorem amountC (s : ℕ) {o : Fin 3 → ℕ} (hi) : (dstC o hi).view.amount (cellC s) = NC := rfl
/-- The amount a wait for a copy of codes takes. -/
theorem creditC {o : Fin 3 → ℕ} (hi) : (dstC o hi).view.dmaCredit = NC := rfl
/-- The amount by which a copy of scales raises its counter. -/
theorem amountS (s : ℕ) {o : Fin 4 → ℕ} (hi) : (dstS o hi).view.amount (cellS s) = NS := rfl
/-- The amount a wait for a copy of scales takes. -/
theorem creditS {o : Fin 4 → ℕ} (hi) : (dstS o hi).view.dmaCredit = NS := rfl
/-- The amount by which a copy of rope keys raises its counter. -/
theorem amountR (s : ℕ) {o : Fin 3 → ℕ} (hi) : (dstR o hi).view.amount (cellR s) = NR := rfl
/-- The amount a wait for a copy of rope keys takes. -/
theorem creditR {o : Fin 3 → ℕ} (hi) : (dstR o hi).view.dmaCredit = NR := rfl

end Cert.Kernel.Hand
-- ==== Proof.K.Copies.lean ====
/-
  The gather loops of one slot: the loop that starts the copies of a sequence's pages, printed twice (for the first
  sequence and for the next one), and the loop that waits for them.
-/
module

public import proofs.«01_k».proof.Proof.K.Slot
public import Idealize.ShloMosaic.Lib.Tactic

@[expose] public section

noncomputable section

namespace Cert.Kernel.Hand

open Idealize.ShloMosaic Idealize.ShloMosaic.TcCoe Idealize.ShloMosaic.Tactic Cert.Kernel Cert.Kernel.Gen Cert.Words Cert.Pages
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the counters of the transfers. -/
local notation "𝕄" => MT nD τ sig Unit (Elt F) ℕ (Pipeline.UD sig nD τ) ℕ

/-- The counters of the transfers. -/
local notation "EC" => countersEmb (nD := nD) (U := Pipeline.UD sig nD τ)

variable (c : Dev nD)

/-- The three pools. -/
structure Pools (F : FTy → Type) [FloatOps F] where
  codes : S5120x64x512.Idx → Elt F .fp8e4m3
  scales : S5120x4x64.Idx → Elt F .f32
  ropes : S5120x64x64.Idx → Elt F .bf16

variable (T : Tab) (L : Lens) (X : Pools F)

/-- The copies of sequence `b` into slot `s`: `k` pages started and `u` pages waited for. -/
def FlyC (s b n k u : ℕ) : sProp 𝕄 := Flying EC (c : Thread nD τ) (cellC s) () NC (planC c T X.codes s b) n (halfC s) k (NC * u)
def FlyS (s b n k u : ℕ) : sProp 𝕄 := Flying EC (c : Thread nD τ) (cellS s) () NS (planS c T X.scales s b) n (halfS s) k (NS * u)
def FlyR (s b n k u : ℕ) : sProp 𝕄 := Flying EC (c : Thread nD τ) (cellR s) () NR (planR c T X.ropes s b) n (halfR s) k (NR * u)
def Fly (s b n k u : ℕ) : sProp 𝕄 := iprop(FlyC c T X s b n k u ∗ FlyS c T X s b n k u ∗ FlyR c T X s b n k u)

/-- The page table, held by the scalar unit. -/
def tab : sProp 𝕄 := iprop(∃ q, (Memref.whole main_arg7).view.loc (c : Thread nD τ) ↦{q} T)

/-- The lengths, held by the scalar unit. -/
def lens : sProp 𝕄 := iprop(∃ q, (Memref.whole main_arg8).view.loc (c : Thread nD τ) ↦{q} L)

/-- The word a load of the lengths reads. -/
theorem len_at {o : Fin 1 → ℕ} {b : ℕ} (e : o = ![b]) (hb : b < 128) (hi) (x) :
    ((Memref.whole main_arg8).access (Rect.unit (s := S128) o S1.size hi)).read (Elt F) L x = len L b := by
  subst e
  show L _ = L _
  congr 1
  funext a
  apply Fin.ext
  show (![b] : Fin 1 → ℕ) a + 1 * (x a).val = (![b % 128] : Fin 1 → ℕ) a
  have h0 : (x 0).val < 1 := (x 0).isLt
  fin_cases a; simp; omega

/-- The word a load of the page table reads. -/
theorem tab_at {o : Fin 2 → ℕ} {b t : ℕ} (e : o = ![b, t]) (hb : b < 128) (ht : t < 32) (hi) (x) :
    ((Memref.whole main_arg7).access (Rect.unit (s := S128x32) o S1x1.size hi)).read (Elt F) T x = T (ixT b t) := by
  subst e
  show T _ = T _
  congr 1
  funext a
  apply Fin.ext
  show (![b, t] : Fin 2 → ℕ) a + 1 * (x a).val = (![b % 128, t % 32] : Fin 2 → ℕ) a
  have h0 : (x 0).val < 1 := (x 0).isLt
  have h1 : (x 1).val < 1 := (x 1).isLt
  fin_cases a <;> simp <;> omega

section Steps

variable {α : Type} {Q : α → sProp (MT nD τ sig Unit (Elt F) ℕ (Pipeline.UD sig nD τ) ℕ)} {k : PUnit → Prog (TpuEff nD τ sig (Elt F) Λ₀ .tc) α} (bd : Option Variants.none.V)

/-- Starting the copy of page `j` (codes). -/
theorem issueC {s b n j w : ℕ} (hj : j < n) {o : Fin 3 → ℕ} (e : o = ![s, 64 * j, 0]) {hi} {o' : Fin 3 → ℕ} (e' : o' = ![w, 0, 0]) {hi'}
    (hw : pg T b j = w) {cl : SemLoc sig} {hsrc hdst} {hsem : DmaTarget.Typed (nD := nD) .hbm cl (.here (p := (.tc : Proc τ)) (dstC o hi))} (hc : cl = cellC s) :
    FlyC c T X s b n j 0 ⊢ iprop((FlyC c T X s b n (j + 1) 0 -∗ wp frame (wpE (defs₀ (F := F)) Variants.none (c : Thread nD τ) bd) Set.univ (k ⟨⟩) Q)
      -∗ wp frame (wpE (defs₀ (F := F)) Variants.none (c : Thread nD τ) bd) Set.univ
          (Prog.lift (.enqueueDma (srcC o' hi') (.here (dstC o hi)) cl hsrc hdst hsem) >>= k) Q) := by
  subst hc
  exact issue EC (c : Thread nD τ) (cellC s) () NC Variants.none bd (src := srcC o' hi') (dst := dstC o hi) (hsrc := hsrc) (hdst := hdst) (hsem := hsem) (k := k) (planC c T X.codes s b) n (halfC s) (amountC s hi) hj (setC e hi)
    (by rw [setPC e' hi']; show _ = Finset.univ.filter _; rw [hw]) (fun fd y hy => wrC T hw X.codes e hi e' hi' fd y (by rw [setC e hi]; exact hy))

/-- Waiting for one more page (codes). -/
theorem awaitC {s b n j : ℕ} (hj : j < n) {o : Fin 3 → ℕ} {hi} {o' : Fin 3 → ℕ} {hi'}
    {hsrc hdst} {cl : DmaSem sig} (hc : SemLoc.dma cl = cellC s) {W : Waits sig Unit} :
    iprop(FlyC c T X s b n n j ∗ owes (c : Thread nD τ) 0 W) ⊢ iprop((iprop(FlyC c T X s b n n (j + 1) ∗ owes (c : Thread nD τ) 0 (insert (cellC s, ()) W)) -∗ wp frame (wpE (defs₀ (F := F)) Variants.none (c : Thread nD τ) bd) Set.univ (k ⟨⟩) Q)
      -∗ wp frame (wpE (defs₀ (F := F)) Variants.none (c : Thread nD τ) bd) Set.univ
          (Prog.lift (.waitDma2 cl (srcC o' hi') (dstC o hi) hsrc hdst) >>= k) Q) := by
  unfold FlyC
  rw [← hc]
  exact await EC (c : Thread nD τ) () NC (planC c T X.codes s b) Variants.none bd (srcw := srcC o' hi') (dstw := dstC o hi) (hsrc := hsrc) (hdst := hdst) (k := k) n (halfC s) (creditC hi) hj

/-- Starting the copy of page `j` (scales). -/
theorem issueS {s b n j w : ℕ} (hj : j < n) {o : Fin 4 → ℕ} (e : o = ![s, j, 0, 0]) {hi} {o' : Fin 3 → ℕ} (e' : o' = ![w, 0, 0]) {hi'}
    (hw : pg T b j = w) {cl : SemLoc sig} {hsrc hdst} {hsem : DmaTarget.Typed (nD := nD) .hbm cl (.here (p := (.tc : Proc τ)) (dstS o hi))} (hc : cl = cellS s) :
    FlyS c T X s b n j 0 ⊢ iprop((FlyS c T X s b n (j + 1) 0 -∗ wp frame (wpE (defs₀ (F := F)) Variants.none (c : Thread nD τ) bd) Set.univ (k ⟨⟩) Q)
      -∗ wp frame (wpE (defs₀ (F := F)) Variants.none (c : Thread nD τ) bd) Set.univ
          (Prog.lift (.enqueueDma (srcS o' hi') (.here (dstS o hi)) cl hsrc hdst hsem) >>= k) Q) := by
  subst hc
  exact issue EC (c : Thread nD τ) (cellS s) () NS Variants.none bd (src := srcS o' hi') (dst := dstS o hi) (hsrc := hsrc) (hdst := hdst) (hsem := hsem) (k := k) (planS c T X.scales s b) n (halfS s) (amountS s hi) hj (setS e hi)
    (by rw [setPS e' hi']; show _ = Finset.univ.filter _; rw [hw]) (fun fd y hy => wrS T hw X.scales e hi e' hi' fd y (by rw [setS e hi]; exact hy))

/-- Waiting for one more page (scales). -/
theorem awaitS {s b n j : ℕ} (hj : j < n) {o : Fin 4 → ℕ} {hi} {o' : Fin 3 → ℕ} {hi'}
    {hsrc hdst} {cl : DmaSem sig} (hc : SemLoc.dma cl = cellS s) {W : Waits sig Unit} :
    iprop(FlyS c T X s b n n j ∗ owes (c : Thread nD τ) 0 W) ⊢ iprop((iprop(FlyS c T X s b n n (j + 1) ∗ owes (c : Thread nD τ) 0 (insert (cellS s, ()) W)) -∗ wp frame (wpE (defs₀ (F := F)) Variants.none (c : Thread nD τ) bd) Set.univ (k ⟨⟩) Q)
      -∗ wp frame (wpE (defs₀ (F := F)) Variants.none (c : Thread nD τ) bd) Set.univ
          (Prog.lift (.waitDma2 cl (srcS o' hi') (dstS o hi) hsrc hdst) >>= k) Q) := by
  unfold FlyS
  rw [← hc]
  exact await EC (c : Thread nD τ) () NS (planS c T X.scales s b) Variants.none bd (srcw := srcS o' hi') (dstw := dstS o hi) (hsrc := hsrc) (hdst := hdst) (k := k) n (halfS s) (creditS hi) hj

/-- Starting the copy of page `j` (rope keys). -/
theorem issueR {s b n j w : ℕ} (hj : j < n) {o : Fin 3 → ℕ} (e : o = ![s, 64 * j, 0]) {hi} {o' : Fin 3 → ℕ} (e' : o' = ![w, 0, 0]) {hi'}
    (hw : pg T b j = w) {cl : SemLoc sig} {hsrc hdst} {hsem : DmaTarget.Typed (nD := nD) .hbm cl (.here (p := (.tc : Proc τ)) (dstR o hi))} (hc : cl = cellR s) :
    FlyR c T X s b n j 0 ⊢ iprop((FlyR c T X s b n (j + 1) 0 -∗ wp frame (wpE (defs₀ (F := F)) Variants.none (c : Thread nD τ) bd) Set.univ (k ⟨⟩) Q)
      -∗ wp frame (wpE (defs₀ (F := F)) Variants.none (c : Thread nD τ) bd) Set.univ
          (Prog.lift (.enqueueDma (srcR o' hi') (.here (dstR o hi)) cl hsrc hdst hsem) >>= k) Q) := by
  subst hc
  exact issue EC (c : Thread nD τ) (cellR s) () NR Variants.none bd (src := srcR o' hi') (dst := dstR o hi) (hsrc := hsrc) (hdst := hdst) (hsem := hsem) (k := k) (planR c T X.ropes s b) n (halfR s) (amountR s hi) hj (setR e hi)
    (by rw [setPR e' hi']; show _ = Finset.univ.filter _; rw [hw]) (fun fd y hy => wrR T hw X.ropes e hi e' hi' fd y (by rw [setR e hi]; exact hy))

/-- Waiting for one more page (rope keys). -/
theorem awaitR {s b n j : ℕ} (hj : j < n) {o : Fin 3 → ℕ} {hi} {o' : Fin 3 → ℕ} {hi'}
    {hsrc hdst} {cl : DmaSem sig} (hc : SemLoc.dma cl = cellR s) {W : Waits sig Unit} :
    iprop(FlyR c T X s b n n j ∗ owes (c : Thread nD τ) 0 W) ⊢ iprop((iprop(FlyR c T X s b n n (j + 1) ∗ owes (c : Thread nD τ) 0 (insert (cellR s, ()) W)) -∗ wp frame (wpE (defs₀ (F := F)) Variants.none (c : Thread nD τ) bd) Set.univ (k ⟨⟩) Q)
      -∗ wp frame (wpE (defs₀ (F := F)) Variants.none (c : Thread nD τ) bd) Set.univ
          (Prog.lift (.waitDma2 cl (srcR o' hi') (dstR o hi) hsrc hdst) >>= k) Q) := by
  unfold FlyR
  rw [← hc]
  exact await EC (c : Thread nD τ) () NR (planR c T X.ropes s b) Variants.none bd (srcw := srcR o' hi') (dstw := dstR o hi) (hsrc := hsrc) (hdst := hdst) (k := k) n (halfR s) (creditR hi) hj

/-- Reading the number of a page. -/
theorem readTab {k : Elt F .i32 → Prog (TpuEff nD τ sig (Elt F) Λ₀ .tc) α} {b t : ℕ} {o : Fin 2 → ℕ} (e : o = ![b, t]) (hb : b < 128) (ht : t < 32) {hi h1 hp} :
    tab (F := F) c T ⊢ iprop((tab (F := F) c T -∗ wp frame (wpE (defs₀ (F := F)) Variants.none (c : Thread nD τ) bd) Set.univ (k (T (ixT b t))) Q)
      -∗ wp frame (wpE (defs₀ (F := F)) Variants.none (c : Thread nD τ) bd) Set.univ
          (smemLoad (Memref.whole main_arg7) (Rect.unit (s := S128x32) o S1x1.size hi) h1 hp >>= k) Q) := by
  unfold tab
  iintro ⟨%q, HT⟩ Hk
  iapply (readWord (m := Memref.whole main_arg7) (r := Rect.unit (s := S128x32) o S1x1.size hi) (h1 := h1) (hp := hp) (k := k) (f := T)
    (c : Thread nD τ) Variants.none bd (v := T (ixT b t)) (fun x => tab_at T e hb ht hi x)) $$ HT
  iintro HT
  iapply Hk
  iexists q
  iexact HT

/-- Reading the length of a sequence. -/
theorem readLen {k : Elt F .i32 → Prog (TpuEff nD τ sig (Elt F) Λ₀ .tc) α} {b : ℕ} {o : Fin 1 → ℕ} (e : o = ![b]) (hb : b < 128) {hi h1 hp} :
    lens (F := F) c L ⊢ iprop((lens (F := F) c L -∗ wp frame (wpE (defs₀ (F := F)) Variants.none (c : Thread nD τ) bd) Set.univ (k (len L b)) Q)
      -∗ wp frame (wpE (defs₀ (F := F)) Variants.none (c : Thread nD τ) bd) Set.univ
          (smemLoad (Memref.whole main_arg8) (Rect.unit (s := S128) o S1.size hi) h1 hp >>= k) Q) := by
  unfold lens
  iintro ⟨%q, HT⟩ Hk
  iapply (readWord (m := Memref.whole main_arg8) (r := Rect.unit (s := S128) o S1.size hi) (h1 := h1) (hp := hp) (k := k) (f := L)
    (c : Thread nD τ) Variants.none bd (v := len L b) (fun x => len_at L e hb hi x)) $$ HT
  iintro HT
  iapply Hk
  iexists q
  iexact HT

end Steps
/-- A semaphore cell by its offset. -/
theorem cellC_of {s : ℕ} {o : Fin 1 → ℕ} (e : o = ![s % 2]) (hi) :
    SemLoc.dma ((cc0_scratch4.slice (Rect.unit (s := S2) o S1.size hi)).squeeze S_ squeezes_S1_S_).sem = cellC s := by subst e; rfl
/-- The counter of a slot's copies of scales, from its computed index. -/
theorem cellS_of {s : ℕ} {o : Fin 1 → ℕ} (e : o = ![s % 2]) (hi) :
    SemLoc.dma ((cc0_scratch5.slice (Rect.unit (s := S2) o S1.size hi)).squeeze S_ squeezes_S1_S_).sem = cellS s := by subst e; rfl
/-- The counter of a slot's copies of rope keys, from its computed index. -/
theorem cellR_of {s : ℕ} {o : Fin 1 → ℕ} (e : o = ![s % 2]) (hi) :
    SemLoc.dma ((cc0_scratch6.slice (Rect.unit (s := S2) o S1.size hi)).squeeze S_ squeezes_S1_S_).sem = cellR s := by subst e; rfl

/-- The index of the other slot's counter, for the codes. -/
theorem off17_eq (i : grid0.Coords) : k0_off17 i = ![(pt i + 1) % 2 % 2] := by
  show ![(Scalar.subi 1#32 (Scalar.remsi (BitVec.ofNat 32 (i 0).val) 2#32)).toNat] = _
  rw [slotW' (pt_lt i), show 1 - (i 0).val % 2 = (pt i + 1) % 2 % 2 by unfold pt; omega]
/-- The index of the other slot's counter, for the scales. -/
theorem off20_eq (i : grid0.Coords) : k0_off20 i = ![(pt i + 1) % 2 % 2] := off17_eq i
/-- The index of the grid point's own slot's counter, for the codes. -/
theorem off36_eq (i : grid0.Coords) : k0_off36 i = ![pt i % 2 % 2] := by
  show ![(Scalar.remsi (BitVec.ofNat 32 (i 0).val) 2#32).toNat] = _
  rw [slotW (pt_lt i), show (i 0).val % 2 = pt i % 2 % 2 by unfold pt; omega]; exact congrArg (fun x : ℕ => ![x]) (by omega)
/-- The index of the grid point's own slot's counter, for the scales. -/
theorem off39_eq (i : grid0.Coords) : k0_off39 i = ![pt i % 2 % 2] := off36_eq i
/-- The other slot is the slot of the next sequence. -/
theorem otherSlot (b : ℕ) : 1 - b % 2 = (b + 1) % 2 := by omega

variable (i : grid0.Coords) (G : Good T L) (bd : Option Variants.none.V)
variable (arg3 : Memref sig .tc .vmem S1x32x512 .bf16) (harg3 : arg3.IsWhole) (arg4 : Memref sig .tc .vmem S1x32x64 .bf16) (harg4 : arg4.IsWhole) (arg5 : Memref sig .tc .vmem S1x1x512 .bf16) (harg5 : arg5.IsWhole) (arg6 : Memref sig .tc .vmem S1x1x64 .bf16) (harg6 : arg6.IsWhole) (arg10 : Memref sig .tc .vmem S1x32x512 .bf16) (harg10 : arg10.IsWhole)
include G

/-- One trip of the loop that starts the copies of the first sequence. -/
theorem step1 (h1 : k0_cond1 i = 1#1) (v : Elt F .i32) (hv : v = len L (0)) (hw : k0_chk1 i v) (k : Fin (k0_t1_loop v).trips) :
    iprop(tab c T ∗ Fly c T X (0) (0) (np L (0)) k.val 0)
      ⊢ wp frame (wpE (defs₀ (F := F)) Variants.none (c : Thread nD τ) bd) Set.univ
        (k0_t1_body i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 h1 v hw k ())
        (fun _ => iprop(tab c T ∗ Fly c T X (0) (0) (np L (0)) (k.val + 1) 0)) := by
  subst hv
  have hle := G.le (ixL (0))
  have hk : k.val < np L (0) := lt_of_lt_of_eq k.isLt (copy_trips hle)
  have h32 : k.val < 32 := copy_lt hle k
  have hp : pg T (0) k.val = (T (ixT (0) k.val)).toNat := Nat.mod_eq_of_lt (G.page _)
  unfold k0_t1_body
  iintro ⟨HT, HF⟩
  dsimp only
  iapply (readTab c T bd (off1_eq k h32) (by norm_num) h32) $$ HT
  iintro HT
  iapply (check (c : Thread nD τ) Variants.none bd (chk2 i (G.page _)))
  unfold Fly
  icases HF with ⟨HC, HS, HR⟩
  iapply (issueC c T X bd hk (off2_eq k h32) rfl hp rfl) $$ HC
  iintro HC
  iapply (issueS c T X bd hk (off4_eq k h32) rfl hp rfl) $$ HS
  iintro HS
  iapply (issueR c T X bd hk (off6_eq k h32) rfl hp rfl) $$ HR
  iintro HR
  sl_step
  isplitl [HT]; · iexact HT
  isplitl [HC]; · iexact HC
  isplitl [HS]; · iexact HS
  iexact HR

/-- One trip of the loop that starts the copies of the next sequence. -/
theorem step3 (h1 : k0_cond2 i = 1#1) (v : Elt F .i32) (hv : v = len L (pt i + 1)) (hb : pt i + 1 < 128) (hw : k0_chk4 i v) (k : Fin (k0_t3_loop v).trips) :
    iprop(tab c T ∗ Fly c T X ((pt i + 1) % 2) (pt i + 1) (np L (pt i + 1)) k.val 0)
      ⊢ wp frame (wpE (defs₀ (F := F)) Variants.none (c : Thread nD τ) bd) Set.univ
        (k0_t3_body i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 h1 v hw k ())
        (fun _ => iprop(tab c T ∗ Fly c T X ((pt i + 1) % 2) (pt i + 1) (np L (pt i + 1)) (k.val + 1) 0)) := by
  subst hv
  have hle := G.le (ixL (pt i + 1))
  have hk : k.val < np L (pt i + 1) := lt_of_lt_of_eq k.isLt (copy_trips hle)
  have h32 : k.val < 32 := copy_lt hle k
  have hp : pg T (pt i + 1) k.val = (T (ixT (pt i + 1) k.val)).toNat := Nat.mod_eq_of_lt (G.page _)
  unfold k0_t3_body
  iintro ⟨HT, HF⟩
  dsimp only
  iapply (readTab c T bd (off16_eq i k h32) hb h32) $$ HT
  iintro HT
  iapply (check (c : Thread nD τ) Variants.none bd (chk5 i (G.page _)))
  unfold Fly
  icases HF with ⟨HC, HS, HR⟩
  iapply (issueC c T X bd hk ((off18_eq i k h32).trans (by rw [otherSlot])) rfl hp (cellC_of (off17_eq i) _)) $$ HC
  iintro HC
  iapply (issueS c T X bd hk ((off21_eq i k h32).trans (by rw [otherSlot])) rfl hp (cellS_of (off20_eq i) _)) $$ HS
  iintro HS
  iapply (issueR c T X bd hk ((off23_eq i k h32).trans (by rw [otherSlot])) rfl hp (cellR_of (off20_eq i) _)) $$ HR
  iintro HR
  sl_step
  isplitl [HT]; · iexact HT
  isplitl [HC]; · iexact HC
  isplitl [HS]; · iexact HS
  iexact HR

/-- One trip of the loop that waits. -/
theorem step5 (v : Elt F .i32) (hv : v = len L (pt i)) (hw : k0_chk7 i v) (k : Fin (k0_t5_loop v).trips) :
    iprop(tab c T ∗ Fly c T X (pt i % 2) (pt i) (np L (pt i)) (np L (pt i)) k.val ∗ ∃ W, owes (c : Thread nD τ) 0 W)
      ⊢ wp frame (wpE (defs₀ (F := F)) Variants.none (c : Thread nD τ) bd) Set.univ
        (k0_t5_body i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 v hw k ())
        (fun _ => iprop(tab c T ∗ Fly c T X (pt i % 2) (pt i) (np L (pt i)) (np L (pt i)) (k.val + 1) ∗ ∃ W, owes (c : Thread nD τ) 0 W)) := by
  subst hv
  have hle := G.le (ixL (pt i))
  have hk : k.val < np L (pt i) := lt_of_lt_of_eq k.isLt (copy_trips hle)
  have h32 : k.val < 32 := copy_lt hle k
  unfold k0_t5_body
  iintro ⟨HT, HF, ⟨%W, HO⟩⟩
  dsimp only
  iapply (readTab c T bd (off35_eq i k h32) (pt_lt i) h32) $$ HT
  iintro HT
  iapply (check (c : Thread nD τ) Variants.none bd (chk8 (G.page _)))
  unfold Fly
  icases HF with ⟨HC, HS, HR⟩
  iapply (awaitC c T X bd hk (cellC_of (off36_eq i) _)) $$ [HC HO]
  · isplitl [HC]; · iexact HC
    iexact HO
  iintro ⟨HC, HO⟩
  iapply (awaitS c T X bd hk (cellS_of (off39_eq i) _)) $$ [HS HO]
  · isplitl [HS]; · iexact HS
    iexact HO
  iintro ⟨HS, HO⟩
  iapply (awaitR c T X bd hk (cellR_of (off39_eq i) _)) $$ [HR HO]
  · isplitl [HR]; · iexact HR
    iexact HO
  iintro ⟨HR, HO⟩
  sl_step
  isplitl [HT]; · iexact HT
  isplitr [HO]
  · isplitl [HC]; · iexact HC
    isplitl [HS]; · iexact HS
    iexact HR
  iexists _
  iexact HO

end Cert.Kernel.Hand
-- ==== Proof.K.Loads.lean ====
/-
  What the compute loops read and write: windows of the landed slot, and planes of the buffer of scores.
-/
module

public import proofs.«01_k».proof.Proof.K.Copies

@[expose] public section

noncomputable section

namespace Cert.Kernel.Hand

open Idealize.ShloMosaic Idealize.ShloMosaic.TcCoe Idealize.ShloMosaic.Tactic Cert.Kernel Cert.Kernel.Gen Cert.Words Cert.Pages
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the counters of the transfers. -/
local notation "𝕄" => MT nD τ sig Unit (Elt F) ℕ (Pipeline.UD sig nD τ) ℕ

variable (c : Dev nD) (T : Tab) (L : Lens) (X : Pools F)

/-! ## Indices of the buffers -/

def jC (s p d : ℕ) : S2x2048x512.Idx := fun a => ⟨![s % 2, p % 2048, d % 512] a, by fin_cases a <;> simp [Shape.size] <;> omega⟩
def jS (s p g r : ℕ) : S2x32x4x64.Idx := fun a => ⟨![s % 2, p % 32, g % 4, r % 64] a, by fin_cases a <;> simp [Shape.size] <;> omega⟩
def jR (s p d : ℕ) : S2x2048x64.Idx := fun a => ⟨![s % 2, p % 2048, d % 64] a, by fin_cases a <;> simp [Shape.size] <;> omega⟩
def jB (k h t : ℕ) : S8x32x256.Idx := fun a => ⟨![k % 8, h % 32, t % 256] a, by fin_cases a <;> simp [Shape.size] <;> omega⟩

/-! ## The windows -/

/-- Block `k` of slot `s`, 128 columns of codes from column `d`. -/
def rdC (f : S2x2048x512.Idx → Elt F .fp8e4m3) (s k d : ℕ) : Vec F S1x256x128 .fp8e4m3 := fun y => f (jC s (256 * k + (y 1).val) (d + (y 2).val))
/-- The scales of group `g` of page `p`. -/
def rdS (f : S2x32x4x64.Idx → Elt F .f32) (s p g : ℕ) : Vec F S1x1x1x64 .f32 := fun y => f (jS s p g (y 3).val)
/-- Block `k` of slot `s`, the rope keys. -/
def rdR (f : S2x2048x64.Idx → Elt F .bf16) (s k : ℕ) : Vec F S1x256x64 .bf16 := fun y => f (jR s (256 * k + (y 1).val) (y 2).val)
/-- Plane `k` of the scores. -/
def rdB (f : S8x32x256.Idx → Elt F .f32) (k : ℕ) : Vec F S1x32x256 .f32 := fun y => f (jB k (y 1).val (y 2).val)
/-- The scores with plane `k` replaced. -/
def putB (f : S8x32x256.Idx → Elt F .f32) (k : ℕ) (w : Vec F S1x32x256 .f32) : S8x32x256.Idx → Elt F .f32 := fun y =>
  if (y 0).val = k then w (fun a => ⟨![0, (y 1).val, (y 2).val] a, by
    have h1 : (y 1).val < 32 := (y 1).isLt
    have h2 : (y 2).val < 256 := (y 2).isLt
    fin_cases a <;> simp [Shape.size] <;> assumption⟩) else f y

/-- Reading a block of scores that was just written. -/
theorem rdB_put {f : S8x32x256.Idx → Elt F .f32} {k : ℕ} (hk : k < 8) (w : Vec F S1x32x256 .f32) : rdB (putB f k w) k = w := by
  funext y
  have h0 : (y 0).val < 1 := (y 0).isLt
  have h1 : (y 1).val < 32 := (y 1).isLt
  have h2 : (y 2).val < 256 := (y 2).isLt
  unfold rdB putB
  refine (if_pos (show k % 8 = k from Nat.mod_eq_of_lt hk)).trans ?_
  congr 1
  funext a
  apply Fin.ext
  match a with
  | ⟨0, _⟩ => show 0 = (y 0).val; omega
  | ⟨1, _⟩ => show (y 1).val % 32 = (y 1).val; omega
  | ⟨2, _⟩ => show (y 2).val % 256 = (y 2).val; omega
/-- Writing one block of scores leaves the others. -/
theorem rdB_put_ne {f : S8x32x256.Idx → Elt F .f32} {j k : ℕ} (hj : j < 8) (h : j ≠ k) (w : Vec F S1x32x256 .f32) : rdB (putB f k w) j = rdB f j := by
  funext y
  unfold rdB putB
  exact if_neg (show ¬ j % 8 = k by rw [Nat.mod_eq_of_lt hj]; exact h)

/-! ## The landed slot -/

/-- The landed pages of sequence `b` in slot `s`. -/
def slotC (s b n : ℕ) : sProp 𝕄 := (c : Thread nD τ).loc cc0_scratch0 ↦[upTo (planC c T X.codes s b) n]{fullShare} (gC T X.codes b)
def slotS (s b n : ℕ) : sProp 𝕄 := (c : Thread nD τ).loc cc0_scratch1 ↦[upTo (planS c T X.scales s b) n]{fullShare} (gS T X.scales b)
def slotR (s b n : ℕ) : sProp 𝕄 := (c : Thread nD τ).loc cc0_scratch2 ↦[upTo (planR c T X.ropes s b) n]{fullShare} (gR T X.ropes b)
/-- The buffer of scores. -/
def scores (f : S8x32x256.Idx → Elt F .f32) : sProp 𝕄 := (c : Thread nD τ).loc cc0_scratch3 ↦{fullShare} f

section Steps

variable {α : Type} {Q : α → sProp (MT nD τ sig Unit (Elt F) ℕ (Pipeline.UD sig nD τ) ℕ)} (bd : Option Variants.none.V)

/-- A load of codes. -/
theorem ldC {k : Vec F S1x256x128 .fp8e4m3 → Prog (TpuEff nD τ sig (Elt F) Λ₀ .tc) α} {s b n j d : ℕ} (hs : s < 2) (hj : j < 8) (hn : 4 * j + 4 ≤ n) (hd : d + 128 ≤ 512)
    {o : Fin 3 → ℕ} (e : o = ![s, 256 * j, d]) {hi hl} :
    slotC c T X s b n ⊢ iprop((slotC c T X s b n -∗ wp frame (wpE (defs₀ (F := F)) Variants.none (c : Thread nD τ) bd) Set.univ (k (rdC (gC T X.codes b) s j d)) Q)
      -∗ wp frame (wpE (defs₀ (F := F)) Variants.none (c : Thread nD τ) bd) Set.univ
          (Prog.lift (.load (Memref.whole cc0_scratch0) (Rect.unit (s := S2x2048x512) o S1x256x128.size hi).toLoadRect hl) >>= k) Q) := by
  subst e
  refine loadWin (m := Memref.whole cc0_scratch0) (r := Rect.unit (s := S2x2048x512) ![s, 256 * j, d] S1x256x128.size hi) (hl := hl) (k := k)
    (f := gC T X.codes b) (v := rdC (gC T X.codes b) s j d) (c : Thread nD τ) Variants.none bd ?_ ?_
  · funext y
    refine congrArg (gC T X.codes b) (funext fun a => Fin.ext ?_)
    have h0 : (y 0).val < 1 := (y 0).isLt
    have h1 : (y 1).val < 256 := (y 1).isLt
    have h2 : (y 2).val < 128 := (y 2).isLt
    match a with
    | ⟨0, _⟩ => show s + 1 * (y 0).val = s % 2; omega
    | ⟨1, _⟩ => show 256 * j + 1 * (y 1).val = (256 * j + (y 1).val) % 2048; omega
    | ⟨2, _⟩ => show d + 1 * (y 2).val = (d + (y 2).val) % 512; omega
  intro y hy
  have hy := (View.set_slice_whole cc0_scratch0 _ ▸ hy : y ∈ (Rect.unit (s := S2x2048x512) ![s, 256 * j, d] S1x256x128.size hi).set)
  rw [Rect.mem_set_unit] at hy
  have h0 : s ≤ (y 0).val ∧ (y 0).val < s + 1 := hy 0
  have h1 : 256 * j ≤ (y 1).val ∧ (y 1).val < 256 * j + 256 := hy 1
  exact (upToC c T X.codes s b n y).mpr ⟨by omega, by omega⟩

/-- A load of scales. -/
theorem ldS {k : Vec F S1x1x1x64 .f32 → Prog (TpuEff nD τ sig (Elt F) Λ₀ .tc) α} {s b n p g : ℕ} (hs : s < 2) (hp : p < 32) (hn : p < n) (hg : g < 4)
    {o : Fin 4 → ℕ} (e : o = ![s, p, g, 0]) {hi hl} :
    slotS c T X s b n ⊢ iprop((slotS c T X s b n -∗ wp frame (wpE (defs₀ (F := F)) Variants.none (c : Thread nD τ) bd) Set.univ (k (rdS (gS T X.scales b) s p g)) Q)
      -∗ wp frame (wpE (defs₀ (F := F)) Variants.none (c : Thread nD τ) bd) Set.univ
          (Prog.lift (.load (Memref.whole cc0_scratch1) (Rect.unit (s := S2x32x4x64) o S1x1x1x64.size hi).toLoadRect hl) >>= k) Q) := by
  subst e
  refine loadWin (m := Memref.whole cc0_scratch1) (r := Rect.unit (s := S2x32x4x64) ![s, p, g, 0] S1x1x1x64.size hi) (hl := hl) (k := k)
    (f := gS T X.scales b) (v := rdS (gS T X.scales b) s p g) (c : Thread nD τ) Variants.none bd ?_ ?_
  · funext y
    refine congrArg (gS T X.scales b) (funext fun a => Fin.ext ?_)
    have h0 : (y 0).val < 1 := (y 0).isLt
    have h1 : (y 1).val < 1 := (y 1).isLt
    have h2 : (y 2).val < 1 := (y 2).isLt
    have h3 : (y 3).val < 64 := (y 3).isLt
    match a with
    | ⟨0, _⟩ => show s + 1 * (y 0).val = s % 2; omega
    | ⟨1, _⟩ => show p + 1 * (y 1).val = p % 32; omega
    | ⟨2, _⟩ => show g + 1 * (y 2).val = g % 4; omega
    | ⟨3, _⟩ => show 0 + 1 * (y 3).val = (y 3).val % 64; omega
  intro y hy
  have hy := (View.set_slice_whole cc0_scratch1 _ ▸ hy : y ∈ (Rect.unit (s := S2x32x4x64) ![s, p, g, 0] S1x1x1x64.size hi).set)
  rw [Rect.mem_set_unit] at hy
  have h0 : s ≤ (y 0).val ∧ (y 0).val < s + 1 := hy 0
  have h1 : p ≤ (y 1).val ∧ (y 1).val < p + 1 := hy 1
  exact (upToS c T X.scales s b n y).mpr ⟨by omega, by omega⟩

/-- A load of rope keys. -/
theorem ldR {k : Vec F S1x256x64 .bf16 → Prog (TpuEff nD τ sig (Elt F) Λ₀ .tc) α} {s b n j : ℕ} (hs : s < 2) (hj : j < 8) (hn : 4 * j + 4 ≤ n)
    {o : Fin 3 → ℕ} (e : o = ![s, 256 * j, 0]) {hi hl} :
    slotR c T X s b n ⊢ iprop((slotR c T X s b n -∗ wp frame (wpE (defs₀ (F := F)) Variants.none (c : Thread nD τ) bd) Set.univ (k (rdR (gR T X.ropes b) s j)) Q)
      -∗ wp frame (wpE (defs₀ (F := F)) Variants.none (c : Thread nD τ) bd) Set.univ
          (Prog.lift (.load (Memref.whole cc0_scratch2) (Rect.unit (s := S2x2048x64) o S1x256x64.size hi).toLoadRect hl) >>= k) Q) := by
  subst e
  refine loadWin (m := Memref.whole cc0_scratch2) (r := Rect.unit (s := S2x2048x64) ![s, 256 * j, 0] S1x256x64.size hi) (hl := hl) (k := k)
    (f := gR T X.ropes b) (v := rdR (gR T X.ropes b) s j) (c : Thread nD τ) Variants.none bd ?_ ?_
  · funext y
    refine congrArg (gR T X.ropes b) (funext fun a => Fin.ext ?_)
    have h0 : (y 0).val < 1 := (y 0).isLt
    have h1 : (y 1).val < 256 := (y 1).isLt
    have h2 : (y 2).val < 64 := (y 2).isLt
    match a with
    | ⟨0, _⟩ => show s + 1 * (y 0).val = s % 2; omega
    | ⟨1, _⟩ => show 256 * j + 1 * (y 1).val = (256 * j + (y 1).val) % 2048; omega
    | ⟨2, _⟩ => show 0 + 1 * (y 2).val = (y 2).val % 64; omega
  intro y hy
  have hy := (View.set_slice_whole cc0_scratch2 _ ▸ hy : y ∈ (Rect.unit (s := S2x2048x64) ![s, 256 * j, 0] S1x256x64.size hi).set)
  rw [Rect.mem_set_unit] at hy
  have h0 : s ≤ (y 0).val ∧ (y 0).val < s + 1 := hy 0
  have h1 : 256 * j ≤ (y 1).val ∧ (y 1).val < 256 * j + 256 := hy 1
  exact (upToR c T X.ropes s b n y).mpr ⟨by omega, by omega⟩

/-- A load of a plane of scores. -/
theorem ldB {k : Vec F S1x32x256 .f32 → Prog (TpuEff nD τ sig (Elt F) Λ₀ .tc) α} {f : S8x32x256.Idx → Elt F .f32} {j : ℕ} (hj : j < 8)
    {o : Fin 3 → ℕ} (e : o = ![j, 0, 0]) {hi hl} :
    scores c f ⊢ iprop((scores c f -∗ wp frame (wpE (defs₀ (F := F)) Variants.none (c : Thread nD τ) bd) Set.univ (k (rdB f j)) Q)
      -∗ wp frame (wpE (defs₀ (F := F)) Variants.none (c : Thread nD τ) bd) Set.univ
          (Prog.lift (.load (Memref.whole cc0_scratch3) (Rect.unit (s := S8x32x256) o S1x32x256.size hi).toLoadRect hl) >>= k) Q) := by
  subst e
  refine loadWin (m := Memref.whole cc0_scratch3) (r := Rect.unit (s := S8x32x256) ![j, 0, 0] S1x32x256.size hi) (hl := hl) (k := k)
    (f := f) (v := rdB f j) (c : Thread nD τ) Variants.none bd ?_ (Finset.subset_univ _)
  funext y
  refine congrArg f (funext fun a => Fin.ext ?_)
  have h0 : (y 0).val < 1 := (y 0).isLt
  have h1 : (y 1).val < 32 := (y 1).isLt
  have h2 : (y 2).val < 256 := (y 2).isLt
  match a with
  | ⟨0, _⟩ => show j + 1 * (y 0).val = j % 8; omega
  | ⟨1, _⟩ => show 0 + 1 * (y 1).val = (y 1).val % 32; omega
  | ⟨2, _⟩ => show 0 + 1 * (y 2).val = (y 2).val % 256; omega

/-- A store of a plane of scores. -/
theorem stB {k : PUnit → Prog (TpuEff nD τ sig (Elt F) Λ₀ .tc) α} {f : S8x32x256.Idx → Elt F .f32} {j : ℕ} (hj : j < 8)
    {w : Vec F S1x32x256 .f32} {o : Fin 3 → ℕ} (e : o = ![j, 0, 0]) {hi hx hm} :
    scores c f ⊢ iprop((scores c (putB f j w) -∗ wp frame (wpE (defs₀ (F := F)) Variants.none (c : Thread nD τ) bd) Set.univ (k ⟨⟩) Q)
      -∗ wp frame (wpE (defs₀ (F := F)) Variants.none (c : Thread nD τ) bd) Set.univ
          (Prog.lift (.store (Memref.whole cc0_scratch3) (Rect.unit (s := S8x32x256) o S1x32x256.size hi) w Finset.univ hx hm) >>= k) Q) := by
  subst e
  refine storeWin (m := Memref.whole cc0_scratch3) (r := Rect.unit (s := S8x32x256) ![j, 0, 0] S1x32x256.size hi) (hx := hx) (hm := hm) (k := k)
    (f := f) (g := putB f j w) (w := w) (c : Thread nD τ) Variants.none bd ?_
  funext y
  have h1 : (y 1).val < 32 := (y 1).isLt
  have h2 : (y 2).val < 256 := (y 2).isLt
  by_cases h : (y 0).val = j
  · have hy : ((Memref.whole cc0_scratch3).access (Rect.unit (s := S8x32x256) ![j, 0, 0] S1x32x256.size hi)).emb
        (fun a => ⟨![0, (y 1).val, (y 2).val] a, by fin_cases a <;> simp [Shape.size] <;> assumption⟩) = y := by
      refine funext fun a => Fin.ext ?_
      match a with
      | ⟨0, _⟩ => show j + 1 * 0 = (y 0).val; omega
      | ⟨1, _⟩ => show 0 + 1 * (y 1).val = (y 1).val; omega
      | ⟨2, _⟩ => show 0 + 1 * (y 2).val = (y 2).val; omega
    refine Eq.trans ?_ (if_pos h).symm
    conv_lhs => rw [← hy]
    exact View.write_emb_of_mem _ _ (Finset.mem_univ _)
  · have hn : y ∉ ((Memref.whole cc0_scratch3).access (Rect.unit (s := S8x32x256) ![j, 0, 0] S1x32x256.size hi)).setOn Finset.univ := by
      intro hy
      have hy := (View.set_slice_whole cc0_scratch3 _ ▸ hy : y ∈ (Rect.unit (s := S8x32x256) ![j, 0, 0] S1x32x256.size hi).set)
      rw [Rect.mem_set_unit] at hy
      have h0 : j ≤ (y 0).val ∧ (y 0).val < j + 1 := hy 0
      omega
    have hf : putB f j w y = f y := if_neg h
    rw [hf]
    exact View.write_of_not_mem (v := (Memref.whole cc0_scratch3).access (Rect.unit (s := S8x32x256) ![j, 0, 0] S1x32x256.size hi)) f w Finset.univ hn

end Steps

end Cert.Kernel.Hand
-- ==== Proof.K.Compute.lean ====
/-
  The three compute loops: scores and their running maximum, exponentials and their sum, weighted values.
-/
module

public import proofs.«01_k».proof.Proof.K.Loads

@[expose] public section

noncomputable section

namespace Cert.Kernel.Hand

open Idealize.ShloMosaic Idealize.ShloMosaic.TcCoe Idealize.ShloMosaic.Tactic Cert.Kernel Cert.Kernel.Gen Cert.Words Cert.Pages
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the counters of the transfers. -/
local notation "𝕄" => MT nD τ sig Unit (Elt F) ℕ (Pipeline.UD sig nD τ) ℕ

variable (c : Dev nD) (T : Tab) (L : Lens) (X : Pools F)

/-! ## What the loops compute -/

section Values

variable (s b : ℕ) (len : Elt F .i32) (q : FVec F S32x512 .bf16) (qr : FVec F S32x64 .bf16)

/-- The scores of block `k` of sequence `b`, the codes scaled page by page and group by group. -/
def blk (k : ℕ) : FVec F S32x256 .f32 :=
  let C d := rdC (gC T X.codes b) s k d
  let S r g := rdS (gS T X.scales b) s (4 * k + r) g
  let R := rdR (gR T X.ropes b) s k
  let g01 := k0_pay8 q (k0_pay2 qr R) (k0_pay3 q (C 0)) (k0_pay4 (S 0 0)) (k0_pay5 (S 1 0)) (k0_pay6 (S 2 0)) (k0_pay7 (S 3 0))
    (C 128) (S 0 1) (S 1 1) (S 2 1) (S 3 1)
  k0_pay12 len (Scf.iv 0#32 1#32 k) (k0_pay10 g01 (k0_pay9 q) (C 256) (S 0 2) (S 1 2) (S 2 2) (S 3 2)) (k0_pay11 q (C 384))
    (S 0 3) (S 1 3) (S 2 3) (S 3 3)

/-- The running maximum after `k` blocks. -/
def mx (a : FVec F S32x1 .f32) : ℕ → FVec F S32x1 .f32
  | 0 => a
  | k + 1 => k0_pay43 (mx a k) (blk T X s b len q qr k)

variable (m : FVec F S32x1 .f32)

/-- The exponentials of block `k` against the maximum `m`. -/
def ex (k : ℕ) : FVec F S1x32x256 .f32 := k0_pay49 m (k0_pay42 (blk T X s b len q qr k))

/-- The sum of the exponentials of `k` blocks. -/
def sm (a : FVec F S32x1 .f32) : ℕ → FVec F S32x1 .f32
  | 0 => a
  | k + 1 => k0_pay50 m (sm a k) (k0_pay42 (blk T X s b len q qr k))

variable (w : FVec F S32x1 .f32)

/-- The weighted values of block `k` with normaliser `w`, added to `a`. -/
def vals (a : FVec F S32x512 .f32) (k : ℕ) : FVec F S32x512 .f32 :=
  let C d := rdC (gC T X.codes b) s k d
  let S r g := rdS (gS T X.scales b) s (4 * k + r) g
  let e := ex T X s b len q qr m k
  let p := k0_pay24 w e
  k0_pay56 a p (k0_pay26 (k0_pay25 w e (S 0 0) (S 1 0) (S 2 0) (S 3 0)) (C 0))
    (k0_pay27 p (S 0 1) (S 1 1) (S 2 1) (S 3 1) (C 128)) (k0_pay28 p (S 0 2) (S 1 2) (S 2 2) (S 3 2) (C 256))
    (k0_pay29 (S 0 3)) (S 1 3) (S 2 3) (S 3 3) (C 384)

/-- The weighted values of `k` blocks. -/
def av (a : FVec F S32x512 .f32) : ℕ → FVec F S32x512 .f32
  | 0 => a
  | k + 1 => vals T X s b len q qr m w (av a k) k

end Values

/-- The landed slot of sequence `b`. -/
def slots (s b n : ℕ) : sProp 𝕄 := iprop(slotC c T X s b n ∗ slotS c T X s b n ∗ slotR c T X s b n)

section Steps

variable (i : grid0.Coords) (G : Good T L) (bd : Option Variants.none.V)
variable (arg3 : Memref sig .tc .vmem S1x32x512 .bf16) (harg3 : arg3.IsWhole) (arg4 : Memref sig .tc .vmem S1x32x64 .bf16) (harg4 : arg4.IsWhole)
  (arg5 : Memref sig .tc .vmem S1x1x512 .bf16) (harg5 : arg5.IsWhole) (arg6 : Memref sig .tc .vmem S1x1x64 .bf16) (harg6 : arg6.IsWhole)
  (arg10 : Memref sig .tc .vmem S1x32x512 .bf16) (harg10 : arg10.IsWhole)
variable (v0 : BitVec 32) (v36 : Elt F .i32) (v38 : FVec F S32x512 .bf16) (v40 : FVec F S32x64 .bf16) (v61 : BitVec 32)
  (v65 : FVec F S1x512 .f32) (v69 : FVec F S32x1 .f32) (v70 : FVec F S32x64 .f32) (v71 : Vec F S1x1x64 .bf16) (v87 v97 : FVec F S32x1 .f32)

/-- The state of the loop of scores before trip `k`. -/
def I7 (a : FVec F S32x1 .f32) (k : ℕ) (acc : FVec F S32x1 .f32) : sProp 𝕄 :=
  iprop(slots c T X (pt i % 2) (pt i) (np L (pt i)) ∗ ∃ f, scores c f ∗
    ⌜acc = mx T X (pt i % 2) (pt i) v36 v38 v40 a k ∧ ∀ j < k, rdB f j = k0_pay42 (blk T X (pt i % 2) (pt i) v36 v38 v40 j)⌝)

include G in
/-- One trip of the loop of scores. -/
theorem step7 (a : FVec F S32x1 .f32) (v : Elt F .i32) (hv : v = len L (pt i)) (hw : k0_chk10 i v) (k : Fin (k0_t7_loop v).trips) (acc : FVec F S32x1 .f32) :
    I7 c T L X i v36 v38 v40 a k.val acc
      ⊢ wp frame (wpE (defs₀ (F := F)) Variants.none (c : Thread nD τ) bd) Set.univ
        (k0_t7_body i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 v0 v36 v38 v40 v hw v61 v65 v69 v70 k acc)
        (fun acc => I7 c T L X i v36 v38 v40 a (k.val + 1) acc) := by
  subst hv
  have hle := G.le (ixL (pt i))
  have h8 : k.val < 8 := blk_lt hle k
  have hn : 4 * k.val + 4 ≤ np L (pt i) := by
    have h : k.val < nblk (len L (pt i)) := lt_of_lt_of_eq k.isLt (blk_trips hle).1
    unfold np
    omega
  have hs := slot_lt i
  unfold I7 slots
  iintro ⟨⟨HC, HS, HR⟩, ⟨%f, HB, %hf⟩⟩
  simp only [k0_t7_body, k0_part1_eq_skeleton, k0_part2_eq_skeleton, k0_part3_eq_skeleton, k0_part4_eq_skeleton, k0_part1_skel, k0_part2_skel, k0_part3_skel, k0_part4_skel, bind_assoc, pure_bind]
  iapply (ldR c T X bd hs h8 hn (off54_eq i k h8)) $$ HR
  iintro HR
  iapply (ldC c T X bd hs h8 hn (by omega : 0 + 128 ≤ 512) (off55_eq i k h8)) $$ HC
  iintro HC
  iapply (ldS c T X bd hs (by omega : 4 * k.val + (0 : Fin 4).val < 32) (by omega) (by omega : 0 < 4) (off56_eq i k h8 0)) $$ HS
  iintro HS
  iapply (ldS c T X bd hs (by omega : 4 * k.val + (1 : Fin 4).val < 32) (by omega) (by omega : 0 < 4) (off56_eq i k h8 1)) $$ HS
  iintro HS
  iapply (ldS c T X bd hs (by omega : 4 * k.val + (2 : Fin 4).val < 32) (by omega) (by omega : 0 < 4) (off56_eq i k h8 2)) $$ HS
  iintro HS
  iapply (ldS c T X bd hs (by omega : 4 * k.val + (3 : Fin 4).val < 32) (by omega) (by omega : 0 < 4) (off56_eq i k h8 3)) $$ HS
  iintro HS
  iapply (ldC c T X bd hs h8 hn (by omega : 128 + 128 ≤ 512) (off57_eq i k h8)) $$ HC
  iintro HC
  iapply (ldS c T X bd hs (by omega : 4 * k.val + (0 : Fin 4).val < 32) (by omega) (by omega : 1 < 4) (off58_eq i k h8 0)) $$ HS
  iintro HS
  iapply (ldS c T X bd hs (by omega : 4 * k.val + (1 : Fin 4).val < 32) (by omega) (by omega : 1 < 4) (off58_eq i k h8 1)) $$ HS
  iintro HS
  iapply (ldS c T X bd hs (by omega : 4 * k.val + (2 : Fin 4).val < 32) (by omega) (by omega : 1 < 4) (off58_eq i k h8 2)) $$ HS
  iintro HS
  iapply (ldS c T X bd hs (by omega : 4 * k.val + (3 : Fin 4).val < 32) (by omega) (by omega : 1 < 4) (off58_eq i k h8 3)) $$ HS
  iintro HS
  iapply (ldC c T X bd hs h8 hn (by omega : 256 + 128 ≤ 512) (off59_eq i k h8)) $$ HC
  iintro HC
  iapply (ldS c T X bd hs (by omega : 4 * k.val + (0 : Fin 4).val < 32) (by omega) (by omega : 2 < 4) (off60_eq i k h8 0)) $$ HS
  iintro HS
  iapply (ldS c T X bd hs (by omega : 4 * k.val + (1 : Fin 4).val < 32) (by omega) (by omega : 2 < 4) (off60_eq i k h8 1)) $$ HS
  iintro HS
  iapply (ldS c T X bd hs (by omega : 4 * k.val + (2 : Fin 4).val < 32) (by omega) (by omega : 2 < 4) (off60_eq i k h8 2)) $$ HS
  iintro HS
  iapply (ldS c T X bd hs (by omega : 4 * k.val + (3 : Fin 4).val < 32) (by omega) (by omega : 2 < 4) (off60_eq i k h8 3)) $$ HS
  iintro HS
  iapply (ldC c T X bd hs h8 hn (by omega : 384 + 128 ≤ 512) (off61_eq i k h8)) $$ HC
  iintro HC
  iapply (ldS c T X bd hs (by omega : 4 * k.val + (0 : Fin 4).val < 32) (by omega) (by omega : 3 < 4) (off62_eq i k h8 0)) $$ HS
  iintro HS
  iapply (ldS c T X bd hs (by omega : 4 * k.val + (1 : Fin 4).val < 32) (by omega) (by omega : 3 < 4) (off62_eq i k h8 1)) $$ HS
  iintro HS
  iapply (ldS c T X bd hs (by omega : 4 * k.val + (2 : Fin 4).val < 32) (by omega) (by omega : 3 < 4) (off62_eq i k h8 2)) $$ HS
  iintro HS
  iapply (ldS c T X bd hs (by omega : 4 * k.val + (3 : Fin 4).val < 32) (by omega) (by omega : 3 < 4) (off62_eq i k h8 3)) $$ HS
  iintro HS
  iapply (ldB c bd h8 (off63_eq k h8)) $$ HB
  iintro HB
  iapply (stB c bd h8 (off63_eq k h8)) $$ HB
  iintro HB
  sl_step
  isplitl [HC HS HR]
  · isplitl [HC]; · iexact HC
    isplitl [HS]; · iexact HS
    iexact HR
  iexists _
  isplitl [HB]; · iexact HB
  ipureintro
  refine ⟨by rw [hf.1]; rfl, fun j hj => ?_⟩
  rcases Nat.lt_succ_iff_lt_or_eq.mp hj with h | h
  · exact (rdB_put_ne (by omega) (by omega) _).trans (hf.2 j h)
  · subst h
    exact rdB_put h8 _

/-- The state of the loop of exponentials before trip `k` of `n`. -/
def I9 (n : ℕ) (a : FVec F S32x1 .f32) (k : ℕ) (acc : FVec F S32x1 .f32) : sProp 𝕄 :=
  iprop(∃ f, scores c f ∗
    ⌜acc = sm T X (pt i % 2) (pt i) v36 v38 v40 v87 a k ∧ (∀ j < k, rdB f j = ex T X (pt i % 2) (pt i) v36 v38 v40 v87 j)
      ∧ ∀ j, k ≤ j → j < n → rdB f j = k0_pay42 (blk T X (pt i % 2) (pt i) v36 v38 v40 j)⌝)

include G in
/-- One trip of the loop of exponentials. -/
theorem step9 (a : FVec F S32x1 .f32) (v : Elt F .i32) (hv : v = len L (pt i)) (hw : k0_chk10 i v) (k : Fin (k0_t9_loop v).trips) (acc : FVec F S32x1 .f32) :
    I9 c T X i v36 v38 v40 v87 (nblk (len L (pt i))) a k.val acc
      ⊢ wp frame (wpE (defs₀ (F := F)) Variants.none (c : Thread nD τ) bd) Set.univ
        (k0_t9_body i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 v0 v36 v38 v40 v hw v61 v65 v69 v70 v87 k acc)
        (fun acc => I9 c T X i v36 v38 v40 v87 (nblk (len L (pt i))) a (k.val + 1) acc) := by
  subst hv
  have hle := G.le (ixL (pt i))
  have h8 : k.val < 8 := blk_lt hle k
  have hb8 := nblk_le hle
  have hk : k.val < nblk (len L (pt i)) := lt_of_lt_of_eq k.isLt (blk_trips hle).1
  unfold I9
  iintro ⟨%f, HB, %hf⟩
  obtain ⟨h1, h2, h3⟩ := hf
  simp only [k0_t9_body, bind_assoc, pure_bind]
  iapply (ldB c bd h8 (off74_eq k h8)) $$ HB
  iintro HB
  iapply (ldB c bd h8 (off74_eq k h8)) $$ HB
  iintro HB
  iapply (stB c bd h8 (off74_eq k h8)) $$ HB
  iintro HB
  sl_step
  iexists _
  isplitl [HB]; · iexact HB
  ipureintro
  refine ⟨by rw [h1, h3 k.val le_rfl hk]; rfl, fun j hj => ?_, fun j hj hn => ?_⟩
  · rcases Nat.lt_succ_iff_lt_or_eq.mp hj with h | h
    · exact (rdB_put_ne (by omega) (by omega) _).trans (h2 j h)
    · subst h
      rw [rdB_put h8, h3 k.val le_rfl hk]
      rfl
  · have : nblk (len L (pt i)) ≤ 8 := hb8
    exact (rdB_put_ne (by omega) (by omega) _).trans (h3 j (by omega) hn)

/-- The state of the loop of values before trip `k` of `n`. -/
def I11 (n : ℕ) (w : FVec F S32x1 .f32) (a : FVec F S32x512 .f32) (k : ℕ) (acc : FVec F S32x512 .f32) : sProp 𝕄 :=
  iprop(slots c T X (pt i % 2) (pt i) (np L (pt i)) ∗ ∃ f, scores c f ∗
    ⌜acc = av T X (pt i % 2) (pt i) v36 v38 v40 v87 w a k ∧ ∀ j < n, rdB f j = ex T X (pt i % 2) (pt i) v36 v38 v40 v87 j⌝)

include G in
/-- One trip of the loop of values. -/
theorem step11 (a : FVec F S32x512 .f32) (v : Elt F .i32) (hv : v = len L (pt i)) (hw : k0_chk10 i v) (k : Fin (k0_t11_loop v).trips) (acc : FVec F S32x512 .f32) :
    I11 c T L X i v36 v38 v40 v87 (nblk (len L (pt i))) (k0_pay54 v69 v70 v71 v87 v97) a k.val acc
      ⊢ wp frame (wpE (defs₀ (F := F)) Variants.none (c : Thread nD τ) bd) Set.univ
        (k0_t11_body i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 v0 v36 v38 v40 v hw v61 v65 v69 v70 v71 v87 v97 k acc)
        (fun acc => I11 c T L X i v36 v38 v40 v87 (nblk (len L (pt i))) (k0_pay54 v69 v70 v71 v87 v97) a (k.val + 1) acc) := by
  subst hv
  have hle := G.le (ixL (pt i))
  have h8 : k.val < 8 := blk_lt hle k
  have hk : k.val < nblk (len L (pt i)) := lt_of_lt_of_eq k.isLt (blk_trips hle).1
  have hn : 4 * k.val + 4 ≤ np L (pt i) := by
    unfold np
    omega
  have hs := slot_lt i
  unfold I11 slots
  iintro ⟨⟨HC, HS, HR⟩, ⟨%f, HB, %hf⟩⟩
  simp only [k0_t11_body, k0_part9_eq_skeleton, k0_part10_eq_skeleton, k0_part11_eq_skeleton, k0_part9_skel, k0_part10_skel, k0_part11_skel, bind_assoc, pure_bind]
  iapply (ldB c bd h8 (off76_eq k h8)) $$ HB
  iintro HB
  iapply (ldS c T X bd hs (by omega : 4 * k.val + (0 : Fin 4).val < 32) (by omega) (by omega : 0 < 4) (off77_eq i k h8 0)) $$ HS
  iintro HS
  iapply (ldS c T X bd hs (by omega : 4 * k.val + (1 : Fin 4).val < 32) (by omega) (by omega : 0 < 4) (off77_eq i k h8 1)) $$ HS
  iintro HS
  iapply (ldS c T X bd hs (by omega : 4 * k.val + (2 : Fin 4).val < 32) (by omega) (by omega : 0 < 4) (off77_eq i k h8 2)) $$ HS
  iintro HS
  iapply (ldS c T X bd hs (by omega : 4 * k.val + (3 : Fin 4).val < 32) (by omega) (by omega : 0 < 4) (off77_eq i k h8 3)) $$ HS
  iintro HS
  iapply (ldC c T X bd hs h8 hn (by omega : 0 + 128 ≤ 512) (off78_eq i k h8)) $$ HC
  iintro HC
  iapply (ldS c T X bd hs (by omega : 4 * k.val + (0 : Fin 4).val < 32) (by omega) (by omega : 1 < 4) (off79_eq i k h8 0)) $$ HS
  iintro HS
  iapply (ldS c T X bd hs (by omega : 4 * k.val + (1 : Fin 4).val < 32) (by omega) (by omega : 1 < 4) (off79_eq i k h8 1)) $$ HS
  iintro HS
  iapply (ldS c T X bd hs (by omega : 4 * k.val + (2 : Fin 4).val < 32) (by omega) (by omega : 1 < 4) (off79_eq i k h8 2)) $$ HS
  iintro HS
  iapply (ldS c T X bd hs (by omega : 4 * k.val + (3 : Fin 4).val < 32) (by omega) (by omega : 1 < 4) (off79_eq i k h8 3)) $$ HS
  iintro HS
  iapply (ldC c T X bd hs h8 hn (by omega : 128 + 128 ≤ 512) (off80_eq i k h8)) $$ HC
  iintro HC
  iapply (ldS c T X bd hs (by omega : 4 * k.val + (0 : Fin 4).val < 32) (by omega) (by omega : 2 < 4) (off81_eq i k h8 0)) $$ HS
  iintro HS
  iapply (ldS c T X bd hs (by omega : 4 * k.val + (1 : Fin 4).val < 32) (by omega) (by omega : 2 < 4) (off81_eq i k h8 1)) $$ HS
  iintro HS
  iapply (ldS c T X bd hs (by omega : 4 * k.val + (2 : Fin 4).val < 32) (by omega) (by omega : 2 < 4) (off81_eq i k h8 2)) $$ HS
  iintro HS
  iapply (ldS c T X bd hs (by omega : 4 * k.val + (3 : Fin 4).val < 32) (by omega) (by omega : 2 < 4) (off81_eq i k h8 3)) $$ HS
  iintro HS
  iapply (ldC c T X bd hs h8 hn (by omega : 256 + 128 ≤ 512) (off82_eq i k h8)) $$ HC
  iintro HC
  iapply (ldS c T X bd hs (by omega : 4 * k.val + (0 : Fin 4).val < 32) (by omega) (by omega : 3 < 4) (off83_eq i k h8 0)) $$ HS
  iintro HS
  iapply (ldS c T X bd hs (by omega : 4 * k.val + (1 : Fin 4).val < 32) (by omega) (by omega : 3 < 4) (off83_eq i k h8 1)) $$ HS
  iintro HS
  iapply (ldS c T X bd hs (by omega : 4 * k.val + (2 : Fin 4).val < 32) (by omega) (by omega : 3 < 4) (off83_eq i k h8 2)) $$ HS
  iintro HS
  iapply (ldS c T X bd hs (by omega : 4 * k.val + (3 : Fin 4).val < 32) (by omega) (by omega : 3 < 4) (off83_eq i k h8 3)) $$ HS
  iintro HS
  iapply (ldC c T X bd hs h8 hn (by omega : 384 + 128 ≤ 512) (off84_eq i k h8)) $$ HC
  iintro HC
  sl_step
  isplitl [HC HS HR]
  · isplitl [HC]; · iexact HC
    isplitl [HS]; · iexact HS
    iexact HR
  iexists _
  isplitl [HB]; · iexact HB
  ipureintro
  refine ⟨by rw [hf.1, hf.2 k.val hk]; rfl, hf.2⟩

end Steps

end Cert.Kernel.Hand
-- ==== Proof.K.Body.lean ====
/-
  One grid point of the kernel: the copies of the first sequence if it is the first point, the copies of the next sequence
  unless it is the last, the waits for its own copies, the three compute loops, and the store of the result.
-/
module

public import proofs.«01_k».proof.Proof.K.Compute

@[expose] public section

noncomputable section

namespace Cert.Kernel.Hand

open Idealize.ShloMosaic Idealize.ShloMosaic.TcCoe Idealize.ShloMosaic.Tactic Cert.Kernel Cert.Kernel.Gen Cert.Words Cert.Pages
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the counters of the transfers. -/
local notation "𝕄" => MT nD τ sig Unit (Elt F) ℕ (Pipeline.UD sig nD τ) ℕ

/-- The counters of the transfers. -/
local notation "EC" => countersEmb (nD := nD) (U := Pipeline.UD sig nD τ)

variable (c : Dev nD) (T : Tab) (L : Lens) (X : Pools F)

/-! ## The two branches -/

/-- The first branch is taken at the first grid point, -/
theorem cond1_iff (i : grid0.Coords) : k0_cond1 i = 1#1 ↔ pt i = 0 :=
  (by decide : ∀ n : Fin 128, Scalar.cmpi .ne (Scalar.extui (Scalar.cmpi .eq (BitVec.ofNat 32 n.val) 0#32) : BitVec 32) 0#32 = 1#1 ↔ n.val = 0) (i 0)
/-- the second at every point but the last. -/
theorem cond2_iff (i : grid0.Coords) : k0_cond2 i = 1#1 ↔ pt i + 1 < 128 :=
  (by decide : ∀ n : Fin 128, Scalar.cmpi .ne (Scalar.extui (Scalar.cmpi .slt (Scalar.addi (BitVec.ofNat 32 n.val) 1#32) 128#32) : BitVec 32) 0#32 = 1#1 ↔ n.val + 1 < 128) (i 0)

/-! ## What is held between grid points -/

/-- Slot `s` with nothing in flight. -/
def Idles (s : ℕ) : sProp 𝕄 :=
  iprop(Idle (c : Thread nD τ) (cellC s) (planC c T X.codes s 0) (halfC s) ∗ Idle (c : Thread nD τ) (cellS s) (planS c T X.scales s 0) (halfS s)
    ∗ Idle (c : Thread nD τ) (cellR s) (planR c T X.ropes s 0) (halfR s))

/-- Slot `s` with the pages of sequence `b` landed. -/
def Lands (s b n : ℕ) : sProp 𝕄 :=
  iprop(Landed (c : Thread nD τ) (cellC s) (planC c T X.codes s b) n (halfC s) ∗ Landed (c : Thread nD τ) (cellS s) (planS c T X.scales s b) n (halfS s)
    ∗ Landed (c : Thread nD τ) (cellR s) (planR c T X.ropes s b) n (halfR s))

/-- What a landed slot holds beside the pages: the cells at zero, the rest of the slot, the shares of the pools. -/
def Beside (s b n : ℕ) : sProp 𝕄 :=
  iprop((semVal ((c : Thread nD τ), cellC s) 0 ∗ (∃ f : S2x2048x512.Idx → Elt F .fp8e4m3, (c : Thread nD τ).loc cc0_scratch0 ↦[halfC s \ upTo (planC c T X.codes s b) n]{fullShare} f)
      ∗ (c : Thread nD τ).loc main_arg4 ↦{Transfers.shareTokN fullShare s} X.codes)
    ∗ (semVal ((c : Thread nD τ), cellS s) 0 ∗ (∃ f : S2x32x4x64.Idx → Elt F .f32, (c : Thread nD τ).loc cc0_scratch1 ↦[halfS s \ upTo (planS c T X.scales s b) n]{fullShare} f)
      ∗ (c : Thread nD τ).loc main_v0 ↦{Transfers.shareTokN fullShare s} X.scales)
    ∗ (semVal ((c : Thread nD τ), cellR s) 0 ∗ (∃ f : S2x2048x64.Idx → Elt F .bf16, (c : Thread nD τ).loc cc0_scratch2 ↦[halfR s \ upTo (planR c T X.ropes s b) n]{fullShare} f)
      ∗ (c : Thread nD τ).loc main_arg6 ↦{Transfers.shareTokN fullShare s} X.ropes))

/-- The slot of sequence `b` before grid point `b`: its copies are started, except before the first point and after the
    last. -/
def Next (b : ℕ) : sProp 𝕄 :=
  if b = 0 ∨ 128 ≤ b then Idles c T X (b % 2) else Fly c T X (b % 2) b (np L b) (np L b) 0

/-- A page of codes has a positive size. -/
theorem NC_pos : 0 < NC := by decide
/-- A page of scales has a positive size. -/
theorem NS_pos : 0 < NS := by decide
/-- A page of rope keys has a positive size. -/
theorem NR_pos : 0 < NR := by decide

/-- An idle slot is idle for every sequence alike (codes). -/
theorem idleC (s b : ℕ) : (Idle (c : Thread nD τ) (cellC s) (planC c T X.codes s 0) (halfC s) : sProp 𝕄) = Idle (c : Thread nD τ) (cellC s) (planC c T X.codes s b) (halfC s) := by
  unfold Idle
  rfl
/-- A landed slot may be idle again (codes). -/
theorem landC (s b n : ℕ) : (Landed (c : Thread nD τ) (cellC s) (planC c T X.codes s b) n (halfC s) : sProp 𝕄) ⊢ Idle (c : Thread nD τ) (cellC s) (planC c T X.codes s 0) (halfC s) := by
  rw [idleC c T X s b]
  exact landed_idle (c : Thread nD τ) (cellC s) (planC c T X.codes s b) n (halfC s) (subC c T X.codes s b n)
/-- An idle slot is idle for every sequence alike (scales). -/
theorem idleS (s b : ℕ) : (Idle (c : Thread nD τ) (cellS s) (planS c T X.scales s 0) (halfS s) : sProp 𝕄) = Idle (c : Thread nD τ) (cellS s) (planS c T X.scales s b) (halfS s) := by
  unfold Idle
  rfl
/-- A landed slot may be idle again (scales). -/
theorem landS (s b n : ℕ) : (Landed (c : Thread nD τ) (cellS s) (planS c T X.scales s b) n (halfS s) : sProp 𝕄) ⊢ Idle (c : Thread nD τ) (cellS s) (planS c T X.scales s 0) (halfS s) := by
  rw [idleS c T X s b]
  exact landed_idle (c : Thread nD τ) (cellS s) (planS c T X.scales s b) n (halfS s) (subS c T X.scales s b n)
/-- An idle slot is idle for every sequence alike (rope keys). -/
theorem idleR (s b : ℕ) : (Idle (c : Thread nD τ) (cellR s) (planR c T X.ropes s 0) (halfR s) : sProp 𝕄) = Idle (c : Thread nD τ) (cellR s) (planR c T X.ropes s b) (halfR s) := by
  unfold Idle
  rfl
/-- A landed slot may be idle again (rope keys). -/
theorem landR (s b n : ℕ) : (Landed (c : Thread nD τ) (cellR s) (planR c T X.ropes s b) n (halfR s) : sProp 𝕄) ⊢ Idle (c : Thread nD τ) (cellR s) (planR c T X.ropes s 0) (halfR s) := by
  rw [idleR c T X s b]
  exact landed_idle (c : Thread nD τ) (cellR s) (planR c T X.ropes s b) n (halfR s) (subR c T X.ropes s b n)

/-- An idle slot is ready for the copies of any sequence. -/
theorem startAll (s b n : ℕ) : Idles c T X s ⊢ |={Set.univ}=> Fly c T X s b n 0 0 := by
  unfold Idles Fly FlyC FlyS FlyR
  iintro ⟨HC, HS, HR⟩
  ihave HC := (Entails.of_eq (idleC c T X s b)) $$ HC
  imod (start EC (c : Thread nD τ) (cellC s) () NC (planC c T X.codes s b) n (halfC s) (subC c T X.codes s b n) (disjC c T X.codes s b n)) $$ HC with HC
  ihave HS := (Entails.of_eq (idleS c T X s b)) $$ HS
  imod (start EC (c : Thread nD τ) (cellS s) () NS (planS c T X.scales s b) n (halfS s) (subS c T X.scales s b n) (disjS c T X.scales s b n)) $$ HS with HS
  ihave HR := (Entails.of_eq (idleR c T X s b)) $$ HR
  imod (start EC (c : Thread nD τ) (cellR s) () NR (planR c T X.ropes s b) n (halfR s) (subR c T X.ropes s b n) (disjR c T X.ropes s b n)) $$ HR with HR
  imodintro
  isplitl [HC]; · iexact HC
  isplitl [HS]; · iexact HS
  iexact HR

/-- After all the waits the pages have landed. -/
theorem finishAll (s b n : ℕ) : Fly c T X s b n n n ⊢ |={Set.univ}=> Lands c T X s b n := by
  unfold Lands Fly FlyC FlyS FlyR
  iintro ⟨HC, HS, HR⟩
  imod (finish EC (c : Thread nD τ) (cellC s) () NC (planC c T X.codes s b) NC_pos n (halfC s) (disjC c T X.codes s b n)) $$ HC with HC
  imod (finish EC (c : Thread nD τ) (cellS s) () NS (planS c T X.scales s b) NS_pos n (halfS s) (disjS c T X.scales s b n)) $$ HS with HS
  imod (finish EC (c : Thread nD τ) (cellR s) () NR (planR c T X.ropes s b) NR_pos n (halfR s) (disjR c T X.ropes s b n)) $$ HR with HR
  imodintro
  isplitl [HC]; · iexact HC
  isplitl [HS]; · iexact HS
  iexact HR

/-- A landed slot is its pages and what is beside them. -/
theorem lands_split (s b n : ℕ) : Lands c T X s b n ⊢ iprop(slots c T X s b n ∗ Beside c T X s b n) := by
  unfold Lands slots Beside Landed slotC slotS slotR
  iintro ⟨⟨h1, h2, h3, h4⟩, ⟨k1, k2, k3, k4⟩, ⟨l1, l2, l3, l4⟩⟩
  isplitl [h2 k2 l2]
  · isplitl [h2]; · iexact h2
    isplitl [k2]; · iexact k2
    iexact l2
  isplitl [h1 h3 h4]
  · isplitl [h1]; · iexact h1
    isplitl [h3]; · iexact h3
    iexact h4
  isplitl [k1 k3 k4]
  · isplitl [k1]; · iexact k1
    isplitl [k3]; · iexact k3
    iexact k4
  isplitl [l1]; · iexact l1
  isplitl [l3]; · iexact l3
  iexact l4

/-- When the pages are no longer needed the slot is idle again. -/
theorem lands_idle (s b n : ℕ) : iprop(slots c T X s b n ∗ Beside c T X s b n) ⊢ Idles c T X s := by
  unfold slots Beside slotC slotS slotR Idles
  iintro ⟨⟨h2, k2, l2⟩, ⟨h1, h3, h4⟩, ⟨k1, k3, k4⟩, ⟨l1, l3, l4⟩⟩
  isplitl [h1 h2 h3 h4]
  · iapply (landC c T X s b n)
    unfold Landed
    isplitl [h1]; · iexact h1
    isplitl [h2]; · iexact h2
    isplitl [h3]; · iexact h3
    iexact h4
  isplitl [k1 k2 k3 k4]
  · iapply (landS c T X s b n)
    unfold Landed
    isplitl [k1]; · iexact k1
    isplitl [k2]; · iexact k2
    isplitl [k3]; · iexact k3
    iexact k4
  iapply (landR c T X s b n)
  unfold Landed
  isplitl [l1]; · iexact l1
  isplitl [l2]; · iexact l2
  isplitl [l3]; · iexact l3
  iexact l4

/-! ## The rest of a grid point, piece by piece -/

variable (i : grid0.Coords) (G : Good T L) (bd : Option Variants.none.V)
variable (arg3 : Memref sig .tc .vmem S1x32x512 .bf16) (harg3 : arg3.IsWhole) (arg4 : Memref sig .tc .vmem S1x32x64 .bf16) (harg4 : arg4.IsWhole)
  (arg5 : Memref sig .tc .vmem S1x1x512 .bf16) (harg5 : arg5.IsWhole) (arg6 : Memref sig .tc .vmem S1x1x64 .bf16) (harg6 : arg6.IsWhole)
  (arg10 : Memref sig .tc .vmem S1x32x512 .bf16) (harg10 : arg10.IsWhole)
variable {α : Type} {Q : α → sProp (MT nD τ sig Unit (Elt F) ℕ (Pipeline.UD sig nD τ) ℕ)}

/-- Where the length of the grid point's own sequence is read. -/
theorem off34_eq (i : grid0.Coords) : k0_off34 i = ![pt i] := congrArg (fun x : ℕ => ![x]) (ofNat_toNat (pt_lt i).le)
/-- Where the length of the grid point's own sequence is read again. -/
theorem off53_eq (i : grid0.Coords) : k0_off53 i = ![pt i] := off34_eq i
/-- Where the length of the next sequence is read. -/
theorem off15_eq (i : grid0.Coords) : k0_off15 i = ![pt i + 1] := congrArg (fun x : ℕ => ![x]) (succW (pt_lt i))

include G in
/-- The first branch: at the first grid point it starts the copies of the first sequence. -/
theorem first {rest : Prog (TpuEff nD τ sig (Elt F) Λ₀ .tc) α} :
    iprop(tab c T ∗ lens c L ∗ Next c T L X (pt i))
      ⊢ iprop((iprop(tab c T ∗ lens c L ∗ Fly c T X (pt i % 2) (pt i) (np L (pt i)) (np L (pt i)) 0) -∗ wp frame (wpE (defs₀ (F := F)) Variants.none (c : Thread nD τ) bd) Set.univ rest Q)
        -∗ wp frame (wpE (defs₀ (F := F)) Variants.none (c : Thread nD τ) bd) Set.univ
          (if h1 : k0_cond1 i = 1#1 then
            (smemLoad (Memref.whole main_arg8) (Rect.unit (s := S128) ![0] S1.size inb_S128_S1_0) numel1_S1 rfl >>= fun v =>
              Prog.lift (TpuEff.assume (k0_chk1 i v) (k0_chk1.dec i v)) >>= fun hw =>
              Scf.Loop.for (k0_t1_loop v) (k0_t1_ok i v hw.down h1) ⟨⟩ (k0_t1_body i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 h1 v hw.down) >>= fun _ =>
              Scf.Loop.for (k0_t2_loop v) (k0_t2_ok i v hw.down h1) ⟨⟩ (k0_t2_body i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 h1 v hw.down) >>= fun _ => rest)
          else rest) Q) := by
  iintro ⟨HT, HL, HN⟩ Hk
  by_cases h1 : k0_cond1 i = 1#1
  · have hi := (cond1_iff i).mp h1
    have hN : Next c T L X (pt i) = Idles c T X 0 := by unfold Next; rw [hi]; rfl
    ihave HN := (Entails.of_eq hN) $$ HN
    imod (startAll c T X 0 0 (np L 0)) $$ HN with HF
    rw [dif_pos h1, hi]
    iapply (readLen c L bd (b := 0) rfl (by decide)) $$ HL
    iintro HL
    iapply (check (c : Thread nD τ) Variants.none bd (chk1 (G.le (ixL 0)) i))
    have hn : (k0_t1_loop (len L 0)).trips = np L 0 := copy_trips (G.le (ixL 0))
    iapply (loopRule (c : Thread nD τ) Variants.none bd (k0_t1_loop (len L 0)) (fun k _ => iprop(tab c T ∗ Fly c T X 0 0 (np L 0) k 0))
      (fun k _ => step1 c T L X i G bd arg3 harg3 arg4 harg4 arg5 harg5 arg6 harg6 arg10 harg10 h1 (len L 0) rfl _ k) hn) $$ [HT HF]
    · isplitl [HT]; · iexact HT
      iexact HF
    iintro %_ ⟨HT, HF⟩
    rw [loopNone (c : Thread nD τ) (k0_t2_loop (len L 0)) _ _ _ (deadLoop_trips _), pure_bind]
    iapply Hk
    isplitl [HT]; · iexact HT
    isplitl [HL]; · iexact HL
    iexact HF
  · rw [dif_neg h1]
    have hi : pt i ≠ 0 := fun h => h1 ((cond1_iff i).mpr h)
    have hN : Next c T L X (pt i) = Fly c T X (pt i % 2) (pt i) (np L (pt i)) (np L (pt i)) 0 := by
      unfold Next; exact if_neg (by have := pt_lt i; omega)
    ihave HN := (Entails.of_eq hN) $$ HN
    iapply Hk
    isplitl [HT]; · iexact HT
    isplitl [HL]; · iexact HL
    iexact HN

include G in
/-- The second branch: it starts the copies of the next sequence, if there is one. -/
theorem next {rest : Prog (TpuEff nD τ sig (Elt F) Λ₀ .tc) α} :
    iprop(tab c T ∗ lens c L ∗ Idles c T X ((pt i + 1) % 2))
      ⊢ iprop((iprop(tab c T ∗ lens c L ∗ Next c T L X (pt i + 1)) -∗ wp frame (wpE (defs₀ (F := F)) Variants.none (c : Thread nD τ) bd) Set.univ rest Q)
        -∗ wp frame (wpE (defs₀ (F := F)) Variants.none (c : Thread nD τ) bd) Set.univ
          (if h2 : k0_cond2 i = 1#1 then
            (smemLoad (Memref.whole main_arg8) (Rect.unit (s := S128) (k0_off15 i) S1.size (k0_off15_inb i h2)) numel1_S1 rfl >>= fun v =>
              Prog.lift (TpuEff.assume (k0_chk4 i v) (k0_chk4.dec i v)) >>= fun hw =>
              Scf.Loop.for (k0_t3_loop v) (k0_t3_ok i v hw.down h2) ⟨⟩ (k0_t3_body i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 h2 v hw.down) >>= fun _ =>
              Scf.Loop.for (k0_t4_loop v) (k0_t4_ok i v hw.down h2) ⟨⟩ (k0_t4_body i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 h2 v hw.down) >>= fun _ => rest)
          else rest) Q) := by
  iintro ⟨HT, HL, HN⟩ Hk
  by_cases h2 : k0_cond2 i = 1#1
  · have hi := (cond2_iff i).mp h2
    have hN : Next c T L X (pt i + 1) = Fly c T X ((pt i + 1) % 2) (pt i + 1) (np L (pt i + 1)) (np L (pt i + 1)) 0 := by
      unfold Next; exact if_neg (by omega)
    imod (startAll c T X ((pt i + 1) % 2) (pt i + 1) (np L (pt i + 1))) $$ HN with HF
    rw [dif_pos h2, hN]
    iapply (readLen c L bd (off15_eq i) hi) $$ HL
    iintro HL
    iapply (check (c : Thread nD τ) Variants.none bd (chk4 (G.le (ixL (pt i + 1))) i fun _ => hi))
    have hn : (k0_t3_loop (len L (pt i + 1))).trips = np L (pt i + 1) := copy_trips (G.le (ixL (pt i + 1)))
    iapply (loopRule (c : Thread nD τ) Variants.none bd (k0_t3_loop (len L (pt i + 1))) (fun k _ => iprop(tab c T ∗ Fly c T X ((pt i + 1) % 2) (pt i + 1) (np L (pt i + 1)) k 0))
      (fun k _ => step3 c T L X i G bd arg3 harg3 arg4 harg4 arg5 harg5 arg6 harg6 arg10 harg10 h2 (len L (pt i + 1)) rfl hi _ k) hn) $$ [HT HF]
    · isplitl [HT]; · iexact HT
      iexact HF
    iintro %_ ⟨HT, HF⟩
    rw [loopNone (c : Thread nD τ) (k0_t4_loop (len L (pt i + 1))) _ _ _ (deadLoop_trips _), pure_bind]
    iapply Hk
    isplitl [HT]; · iexact HT
    isplitl [HL]; · iexact HL
    iexact HF
  · rw [dif_neg h2]
    have hi : ¬ pt i + 1 < 128 := fun h => h2 ((cond2_iff i).mpr h)
    have hN : Next c T L X (pt i + 1) = Idles c T X ((pt i + 1) % 2) := by
      unfold Next; exact if_pos (by omega)
    rw [hN]
    iapply Hk
    isplitl [HT]; · iexact HT
    isplitl [HL]; · iexact HL
    iexact HN

/-- What follows a branch follows each side of it. -/
theorem branch_bind {β : Type} {p : Prop} [Decidable p] (a : p → Prog (TpuEff nD τ sig (Elt F) Λ₀ .tc) β) (b : ¬p → Prog (TpuEff nD τ sig (Elt F) Λ₀ .tc) β)
    (k : β → Prog (TpuEff nD τ sig (Elt F) Λ₀ .tc) α) : (dite p a b >>= k) = dite p (fun h => a h >>= k) (fun h => b h >>= k) := by
  split <;> rfl

include G in
/-- The copies and the waits of a grid point. -/
theorem gather {kk : (Σ' (_ : BitVec 32) (_ : BitVec 32) (v9 : Elt F .i32) (_ : k0_chk7 i v9), BitVec 32) → Prog (TpuEff nD τ sig (Elt F) Λ₀ .tc) α} :
    iprop(tab c T ∗ lens c L ∗ Next c T L X (pt i) ∗ Idles c T X ((pt i + 1) % 2) ∗ ∃ W, owes (c : Thread nD τ) 0 W)
      ⊢ iprop((∀ (a0 v0 : BitVec 32) (hw : k0_chk7 i (len L (pt i))) (v34 : BitVec 32),
          iprop(tab c T ∗ lens c L ∗ Lands c T X (pt i % 2) (pt i) (np L (pt i)) ∗ Next c T L X (pt i + 1) ∗ ∃ W, owes (c : Thread nD τ) 0 W)
            -∗ wp frame (wpE (defs₀ (F := F)) Variants.none (c : Thread nD τ) bd) Set.univ (kk ⟨a0, v0, len L (pt i), hw, v34⟩) Q)
        -∗ wp frame (wpE (defs₀ (F := F)) Variants.none (c : Thread nD τ) bd) Set.univ (k0_part15_skel i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 >>= kk) Q) := by
  unfold k0_part15_skel
  simp only [branch_bind, bind_assoc, pure_bind]
  iintro ⟨HT, HL, HN, HI, HO⟩ Hk
  iapply (first c T L X i G bd arg3 harg3 arg4 harg4 arg5 harg5 arg6 harg6 arg10 harg10) $$ [HT HL HN]
  · isplitl [HT]; · iexact HT
    isplitl [HL]; · iexact HL
    iexact HN
  iintro ⟨HT, HL, HF⟩
  iapply (next c T L X i G bd arg3 harg3 arg4 harg4 arg5 harg5 arg6 harg6 arg10 harg10) $$ [HT HL HI]
  · isplitl [HT]; · iexact HT
    isplitl [HL]; · iexact HL
    iexact HI
  iintro ⟨HT, HL, HN⟩
  iapply (readLen c L bd (off34_eq i) (pt_lt i)) $$ HL
  iintro HL
  iapply (check (c : Thread nD τ) Variants.none bd (chk7 (G.le (ixL (pt i))) i))
  have hn : (k0_t5_loop (len L (pt i))).trips = np L (pt i) := copy_trips (G.le (ixL (pt i)))
  iapply (loopRule (c : Thread nD τ) Variants.none bd (k0_t5_loop (len L (pt i)))
    (fun k _ => iprop(tab c T ∗ Fly c T X (pt i % 2) (pt i) (np L (pt i)) (np L (pt i)) k ∗ ∃ W, owes (c : Thread nD τ) 0 W))
    (fun k _ => step5 c T L X i G bd arg3 harg3 arg4 harg4 arg5 harg5 arg6 harg6 arg10 harg10 (len L (pt i)) rfl _ k) hn) $$ [HT HF HO]
  · isplitl [HT]; · iexact HT
    isplitl [HF]; · iexact HF
    iexact HO
  iintro %_ ⟨HT, HF, HO⟩
  imod (finishAll c T X (pt i % 2) (pt i) (np L (pt i))) $$ HF with HD
  iapply Hk
  isplitl [HT]; · iexact HT
  isplitl [HL]; · iexact HL
  isplitl [HD]; · iexact HD
  isplitl [HN]; · iexact HN
  iexact HO

end Cert.Kernel.Hand
-- ==== Proof.K.Point.lean ====
/-
  The result of one grid point, and the whole grid point: from the state between points and the staged windows to the
  next state and the staged result.
-/
module

public import proofs.«01_k».proof.Proof.K.Body

@[expose] public section

noncomputable section

namespace Cert.Kernel.Hand

open Idealize.ShloMosaic Idealize.ShloMosaic.TcCoe Idealize.ShloMosaic.Tactic Cert.Kernel Cert.Kernel.Gen Cert.Words Cert.Pages
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the counters of the transfers. -/
local notation "𝕄" => MT nD τ sig Unit (Elt F) ℕ (Pipeline.UD sig nD τ) ℕ

variable (c : Dev nD) (T : Tab) (L : Lens) (X : Pools F)

/-- What grid point `b` stores: from its query `x` and rope query `y`, the new token's latent `z` and rope key `w`. -/
def out (b : ℕ) (x : Vec F S1x32x512 .bf16) (y : Vec F S1x32x64 .bf16) (z : Vec F S1x1x512 .bf16) (w : Vec F S1x1x64 .bf16) : Vec F S1x32x512 .bf16 :=
  let l := len L b
  let n := nblk l
  let m := mx T X (b % 2) b l (k0_pay36 x) (k0_pay37 y) (k0_pay41 (k0_pay39 x z) (k0_pay40 y) w) n
  let d := sm T X (b % 2) b l (k0_pay36 x) (k0_pay37 y) m k0_pay47 n
  let a := av T X (b % 2) b l (k0_pay36 x) (k0_pay37 y) m (k0_pay54 (k0_pay39 x z) (k0_pay40 y) w m d) k0_pay55 n
  k0_pay1 (k0_pay58 (k0_pay38 z) (k0_pay39 x z) (k0_pay40 y) w m d a)

/-- The rectangle of a whole buffer leaves indices alone. -/
theorem wholeRect {s : Shape} {o : Fin s.rank → ℕ} (ho : ∀ a, o a = 0) {hi} (j : s.Idx) : (Rect.unit (s := s) o s.size hi).emb j = j := by
  funext a
  apply Fin.ext
  show o a + 1 * (j a).val = (j a).val
  rw [ho a]
  omega
/-- The offset of a whole array of three axes is zero. -/
theorem zero3 : ∀ a : Fin 3, (![0, 0, 0] : Fin 3 → ℕ) a = 0 := by decide

variable (i : grid0.Coords) (G : Good T L) (bd : Option Variants.none.V)
variable (arg3 : Memref sig .tc .vmem S1x32x512 .bf16) (harg3 : arg3.IsWhole) (arg4 : Memref sig .tc .vmem S1x32x64 .bf16) (harg4 : arg4.IsWhole)
  (arg5 : Memref sig .tc .vmem S1x1x512 .bf16) (harg5 : arg5.IsWhole) (arg6 : Memref sig .tc .vmem S1x1x64 .bf16) (harg6 : arg6.IsWhole)
  (arg10 : Memref sig .tc .vmem S1x32x512 .bf16) (harg10 : arg10.IsWhole)
/-- The store of the result. -/
theorem storeOut (v : Vec F S1x32x512 .bf16) {o : Vec F S1x32x512 .bf16} {hi} {hx} {hm} {α : Type} {Q : α → sProp (MT nD τ sig Unit (Elt F) ℕ (Pipeline.UD sig nD τ) ℕ)}
    {k : PUnit → Prog (TpuEff nD τ sig (Elt F) Λ₀ .tc) α} :
    owns (c : Thread nD τ) arg10 fullShare o ⊢ iprop((owns (c : Thread nD τ) arg10 fullShare v -∗ wp frame (wpE (defs₀ (F := F)) Variants.none (c : Thread nD τ) bd) Set.univ (k ⟨⟩) Q)
      -∗ wp frame (wpE (defs₀ (F := F)) Variants.none (c : Thread nD τ) bd) Set.univ
          (Prog.lift (.store arg10 (Rect.unit (s := S1x32x512) ![0, 0, 0] S1x32x512.size hi) v Finset.univ hx hm) >>= k) Q) :=
  storeOwn (c : Thread nD τ) Variants.none bd (fun j => congrArg v (wholeRect zero3 j).symm) (fun j => ⟨j, wholeRect zero3 j⟩)

variable (x : Vec F S1x32x512 .bf16) (y : Vec F S1x32x64 .bf16) (z : Vec F S1x1x512 .bf16) (w : Vec F S1x1x64 .bf16)

include G in
/-- One grid point: its result is in the staged window, the state is the one of the next point. -/
theorem point {o : Vec F S1x32x512 .bf16} :
    iprop((tab c T ∗ lens c L ∗ (∃ f, scores c f) ∗ Next c T L X (pt i) ∗ Idles c T X ((pt i + 1) % 2) ∗ ∃ W, owes (c : Thread nD τ) 0 W)
      ∗ owns (c : Thread nD τ) arg3 fullShare x ∗ owns (c : Thread nD τ) arg4 fullShare y ∗ owns (c : Thread nD τ) arg5 fullShare z ∗ owns (c : Thread nD τ) arg6 fullShare w
      ∗ owns (c : Thread nD τ) arg10 fullShare o)
    ⊢ wp frame (wpE (defs₀ (F := F)) Variants.none (c : Thread nD τ) bd) Set.univ (cc0__body_skel i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6)
      (fun _ => iprop((tab c T ∗ lens c L ∗ (∃ f, scores c f) ∗ Next c T L X (pt i + 1) ∗ Idles c T X (pt i % 2) ∗ ∃ W, owes (c : Thread nD τ) 0 W)
      ∗ owns (c : Thread nD τ) arg3 fullShare x ∗ owns (c : Thread nD τ) arg4 fullShare y ∗ owns (c : Thread nD τ) arg5 fullShare z ∗ owns (c : Thread nD τ) arg6 fullShare w
      ∗ owns (c : Thread nD τ) arg10 fullShare (out T L X (pt i) x y z w))) := by
  unfold cc0__body_skel
  simp only [k0_part15_eq_skeleton, k0_part16_eq_skeleton, k0_part17_eq_skeleton]
  iintro ⟨⟨HT, HL, ⟨%f0, HB⟩, HN, HI, HO⟩, Hx, Hy, Hz, Hw, Ho⟩
  iapply (gather c T L X i G bd arg3 harg3 arg4 harg4 arg5 harg5 arg6 harg6 arg10 harg10) $$ [HT HL HN HI HO]
  · isplitl [HT]; · iexact HT
    isplitl [HL]; · iexact HL
    isplitl [HN]; · iexact HN
    isplitl [HI]; · iexact HI
    iexact HO
  iintro %a0 %v0 %hw7 %v34 ⟨HT, HL, HD, HN, HO⟩
  simp only [k0_part16_skel, k0_part17_skel, bind_assoc, pure_bind]
  ihave HD := (lands_split c T X (pt i % 2) (pt i) (np L (pt i))) $$ HD
  icases HD with ⟨HS, HE⟩
  rw [loopNone (c : Thread nD τ) (k0_t6_loop (len L (pt i))) _ _ _ (deadLoop_trips _), pure_bind]
  iapply (readLen c L bd (off53_eq i) (pt_lt i)) $$ HL
  iintro HL
  iapply (loadOwn (m := arg3) (X := x) (v := x) (c : Thread nD τ) Variants.none bd (fun j => congrArg x (wholeRect zero3 j))) $$ Hx
  iintro Hx
  iapply (loadOwn (m := arg4) (X := y) (v := y) (c : Thread nD τ) Variants.none bd (fun j => congrArg y (wholeRect zero3 j))) $$ Hy
  iintro Hy
  iapply (readLen c L bd (off53_eq i) (pt_lt i)) $$ HL
  iintro HL
  iapply (check (c : Thread nD τ) Variants.none bd (chk10 (G.le (ixL (pt i))) i))
  iapply (loadOwn (m := arg5) (X := z) (v := z) (c : Thread nD τ) Variants.none bd (fun j => congrArg z (wholeRect zero3 j))) $$ Hz
  iintro Hz
  iapply (loadOwn (m := arg6) (X := w) (v := w) (c : Thread nD τ) Variants.none bd (fun j => congrArg w (wholeRect zero3 j))) $$ Hw
  iintro Hw
  have hn : ∀ v, v = len L (pt i) → (k0_t7_loop v).trips = nblk v := fun v hv => by subst hv; exact (blk_trips (G.le (ixL (pt i)))).1
  iapply (loopRule (c : Thread nD τ) Variants.none bd (k0_t7_loop (len L (pt i))) (I7 c T L X i (len L (pt i)) (k0_pay36 x) (k0_pay37 y) (k0_pay41 (k0_pay39 x z) (k0_pay40 y) w))
    (fun k acc => step7 c T L X i G bd arg3 harg3 arg4 harg4 arg5 harg5 arg6 harg6 arg10 harg10 _ _ _ _ _ _ _ _ _ (len L (pt i)) rfl _ k acc) (hn _ rfl)) $$ [HS HB]
  · unfold I7
    isplitl [HS]; · iexact HS
    iexists f0
    isplitl [HB]; · iexact HB
    ipureintro
    exact ⟨rfl, fun j h => absurd h (Nat.not_lt_zero j)⟩
  iintro %m HI7
  unfold I7
  icases HI7 with ⟨HS, ⟨%f1, HB, %hf1⟩⟩
  obtain ⟨hm, hf1⟩ := hf1
  rw [loopNone (c : Thread nD τ) (k0_t8_loop (len L (pt i))) _ _ _ (deadLoop_trips _), pure_bind]
  iapply (loopRule (c : Thread nD τ) Variants.none bd (k0_t9_loop (len L (pt i))) (I9 c T X i (len L (pt i)) (k0_pay36 x) (k0_pay37 y) m (nblk (len L (pt i))) k0_pay47)
    (fun k acc => step9 c T L X i G bd arg3 harg3 arg4 harg4 arg5 harg5 arg6 harg6 arg10 harg10 _ _ _ _ _ _ _ _ _ _ (len L (pt i)) rfl _ k acc) (hn _ rfl)) $$ [HB]
  · unfold I9
    iexists f1
    isplitl [HB]; · iexact HB
    ipureintro
    exact ⟨rfl, fun j h => absurd h (Nat.not_lt_zero j), fun j _ h => hf1 j h⟩
  iintro %d HI9
  unfold I9
  icases HI9 with ⟨%f2, HB, %hf2⟩
  obtain ⟨hd, hf2, -⟩ := hf2
  rw [loopNone (c : Thread nD τ) (k0_t10_loop (len L (pt i))) _ _ _ (deadLoop_trips _), pure_bind]
  iapply (loopRule (c : Thread nD τ) Variants.none bd (k0_t11_loop (len L (pt i))) (I11 c T L X i (len L (pt i)) (k0_pay36 x) (k0_pay37 y) m (nblk (len L (pt i))) (k0_pay54 (k0_pay39 x z) (k0_pay40 y) w m d) k0_pay55)
    (fun k acc => step11 c T L X i G bd arg3 harg3 arg4 harg4 arg5 harg5 arg6 harg6 arg10 harg10 _ _ _ _ _ _ _ _ _ _ _ _ (len L (pt i)) rfl _ k acc) (hn _ rfl)) $$ [HS HB]
  · unfold I11
    isplitl [HS]; · iexact HS
    iexists f2
    isplitl [HB]; · iexact HB
    ipureintro
    exact ⟨rfl, hf2⟩
  iintro %a HI11
  unfold I11
  icases HI11 with ⟨HS, ⟨%f3, HB, %hf3⟩⟩
  obtain ⟨ha, -⟩ := hf3
  rw [loopNone (c : Thread nD τ) (k0_t12_loop (len L (pt i))) _ _ _ (deadLoop_trips _), pure_bind]
  iapply (loadOwn (m := arg10) (X := o) (v := o) (c : Thread nD τ) Variants.none bd (fun j => congrArg o (wholeRect zero3 j))) $$ Ho
  iintro Ho
  have hout : k0_pay1 (k0_pay58 (k0_pay38 z) (k0_pay39 x z) (k0_pay40 y) w m d a) = out T L X (pt i) x y z w := by
    unfold out
    dsimp only
    rw [← hm, ← hd, ← ha]
  rw [hout]
  iapply (storeOut c bd arg10 (out T L X (pt i) x y z w)) $$ Ho
  iintro Ho
  ihave HI := (lands_idle c T X (pt i % 2) (pt i) (np L (pt i))) $$ [HS HE]
  · isplitl [HS]; · iexact HS
    iexact HE
  sl_step
  isplitl [HT HL HB HN HI HO]
  · isplitl [HT]; · iexact HT
    isplitl [HL]; · iexact HL
    isplitl [HB]; · iexists f3; iexact HB
    isplitl [HN]; · iexact HN
    isplitl [HI]; · iexact HI
    iexact HO
  isplitl [Hx]; · iexact Hx
  isplitl [Hy]; · iexact Hy
  isplitl [Hz]; · iexact Hz
  isplitl [Hw]; · iexact Hw
  iexact Ho

end Cert.Kernel.Hand
-- ==== Proof.K.Invariant.lean ====
/-
  What the grid points hand one another: the tables, the scratch buffers split into two slots, the cells, and the shares of
  the three pools; how the launch provides it, and how it is given back after the last point.
-/
module

public import proofs.«01_k».proof.Proof.K.Point
public import Idealize.ShloMosaic.Lib.Pipeline.FrameBody
public import Idealize.ShloMosaic.Lib.Claim

@[expose] public section

noncomputable section

namespace Cert.Kernel.Hand

open Idealize.ShloMosaic Idealize.ShloMosaic.TcCoe Idealize.ShloMosaic.Tactic Cert.Kernel Cert.Kernel.Gen Cert.Words Cert.Pages
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the counters of the transfers. -/
local notation "𝕄" => MT nD τ sig Unit (Elt F) ℕ (Pipeline.UD sig nD τ) ℕ

variable (c : Dev nD) (T : Tab) (L : Lens) (X : Pools F)

section Seed

variable {ℓd ℓs : Loc nD τ sig} (t : Thread nD τ) (s₀ s₁ : SemLoc sig) (p₀ p₁ : Plan ℓd ℓs (Elt F)) (S₀ S₁ : Finset (Idx ℓd)) (x : Buf (Elt F) ℓs)

/-- A buffer held whole is its two slots. -/
theorem halves (h : S₁ = Finset.univ \ S₀) :
    (iprop(∃ f : Buf (Elt F) ℓd, ℓd ↦{fullShare} f) : sProp 𝕄) ⊢ iprop((∃ f : Buf (Elt F) ℓd, ℓd ↦[S₀]{fullShare} f) ∗ ∃ f : Buf (Elt F) ℓd, ℓd ↦[S₁]{fullShare} f) := by
  subst h
  iintro ⟨%f, H⟩
  ihave H' := (pointsTo_split_subset (Finset.subset_univ S₀)).1 $$ H
  icases H' with ⟨H0, H1⟩
  isplitl [H0]
  · iexists f; iexact H0
  iexists f; iexact H1

/-- Two slots make a whole buffer. -/
theorem whole (h : S₁ = Finset.univ \ S₀) :
    iprop((∃ f : Buf (Elt F) ℓd, ℓd ↦[S₀]{fullShare} f) ∗ ∃ f : Buf (Elt F) ℓd, ℓd ↦[S₁]{fullShare} f) ⊢ (iprop(∃ f : Buf (Elt F) ℓd, ℓd ↦{fullShare} f) : sProp 𝕄) := by
  subst h
  iintro ⟨⟨%f, H0⟩, ⟨%g, H1⟩⟩
  ihave H := (pointsTo_join_subset (Finset.subset_univ S₀)) $$ [H0 H1]
  · isplitl [H0]; · iexact H0
    iexact H1
  iexists _; iexact H

/-- A pool held whole is a share for each slot and the rest. -/
theorem shares : (ℓs ↦{fullShare} x : sProp 𝕄) = iprop((ℓs ↦{Transfers.shareDrop fullShare 2} x) ∗ (ℓs ↦{Transfers.shareTokN fullShare 1} x) ∗ ℓs ↦{Transfers.shareTokN fullShare 0} x) := by
  have e := Transfers.pointsTo_toks_range (Val := Elt F) (Ix := Unit) (Name := ℕ) (U := Pipeline.UD sig nD τ) (Lvl := ℕ) (S := Finset.univ) (f := x) fullShare 2
  have h := BI.equiv_iff.mp ⟨e.1, e.2⟩
  rw [show (Finset.range 2) = insert 1 {0} by decide, BI.bigSep_insert (by decide), BI.bigSep_singleton] at h
  exact h

variable (h : S₁ = Finset.univ \ S₀) (q₀ : p₀.q = Transfers.shareTokN fullShare 0) (q₁ : p₁.q = Transfers.shareTokN fullShare 1) (e₀ : p₀.pool = x) (e₁ : p₁.pool = x)

include h q₀ q₁ e₀ e₁ in
/-- A scratch buffer, its two cells at zero and its pool make two idle slots; -/
theorem seed :
    (iprop((∃ f : Buf (Elt F) ℓd, ℓd ↦{fullShare} f) ∗ semVal (t, s₀) 0 ∗ semVal (t, s₁) 0 ∗ ℓs ↦{fullShare} x) : sProp 𝕄)
      ⊢ iprop(Idle t s₀ p₀ S₀ ∗ Idle t s₁ p₁ S₁ ∗ ℓs ↦{Transfers.shareDrop fullShare 2} x) := by
  unfold Idle
  rw [q₀, q₁, e₀, e₁, shares x]
  iintro ⟨HB, H0, H1, HD, HP1, HP0⟩
  ihave HB := (halves S₀ S₁ h) $$ HB
  icases HB with ⟨HB0, HB1⟩
  isplitl [H0 HB0 HP0]
  · isplitl [H0]; · iexact H0
    isplitl [HB0]; · iexact HB0
    iexact HP0
  isplitl [H1 HB1 HP1]
  · isplitl [H1]; · iexact H1
    isplitl [HB1]; · iexact HB1
    iexact HP1
  iexact HD

include h q₀ q₁ e₀ e₁ in
/-- and the other way round. -/
theorem unseed :
    (iprop(Idle t s₀ p₀ S₀ ∗ Idle t s₁ p₁ S₁ ∗ ℓs ↦{Transfers.shareDrop fullShare 2} x) : sProp 𝕄)
      ⊢ iprop((∃ f : Buf (Elt F) ℓd, ℓd ↦{fullShare} f) ∗ semVal (t, s₀) 0 ∗ semVal (t, s₁) 0 ∗ ℓs ↦{fullShare} x) := by
  unfold Idle
  rw [q₀, q₁, e₀, e₁, shares x]
  iintro ⟨⟨H0, HB0, HP0⟩, ⟨H1, HB1, HP1⟩, HD⟩
  isplitl [HB0 HB1]
  · iapply (whole S₀ S₁ h)
    isplitl [HB0]; · iexact HB0
    iexact HB1
  isplitl [H0]; · iexact H0
  isplitl [H1]; · iexact H1
  isplitl [HD]; · iexact HD
  isplitl [HP1]; · iexact HP1
  iexact HP0

end Seed

/-- The two slots of codes make up the whole buffer. -/
theorem halfC_compl : halfC 1 = Finset.univ \ halfC 0 := by
  ext y
  have h : (y 0).val < 2 := (y 0).isLt
  simp only [halfC, Finset.mem_filter, Finset.mem_univ, true_and, Finset.mem_sdiff]
  omega
/-- The two slots of scales make up the whole buffer. -/
theorem halfS_compl : halfS 1 = Finset.univ \ halfS 0 := by
  ext y
  have h : (y 0).val < 2 := (y 0).isLt
  simp only [halfS, Finset.mem_filter, Finset.mem_univ, true_and, Finset.mem_sdiff]
  omega
/-- The two slots of rope keys make up the whole buffer. -/
theorem halfR_compl : halfR 1 = Finset.univ \ halfR 0 := by
  ext y
  have h : (y 0).val < 2 := (y 0).isLt
  simp only [halfR, Finset.mem_filter, Finset.mem_univ, true_and, Finset.mem_sdiff]
  omega

/-- The shares of the pools no slot holds. -/
def Spare : sProp 𝕄 :=
  iprop(((c : Thread nD τ).loc main_arg4 ↦{Transfers.shareDrop fullShare 2} X.codes) ∗ ((c : Thread nD τ).loc main_v0 ↦{Transfers.shareDrop fullShare 2} X.scales)
    ∗ (c : Thread nD τ).loc main_arg6 ↦{Transfers.shareDrop fullShare 2} X.ropes)

/-- The three scratch buffers, the six cells at zero, and the three pools. -/
def Store : sProp 𝕄 :=
  iprop(((∃ f : S2x2048x512.Idx → Elt F .fp8e4m3, (c : Thread nD τ).loc cc0_scratch0 ↦{fullShare} f) ∗ semVal ((c : Thread nD τ), cellC 0) 0 ∗ semVal ((c : Thread nD τ), cellC 1) 0
      ∗ (c : Thread nD τ).loc main_arg4 ↦{fullShare} X.codes)
    ∗ ((∃ f : S2x32x4x64.Idx → Elt F .f32, (c : Thread nD τ).loc cc0_scratch1 ↦{fullShare} f) ∗ semVal ((c : Thread nD τ), cellS 0) 0 ∗ semVal ((c : Thread nD τ), cellS 1) 0
      ∗ (c : Thread nD τ).loc main_v0 ↦{fullShare} X.scales)
    ∗ (∃ f : S2x2048x64.Idx → Elt F .bf16, (c : Thread nD τ).loc cc0_scratch2 ↦{fullShare} f) ∗ semVal ((c : Thread nD τ), cellR 0) 0 ∗ semVal ((c : Thread nD τ), cellR 1) 0
      ∗ (c : Thread nD τ).loc main_arg6 ↦{fullShare} X.ropes)

/-- Before the first grid point: the buffer of codes and its counters, as two idle slots. -/
theorem seedC : (iprop((∃ f : S2x2048x512.Idx → Elt F .fp8e4m3, (c : Thread nD τ).loc cc0_scratch0 ↦{fullShare} f) ∗ semVal ((c : Thread nD τ), cellC 0) 0 ∗ semVal ((c : Thread nD τ), cellC 1) 0
      ∗ (c : Thread nD τ).loc main_arg4 ↦{fullShare} X.codes) : sProp 𝕄)
    ⊢ iprop(Idle (c : Thread nD τ) (cellC 0) (planC c T X.codes 0 0) (halfC 0) ∗ Idle (c : Thread nD τ) (cellC 1) (planC c T X.codes 1 0) (halfC 1) ∗ (c : Thread nD τ).loc main_arg4 ↦{Transfers.shareDrop fullShare 2} X.codes) :=
  seed (c : Thread nD τ) (cellC 0) (cellC 1) (planC c T X.codes 0 0) (planC c T X.codes 1 0) (halfC 0) (halfC 1) X.codes halfC_compl rfl rfl rfl rfl
/-- Before the first grid point: the buffer of scales and its counters, as two idle slots. -/
theorem seedS : (iprop((∃ f : S2x32x4x64.Idx → Elt F .f32, (c : Thread nD τ).loc cc0_scratch1 ↦{fullShare} f) ∗ semVal ((c : Thread nD τ), cellS 0) 0 ∗ semVal ((c : Thread nD τ), cellS 1) 0
      ∗ (c : Thread nD τ).loc main_v0 ↦{fullShare} X.scales) : sProp 𝕄)
    ⊢ iprop(Idle (c : Thread nD τ) (cellS 0) (planS c T X.scales 0 0) (halfS 0) ∗ Idle (c : Thread nD τ) (cellS 1) (planS c T X.scales 1 0) (halfS 1) ∗ (c : Thread nD τ).loc main_v0 ↦{Transfers.shareDrop fullShare 2} X.scales) :=
  seed (c : Thread nD τ) (cellS 0) (cellS 1) (planS c T X.scales 0 0) (planS c T X.scales 1 0) (halfS 0) (halfS 1) X.scales halfS_compl rfl rfl rfl rfl
/-- Before the first grid point: the buffer of rope keys and its counters, as two idle slots. -/
theorem seedR : (iprop((∃ f : S2x2048x64.Idx → Elt F .bf16, (c : Thread nD τ).loc cc0_scratch2 ↦{fullShare} f) ∗ semVal ((c : Thread nD τ), cellR 0) 0 ∗ semVal ((c : Thread nD τ), cellR 1) 0
      ∗ (c : Thread nD τ).loc main_arg6 ↦{fullShare} X.ropes) : sProp 𝕄)
    ⊢ iprop(Idle (c : Thread nD τ) (cellR 0) (planR c T X.ropes 0 0) (halfR 0) ∗ Idle (c : Thread nD τ) (cellR 1) (planR c T X.ropes 1 0) (halfR 1) ∗ (c : Thread nD τ).loc main_arg6 ↦{Transfers.shareDrop fullShare 2} X.ropes) :=
  seed (c : Thread nD τ) (cellR 0) (cellR 1) (planR c T X.ropes 0 0) (planR c T X.ropes 1 0) (halfR 0) (halfR 1) X.ropes halfR_compl rfl rfl rfl rfl
/-- After the last grid point: two idle slots give back the buffer of codes and its counters. -/
theorem unseedC : (iprop(Idle (c : Thread nD τ) (cellC 0) (planC c T X.codes 0 0) (halfC 0) ∗ Idle (c : Thread nD τ) (cellC 1) (planC c T X.codes 1 0) (halfC 1) ∗ (c : Thread nD τ).loc main_arg4 ↦{Transfers.shareDrop fullShare 2} X.codes) : sProp 𝕄)
    ⊢ iprop((∃ f : S2x2048x512.Idx → Elt F .fp8e4m3, (c : Thread nD τ).loc cc0_scratch0 ↦{fullShare} f) ∗ semVal ((c : Thread nD τ), cellC 0) 0 ∗ semVal ((c : Thread nD τ), cellC 1) 0
      ∗ (c : Thread nD τ).loc main_arg4 ↦{fullShare} X.codes) :=
  unseed (c : Thread nD τ) (cellC 0) (cellC 1) (planC c T X.codes 0 0) (planC c T X.codes 1 0) (halfC 0) (halfC 1) X.codes halfC_compl rfl rfl rfl rfl
/-- After the last grid point: two idle slots give back the buffer of scales and its counters. -/
theorem unseedS : (iprop(Idle (c : Thread nD τ) (cellS 0) (planS c T X.scales 0 0) (halfS 0) ∗ Idle (c : Thread nD τ) (cellS 1) (planS c T X.scales 1 0) (halfS 1) ∗ (c : Thread nD τ).loc main_v0 ↦{Transfers.shareDrop fullShare 2} X.scales) : sProp 𝕄)
    ⊢ iprop((∃ f : S2x32x4x64.Idx → Elt F .f32, (c : Thread nD τ).loc cc0_scratch1 ↦{fullShare} f) ∗ semVal ((c : Thread nD τ), cellS 0) 0 ∗ semVal ((c : Thread nD τ), cellS 1) 0
      ∗ (c : Thread nD τ).loc main_v0 ↦{fullShare} X.scales) :=
  unseed (c : Thread nD τ) (cellS 0) (cellS 1) (planS c T X.scales 0 0) (planS c T X.scales 1 0) (halfS 0) (halfS 1) X.scales halfS_compl rfl rfl rfl rfl
/-- After the last grid point: two idle slots give back the buffer of rope keys and its counters. -/
theorem unseedR : (iprop(Idle (c : Thread nD τ) (cellR 0) (planR c T X.ropes 0 0) (halfR 0) ∗ Idle (c : Thread nD τ) (cellR 1) (planR c T X.ropes 1 0) (halfR 1) ∗ (c : Thread nD τ).loc main_arg6 ↦{Transfers.shareDrop fullShare 2} X.ropes) : sProp 𝕄)
    ⊢ iprop((∃ f : S2x2048x64.Idx → Elt F .bf16, (c : Thread nD τ).loc cc0_scratch2 ↦{fullShare} f) ∗ semVal ((c : Thread nD τ), cellR 0) 0 ∗ semVal ((c : Thread nD τ), cellR 1) 0
      ∗ (c : Thread nD τ).loc main_arg6 ↦{fullShare} X.ropes) :=
  unseed (c : Thread nD τ) (cellR 0) (cellR 1) (planR c T X.ropes 0 0) (planR c T X.ropes 1 0) (halfR 0) (halfR 1) X.ropes halfR_compl rfl rfl rfl rfl

/-- The store is two idle slots and the spare shares, -/
theorem store_idles : (Store c X : sProp 𝕄) ⊢ iprop(Idles c T X 0 ∗ Idles c T X 1 ∗ Spare c X) := by
  unfold Store Idles Spare
  iintro ⟨HC, HS, HR⟩
  ihave HC := (seedC c T X) $$ HC
  ihave HS := (seedS c T X) $$ HS
  ihave HR := (seedR c T X) $$ HR
  icases HC with ⟨HC0, HC1, HC⟩
  icases HS with ⟨HS0, HS1, HS⟩
  icases HR with ⟨HR0, HR1, HR⟩
  isplitl [HC0 HS0 HR0]
  · isplitl [HC0]; · iexact HC0
    isplitl [HS0]; · iexact HS0
    iexact HR0
  isplitl [HC1 HS1 HR1]
  · isplitl [HC1]; · iexact HC1
    isplitl [HS1]; · iexact HS1
    iexact HR1
  isplitl [HC]; · iexact HC
  isplitl [HS]; · iexact HS
  iexact HR

/-- and two idle slots and the spare shares are the store. -/
theorem idles_store : (iprop(Idles c T X 0 ∗ Idles c T X 1 ∗ Spare c X) : sProp 𝕄) ⊢ Store c X := by
  unfold Store Idles Spare
  iintro ⟨⟨HC0, HS0, HR0⟩, ⟨HC1, HS1, HR1⟩, HC, HS, HR⟩
  isplitl [HC0 HC1 HC]
  · iapply (unseedC c T X)
    isplitl [HC0]; · iexact HC0
    isplitl [HC1]; · iexact HC1
    iexact HC
  isplitl [HS0 HS1 HS]
  · iapply (unseedS c T X)
    isplitl [HS0]; · iexact HS0
    isplitl [HS1]; · iexact HS1
    iexact HS
  iapply (unseedR c T X)
  isplitl [HR0]; · iexact HR0
  isplitl [HR1]; · iexact HR1
  iexact HR

/-- What holds before grid point `b`. -/
def Inv (b : ℕ) : sProp 𝕄 :=
  iprop((tab c T ∗ lens c L ∗ (∃ f, scores c f) ∗ Next c T L X b ∗ Idles c T X ((b + 1) % 2)) ∗ Spare c X ∗ ∃ r, prngReg c r)

/-- The launch provides what the first point needs. -/
theorem inv_first : (iprop(tab c T ∗ lens c L ∗ (∃ f, scores c f) ∗ Store c X ∗ ∃ r, prngReg c r) : sProp 𝕄) ⊢ Inv c T L X 0 := by
  unfold Inv
  rw [show (Next c T L X 0 : sProp 𝕄) = Idles c T X 0 from if_pos (Or.inl rfl)]
  iintro ⟨HT, HL, HB, HS, HG⟩
  ihave HS := (store_idles c T X) $$ HS
  icases HS with ⟨H0, H1, HS⟩
  isplitl [HT HL HB H0 H1]
  · isplitl [HT]; · iexact HT
    isplitl [HL]; · iexact HL
    isplitl [HB]; · iexact HB
    isplitl [H0]; · iexact H0
    iexact H1
  isplitl [HS]; · iexact HS
  iexact HG

/-- After the last point everything is back. -/
theorem inv_last : (Inv c T L X 128 : sProp 𝕄) ⊢ iprop((∃ f, scores c f) ∗ Store c X ∗ ∃ r, prngReg c r) := by
  unfold Inv
  rw [show (Next c T L X 128 : sProp 𝕄) = Idles c T X 0 from if_pos (Or.inr (le_refl _))]
  iintro ⟨⟨-, -, HB, H0, H1⟩, HS, HG⟩
  isplitl [HB]; · iexact HB
  isplitr [HG]
  · iapply (idles_store c T X)
    isplitl [H0]; · iexact H0
    isplitl [H1]; · iexact H1
    iexact HS
  iexact HG

end Cert.Kernel.Hand

end
-- ==== Proof.K.Frame.lean ====
/-
  The launch: @main up to its region, the proof data of the pipeline, the body obligation at every grid point from the
  triple of a grid point, and the run of @main, whose last state has every argument as launched and every counter at zero.
-/
module

public import proofs.«01_k».proof.Proof.K.Invariant
public import Idealize.ShloMosaic.Lib.Pipeline.FrameBody
public import Idealize.ShloMosaic.Lib.Claim

@[expose] public section

noncomputable section

namespace Cert.Kernel.Hand

open Idealize.ShloMosaic Idealize.ShloMosaic.TcCoe Idealize.ShloMosaic.Tactic Cert.Kernel Cert.Kernel.Gen Cert.Words Cert.Pages
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

/-- The proof's resources: the pipeline's beside the counters of the transfers. -/
local notation "𝕄" => MT nD τ sig Unit (Elt F) ℕ (Pipeline.UD sig nD τ) ℕ

variable (m : (ℓ : Loc nD τ sig) → Buf (Elt F) ℓ) (ρ : Dev nD → PrngReg)

/-! ## @main up to the region -/

/-- The contents of core `c`'s buffers when the region is entered: after the three host operations. -/
abbrev V0 (c : Dev nD) : Valuation τ sig (Elt F) := StableHlo.after hostOps0 (fun b => m (c, b))
/-- The same at a reference. -/
abbrev V (c : Dev nD) (b : Ref sig .tc) : Buf (Elt F) ((c : Thread nD τ).loc b) := V0 m c (Proc.devRef .tc b)

/-- The lines before the launch allocate nothing. -/
theorem hostOps0_fresh : (hostOps0 : List (HloOp τ sig (Elt F))).Forall fun op => op.fresh = ∅ := by
  simp only [List.Forall]; repeat' constructor
/-- What the host operations write. -/
abbrev hostOps0_W : List (Ref sig .tc) := [main_v0, main_v1, main_v2]
/-- The lines before the launch write their three results only. -/
theorem hostOps0_writes : (hostOps0 : List (HloOp τ sig (Elt F))).Forall fun op => op.writes ⊆ (hostOps0_W.map (Proc.devRef (τ := τ) .tc)).toFinset :=
  StableHlo.forall_writes_sub_of_map rfl

/-- @main is the host operations, then the region. -/
theorem hmain : Pipeline.HMainP (Ix := Unit) (Name := ℕ) (U := Pipeline.UD sig nD τ) (Lvl := ℕ) pcfgs 0 defs₀ Variants.none m (main (F := F)) (V m) :=
  Pipeline.hmainP_prefix pcfgs 0 defs₀ Variants.none m main hostOps0 hostOps0_sub hostOps0_fresh main_chain

/-- The lines before the launch leave this argument as it was. -/
theorem V_main_arg0 (c : Dev nD) : V m c main_arg0 = m ((c : Thread nD τ).loc main_arg0) := StableHlo.after_of_writes_sub (r := main_arg0) hostOps0 _ hostOps0_writes (by decide)
/-- The lines before the launch leave this argument as it was. -/
theorem V_main_arg1 (c : Dev nD) : V m c main_arg1 = m ((c : Thread nD τ).loc main_arg1) := StableHlo.after_of_writes_sub (r := main_arg1) hostOps0 _ hostOps0_writes (by decide)
/-- The lines before the launch leave this argument as it was. -/
theorem V_main_arg2 (c : Dev nD) : V m c main_arg2 = m ((c : Thread nD τ).loc main_arg2) := StableHlo.after_of_writes_sub (r := main_arg2) hostOps0 _ hostOps0_writes (by decide)
/-- The lines before the launch leave this argument as it was. -/
theorem V_main_arg3 (c : Dev nD) : V m c main_arg3 = m ((c : Thread nD τ).loc main_arg3) := StableHlo.after_of_writes_sub (r := main_arg3) hostOps0 _ hostOps0_writes (by decide)
/-- The lines before the launch leave this argument as it was. -/
theorem V_main_arg4 (c : Dev nD) : V m c main_arg4 = m ((c : Thread nD τ).loc main_arg4) := StableHlo.after_of_writes_sub (r := main_arg4) hostOps0 _ hostOps0_writes (by decide)
/-- The lines before the launch leave this argument as it was. -/
theorem V_main_arg5 (c : Dev nD) : V m c main_arg5 = m ((c : Thread nD τ).loc main_arg5) := StableHlo.after_of_writes_sub (r := main_arg5) hostOps0 _ hostOps0_writes (by decide)
/-- The lines before the launch leave this argument as it was. -/
theorem V_main_arg6 (c : Dev nD) : V m c main_arg6 = m ((c : Thread nD τ).loc main_arg6) := StableHlo.after_of_writes_sub (r := main_arg6) hostOps0 _ hostOps0_writes (by decide)
/-- The lines before the launch leave this argument as it was. -/
theorem V_main_arg7 (c : Dev nD) : V m c main_arg7 = m ((c : Thread nD τ).loc main_arg7) := StableHlo.after_of_writes_sub (r := main_arg7) hostOps0 _ hostOps0_writes (by decide)
/-- The lines before the launch leave this argument as it was. -/
theorem V_main_arg8 (c : Dev nD) : V m c main_arg8 = m ((c : Thread nD τ).loc main_arg8) := StableHlo.after_of_writes_sub (r := main_arg8) hostOps0 _ hostOps0_writes (by decide)

/-! ## The tables -/

/-- The page table and the lengths, as launched. -/
def tbl : pre0.Contents (Elt F) := fun j => V m (0 : Dev nD) (pre0.ref j)
/-- The two scalar arguments reach the launch as they are. -/
theorem V_pre (c : Dev nD) (j : Fin 2) : V m c (pre0.ref j) = tbl m j := by
  obtain rfl : c = 0 := Subsingleton.elim _ _
  rfl
/-- No index map reads a table, so all contents are admissible. -/
abbrev adm : (pcfg0 (F := F)).Adm := ⟨tbl m, trivial⟩
/-- The pipeline. -/
abbrev cfgM : Pipeline.Cfg sig Λ₀ := cfg0 (adm m)

/-- The page table. -/
abbrev pages : Tab := m (((0 : Dev nD) : Thread nD τ).loc main_arg7)
/-- The lengths. -/
abbrev lengths : Lens := m (((0 : Dev nD) : Thread nD τ).loc main_arg8)
/-- The pools: codes, transposed scales, rope keys. -/
abbrev pools (c : Dev nD) : Pools F := ⟨V m c main_arg4, V m c main_v0, V m c main_arg6⟩

/-- The tables' halves, one by one. -/
theorem tables_eq (c : Dev nD) : (Pipeline.ΦT pre0 (tbl m) c : sProp 𝕄)
    ⊢ iprop(tab c (pages m) ∗ lens c (lengths m)) := by
  unfold Pipeline.ΦT Pipeline.prefHeld tab lens
  rw [bigSep_univ_eq_bigSepL [(0 : Fin 2), (1 : Fin 2)] (by decide) (by decide), ← show tbl m (0 : Fin 2) = pages m from V_main_arg7 m 0,
    ← show tbl m (1 : Fin 2) = lengths m from V_main_arg8 m 0]
  show iprop(((c : Thread nD τ).loc main_arg7 ↦{fullShare.right} tbl m (0 : Fin 2)) ∗ (c : Thread nD τ).loc main_arg8 ↦{fullShare.right} tbl m (1 : Fin 2)) ⊢ _
  iintro ⟨H0, H1⟩
  isplitl [H0]
  · iexists fullShare.right; iexact H0
  iexists fullShare.right; iexact H1

/-! ## What the body holds beside its windows -/

/-- The six cells of the copies. -/
abbrev osem0 : Fin 6 → SemLoc sig := fun j => (![cellC 0, cellC 1, cellS 0, cellS 1, cellR 0, cellR 1] : Fin 6 → SemLoc sig) j
/-- The kernel's own six counters are not the pipeline's. -/
theorem ownSemFacts0 : Pipeline.OwnSemFacts spec0 osem0 := by decide
/-- The kernel's own counters, listed: a pair of slots for each kind of page. -/
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), cellC 0) 0 ∗ semVal ((c : Thread nD τ), cellC 1) 0 ∗ semVal ((c : Thread nD τ), cellS 0) 0
          ∗ semVal ((c : Thread nD τ), cellS 1) 0 ∗ semVal ((c : Thread nD τ), cellR 0) 0 ∗ semVal ((c : Thread nD τ), cellR 1) 0) := by
  rw [Pipeline.ownSems0_eq_of_list c osem0 [0, 1, 2, 3, 4, 5] (by decide) (by decide)]; rfl

/-- The buffers the copies read. -/
def H0 : Finset (Ref sig .tc) := {main_arg4, main_v0, main_arg6}
/-- The buffers outside the windows that the body writes: none. -/
def R0 : Finset (Ref sig .tc) := ∅
/-- The three pools are no arrays of the pipeline. -/
theorem H0_sub : H0 ⊆ Pipeline.restRefsP sig pre0 spec0 := by decide
/-- No other array is given to the kernel. -/
theorem R0_sub : R0 ⊆ Pipeline.restRefsP sig pre0 spec0 \ H0 := by decide
/-- The three pools, listed. -/
theorem pools_eq (c : Dev nD) :
    (bigSep H0 (fun b => ((c : Thread nD τ).loc b) ↦{fullShare} V m c b) : sProp 𝕄)
      = iprop(((c : Thread nD τ).loc main_arg4 ↦{fullShare} (pools m c).codes) ∗ ((c : Thread nD τ).loc main_v0 ↦{fullShare} (pools m c).scales)
          ∗ (c : Thread nD τ).loc main_arg6 ↦{fullShare} (pools m c).ropes) := by
  rw [BI.bigSep_eq_bigSepL_of_eq [main_arg4, main_v0, main_arg6] (by decide) (by decide)]; rfl
/-- Nothing else is owned. -/
theorem owned_eq (c : Dev nD) : (Pipeline.owned R0 c : sProp 𝕄) = iprop(emp) := by
  unfold Pipeline.owned R0; exact BI.bigSep_empty

/-- The launch's resources are the scratch buffers, the cells and the pools. -/
theorem launch_in (c : Dev nD) : (Pipeline.ΦDR osem0 spec0 H0 R0 (V m) c : sProp 𝕄) ⊢ iprop((∃ f, scores c f) ∗ Store c (pools m c) ∗ ∃ r, prngReg c r) := by
  rw [Pipeline.ΦDR_eq, scopedRest0_eq, ownSems0_eq, pools_eq, owned_eq]
  unfold Store scores
  iintro ⟨⟨HS0, HS1, HS2, HS3⟩, HG, ⟨C0, C1, S0, S1, R0, R1⟩, ⟨P0, P1, P2⟩, -⟩
  isplitl [HS3]; · iexact HS3
  isplitr [HG]
  · isplitl [HS0 C0 C1 P0]
    · isplitl [HS0]; · iexact HS0
      isplitl [C0]; · iexact C0
      isplitl [C1]; · iexact C1
      iexact P0
    isplitl [HS1 S0 S1 P1]
    · isplitl [HS1]; · iexact HS1
      isplitl [S0]; · iexact S0
      isplitl [S1]; · iexact S1
      iexact P1
    isplitl [HS2]; · iexact HS2
    isplitl [R0]; · iexact R0
    isplitl [R1]; · iexact R1
    iexact P2
  iexact HG

/-- And back. -/
theorem launch_out (c : Dev nD) : (iprop((∃ f, scores c f) ∗ Store c (pools m c) ∗ ∃ r, prngReg c r) : sProp 𝕄) ⊢ Pipeline.ΦDR osem0 spec0 H0 R0 (V m) c := by
  rw [Pipeline.ΦDR_eq, scopedRest0_eq, ownSems0_eq, pools_eq, owned_eq]
  unfold Store scores
  iintro ⟨HS3, ⟨⟨HS0, C0, C1, P0⟩, ⟨HS1, S0, S1, P1⟩, ⟨HS2, R0, R1, P2⟩⟩, HG⟩
  isplitl [HS0 HS1 HS2 HS3]
  · isplitl [HS0]; · iexact HS0
    isplitl [HS1]; · iexact HS1
    isplitl [HS2]; · iexact HS2
    iexact HS3
  isplitl [HG]; · iexact HG
  isplitl [C0 C1 S0 S1 R0 R1]
  · isplitl [C0]; · iexact C0
    isplitl [C1]; · iexact C1
    isplitl [S0]; · iexact S0
    isplitl [S1]; · iexact S1
    isplitl [R0]; · iexact R0
    iexact R1
  isplitl [P0 P1 P2]
  · isplitl [P0]; · iexact P0
    isplitl [P1]; · iexact P1
    iexact P2
  iempintro

/-! ## The proof data -/

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The result block of point `t`. -/
def oblk (c : Dev nD) (t : Fin (cfgM m).N) : Vec F S1x32x512 .bf16 :=
  out (pages m) (lengths m) (pools m c) t.val (iblk m c 0 t) (iblk m c 1 t) (iblk m c 2 t) (iblk m c 3 t)

variable (hG : Good (pages m) (lengths m))

/-- The proof data: arrays as the region finds them, inputs left in place, the result block of each point, and between
    points the invariant. -/
def dats (hG : Good (pages m) (lengths m)) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oblk m c t
  Φ t := Inv c (pages m) (lengths m) (pools m c) t.val
  q _ := fullShare
  owed _ := 0

/-- What an array holds when the launch starts. -/
theorem A_eq (c : Dev nD) (w : Fin (cfgM m).W) : (dats m hG 0 c).A w = V m c (Pipeline.arrRef spec0 w) := by
  dsimp only [dats]
/-- A block that is only read is unchanged by a grid point. -/
theorem after_0 (c : Dev nD) (t : Fin (cfgM m).N) : (dats m hG 0 c).after 0 t = iblk m c 0 t := by dsimp only [dats]; rfl
/-- A block that is only read is unchanged by a grid point. -/
theorem after_1 (c : Dev nD) (t : Fin (cfgM m).N) : (dats m hG 0 c).after 1 t = iblk m c 1 t := by dsimp only [dats]; rfl
/-- A block that is only read is unchanged by a grid point. -/
theorem after_2 (c : Dev nD) (t : Fin (cfgM m).N) : (dats m hG 0 c).after 2 t = iblk m c 2 t := by dsimp only [dats]; rfl
/-- A block that is only read is unchanged by a grid point. -/
theorem after_3 (c : Dev nD) (t : Fin (cfgM m).N) : (dats m hG 0 c).after 3 t = iblk m c 3 t := by dsimp only [dats]; rfl
/-- What a grid point leaves in the block of the result. -/
theorem after_4 (c : Dev nD) (t : Fin (cfgM m).N) : (dats m hG 0 c).after 4 t = oblk m c t := by dsimp only [dats]; rfl
/-- What a grid point finds in this block is the argument's block. -/
theorem before_0 (c : Dev nD) (t : Fin (cfgM m).N) (d) : (dats m hG 0 c).before 0 t d = iblk m c 0 t :=
  ((dats m hG 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- What a grid point finds in this block is the argument's block. -/
theorem before_1 (c : Dev nD) (t : Fin (cfgM m).N) (d) : (dats m hG 0 c).before 1 t d = iblk m c 1 t :=
  ((dats m hG 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- What a grid point finds in this block is the argument's block. -/
theorem before_2 (c : Dev nD) (t : Fin (cfgM m).N) (d) : (dats m hG 0 c).before 2 t d = iblk m c 2 t :=
  ((dats m hG 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- What a grid point finds in this block is the argument's block. -/
theorem before_3 (c : Dev nD) (t : Fin (cfgM m).N) (d) : (dats m hG 0 c).before 3 t d = iblk m c 3 t :=
  ((dats m hG 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- There are 128 points, along one axis. -/
theorem pt_coords (t : Fin (cfgM m).N) : pt ((cfgM m).grid.coords t) = t.val := by
  have h : t.val < 128 := lt_of_lt_of_eq t.isLt N_0
  show t.val / grid0.stride 0 % grid0.bound 0 = t.val
  rw [show grid0.stride 0 = 1 by decide, show grid0.bound 0 = 128 from rfl]
  omega

/-- The staging buffers at point `t`. -/
abbrev st (t : Fin (cfgM m).N) (w : Fin (cfgM m).W) := ((cfgM m).win w).stage ((cfgM m).slots t w)

/-- The body at point `t`. -/
abbrev bodyAt (t : Fin (cfgM m).N) : Prog (TpuEff nD τ sig (Elt F) Λ₀ .tc) PUnit :=
  defs₀ (F := F) .tc (cfgM m).body ((cfgM m).bodyArgs t ((cfgM m).slots t))

/-- What the body is called with at point `t`, -/
def bodyPre (c : Dev nD) (t : Fin (cfgM m).N) : sProp 𝕄 :=
  iprop((dats m hG 0 c).Φ t.castSucc ∗ (dats m hG 0 c).owesAt () t.castSucc
    ∗ (∃ d, owns (c : Thread nD τ) (st m t 0) fullShare ((dats m hG 0 c).before 0 t d))
    ∗ (∃ d, owns (c : Thread nD τ) (st m t 1) fullShare ((dats m hG 0 c).before 1 t d))
    ∗ (∃ d, owns (c : Thread nD τ) (st m t 2) fullShare ((dats m hG 0 c).before 2 t d))
    ∗ (∃ d, owns (c : Thread nD τ) (st m t 3) fullShare ((dats m hG 0 c).before 3 t d))
    ∗ (∃ d, owns (c : Thread nD τ) (st m t 4) fullShare ((dats m hG 0 c).before 4 t d)))

/-- and what it returns. -/
def bodyPost (c : Dev nD) (t : Fin (cfgM m).N) : sProp 𝕄 :=
  iprop((dats m hG 0 c).Φ t.succ ∗ (dats m hG 0 c).owesAt () t.succ
    ∗ owns (c : Thread nD τ) (st m t 0) fullShare ((dats m hG 0 c).after 0 t)
    ∗ owns (c : Thread nD τ) (st m t 1) fullShare ((dats m hG 0 c).after 1 t)
    ∗ owns (c : Thread nD τ) (st m t 2) fullShare ((dats m hG 0 c).after 2 t)
    ∗ owns (c : Thread nD τ) (st m t 3) fullShare ((dats m hG 0 c).after 3 t)
    ∗ owns (c : Thread nD τ) (st m t 4) fullShare ((dats m hG 0 c).after 4 t))

/-- A grid point's triple at point `t`. -/
theorem point_at (c : Dev nD) (t : Fin (cfgM m).N) (hG : Good (pages m) (lengths m)) {o : Vec F S1x32x512 .bf16} :
    iprop((tab c (pages m) ∗ lens c (lengths m) ∗ (∃ f, scores c f) ∗ Next c (pages m) (lengths m) (pools m c) t.val ∗ Idles c (pages m) (pools m c) ((t.val + 1) % 2) ∗ ∃ W, owes (c : Thread nD τ) 0 W)
      ∗ owns (c : Thread nD τ) (st m t 0) fullShare (iblk m c 0 t) ∗ owns (c : Thread nD τ) (st m t 1) fullShare (iblk m c 1 t) ∗ owns (c : Thread nD τ) (st m t 2) fullShare (iblk m c 2 t)
      ∗ owns (c : Thread nD τ) (st m t 3) fullShare (iblk m c 3 t) ∗ owns (c : Thread nD τ) (st m t 4) fullShare o)
    ⊢ wp frame (wpE (defs₀ (F := F)) Variants.none (c : Thread nD τ) none) Set.univ (bodyAt m t)
      (fun _ => iprop((tab c (pages m) ∗ lens c (lengths m) ∗ (∃ f, scores c f) ∗ Next c (pages m) (lengths m) (pools m c) (t.val + 1) ∗ Idles c (pages m) (pools m c) (t.val % 2) ∗ ∃ W, owes (c : Thread nD τ) 0 W)
      ∗ owns (c : Thread nD τ) (st m t 0) fullShare (iblk m c 0 t) ∗ owns (c : Thread nD τ) (st m t 1) fullShare (iblk m c 1 t) ∗ owns (c : Thread nD τ) (st m t 2) fullShare (iblk m c 2 t)
      ∗ owns (c : Thread nD τ) (st m t 3) fullShare (iblk m c 3 t) ∗ owns (c : Thread nD τ) (st m t 4) fullShare (oblk m c t))) := by
  have h := point c (pages m) (lengths m) (pools m c) ((cfgM m).grid.coords t) hG none (st m t 0) (hstage0_0 (((cfgM m).slots t 0).cast nbuf0_0)) (st m t 1) (hstage0_1 (((cfgM m).slots t 1).cast nbuf0_1))
    (st m t 2) (hstage0_2 (((cfgM m).slots t 2).cast nbuf0_2)) (st m t 3) (hstage0_3 (((cfgM m).slots t 3).cast nbuf0_3)) (st m t 4) (hstage0_4 (((cfgM m).slots t 4).cast nbuf0_4))
    (iblk m c 0 t) (iblk m c 1 t) (iblk m c 2 t) (iblk m c 3 t) (o := o)
  rw [pt_coords] at h
  unfold bodyAt defs₀
  rw [Defs.onTc_tc]
  exact h

/-- The body at any point. -/
theorem sound_body (c : Dev nD) (t : Fin (cfgM m).N) :
    bodyPre m hG c t ⊢ wp frame (wpE (defs₀ (F := F)) Variants.none c none) Set.univ (bodyAt m t) (fun _ => bodyPost m hG c t) := by
  unfold bodyPre bodyPost
  simp only [before_0, before_1, before_2, before_3]
  rw [after_0, after_1, after_2, after_3, after_4,
    show (dats m hG 0 c).Φ t.succ = Inv c (pages m) (lengths m) (pools m c) (t.val + 1) from rfl,
    show (dats m hG 0 c).Φ t.castSucc = Inv c (pages m) (lengths m) (pools m c) t.val from rfl]
  unfold Dat.owesAt Pipeline.owesWithin
  rw [show (dats m hG 0 c).owed t.castSucc = 0 from rfl, show (dats m hG 0 c).owed t.succ = 0 from rfl]
  unfold Inv
  rw [show (t.val + 1 + 1) % 2 = t.val % 2 by omega]
  iintro ⟨⟨⟨HT, HL, HB, HN, HI⟩, HS, HG⟩, ⟨%W, -, HW⟩, ⟨%d0, H0⟩, ⟨%d1, H1⟩, ⟨%d2, H2⟩, ⟨%d3, H3⟩, ⟨%d4, H4⟩⟩
  ihave HWP := (point_at m c t hG) $$ [HT HL HB HN HI HW H0 H1 H2 H3 H4]
  · isplitl [HT HL HB HN HI HW]
    · isplitl [HT]; · iexact HT
      isplitl [HL]; · iexact HL
      isplitl [HB]; · iexact HB
      isplitl [HN]; · iexact HN
      isplitl [HI]; · iexact HI
      iexists W; iexact HW
    isplitl [H0]; · iexact H0
    isplitl [H1]; · iexact H1
    isplitl [H2]; · iexact H2
    isplitl [H3]; · iexact H3
    iexact H4
  iapply wp_wand_r
  isplitl [HWP]; · iexact HWP
  iintro %u ⟨⟨HT, HL, HB, HN, HI, ⟨%W', HW⟩⟩, H0, H1, H2, H3, H4⟩
  isplitl [HT HL HB HN HI HS HG]
  · isplitl [HT HL HB HN HI]
    · isplitl [HT]; · iexact HT
      isplitl [HL]; · iexact HL
      isplitl [HB]; · iexact HB
      isplitl [HN]; · iexact HN
      iexact HI
    isplitl [HS]; · iexact HS
    iexact HG
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact H4

/-- The body obligation at every point. -/
theorem body_obligation (c : Dev nD) : BodyObligation (dats m hG 0 c) (defs₀ (F := F)) Variants.none () Set.univ := fun t => by
  rw [bigSep_W0, bigSep_W0]
  exact triple_restated (sound_body m hG c t) rfl .rfl fun _ => .rfl

/-- What the launch hands over is what the first grid point's invariant asks. -/
theorem hin (c : Dev nD) : (iprop(Pipeline.ΦDR osem0 spec0 H0 R0 (V m) c ∗ Pipeline.ΦT pre0 (tbl m) c) : sProp 𝕄) ⊢ (dats m hG 0 c).Φ 0 := by
  show _ ⊢ Inv c (pages m) (lengths m) (pools m c) 0
  iintro ⟨HD, HT⟩
  ihave HD := (launch_in m c) $$ HD
  ihave HT := (tables_eq m c) $$ HT
  icases HD with ⟨HB, HS, HG⟩
  icases HT with ⟨HT, HL⟩
  iapply (inv_first c (pages m) (lengths m) (pools m c))
  isplitl [HT]; · iexact HT
  isplitl [HL]; · iexact HL
  isplitl [HB]; · iexact HB
  isplitl [HS]; · iexact HS
  iexact HG

/-- The invariant after the last grid point gives back what the launch expects. -/
theorem hout (c : Dev nD) : (dats m hG 0 c).Φ (Fin.last (cfgM m).N) ⊢ (Pipeline.ΦDR osem0 spec0 H0 R0 (V m) c : sProp 𝕄) := by
  have e : (dats m hG 0 c).Φ (Fin.last (cfgM m).N) = Inv c (pages m) (lengths m) (pools m c) 128 := by
    show Inv c (pages m) (lengths m) (pools m c) grid0.N = _
    rw [N_0]
  rw [e]
  exact (inv_last c (pages m) (lengths m) (pools m c)).trans (launch_out m c)

/-! ## The run -/

set_option backward.isDefEq.respectTransparency.types false in
/-- @main runs: the windows' arrays end as the last write-back leaves them, the other buffers as the region found them,
    and every counter at zero. -/
theorem run_main : θ_run defs (onTc (τ := τ) (main (F := F))) (s₀ m ρ) (fun r => Pipeline.FramePostR (Pipeline.pin pcfgs fun _ => adm m) (dats m hG) 0 R0 (V m) r ∧ r.2.sem = fun _ => 0) :=
  Pipeline.θ_run_frameP_dmaR (Q' := _) pcfgs (fun _ => adm m) (dats m hG) (0 : Fin 1) launch0 osem0 defs₀ Variants.none ownSemFacts0 H0 R0 H0_sub R0_sub m ρ main
    (hbody := fun c => (body_obligation m hG c).loose) (hshare := fun c => (dats m hG 0 c).share_full fun _ => rfl)
    (howed := fun _ _ => rfl) (V := V m) (hmain := hmain m) (hA := A_eq m hG) (hpf := V_pre m)
    (hin := hin m hG) (hout := hout m hG)

/-- The run with what the claims read of it: the result as the last write-back leaves it, every argument as launched, every
    counter at zero. -/
theorem run : θ_run defs (onTc (τ := τ) (main (F := F))) ⟨m, fun _ => 0, ρ⟩ (fun r => (∀ c : Dev nD,
      r.2.mem ((c.tc : Thread nD τ).loc main_v3) = (dats m hG 0 c).arrAt 4 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(h.1 c).1 4,
      ((h.1 c).2 main_arg0 (by decide : main_arg0 ∈ Pipeline.restRefs sig spec0 \ R0)).trans (V_main_arg0 m c),
      ((h.1 c).2 main_arg1 (by decide : main_arg1 ∈ Pipeline.restRefs sig spec0 \ R0)).trans (V_main_arg1 m c),
      ((h.1 c).1 2).trans (((dats m hG 0 c).arrAt_in 2 rfl _).trans ((A_eq m hG c 2).trans (V_main_arg2 m c))),
      ((h.1 c).1 3).trans (((dats m hG 0 c).arrAt_in 3 rfl _).trans ((A_eq m hG c 3).trans (V_main_arg3 m c))),
      ((h.1 c).2 main_arg4 (by decide : main_arg4 ∈ Pipeline.restRefs sig spec0 \ R0)).trans (V_main_arg4 m c),
      ((h.1 c).2 main_arg5 (by decide : main_arg5 ∈ Pipeline.restRefs sig spec0 \ R0)).trans (V_main_arg5 m c),
      ((h.1 c).2 main_arg6 (by decide : main_arg6 ∈ Pipeline.restRefs sig spec0 \ R0)).trans (V_main_arg6 m c),
      ((h.1 c).2 main_arg7 (by decide : main_arg7 ∈ Pipeline.restRefs sig spec0 \ R0)).trans (V_main_arg7 m c),
      ((h.1 c).2 main_arg8 (by decide : main_arg8 ∈ Pipeline.restRefs sig spec0 \ R0)).trans (V_main_arg8 m c)⟩, h.2⟩) (run_main m ρ hG)

end Cert.Kernel.Hand

end
-- ==== Proof.KI.Checks.lean ====
/-
  The address checks of the kernel, and the offsets its memory operations use in plain numbers. A sequence's length is
  at most 2048, so a copy loop makes at most 32 trips and a compute loop at most 8; every offset is then inside its
  buffer. Offsets of slot and row are rewritten from word arithmetic to numbers.
-/
module

public import proofs.«01_k».proof.Proof.Gen.KernelIdeal.Launch
public import proofs.«01_k».proof.Proof.Gen.KernelIdeal.Skeleton
public import proofs.«01_k».proof.Proof.Words

@[expose] public section

namespace Cert.KernelIdeal.Hand

open Idealize.ShloMosaic Cert.KernelIdeal.Gen Cert.Words

/-- A grid point's number. -/
abbrev pt (i : grid0.Coords) : ℕ := (i 0).val

/-- There are 128 grid points. -/
theorem pt_lt (i : grid0.Coords) : pt i < 128 := (i 0).isLt

/-- The slot of a grid point is 0 or 1. -/
theorem slot_lt (i : grid0.Coords) : pt i % 2 < 2 := Nat.mod_lt _ (by decide)

/-! ## Trip counts -/

variable {v : BitVec 32} (h : v.toInt ≤ 2048)
include h

/-- A copy loop copies four pages for each block. -/
theorem copy_trips : (liveLoop (Scalar.muli (nbW v) 4#32)).trips = 4 * nblk v := (pg_trips h).1
/-- So at most 32 pages. -/
theorem copy_lt (k : Fin (liveLoop (Scalar.muli (nbW v) 4#32)).trips) : k.val < 32 := by
  have h1 := lt_of_lt_of_eq k.isLt (copy_trips h)
  have h2 := nblk_le h
  omega
/-- A compute loop handles at most eight blocks. -/
theorem blk_lt (k : Fin (liveLoop (nbW v)).trips) : k.val < 8 := by
  have h1 := lt_of_lt_of_eq k.isLt (blk_trips h).1
  have h2 := nblk_le h
  omega
omit h
/-- A remainder loop has no trip. -/
theorem dead_elim (x : BitVec 32) (k : Fin (deadLoop x).trips) {P : Prop} : P :=
  absurd (lt_of_lt_of_eq k.isLt (deadLoop_trips x)) (Nat.not_lt_zero _)

/-! ## Rectangles inside their buffers -/

/-- A page of codes lies inside the codes buffer. -/
theorem inbC {s k : ℕ} (hs : s < 2) (hk : k < 32) {off : Fin 3 → ℕ} (e : off = ![s, 64 * k, 0]) :
    ∀ a, off a + S1x64x512.size a ≤ S2x2048x512.size a := by
  subst e; intro a; fin_cases a <;> simp [Shape.size] <;> omega
/-- A page of scales lies inside the scale buffer. -/
theorem inbS {s k : ℕ} (hs : s < 2) (hk : k < 32) {off : Fin 4 → ℕ} (e : off = ![s, k, 0, 0]) :
    ∀ a, off a + S1x1x4x64.size a ≤ S2x32x4x64.size a := by
  subst e; intro a; fin_cases a <;> simp [Shape.size] <;> omega
/-- A page of rope keys lies inside the rope buffer. -/
theorem inbR {s k : ℕ} (hs : s < 2) (hk : k < 32) {off : Fin 3 → ℕ} (e : off = ![s, 64 * k, 0]) :
    ∀ a, off a + S1x64x64.size a ≤ S2x2048x64.size a := by
  subst e; intro a; fin_cases a <;> simp [Shape.size] <;> omega
/-- A page of the codes pool. -/
theorem inbPC {w : ℕ} (hw : w < 5120) {off : Fin 3 → ℕ} (e : off = ![w, 0, 0]) :
    ∀ a, off a + S1x64x512.size a ≤ S5120x64x512.size a := by
  subst e; intro a; fin_cases a <;> simp [Shape.size] <;> omega
/-- A page of the scale pool. -/
theorem inbPS {w : ℕ} (hw : w < 5120) {off : Fin 3 → ℕ} (e : off = ![w, 0, 0]) :
    ∀ a, off a + S1x4x64.size a ≤ S5120x4x64.size a := by
  subst e; intro a; fin_cases a <;> simp [Shape.size] <;> omega
/-- A page of the rope pool. -/
theorem inbPR {w : ℕ} (hw : w < 5120) {off : Fin 3 → ℕ} (e : off = ![w, 0, 0]) :
    ∀ a, off a + S1x64x64.size a ≤ S5120x64x64.size a := by
  subst e; intro a; fin_cases a <;> simp [Shape.size] <;> omega
/-- A block of codes of one group of columns. -/
theorem inbBC {s k g : ℕ} (hs : s < 2) (hk : k < 8) (hg : g ≤ 384) {off : Fin 3 → ℕ} (e : off = ![s, 256 * k, g]) :
    ∀ a, off a + S1x256x128.size a ≤ S2x2048x512.size a := by
  subst e; intro a; fin_cases a <;> simp [Shape.size] <;> omega
/-- One page's scales of one group. -/
theorem inbBS {s p g : ℕ} (hs : s < 2) (hp : p < 32) (hg : g < 4) {off : Fin 4 → ℕ} (e : off = ![s, p, g, 0]) :
    ∀ a, off a + S1x1x1x64.size a ≤ S2x32x4x64.size a := by
  subst e; intro a; fin_cases a <;> simp [Shape.size] <;> omega
/-- A block of rope keys. -/
theorem inbBR {s k : ℕ} (hs : s < 2) (hk : k < 8) {off : Fin 3 → ℕ} (e : off = ![s, 256 * k, 0]) :
    ∀ a, off a + S1x256x64.size a ≤ S2x2048x64.size a := by
  subst e; intro a; fin_cases a <;> simp [Shape.size] <;> omega
/-- A block of scores. -/
theorem inbSc {k : ℕ} (hk : k < 8) {off : Fin 3 → ℕ} (e : off = ![k, 0, 0]) :
    ∀ a, off a + S1x32x256.size a ≤ S8x32x256.size a := by
  subst e; intro a; fin_cases a <;> simp [Shape.size] <;> omega
/-- A word of the page table. -/
theorem inbT {r k : ℕ} (hr : r < 128) (hk : k < 32) {off : Fin 2 → ℕ} (e : off = ![r, k]) :
    ∀ a, off a + S1x1.size a ≤ S128x32.size a := by
  subst e; intro a; fin_cases a <;> simp [Shape.size] <;> omega

/-- A page of codes is whole words. -/
theorem wwC {s k : ℕ} {off : Fin 3 → ℕ} (e : off = ![s, 64 * k, 0]) :
    ∀ hinb, (Rect.unit (s := S2x2048x512) off S1x64x512.size hinb).WholeWords (EltTy.packing .fp8e4m3) := by
  subst e
  have h2 : 2 ≤ S2x2048x512.rank := by decide
  have h4 : 4 ∣ 64 * k := by omega
  exact fun hinb => Affine.words_of_packed (Affine.packed_dvd h2 h4 (by decide +revert))
/-- A page of rope keys is whole words. -/
theorem wwR {s k : ℕ} {off : Fin 3 → ℕ} (e : off = ![s, 64 * k, 0]) :
    ∀ hinb, (Rect.unit (s := S2x2048x64) off S1x64x64.size hinb).WholeWords (EltTy.packing .bf16) := by
  subst e
  have h2 : 2 ≤ S2x2048x64.rank := by decide
  have h4 : 2 ∣ 64 * k := by omega
  exact fun hinb => Affine.words_of_packed (Affine.packed_dvd h2 h4 (by decide +revert))
/-- A page of the codes pool is whole words. -/
theorem wwPC {w : ℕ} {off : Fin 3 → ℕ} (e : off = ![w, 0, 0]) :
    ∀ hinb, (Rect.unit (s := S5120x64x512) off S1x64x512.size hinb).WholeWords (EltTy.packing .fp8e4m3) := by
  subst e
  exact fun hinb => Affine.words_rows (by decide) rfl rfl
/-- A page of the rope pool is whole words. -/
theorem wwPR {w : ℕ} {off : Fin 3 → ℕ} (e : off = ![w, 0, 0]) :
    ∀ hinb, (Rect.unit (s := S5120x64x64) off S1x64x64.size hinb).WholeWords (EltTy.packing .bf16) := by
  subst e
  exact fun hinb => Affine.words_rows (by decide) rfl rfl

/-! ## The offsets of the first copy loop (sequence 0 into slot 0) -/

/-- Where the page table is read for the first sequence, copied before the first grid point. -/
theorem off1_eq (k : Fin (k0_t1_loop v).trips) (hk : k.val < 32) : k0_off1 v k = ![0, k.val] := by
  show ![0, (Scf.iv 0#32 1#32 k.val).toNat] = _
  rw [ivNat hk]
/-- The place in a slot where a page of codes goes. -/
theorem off2_eq (k : Fin (k0_t1_loop v).trips) (hk : k.val < 32) : k0_off2 v k = ![0, 64 * k.val, 0] := by
  show ![0, (Scalar.muli (Scf.iv 0#32 1#32 k.val) 64#32).toNat, 0] = _
  rw [mul64 hk]
/-- The place in a slot where a page of scales goes. -/
theorem off4_eq (k : Fin (k0_t1_loop v).trips) (hk : k.val < 32) : k0_off4 v k = ![0, k.val, 0, 0] := by
  show ![0, (Scf.iv 0#32 1#32 k.val).toNat, 0, 0] = _
  rw [ivNat hk]
/-- The place in a slot where a page of rope keys goes. -/
theorem off6_eq (k : Fin (k0_t1_loop v).trips) (hk : k.val < 32) : k0_off6 v k = ![0, 64 * k.val, 0] := by
  show ![0, (Scalar.muli (Scf.iv 0#32 1#32 k.val) 64#32).toNat, 0] = _
  rw [mul64 hk]

/-! ## The offsets of the second copy loop (the next sequence into the other slot) -/

/-- Where the page table is read for the next sequence. -/
theorem off16_eq (i : grid0.Coords) (k : Fin (k0_t3_loop v).trips) (hk : k.val < 32) : k0_off16 i v k = ![pt i + 1, k.val] := by
  show ![(Scalar.addi (BitVec.ofNat 32 (i 0).val) 1#32).toNat, (Scf.iv 0#32 1#32 k.val).toNat] = _
  rw [ivNat hk, succW (pt_lt i)]
/-- The place in a slot where a page of codes goes. -/
theorem off18_eq (i : grid0.Coords) (k : Fin (k0_t3_loop v).trips) (hk : k.val < 32) :
    k0_off18 i v k = ![1 - pt i % 2, 64 * k.val, 0] := by
  show ![(Scalar.subi 1#32 (Scalar.remsi (BitVec.ofNat 32 (i 0).val) 2#32)).toNat, (Scalar.muli (Scf.iv 0#32 1#32 k.val) 64#32).toNat, 0] = _
  rw [mul64 hk, slotW' (pt_lt i)]
/-- The place in a slot where a page of scales goes. -/
theorem off21_eq (i : grid0.Coords) (k : Fin (k0_t3_loop v).trips) (hk : k.val < 32) :
    k0_off21 i v k = ![1 - pt i % 2, k.val, 0, 0] := by
  show ![(Scalar.subi 1#32 (Scalar.remsi (BitVec.ofNat 32 (i 0).val) 2#32)).toNat, (Scf.iv 0#32 1#32 k.val).toNat, 0, 0] = _
  rw [ivNat hk, slotW' (pt_lt i)]
/-- The place in a slot where a page of rope keys goes. -/
theorem off23_eq (i : grid0.Coords) (k : Fin (k0_t3_loop v).trips) (hk : k.val < 32) :
    k0_off23 i v k = ![1 - pt i % 2, 64 * k.val, 0] := off18_eq i k hk

/-! ## The offsets of the wait loop -/

/-- Where the page table is read for the grid point's own sequence. -/
theorem off35_eq (i : grid0.Coords) (k : Fin (k0_t5_loop v).trips) (hk : k.val < 32) : k0_off35 i v k = ![pt i, k.val] := by
  show ![(BitVec.ofNat 32 (i 0).val).toNat, (Scf.iv 0#32 1#32 k.val).toNat] = _
  rw [ivNat hk, ofNat_toNat (pt_lt i).le]
/-- The place in a slot where a page of codes goes. -/
theorem off37_eq (i : grid0.Coords) (k : Fin (k0_t5_loop v).trips) (hk : k.val < 32) :
    k0_off37 i v k = ![pt i % 2, 64 * k.val, 0] := by
  show ![(Scalar.remsi (BitVec.ofNat 32 (i 0).val) 2#32).toNat, (Scalar.muli (Scf.iv 0#32 1#32 k.val) 64#32).toNat, 0] = _
  rw [mul64 hk, slotW (pt_lt i)]
/-- The place in a slot where a page of scales goes. -/
theorem off40_eq (i : grid0.Coords) (k : Fin (k0_t5_loop v).trips) (hk : k.val < 32) :
    k0_off40 i v k = ![pt i % 2, k.val, 0, 0] := by
  show ![(Scalar.remsi (BitVec.ofNat 32 (i 0).val) 2#32).toNat, (Scf.iv 0#32 1#32 k.val).toNat, 0, 0] = _
  rw [ivNat hk, slotW (pt_lt i)]
/-- The place in a slot where a page of rope keys goes. -/
theorem off42_eq (i : grid0.Coords) (k : Fin (k0_t5_loop v).trips) (hk : k.val < 32) :
    k0_off42 i v k = ![pt i % 2, 64 * k.val, 0] := off37_eq i k hk

/-! ## The offsets of the compute loops -/

/-- A block of rows of a slot, from column `g` on: the form shared by all loads of codes and rope keys. -/
theorem blockOff (i : grid0.Coords) {k : ℕ} (hk : k < 8) (g : ℕ) :
    ![(Scalar.remsi (BitVec.ofNat 32 (i 0).val) 2#32).toNat, (Scalar.muli (Scf.iv 0#32 1#32 k) 256#32).toNat, g] = ![pt i % 2, 256 * k, g] := by
  rw [mul256 hk, slotW (pt_lt i)]
/-- A page's scales of group `g` in a slot: the form shared by all loads of scales. -/
theorem scaleOff (i : grid0.Coords) {k : ℕ} (hk : k < 8) (g : ℕ) (r : Fin 4) :
    ![(Scalar.remsi (BitVec.ofNat 32 (i 0).val) 2#32).toNat, (Scalar.addi (Scalar.muli (Scf.iv 0#32 1#32 k) 4#32) (BitVec.ofNat 32 r.val)).toNat, g, 0]
      = ![pt i % 2, 4 * k + r.val, g, 0] := by
  rw [mul4add hk, slotW (pt_lt i)]
/-- Where a block's rope keys are read. -/
theorem off54_eq (i : grid0.Coords) (k : Fin (k0_t7_loop v).trips) (hk : k.val < 8) : k0_off54 i v k = ![pt i % 2, 256 * k.val, 0] := blockOff i hk 0
/-- Where a block's codes of the first group are read, for the scores. -/
theorem off55_eq (i : grid0.Coords) (k : Fin (k0_t7_loop v).trips) (hk : k.val < 8) : k0_off55 i v k = ![pt i % 2, 256 * k.val, 0] := blockOff i hk 0
/-- Where a block's codes of the second group are read, for the scores. -/
theorem off57_eq (i : grid0.Coords) (k : Fin (k0_t7_loop v).trips) (hk : k.val < 8) : k0_off57 i v k = ![pt i % 2, 256 * k.val, 128] := blockOff i hk 128
/-- Where a block's codes of the third group are read, for the scores. -/
theorem off59_eq (i : grid0.Coords) (k : Fin (k0_t7_loop v).trips) (hk : k.val < 8) : k0_off59 i v k = ![pt i % 2, 256 * k.val, 256] := blockOff i hk 256
/-- Where a block's codes of the fourth group are read, for the scores. -/
theorem off61_eq (i : grid0.Coords) (k : Fin (k0_t7_loop v).trips) (hk : k.val < 8) : k0_off61 i v k = ![pt i % 2, 256 * k.val, 384] := blockOff i hk 384
/-- Where a page's scales of the first group are read, for the scores. -/
theorem off56_eq (i : grid0.Coords) (k : Fin (k0_t7_loop v).trips) (hk : k.val < 8) (r : Fin 4) :
    k0_off56 i v k (BitVec.ofNat 32 r.val) = ![pt i % 2, 4 * k.val + r.val, 0, 0] := scaleOff i hk 0 r
/-- Where a page's scales of the second group are read, for the scores. -/
theorem off58_eq (i : grid0.Coords) (k : Fin (k0_t7_loop v).trips) (hk : k.val < 8) (r : Fin 4) :
    k0_off58 i v k (BitVec.ofNat 32 r.val) = ![pt i % 2, 4 * k.val + r.val, 1, 0] := scaleOff i hk 1 r
/-- Where a page's scales of the third group are read, for the scores. -/
theorem off60_eq (i : grid0.Coords) (k : Fin (k0_t7_loop v).trips) (hk : k.val < 8) (r : Fin 4) :
    k0_off60 i v k (BitVec.ofNat 32 r.val) = ![pt i % 2, 4 * k.val + r.val, 2, 0] := scaleOff i hk 2 r
/-- Where a page's scales of the fourth group are read, for the scores. -/
theorem off62_eq (i : grid0.Coords) (k : Fin (k0_t7_loop v).trips) (hk : k.val < 8) (r : Fin 4) :
    k0_off62 i v k (BitVec.ofNat 32 r.val) = ![pt i % 2, 4 * k.val + r.val, 3, 0] := scaleOff i hk 3 r
/-- Where a block's scores are stored. -/
theorem off63_eq (k : Fin (k0_t7_loop v).trips) (hk : k.val < 8) : k0_off63 v k = ![k.val, 0, 0] := by
  show ![(Scf.iv 0#32 1#32 k.val).toNat, 0, 0] = _
  rw [ivNat (by omega)]
/-- Where a block's scores are read and its exponentials stored. -/
theorem off74_eq (k : Fin (k0_t9_loop v).trips) (hk : k.val < 8) : k0_off74 v k = ![k.val, 0, 0] := by
  show ![(Scf.iv 0#32 1#32 k.val).toNat, 0, 0] = _
  rw [ivNat (by omega)]
/-- Where a block's exponentials are read. -/
theorem off76_eq (k : Fin (k0_t11_loop v).trips) (hk : k.val < 8) : k0_off76 v k = ![k.val, 0, 0] := by
  show ![(Scf.iv 0#32 1#32 k.val).toNat, 0, 0] = _
  rw [ivNat (by omega)]
/-- Where a block's codes of the first group are read, for the values. -/
theorem off78_eq (i : grid0.Coords) (k : Fin (k0_t11_loop v).trips) (hk : k.val < 8) : k0_off78 i v k = ![pt i % 2, 256 * k.val, 0] := blockOff i hk 0
/-- Where a block's codes of the second group are read, for the values. -/
theorem off80_eq (i : grid0.Coords) (k : Fin (k0_t11_loop v).trips) (hk : k.val < 8) : k0_off80 i v k = ![pt i % 2, 256 * k.val, 128] := blockOff i hk 128
/-- Where a block's codes of the third group are read, for the values. -/
theorem off82_eq (i : grid0.Coords) (k : Fin (k0_t11_loop v).trips) (hk : k.val < 8) : k0_off82 i v k = ![pt i % 2, 256 * k.val, 256] := blockOff i hk 256
/-- Where a block's codes of the fourth group are read, for the values. -/
theorem off84_eq (i : grid0.Coords) (k : Fin (k0_t11_loop v).trips) (hk : k.val < 8) : k0_off84 i v k = ![pt i % 2, 256 * k.val, 384] := blockOff i hk 384
/-- Where a page's scales of the first group are read, for the values. -/
theorem off77_eq (i : grid0.Coords) (k : Fin (k0_t11_loop v).trips) (hk : k.val < 8) (r : Fin 4) :
    k0_off77 i v k (BitVec.ofNat 32 r.val) = ![pt i % 2, 4 * k.val + r.val, 0, 0] := scaleOff i hk 0 r
/-- Where a page's scales of the second group are read, for the values. -/
theorem off79_eq (i : grid0.Coords) (k : Fin (k0_t11_loop v).trips) (hk : k.val < 8) (r : Fin 4) :
    k0_off79 i v k (BitVec.ofNat 32 r.val) = ![pt i % 2, 4 * k.val + r.val, 1, 0] := scaleOff i hk 1 r
/-- Where a page's scales of the third group are read, for the values. -/
theorem off81_eq (i : grid0.Coords) (k : Fin (k0_t11_loop v).trips) (hk : k.val < 8) (r : Fin 4) :
    k0_off81 i v k (BitVec.ofNat 32 r.val) = ![pt i % 2, 4 * k.val + r.val, 2, 0] := scaleOff i hk 2 r
/-- Where a page's scales of the fourth group are read, for the values. -/
theorem off83_eq (i : grid0.Coords) (k : Fin (k0_t11_loop v).trips) (hk : k.val < 8) (r : Fin 4) :
    k0_off83 i v k (BitVec.ofNat 32 r.val) = ![pt i % 2, 4 * k.val + r.val, 3, 0] := scaleOff i hk 3 r

/-! ## The checks -/

/-- A table word that names a page passes the checks of the first copy loop, -/
theorem chk2 (i : grid0.Coords) {w : BitVec 32} (hw : w.toNat < 5120) : k0_chk2 i w :=
  ⟨fun _ => inbPC hw rfl, fun _ => wwPC rfl, fun _ => inbPS hw rfl, fun _ => inbPR hw rfl, fun _ => wwPR rfl⟩
/-- of the second, -/
theorem chk5 (i : grid0.Coords) {w : BitVec 32} (hw : w.toNat < 5120) : k0_chk5 i w :=
  ⟨fun _ => inbPC hw rfl, fun _ => wwPC rfl, fun _ => inbPS hw rfl, fun _ => inbPR hw rfl, fun _ => wwPR rfl⟩
/-- and of the wait loop. -/
theorem chk8 {w : BitVec 32} (hw : w.toNat < 5120) : k0_chk8 w :=
  ⟨inbPC hw rfl, wwPC rfl, inbPS hw rfl, inbPR hw rfl, wwPR rfl⟩

include h
/-- The checks before the first copy loop. -/
theorem chk1 (i : grid0.Coords) : k0_chk1 i v := by
  have hk := copy_lt h
  exact ⟨fun _ => (pg_trips h).2, fun k _ => inbT (by decide) (hk k) (off1_eq k (hk k)),
    fun k _ => (show 64 ∣ (Scalar.muli (Scf.iv 0#32 1#32 k.val) 64#32).toNat by rw [mul64 (hk k)]; omega),
    fun k _ => inbC (by decide) (hk k) (off2_eq k (hk k)), fun k _ => wwC (off2_eq k (hk k)),
    fun k _ => inbS (by decide) (hk k) (off4_eq k (hk k)),
    fun k _ => inbR (by decide) (hk k) (off6_eq k (hk k)), fun k _ => wwR (off6_eq k (hk k)),
    fun _ => deadLoop_ok _, fun k => dead_elim _ k, fun k => dead_elim _ k, fun k => dead_elim _ k, fun k => dead_elim _ k,
    fun k => dead_elim _ k, fun k => dead_elim _ k, fun k => dead_elim _ k⟩
/-- The checks before the second copy loop, at a grid point that has a next one. -/
theorem chk4 (i : grid0.Coords) (hi : k0_cond2 i = 1#1 → pt i + 1 < 128) : k0_chk4 i v := by
  have hk := copy_lt h
  have hs : 1 - pt i % 2 < 2 := by omega
  exact ⟨fun _ => (pg_trips h).2, fun k c => inbT (hi c) (hk k) (off16_eq i k (hk k)),
    fun k _ => (show 64 ∣ (Scalar.muli (Scf.iv 0#32 1#32 k.val) 64#32).toNat by rw [mul64 (hk k)]; omega),
    fun k _ => inbC hs (hk k) (off18_eq i k (hk k)), fun k _ => wwC (off18_eq i k (hk k)),
    fun k _ => inbS hs (hk k) (off21_eq i k (hk k)),
    fun k _ => inbR hs (hk k) (off23_eq i k (hk k)), fun k _ => wwR (off23_eq i k (hk k)),
    fun _ => deadLoop_ok _, fun k => dead_elim _ k, fun k => dead_elim _ k, fun k => dead_elim _ k, fun k => dead_elim _ k,
    fun k => dead_elim _ k, fun k => dead_elim _ k, fun k => dead_elim _ k⟩
/-- The checks before the wait loop. -/
theorem chk7 (i : grid0.Coords) : k0_chk7 i v := by
  have hk := copy_lt h
  have hs := slot_lt i
  exact ⟨(pg_trips h).2, fun k => inbT (pt_lt i) (hk k) (off35_eq i k (hk k)),
    fun k => (show 64 ∣ (Scalar.muli (Scf.iv 0#32 1#32 k.val) 64#32).toNat by rw [mul64 (hk k)]; omega),
    fun k => inbC hs (hk k) (off37_eq i k (hk k)), fun k => wwC (off37_eq i k (hk k)),
    fun k => inbS hs (hk k) (off40_eq i k (hk k)),
    fun k => inbR hs (hk k) (off42_eq i k (hk k)), fun k => wwR (off42_eq i k (hk k)),
    deadLoop_ok _, fun k => dead_elim _ k, fun k => dead_elim _ k, fun k => dead_elim _ k, fun k => dead_elim _ k,
    fun k => dead_elim _ k, fun k => dead_elim _ k, fun k => dead_elim _ k⟩
/-- The checks before the compute loops. -/
theorem chk10 (i : grid0.Coords) : k0_chk10 i v := by
  have hk := blk_lt h
  have hs := slot_lt i
  have hp : ∀ (k : Fin (liveLoop (nbW v)).trips) (r : Fin 4), 4 * k.val + r.val < 32 := fun k r => by
    have := hk k
    omega
  have hm : ∀ k : Fin (liveLoop (nbW v)).trips, 256 ∣ (Scalar.muli (Scf.iv 0#32 1#32 k.val) 256#32).toNat := fun k => by
    rw [mul256 (hk k)]
    omega
  refine ⟨⟨(blk_trips h).2, hm, fun k => inbBR hs (hk k) (off54_eq i k (hk k)),
    fun k => inbBC hs (hk k) (by omega) (off55_eq i k (hk k)), fun k r => inbBS hs (hp k r) (by omega) (off56_eq i k (hk k) r),
    fun k => inbBC hs (hk k) (by omega) (off57_eq i k (hk k)), fun k r => inbBS hs (hp k r) (by omega) (off58_eq i k (hk k) r),
    fun k => inbBC hs (hk k) (by omega) (off59_eq i k (hk k)), fun k r => inbBS hs (hp k r) (by omega) (off60_eq i k (hk k) r),
    fun k => inbBC hs (hk k) (by omega) (off61_eq i k (hk k)), fun k r => inbBS hs (hp k r) (by omega) (off62_eq i k (hk k) r),
    fun k => inbSc (hk k) (off63_eq k (hk k)),
    deadLoop_ok _, fun k => dead_elim _ k, fun k => dead_elim _ k, fun k => dead_elim _ k, fun k => dead_elim _ k,
    fun k => dead_elim _ k, fun k => dead_elim _ k, fun k => dead_elim _ k, fun k => dead_elim _ k, fun k => dead_elim _ k,
    fun k => dead_elim _ k, fun k => dead_elim _ k, (blk_trips h).2, fun k => inbSc (hk k) (off74_eq k (hk k)),
    deadLoop_ok _, fun k => dead_elim _ k, (blk_trips h).2, hm, fun k => inbSc (hk k) (off76_eq k (hk k)),
    fun k r => inbBS hs (hp k r) (by omega) (off77_eq i k (hk k) r)⟩,
    ⟨fun k => inbBC hs (hk k) (by omega) (off78_eq i k (hk k)), fun k r => inbBS hs (hp k r) (by omega) (off79_eq i k (hk k) r),
    fun k => inbBC hs (hk k) (by omega) (off80_eq i k (hk k)), fun k r => inbBS hs (hp k r) (by omega) (off81_eq i k (hk k) r),
    fun k => inbBC hs (hk k) (by omega) (off82_eq i k (hk k)), fun k r => inbBS hs (hp k r) (by omega) (off83_eq i k (hk k) r),
    fun k => inbBC hs (hk k) (by omega) (off84_eq i k (hk k)),
    deadLoop_ok _, fun k => dead_elim _ k, fun k => dead_elim _ k, fun k => dead_elim _ k, fun k => dead_elim _ k,
    fun k => dead_elim _ k, fun k => dead_elim _ k, fun k => dead_elim _ k, fun k => dead_elim _ k, fun k => dead_elim _ k,
    fun k => dead_elim _ k⟩⟩

end Cert.KernelIdeal.Hand
-- ==== Proof.KI.Slot.lean ====
/-
  The two slots of the gather buffers. A slot is half of the three buffers of codes, scales and rope keys; piece `t` of
  a slot is the part that page `t` of a sequence goes to. The pages come from three pools in HBM; which page is the
  `t`-th of a sequence is in the page table.
-/
module

public import proofs.«01_k».proof.Proof.KI.Checks
public import proofs.«01_k».proof.Proof.Pages
public import proofs.«01_k».proof.Proof.Gen.KernelIdeal.Launch
public import Idealize.ShloMosaic.Lib.Pipeline.FrameBody
public import Idealize.ShloMosaic.Lib.ValueLayout

@[expose] public section

noncomputable section

namespace Cert.KernelIdeal.Hand

open Idealize.ShloMosaic Idealize.ShloMosaic.TcCoe Cert.KernelIdeal Cert.KernelIdeal.Gen Cert.Words Cert.Pages
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the counters of the transfers. -/
local notation "𝕄" => MT nD τ sig Unit (Elt F) ℕ (Pipeline.UD sig nD τ) ℕ

variable (c : Dev nD)

/-! ## The scalars in SMEM -/

/-- The page table and the lengths, as the scalar unit sees them. -/
abbrev Tab : Type := S128x32.Idx → BitVec 32
abbrev Lens : Type := S128.Idx → BitVec 32

/-- An index of the page table. -/
def ixT (b t : ℕ) : S128x32.Idx := fun a => ⟨![b % 128, t % 32] a, by fin_cases a <;> simp [Shape.size] <;> omega⟩
/-- An index of the lengths. -/
def ixL (b : ℕ) : S128.Idx := fun a => ⟨![b % 128] a, by fin_cases a; simp [Shape.size]; omega⟩

/-- The number of the `t`-th page of sequence `b`. -/
def pg (T : Tab) (b t : ℕ) : ℕ := (T (ixT b t)).toNat % 5120
/-- The length of sequence `b`. -/
def len (L : Lens) (b : ℕ) : BitVec 32 := L (ixL b)
/-- The number of pages copied for sequence `b`. -/
def np (L : Lens) (b : ℕ) : ℕ := 4 * nblk (len L b)

/-- What is asked of the scalars: the table names pages of the pools, and no length is beyond the table. -/
structure Good (T : Tab) (L : Lens) : Prop where
  page : ∀ y, (T y).toNat < 5120
  le : ∀ y, (L y).toInt ≤ 2048

/-! ## Indices of the pools -/

def ixC (w r x : ℕ) : S5120x64x512.Idx := fun a => ⟨![w % 5120, r % 64, x % 512] a, by fin_cases a <;> simp [Shape.size] <;> omega⟩
def ixS (w g r : ℕ) : S5120x4x64.Idx := fun a => ⟨![w % 5120, g % 4, r % 64] a, by fin_cases a <;> simp [Shape.size] <;> omega⟩
def ixR (w r x : ℕ) : S5120x64x64.Idx := fun a => ⟨![w % 5120, r % 64, x % 64] a, by fin_cases a <;> simp [Shape.size] <;> omega⟩

/-! ## What the slots hold once the pages have landed -/

variable (T : Tab)

/-- The codes of sequence `b`: row `p` is row `p mod 64` of its page `p / 64`. -/
def gC (pool : S5120x64x512.Idx → Elt F .fp8e4m3) (b : ℕ) : S2x2048x512.Idx → Elt F .fp8e4m3 := fun y =>
  pool (ixC (pg T b ((y 1).val / 64)) ((y 1).val % 64) (y 2).val)
/-- The scales of sequence `b`. -/
def gS (pool : S5120x4x64.Idx → Elt F .f32) (b : ℕ) : S2x32x4x64.Idx → Elt F .f32 := fun y =>
  pool (ixS (pg T b (y 1).val) (y 2).val (y 3).val)
/-- The rope keys of sequence `b`. -/
def gR (pool : S5120x64x64.Idx → Elt F .bf16) (b : ℕ) : S2x2048x64.Idx → Elt F .bf16 := fun y =>
  pool (ixR (pg T b ((y 1).val / 64)) ((y 1).val % 64) (y 2).val)

/-! ## The plans of the three gathers -/

/-- Half of a buffer. -/
def halfC (s : ℕ) : Finset S2x2048x512.Idx := Finset.univ.filter fun y => (y 0).val = s
def halfS (s : ℕ) : Finset S2x32x4x64.Idx := Finset.univ.filter fun y => (y 0).val = s
def halfR (s : ℕ) : Finset S2x2048x64.Idx := Finset.univ.filter fun y => (y 0).val = s

/-- The gather of codes of sequence `b` into slot `s`. -/
def planC (pool : S5120x64x512.Idx → Elt F .fp8e4m3) (s b : ℕ) :
    Plan ((c : Thread nD τ).loc cc0_scratch0) ((c : Thread nD τ).loc main_arg4) (Elt F) where
  P := fun t => Finset.univ.filter fun y : S2x2048x512.Idx => (y 0).val = s ∧ (y 1).val / 64 = t
  R := fun t => Finset.univ.filter fun y : S5120x64x512.Idx => (y 0).val = pg T b t
  q := Transfers.shareTokN fullShare s
  pool := pool
  G := gC T pool b
/-- The gather of scales. -/
def planS (pool : S5120x4x64.Idx → Elt F .f32) (s b : ℕ) :
    Plan ((c : Thread nD τ).loc cc0_scratch1) ((c : Thread nD τ).loc main_v0) (Elt F) where
  P := fun t => Finset.univ.filter fun y : S2x32x4x64.Idx => (y 0).val = s ∧ (y 1).val = t
  R := fun t => Finset.univ.filter fun y : S5120x4x64.Idx => (y 0).val = pg T b t
  q := Transfers.shareTokN fullShare s
  pool := pool
  G := gS T pool b
/-- The gather of rope keys. -/
def planR (pool : S5120x64x64.Idx → Elt F .bf16) (s b : ℕ) :
    Plan ((c : Thread nD τ).loc cc0_scratch2) ((c : Thread nD τ).loc main_arg6) (Elt F) where
  P := fun t => Finset.univ.filter fun y : S2x2048x64.Idx => (y 0).val = s ∧ (y 1).val / 64 = t
  R := fun t => Finset.univ.filter fun y : S5120x64x64.Idx => (y 0).val = pg T b t
  q := Transfers.shareTokN fullShare s
  pool := pool
  G := gR T pool b

/-! ## The pieces are disjoint and lie in their slot -/

/-- The codes of the first `n` pages of a slot, as a set of indices. -/
theorem upToC (pool : S5120x64x512.Idx → Elt F .fp8e4m3) (s b n : ℕ) (y : S2x2048x512.Idx) :
    y ∈ upTo (planC c T pool s b) n ↔ (y 0).val = s ∧ (y 1).val / 64 < n := by
  show y ∈ (Finset.range n).biUnion (fun t => Finset.univ.filter fun y : S2x2048x512.Idx => (y 0).val = s ∧ (y 1).val / 64 = t) ↔ _
  simp only [Finset.mem_biUnion, Finset.mem_range, Finset.mem_filter, Finset.mem_univ, true_and]
  exact ⟨fun ⟨t, h, h1, h2⟩ => ⟨h1, h2 ▸ h⟩, fun ⟨h1, h2⟩ => ⟨_, h2, h1, rfl⟩⟩
/-- The scales of the first `n` pages of a slot, as a set of indices. -/
theorem upToS (pool : S5120x4x64.Idx → Elt F .f32) (s b n : ℕ) (y : S2x32x4x64.Idx) :
    y ∈ upTo (planS c T pool s b) n ↔ (y 0).val = s ∧ (y 1).val < n := by
  show y ∈ (Finset.range n).biUnion (fun t => Finset.univ.filter fun y : S2x32x4x64.Idx => (y 0).val = s ∧ (y 1).val = t) ↔ _
  simp only [Finset.mem_biUnion, Finset.mem_range, Finset.mem_filter, Finset.mem_univ, true_and]
  exact ⟨fun ⟨t, h, h1, h2⟩ => ⟨h1, h2 ▸ h⟩, fun ⟨h1, h2⟩ => ⟨_, h2, h1, rfl⟩⟩
/-- The rope keys of the first `n` pages of a slot, as a set of indices. -/
theorem upToR (pool : S5120x64x64.Idx → Elt F .bf16) (s b n : ℕ) (y : S2x2048x64.Idx) :
    y ∈ upTo (planR c T pool s b) n ↔ (y 0).val = s ∧ (y 1).val / 64 < n := by
  show y ∈ (Finset.range n).biUnion (fun t => Finset.univ.filter fun y : S2x2048x64.Idx => (y 0).val = s ∧ (y 1).val / 64 = t) ↔ _
  simp only [Finset.mem_biUnion, Finset.mem_range, Finset.mem_filter, Finset.mem_univ, true_and]
  exact ⟨fun ⟨t, h, h1, h2⟩ => ⟨h1, h2 ▸ h⟩, fun ⟨h1, h2⟩ => ⟨_, h2, h1, rfl⟩⟩

/-- The pages of codes of a slot lie in that slot. -/
theorem subC (pool : S5120x64x512.Idx → Elt F .fp8e4m3) (s b n : ℕ) : upTo (planC c T pool s b) n ⊆ halfC s := fun y hy =>
  Finset.mem_filter.mpr ⟨Finset.mem_univ _, ((upToC c T pool s b n y).mp hy).1⟩
/-- The pages of scales of a slot lie in that slot. -/
theorem subS (pool : S5120x4x64.Idx → Elt F .f32) (s b n : ℕ) : upTo (planS c T pool s b) n ⊆ halfS s := fun y hy =>
  Finset.mem_filter.mpr ⟨Finset.mem_univ _, ((upToS c T pool s b n y).mp hy).1⟩
/-- The pages of rope keys of a slot lie in that slot. -/
theorem subR (pool : S5120x64x64.Idx → Elt F .bf16) (s b n : ℕ) : upTo (planR c T pool s b) n ⊆ halfR s := fun y hy =>
  Finset.mem_filter.mpr ⟨Finset.mem_univ _, ((upToR c T pool s b n y).mp hy).1⟩

/-- Two different pages of codes of a slot do not overlap. -/
theorem disjC (pool : S5120x64x512.Idx → Elt F .fp8e4m3) (s b : ℕ) (n : ℕ) :
    ∀ t ∈ Finset.range n, ∀ t' ∈ Finset.range n, t ≠ t' → Disjoint ((planC c T pool s b).P t) ((planC c T pool s b).P t') :=
  fun t _ t' _ h => Finset.disjoint_filter.mpr fun _ _ h1 h2 => h (h1.2.symm.trans h2.2)
/-- Two different pages of scales of a slot do not overlap. -/
theorem disjS (pool : S5120x4x64.Idx → Elt F .f32) (s b : ℕ) (n : ℕ) :
    ∀ t ∈ Finset.range n, ∀ t' ∈ Finset.range n, t ≠ t' → Disjoint ((planS c T pool s b).P t) ((planS c T pool s b).P t') :=
  fun t _ t' _ h => Finset.disjoint_filter.mpr fun _ _ h1 h2 => h (h1.2.symm.trans h2.2)
/-- Two different pages of rope keys of a slot do not overlap. -/
theorem disjR (pool : S5120x64x64.Idx → Elt F .bf16) (s b : ℕ) (n : ℕ) :
    ∀ t ∈ Finset.range n, ∀ t' ∈ Finset.range n, t ≠ t' → Disjoint ((planR c T pool s b).P t) ((planR c T pool s b).P t') :=
  fun t _ t' _ h => Finset.disjoint_filter.mpr fun _ _ h1 h2 => h (h1.2.symm.trans h2.2)

/-! ## The two ends of a transfer -/

/-- Piece of the codes buffer at offsets `o`. -/
abbrev dstC (o : Fin 3 → ℕ) (hi : ∀ a, o a + S1x64x512.size a ≤ S2x2048x512.size a) : Memref sig .tc .vmem S64x512 .fp8e4m3 :=
  ((Memref.whole cc0_scratch0).slice (Rect.unit (s := S2x2048x512) o S1x64x512.size hi) (fun _ => rfl)).squeeze S64x512 squeezes_S1x64x512_S64x512
/-- Page of the codes pool at offsets `o`. -/
abbrev srcC (o : Fin 3 → ℕ) (hi : ∀ a, o a + S1x64x512.size a ≤ S5120x64x512.size a) : Memref sig .tc .hbm S64x512 .fp8e4m3 :=
  ((Memref.whole main_arg4).slice (Rect.unit (s := S5120x64x512) o S1x64x512.size hi) (fun _ => rfl)).squeeze S64x512 squeezes_S1x64x512_S64x512
abbrev dstS (o : Fin 4 → ℕ) (hi : ∀ a, o a + S1x1x4x64.size a ≤ S2x32x4x64.size a) : Memref sig .tc .vmem S4x64 .f32 :=
  ((Memref.whole cc0_scratch1).slice (Rect.unit (s := S2x32x4x64) o S1x1x4x64.size hi) (fun _ => rfl)).squeeze S4x64 squeezes_S1x1x4x64_S4x64
abbrev srcS (o : Fin 3 → ℕ) (hi : ∀ a, o a + S1x4x64.size a ≤ S5120x4x64.size a) : Memref sig .tc .hbm S4x64 .f32 :=
  ((Memref.whole main_v0).slice (Rect.unit (s := S5120x4x64) o S1x4x64.size hi) (fun _ => rfl)).squeeze S4x64 squeezes_S1x4x64_S4x64
abbrev dstR (o : Fin 3 → ℕ) (hi : ∀ a, o a + S1x64x64.size a ≤ S2x2048x64.size a) : Memref sig .tc .vmem S64x64 .bf16 :=
  ((Memref.whole cc0_scratch2).slice (Rect.unit (s := S2x2048x64) o S1x64x64.size hi) (fun _ => rfl)).squeeze S64x64 squeezes_S1x64x64_S64x64
abbrev srcR (o : Fin 3 → ℕ) (hi : ∀ a, o a + S1x64x64.size a ≤ S5120x64x64.size a) : Memref sig .tc .hbm S64x64 .bf16 :=
  ((Memref.whole main_arg6).slice (Rect.unit (s := S5120x64x64) o S1x64x64.size hi) (fun _ => rfl)).squeeze S64x64 squeezes_S1x64x64_S64x64

/-- A statement about three coordinates, one by one. -/
theorem box3 (p : Fin 3 → Prop) : (∀ a, p a) ↔ p 0 ∧ p 1 ∧ p 2 :=
  ⟨fun h => ⟨h 0, h 1, h 2⟩, fun ⟨h0, h1, h2⟩ a => by fin_cases a <;> assumption⟩
/-- A statement about four coordinates, one by one. -/
theorem box4 (p : Fin 4 → Prop) : (∀ a, p a) ↔ p 0 ∧ p 1 ∧ p 2 ∧ p 3 :=
  ⟨fun h => ⟨h 0, h 1, h 2, h 3⟩, fun ⟨h0, h1, h2, h3⟩ a => by fin_cases a <;> assumption⟩

/-- The part of the slots that one copy of codes fills. -/
theorem setC {s k : ℕ} {o : Fin 3 → ℕ} (e : o = ![s, 64 * k, 0]) (hi) :
    (dstC o hi).view.set = Finset.univ.filter fun y : S2x2048x512.Idx => (y 0).val = s ∧ (y 1).val / 64 = k := by
  subst e
  refine (View.set_reshape _ _).trans ((View.set_slice_whole cc0_scratch0 _).trans ?_)
  ext y
  have h2 : (y 2).val < 512 := (y 2).isLt
  rw [Rect.mem_set_unit, Finset.mem_filter]
  refine (box3 _).trans ?_
  show ((s ≤ (y 0).val ∧ (y 0).val < s + 1) ∧ (64 * k ≤ (y 1).val ∧ (y 1).val < 64 * k + 64) ∧ (0 ≤ (y 2).val ∧ (y 2).val < 0 + 512)) ↔ _
  simp only [Finset.mem_univ, true_and]
  omega
/-- The part of the pool that one copy of codes reads. -/
theorem setPC {w : ℕ} {o : Fin 3 → ℕ} (e : o = ![w, 0, 0]) (hi) :
    (srcC o hi).view.set = Finset.univ.filter fun y : S5120x64x512.Idx => (y 0).val = w := by
  subst e
  refine (View.set_reshape _ _).trans ((View.set_slice_whole main_arg4 _).trans ?_)
  ext y
  have h1 : (y 1).val < 64 := (y 1).isLt
  have h2 : (y 2).val < 512 := (y 2).isLt
  rw [Rect.mem_set_unit, Finset.mem_filter]
  refine (box3 _).trans ?_
  show ((w ≤ (y 0).val ∧ (y 0).val < w + 1) ∧ (0 ≤ (y 1).val ∧ (y 1).val < 0 + 64) ∧ (0 ≤ (y 2).val ∧ (y 2).val < 0 + 512)) ↔ _
  simp only [Finset.mem_univ, true_and]
  omega
/-- The part of the slots that one copy of scales fills. -/
theorem setS {s k : ℕ} {o : Fin 4 → ℕ} (e : o = ![s, k, 0, 0]) (hi) :
    (dstS o hi).view.set = Finset.univ.filter fun y : S2x32x4x64.Idx => (y 0).val = s ∧ (y 1).val = k := by
  subst e
  refine (View.set_reshape _ _).trans ((View.set_slice_whole cc0_scratch1 _).trans ?_)
  ext y
  have h2 : (y 2).val < 4 := (y 2).isLt
  have h3 : (y 3).val < 64 := (y 3).isLt
  rw [Rect.mem_set_unit, Finset.mem_filter]
  refine (box4 _).trans ?_
  show ((s ≤ (y 0).val ∧ (y 0).val < s + 1) ∧ (k ≤ (y 1).val ∧ (y 1).val < k + 1) ∧ (0 ≤ (y 2).val ∧ (y 2).val < 0 + 4) ∧ (0 ≤ (y 3).val ∧ (y 3).val < 0 + 64)) ↔ _
  simp only [Finset.mem_univ, true_and]
  omega
/-- The part of the pool that one copy of scales reads. -/
theorem setPS {w : ℕ} {o : Fin 3 → ℕ} (e : o = ![w, 0, 0]) (hi) :
    (srcS o hi).view.set = Finset.univ.filter fun y : S5120x4x64.Idx => (y 0).val = w := by
  subst e
  refine (View.set_reshape _ _).trans ((View.set_slice_whole main_v0 _).trans ?_)
  ext y
  have h1 : (y 1).val < 4 := (y 1).isLt
  have h2 : (y 2).val < 64 := (y 2).isLt
  rw [Rect.mem_set_unit, Finset.mem_filter]
  refine (box3 _).trans ?_
  show ((w ≤ (y 0).val ∧ (y 0).val < w + 1) ∧ (0 ≤ (y 1).val ∧ (y 1).val < 0 + 4) ∧ (0 ≤ (y 2).val ∧ (y 2).val < 0 + 64)) ↔ _
  simp only [Finset.mem_univ, true_and]
  omega
/-- The part of the slots that one copy of rope keys fills. -/
theorem setR {s k : ℕ} {o : Fin 3 → ℕ} (e : o = ![s, 64 * k, 0]) (hi) :
    (dstR o hi).view.set = Finset.univ.filter fun y : S2x2048x64.Idx => (y 0).val = s ∧ (y 1).val / 64 = k := by
  subst e
  refine (View.set_reshape _ _).trans ((View.set_slice_whole cc0_scratch2 _).trans ?_)
  ext y
  have h2 : (y 2).val < 64 := (y 2).isLt
  rw [Rect.mem_set_unit, Finset.mem_filter]
  refine (box3 _).trans ?_
  show ((s ≤ (y 0).val ∧ (y 0).val < s + 1) ∧ (64 * k ≤ (y 1).val ∧ (y 1).val < 64 * k + 64) ∧ (0 ≤ (y 2).val ∧ (y 2).val < 0 + 64)) ↔ _
  simp only [Finset.mem_univ, true_and]
  omega
/-- The part of the pool that one copy of rope keys reads. -/
theorem setPR {w : ℕ} {o : Fin 3 → ℕ} (e : o = ![w, 0, 0]) (hi) :
    (srcR o hi).view.set = Finset.univ.filter fun y : S5120x64x64.Idx => (y 0).val = w := by
  subst e
  refine (View.set_reshape _ _).trans ((View.set_slice_whole main_arg6 _).trans ?_)
  ext y
  have h1 : (y 1).val < 64 := (y 1).isLt
  have h2 : (y 2).val < 64 := (y 2).isLt
  rw [Rect.mem_set_unit, Finset.mem_filter]
  refine (box3 _).trans ?_
  show ((w ≤ (y 0).val ∧ (y 0).val < w + 1) ∧ (0 ≤ (y 1).val ∧ (y 1).val < 0 + 64) ∧ (0 ≤ (y 2).val ∧ (y 2).val < 0 + 64)) ↔ _
  simp only [Finset.mem_univ, true_and]
  omega

/-! ## Where the elements of the two ends lie -/

open Idealize.ShloMosaic.ValueIdx in
/-- An entry of the place one copy of codes fills, by coordinates. -/
theorem embC {o : Fin 3 → ℕ} (hi) (x : Fin 64) (z : Fin 512) (a : Fin 3) :
    ((dstC o hi).view.emb (ix2 x z) a).val = o a + (![0, x.val, z.val] : Fin 3 → ℕ) a := by
  show ((Rect.unit (s := S2x2048x512) o S1x64x512.size hi).emb (Shape.reshapeEquiv _ (ix2 x z)) a).val = _
  rw [reshapeEquiv_ix2_1ab, Rect.emb_apply]
  fin_cases a <;> exact congrArg (_ + ·) (Nat.one_mul _)
open Idealize.ShloMosaic.ValueIdx in
/-- An entry of the page one copy of codes reads, by coordinates. -/
theorem embPC {o : Fin 3 → ℕ} (hi) (x : Fin 64) (z : Fin 512) (a : Fin 3) :
    ((srcC o hi).view.emb (ix2 x z) a).val = o a + (![0, x.val, z.val] : Fin 3 → ℕ) a := by
  show ((Rect.unit (s := S5120x64x512) o S1x64x512.size hi).emb (Shape.reshapeEquiv _ (ix2 x z)) a).val = _
  rw [reshapeEquiv_ix2_1ab, Rect.emb_apply]
  fin_cases a <;> exact congrArg (_ + ·) (Nat.one_mul _)
open Idealize.ShloMosaic.ValueIdx in
/-- An entry of the place one copy of scales fills, by coordinates. -/
theorem embS {o : Fin 4 → ℕ} (hi) (x : Fin 4) (z : Fin 64) (a : Fin 4) :
    ((dstS o hi).view.emb (ix2 x z) a).val = o a + (![0, 0, x.val, z.val] : Fin 4 → ℕ) a := by
  show ((Rect.unit (s := S2x32x4x64) o S1x1x4x64.size hi).emb (Shape.reshapeEquiv _ (ix2 x z)) a).val = _
  rw [reshapeEquiv_ix2_11ab, Rect.emb_apply]
  fin_cases a <;> exact congrArg (_ + ·) (Nat.one_mul _)
open Idealize.ShloMosaic.ValueIdx in
/-- An entry of the page one copy of scales reads, by coordinates. -/
theorem embPS {o : Fin 3 → ℕ} (hi) (x : Fin 4) (z : Fin 64) (a : Fin 3) :
    ((srcS o hi).view.emb (ix2 x z) a).val = o a + (![0, x.val, z.val] : Fin 3 → ℕ) a := by
  show ((Rect.unit (s := S5120x4x64) o S1x4x64.size hi).emb (Shape.reshapeEquiv _ (ix2 x z)) a).val = _
  rw [reshapeEquiv_ix2_1ab, Rect.emb_apply]
  fin_cases a <;> exact congrArg (_ + ·) (Nat.one_mul _)
open Idealize.ShloMosaic.ValueIdx in
/-- An entry of the place one copy of rope keys fills, by coordinates. -/
theorem embR {o : Fin 3 → ℕ} (hi) (x : Fin 64) (z : Fin 64) (a : Fin 3) :
    ((dstR o hi).view.emb (ix2 x z) a).val = o a + (![0, x.val, z.val] : Fin 3 → ℕ) a := by
  show ((Rect.unit (s := S2x2048x64) o S1x64x64.size hi).emb (Shape.reshapeEquiv _ (ix2 x z)) a).val = _
  rw [reshapeEquiv_ix2_1ab, Rect.emb_apply]
  fin_cases a <;> exact congrArg (_ + ·) (Nat.one_mul _)
open Idealize.ShloMosaic.ValueIdx in
/-- An entry of the page one copy of rope keys reads, by coordinates. -/
theorem embPR {o : Fin 3 → ℕ} (hi) (x : Fin 64) (z : Fin 64) (a : Fin 3) :
    ((srcR o hi).view.emb (ix2 x z) a).val = o a + (![0, x.val, z.val] : Fin 3 → ℕ) a := by
  show ((Rect.unit (s := S5120x64x64) o S1x64x64.size hi).emb (Shape.reshapeEquiv _ (ix2 x z)) a).val = _
  rw [reshapeEquiv_ix2_1ab, Rect.emb_apply]
  fin_cases a <;> exact congrArg (_ + ·) (Nat.one_mul _)

/-! ## What a transfer writes -/

open Idealize.ShloMosaic.ValueIdx in
/-- What a landed copy of codes has written is what the slot is meant to hold. -/
theorem wrC {s k w : ℕ} {b : ℕ} (hw : pg T b k = w) (pool : S5120x64x512.Idx → Elt F .fp8e4m3) {o : Fin 3 → ℕ} (e : o = ![s, 64 * k, 0]) (hi)
    {o' : Fin 3 → ℕ} (e' : o' = ![w, 0, 0]) (hi') (fd : S2x2048x512.Idx → Elt F .fp8e4m3) (y : S2x2048x512.Idx)
    (hy : y ∈ (dstC o hi).view.set) :
    (dstC o hi).view.write (Elt F) fd ((ReadAs.same).apply ((srcC o' hi').view.read (Elt F) pool)) Finset.univ y = gC T pool b y := by
  obtain ⟨x, -, rfl⟩ := Finset.mem_map.mp hy
  rw [View.write_emb_of_mem _ _ (Finset.mem_univ x)]
  obtain ⟨p, q, rfl⟩ : ∃ p q, x = ix2 p q := ⟨_, _, eq_ix2 x⟩
  show pool ((srcC o' hi').view.emb _) = pool _
  congr 1
  funext a
  apply Fin.ext
  rw [embPC hi' p q a]
  have h1 := embC hi p q 1
  have h2 := embC hi p q 2
  have hwl : w < 5120 := hw ▸ Nat.mod_lt _ (by norm_num)
  have hp := p.isLt; have hq := q.isLt
  subst e e'
  simp only [Matrix.cons_val] at h1 h2
  show _ = (![pg T b ((((dstC _ hi).view.emb (ix2 p q)) 1).val / 64) % 5120, ((((dstC _ hi).view.emb (ix2 p q)) 1).val % 64) % 64, (((dstC _ hi).view.emb (ix2 p q)) 2).val % 512] : Fin 3 → ℕ) a
  rw [h1, h2, show (64 * k + p.val) / 64 = k by omega, hw, show (64 * k + p.val) % 64 % 64 = p.val by omega, show (0 + q.val) % 512 = q.val by omega, Nat.mod_eq_of_lt hwl]
  fin_cases a <;> simp
open Idealize.ShloMosaic.ValueIdx in
/-- What a landed copy of scales has written is what the slot is meant to hold. -/
theorem wrS {s k w : ℕ} {b : ℕ} (hw : pg T b k = w) (pool : S5120x4x64.Idx → Elt F .f32) {o : Fin 4 → ℕ} (e : o = ![s, k, 0, 0]) (hi)
    {o' : Fin 3 → ℕ} (e' : o' = ![w, 0, 0]) (hi') (fd : S2x32x4x64.Idx → Elt F .f32) (y : S2x32x4x64.Idx)
    (hy : y ∈ (dstS o hi).view.set) :
    (dstS o hi).view.write (Elt F) fd ((ReadAs.same).apply ((srcS o' hi').view.read (Elt F) pool)) Finset.univ y = gS T pool b y := by
  obtain ⟨x, -, rfl⟩ := Finset.mem_map.mp hy
  rw [View.write_emb_of_mem _ _ (Finset.mem_univ x)]
  obtain ⟨p, q, rfl⟩ : ∃ p q, x = ix2 p q := ⟨_, _, eq_ix2 x⟩
  show pool ((srcS o' hi').view.emb _) = pool _
  congr 1
  funext a
  apply Fin.ext
  rw [embPS hi' p q a]
  have h1 := embS hi p q 1
  have h2 := embS hi p q 2
  have h3 := embS hi p q 3
  have hwl : w < 5120 := hw ▸ Nat.mod_lt _ (by norm_num)
  have hp := p.isLt; have hq := q.isLt
  subst e e'
  simp only [Matrix.cons_val] at h1 h2 h3
  show _ = (![pg T b (((dstS _ hi).view.emb (ix2 p q)) 1).val % 5120, (((dstS _ hi).view.emb (ix2 p q)) 2).val % 4, (((dstS _ hi).view.emb (ix2 p q)) 3).val % 64] : Fin 3 → ℕ) a
  rw [h1, h2, h3, Nat.add_zero, hw, show (0 + p.val) % 4 = p.val by omega, show (0 + q.val) % 64 = q.val by omega, Nat.mod_eq_of_lt hwl]
  fin_cases a <;> simp
open Idealize.ShloMosaic.ValueIdx in
/-- What a landed copy of rope keys has written is what the slot is meant to hold. -/
theorem wrR {s k w : ℕ} {b : ℕ} (hw : pg T b k = w) (pool : S5120x64x64.Idx → Elt F .bf16) {o : Fin 3 → ℕ} (e : o = ![s, 64 * k, 0]) (hi)
    {o' : Fin 3 → ℕ} (e' : o' = ![w, 0, 0]) (hi') (fd : S2x2048x64.Idx → Elt F .bf16) (y : S2x2048x64.Idx)
    (hy : y ∈ (dstR o hi).view.set) :
    (dstR o hi).view.write (Elt F) fd ((ReadAs.same).apply ((srcR o' hi').view.read (Elt F) pool)) Finset.univ y = gR T pool b y := by
  obtain ⟨x, -, rfl⟩ := Finset.mem_map.mp hy
  rw [View.write_emb_of_mem _ _ (Finset.mem_univ x)]
  obtain ⟨p, q, rfl⟩ : ∃ p q, x = ix2 p q := ⟨_, _, eq_ix2 x⟩
  show pool ((srcR o' hi').view.emb _) = pool _
  congr 1
  funext a
  apply Fin.ext
  rw [embPR hi' p q a]
  have h1 := embR hi p q 1
  have h2 := embR hi p q 2
  have hwl : w < 5120 := hw ▸ Nat.mod_lt _ (by norm_num)
  have hp := p.isLt; have hq := q.isLt
  subst e e'
  simp only [Matrix.cons_val] at h1 h2
  show _ = (![pg T b ((((dstR _ hi).view.emb (ix2 p q)) 1).val / 64) % 5120, ((((dstR _ hi).view.emb (ix2 p q)) 1).val % 64) % 64, (((dstR _ hi).view.emb (ix2 p q)) 2).val % 64] : Fin 3 → ℕ) a
  rw [h1, h2, show (64 * k + p.val) / 64 = k by omega, hw, show (64 * k + p.val) % 64 % 64 = p.val by omega, show (0 + q.val) % 64 = q.val by omega, Nat.mod_eq_of_lt hwl]
  fin_cases a <;> simp

/-! ## Semaphores and amounts -/

/-- The semaphore cells of slot `s`. -/
def cellC (s : ℕ) : SemLoc sig := .dma ((cc0_scratch4.slice (Rect.unit (s := S2) ![s % 2] S1.size (by intro a; fin_cases a; simp [Shape.size]; omega))).squeeze S_ squeezes_S1_S_).sem
def cellS (s : ℕ) : SemLoc sig := .dma ((cc0_scratch5.slice (Rect.unit (s := S2) ![s % 2] S1.size (by intro a; fin_cases a; simp [Shape.size]; omega))).squeeze S_ squeezes_S1_S_).sem
def cellR (s : ℕ) : SemLoc sig := .dma ((cc0_scratch6.slice (Rect.unit (s := S2) ![s % 2] S1.size (by intro a; fin_cases a; simp [Shape.size]; omega))).squeeze S_ squeezes_S1_S_).sem

/-- The bytes of a page of codes, of scales, of rope keys. -/
def NC : ℕ := (dstC ![0, 0, 0] (by decide)).view.dmaCredit
def NS : ℕ := (dstS ![0, 0, 0, 0] (by decide)).view.dmaCredit
def NR : ℕ := (dstR ![0, 0, 0] (by decide)).view.dmaCredit

/-- The amount by which a copy of codes raises its counter. -/
theorem amountC (s : ℕ) {o : Fin 3 → ℕ} (hi) : (dstC o hi).view.amount (cellC s) = NC := rfl
/-- The amount a wait for a copy of codes takes. -/
theorem creditC {o : Fin 3 → ℕ} (hi) : (dstC o hi).view.dmaCredit = NC := rfl
/-- The amount by which a copy of scales raises its counter. -/
theorem amountS (s : ℕ) {o : Fin 4 → ℕ} (hi) : (dstS o hi).view.amount (cellS s) = NS := rfl
/-- The amount a wait for a copy of scales takes. -/
theorem creditS {o : Fin 4 → ℕ} (hi) : (dstS o hi).view.dmaCredit = NS := rfl
/-- The amount by which a copy of rope keys raises its counter. -/
theorem amountR (s : ℕ) {o : Fin 3 → ℕ} (hi) : (dstR o hi).view.amount (cellR s) = NR := rfl
/-- The amount a wait for a copy of rope keys takes. -/
theorem creditR {o : Fin 3 → ℕ} (hi) : (dstR o hi).view.dmaCredit = NR := rfl

end Cert.KernelIdeal.Hand
-- ==== Proof.KI.Copies.lean ====
/-
  The gather loops of one slot: the loop that starts the copies of a sequence's pages, printed twice (for the first
  sequence and for the next one), and the loop that waits for them.
-/
module

public import proofs.«01_k».proof.Proof.KI.Slot
public import Idealize.ShloMosaic.Lib.Tactic

@[expose] public section

noncomputable section

namespace Cert.KernelIdeal.Hand

open Idealize.ShloMosaic Idealize.ShloMosaic.TcCoe Idealize.ShloMosaic.Tactic Cert.KernelIdeal Cert.KernelIdeal.Gen Cert.Words Cert.Pages
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the counters of the transfers. -/
local notation "𝕄" => MT nD τ sig Unit (Elt F) ℕ (Pipeline.UD sig nD τ) ℕ

/-- The counters of the transfers. -/
local notation "EC" => countersEmb (nD := nD) (U := Pipeline.UD sig nD τ)

variable (c : Dev nD)

/-- The three pools. -/
structure Pools (F : FTy → Type) [FloatOps F] where
  codes : S5120x64x512.Idx → Elt F .fp8e4m3
  scales : S5120x4x64.Idx → Elt F .f32
  ropes : S5120x64x64.Idx → Elt F .bf16

variable (T : Tab) (L : Lens) (X : Pools F)

/-- The copies of sequence `b` into slot `s`: `k` pages started and `u` pages waited for. -/
def FlyC (s b n k u : ℕ) : sProp 𝕄 := Flying EC (c : Thread nD τ) (cellC s) () NC (planC c T X.codes s b) n (halfC s) k (NC * u)
def FlyS (s b n k u : ℕ) : sProp 𝕄 := Flying EC (c : Thread nD τ) (cellS s) () NS (planS c T X.scales s b) n (halfS s) k (NS * u)
def FlyR (s b n k u : ℕ) : sProp 𝕄 := Flying EC (c : Thread nD τ) (cellR s) () NR (planR c T X.ropes s b) n (halfR s) k (NR * u)
def Fly (s b n k u : ℕ) : sProp 𝕄 := iprop(FlyC c T X s b n k u ∗ FlyS c T X s b n k u ∗ FlyR c T X s b n k u)

/-- The page table, held by the scalar unit. -/
def tab : sProp 𝕄 := iprop(∃ q, (Memref.whole main_arg7).view.loc (c : Thread nD τ) ↦{q} T)

/-- The lengths, held by the scalar unit. -/
def lens : sProp 𝕄 := iprop(∃ q, (Memref.whole main_arg8).view.loc (c : Thread nD τ) ↦{q} L)

/-- The word a load of the lengths reads. -/
theorem len_at {o : Fin 1 → ℕ} {b : ℕ} (e : o = ![b]) (hb : b < 128) (hi) (x) :
    ((Memref.whole main_arg8).access (Rect.unit (s := S128) o S1.size hi)).read (Elt F) L x = len L b := by
  subst e
  show L _ = L _
  congr 1
  funext a
  apply Fin.ext
  show (![b] : Fin 1 → ℕ) a + 1 * (x a).val = (![b % 128] : Fin 1 → ℕ) a
  have h0 : (x 0).val < 1 := (x 0).isLt
  fin_cases a; simp; omega

/-- The word a load of the page table reads. -/
theorem tab_at {o : Fin 2 → ℕ} {b t : ℕ} (e : o = ![b, t]) (hb : b < 128) (ht : t < 32) (hi) (x) :
    ((Memref.whole main_arg7).access (Rect.unit (s := S128x32) o S1x1.size hi)).read (Elt F) T x = T (ixT b t) := by
  subst e
  show T _ = T _
  congr 1
  funext a
  apply Fin.ext
  show (![b, t] : Fin 2 → ℕ) a + 1 * (x a).val = (![b % 128, t % 32] : Fin 2 → ℕ) a
  have h0 : (x 0).val < 1 := (x 0).isLt
  have h1 : (x 1).val < 1 := (x 1).isLt
  fin_cases a <;> simp <;> omega

section Steps

variable {α : Type} {Q : α → sProp (MT nD τ sig Unit (Elt F) ℕ (Pipeline.UD sig nD τ) ℕ)} {k : PUnit → Prog (TpuEff nD τ sig (Elt F) Λ₀ .tc) α} (bd : Option Variants.none.V)

/-- Starting the copy of page `j` (codes). -/
theorem issueC {s b n j w : ℕ} (hj : j < n) {o : Fin 3 → ℕ} (e : o = ![s, 64 * j, 0]) {hi} {o' : Fin 3 → ℕ} (e' : o' = ![w, 0, 0]) {hi'}
    (hw : pg T b j = w) {cl : SemLoc sig} {hsrc hdst} {hsem : DmaTarget.Typed (nD := nD) .hbm cl (.here (p := (.tc : Proc τ)) (dstC o hi))} (hc : cl = cellC s) :
    FlyC c T X s b n j 0 ⊢ iprop((FlyC c T X s b n (j + 1) 0 -∗ wp frame (wpE (defs₀ (F := F)) Variants.none (c : Thread nD τ) bd) Set.univ (k ⟨⟩) Q)
      -∗ wp frame (wpE (defs₀ (F := F)) Variants.none (c : Thread nD τ) bd) Set.univ
          (Prog.lift (.enqueueDma (srcC o' hi') (.here (dstC o hi)) cl hsrc hdst hsem) >>= k) Q) := by
  subst hc
  exact issue EC (c : Thread nD τ) (cellC s) () NC Variants.none bd (src := srcC o' hi') (dst := dstC o hi) (hsrc := hsrc) (hdst := hdst) (hsem := hsem) (k := k) (planC c T X.codes s b) n (halfC s) (amountC s hi) hj (setC e hi)
    (by rw [setPC e' hi']; show _ = Finset.univ.filter _; rw [hw]) (fun fd y hy => wrC T hw X.codes e hi e' hi' fd y (by rw [setC e hi]; exact hy))

/-- Waiting for one more page (codes). -/
theorem awaitC {s b n j : ℕ} (hj : j < n) {o : Fin 3 → ℕ} {hi} {o' : Fin 3 → ℕ} {hi'}
    {hsrc hdst} {cl : DmaSem sig} (hc : SemLoc.dma cl = cellC s) {W : Waits sig Unit} :
    iprop(FlyC c T X s b n n j ∗ owes (c : Thread nD τ) 0 W) ⊢ iprop((iprop(FlyC c T X s b n n (j + 1) ∗ owes (c : Thread nD τ) 0 (insert (cellC s, ()) W)) -∗ wp frame (wpE (defs₀ (F := F)) Variants.none (c : Thread nD τ) bd) Set.univ (k ⟨⟩) Q)
      -∗ wp frame (wpE (defs₀ (F := F)) Variants.none (c : Thread nD τ) bd) Set.univ
          (Prog.lift (.waitDma2 cl (srcC o' hi') (dstC o hi) hsrc hdst) >>= k) Q) := by
  unfold FlyC
  rw [← hc]
  exact await EC (c : Thread nD τ) () NC (planC c T X.codes s b) Variants.none bd (srcw := srcC o' hi') (dstw := dstC o hi) (hsrc := hsrc) (hdst := hdst) (k := k) n (halfC s) (creditC hi) hj

/-- Starting the copy of page `j` (scales). -/
theorem issueS {s b n j w : ℕ} (hj : j < n) {o : Fin 4 → ℕ} (e : o = ![s, j, 0, 0]) {hi} {o' : Fin 3 → ℕ} (e' : o' = ![w, 0, 0]) {hi'}
    (hw : pg T b j = w) {cl : SemLoc sig} {hsrc hdst} {hsem : DmaTarget.Typed (nD := nD) .hbm cl (.here (p := (.tc : Proc τ)) (dstS o hi))} (hc : cl = cellS s) :
    FlyS c T X s b n j 0 ⊢ iprop((FlyS c T X s b n (j + 1) 0 -∗ wp frame (wpE (defs₀ (F := F)) Variants.none (c : Thread nD τ) bd) Set.univ (k ⟨⟩) Q)
      -∗ wp frame (wpE (defs₀ (F := F)) Variants.none (c : Thread nD τ) bd) Set.univ
          (Prog.lift (.enqueueDma (srcS o' hi') (.here (dstS o hi)) cl hsrc hdst hsem) >>= k) Q) := by
  subst hc
  exact issue EC (c : Thread nD τ) (cellS s) () NS Variants.none bd (src := srcS o' hi') (dst := dstS o hi) (hsrc := hsrc) (hdst := hdst) (hsem := hsem) (k := k) (planS c T X.scales s b) n (halfS s) (amountS s hi) hj (setS e hi)
    (by rw [setPS e' hi']; show _ = Finset.univ.filter _; rw [hw]) (fun fd y hy => wrS T hw X.scales e hi e' hi' fd y (by rw [setS e hi]; exact hy))

/-- Waiting for one more page (scales). -/
theorem awaitS {s b n j : ℕ} (hj : j < n) {o : Fin 4 → ℕ} {hi} {o' : Fin 3 → ℕ} {hi'}
    {hsrc hdst} {cl : DmaSem sig} (hc : SemLoc.dma cl = cellS s) {W : Waits sig Unit} :
    iprop(FlyS c T X s b n n j ∗ owes (c : Thread nD τ) 0 W) ⊢ iprop((iprop(FlyS c T X s b n n (j + 1) ∗ owes (c : Thread nD τ) 0 (insert (cellS s, ()) W)) -∗ wp frame (wpE (defs₀ (F := F)) Variants.none (c : Thread nD τ) bd) Set.univ (k ⟨⟩) Q)
      -∗ wp frame (wpE (defs₀ (F := F)) Variants.none (c : Thread nD τ) bd) Set.univ
          (Prog.lift (.waitDma2 cl (srcS o' hi') (dstS o hi) hsrc hdst) >>= k) Q) := by
  unfold FlyS
  rw [← hc]
  exact await EC (c : Thread nD τ) () NS (planS c T X.scales s b) Variants.none bd (srcw := srcS o' hi') (dstw := dstS o hi) (hsrc := hsrc) (hdst := hdst) (k := k) n (halfS s) (creditS hi) hj

/-- Starting the copy of page `j` (rope keys). -/
theorem issueR {s b n j w : ℕ} (hj : j < n) {o : Fin 3 → ℕ} (e : o = ![s, 64 * j, 0]) {hi} {o' : Fin 3 → ℕ} (e' : o' = ![w, 0, 0]) {hi'}
    (hw : pg T b j = w) {cl : SemLoc sig} {hsrc hdst} {hsem : DmaTarget.Typed (nD := nD) .hbm cl (.here (p := (.tc : Proc τ)) (dstR o hi))} (hc : cl = cellR s) :
    FlyR c T X s b n j 0 ⊢ iprop((FlyR c T X s b n (j + 1) 0 -∗ wp frame (wpE (defs₀ (F := F)) Variants.none (c : Thread nD τ) bd) Set.univ (k ⟨⟩) Q)
      -∗ wp frame (wpE (defs₀ (F := F)) Variants.none (c : Thread nD τ) bd) Set.univ
          (Prog.lift (.enqueueDma (srcR o' hi') (.here (dstR o hi)) cl hsrc hdst hsem) >>= k) Q) := by
  subst hc
  exact issue EC (c : Thread nD τ) (cellR s) () NR Variants.none bd (src := srcR o' hi') (dst := dstR o hi) (hsrc := hsrc) (hdst := hdst) (hsem := hsem) (k := k) (planR c T X.ropes s b) n (halfR s) (amountR s hi) hj (setR e hi)
    (by rw [setPR e' hi']; show _ = Finset.univ.filter _; rw [hw]) (fun fd y hy => wrR T hw X.ropes e hi e' hi' fd y (by rw [setR e hi]; exact hy))

/-- Waiting for one more page (rope keys). -/
theorem awaitR {s b n j : ℕ} (hj : j < n) {o : Fin 3 → ℕ} {hi} {o' : Fin 3 → ℕ} {hi'}
    {hsrc hdst} {cl : DmaSem sig} (hc : SemLoc.dma cl = cellR s) {W : Waits sig Unit} :
    iprop(FlyR c T X s b n n j ∗ owes (c : Thread nD τ) 0 W) ⊢ iprop((iprop(FlyR c T X s b n n (j + 1) ∗ owes (c : Thread nD τ) 0 (insert (cellR s, ()) W)) -∗ wp frame (wpE (defs₀ (F := F)) Variants.none (c : Thread nD τ) bd) Set.univ (k ⟨⟩) Q)
      -∗ wp frame (wpE (defs₀ (F := F)) Variants.none (c : Thread nD τ) bd) Set.univ
          (Prog.lift (.waitDma2 cl (srcR o' hi') (dstR o hi) hsrc hdst) >>= k) Q) := by
  unfold FlyR
  rw [← hc]
  exact await EC (c : Thread nD τ) () NR (planR c T X.ropes s b) Variants.none bd (srcw := srcR o' hi') (dstw := dstR o hi) (hsrc := hsrc) (hdst := hdst) (k := k) n (halfR s) (creditR hi) hj

/-- Reading the number of a page. -/
theorem readTab {k : Elt F .i32 → Prog (TpuEff nD τ sig (Elt F) Λ₀ .tc) α} {b t : ℕ} {o : Fin 2 → ℕ} (e : o = ![b, t]) (hb : b < 128) (ht : t < 32) {hi h1 hp} :
    tab (F := F) c T ⊢ iprop((tab (F := F) c T -∗ wp frame (wpE (defs₀ (F := F)) Variants.none (c : Thread nD τ) bd) Set.univ (k (T (ixT b t))) Q)
      -∗ wp frame (wpE (defs₀ (F := F)) Variants.none (c : Thread nD τ) bd) Set.univ
          (smemLoad (Memref.whole main_arg7) (Rect.unit (s := S128x32) o S1x1.size hi) h1 hp >>= k) Q) := by
  unfold tab
  iintro ⟨%q, HT⟩ Hk
  iapply (readWord (m := Memref.whole main_arg7) (r := Rect.unit (s := S128x32) o S1x1.size hi) (h1 := h1) (hp := hp) (k := k) (f := T)
    (c : Thread nD τ) Variants.none bd (v := T (ixT b t)) (fun x => tab_at T e hb ht hi x)) $$ HT
  iintro HT
  iapply Hk
  iexists q
  iexact HT

/-- Reading the length of a sequence. -/
theorem readLen {k : Elt F .i32 → Prog (TpuEff nD τ sig (Elt F) Λ₀ .tc) α} {b : ℕ} {o : Fin 1 → ℕ} (e : o = ![b]) (hb : b < 128) {hi h1 hp} :
    lens (F := F) c L ⊢ iprop((lens (F := F) c L -∗ wp frame (wpE (defs₀ (F := F)) Variants.none (c : Thread nD τ) bd) Set.univ (k (len L b)) Q)
      -∗ wp frame (wpE (defs₀ (F := F)) Variants.none (c : Thread nD τ) bd) Set.univ
          (smemLoad (Memref.whole main_arg8) (Rect.unit (s := S128) o S1.size hi) h1 hp >>= k) Q) := by
  unfold lens
  iintro ⟨%q, HT⟩ Hk
  iapply (readWord (m := Memref.whole main_arg8) (r := Rect.unit (s := S128) o S1.size hi) (h1 := h1) (hp := hp) (k := k) (f := L)
    (c : Thread nD τ) Variants.none bd (v := len L b) (fun x => len_at L e hb hi x)) $$ HT
  iintro HT
  iapply Hk
  iexists q
  iexact HT

end Steps
/-- A semaphore cell by its offset. -/
theorem cellC_of {s : ℕ} {o : Fin 1 → ℕ} (e : o = ![s % 2]) (hi) :
    SemLoc.dma ((cc0_scratch4.slice (Rect.unit (s := S2) o S1.size hi)).squeeze S_ squeezes_S1_S_).sem = cellC s := by subst e; rfl
/-- The counter of a slot's copies of scales, from its computed index. -/
theorem cellS_of {s : ℕ} {o : Fin 1 → ℕ} (e : o = ![s % 2]) (hi) :
    SemLoc.dma ((cc0_scratch5.slice (Rect.unit (s := S2) o S1.size hi)).squeeze S_ squeezes_S1_S_).sem = cellS s := by subst e; rfl
/-- The counter of a slot's copies of rope keys, from its computed index. -/
theorem cellR_of {s : ℕ} {o : Fin 1 → ℕ} (e : o = ![s % 2]) (hi) :
    SemLoc.dma ((cc0_scratch6.slice (Rect.unit (s := S2) o S1.size hi)).squeeze S_ squeezes_S1_S_).sem = cellR s := by subst e; rfl

/-- The index of the other slot's counter, for the codes. -/
theorem off17_eq (i : grid0.Coords) : k0_off17 i = ![(pt i + 1) % 2 % 2] := by
  show ![(Scalar.subi 1#32 (Scalar.remsi (BitVec.ofNat 32 (i 0).val) 2#32)).toNat] = _
  rw [slotW' (pt_lt i), show 1 - (i 0).val % 2 = (pt i + 1) % 2 % 2 by unfold pt; omega]
/-- The index of the other slot's counter, for the scales. -/
theorem off20_eq (i : grid0.Coords) : k0_off20 i = ![(pt i + 1) % 2 % 2] := off17_eq i
/-- The index of the grid point's own slot's counter, for the codes. -/
theorem off36_eq (i : grid0.Coords) : k0_off36 i = ![pt i % 2 % 2] := by
  show ![(Scalar.remsi (BitVec.ofNat 32 (i 0).val) 2#32).toNat] = _
  rw [slotW (pt_lt i), show (i 0).val % 2 = pt i % 2 % 2 by unfold pt; omega]; exact congrArg (fun x : ℕ => ![x]) (by omega)
/-- The index of the grid point's own slot's counter, for the scales. -/
theorem off39_eq (i : grid0.Coords) : k0_off39 i = ![pt i % 2 % 2] := off36_eq i
/-- The other slot is the slot of the next sequence. -/
theorem otherSlot (b : ℕ) : 1 - b % 2 = (b + 1) % 2 := by omega

variable (i : grid0.Coords) (G : Good T L) (bd : Option Variants.none.V)
variable (arg3 : Memref sig .tc .vmem S1x32x512 .bf16) (harg3 : arg3.IsWhole) (arg4 : Memref sig .tc .vmem S1x32x64 .bf16) (harg4 : arg4.IsWhole) (arg5 : Memref sig .tc .vmem S1x1x512 .bf16) (harg5 : arg5.IsWhole) (arg6 : Memref sig .tc .vmem S1x1x64 .bf16) (harg6 : arg6.IsWhole) (arg10 : Memref sig .tc .vmem S1x32x512 .bf16) (harg10 : arg10.IsWhole)
include G

/-- One trip of the loop that starts the copies of the first sequence. -/
theorem step1 (h1 : k0_cond1 i = 1#1) (v : Elt F .i32) (hv : v = len L (0)) (hw : k0_chk1 i v) (k : Fin (k0_t1_loop v).trips) :
    iprop(tab c T ∗ Fly c T X (0) (0) (np L (0)) k.val 0)
      ⊢ wp frame (wpE (defs₀ (F := F)) Variants.none (c : Thread nD τ) bd) Set.univ
        (k0_t1_body i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 h1 v hw k ())
        (fun _ => iprop(tab c T ∗ Fly c T X (0) (0) (np L (0)) (k.val + 1) 0)) := by
  subst hv
  have hle := G.le (ixL (0))
  have hk : k.val < np L (0) := lt_of_lt_of_eq k.isLt (copy_trips hle)
  have h32 : k.val < 32 := copy_lt hle k
  have hp : pg T (0) k.val = (T (ixT (0) k.val)).toNat := Nat.mod_eq_of_lt (G.page _)
  unfold k0_t1_body
  iintro ⟨HT, HF⟩
  dsimp only
  iapply (readTab c T bd (off1_eq k h32) (by norm_num) h32) $$ HT
  iintro HT
  iapply (check (c : Thread nD τ) Variants.none bd (chk2 i (G.page _)))
  unfold Fly
  icases HF with ⟨HC, HS, HR⟩
  iapply (issueC c T X bd hk (off2_eq k h32) rfl hp rfl) $$ HC
  iintro HC
  iapply (issueS c T X bd hk (off4_eq k h32) rfl hp rfl) $$ HS
  iintro HS
  iapply (issueR c T X bd hk (off6_eq k h32) rfl hp rfl) $$ HR
  iintro HR
  sl_step
  isplitl [HT]; · iexact HT
  isplitl [HC]; · iexact HC
  isplitl [HS]; · iexact HS
  iexact HR

/-- One trip of the loop that starts the copies of the next sequence. -/
theorem step3 (h1 : k0_cond2 i = 1#1) (v : Elt F .i32) (hv : v = len L (pt i + 1)) (hb : pt i + 1 < 128) (hw : k0_chk4 i v) (k : Fin (k0_t3_loop v).trips) :
    iprop(tab c T ∗ Fly c T X ((pt i + 1) % 2) (pt i + 1) (np L (pt i + 1)) k.val 0)
      ⊢ wp frame (wpE (defs₀ (F := F)) Variants.none (c : Thread nD τ) bd) Set.univ
        (k0_t3_body i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 h1 v hw k ())
        (fun _ => iprop(tab c T ∗ Fly c T X ((pt i + 1) % 2) (pt i + 1) (np L (pt i + 1)) (k.val + 1) 0)) := by
  subst hv
  have hle := G.le (ixL (pt i + 1))
  have hk : k.val < np L (pt i + 1) := lt_of_lt_of_eq k.isLt (copy_trips hle)
  have h32 : k.val < 32 := copy_lt hle k
  have hp : pg T (pt i + 1) k.val = (T (ixT (pt i + 1) k.val)).toNat := Nat.mod_eq_of_lt (G.page _)
  unfold k0_t3_body
  iintro ⟨HT, HF⟩
  dsimp only
  iapply (readTab c T bd (off16_eq i k h32) hb h32) $$ HT
  iintro HT
  iapply (check (c : Thread nD τ) Variants.none bd (chk5 i (G.page _)))
  unfold Fly
  icases HF with ⟨HC, HS, HR⟩
  iapply (issueC c T X bd hk ((off18_eq i k h32).trans (by rw [otherSlot])) rfl hp (cellC_of (off17_eq i) _)) $$ HC
  iintro HC
  iapply (issueS c T X bd hk ((off21_eq i k h32).trans (by rw [otherSlot])) rfl hp (cellS_of (off20_eq i) _)) $$ HS
  iintro HS
  iapply (issueR c T X bd hk ((off23_eq i k h32).trans (by rw [otherSlot])) rfl hp (cellR_of (off20_eq i) _)) $$ HR
  iintro HR
  sl_step
  isplitl [HT]; · iexact HT
  isplitl [HC]; · iexact HC
  isplitl [HS]; · iexact HS
  iexact HR

/-- One trip of the loop that waits. -/
theorem step5 (v : Elt F .i32) (hv : v = len L (pt i)) (hw : k0_chk7 i v) (k : Fin (k0_t5_loop v).trips) :
    iprop(tab c T ∗ Fly c T X (pt i % 2) (pt i) (np L (pt i)) (np L (pt i)) k.val ∗ ∃ W, owes (c : Thread nD τ) 0 W)
      ⊢ wp frame (wpE (defs₀ (F := F)) Variants.none (c : Thread nD τ) bd) Set.univ
        (k0_t5_body i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 v hw k ())
        (fun _ => iprop(tab c T ∗ Fly c T X (pt i % 2) (pt i) (np L (pt i)) (np L (pt i)) (k.val + 1) ∗ ∃ W, owes (c : Thread nD τ) 0 W)) := by
  subst hv
  have hle := G.le (ixL (pt i))
  have hk : k.val < np L (pt i) := lt_of_lt_of_eq k.isLt (copy_trips hle)
  have h32 : k.val < 32 := copy_lt hle k
  unfold k0_t5_body
  iintro ⟨HT, HF, ⟨%W, HO⟩⟩
  dsimp only
  iapply (readTab c T bd (off35_eq i k h32) (pt_lt i) h32) $$ HT
  iintro HT
  iapply (check (c : Thread nD τ) Variants.none bd (chk8 (G.page _)))
  unfold Fly
  icases HF with ⟨HC, HS, HR⟩
  iapply (awaitC c T X bd hk (cellC_of (off36_eq i) _)) $$ [HC HO]
  · isplitl [HC]; · iexact HC
    iexact HO
  iintro ⟨HC, HO⟩
  iapply (awaitS c T X bd hk (cellS_of (off39_eq i) _)) $$ [HS HO]
  · isplitl [HS]; · iexact HS
    iexact HO
  iintro ⟨HS, HO⟩
  iapply (awaitR c T X bd hk (cellR_of (off39_eq i) _)) $$ [HR HO]
  · isplitl [HR]; · iexact HR
    iexact HO
  iintro ⟨HR, HO⟩
  sl_step
  isplitl [HT]; · iexact HT
  isplitr [HO]
  · isplitl [HC]; · iexact HC
    isplitl [HS]; · iexact HS
    iexact HR
  iexists _
  iexact HO

end Cert.KernelIdeal.Hand
-- ==== Proof.KI.Loads.lean ====
/-
  What the compute loops read and write: windows of the landed slot, and planes of the buffer of scores.
-/
module

public import proofs.«01_k».proof.Proof.KI.Copies

@[expose] public section

noncomputable section

namespace Cert.KernelIdeal.Hand

open Idealize.ShloMosaic Idealize.ShloMosaic.TcCoe Idealize.ShloMosaic.Tactic Cert.KernelIdeal Cert.KernelIdeal.Gen Cert.Words Cert.Pages
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the counters of the transfers. -/
local notation "𝕄" => MT nD τ sig Unit (Elt F) ℕ (Pipeline.UD sig nD τ) ℕ

variable (c : Dev nD) (T : Tab) (L : Lens) (X : Pools F)

/-! ## Indices of the buffers -/

def jC (s p d : ℕ) : S2x2048x512.Idx := fun a => ⟨![s % 2, p % 2048, d % 512] a, by fin_cases a <;> simp [Shape.size] <;> omega⟩
def jS (s p g r : ℕ) : S2x32x4x64.Idx := fun a => ⟨![s % 2, p % 32, g % 4, r % 64] a, by fin_cases a <;> simp [Shape.size] <;> omega⟩
def jR (s p d : ℕ) : S2x2048x64.Idx := fun a => ⟨![s % 2, p % 2048, d % 64] a, by fin_cases a <;> simp [Shape.size] <;> omega⟩
def jB (k h t : ℕ) : S8x32x256.Idx := fun a => ⟨![k % 8, h % 32, t % 256] a, by fin_cases a <;> simp [Shape.size] <;> omega⟩

/-! ## The windows -/

/-- Block `k` of slot `s`, 128 columns of codes from column `d`. -/
def rdC (f : S2x2048x512.Idx → Elt F .fp8e4m3) (s k d : ℕ) : Vec F S1x256x128 .fp8e4m3 := fun y => f (jC s (256 * k + (y 1).val) (d + (y 2).val))
/-- The scales of group `g` of page `p`. -/
def rdS (f : S2x32x4x64.Idx → Elt F .f32) (s p g : ℕ) : Vec F S1x1x1x64 .f32 := fun y => f (jS s p g (y 3).val)
/-- Block `k` of slot `s`, the rope keys. -/
def rdR (f : S2x2048x64.Idx → Elt F .bf16) (s k : ℕ) : Vec F S1x256x64 .bf16 := fun y => f (jR s (256 * k + (y 1).val) (y 2).val)
/-- Plane `k` of the scores. -/
def rdB (f : S8x32x256.Idx → Elt F .f32) (k : ℕ) : Vec F S1x32x256 .f32 := fun y => f (jB k (y 1).val (y 2).val)
/-- The scores with plane `k` replaced. -/
def putB (f : S8x32x256.Idx → Elt F .f32) (k : ℕ) (w : Vec F S1x32x256 .f32) : S8x32x256.Idx → Elt F .f32 := fun y =>
  if (y 0).val = k then w (fun a => ⟨![0, (y 1).val, (y 2).val] a, by
    have h1 : (y 1).val < 32 := (y 1).isLt
    have h2 : (y 2).val < 256 := (y 2).isLt
    fin_cases a <;> simp [Shape.size] <;> assumption⟩) else f y

/-- Reading a block of scores that was just written. -/
theorem rdB_put {f : S8x32x256.Idx → Elt F .f32} {k : ℕ} (hk : k < 8) (w : Vec F S1x32x256 .f32) : rdB (putB f k w) k = w := by
  funext y
  have h0 : (y 0).val < 1 := (y 0).isLt
  have h1 : (y 1).val < 32 := (y 1).isLt
  have h2 : (y 2).val < 256 := (y 2).isLt
  unfold rdB putB
  refine (if_pos (show k % 8 = k from Nat.mod_eq_of_lt hk)).trans ?_
  congr 1
  funext a
  apply Fin.ext
  match a with
  | ⟨0, _⟩ => show 0 = (y 0).val; omega
  | ⟨1, _⟩ => show (y 1).val % 32 = (y 1).val; omega
  | ⟨2, _⟩ => show (y 2).val % 256 = (y 2).val; omega
/-- Writing one block of scores leaves the others. -/
theorem rdB_put_ne {f : S8x32x256.Idx → Elt F .f32} {j k : ℕ} (hj : j < 8) (h : j ≠ k) (w : Vec F S1x32x256 .f32) : rdB (putB f k w) j = rdB f j := by
  funext y
  unfold rdB putB
  exact if_neg (show ¬ j % 8 = k by rw [Nat.mod_eq_of_lt hj]; exact h)

/-! ## The landed slot -/

/-- The landed pages of sequence `b` in slot `s`. -/
def slotC (s b n : ℕ) : sProp 𝕄 := (c : Thread nD τ).loc cc0_scratch0 ↦[upTo (planC c T X.codes s b) n]{fullShare} (gC T X.codes b)
def slotS (s b n : ℕ) : sProp 𝕄 := (c : Thread nD τ).loc cc0_scratch1 ↦[upTo (planS c T X.scales s b) n]{fullShare} (gS T X.scales b)
def slotR (s b n : ℕ) : sProp 𝕄 := (c : Thread nD τ).loc cc0_scratch2 ↦[upTo (planR c T X.ropes s b) n]{fullShare} (gR T X.ropes b)
/-- The buffer of scores. -/
def scores (f : S8x32x256.Idx → Elt F .f32) : sProp 𝕄 := (c : Thread nD τ).loc cc0_scratch3 ↦{fullShare} f

section Steps

variable {α : Type} {Q : α → sProp (MT nD τ sig Unit (Elt F) ℕ (Pipeline.UD sig nD τ) ℕ)} (bd : Option Variants.none.V)

/-- A load of codes. -/
theorem ldC {k : Vec F S1x256x128 .fp8e4m3 → Prog (TpuEff nD τ sig (Elt F) Λ₀ .tc) α} {s b n j d : ℕ} (hs : s < 2) (hj : j < 8) (hn : 4 * j + 4 ≤ n) (hd : d + 128 ≤ 512)
    {o : Fin 3 → ℕ} (e : o = ![s, 256 * j, d]) {hi hl} :
    slotC c T X s b n ⊢ iprop((slotC c T X s b n -∗ wp frame (wpE (defs₀ (F := F)) Variants.none (c : Thread nD τ) bd) Set.univ (k (rdC (gC T X.codes b) s j d)) Q)
      -∗ wp frame (wpE (defs₀ (F := F)) Variants.none (c : Thread nD τ) bd) Set.univ
          (Prog.lift (.load (Memref.whole cc0_scratch0) (Rect.unit (s := S2x2048x512) o S1x256x128.size hi).toLoadRect hl) >>= k) Q) := by
  subst e
  refine loadWin (m := Memref.whole cc0_scratch0) (r := Rect.unit (s := S2x2048x512) ![s, 256 * j, d] S1x256x128.size hi) (hl := hl) (k := k)
    (f := gC T X.codes b) (v := rdC (gC T X.codes b) s j d) (c : Thread nD τ) Variants.none bd ?_ ?_
  · funext y
    refine congrArg (gC T X.codes b) (funext fun a => Fin.ext ?_)
    have h0 : (y 0).val < 1 := (y 0).isLt
    have h1 : (y 1).val < 256 := (y 1).isLt
    have h2 : (y 2).val < 128 := (y 2).isLt
    match a with
    | ⟨0, _⟩ => show s + 1 * (y 0).val = s % 2; omega
    | ⟨1, _⟩ => show 256 * j + 1 * (y 1).val = (256 * j + (y 1).val) % 2048; omega
    | ⟨2, _⟩ => show d + 1 * (y 2).val = (d + (y 2).val) % 512; omega
  intro y hy
  have hy := (View.set_slice_whole cc0_scratch0 _ ▸ hy : y ∈ (Rect.unit (s := S2x2048x512) ![s, 256 * j, d] S1x256x128.size hi).set)
  rw [Rect.mem_set_unit] at hy
  have h0 : s ≤ (y 0).val ∧ (y 0).val < s + 1 := hy 0
  have h1 : 256 * j ≤ (y 1).val ∧ (y 1).val < 256 * j + 256 := hy 1
  exact (upToC c T X.codes s b n y).mpr ⟨by omega, by omega⟩

/-- A load of scales. -/
theorem ldS {k : Vec F S1x1x1x64 .f32 → Prog (TpuEff nD τ sig (Elt F) Λ₀ .tc) α} {s b n p g : ℕ} (hs : s < 2) (hp : p < 32) (hn : p < n) (hg : g < 4)
    {o : Fin 4 → ℕ} (e : o = ![s, p, g, 0]) {hi hl} :
    slotS c T X s b n ⊢ iprop((slotS c T X s b n -∗ wp frame (wpE (defs₀ (F := F)) Variants.none (c : Thread nD τ) bd) Set.univ (k (rdS (gS T X.scales b) s p g)) Q)
      -∗ wp frame (wpE (defs₀ (F := F)) Variants.none (c : Thread nD τ) bd) Set.univ
          (Prog.lift (.load (Memref.whole cc0_scratch1) (Rect.unit (s := S2x32x4x64) o S1x1x1x64.size hi).toLoadRect hl) >>= k) Q) := by
  subst e
  refine loadWin (m := Memref.whole cc0_scratch1) (r := Rect.unit (s := S2x32x4x64) ![s, p, g, 0] S1x1x1x64.size hi) (hl := hl) (k := k)
    (f := gS T X.scales b) (v := rdS (gS T X.scales b) s p g) (c : Thread nD τ) Variants.none bd ?_ ?_
  · funext y
    refine congrArg (gS T X.scales b) (funext fun a => Fin.ext ?_)
    have h0 : (y 0).val < 1 := (y 0).isLt
    have h1 : (y 1).val < 1 := (y 1).isLt
    have h2 : (y 2).val < 1 := (y 2).isLt
    have h3 : (y 3).val < 64 := (y 3).isLt
    match a with
    | ⟨0, _⟩ => show s + 1 * (y 0).val = s % 2; omega
    | ⟨1, _⟩ => show p + 1 * (y 1).val = p % 32; omega
    | ⟨2, _⟩ => show g + 1 * (y 2).val = g % 4; omega
    | ⟨3, _⟩ => show 0 + 1 * (y 3).val = (y 3).val % 64; omega
  intro y hy
  have hy := (View.set_slice_whole cc0_scratch1 _ ▸ hy : y ∈ (Rect.unit (s := S2x32x4x64) ![s, p, g, 0] S1x1x1x64.size hi).set)
  rw [Rect.mem_set_unit] at hy
  have h0 : s ≤ (y 0).val ∧ (y 0).val < s + 1 := hy 0
  have h1 : p ≤ (y 1).val ∧ (y 1).val < p + 1 := hy 1
  exact (upToS c T X.scales s b n y).mpr ⟨by omega, by omega⟩

/-- A load of rope keys. -/
theorem ldR {k : Vec F S1x256x64 .bf16 → Prog (TpuEff nD τ sig (Elt F) Λ₀ .tc) α} {s b n j : ℕ} (hs : s < 2) (hj : j < 8) (hn : 4 * j + 4 ≤ n)
    {o : Fin 3 → ℕ} (e : o = ![s, 256 * j, 0]) {hi hl} :
    slotR c T X s b n ⊢ iprop((slotR c T X s b n -∗ wp frame (wpE (defs₀ (F := F)) Variants.none (c : Thread nD τ) bd) Set.univ (k (rdR (gR T X.ropes b) s j)) Q)
      -∗ wp frame (wpE (defs₀ (F := F)) Variants.none (c : Thread nD τ) bd) Set.univ
          (Prog.lift (.load (Memref.whole cc0_scratch2) (Rect.unit (s := S2x2048x64) o S1x256x64.size hi).toLoadRect hl) >>= k) Q) := by
  subst e
  refine loadWin (m := Memref.whole cc0_scratch2) (r := Rect.unit (s := S2x2048x64) ![s, 256 * j, 0] S1x256x64.size hi) (hl := hl) (k := k)
    (f := gR T X.ropes b) (v := rdR (gR T X.ropes b) s j) (c : Thread nD τ) Variants.none bd ?_ ?_
  · funext y
    refine congrArg (gR T X.ropes b) (funext fun a => Fin.ext ?_)
    have h0 : (y 0).val < 1 := (y 0).isLt
    have h1 : (y 1).val < 256 := (y 1).isLt
    have h2 : (y 2).val < 64 := (y 2).isLt
    match a with
    | ⟨0, _⟩ => show s + 1 * (y 0).val = s % 2; omega
    | ⟨1, _⟩ => show 256 * j + 1 * (y 1).val = (256 * j + (y 1).val) % 2048; omega
    | ⟨2, _⟩ => show 0 + 1 * (y 2).val = (y 2).val % 64; omega
  intro y hy
  have hy := (View.set_slice_whole cc0_scratch2 _ ▸ hy : y ∈ (Rect.unit (s := S2x2048x64) ![s, 256 * j, 0] S1x256x64.size hi).set)
  rw [Rect.mem_set_unit] at hy
  have h0 : s ≤ (y 0).val ∧ (y 0).val < s + 1 := hy 0
  have h1 : 256 * j ≤ (y 1).val ∧ (y 1).val < 256 * j + 256 := hy 1
  exact (upToR c T X.ropes s b n y).mpr ⟨by omega, by omega⟩

/-- A load of a plane of scores. -/
theorem ldB {k : Vec F S1x32x256 .f32 → Prog (TpuEff nD τ sig (Elt F) Λ₀ .tc) α} {f : S8x32x256.Idx → Elt F .f32} {j : ℕ} (hj : j < 8)
    {o : Fin 3 → ℕ} (e : o = ![j, 0, 0]) {hi hl} :
    scores c f ⊢ iprop((scores c f -∗ wp frame (wpE (defs₀ (F := F)) Variants.none (c : Thread nD τ) bd) Set.univ (k (rdB f j)) Q)
      -∗ wp frame (wpE (defs₀ (F := F)) Variants.none (c : Thread nD τ) bd) Set.univ
          (Prog.lift (.load (Memref.whole cc0_scratch3) (Rect.unit (s := S8x32x256) o S1x32x256.size hi).toLoadRect hl) >>= k) Q) := by
  subst e
  refine loadWin (m := Memref.whole cc0_scratch3) (r := Rect.unit (s := S8x32x256) ![j, 0, 0] S1x32x256.size hi) (hl := hl) (k := k)
    (f := f) (v := rdB f j) (c : Thread nD τ) Variants.none bd ?_ (Finset.subset_univ _)
  funext y
  refine congrArg f (funext fun a => Fin.ext ?_)
  have h0 : (y 0).val < 1 := (y 0).isLt
  have h1 : (y 1).val < 32 := (y 1).isLt
  have h2 : (y 2).val < 256 := (y 2).isLt
  match a with
  | ⟨0, _⟩ => show j + 1 * (y 0).val = j % 8; omega
  | ⟨1, _⟩ => show 0 + 1 * (y 1).val = (y 1).val % 32; omega
  | ⟨2, _⟩ => show 0 + 1 * (y 2).val = (y 2).val % 256; omega

/-- A store of a plane of scores. -/
theorem stB {k : PUnit → Prog (TpuEff nD τ sig (Elt F) Λ₀ .tc) α} {f : S8x32x256.Idx → Elt F .f32} {j : ℕ} (hj : j < 8)
    {w : Vec F S1x32x256 .f32} {o : Fin 3 → ℕ} (e : o = ![j, 0, 0]) {hi hx hm} :
    scores c f ⊢ iprop((scores c (putB f j w) -∗ wp frame (wpE (defs₀ (F := F)) Variants.none (c : Thread nD τ) bd) Set.univ (k ⟨⟩) Q)
      -∗ wp frame (wpE (defs₀ (F := F)) Variants.none (c : Thread nD τ) bd) Set.univ
          (Prog.lift (.store (Memref.whole cc0_scratch3) (Rect.unit (s := S8x32x256) o S1x32x256.size hi) w Finset.univ hx hm) >>= k) Q) := by
  subst e
  refine storeWin (m := Memref.whole cc0_scratch3) (r := Rect.unit (s := S8x32x256) ![j, 0, 0] S1x32x256.size hi) (hx := hx) (hm := hm) (k := k)
    (f := f) (g := putB f j w) (w := w) (c : Thread nD τ) Variants.none bd ?_
  funext y
  have h1 : (y 1).val < 32 := (y 1).isLt
  have h2 : (y 2).val < 256 := (y 2).isLt
  by_cases h : (y 0).val = j
  · have hy : ((Memref.whole cc0_scratch3).access (Rect.unit (s := S8x32x256) ![j, 0, 0] S1x32x256.size hi)).emb
        (fun a => ⟨![0, (y 1).val, (y 2).val] a, by fin_cases a <;> simp [Shape.size] <;> assumption⟩) = y := by
      refine funext fun a => Fin.ext ?_
      match a with
      | ⟨0, _⟩ => show j + 1 * 0 = (y 0).val; omega
      | ⟨1, _⟩ => show 0 + 1 * (y 1).val = (y 1).val; omega
      | ⟨2, _⟩ => show 0 + 1 * (y 2).val = (y 2).val; omega
    refine Eq.trans ?_ (if_pos h).symm
    conv_lhs => rw [← hy]
    exact View.write_emb_of_mem _ _ (Finset.mem_univ _)
  · have hn : y ∉ ((Memref.whole cc0_scratch3).access (Rect.unit (s := S8x32x256) ![j, 0, 0] S1x32x256.size hi)).setOn Finset.univ := by
      intro hy
      have hy := (View.set_slice_whole cc0_scratch3 _ ▸ hy : y ∈ (Rect.unit (s := S8x32x256) ![j, 0, 0] S1x32x256.size hi).set)
      rw [Rect.mem_set_unit] at hy
      have h0 : j ≤ (y 0).val ∧ (y 0).val < j + 1 := hy 0
      omega
    have hf : putB f j w y = f y := if_neg h
    rw [hf]
    exact View.write_of_not_mem (v := (Memref.whole cc0_scratch3).access (Rect.unit (s := S8x32x256) ![j, 0, 0] S1x32x256.size hi)) f w Finset.univ hn

end Steps

end Cert.KernelIdeal.Hand
-- ==== Proof.KI.Compute.lean ====
/-
  The three compute loops: scores and their running maximum, exponentials and their sum, weighted values.
-/
module

public import proofs.«01_k».proof.Proof.KI.Loads

@[expose] public section

noncomputable section

namespace Cert.KernelIdeal.Hand

open Idealize.ShloMosaic Idealize.ShloMosaic.TcCoe Idealize.ShloMosaic.Tactic Cert.KernelIdeal Cert.KernelIdeal.Gen Cert.Words Cert.Pages
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the counters of the transfers. -/
local notation "𝕄" => MT nD τ sig Unit (Elt F) ℕ (Pipeline.UD sig nD τ) ℕ

variable (c : Dev nD) (T : Tab) (L : Lens) (X : Pools F)

/-! ## What the loops compute -/

section Values

variable (s b : ℕ) (len : Elt F .i32) (q : FVec F S32x512 .bf16) (qr : FVec F S32x64 .bf16)

/-- The scores of block `k` of sequence `b`, the codes scaled page by page and group by group. -/
def blk (k : ℕ) : FVec F S32x256 .f32 :=
  let C d := rdC (gC T X.codes b) s k d
  let S r g := rdS (gS T X.scales b) s (4 * k + r) g
  let R := rdR (gR T X.ropes b) s k
  let g01 := k0_pay8 q (k0_pay2 qr R) (k0_pay3 q (C 0)) (k0_pay4 (S 0 0)) (k0_pay5 (S 1 0)) (k0_pay6 (S 2 0)) (k0_pay7 (S 3 0))
    (C 128) (S 0 1) (S 1 1) (S 2 1) (S 3 1)
  k0_pay12 len (Scf.iv 0#32 1#32 k) (k0_pay10 g01 (k0_pay9 q) (C 256) (S 0 2) (S 1 2) (S 2 2) (S 3 2)) (k0_pay11 q (C 384))
    (S 0 3) (S 1 3) (S 2 3) (S 3 3)

/-- The running maximum after `k` blocks. -/
def mx (a : FVec F S32x1 .f32) : ℕ → FVec F S32x1 .f32
  | 0 => a
  | k + 1 => k0_pay43 (mx a k) (blk T X s b len q qr k)

variable (m : FVec F S32x1 .f32)

/-- The exponentials of block `k` against the maximum `m`. -/
def ex (k : ℕ) : FVec F S1x32x256 .f32 := k0_pay49 m (k0_pay42 (blk T X s b len q qr k))

/-- The sum of the exponentials of `k` blocks. -/
def sm (a : FVec F S32x1 .f32) : ℕ → FVec F S32x1 .f32
  | 0 => a
  | k + 1 => k0_pay50 m (sm a k) (k0_pay42 (blk T X s b len q qr k))

variable (w : FVec F S32x1 .f32)

/-- The weighted values of block `k` with normaliser `w`, added to `a`. -/
def vals (a : FVec F S32x512 .f32) (k : ℕ) : FVec F S32x512 .f32 :=
  let C d := rdC (gC T X.codes b) s k d
  let S r g := rdS (gS T X.scales b) s (4 * k + r) g
  let e := ex T X s b len q qr m k
  let p := k0_pay24 w e
  k0_pay56 a p (k0_pay26 (k0_pay25 w e (S 0 0) (S 1 0) (S 2 0) (S 3 0)) (C 0))
    (k0_pay27 p (S 0 1) (S 1 1) (S 2 1) (S 3 1) (C 128)) (k0_pay28 p (S 0 2) (S 1 2) (S 2 2) (S 3 2) (C 256))
    (k0_pay29 (S 0 3)) (S 1 3) (S 2 3) (S 3 3) (C 384)

/-- The weighted values of `k` blocks. -/
def av (a : FVec F S32x512 .f32) : ℕ → FVec F S32x512 .f32
  | 0 => a
  | k + 1 => vals T X s b len q qr m w (av a k) k

end Values

/-- The landed slot of sequence `b`. -/
def slots (s b n : ℕ) : sProp 𝕄 := iprop(slotC c T X s b n ∗ slotS c T X s b n ∗ slotR c T X s b n)

section Steps

variable (i : grid0.Coords) (G : Good T L) (bd : Option Variants.none.V)
variable (arg3 : Memref sig .tc .vmem S1x32x512 .bf16) (harg3 : arg3.IsWhole) (arg4 : Memref sig .tc .vmem S1x32x64 .bf16) (harg4 : arg4.IsWhole)
  (arg5 : Memref sig .tc .vmem S1x1x512 .bf16) (harg5 : arg5.IsWhole) (arg6 : Memref sig .tc .vmem S1x1x64 .bf16) (harg6 : arg6.IsWhole)
  (arg10 : Memref sig .tc .vmem S1x32x512 .bf16) (harg10 : arg10.IsWhole)
variable (v0 : BitVec 32) (v36 : Elt F .i32) (v38 : FVec F S32x512 .bf16) (v40 : FVec F S32x64 .bf16) (v61 : BitVec 32)
  (v65 : FVec F S1x512 .f32) (v69 : FVec F S32x1 .f32) (v70 : FVec F S32x64 .f32) (v71 : Vec F S1x1x64 .bf16) (v87 v97 : FVec F S32x1 .f32)

/-- The state of the loop of scores before trip `k`. -/
def I7 (a : FVec F S32x1 .f32) (k : ℕ) (acc : FVec F S32x1 .f32) : sProp 𝕄 :=
  iprop(slots c T X (pt i % 2) (pt i) (np L (pt i)) ∗ ∃ f, scores c f ∗
    ⌜acc = mx T X (pt i % 2) (pt i) v36 v38 v40 a k ∧ ∀ j < k, rdB f j = k0_pay42 (blk T X (pt i % 2) (pt i) v36 v38 v40 j)⌝)

include G in
/-- One trip of the loop of scores. -/
theorem step7 (a : FVec F S32x1 .f32) (v : Elt F .i32) (hv : v = len L (pt i)) (hw : k0_chk10 i v) (k : Fin (k0_t7_loop v).trips) (acc : FVec F S32x1 .f32) :
    I7 c T L X i v36 v38 v40 a k.val acc
      ⊢ wp frame (wpE (defs₀ (F := F)) Variants.none (c : Thread nD τ) bd) Set.univ
        (k0_t7_body i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 v0 v36 v38 v40 v hw v61 v65 v69 v70 k acc)
        (fun acc => I7 c T L X i v36 v38 v40 a (k.val + 1) acc) := by
  subst hv
  have hle := G.le (ixL (pt i))
  have h8 : k.val < 8 := blk_lt hle k
  have hn : 4 * k.val + 4 ≤ np L (pt i) := by
    have h : k.val < nblk (len L (pt i)) := lt_of_lt_of_eq k.isLt (blk_trips hle).1
    unfold np
    omega
  have hs := slot_lt i
  unfold I7 slots
  iintro ⟨⟨HC, HS, HR⟩, ⟨%f, HB, %hf⟩⟩
  simp only [k0_t7_body, k0_part1_eq_skeleton, k0_part2_eq_skeleton, k0_part3_eq_skeleton, k0_part4_eq_skeleton, k0_part1_skel, k0_part2_skel, k0_part3_skel, k0_part4_skel, bind_assoc, pure_bind]
  iapply (ldR c T X bd hs h8 hn (off54_eq i k h8)) $$ HR
  iintro HR
  iapply (ldC c T X bd hs h8 hn (by omega : 0 + 128 ≤ 512) (off55_eq i k h8)) $$ HC
  iintro HC
  iapply (ldS c T X bd hs (by omega : 4 * k.val + (0 : Fin 4).val < 32) (by omega) (by omega : 0 < 4) (off56_eq i k h8 0)) $$ HS
  iintro HS
  iapply (ldS c T X bd hs (by omega : 4 * k.val + (1 : Fin 4).val < 32) (by omega) (by omega : 0 < 4) (off56_eq i k h8 1)) $$ HS
  iintro HS
  iapply (ldS c T X bd hs (by omega : 4 * k.val + (2 : Fin 4).val < 32) (by omega) (by omega : 0 < 4) (off56_eq i k h8 2)) $$ HS
  iintro HS
  iapply (ldS c T X bd hs (by omega : 4 * k.val + (3 : Fin 4).val < 32) (by omega) (by omega : 0 < 4) (off56_eq i k h8 3)) $$ HS
  iintro HS
  iapply (ldC c T X bd hs h8 hn (by omega : 128 + 128 ≤ 512) (off57_eq i k h8)) $$ HC
  iintro HC
  iapply (ldS c T X bd hs (by omega : 4 * k.val + (0 : Fin 4).val < 32) (by omega) (by omega : 1 < 4) (off58_eq i k h8 0)) $$ HS
  iintro HS
  iapply (ldS c T X bd hs (by omega : 4 * k.val + (1 : Fin 4).val < 32) (by omega) (by omega : 1 < 4) (off58_eq i k h8 1)) $$ HS
  iintro HS
  iapply (ldS c T X bd hs (by omega : 4 * k.val + (2 : Fin 4).val < 32) (by omega) (by omega : 1 < 4) (off58_eq i k h8 2)) $$ HS
  iintro HS
  iapply (ldS c T X bd hs (by omega : 4 * k.val + (3 : Fin 4).val < 32) (by omega) (by omega : 1 < 4) (off58_eq i k h8 3)) $$ HS
  iintro HS
  iapply (ldC c T X bd hs h8 hn (by omega : 256 + 128 ≤ 512) (off59_eq i k h8)) $$ HC
  iintro HC
  iapply (ldS c T X bd hs (by omega : 4 * k.val + (0 : Fin 4).val < 32) (by omega) (by omega : 2 < 4) (off60_eq i k h8 0)) $$ HS
  iintro HS
  iapply (ldS c T X bd hs (by omega : 4 * k.val + (1 : Fin 4).val < 32) (by omega) (by omega : 2 < 4) (off60_eq i k h8 1)) $$ HS
  iintro HS
  iapply (ldS c T X bd hs (by omega : 4 * k.val + (2 : Fin 4).val < 32) (by omega) (by omega : 2 < 4) (off60_eq i k h8 2)) $$ HS
  iintro HS
  iapply (ldS c T X bd hs (by omega : 4 * k.val + (3 : Fin 4).val < 32) (by omega) (by omega : 2 < 4) (off60_eq i k h8 3)) $$ HS
  iintro HS
  iapply (ldC c T X bd hs h8 hn (by omega : 384 + 128 ≤ 512) (off61_eq i k h8)) $$ HC
  iintro HC
  iapply (ldS c T X bd hs (by omega : 4 * k.val + (0 : Fin 4).val < 32) (by omega) (by omega : 3 < 4) (off62_eq i k h8 0)) $$ HS
  iintro HS
  iapply (ldS c T X bd hs (by omega : 4 * k.val + (1 : Fin 4).val < 32) (by omega) (by omega : 3 < 4) (off62_eq i k h8 1)) $$ HS
  iintro HS
  iapply (ldS c T X bd hs (by omega : 4 * k.val + (2 : Fin 4).val < 32) (by omega) (by omega : 3 < 4) (off62_eq i k h8 2)) $$ HS
  iintro HS
  iapply (ldS c T X bd hs (by omega : 4 * k.val + (3 : Fin 4).val < 32) (by omega) (by omega : 3 < 4) (off62_eq i k h8 3)) $$ HS
  iintro HS
  iapply (ldB c bd h8 (off63_eq k h8)) $$ HB
  iintro HB
  iapply (stB c bd h8 (off63_eq k h8)) $$ HB
  iintro HB
  sl_step
  isplitl [HC HS HR]
  · isplitl [HC]; · iexact HC
    isplitl [HS]; · iexact HS
    iexact HR
  iexists _
  isplitl [HB]; · iexact HB
  ipureintro
  refine ⟨by rw [hf.1]; rfl, fun j hj => ?_⟩
  rcases Nat.lt_succ_iff_lt_or_eq.mp hj with h | h
  · exact (rdB_put_ne (by omega) (by omega) _).trans (hf.2 j h)
  · subst h
    exact rdB_put h8 _

/-- The state of the loop of exponentials before trip `k` of `n`. -/
def I9 (n : ℕ) (a : FVec F S32x1 .f32) (k : ℕ) (acc : FVec F S32x1 .f32) : sProp 𝕄 :=
  iprop(∃ f, scores c f ∗
    ⌜acc = sm T X (pt i % 2) (pt i) v36 v38 v40 v87 a k ∧ (∀ j < k, rdB f j = ex T X (pt i % 2) (pt i) v36 v38 v40 v87 j)
      ∧ ∀ j, k ≤ j → j < n → rdB f j = k0_pay42 (blk T X (pt i % 2) (pt i) v36 v38 v40 j)⌝)

include G in
/-- One trip of the loop of exponentials. -/
theorem step9 (a : FVec F S32x1 .f32) (v : Elt F .i32) (hv : v = len L (pt i)) (hw : k0_chk10 i v) (k : Fin (k0_t9_loop v).trips) (acc : FVec F S32x1 .f32) :
    I9 c T X i v36 v38 v40 v87 (nblk (len L (pt i))) a k.val acc
      ⊢ wp frame (wpE (defs₀ (F := F)) Variants.none (c : Thread nD τ) bd) Set.univ
        (k0_t9_body i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 v0 v36 v38 v40 v hw v61 v65 v69 v70 v87 k acc)
        (fun acc => I9 c T X i v36 v38 v40 v87 (nblk (len L (pt i))) a (k.val + 1) acc) := by
  subst hv
  have hle := G.le (ixL (pt i))
  have h8 : k.val < 8 := blk_lt hle k
  have hb8 := nblk_le hle
  have hk : k.val < nblk (len L (pt i)) := lt_of_lt_of_eq k.isLt (blk_trips hle).1
  unfold I9
  iintro ⟨%f, HB, %hf⟩
  obtain ⟨h1, h2, h3⟩ := hf
  simp only [k0_t9_body, bind_assoc, pure_bind]
  iapply (ldB c bd h8 (off74_eq k h8)) $$ HB
  iintro HB
  iapply (ldB c bd h8 (off74_eq k h8)) $$ HB
  iintro HB
  iapply (stB c bd h8 (off74_eq k h8)) $$ HB
  iintro HB
  sl_step
  iexists _
  isplitl [HB]; · iexact HB
  ipureintro
  refine ⟨by rw [h1, h3 k.val le_rfl hk]; rfl, fun j hj => ?_, fun j hj hn => ?_⟩
  · rcases Nat.lt_succ_iff_lt_or_eq.mp hj with h | h
    · exact (rdB_put_ne (by omega) (by omega) _).trans (h2 j h)
    · subst h
      rw [rdB_put h8, h3 k.val le_rfl hk]
      rfl
  · have : nblk (len L (pt i)) ≤ 8 := hb8
    exact (rdB_put_ne (by omega) (by omega) _).trans (h3 j (by omega) hn)

/-- The state of the loop of values before trip `k` of `n`. -/
def I11 (n : ℕ) (w : FVec F S32x1 .f32) (a : FVec F S32x512 .f32) (k : ℕ) (acc : FVec F S32x512 .f32) : sProp 𝕄 :=
  iprop(slots c T X (pt i % 2) (pt i) (np L (pt i)) ∗ ∃ f, scores c f ∗
    ⌜acc = av T X (pt i % 2) (pt i) v36 v38 v40 v87 w a k ∧ ∀ j < n, rdB f j = ex T X (pt i % 2) (pt i) v36 v38 v40 v87 j⌝)

include G in
/-- One trip of the loop of values. -/
theorem step11 (a : FVec F S32x512 .f32) (v : Elt F .i32) (hv : v = len L (pt i)) (hw : k0_chk10 i v) (k : Fin (k0_t11_loop v).trips) (acc : FVec F S32x512 .f32) :
    I11 c T L X i v36 v38 v40 v87 (nblk (len L (pt i))) (k0_pay54 v69 v70 v71 v87 v97) a k.val acc
      ⊢ wp frame (wpE (defs₀ (F := F)) Variants.none (c : Thread nD τ) bd) Set.univ
        (k0_t11_body i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 v0 v36 v38 v40 v hw v61 v65 v69 v70 v71 v87 v97 k acc)
        (fun acc => I11 c T L X i v36 v38 v40 v87 (nblk (len L (pt i))) (k0_pay54 v69 v70 v71 v87 v97) a (k.val + 1) acc) := by
  subst hv
  have hle := G.le (ixL (pt i))
  have h8 : k.val < 8 := blk_lt hle k
  have hk : k.val < nblk (len L (pt i)) := lt_of_lt_of_eq k.isLt (blk_trips hle).1
  have hn : 4 * k.val + 4 ≤ np L (pt i) := by
    unfold np
    omega
  have hs := slot_lt i
  unfold I11 slots
  iintro ⟨⟨HC, HS, HR⟩, ⟨%f, HB, %hf⟩⟩
  simp only [k0_t11_body, k0_part9_eq_skeleton, k0_part10_eq_skeleton, k0_part11_eq_skeleton, k0_part9_skel, k0_part10_skel, k0_part11_skel, bind_assoc, pure_bind]
  iapply (ldB c bd h8 (off76_eq k h8)) $$ HB
  iintro HB
  iapply (ldS c T X bd hs (by omega : 4 * k.val + (0 : Fin 4).val < 32) (by omega) (by omega : 0 < 4) (off77_eq i k h8 0)) $$ HS
  iintro HS
  iapply (ldS c T X bd hs (by omega : 4 * k.val + (1 : Fin 4).val < 32) (by omega) (by omega : 0 < 4) (off77_eq i k h8 1)) $$ HS
  iintro HS
  iapply (ldS c T X bd hs (by omega : 4 * k.val + (2 : Fin 4).val < 32) (by omega) (by omega : 0 < 4) (off77_eq i k h8 2)) $$ HS
  iintro HS
  iapply (ldS c T X bd hs (by omega : 4 * k.val + (3 : Fin 4).val < 32) (by omega) (by omega : 0 < 4) (off77_eq i k h8 3)) $$ HS
  iintro HS
  iapply (ldC c T X bd hs h8 hn (by omega : 0 + 128 ≤ 512) (off78_eq i k h8)) $$ HC
  iintro HC
  iapply (ldS c T X bd hs (by omega : 4 * k.val + (0 : Fin 4).val < 32) (by omega) (by omega : 1 < 4) (off79_eq i k h8 0)) $$ HS
  iintro HS
  iapply (ldS c T X bd hs (by omega : 4 * k.val + (1 : Fin 4).val < 32) (by omega) (by omega : 1 < 4) (off79_eq i k h8 1)) $$ HS
  iintro HS
  iapply (ldS c T X bd hs (by omega : 4 * k.val + (2 : Fin 4).val < 32) (by omega) (by omega : 1 < 4) (off79_eq i k h8 2)) $$ HS
  iintro HS
  iapply (ldS c T X bd hs (by omega : 4 * k.val + (3 : Fin 4).val < 32) (by omega) (by omega : 1 < 4) (off79_eq i k h8 3)) $$ HS
  iintro HS
  iapply (ldC c T X bd hs h8 hn (by omega : 128 + 128 ≤ 512) (off80_eq i k h8)) $$ HC
  iintro HC
  iapply (ldS c T X bd hs (by omega : 4 * k.val + (0 : Fin 4).val < 32) (by omega) (by omega : 2 < 4) (off81_eq i k h8 0)) $$ HS
  iintro HS
  iapply (ldS c T X bd hs (by omega : 4 * k.val + (1 : Fin 4).val < 32) (by omega) (by omega : 2 < 4) (off81_eq i k h8 1)) $$ HS
  iintro HS
  iapply (ldS c T X bd hs (by omega : 4 * k.val + (2 : Fin 4).val < 32) (by omega) (by omega : 2 < 4) (off81_eq i k h8 2)) $$ HS
  iintro HS
  iapply (ldS c T X bd hs (by omega : 4 * k.val + (3 : Fin 4).val < 32) (by omega) (by omega : 2 < 4) (off81_eq i k h8 3)) $$ HS
  iintro HS
  iapply (ldC c T X bd hs h8 hn (by omega : 256 + 128 ≤ 512) (off82_eq i k h8)) $$ HC
  iintro HC
  iapply (ldS c T X bd hs (by omega : 4 * k.val + (0 : Fin 4).val < 32) (by omega) (by omega : 3 < 4) (off83_eq i k h8 0)) $$ HS
  iintro HS
  iapply (ldS c T X bd hs (by omega : 4 * k.val + (1 : Fin 4).val < 32) (by omega) (by omega : 3 < 4) (off83_eq i k h8 1)) $$ HS
  iintro HS
  iapply (ldS c T X bd hs (by omega : 4 * k.val + (2 : Fin 4).val < 32) (by omega) (by omega : 3 < 4) (off83_eq i k h8 2)) $$ HS
  iintro HS
  iapply (ldS c T X bd hs (by omega : 4 * k.val + (3 : Fin 4).val < 32) (by omega) (by omega : 3 < 4) (off83_eq i k h8 3)) $$ HS
  iintro HS
  iapply (ldC c T X bd hs h8 hn (by omega : 384 + 128 ≤ 512) (off84_eq i k h8)) $$ HC
  iintro HC
  sl_step
  isplitl [HC HS HR]
  · isplitl [HC]; · iexact HC
    isplitl [HS]; · iexact HS
    iexact HR
  iexists _
  isplitl [HB]; · iexact HB
  ipureintro
  refine ⟨by rw [hf.1, hf.2 k.val hk]; rfl, hf.2⟩

end Steps

end Cert.KernelIdeal.Hand
-- ==== Proof.KI.Body.lean ====
/-
  One grid point of the kernel: the copies of the first sequence if it is the first point, the copies of the next sequence
  unless it is the last, the waits for its own copies, the three compute loops, and the store of the result.
-/
module

public import proofs.«01_k».proof.Proof.KI.Compute

@[expose] public section

noncomputable section

namespace Cert.KernelIdeal.Hand

open Idealize.ShloMosaic Idealize.ShloMosaic.TcCoe Idealize.ShloMosaic.Tactic Cert.KernelIdeal Cert.KernelIdeal.Gen Cert.Words Cert.Pages
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the counters of the transfers. -/
local notation "𝕄" => MT nD τ sig Unit (Elt F) ℕ (Pipeline.UD sig nD τ) ℕ

/-- The counters of the transfers. -/
local notation "EC" => countersEmb (nD := nD) (U := Pipeline.UD sig nD τ)

variable (c : Dev nD) (T : Tab) (L : Lens) (X : Pools F)

/-! ## The two branches -/

/-- The first branch is taken at the first grid point, -/
theorem cond1_iff (i : grid0.Coords) : k0_cond1 i = 1#1 ↔ pt i = 0 :=
  (by decide : ∀ n : Fin 128, Scalar.cmpi .ne (Scalar.extui (Scalar.cmpi .eq (BitVec.ofNat 32 n.val) 0#32) : BitVec 32) 0#32 = 1#1 ↔ n.val = 0) (i 0)
/-- the second at every point but the last. -/
theorem cond2_iff (i : grid0.Coords) : k0_cond2 i = 1#1 ↔ pt i + 1 < 128 :=
  (by decide : ∀ n : Fin 128, Scalar.cmpi .ne (Scalar.extui (Scalar.cmpi .slt (Scalar.addi (BitVec.ofNat 32 n.val) 1#32) 128#32) : BitVec 32) 0#32 = 1#1 ↔ n.val + 1 < 128) (i 0)

/-! ## What is held between grid points -/

/-- Slot `s` with nothing in flight. -/
def Idles (s : ℕ) : sProp 𝕄 :=
  iprop(Idle (c : Thread nD τ) (cellC s) (planC c T X.codes s 0) (halfC s) ∗ Idle (c : Thread nD τ) (cellS s) (planS c T X.scales s 0) (halfS s)
    ∗ Idle (c : Thread nD τ) (cellR s) (planR c T X.ropes s 0) (halfR s))

/-- Slot `s` with the pages of sequence `b` landed. -/
def Lands (s b n : ℕ) : sProp 𝕄 :=
  iprop(Landed (c : Thread nD τ) (cellC s) (planC c T X.codes s b) n (halfC s) ∗ Landed (c : Thread nD τ) (cellS s) (planS c T X.scales s b) n (halfS s)
    ∗ Landed (c : Thread nD τ) (cellR s) (planR c T X.ropes s b) n (halfR s))

/-- What a landed slot holds beside the pages: the cells at zero, the rest of the slot, the shares of the pools. -/
def Beside (s b n : ℕ) : sProp 𝕄 :=
  iprop((semVal ((c : Thread nD τ), cellC s) 0 ∗ (∃ f : S2x2048x512.Idx → Elt F .fp8e4m3, (c : Thread nD τ).loc cc0_scratch0 ↦[halfC s \ upTo (planC c T X.codes s b) n]{fullShare} f)
      ∗ (c : Thread nD τ).loc main_arg4 ↦{Transfers.shareTokN fullShare s} X.codes)
    ∗ (semVal ((c : Thread nD τ), cellS s) 0 ∗ (∃ f : S2x32x4x64.Idx → Elt F .f32, (c : Thread nD τ).loc cc0_scratch1 ↦[halfS s \ upTo (planS c T X.scales s b) n]{fullShare} f)
      ∗ (c : Thread nD τ).loc main_v0 ↦{Transfers.shareTokN fullShare s} X.scales)
    ∗ (semVal ((c : Thread nD τ), cellR s) 0 ∗ (∃ f : S2x2048x64.Idx → Elt F .bf16, (c : Thread nD τ).loc cc0_scratch2 ↦[halfR s \ upTo (planR c T X.ropes s b) n]{fullShare} f)
      ∗ (c : Thread nD τ).loc main_arg6 ↦{Transfers.shareTokN fullShare s} X.ropes))

/-- The slot of sequence `b` before grid point `b`: its copies are started, except before the first point and after the
    last. -/
def Next (b : ℕ) : sProp 𝕄 :=
  if b = 0 ∨ 128 ≤ b then Idles c T X (b % 2) else Fly c T X (b % 2) b (np L b) (np L b) 0

/-- A page of codes has a positive size. -/
theorem NC_pos : 0 < NC := by decide
/-- A page of scales has a positive size. -/
theorem NS_pos : 0 < NS := by decide
/-- A page of rope keys has a positive size. -/
theorem NR_pos : 0 < NR := by decide

/-- An idle slot is idle for every sequence alike (codes). -/
theorem idleC (s b : ℕ) : (Idle (c : Thread nD τ) (cellC s) (planC c T X.codes s 0) (halfC s) : sProp 𝕄) = Idle (c : Thread nD τ) (cellC s) (planC c T X.codes s b) (halfC s) := by
  unfold Idle
  rfl
/-- A landed slot may be idle again (codes). -/
theorem landC (s b n : ℕ) : (Landed (c : Thread nD τ) (cellC s) (planC c T X.codes s b) n (halfC s) : sProp 𝕄) ⊢ Idle (c : Thread nD τ) (cellC s) (planC c T X.codes s 0) (halfC s) := by
  rw [idleC c T X s b]
  exact landed_idle (c : Thread nD τ) (cellC s) (planC c T X.codes s b) n (halfC s) (subC c T X.codes s b n)
/-- An idle slot is idle for every sequence alike (scales). -/
theorem idleS (s b : ℕ) : (Idle (c : Thread nD τ) (cellS s) (planS c T X.scales s 0) (halfS s) : sProp 𝕄) = Idle (c : Thread nD τ) (cellS s) (planS c T X.scales s b) (halfS s) := by
  unfold Idle
  rfl
/-- A landed slot may be idle again (scales). -/
theorem landS (s b n : ℕ) : (Landed (c : Thread nD τ) (cellS s) (planS c T X.scales s b) n (halfS s) : sProp 𝕄) ⊢ Idle (c : Thread nD τ) (cellS s) (planS c T X.scales s 0) (halfS s) := by
  rw [idleS c T X s b]
  exact landed_idle (c : Thread nD τ) (cellS s) (planS c T X.scales s b) n (halfS s) (subS c T X.scales s b n)
/-- An idle slot is idle for every sequence alike (rope keys). -/
theorem idleR (s b : ℕ) : (Idle (c : Thread nD τ) (cellR s) (planR c T X.ropes s 0) (halfR s) : sProp 𝕄) = Idle (c : Thread nD τ) (cellR s) (planR c T X.ropes s b) (halfR s) := by
  unfold Idle
  rfl
/-- A landed slot may be idle again (rope keys). -/
theorem landR (s b n : ℕ) : (Landed (c : Thread nD τ) (cellR s) (planR c T X.ropes s b) n (halfR s) : sProp 𝕄) ⊢ Idle (c : Thread nD τ) (cellR s) (planR c T X.ropes s 0) (halfR s) := by
  rw [idleR c T X s b]
  exact landed_idle (c : Thread nD τ) (cellR s) (planR c T X.ropes s b) n (halfR s) (subR c T X.ropes s b n)

/-- An idle slot is ready for the copies of any sequence. -/
theorem startAll (s b n : ℕ) : Idles c T X s ⊢ |={Set.univ}=> Fly c T X s b n 0 0 := by
  unfold Idles Fly FlyC FlyS FlyR
  iintro ⟨HC, HS, HR⟩
  ihave HC := (Entails.of_eq (idleC c T X s b)) $$ HC
  imod (start EC (c : Thread nD τ) (cellC s) () NC (planC c T X.codes s b) n (halfC s) (subC c T X.codes s b n) (disjC c T X.codes s b n)) $$ HC with HC
  ihave HS := (Entails.of_eq (idleS c T X s b)) $$ HS
  imod (start EC (c : Thread nD τ) (cellS s) () NS (planS c T X.scales s b) n (halfS s) (subS c T X.scales s b n) (disjS c T X.scales s b n)) $$ HS with HS
  ihave HR := (Entails.of_eq (idleR c T X s b)) $$ HR
  imod (start EC (c : Thread nD τ) (cellR s) () NR (planR c T X.ropes s b) n (halfR s) (subR c T X.ropes s b n) (disjR c T X.ropes s b n)) $$ HR with HR
  imodintro
  isplitl [HC]; · iexact HC
  isplitl [HS]; · iexact HS
  iexact HR

/-- After all the waits the pages have landed. -/
theorem finishAll (s b n : ℕ) : Fly c T X s b n n n ⊢ |={Set.univ}=> Lands c T X s b n := by
  unfold Lands Fly FlyC FlyS FlyR
  iintro ⟨HC, HS, HR⟩
  imod (finish EC (c : Thread nD τ) (cellC s) () NC (planC c T X.codes s b) NC_pos n (halfC s) (disjC c T X.codes s b n)) $$ HC with HC
  imod (finish EC (c : Thread nD τ) (cellS s) () NS (planS c T X.scales s b) NS_pos n (halfS s) (disjS c T X.scales s b n)) $$ HS with HS
  imod (finish EC (c : Thread nD τ) (cellR s) () NR (planR c T X.ropes s b) NR_pos n (halfR s) (disjR c T X.ropes s b n)) $$ HR with HR
  imodintro
  isplitl [HC]; · iexact HC
  isplitl [HS]; · iexact HS
  iexact HR

/-- A landed slot is its pages and what is beside them. -/
theorem lands_split (s b n : ℕ) : Lands c T X s b n ⊢ iprop(slots c T X s b n ∗ Beside c T X s b n) := by
  unfold Lands slots Beside Landed slotC slotS slotR
  iintro ⟨⟨h1, h2, h3, h4⟩, ⟨k1, k2, k3, k4⟩, ⟨l1, l2, l3, l4⟩⟩
  isplitl [h2 k2 l2]
  · isplitl [h2]; · iexact h2
    isplitl [k2]; · iexact k2
    iexact l2
  isplitl [h1 h3 h4]
  · isplitl [h1]; · iexact h1
    isplitl [h3]; · iexact h3
    iexact h4
  isplitl [k1 k3 k4]
  · isplitl [k1]; · iexact k1
    isplitl [k3]; · iexact k3
    iexact k4
  isplitl [l1]; · iexact l1
  isplitl [l3]; · iexact l3
  iexact l4

/-- When the pages are no longer needed the slot is idle again. -/
theorem lands_idle (s b n : ℕ) : iprop(slots c T X s b n ∗ Beside c T X s b n) ⊢ Idles c T X s := by
  unfold slots Beside slotC slotS slotR Idles
  iintro ⟨⟨h2, k2, l2⟩, ⟨h1, h3, h4⟩, ⟨k1, k3, k4⟩, ⟨l1, l3, l4⟩⟩
  isplitl [h1 h2 h3 h4]
  · iapply (landC c T X s b n)
    unfold Landed
    isplitl [h1]; · iexact h1
    isplitl [h2]; · iexact h2
    isplitl [h3]; · iexact h3
    iexact h4
  isplitl [k1 k2 k3 k4]
  · iapply (landS c T X s b n)
    unfold Landed
    isplitl [k1]; · iexact k1
    isplitl [k2]; · iexact k2
    isplitl [k3]; · iexact k3
    iexact k4
  iapply (landR c T X s b n)
  unfold Landed
  isplitl [l1]; · iexact l1
  isplitl [l2]; · iexact l2
  isplitl [l3]; · iexact l3
  iexact l4

/-! ## The rest of a grid point, piece by piece -/

variable (i : grid0.Coords) (G : Good T L) (bd : Option Variants.none.V)
variable (arg3 : Memref sig .tc .vmem S1x32x512 .bf16) (harg3 : arg3.IsWhole) (arg4 : Memref sig .tc .vmem S1x32x64 .bf16) (harg4 : arg4.IsWhole)
  (arg5 : Memref sig .tc .vmem S1x1x512 .bf16) (harg5 : arg5.IsWhole) (arg6 : Memref sig .tc .vmem S1x1x64 .bf16) (harg6 : arg6.IsWhole)
  (arg10 : Memref sig .tc .vmem S1x32x512 .bf16) (harg10 : arg10.IsWhole)
variable {α : Type} {Q : α → sProp (MT nD τ sig Unit (Elt F) ℕ (Pipeline.UD sig nD τ) ℕ)}

/-- Where the length of the grid point's own sequence is read. -/
theorem off34_eq (i : grid0.Coords) : k0_off34 i = ![pt i] := congrArg (fun x : ℕ => ![x]) (ofNat_toNat (pt_lt i).le)
/-- Where the length of the grid point's own sequence is read again. -/
theorem off53_eq (i : grid0.Coords) : k0_off53 i = ![pt i] := off34_eq i
/-- Where the length of the next sequence is read. -/
theorem off15_eq (i : grid0.Coords) : k0_off15 i = ![pt i + 1] := congrArg (fun x : ℕ => ![x]) (succW (pt_lt i))

include G in
/-- The first branch: at the first grid point it starts the copies of the first sequence. -/
theorem first {rest : Prog (TpuEff nD τ sig (Elt F) Λ₀ .tc) α} :
    iprop(tab c T ∗ lens c L ∗ Next c T L X (pt i))
      ⊢ iprop((iprop(tab c T ∗ lens c L ∗ Fly c T X (pt i % 2) (pt i) (np L (pt i)) (np L (pt i)) 0) -∗ wp frame (wpE (defs₀ (F := F)) Variants.none (c : Thread nD τ) bd) Set.univ rest Q)
        -∗ wp frame (wpE (defs₀ (F := F)) Variants.none (c : Thread nD τ) bd) Set.univ
          (if h1 : k0_cond1 i = 1#1 then
            (smemLoad (Memref.whole main_arg8) (Rect.unit (s := S128) ![0] S1.size inb_S128_S1_0) numel1_S1 rfl >>= fun v =>
              Prog.lift (TpuEff.assume (k0_chk1 i v) (k0_chk1.dec i v)) >>= fun hw =>
              Scf.Loop.for (k0_t1_loop v) (k0_t1_ok i v hw.down h1) ⟨⟩ (k0_t1_body i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 h1 v hw.down) >>= fun _ =>
              Scf.Loop.for (k0_t2_loop v) (k0_t2_ok i v hw.down h1) ⟨⟩ (k0_t2_body i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 h1 v hw.down) >>= fun _ => rest)
          else rest) Q) := by
  iintro ⟨HT, HL, HN⟩ Hk
  by_cases h1 : k0_cond1 i = 1#1
  · have hi := (cond1_iff i).mp h1
    have hN : Next c T L X (pt i) = Idles c T X 0 := by unfold Next; rw [hi]; rfl
    ihave HN := (Entails.of_eq hN) $$ HN
    imod (startAll c T X 0 0 (np L 0)) $$ HN with HF
    rw [dif_pos h1, hi]
    iapply (readLen c L bd (b := 0) rfl (by decide)) $$ HL
    iintro HL
    iapply (check (c : Thread nD τ) Variants.none bd (chk1 (G.le (ixL 0)) i))
    have hn : (k0_t1_loop (len L 0)).trips = np L 0 := copy_trips (G.le (ixL 0))
    iapply (loopRule (c : Thread nD τ) Variants.none bd (k0_t1_loop (len L 0)) (fun k _ => iprop(tab c T ∗ Fly c T X 0 0 (np L 0) k 0))
      (fun k _ => step1 c T L X i G bd arg3 harg3 arg4 harg4 arg5 harg5 arg6 harg6 arg10 harg10 h1 (len L 0) rfl _ k) hn) $$ [HT HF]
    · isplitl [HT]; · iexact HT
      iexact HF
    iintro %_ ⟨HT, HF⟩
    rw [loopNone (c : Thread nD τ) (k0_t2_loop (len L 0)) _ _ _ (deadLoop_trips _), pure_bind]
    iapply Hk
    isplitl [HT]; · iexact HT
    isplitl [HL]; · iexact HL
    iexact HF
  · rw [dif_neg h1]
    have hi : pt i ≠ 0 := fun h => h1 ((cond1_iff i).mpr h)
    have hN : Next c T L X (pt i) = Fly c T X (pt i % 2) (pt i) (np L (pt i)) (np L (pt i)) 0 := by
      unfold Next; exact if_neg (by have := pt_lt i; omega)
    ihave HN := (Entails.of_eq hN) $$ HN
    iapply Hk
    isplitl [HT]; · iexact HT
    isplitl [HL]; · iexact HL
    iexact HN

include G in
/-- The second branch: it starts the copies of the next sequence, if there is one. -/
theorem next {rest : Prog (TpuEff nD τ sig (Elt F) Λ₀ .tc) α} :
    iprop(tab c T ∗ lens c L ∗ Idles c T X ((pt i + 1) % 2))
      ⊢ iprop((iprop(tab c T ∗ lens c L ∗ Next c T L X (pt i + 1)) -∗ wp frame (wpE (defs₀ (F := F)) Variants.none (c : Thread nD τ) bd) Set.univ rest Q)
        -∗ wp frame (wpE (defs₀ (F := F)) Variants.none (c : Thread nD τ) bd) Set.univ
          (if h2 : k0_cond2 i = 1#1 then
            (smemLoad (Memref.whole main_arg8) (Rect.unit (s := S128) (k0_off15 i) S1.size (k0_off15_inb i h2)) numel1_S1 rfl >>= fun v =>
              Prog.lift (TpuEff.assume (k0_chk4 i v) (k0_chk4.dec i v)) >>= fun hw =>
              Scf.Loop.for (k0_t3_loop v) (k0_t3_ok i v hw.down h2) ⟨⟩ (k0_t3_body i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 h2 v hw.down) >>= fun _ =>
              Scf.Loop.for (k0_t4_loop v) (k0_t4_ok i v hw.down h2) ⟨⟩ (k0_t4_body i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 h2 v hw.down) >>= fun _ => rest)
          else rest) Q) := by
  iintro ⟨HT, HL, HN⟩ Hk
  by_cases h2 : k0_cond2 i = 1#1
  · have hi := (cond2_iff i).mp h2
    have hN : Next c T L X (pt i + 1) = Fly c T X ((pt i + 1) % 2) (pt i + 1) (np L (pt i + 1)) (np L (pt i + 1)) 0 := by
      unfold Next; exact if_neg (by omega)
    imod (startAll c T X ((pt i + 1) % 2) (pt i + 1) (np L (pt i + 1))) $$ HN with HF
    rw [dif_pos h2, hN]
    iapply (readLen c L bd (off15_eq i) hi) $$ HL
    iintro HL
    iapply (check (c : Thread nD τ) Variants.none bd (chk4 (G.le (ixL (pt i + 1))) i fun _ => hi))
    have hn : (k0_t3_loop (len L (pt i + 1))).trips = np L (pt i + 1) := copy_trips (G.le (ixL (pt i + 1)))
    iapply (loopRule (c : Thread nD τ) Variants.none bd (k0_t3_loop (len L (pt i + 1))) (fun k _ => iprop(tab c T ∗ Fly c T X ((pt i + 1) % 2) (pt i + 1) (np L (pt i + 1)) k 0))
      (fun k _ => step3 c T L X i G bd arg3 harg3 arg4 harg4 arg5 harg5 arg6 harg6 arg10 harg10 h2 (len L (pt i + 1)) rfl hi _ k) hn) $$ [HT HF]
    · isplitl [HT]; · iexact HT
      iexact HF
    iintro %_ ⟨HT, HF⟩
    rw [loopNone (c : Thread nD τ) (k0_t4_loop (len L (pt i + 1))) _ _ _ (deadLoop_trips _), pure_bind]
    iapply Hk
    isplitl [HT]; · iexact HT
    isplitl [HL]; · iexact HL
    iexact HF
  · rw [dif_neg h2]
    have hi : ¬ pt i + 1 < 128 := fun h => h2 ((cond2_iff i).mpr h)
    have hN : Next c T L X (pt i + 1) = Idles c T X ((pt i + 1) % 2) := by
      unfold Next; exact if_pos (by omega)
    rw [hN]
    iapply Hk
    isplitl [HT]; · iexact HT
    isplitl [HL]; · iexact HL
    iexact HN

/-- What follows a branch follows each side of it. -/
theorem branch_bind {β : Type} {p : Prop} [Decidable p] (a : p → Prog (TpuEff nD τ sig (Elt F) Λ₀ .tc) β) (b : ¬p → Prog (TpuEff nD τ sig (Elt F) Λ₀ .tc) β)
    (k : β → Prog (TpuEff nD τ sig (Elt F) Λ₀ .tc) α) : (dite p a b >>= k) = dite p (fun h => a h >>= k) (fun h => b h >>= k) := by
  split <;> rfl

include G in
/-- The copies and the waits of a grid point. -/
theorem gather {kk : (Σ' (_ : BitVec 32) (_ : BitVec 32) (v9 : Elt F .i32) (_ : k0_chk7 i v9), BitVec 32) → Prog (TpuEff nD τ sig (Elt F) Λ₀ .tc) α} :
    iprop(tab c T ∗ lens c L ∗ Next c T L X (pt i) ∗ Idles c T X ((pt i + 1) % 2) ∗ ∃ W, owes (c : Thread nD τ) 0 W)
      ⊢ iprop((∀ (a0 v0 : BitVec 32) (hw : k0_chk7 i (len L (pt i))) (v34 : BitVec 32),
          iprop(tab c T ∗ lens c L ∗ Lands c T X (pt i % 2) (pt i) (np L (pt i)) ∗ Next c T L X (pt i + 1) ∗ ∃ W, owes (c : Thread nD τ) 0 W)
            -∗ wp frame (wpE (defs₀ (F := F)) Variants.none (c : Thread nD τ) bd) Set.univ (kk ⟨a0, v0, len L (pt i), hw, v34⟩) Q)
        -∗ wp frame (wpE (defs₀ (F := F)) Variants.none (c : Thread nD τ) bd) Set.univ (k0_part15_skel i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 >>= kk) Q) := by
  unfold k0_part15_skel
  simp only [branch_bind, bind_assoc, pure_bind]
  iintro ⟨HT, HL, HN, HI, HO⟩ Hk
  iapply (first c T L X i G bd arg3 harg3 arg4 harg4 arg5 harg5 arg6 harg6 arg10 harg10) $$ [HT HL HN]
  · isplitl [HT]; · iexact HT
    isplitl [HL]; · iexact HL
    iexact HN
  iintro ⟨HT, HL, HF⟩
  iapply (next c T L X i G bd arg3 harg3 arg4 harg4 arg5 harg5 arg6 harg6 arg10 harg10) $$ [HT HL HI]
  · isplitl [HT]; · iexact HT
    isplitl [HL]; · iexact HL
    iexact HI
  iintro ⟨HT, HL, HN⟩
  iapply (readLen c L bd (off34_eq i) (pt_lt i)) $$ HL
  iintro HL
  iapply (check (c : Thread nD τ) Variants.none bd (chk7 (G.le (ixL (pt i))) i))
  have hn : (k0_t5_loop (len L (pt i))).trips = np L (pt i) := copy_trips (G.le (ixL (pt i)))
  iapply (loopRule (c : Thread nD τ) Variants.none bd (k0_t5_loop (len L (pt i)))
    (fun k _ => iprop(tab c T ∗ Fly c T X (pt i % 2) (pt i) (np L (pt i)) (np L (pt i)) k ∗ ∃ W, owes (c : Thread nD τ) 0 W))
    (fun k _ => step5 c T L X i G bd arg3 harg3 arg4 harg4 arg5 harg5 arg6 harg6 arg10 harg10 (len L (pt i)) rfl _ k) hn) $$ [HT HF HO]
  · isplitl [HT]; · iexact HT
    isplitl [HF]; · iexact HF
    iexact HO
  iintro %_ ⟨HT, HF, HO⟩
  imod (finishAll c T X (pt i % 2) (pt i) (np L (pt i))) $$ HF with HD
  iapply Hk
  isplitl [HT]; · iexact HT
  isplitl [HL]; · iexact HL
  isplitl [HD]; · iexact HD
  isplitl [HN]; · iexact HN
  iexact HO

end Cert.KernelIdeal.Hand
-- ==== Proof.KI.Point.lean ====
/-
  The result of one grid point, and the whole grid point: from the state between points and the staged windows to the
  next state and the staged result.
-/
module

public import proofs.«01_k».proof.Proof.KI.Body

@[expose] public section

noncomputable section

namespace Cert.KernelIdeal.Hand

open Idealize.ShloMosaic Idealize.ShloMosaic.TcCoe Idealize.ShloMosaic.Tactic Cert.KernelIdeal Cert.KernelIdeal.Gen Cert.Words Cert.Pages
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the counters of the transfers. -/
local notation "𝕄" => MT nD τ sig Unit (Elt F) ℕ (Pipeline.UD sig nD τ) ℕ

variable (c : Dev nD) (T : Tab) (L : Lens) (X : Pools F)

/-- What grid point `b` stores: from its query `x` and rope query `y`, the new token's latent `z` and rope key `w`. -/
def out (b : ℕ) (x : Vec F S1x32x512 .bf16) (y : Vec F S1x32x64 .bf16) (z : Vec F S1x1x512 .bf16) (w : Vec F S1x1x64 .bf16) : Vec F S1x32x512 .bf16 :=
  let l := len L b
  let n := nblk l
  let m := mx T X (b % 2) b l (k0_pay36 x) (k0_pay37 y) (k0_pay41 (k0_pay39 x z) (k0_pay40 y) w) n
  let d := sm T X (b % 2) b l (k0_pay36 x) (k0_pay37 y) m k0_pay47 n
  let a := av T X (b % 2) b l (k0_pay36 x) (k0_pay37 y) m (k0_pay54 (k0_pay39 x z) (k0_pay40 y) w m d) k0_pay55 n
  k0_pay1 (k0_pay58 (k0_pay38 z) (k0_pay39 x z) (k0_pay40 y) w m d a)

/-- The rectangle of a whole buffer leaves indices alone. -/
theorem wholeRect {s : Shape} {o : Fin s.rank → ℕ} (ho : ∀ a, o a = 0) {hi} (j : s.Idx) : (Rect.unit (s := s) o s.size hi).emb j = j := by
  funext a
  apply Fin.ext
  show o a + 1 * (j a).val = (j a).val
  rw [ho a]
  omega
/-- The offset of a whole array of three axes is zero. -/
theorem zero3 : ∀ a : Fin 3, (![0, 0, 0] : Fin 3 → ℕ) a = 0 := by decide

variable (i : grid0.Coords) (G : Good T L) (bd : Option Variants.none.V)
variable (arg3 : Memref sig .tc .vmem S1x32x512 .bf16) (harg3 : arg3.IsWhole) (arg4 : Memref sig .tc .vmem S1x32x64 .bf16) (harg4 : arg4.IsWhole)
  (arg5 : Memref sig .tc .vmem S1x1x512 .bf16) (harg5 : arg5.IsWhole) (arg6 : Memref sig .tc .vmem S1x1x64 .bf16) (harg6 : arg6.IsWhole)
  (arg10 : Memref sig .tc .vmem S1x32x512 .bf16) (harg10 : arg10.IsWhole)
/-- The store of the result. -/
theorem storeOut (v : Vec F S1x32x512 .bf16) {o : Vec F S1x32x512 .bf16} {hi} {hx} {hm} {α : Type} {Q : α → sProp (MT nD τ sig Unit (Elt F) ℕ (Pipeline.UD sig nD τ) ℕ)}
    {k : PUnit → Prog (TpuEff nD τ sig (Elt F) Λ₀ .tc) α} :
    owns (c : Thread nD τ) arg10 fullShare o ⊢ iprop((owns (c : Thread nD τ) arg10 fullShare v -∗ wp frame (wpE (defs₀ (F := F)) Variants.none (c : Thread nD τ) bd) Set.univ (k ⟨⟩) Q)
      -∗ wp frame (wpE (defs₀ (F := F)) Variants.none (c : Thread nD τ) bd) Set.univ
          (Prog.lift (.store arg10 (Rect.unit (s := S1x32x512) ![0, 0, 0] S1x32x512.size hi) v Finset.univ hx hm) >>= k) Q) :=
  storeOwn (c : Thread nD τ) Variants.none bd (fun j => congrArg v (wholeRect zero3 j).symm) (fun j => ⟨j, wholeRect zero3 j⟩)

variable (x : Vec F S1x32x512 .bf16) (y : Vec F S1x32x64 .bf16) (z : Vec F S1x1x512 .bf16) (w : Vec F S1x1x64 .bf16)

include G in
/-- One grid point: its result is in the staged window, the state is the one of the next point. -/
theorem point {o : Vec F S1x32x512 .bf16} :
    iprop((tab c T ∗ lens c L ∗ (∃ f, scores c f) ∗ Next c T L X (pt i) ∗ Idles c T X ((pt i + 1) % 2) ∗ ∃ W, owes (c : Thread nD τ) 0 W)
      ∗ owns (c : Thread nD τ) arg3 fullShare x ∗ owns (c : Thread nD τ) arg4 fullShare y ∗ owns (c : Thread nD τ) arg5 fullShare z ∗ owns (c : Thread nD τ) arg6 fullShare w
      ∗ owns (c : Thread nD τ) arg10 fullShare o)
    ⊢ wp frame (wpE (defs₀ (F := F)) Variants.none (c : Thread nD τ) bd) Set.univ (cc0__body_skel i (Memref.whole main_arg7) (Memref.isWhole_whole _) (Memref.whole main_arg8) (Memref.isWhole_whole _) arg3 harg3 arg4 harg4 arg5 harg5 arg6 harg6 (Memref.whole main_arg4) (Memref.isWhole_whole _) (Memref.whole main_v0) (Memref.isWhole_whole _) (Memref.whole main_arg6) (Memref.isWhole_whole _) arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6)
      (fun _ => iprop((tab c T ∗ lens c L ∗ (∃ f, scores c f) ∗ Next c T L X (pt i + 1) ∗ Idles c T X (pt i % 2) ∗ ∃ W, owes (c : Thread nD τ) 0 W)
      ∗ owns (c : Thread nD τ) arg3 fullShare x ∗ owns (c : Thread nD τ) arg4 fullShare y ∗ owns (c : Thread nD τ) arg5 fullShare z ∗ owns (c : Thread nD τ) arg6 fullShare w
      ∗ owns (c : Thread nD τ) arg10 fullShare (out T L X (pt i) x y z w))) := by
  unfold cc0__body_skel
  simp only [k0_part15_eq_skeleton, k0_part16_eq_skeleton, k0_part17_eq_skeleton]
  iintro ⟨⟨HT, HL, ⟨%f0, HB⟩, HN, HI, HO⟩, Hx, Hy, Hz, Hw, Ho⟩
  iapply (gather c T L X i G bd arg3 harg3 arg4 harg4 arg5 harg5 arg6 harg6 arg10 harg10) $$ [HT HL HN HI HO]
  · isplitl [HT]; · iexact HT
    isplitl [HL]; · iexact HL
    isplitl [HN]; · iexact HN
    isplitl [HI]; · iexact HI
    iexact HO
  iintro %a0 %v0 %hw7 %v34 ⟨HT, HL, HD, HN, HO⟩
  simp only [k0_part16_skel, k0_part17_skel, bind_assoc, pure_bind]
  ihave HD := (lands_split c T X (pt i % 2) (pt i) (np L (pt i))) $$ HD
  icases HD with ⟨HS, HE⟩
  rw [loopNone (c : Thread nD τ) (k0_t6_loop (len L (pt i))) _ _ _ (deadLoop_trips _), pure_bind]
  iapply (readLen c L bd (off53_eq i) (pt_lt i)) $$ HL
  iintro HL
  iapply (loadOwn (m := arg3) (X := x) (v := x) (c : Thread nD τ) Variants.none bd (fun j => congrArg x (wholeRect zero3 j))) $$ Hx
  iintro Hx
  iapply (loadOwn (m := arg4) (X := y) (v := y) (c : Thread nD τ) Variants.none bd (fun j => congrArg y (wholeRect zero3 j))) $$ Hy
  iintro Hy
  iapply (readLen c L bd (off53_eq i) (pt_lt i)) $$ HL
  iintro HL
  iapply (check (c : Thread nD τ) Variants.none bd (chk10 (G.le (ixL (pt i))) i))
  iapply (loadOwn (m := arg5) (X := z) (v := z) (c : Thread nD τ) Variants.none bd (fun j => congrArg z (wholeRect zero3 j))) $$ Hz
  iintro Hz
  iapply (loadOwn (m := arg6) (X := w) (v := w) (c : Thread nD τ) Variants.none bd (fun j => congrArg w (wholeRect zero3 j))) $$ Hw
  iintro Hw
  have hn : ∀ v, v = len L (pt i) → (k0_t7_loop v).trips = nblk v := fun v hv => by subst hv; exact (blk_trips (G.le (ixL (pt i)))).1
  iapply (loopRule (c : Thread nD τ) Variants.none bd (k0_t7_loop (len L (pt i))) (I7 c T L X i (len L (pt i)) (k0_pay36 x) (k0_pay37 y) (k0_pay41 (k0_pay39 x z) (k0_pay40 y) w))
    (fun k acc => step7 c T L X i G bd arg3 harg3 arg4 harg4 arg5 harg5 arg6 harg6 arg10 harg10 _ _ _ _ _ _ _ _ _ (len L (pt i)) rfl _ k acc) (hn _ rfl)) $$ [HS HB]
  · unfold I7
    isplitl [HS]; · iexact HS
    iexists f0
    isplitl [HB]; · iexact HB
    ipureintro
    exact ⟨rfl, fun j h => absurd h (Nat.not_lt_zero j)⟩
  iintro %m HI7
  unfold I7
  icases HI7 with ⟨HS, ⟨%f1, HB, %hf1⟩⟩
  obtain ⟨hm, hf1⟩ := hf1
  rw [loopNone (c : Thread nD τ) (k0_t8_loop (len L (pt i))) _ _ _ (deadLoop_trips _), pure_bind]
  iapply (loopRule (c : Thread nD τ) Variants.none bd (k0_t9_loop (len L (pt i))) (I9 c T X i (len L (pt i)) (k0_pay36 x) (k0_pay37 y) m (nblk (len L (pt i))) k0_pay47)
    (fun k acc => step9 c T L X i G bd arg3 harg3 arg4 harg4 arg5 harg5 arg6 harg6 arg10 harg10 _ _ _ _ _ _ _ _ _ _ (len L (pt i)) rfl _ k acc) (hn _ rfl)) $$ [HB]
  · unfold I9
    iexists f1
    isplitl [HB]; · iexact HB
    ipureintro
    exact ⟨rfl, fun j h => absurd h (Nat.not_lt_zero j), fun j _ h => hf1 j h⟩
  iintro %d HI9
  unfold I9
  icases HI9 with ⟨%f2, HB, %hf2⟩
  obtain ⟨hd, hf2, -⟩ := hf2
  rw [loopNone (c : Thread nD τ) (k0_t10_loop (len L (pt i))) _ _ _ (deadLoop_trips _), pure_bind]
  iapply (loopRule (c : Thread nD τ) Variants.none bd (k0_t11_loop (len L (pt i))) (I11 c T L X i (len L (pt i)) (k0_pay36 x) (k0_pay37 y) m (nblk (len L (pt i))) (k0_pay54 (k0_pay39 x z) (k0_pay40 y) w m d) k0_pay55)
    (fun k acc => step11 c T L X i G bd arg3 harg3 arg4 harg4 arg5 harg5 arg6 harg6 arg10 harg10 _ _ _ _ _ _ _ _ _ _ _ _ (len L (pt i)) rfl _ k acc) (hn _ rfl)) $$ [HS HB]
  · unfold I11
    isplitl [HS]; · iexact HS
    iexists f2
    isplitl [HB]; · iexact HB
    ipureintro
    exact ⟨rfl, hf2⟩
  iintro %a HI11
  unfold I11
  icases HI11 with ⟨HS, ⟨%f3, HB, %hf3⟩⟩
  obtain ⟨ha, -⟩ := hf3
  rw [loopNone (c : Thread nD τ) (k0_t12_loop (len L (pt i))) _ _ _ (deadLoop_trips _), pure_bind]
  iapply (loadOwn (m := arg10) (X := o) (v := o) (c : Thread nD τ) Variants.none bd (fun j => congrArg o (wholeRect zero3 j))) $$ Ho
  iintro Ho
  have hout : k0_pay1 (k0_pay58 (k0_pay38 z) (k0_pay39 x z) (k0_pay40 y) w m d a) = out T L X (pt i) x y z w := by
    unfold out
    dsimp only
    rw [← hm, ← hd, ← ha]
  rw [hout]
  iapply (storeOut c bd arg10 (out T L X (pt i) x y z w)) $$ Ho
  iintro Ho
  ihave HI := (lands_idle c T X (pt i % 2) (pt i) (np L (pt i))) $$ [HS HE]
  · isplitl [HS]; · iexact HS
    iexact HE
  sl_step
  isplitl [HT HL HB HN HI HO]
  · isplitl [HT]; · iexact HT
    isplitl [HL]; · iexact HL
    isplitl [HB]; · iexists f3; iexact HB
    isplitl [HN]; · iexact HN
    isplitl [HI]; · iexact HI
    iexact HO
  isplitl [Hx]; · iexact Hx
  isplitl [Hy]; · iexact Hy
  isplitl [Hz]; · iexact Hz
  isplitl [Hw]; · iexact Hw
  iexact Ho

end Cert.KernelIdeal.Hand
-- ==== Proof.KI.Invariant.lean ====
/-
  What the grid points hand one another: the tables, the scratch buffers split into two slots, the cells, and the shares of
  the three pools; how the launch provides it, and how it is given back after the last point.
-/
module

public import proofs.«01_k».proof.Proof.KI.Point
public import Idealize.ShloMosaic.Lib.Pipeline.FrameBody
public import Idealize.ShloMosaic.Lib.Claim

@[expose] public section

noncomputable section

namespace Cert.KernelIdeal.Hand

open Idealize.ShloMosaic Idealize.ShloMosaic.TcCoe Idealize.ShloMosaic.Tactic Cert.KernelIdeal Cert.KernelIdeal.Gen Cert.Words Cert.Pages
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline's beside the counters of the transfers. -/
local notation "𝕄" => MT nD τ sig Unit (Elt F) ℕ (Pipeline.UD sig nD τ) ℕ

variable (c : Dev nD) (T : Tab) (L : Lens) (X : Pools F)

section Seed

variable {ℓd ℓs : Loc nD τ sig} (t : Thread nD τ) (s₀ s₁ : SemLoc sig) (p₀ p₁ : Plan ℓd ℓs (Elt F)) (S₀ S₁ : Finset (Idx ℓd)) (x : Buf (Elt F) ℓs)

/-- A buffer held whole is its two slots. -/
theorem halves (h : S₁ = Finset.univ \ S₀) :
    (iprop(∃ f : Buf (Elt F) ℓd, ℓd ↦{fullShare} f) : sProp 𝕄) ⊢ iprop((∃ f : Buf (Elt F) ℓd, ℓd ↦[S₀]{fullShare} f) ∗ ∃ f : Buf (Elt F) ℓd, ℓd ↦[S₁]{fullShare} f) := by
  subst h
  iintro ⟨%f, H⟩
  ihave H' := (pointsTo_split_subset (Finset.subset_univ S₀)).1 $$ H
  icases H' with ⟨H0, H1⟩
  isplitl [H0]
  · iexists f; iexact H0
  iexists f; iexact H1

/-- Two slots make a whole buffer. -/
theorem whole (h : S₁ = Finset.univ \ S₀) :
    iprop((∃ f : Buf (Elt F) ℓd, ℓd ↦[S₀]{fullShare} f) ∗ ∃ f : Buf (Elt F) ℓd, ℓd ↦[S₁]{fullShare} f) ⊢ (iprop(∃ f : Buf (Elt F) ℓd, ℓd ↦{fullShare} f) : sProp 𝕄) := by
  subst h
  iintro ⟨⟨%f, H0⟩, ⟨%g, H1⟩⟩
  ihave H := (pointsTo_join_subset (Finset.subset_univ S₀)) $$ [H0 H1]
  · isplitl [H0]; · iexact H0
    iexact H1
  iexists _; iexact H

/-- A pool held whole is a share for each slot and the rest. -/
theorem shares : (ℓs ↦{fullShare} x : sProp 𝕄) = iprop((ℓs ↦{Transfers.shareDrop fullShare 2} x) ∗ (ℓs ↦{Transfers.shareTokN fullShare 1} x) ∗ ℓs ↦{Transfers.shareTokN fullShare 0} x) := by
  have e := Transfers.pointsTo_toks_range (Val := Elt F) (Ix := Unit) (Name := ℕ) (U := Pipeline.UD sig nD τ) (Lvl := ℕ) (S := Finset.univ) (f := x) fullShare 2
  have h := BI.equiv_iff.mp ⟨e.1, e.2⟩
  rw [show (Finset.range 2) = insert 1 {0} by decide, BI.bigSep_insert (by decide), BI.bigSep_singleton] at h
  exact h

variable (h : S₁ = Finset.univ \ S₀) (q₀ : p₀.q = Transfers.shareTokN fullShare 0) (q₁ : p₁.q = Transfers.shareTokN fullShare 1) (e₀ : p₀.pool = x) (e₁ : p₁.pool = x)

include h q₀ q₁ e₀ e₁ in
/-- A scratch buffer, its two cells at zero and its pool make two idle slots; -/
theorem seed :
    (iprop((∃ f : Buf (Elt F) ℓd, ℓd ↦{fullShare} f) ∗ semVal (t, s₀) 0 ∗ semVal (t, s₁) 0 ∗ ℓs ↦{fullShare} x) : sProp 𝕄)
      ⊢ iprop(Idle t s₀ p₀ S₀ ∗ Idle t s₁ p₁ S₁ ∗ ℓs ↦{Transfers.shareDrop fullShare 2} x) := by
  unfold Idle
  rw [q₀, q₁, e₀, e₁, shares x]
  iintro ⟨HB, H0, H1, HD, HP1, HP0⟩
  ihave HB := (halves S₀ S₁ h) $$ HB
  icases HB with ⟨HB0, HB1⟩
  isplitl [H0 HB0 HP0]
  · isplitl [H0]; · iexact H0
    isplitl [HB0]; · iexact HB0
    iexact HP0
  isplitl [H1 HB1 HP1]
  · isplitl [H1]; · iexact H1
    isplitl [HB1]; · iexact HB1
    iexact HP1
  iexact HD

include h q₀ q₁ e₀ e₁ in
/-- and the other way round. -/
theorem unseed :
    (iprop(Idle t s₀ p₀ S₀ ∗ Idle t s₁ p₁ S₁ ∗ ℓs ↦{Transfers.shareDrop fullShare 2} x) : sProp 𝕄)
      ⊢ iprop((∃ f : Buf (Elt F) ℓd, ℓd ↦{fullShare} f) ∗ semVal (t, s₀) 0 ∗ semVal (t, s₁) 0 ∗ ℓs ↦{fullShare} x) := by
  unfold Idle
  rw [q₀, q₁, e₀, e₁, shares x]
  iintro ⟨⟨H0, HB0, HP0⟩, ⟨H1, HB1, HP1⟩, HD⟩
  isplitl [HB0 HB1]
  · iapply (whole S₀ S₁ h)
    isplitl [HB0]; · iexact HB0
    iexact HB1
  isplitl [H0]; · iexact H0
  isplitl [H1]; · iexact H1
  isplitl [HD]; · iexact HD
  isplitl [HP1]; · iexact HP1
  iexact HP0

end Seed

/-- The two slots of codes make up the whole buffer. -/
theorem halfC_compl : halfC 1 = Finset.univ \ halfC 0 := by
  ext y
  have h : (y 0).val < 2 := (y 0).isLt
  simp only [halfC, Finset.mem_filter, Finset.mem_univ, true_and, Finset.mem_sdiff]
  omega
/-- The two slots of scales make up the whole buffer. -/
theorem halfS_compl : halfS 1 = Finset.univ \ halfS 0 := by
  ext y
  have h : (y 0).val < 2 := (y 0).isLt
  simp only [halfS, Finset.mem_filter, Finset.mem_univ, true_and, Finset.mem_sdiff]
  omega
/-- The two slots of rope keys make up the whole buffer. -/
theorem halfR_compl : halfR 1 = Finset.univ \ halfR 0 := by
  ext y
  have h : (y 0).val < 2 := (y 0).isLt
  simp only [halfR, Finset.mem_filter, Finset.mem_univ, true_and, Finset.mem_sdiff]
  omega

/-- The shares of the pools no slot holds. -/
def Spare : sProp 𝕄 :=
  iprop(((c : Thread nD τ).loc main_arg4 ↦{Transfers.shareDrop fullShare 2} X.codes) ∗ ((c : Thread nD τ).loc main_v0 ↦{Transfers.shareDrop fullShare 2} X.scales)
    ∗ (c : Thread nD τ).loc main_arg6 ↦{Transfers.shareDrop fullShare 2} X.ropes)

/-- The three scratch buffers, the six cells at zero, and the three pools. -/
def Store : sProp 𝕄 :=
  iprop(((∃ f : S2x2048x512.Idx → Elt F .fp8e4m3, (c : Thread nD τ).loc cc0_scratch0 ↦{fullShare} f) ∗ semVal ((c : Thread nD τ), cellC 0) 0 ∗ semVal ((c : Thread nD τ), cellC 1) 0
      ∗ (c : Thread nD τ).loc main_arg4 ↦{fullShare} X.codes)
    ∗ ((∃ f : S2x32x4x64.Idx → Elt F .f32, (c : Thread nD τ).loc cc0_scratch1 ↦{fullShare} f) ∗ semVal ((c : Thread nD τ), cellS 0) 0 ∗ semVal ((c : Thread nD τ), cellS 1) 0
      ∗ (c : Thread nD τ).loc main_v0 ↦{fullShare} X.scales)
    ∗ (∃ f : S2x2048x64.Idx → Elt F .bf16, (c : Thread nD τ).loc cc0_scratch2 ↦{fullShare} f) ∗ semVal ((c : Thread nD τ), cellR 0) 0 ∗ semVal ((c : Thread nD τ), cellR 1) 0
      ∗ (c : Thread nD τ).loc main_arg6 ↦{fullShare} X.ropes)

/-- Before the first grid point: the buffer of codes and its counters, as two idle slots. -/
theorem seedC : (iprop((∃ f : S2x2048x512.Idx → Elt F .fp8e4m3, (c : Thread nD τ).loc cc0_scratch0 ↦{fullShare} f) ∗ semVal ((c : Thread nD τ), cellC 0) 0 ∗ semVal ((c : Thread nD τ), cellC 1) 0
      ∗ (c : Thread nD τ).loc main_arg4 ↦{fullShare} X.codes) : sProp 𝕄)
    ⊢ iprop(Idle (c : Thread nD τ) (cellC 0) (planC c T X.codes 0 0) (halfC 0) ∗ Idle (c : Thread nD τ) (cellC 1) (planC c T X.codes 1 0) (halfC 1) ∗ (c : Thread nD τ).loc main_arg4 ↦{Transfers.shareDrop fullShare 2} X.codes) :=
  seed (c : Thread nD τ) (cellC 0) (cellC 1) (planC c T X.codes 0 0) (planC c T X.codes 1 0) (halfC 0) (halfC 1) X.codes halfC_compl rfl rfl rfl rfl
/-- Before the first grid point: the buffer of scales and its counters, as two idle slots. -/
theorem seedS : (iprop((∃ f : S2x32x4x64.Idx → Elt F .f32, (c : Thread nD τ).loc cc0_scratch1 ↦{fullShare} f) ∗ semVal ((c : Thread nD τ), cellS 0) 0 ∗ semVal ((c : Thread nD τ), cellS 1) 0
      ∗ (c : Thread nD τ).loc main_v0 ↦{fullShare} X.scales) : sProp 𝕄)
    ⊢ iprop(Idle (c : Thread nD τ) (cellS 0) (planS c T X.scales 0 0) (halfS 0) ∗ Idle (c : Thread nD τ) (cellS 1) (planS c T X.scales 1 0) (halfS 1) ∗ (c : Thread nD τ).loc main_v0 ↦{Transfers.shareDrop fullShare 2} X.scales) :=
  seed (c : Thread nD τ) (cellS 0) (cellS 1) (planS c T X.scales 0 0) (planS c T X.scales 1 0) (halfS 0) (halfS 1) X.scales halfS_compl rfl rfl rfl rfl
/-- Before the first grid point: the buffer of rope keys and its counters, as two idle slots. -/
theorem seedR : (iprop((∃ f : S2x2048x64.Idx → Elt F .bf16, (c : Thread nD τ).loc cc0_scratch2 ↦{fullShare} f) ∗ semVal ((c : Thread nD τ), cellR 0) 0 ∗ semVal ((c : Thread nD τ), cellR 1) 0
      ∗ (c : Thread nD τ).loc main_arg6 ↦{fullShare} X.ropes) : sProp 𝕄)
    ⊢ iprop(Idle (c : Thread nD τ) (cellR 0) (planR c T X.ropes 0 0) (halfR 0) ∗ Idle (c : Thread nD τ) (cellR 1) (planR c T X.ropes 1 0) (halfR 1) ∗ (c : Thread nD τ).loc main_arg6 ↦{Transfers.shareDrop fullShare 2} X.ropes) :=
  seed (c : Thread nD τ) (cellR 0) (cellR 1) (planR c T X.ropes 0 0) (planR c T X.ropes 1 0) (halfR 0) (halfR 1) X.ropes halfR_compl rfl rfl rfl rfl
/-- After the last grid point: two idle slots give back the buffer of codes and its counters. -/
theorem unseedC : (iprop(Idle (c : Thread nD τ) (cellC 0) (planC c T X.codes 0 0) (halfC 0) ∗ Idle (c : Thread nD τ) (cellC 1) (planC c T X.codes 1 0) (halfC 1) ∗ (c : Thread nD τ).loc main_arg4 ↦{Transfers.shareDrop fullShare 2} X.codes) : sProp 𝕄)
    ⊢ iprop((∃ f : S2x2048x512.Idx → Elt F .fp8e4m3, (c : Thread nD τ).loc cc0_scratch0 ↦{fullShare} f) ∗ semVal ((c : Thread nD τ), cellC 0) 0 ∗ semVal ((c : Thread nD τ), cellC 1) 0
      ∗ (c : Thread nD τ).loc main_arg4 ↦{fullShare} X.codes) :=
  unseed (c : Thread nD τ) (cellC 0) (cellC 1) (planC c T X.codes 0 0) (planC c T X.codes 1 0) (halfC 0) (halfC 1) X.codes halfC_compl rfl rfl rfl rfl
/-- After the last grid point: two idle slots give back the buffer of scales and its counters. -/
theorem unseedS : (iprop(Idle (c : Thread nD τ) (cellS 0) (planS c T X.scales 0 0) (halfS 0) ∗ Idle (c : Thread nD τ) (cellS 1) (planS c T X.scales 1 0) (halfS 1) ∗ (c : Thread nD τ).loc main_v0 ↦{Transfers.shareDrop fullShare 2} X.scales) : sProp 𝕄)
    ⊢ iprop((∃ f : S2x32x4x64.Idx → Elt F .f32, (c : Thread nD τ).loc cc0_scratch1 ↦{fullShare} f) ∗ semVal ((c : Thread nD τ), cellS 0) 0 ∗ semVal ((c : Thread nD τ), cellS 1) 0
      ∗ (c : Thread nD τ).loc main_v0 ↦{fullShare} X.scales) :=
  unseed (c : Thread nD τ) (cellS 0) (cellS 1) (planS c T X.scales 0 0) (planS c T X.scales 1 0) (halfS 0) (halfS 1) X.scales halfS_compl rfl rfl rfl rfl
/-- After the last grid point: two idle slots give back the buffer of rope keys and its counters. -/
theorem unseedR : (iprop(Idle (c : Thread nD τ) (cellR 0) (planR c T X.ropes 0 0) (halfR 0) ∗ Idle (c : Thread nD τ) (cellR 1) (planR c T X.ropes 1 0) (halfR 1) ∗ (c : Thread nD τ).loc main_arg6 ↦{Transfers.shareDrop fullShare 2} X.ropes) : sProp 𝕄)
    ⊢ iprop((∃ f : S2x2048x64.Idx → Elt F .bf16, (c : Thread nD τ).loc cc0_scratch2 ↦{fullShare} f) ∗ semVal ((c : Thread nD τ), cellR 0) 0 ∗ semVal ((c : Thread nD τ), cellR 1) 0
      ∗ (c : Thread nD τ).loc main_arg6 ↦{fullShare} X.ropes) :=
  unseed (c : Thread nD τ) (cellR 0) (cellR 1) (planR c T X.ropes 0 0) (planR c T X.ropes 1 0) (halfR 0) (halfR 1) X.ropes halfR_compl rfl rfl rfl rfl

/-- The store is two idle slots and the spare shares, -/
theorem store_idles : (Store c X : sProp 𝕄) ⊢ iprop(Idles c T X 0 ∗ Idles c T X 1 ∗ Spare c X) := by
  unfold Store Idles Spare
  iintro ⟨HC, HS, HR⟩
  ihave HC := (seedC c T X) $$ HC
  ihave HS := (seedS c T X) $$ HS
  ihave HR := (seedR c T X) $$ HR
  icases HC with ⟨HC0, HC1, HC⟩
  icases HS with ⟨HS0, HS1, HS⟩
  icases HR with ⟨HR0, HR1, HR⟩
  isplitl [HC0 HS0 HR0]
  · isplitl [HC0]; · iexact HC0
    isplitl [HS0]; · iexact HS0
    iexact HR0
  isplitl [HC1 HS1 HR1]
  · isplitl [HC1]; · iexact HC1
    isplitl [HS1]; · iexact HS1
    iexact HR1
  isplitl [HC]; · iexact HC
  isplitl [HS]; · iexact HS
  iexact HR

/-- and two idle slots and the spare shares are the store. -/
theorem idles_store : (iprop(Idles c T X 0 ∗ Idles c T X 1 ∗ Spare c X) : sProp 𝕄) ⊢ Store c X := by
  unfold Store Idles Spare
  iintro ⟨⟨HC0, HS0, HR0⟩, ⟨HC1, HS1, HR1⟩, HC, HS, HR⟩
  isplitl [HC0 HC1 HC]
  · iapply (unseedC c T X)
    isplitl [HC0]; · iexact HC0
    isplitl [HC1]; · iexact HC1
    iexact HC
  isplitl [HS0 HS1 HS]
  · iapply (unseedS c T X)
    isplitl [HS0]; · iexact HS0
    isplitl [HS1]; · iexact HS1
    iexact HS
  iapply (unseedR c T X)
  isplitl [HR0]; · iexact HR0
  isplitl [HR1]; · iexact HR1
  iexact HR

/-- What holds before grid point `b`. -/
def Inv (b : ℕ) : sProp 𝕄 :=
  iprop((tab c T ∗ lens c L ∗ (∃ f, scores c f) ∗ Next c T L X b ∗ Idles c T X ((b + 1) % 2)) ∗ Spare c X ∗ ∃ r, prngReg c r)

/-- The launch provides what the first point needs. -/
theorem inv_first : (iprop(tab c T ∗ lens c L ∗ (∃ f, scores c f) ∗ Store c X ∗ ∃ r, prngReg c r) : sProp 𝕄) ⊢ Inv c T L X 0 := by
  unfold Inv
  rw [show (Next c T L X 0 : sProp 𝕄) = Idles c T X 0 from if_pos (Or.inl rfl)]
  iintro ⟨HT, HL, HB, HS, HG⟩
  ihave HS := (store_idles c T X) $$ HS
  icases HS with ⟨H0, H1, HS⟩
  isplitl [HT HL HB H0 H1]
  · isplitl [HT]; · iexact HT
    isplitl [HL]; · iexact HL
    isplitl [HB]; · iexact HB
    isplitl [H0]; · iexact H0
    iexact H1
  isplitl [HS]; · iexact HS
  iexact HG

/-- After the last point everything is back. -/
theorem inv_last : (Inv c T L X 128 : sProp 𝕄) ⊢ iprop((∃ f, scores c f) ∗ Store c X ∗ ∃ r, prngReg c r) := by
  unfold Inv
  rw [show (Next c T L X 128 : sProp 𝕄) = Idles c T X 0 from if_pos (Or.inr (le_refl _))]
  iintro ⟨⟨-, -, HB, H0, H1⟩, HS, HG⟩
  isplitl [HB]; · iexact HB
  isplitr [HG]
  · iapply (idles_store c T X)
    isplitl [H0]; · iexact H0
    isplitl [H1]; · iexact H1
    iexact HS
  iexact HG

end Cert.KernelIdeal.Hand

end
-- ==== Proof.KI.Frame.lean ====
/-
  The launch: @main up to its region, the proof data of the pipeline, the body obligation at every grid point from the
  triple of a grid point, and the run of @main, whose last state has every argument as launched and every counter at zero.
-/
module

public import proofs.«01_k».proof.Proof.KI.Invariant
public import Idealize.ShloMosaic.Lib.Pipeline.FrameBody
public import Idealize.ShloMosaic.Lib.Claim

@[expose] public section

noncomputable section

namespace Cert.KernelIdeal.Hand

open Idealize.ShloMosaic Idealize.ShloMosaic.TcCoe Idealize.ShloMosaic.Tactic Cert.KernelIdeal Cert.KernelIdeal.Gen Cert.Words Cert.Pages
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

/-- The proof's resources: the pipeline's beside the counters of the transfers. -/
local notation "𝕄" => MT nD τ sig Unit (Elt F) ℕ (Pipeline.UD sig nD τ) ℕ

variable (m : (ℓ : Loc nD τ sig) → Buf (Elt F) ℓ) (ρ : Dev nD → PrngReg)

/-! ## @main up to the region -/

/-- The contents of core `c`'s buffers when the region is entered: after the three host operations. -/
abbrev V0 (c : Dev nD) : Valuation τ sig (Elt F) := StableHlo.after hostOps0 (fun b => m (c, b))
/-- The same at a reference. -/
abbrev V (c : Dev nD) (b : Ref sig .tc) : Buf (Elt F) ((c : Thread nD τ).loc b) := V0 m c (Proc.devRef .tc b)

/-- The lines before the launch allocate nothing. -/
theorem hostOps0_fresh : (hostOps0 : List (HloOp τ sig (Elt F))).Forall fun op => op.fresh = ∅ := by
  simp only [List.Forall]; repeat' constructor
/-- What the host operations write. -/
abbrev hostOps0_W : List (Ref sig .tc) := [main_v0, main_v1, main_v2]
/-- The lines before the launch write their three results only. -/
theorem hostOps0_writes : (hostOps0 : List (HloOp τ sig (Elt F))).Forall fun op => op.writes ⊆ (hostOps0_W.map (Proc.devRef (τ := τ) .tc)).toFinset :=
  StableHlo.forall_writes_sub_of_map rfl

/-- @main is the host operations, then the region. -/
theorem hmain : Pipeline.HMainP (Ix := Unit) (Name := ℕ) (U := Pipeline.UD sig nD τ) (Lvl := ℕ) pcfgs 0 defs₀ Variants.none m (main (F := F)) (V m) :=
  Pipeline.hmainP_prefix pcfgs 0 defs₀ Variants.none m main hostOps0 hostOps0_sub hostOps0_fresh main_chain

/-- The lines before the launch leave this argument as it was. -/
theorem V_main_arg0 (c : Dev nD) : V m c main_arg0 = m ((c : Thread nD τ).loc main_arg0) := StableHlo.after_of_writes_sub (r := main_arg0) hostOps0 _ hostOps0_writes (by decide)
/-- The lines before the launch leave this argument as it was. -/
theorem V_main_arg1 (c : Dev nD) : V m c main_arg1 = m ((c : Thread nD τ).loc main_arg1) := StableHlo.after_of_writes_sub (r := main_arg1) hostOps0 _ hostOps0_writes (by decide)
/-- The lines before the launch leave this argument as it was. -/
theorem V_main_arg2 (c : Dev nD) : V m c main_arg2 = m ((c : Thread nD τ).loc main_arg2) := StableHlo.after_of_writes_sub (r := main_arg2) hostOps0 _ hostOps0_writes (by decide)
/-- The lines before the launch leave this argument as it was. -/
theorem V_main_arg3 (c : Dev nD) : V m c main_arg3 = m ((c : Thread nD τ).loc main_arg3) := StableHlo.after_of_writes_sub (r := main_arg3) hostOps0 _ hostOps0_writes (by decide)
/-- The lines before the launch leave this argument as it was. -/
theorem V_main_arg4 (c : Dev nD) : V m c main_arg4 = m ((c : Thread nD τ).loc main_arg4) := StableHlo.after_of_writes_sub (r := main_arg4) hostOps0 _ hostOps0_writes (by decide)
/-- The lines before the launch leave this argument as it was. -/
theorem V_main_arg5 (c : Dev nD) : V m c main_arg5 = m ((c : Thread nD τ).loc main_arg5) := StableHlo.after_of_writes_sub (r := main_arg5) hostOps0 _ hostOps0_writes (by decide)
/-- The lines before the launch leave this argument as it was. -/
theorem V_main_arg6 (c : Dev nD) : V m c main_arg6 = m ((c : Thread nD τ).loc main_arg6) := StableHlo.after_of_writes_sub (r := main_arg6) hostOps0 _ hostOps0_writes (by decide)
/-- The lines before the launch leave this argument as it was. -/
theorem V_main_arg7 (c : Dev nD) : V m c main_arg7 = m ((c : Thread nD τ).loc main_arg7) := StableHlo.after_of_writes_sub (r := main_arg7) hostOps0 _ hostOps0_writes (by decide)
/-- The lines before the launch leave this argument as it was. -/
theorem V_main_arg8 (c : Dev nD) : V m c main_arg8 = m ((c : Thread nD τ).loc main_arg8) := StableHlo.after_of_writes_sub (r := main_arg8) hostOps0 _ hostOps0_writes (by decide)

/-! ## The tables -/

/-- The page table and the lengths, as launched. -/
def tbl : pre0.Contents (Elt F) := fun j => V m (0 : Dev nD) (pre0.ref j)
/-- The two scalar arguments reach the launch as they are. -/
theorem V_pre (c : Dev nD) (j : Fin 2) : V m c (pre0.ref j) = tbl m j := by
  obtain rfl : c = 0 := Subsingleton.elim _ _
  rfl
/-- No index map reads a table, so all contents are admissible. -/
abbrev adm : (pcfg0 (F := F)).Adm := ⟨tbl m, trivial⟩
/-- The pipeline. -/
abbrev cfgM : Pipeline.Cfg sig Λ₀ := cfg0 (adm m)

/-- The page table. -/
abbrev pages : Tab := m (((0 : Dev nD) : Thread nD τ).loc main_arg7)
/-- The lengths. -/
abbrev lengths : Lens := m (((0 : Dev nD) : Thread nD τ).loc main_arg8)
/-- The pools: codes, transposed scales, rope keys. -/
abbrev pools (c : Dev nD) : Pools F := ⟨V m c main_arg4, V m c main_v0, V m c main_arg6⟩

/-- The tables' halves, one by one. -/
theorem tables_eq (c : Dev nD) : (Pipeline.ΦT pre0 (tbl m) c : sProp 𝕄)
    ⊢ iprop(tab c (pages m) ∗ lens c (lengths m)) := by
  unfold Pipeline.ΦT Pipeline.prefHeld tab lens
  rw [bigSep_univ_eq_bigSepL [(0 : Fin 2), (1 : Fin 2)] (by decide) (by decide), ← show tbl m (0 : Fin 2) = pages m from V_main_arg7 m 0,
    ← show tbl m (1 : Fin 2) = lengths m from V_main_arg8 m 0]
  show iprop(((c : Thread nD τ).loc main_arg7 ↦{fullShare.right} tbl m (0 : Fin 2)) ∗ (c : Thread nD τ).loc main_arg8 ↦{fullShare.right} tbl m (1 : Fin 2)) ⊢ _
  iintro ⟨H0, H1⟩
  isplitl [H0]
  · iexists fullShare.right; iexact H0
  iexists fullShare.right; iexact H1

/-! ## What the body holds beside its windows -/

/-- The six cells of the copies. -/
abbrev osem0 : Fin 6 → SemLoc sig := fun j => (![cellC 0, cellC 1, cellS 0, cellS 1, cellR 0, cellR 1] : Fin 6 → SemLoc sig) j
/-- The kernel's own six counters are not the pipeline's. -/
theorem ownSemFacts0 : Pipeline.OwnSemFacts spec0 osem0 := by decide
/-- The kernel's own counters, listed: a pair of slots for each kind of page. -/
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), cellC 0) 0 ∗ semVal ((c : Thread nD τ), cellC 1) 0 ∗ semVal ((c : Thread nD τ), cellS 0) 0
          ∗ semVal ((c : Thread nD τ), cellS 1) 0 ∗ semVal ((c : Thread nD τ), cellR 0) 0 ∗ semVal ((c : Thread nD τ), cellR 1) 0) := by
  rw [Pipeline.ownSems0_eq_of_list c osem0 [0, 1, 2, 3, 4, 5] (by decide) (by decide)]; rfl

/-- The buffers the copies read. -/
def H0 : Finset (Ref sig .tc) := {main_arg4, main_v0, main_arg6}
/-- The buffers outside the windows that the body writes: none. -/
def R0 : Finset (Ref sig .tc) := ∅
/-- The three pools are no arrays of the pipeline. -/
theorem H0_sub : H0 ⊆ Pipeline.restRefsP sig pre0 spec0 := by decide
/-- No other array is given to the kernel. -/
theorem R0_sub : R0 ⊆ Pipeline.restRefsP sig pre0 spec0 \ H0 := by decide
/-- The three pools, listed. -/
theorem pools_eq (c : Dev nD) :
    (bigSep H0 (fun b => ((c : Thread nD τ).loc b) ↦{fullShare} V m c b) : sProp 𝕄)
      = iprop(((c : Thread nD τ).loc main_arg4 ↦{fullShare} (pools m c).codes) ∗ ((c : Thread nD τ).loc main_v0 ↦{fullShare} (pools m c).scales)
          ∗ (c : Thread nD τ).loc main_arg6 ↦{fullShare} (pools m c).ropes) := by
  rw [BI.bigSep_eq_bigSepL_of_eq [main_arg4, main_v0, main_arg6] (by decide) (by decide)]; rfl
/-- Nothing else is owned. -/
theorem owned_eq (c : Dev nD) : (Pipeline.owned R0 c : sProp 𝕄) = iprop(emp) := by
  unfold Pipeline.owned R0; exact BI.bigSep_empty

/-- The launch's resources are the scratch buffers, the cells and the pools. -/
theorem launch_in (c : Dev nD) : (Pipeline.ΦDR osem0 spec0 H0 R0 (V m) c : sProp 𝕄) ⊢ iprop((∃ f, scores c f) ∗ Store c (pools m c) ∗ ∃ r, prngReg c r) := by
  rw [Pipeline.ΦDR_eq, scopedRest0_eq, ownSems0_eq, pools_eq, owned_eq]
  unfold Store scores
  iintro ⟨⟨HS0, HS1, HS2, HS3⟩, HG, ⟨C0, C1, S0, S1, R0, R1⟩, ⟨P0, P1, P2⟩, -⟩
  isplitl [HS3]; · iexact HS3
  isplitr [HG]
  · isplitl [HS0 C0 C1 P0]
    · isplitl [HS0]; · iexact HS0
      isplitl [C0]; · iexact C0
      isplitl [C1]; · iexact C1
      iexact P0
    isplitl [HS1 S0 S1 P1]
    · isplitl [HS1]; · iexact HS1
      isplitl [S0]; · iexact S0
      isplitl [S1]; · iexact S1
      iexact P1
    isplitl [HS2]; · iexact HS2
    isplitl [R0]; · iexact R0
    isplitl [R1]; · iexact R1
    iexact P2
  iexact HG

/-- And back. -/
theorem launch_out (c : Dev nD) : (iprop((∃ f, scores c f) ∗ Store c (pools m c) ∗ ∃ r, prngReg c r) : sProp 𝕄) ⊢ Pipeline.ΦDR osem0 spec0 H0 R0 (V m) c := by
  rw [Pipeline.ΦDR_eq, scopedRest0_eq, ownSems0_eq, pools_eq, owned_eq]
  unfold Store scores
  iintro ⟨HS3, ⟨⟨HS0, C0, C1, P0⟩, ⟨HS1, S0, S1, P1⟩, ⟨HS2, R0, R1, P2⟩⟩, HG⟩
  isplitl [HS0 HS1 HS2 HS3]
  · isplitl [HS0]; · iexact HS0
    isplitl [HS1]; · iexact HS1
    isplitl [HS2]; · iexact HS2
    iexact HS3
  isplitl [HG]; · iexact HG
  isplitl [C0 C1 S0 S1 R0 R1]
  · isplitl [C0]; · iexact C0
    isplitl [C1]; · iexact C1
    isplitl [S0]; · iexact S0
    isplitl [S1]; · iexact S1
    isplitl [R0]; · iexact R0
    iexact R1
  isplitl [P0 P1 P2]
  · isplitl [P0]; · iexact P0
    isplitl [P1]; · iexact P1
    iexact P2
  iempintro

/-! ## The proof data -/

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The result block of point `t`. -/
def oblk (c : Dev nD) (t : Fin (cfgM m).N) : Vec F S1x32x512 .bf16 :=
  out (pages m) (lengths m) (pools m c) t.val (iblk m c 0 t) (iblk m c 1 t) (iblk m c 2 t) (iblk m c 3 t)

variable (hG : Good (pages m) (lengths m))

/-- The proof data: arrays as the region finds them, inputs left in place, the result block of each point, and between
    points the invariant. -/
def dats (hG : Good (pages m) (lengths m)) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oblk m c t
  Φ t := Inv c (pages m) (lengths m) (pools m c) t.val
  q _ := fullShare
  owed _ := 0

/-- What an array holds when the launch starts. -/
theorem A_eq (c : Dev nD) (w : Fin (cfgM m).W) : (dats m hG 0 c).A w = V m c (Pipeline.arrRef spec0 w) := by
  dsimp only [dats]
/-- A block that is only read is unchanged by a grid point. -/
theorem after_0 (c : Dev nD) (t : Fin (cfgM m).N) : (dats m hG 0 c).after 0 t = iblk m c 0 t := by dsimp only [dats]; rfl
/-- A block that is only read is unchanged by a grid point. -/
theorem after_1 (c : Dev nD) (t : Fin (cfgM m).N) : (dats m hG 0 c).after 1 t = iblk m c 1 t := by dsimp only [dats]; rfl
/-- A block that is only read is unchanged by a grid point. -/
theorem after_2 (c : Dev nD) (t : Fin (cfgM m).N) : (dats m hG 0 c).after 2 t = iblk m c 2 t := by dsimp only [dats]; rfl
/-- A block that is only read is unchanged by a grid point. -/
theorem after_3 (c : Dev nD) (t : Fin (cfgM m).N) : (dats m hG 0 c).after 3 t = iblk m c 3 t := by dsimp only [dats]; rfl
/-- What a grid point leaves in the block of the result. -/
theorem after_4 (c : Dev nD) (t : Fin (cfgM m).N) : (dats m hG 0 c).after 4 t = oblk m c t := by dsimp only [dats]; rfl
/-- What a grid point finds in this block is the argument's block. -/
theorem before_0 (c : Dev nD) (t : Fin (cfgM m).N) (d) : (dats m hG 0 c).before 0 t d = iblk m c 0 t :=
  ((dats m hG 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- What a grid point finds in this block is the argument's block. -/
theorem before_1 (c : Dev nD) (t : Fin (cfgM m).N) (d) : (dats m hG 0 c).before 1 t d = iblk m c 1 t :=
  ((dats m hG 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- What a grid point finds in this block is the argument's block. -/
theorem before_2 (c : Dev nD) (t : Fin (cfgM m).N) (d) : (dats m hG 0 c).before 2 t d = iblk m c 2 t :=
  ((dats m hG 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- What a grid point finds in this block is the argument's block. -/
theorem before_3 (c : Dev nD) (t : Fin (cfgM m).N) (d) : (dats m hG 0 c).before 3 t d = iblk m c 3 t :=
  ((dats m hG 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- There are 128 points, along one axis. -/
theorem pt_coords (t : Fin (cfgM m).N) : pt ((cfgM m).grid.coords t) = t.val := by
  have h : t.val < 128 := lt_of_lt_of_eq t.isLt N_0
  show t.val / grid0.stride 0 % grid0.bound 0 = t.val
  rw [show grid0.stride 0 = 1 by decide, show grid0.bound 0 = 128 from rfl]
  omega

/-- The staging buffers at point `t`. -/
abbrev st (t : Fin (cfgM m).N) (w : Fin (cfgM m).W) := ((cfgM m).win w).stage ((cfgM m).slots t w)

/-- The body at point `t`. -/
abbrev bodyAt (t : Fin (cfgM m).N) : Prog (TpuEff nD τ sig (Elt F) Λ₀ .tc) PUnit :=
  defs₀ (F := F) .tc (cfgM m).body ((cfgM m).bodyArgs t ((cfgM m).slots t))

/-- What the body is called with at point `t`, -/
def bodyPre (c : Dev nD) (t : Fin (cfgM m).N) : sProp 𝕄 :=
  iprop((dats m hG 0 c).Φ t.castSucc ∗ (dats m hG 0 c).owesAt () t.castSucc
    ∗ (∃ d, owns (c : Thread nD τ) (st m t 0) fullShare ((dats m hG 0 c).before 0 t d))
    ∗ (∃ d, owns (c : Thread nD τ) (st m t 1) fullShare ((dats m hG 0 c).before 1 t d))
    ∗ (∃ d, owns (c : Thread nD τ) (st m t 2) fullShare ((dats m hG 0 c).before 2 t d))
    ∗ (∃ d, owns (c : Thread nD τ) (st m t 3) fullShare ((dats m hG 0 c).before 3 t d))
    ∗ (∃ d, owns (c : Thread nD τ) (st m t 4) fullShare ((dats m hG 0 c).before 4 t d)))

/-- and what it returns. -/
def bodyPost (c : Dev nD) (t : Fin (cfgM m).N) : sProp 𝕄 :=
  iprop((dats m hG 0 c).Φ t.succ ∗ (dats m hG 0 c).owesAt () t.succ
    ∗ owns (c : Thread nD τ) (st m t 0) fullShare ((dats m hG 0 c).after 0 t)
    ∗ owns (c : Thread nD τ) (st m t 1) fullShare ((dats m hG 0 c).after 1 t)
    ∗ owns (c : Thread nD τ) (st m t 2) fullShare ((dats m hG 0 c).after 2 t)
    ∗ owns (c : Thread nD τ) (st m t 3) fullShare ((dats m hG 0 c).after 3 t)
    ∗ owns (c : Thread nD τ) (st m t 4) fullShare ((dats m hG 0 c).after 4 t))

/-- A grid point's triple at point `t`. -/
theorem point_at (c : Dev nD) (t : Fin (cfgM m).N) (hG : Good (pages m) (lengths m)) {o : Vec F S1x32x512 .bf16} :
    iprop((tab c (pages m) ∗ lens c (lengths m) ∗ (∃ f, scores c f) ∗ Next c (pages m) (lengths m) (pools m c) t.val ∗ Idles c (pages m) (pools m c) ((t.val + 1) % 2) ∗ ∃ W, owes (c : Thread nD τ) 0 W)
      ∗ owns (c : Thread nD τ) (st m t 0) fullShare (iblk m c 0 t) ∗ owns (c : Thread nD τ) (st m t 1) fullShare (iblk m c 1 t) ∗ owns (c : Thread nD τ) (st m t 2) fullShare (iblk m c 2 t)
      ∗ owns (c : Thread nD τ) (st m t 3) fullShare (iblk m c 3 t) ∗ owns (c : Thread nD τ) (st m t 4) fullShare o)
    ⊢ wp frame (wpE (defs₀ (F := F)) Variants.none (c : Thread nD τ) none) Set.univ (bodyAt m t)
      (fun _ => iprop((tab c (pages m) ∗ lens c (lengths m) ∗ (∃ f, scores c f) ∗ Next c (pages m) (lengths m) (pools m c) (t.val + 1) ∗ Idles c (pages m) (pools m c) (t.val % 2) ∗ ∃ W, owes (c : Thread nD τ) 0 W)
      ∗ owns (c : Thread nD τ) (st m t 0) fullShare (iblk m c 0 t) ∗ owns (c : Thread nD τ) (st m t 1) fullShare (iblk m c 1 t) ∗ owns (c : Thread nD τ) (st m t 2) fullShare (iblk m c 2 t)
      ∗ owns (c : Thread nD τ) (st m t 3) fullShare (iblk m c 3 t) ∗ owns (c : Thread nD τ) (st m t 4) fullShare (oblk m c t))) := by
  have h := point c (pages m) (lengths m) (pools m c) ((cfgM m).grid.coords t) hG none (st m t 0) (hstage0_0 (((cfgM m).slots t 0).cast nbuf0_0)) (st m t 1) (hstage0_1 (((cfgM m).slots t 1).cast nbuf0_1))
    (st m t 2) (hstage0_2 (((cfgM m).slots t 2).cast nbuf0_2)) (st m t 3) (hstage0_3 (((cfgM m).slots t 3).cast nbuf0_3)) (st m t 4) (hstage0_4 (((cfgM m).slots t 4).cast nbuf0_4))
    (iblk m c 0 t) (iblk m c 1 t) (iblk m c 2 t) (iblk m c 3 t) (o := o)
  rw [pt_coords] at h
  unfold bodyAt defs₀
  rw [Defs.onTc_tc]
  exact h

/-- The body at any point. -/
theorem sound_body (c : Dev nD) (t : Fin (cfgM m).N) :
    bodyPre m hG c t ⊢ wp frame (wpE (defs₀ (F := F)) Variants.none c none) Set.univ (bodyAt m t) (fun _ => bodyPost m hG c t) := by
  unfold bodyPre bodyPost
  simp only [before_0, before_1, before_2, before_3]
  rw [after_0, after_1, after_2, after_3, after_4,
    show (dats m hG 0 c).Φ t.succ = Inv c (pages m) (lengths m) (pools m c) (t.val + 1) from rfl,
    show (dats m hG 0 c).Φ t.castSucc = Inv c (pages m) (lengths m) (pools m c) t.val from rfl]
  unfold Dat.owesAt Pipeline.owesWithin
  rw [show (dats m hG 0 c).owed t.castSucc = 0 from rfl, show (dats m hG 0 c).owed t.succ = 0 from rfl]
  unfold Inv
  rw [show (t.val + 1 + 1) % 2 = t.val % 2 by omega]
  iintro ⟨⟨⟨HT, HL, HB, HN, HI⟩, HS, HG⟩, ⟨%W, -, HW⟩, ⟨%d0, H0⟩, ⟨%d1, H1⟩, ⟨%d2, H2⟩, ⟨%d3, H3⟩, ⟨%d4, H4⟩⟩
  ihave HWP := (point_at m c t hG) $$ [HT HL HB HN HI HW H0 H1 H2 H3 H4]
  · isplitl [HT HL HB HN HI HW]
    · isplitl [HT]; · iexact HT
      isplitl [HL]; · iexact HL
      isplitl [HB]; · iexact HB
      isplitl [HN]; · iexact HN
      isplitl [HI]; · iexact HI
      iexists W; iexact HW
    isplitl [H0]; · iexact H0
    isplitl [H1]; · iexact H1
    isplitl [H2]; · iexact H2
    isplitl [H3]; · iexact H3
    iexact H4
  iapply wp_wand_r
  isplitl [HWP]; · iexact HWP
  iintro %u ⟨⟨HT, HL, HB, HN, HI, ⟨%W', HW⟩⟩, H0, H1, H2, H3, H4⟩
  isplitl [HT HL HB HN HI HS HG]
  · isplitl [HT HL HB HN HI]
    · isplitl [HT]; · iexact HT
      isplitl [HL]; · iexact HL
      isplitl [HB]; · iexact HB
      isplitl [HN]; · iexact HN
      iexact HI
    isplitl [HS]; · iexact HS
    iexact HG
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact H4

/-- The body obligation at every point. -/
theorem body_obligation (c : Dev nD) : BodyObligation (dats m hG 0 c) (defs₀ (F := F)) Variants.none () Set.univ := fun t => by
  rw [bigSep_W0, bigSep_W0]
  exact triple_restated (sound_body m hG c t) rfl .rfl fun _ => .rfl

/-- What the launch hands over is what the first grid point's invariant asks. -/
theorem hin (c : Dev nD) : (iprop(Pipeline.ΦDR osem0 spec0 H0 R0 (V m) c ∗ Pipeline.ΦT pre0 (tbl m) c) : sProp 𝕄) ⊢ (dats m hG 0 c).Φ 0 := by
  show _ ⊢ Inv c (pages m) (lengths m) (pools m c) 0
  iintro ⟨HD, HT⟩
  ihave HD := (launch_in m c) $$ HD
  ihave HT := (tables_eq m c) $$ HT
  icases HD with ⟨HB, HS, HG⟩
  icases HT with ⟨HT, HL⟩
  iapply (inv_first c (pages m) (lengths m) (pools m c))
  isplitl [HT]; · iexact HT
  isplitl [HL]; · iexact HL
  isplitl [HB]; · iexact HB
  isplitl [HS]; · iexact HS
  iexact HG

/-- The invariant after the last grid point gives back what the launch expects. -/
theorem hout (c : Dev nD) : (dats m hG 0 c).Φ (Fin.last (cfgM m).N) ⊢ (Pipeline.ΦDR osem0 spec0 H0 R0 (V m) c : sProp 𝕄) := by
  have e : (dats m hG 0 c).Φ (Fin.last (cfgM m).N) = Inv c (pages m) (lengths m) (pools m c) 128 := by
    show Inv c (pages m) (lengths m) (pools m c) grid0.N = _
    rw [N_0]
  rw [e]
  exact (inv_last c (pages m) (lengths m) (pools m c)).trans (launch_out m c)

/-! ## The run -/

set_option backward.isDefEq.respectTransparency.types false in
/-- @main runs: the windows' arrays end as the last write-back leaves them, the other buffers as the region found them,
    and every counter at zero. -/
theorem run_main : θ_run defs (onTc (τ := τ) (main (F := F))) (s₀ m ρ) (fun r => Pipeline.FramePostR (Pipeline.pin pcfgs fun _ => adm m) (dats m hG) 0 R0 (V m) r ∧ r.2.sem = fun _ => 0) :=
  Pipeline.θ_run_frameP_dmaR (Q' := _) pcfgs (fun _ => adm m) (dats m hG) (0 : Fin 1) launch0 osem0 defs₀ Variants.none ownSemFacts0 H0 R0 H0_sub R0_sub m ρ main
    (hbody := fun c => (body_obligation m hG c).loose) (hshare := fun c => (dats m hG 0 c).share_full fun _ => rfl)
    (howed := fun _ _ => rfl) (V := V m) (hmain := hmain m) (hA := A_eq m hG) (hpf := V_pre m)
    (hin := hin m hG) (hout := hout m hG)

/-- The run with what the claims read of it: the result as the last write-back leaves it, every argument as launched, every
    counter at zero. -/
theorem run : θ_run defs (onTc (τ := τ) (main (F := F))) ⟨m, fun _ => 0, ρ⟩ (fun r => (∀ c : Dev nD,
      r.2.mem ((c.tc : Thread nD τ).loc main_v3) = (dats m hG 0 c).arrAt 4 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(h.1 c).1 4,
      ((h.1 c).2 main_arg0 (by decide : main_arg0 ∈ Pipeline.restRefs sig spec0 \ R0)).trans (V_main_arg0 m c),
      ((h.1 c).2 main_arg1 (by decide : main_arg1 ∈ Pipeline.restRefs sig spec0 \ R0)).trans (V_main_arg1 m c),
      ((h.1 c).1 2).trans (((dats m hG 0 c).arrAt_in 2 rfl _).trans ((A_eq m hG c 2).trans (V_main_arg2 m c))),
      ((h.1 c).1 3).trans (((dats m hG 0 c).arrAt_in 3 rfl _).trans ((A_eq m hG c 3).trans (V_main_arg3 m c))),
      ((h.1 c).2 main_arg4 (by decide : main_arg4 ∈ Pipeline.restRefs sig spec0 \ R0)).trans (V_main_arg4 m c),
      ((h.1 c).2 main_arg5 (by decide : main_arg5 ∈ Pipeline.restRefs sig spec0 \ R0)).trans (V_main_arg5 m c),
      ((h.1 c).2 main_arg6 (by decide : main_arg6 ∈ Pipeline.restRefs sig spec0 \ R0)).trans (V_main_arg6 m c),
      ((h.1 c).2 main_arg7 (by decide : main_arg7 ∈ Pipeline.restRefs sig spec0 \ R0)).trans (V_main_arg7 m c),
      ((h.1 c).2 main_arg8 (by decide : main_arg8 ∈ Pipeline.restRefs sig spec0 \ R0)).trans (V_main_arg8 m c)⟩, h.2⟩) (run_main m ρ hG)

end Cert.KernelIdeal.Hand

end
-- ==== Proof.Bounds.lean ====
/-
  What the precondition says of the page table and the lengths.
-/
module

public import proofs.«01_k».proof.Proof.Gen.Pre_pages_and_lengths
public import Idealize.ShloMosaic.Lib.StableHlo.Predicate

@[expose] public section

namespace Cert.Bounds

open Idealize.ShloMosaic

/-- A conjunction of two truth values holds exactly when both do. -/
theorem and_one : ∀ a b : BitVec 1, a &&& b = 1#1 ↔ a = 1#1 ∧ b = 1#1 := by decide

/-- A word at least 0 and below 5120, read as signed, is below 5120 read as unsigned. -/
theorem page_lt {w : BitVec 32} (h0 : IntOp.cmpi .sge w 0#32 = 1#1) (h1 : IntOp.cmpi .slt w 5120#32 = 1#1) : w.toNat < 5120 := by
  have a : (0#32).sle w = true := (StableHlo.Predicate.ofBool_eq_one_iff _).mp h0
  have b : w.slt 5120#32 = true := (StableHlo.Predicate.ofBool_eq_one_iff _).mp h1
  have a' : 0 ≤ w.toInt := by simpa [BitVec.sle] using a
  have b' : w.toInt < 5120 := by simpa [BitVec.slt] using b
  rw [BitVec.toInt_eq_toNat_cond] at a' b'
  split at a' <;> split at b' <;> omega

/-- A word at most 2048, read as signed. -/
theorem len_le {w : BitVec 32} (h : IntOp.cmpi .sle w 2048#32 = 1#1) : w.toInt ≤ 2048 := by
  have a : w.sle 2048#32 = true := (StableHlo.Predicate.ofBool_eq_one_iff _).mp h
  simpa [BitVec.sle] using a

open Cert.Pre_pages_and_lengths in
/-- The precondition: every page is in the pool, no length exceeds 2048. -/
theorem bounds {F : FTy → Type} [FloatOps F] {x0 x1 x2 x3 x4 x5 x6} {T : IVec S128x32 32} {L : IVec S128 32}
    (h : Cert.Pre_pages_and_lengths.fn (F := F) x0 x1 x2 x3 x4 x5 x6 T L = fun _ => 1#1) :
    (∀ y, (T y).toNat < 5120) ∧ ∀ y, (L y).toInt ≤ 2048 := by
  have key : ∀ y : S128x32.Idx, IntOp.cmpi .sge (T y) 0#32 = 1#1 ∧ IntOp.cmpi .slt (T y) 5120#32 = 1#1 ∧ ∃ z : S128.Idx, (z 0).val = (y 0).val ∧ IntOp.cmpi .sle (L z) 2048#32 = 1#1 := by
    intro y
    have e := congrFun h y
    simp only [Cert.Pre_pages_and_lengths.fn] at e
    have e' := (and_one _ _).mp e
    have e'' := (and_one _ _).mp e'.1
    refine ⟨e''.1, e''.2, ?_⟩
    have e3 := e'.2
    simp only [broadcastInDim, cmpi, constantI] at e3
    exact ⟨_, rfl, e3⟩
  refine ⟨fun y => page_lt (key y).1 (key y).2.1, fun z => ?_⟩
  obtain ⟨-, -, z', hz, hle⟩ := key fun a => ⟨![(z 0).val, 0] a, by have := (z 0).isLt; fin_cases a <;> simp [Shape.size] at this ⊢; omega⟩
  have : z' = z := by funext a; fin_cases a; exact Fin.ext hz
  exact len_le (this ▸ hle)

end Cert.Bounds
-- ==== Proof.Gather.lean ====
/-
  Gathering whole pages of a pool by a table of page numbers, read at an index.
-/
module

public import Idealize.ShloMosaic.PureOps
public import Idealize.ShloMosaic.Lib.Pointwise
public import Idealize.ShloMosaic.Lib.StableHlo.Predicate

@[expose] public section

noncomputable section

namespace Cert.Gather

open Idealize.ShloMosaic

/-- The dimension numbers of `pool[table]`: the pool holds 5120 pages of 64 rows of `C`, the table 128 rows of 32 pages. -/
def pageDims (C : ℕ) (wf : GatherDims.WF ⟨3, ![5120, 64, C]⟩ ⟨3, ![128, 32, 1]⟩ ⟨4, ![128, 32, 64, C]⟩ [2, 3] [0] [] [0] [] 2 ![1, 64, C]) :
    GatherDims ⟨3, ![5120, 64, C]⟩ ⟨3, ![128, 32, 1]⟩ ⟨4, ![128, 32, 64, C]⟩ where
  offsetDims := [2, 3]
  collapsedSliceDims := [0]
  operandBatchingDims := []
  startIndicesBatchingDims := []
  startIndexMap := [0]
  indexVectorDim := 2
  sliceSizes := ![1, 64, C]
  wf := wf

/-- `pool[table]` at sequence `b`, page position `j`, row `s`, column `c` is the pool at the page the table names. -/
theorem at_page {α : Type} {C : ℕ} (wf) (x : (⟨3, ![5120, 64, C]⟩ : Shape).Idx → α) (idx : IVec ⟨3, ![128, 32, 1]⟩ 32)
    (b : Fin 128) (j : Fin 32) (s : Fin 64) (c : Fin C) (p : Fin 5120) (hp : (idx (ix3 b j 0)).toNat = p.val) :
    Host.gather (pageDims C wf) x idx (ix4 b j s c) = x (ix3 p s c) := by
  unfold Host.gather
  congr 1
  funext a
  refine Fin.ext ?_
  show (pageDims C wf).start (ix4 b j s c) idx a + (pageDims C wf).batchCoord (ix4 b j s c) a + (pageDims C wf).offCoord (ix4 b j s c) a = _
  rw [GatherDims.batchCoord_eq_zero _ _ _ (fun h => by cases h), Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (pageDims C wf).startIndexMap from List.mem_singleton.mpr rfl)]
    have hsi : (pageDims C wf).siIdx (ix4 b j s c) ⟨List.idxOf (0 : Fin 3) (pageDims C wf).startIndexMap,
        List.idxOf_lt_length_iff.2 (List.mem_singleton.mpr rfl)⟩ = ix3 b j 0 := by
      funext k; refine Fin.ext ?_
      match k with
      | ⟨0, _⟩ => rfl
      | ⟨1, _⟩ => rfl
      | ⟨2, _⟩ => rfl
    have hlt := p.isLt
    have e : (idx (ix3 b j 0)).toInt.toNat = p.val := by rw [BitVec.toInt_eq_toNat_cond]; split <;> omega
    rw [hsi, e]
    show min p.val (5120 - 1) = p.val
    omega
  · have h : (pageDims C wf).start (ix4 b j s c) idx (1 : Fin 3) = 0 := dif_neg (show (1 : Fin 3) ∉ ([0] : List (Fin 3)) by decide)
    exact (congrArg (· + _) h).trans (Nat.zero_add _)
  · have h : (pageDims C wf).start (ix4 b j s c) idx (2 : Fin 3) = 0 := dif_neg (show (2 : Fin 3) ∉ ([0] : List (Fin 3)) by decide)
    exact (congrArg (· + _) h).trans (Nat.zero_add _)

end Cert.Gather

end
-- ==== Proof.Tail.lean ====
/-
  What the precondition of the value claim says: pages and lengths in range, blank scales past the last block reached.
-/
module

public import proofs.«01_k».proof.Pre_blank_tail
public import proofs.«01_k».proof.Proof.Bounds
public import proofs.«01_k».proof.Proof.Gather
public import Idealize.ShloMosaic.Lib.Pointwise

@[expose] public section

set_option maxRecDepth 16384

noncomputable section

namespace Cert.Tail

open Idealize.ShloMosaic Cert.Pre_blank_tail

/-- The side conditions of the precondition's operations. -/
instance facts : Cert.Pre_blank_tail.Facts := by constructor <;> decide

/-- A disjunction of two truth values holds exactly when one does. -/
theorem or_one : ∀ a b : BitVec 1, a ||| b = 1#1 ↔ a = 1#1 ∨ b = 1#1 := by decide

/-- The first token of the block a page position lies in. -/
theorem block_word : ∀ j : Fin 32, (IntOp.muli (IntOp.andi (BitVec.ofNat 32 j.val) 4294967292#32) 64#32).toInt = ((j.val / 4 * 256 : ℕ) : ℤ) := by
  decide

/-- A page id of the pool is not taken for a negative one. -/
theorem not_wrapped {w : BitVec 32} (h : w.toNat < 5120) : Scalar.select (IntOp.cmpi .slt w 0#32) (IntOp.addi w 5120#32) w = w := by
  have : w.slt 0#32 = false := by
    simp only [BitVec.slt, decide_eq_false_iff_not, BitVec.toInt_eq_toNat_cond]
    have : (0#32).toNat = 0 := rfl
    split <;> split <;> omega
  show Scalar.select (BitVec.ofBool (w.slt 0#32)) _ _ = _
  rw [this]
  rfl

/-- The precondition at one sequence, page position, row and column group. -/
theorem at_ix {x0 x1 x2 x3 x4 x6} {S : FVec Ideal S5120x64x4 .f32} {T : IVec S128x32 32} {L : IVec S128 32}
    (h : fn (F := Ideal) x0 x1 x2 x3 x4 S x6 T L = fun _ => 1#1) (b : Fin 128) (j : Fin 32) :
    ∃ hp : (T (ix2 b j)).toNat < 5120, (L (ix1 b)).toInt ≤ 2048 ∧ ∀ (s : Fin 64) (g : Fin 4),
      ((j.val / 4 * 256 : ℕ) : ℤ) < (L (ix1 b)).toInt ∨ S (ix3 ⟨(T (ix2 b j)).toNat, hp⟩ s g) = 0 := by
  have key := fun (s : Fin 64) (g : Fin 4) => congrFun h (ix4 b j s g)
  have a := fun (s : Fin 64) (g : Fin 4) => by
    have e := key s g
    pointwise [fn, fn_part1] at e
    exact (Bounds.and_one _ _).mp e
  have a1 := (Bounds.and_one _ _).mp (a 0 0).1
  have a2 := (Bounds.and_one _ _).mp a1.1
  have hp := Bounds.page_lt a2.1 a2.2
  refine ⟨hp, Bounds.len_le a1.2, fun s g => ?_⟩
  rcases (or_one _ _).mp (a s g).2 with l | z
  · left
    have l' := (StableHlo.Predicate.ofBool_eq_one_iff _).mp l
    simpa [BitVec.slt, block_word] using l'
  · right
    have z' := of_decide_eq_true ((StableHlo.Predicate.ofBool_eq_one_iff _).mp z)
    refine Eq.trans (Eq.symm ?_) z'
    refine Gather.at_page (C := 4) _ S _ b j s g ⟨_, hp⟩ ?_
    pointwise []
    exact congrArg BitVec.toNat (not_wrapped hp)

/-- The precondition's bounds. -/
theorem bounds {x0 x1 x2 x3 x4 x6} {S : FVec Ideal S5120x64x4 .f32} {T : IVec S128x32 32} {L : IVec S128 32}
    (h : fn (F := Ideal) x0 x1 x2 x3 x4 S x6 T L = fun _ => 1#1) : (∀ y, (T y).toNat < 5120) ∧ ∀ y, (L y).toInt ≤ 2048 := by
  refine ⟨fun y => ?_, fun y => ?_⟩
  · have e : y = ix2 (y 0) (y 1) := funext fun a => by fin_cases a <;> rfl
    rw [e]
    exact (at_ix h (y 0) (y 1)).1
  · have e : y = ix1 (y 0) := funext fun a => by fin_cases a; rfl
    rw [e]
    exact (at_ix h (y 0) 0).2.1

end Cert.Tail

end
-- ==== Proof.Spec.lean ====
/-
  One row of attention over extended reals: a head of one sequence against the first `n` cached tokens and the new
  token. The scores of tokens at or past the length are minus infinity. Nothing here depends on a program.
-/
module

public import Idealize.ShloMosaic.Lib.Pointwise

@[expose] public section

noncomputable section

namespace Cert.Spec

open Idealize.ShloMosaic

/-- What a row is computed from: the query `x` with its rope part `q`, the new token's latent `z` and rope key `w`, and
    for each cached token its codes, its four scales, its rope key; tokens from `len` on are masked. -/
structure Row where
  x : Fin 512 → EReal
  q : Fin 64 → EReal
  z : Fin 512 → EReal
  w : Fin 64 → EReal
  C : ℕ → Fin 512 → EReal
  S : ℕ → Fin 4 → EReal
  R : ℕ → Fin 64 → EReal
  len : ℤ

/-- Column `d` of group `g`. -/
def col (g : Fin 4) (d : Fin 128) : Fin 512 := ⟨128 * g.val + d.val, by omega⟩
/-- The group of a column. -/
def grp (e : Fin 512) : Fin 4 := ⟨e.val / 128, by omega⟩

namespace Row

/-- The factor on every score. -/
def κ : EReal := Ideal.ofBits .f32 0x3D93CD3A#32

variable (r : Row)

/-- Group `g` of the query against the codes of token `t`. -/
def dot (t : ℕ) (g : Fin 4) : EReal := ∑ d : Fin 128, r.x (col g d) * r.C t (col g d)
/-- The score of cached token `t`. -/
def score (t : ℕ) : EReal :=
  if (t : ℤ) < r.len then
    (((((∑ d : Fin 64, r.q d * r.R t d) + r.dot t 0 * r.S t 0) + r.dot t 1 * r.S t 1) + r.dot t 2 * r.S t 2) + r.dot t 3 * r.S t 3) * κ
  else ⊥
/-- The score of the new token. -/
def new : EReal := ((∑ d : Fin 512, r.x d * r.z d) + ∑ d : Fin 64, r.q d * r.w d) * κ
/-- The largest score of the first `n` cached tokens and the new token. -/
def top (n : ℕ) : EReal := max r.new ((Finset.range n).sup r.score)
/-- The exponential of a score less `m`. -/
def ex (m : EReal) (t : ℕ) : EReal := Ideal.exp (r.score t - m)
/-- The exponential of the new token's score less `m`. -/
def exNew (m : EReal) : EReal := Ideal.exp (r.new - m)
/-- The sum of the exponentials. -/
def den (m : EReal) (n : ℕ) : EReal := (∑ t ∈ Finset.range n, r.ex m t) + r.exNew m
/-- What token `t` contributes to column `e`. -/
def term (m d : EReal) (e : Fin 512) (t : ℕ) : EReal := Ideal.div (r.ex m t) d * r.S t (grp e) * r.C t e
/-- Column `e` of the row's result over `n` cached tokens. -/
def out (n : ℕ) (e : Fin 512) : EReal :=
  (∑ t ∈ Finset.range n, r.term (r.top n) (r.den (r.top n) n) e t) + Ideal.div (r.exNew (r.top n)) (r.den (r.top n) n) * r.z e

/-- A masked token's exponential is zero. -/
theorem ex_masked {t : ℕ} (h : r.len ≤ t) (m : EReal) : r.ex m t = 0 := by
  unfold ex score
  rw [if_neg (by omega), sub_eq_add_neg, EReal.bot_add]
  rfl

/-- More tokens, all masked and all with scales zero, change nothing. -/
theorem out_extend {n N : ℕ} (hn : n ≤ N) (hm : ∀ t, n ≤ t → t < N → r.len ≤ t) (hS : ∀ t, n ≤ t → t < N → ∀ g, r.S t g = 0) (e : Fin 512) :
    r.out N e = r.out n e := by
  have hsub : Finset.range n ⊆ Finset.range N := Finset.range_subset_range.mpr hn
  have htop : r.top N = r.top n := by
    unfold top
    congr 1
    refine le_antisymm (Finset.sup_le fun t ht => ?_) (Finset.sup_mono hsub)
    by_cases h : t < n
    · exact Finset.le_sup (Finset.mem_range.mpr h)
    have hl := hm t (by omega) (Finset.mem_range.mp ht)
    unfold score
    rw [if_neg (by omega)]
    exact bot_le
  have hden : ∀ m, r.den m N = r.den m n := by
    intro m
    unfold den
    congr 1
    refine (Finset.sum_subset hsub fun t ht h => r.ex_masked (hm t ?_ (Finset.mem_range.mp ht)) m).symm
    exact Nat.le_of_not_lt fun h' => h (Finset.mem_range.mpr h')
  unfold out
  rw [htop, hden]
  congr 1
  refine (Finset.sum_subset hsub fun t ht h => ?_).symm
  have hle : n ≤ t := Nat.le_of_not_lt fun h' => h (Finset.mem_range.mpr h')
  unfold term
  rw [hS t hle (Finset.mem_range.mp ht), mul_zero, zero_mul]

/-- The largest of a function over one more block of 256. -/
theorem sup_block (f : ℕ → EReal) (k : ℕ) :
    (Finset.range (256 * (k + 1))).sup f = max ((Finset.range (256 * k)).sup f) (Finset.univ.sup fun x : Fin 256 => f (256 * k + x.val)) := by
  refine le_antisymm (Finset.sup_le fun t ht => ?_) (max_le (Finset.sup_mono (Finset.range_subset_range.mpr (by omega))) (Finset.sup_le fun x _ => ?_))
  · have ht := Finset.mem_range.mp ht
    by_cases h : t < 256 * k
    · exact le_max_of_le_left (Finset.le_sup (Finset.mem_range.mpr h))
    · refine le_max_of_le_right (le_of_eq_of_le ?_ (Finset.le_sup (f := fun x : Fin 256 => f (256 * k + x.val)) (Finset.mem_univ ⟨t - 256 * k, by omega⟩)))
      show f t = f (256 * k + (t - 256 * k))
      congr 1
      omega
  · exact Finset.le_sup (f := f) (Finset.mem_range.mpr (by omega))

/-- A sum over one more block of 256. -/
theorem sum_block (f : ℕ → EReal) (k : ℕ) :
    ∑ t ∈ Finset.range (256 * (k + 1)), f t = ∑ t ∈ Finset.range (256 * k), f t + ∑ x : Fin 256, f (256 * k + x.val) := by
  rw [Nat.mul_succ, Finset.sum_range_add, ← Fin.sum_univ_eq_sum_range (fun x => f (256 * k + x))]

end Row

/-- The bits of minus infinity. -/
theorem negInf : Ideal.ofBits .f32 0xFF800000#32 = ⊥ := by
  simp [Ideal.ofBits, Ideal.ieee]

end Cert.Spec

end
-- ==== Proof.KI.Value.lean ====
/-
  What a grid point stores, over extended reals: each entry is one row of attention over the tokens of the blocks the
  sequence reaches.
-/
module

public import proofs.«01_k».proof.Proof.KI.Point
public import proofs.«01_k».proof.Proof.Spec
public import Idealize.ShloMosaic.Lib.Tactic.WordOmega

@[expose] public section

set_option maxRecDepth 16384

noncomputable section

namespace Cert.KernelIdeal.Hand

open Idealize.ShloMosaic Idealize.ShloMosaic.TcCoe Idealize.ShloMosaic.Tactic Cert.KernelIdeal Cert.KernelIdeal.Gen Cert.Words Cert.Pages Cert.Spec

variable (T : Tab) (X : Pools Ideal) (s b : ℕ) (len : BitVec 32)

/-- The row of head `h` of sequence `b`. -/
def row (x : Vec Ideal S1x32x512 .bf16) (y : Vec Ideal S1x32x64 .bf16) (z : Vec Ideal S1x1x512 .bf16) (w : Vec Ideal S1x1x64 .bf16) (h : Fin 32) : Row where
  x d := x (ix3 0 h d)
  q d := y (ix3 0 h d)
  z d := z (ix3 0 0 d)
  w d := w (ix3 0 0 d)
  C t d := X.codes (ixC (pg T b (t / 64)) (t % 64) d.val)
  S t g := X.scales (ixS (pg T b (t / 64)) g.val (t % 64))
  R t d := X.ropes (ixR (pg T b (t / 64)) (t % 64) d.val)
  len := len.toInt

variable {T X s b len}
variable {x : Vec Ideal S1x32x512 .bf16} {y : Vec Ideal S1x32x64 .bf16} {z : Vec Ideal S1x1x512 .bf16} {w : Vec Ideal S1x1x64 .bf16} (h : Fin 32)

/-- Codes of block `k`, 128 columns from column `128 g`. -/
theorem rdC_at {k : ℕ} (hk : k < 8) (g : Fin 4) {c : ℕ} (hc : c = 128 * g.val) (t : Fin 256) (d : Fin 128) :
    rdC (gC T X.codes b) s k c (ix3 0 t d) = (row T X b len x y z w h).C (256 * k + t.val) (col g d) := by
  subst hc
  show X.codes (ixC (pg T b ((256 * k + t.val) % 2048 / 64)) ((256 * k + t.val) % 2048 % 64) ((128 * g.val + d.val) % 512)) = _
  rw [Nat.mod_eq_of_lt (by omega : 256 * k + t.val < 2048), Nat.mod_eq_of_lt (by omega : 128 * g.val + d.val < 512)]
  rfl

/-- Rope keys of block `k`. -/
theorem rdR_at {k : ℕ} (hk : k < 8) (t : Fin 256) (d : Fin 64) :
    rdR (gR T X.ropes b) s k (ix3 0 t d) = (row T X b len x y z w h).R (256 * k + t.val) d := by
  show X.ropes (ixR (pg T b ((256 * k + t.val) % 2048 / 64)) ((256 * k + t.val) % 2048 % 64) (d.val % 64)) = _
  rw [Nat.mod_eq_of_lt (by omega : 256 * k + t.val < 2048), Nat.mod_eq_of_lt d.isLt]
  rfl

/-- Entry `t` of four pages' scales side by side. -/
def catS (a b c d : Vec Ideal S1x1x1x64 .f32) (t : Fin 256) : EReal :=
  if h : t.val < 64 then a (ix4 0 0 0 ⟨t.val, h⟩)
  else if h : t.val - 64 < 64 then b (ix4 0 0 0 ⟨t.val - 64, h⟩)
  else if h : t.val - 64 - 64 < 64 then c (ix4 0 0 0 ⟨t.val - 64 - 64, h⟩)
  else d (ix4 0 0 0 ⟨t.val - 64 - 64 - 64, by omega⟩)

/-- The scales of group `g` in block `k`. -/
theorem catS_at {k : ℕ} (hk : k < 8) {c : ℕ} (g : Fin 4) (hc : c = g.val) (t : Fin 256) :
    catS (rdS (gS T X.scales b) s (4 * k + 0) c) (rdS (gS T X.scales b) s (4 * k + 1) c) (rdS (gS T X.scales b) s (4 * k + 2) c)
      (rdS (gS T X.scales b) s (4 * k + 3) c) t = (row T X b len x y z w h).S (256 * k + t.val) g := by
  subst hc
  have key : ∀ (p r : ℕ) (hr : r < 64), 256 * k + t.val = 64 * p + r → p < 32 →
      rdS (gS T X.scales b) s p g.val (ix4 0 0 0 ⟨r, hr⟩) = (row T X b len x y z w h).S (256 * k + t.val) g := by
    intro p r hr e hp
    show X.scales (ixS (pg T b (p % 32)) (g.val % 4) (r % 64)) = X.scales (ixS (pg T b ((256 * k + t.val) / 64)) g.val ((256 * k + t.val) % 64))
    rw [e, Nat.mod_eq_of_lt hp, Nat.mod_eq_of_lt g.isLt, Nat.mod_eq_of_lt hr, show (64 * p + r) / 64 = p by omega, show (64 * p + r) % 64 = r by omega]
  unfold catS
  split
  · exact key _ _ _ (by omega) (by omega)
  split
  · exact key _ _ _ (by omega) (by omega)
  split
  · exact key _ _ _ (by omega) (by omega)
  · exact key _ _ _ (by omega) (by omega)

/-! ## The payloads at an index -/

section Payloads

variable (q : FVec Ideal S32x512 .bf16) (qr : FVec Ideal S32x64 .bf16) (R : Vec Ideal S1x256x64 .bf16) (C C' : Vec Ideal S1x256x128 .fp8e4m3)
variable (u v : FVec Ideal S32x256 .f32) (a₀ a₁ a₂ a₃ b₀ b₁ b₂ b₃ : Vec Ideal S1x1x1x64 .f32) (t : Fin 256)

/-- Group `g` of a query against the codes of a block. -/
def dotC (g : Fin 4) : EReal := ∑ d : Fin 128, q (ix2 h (col g d)) * C (ix3 0 t d)

/-- The rope part of the scores of a block. -/
theorem pay2_at : k0_pay2 qr R (ix2 h t) = ∑ d : Fin 64, qr (ix2 h d) * R (ix3 0 t d) := by
  pointwise [k0_pay2]
/-- The first group's products with the codes of a block. -/
theorem pay3_at : k0_pay3 q C (ix2 h t) = dotC h q C t 0 := by
  pointwise [k0_pay3]
  exact Finset.sum_congr rfl fun d _ => congrArg (fun j => q (ix2 h j) * _) (Fin.ext (by show d.val = 128 * 0 + d.val; omega))
/-- The first two groups of the scores of a block, each weighed by its scales. -/
theorem pay8_at : k0_pay8 q u v (k0_pay4 a₀) (k0_pay5 a₁) (k0_pay6 a₂) (k0_pay7 a₃) C b₀ b₁ b₂ b₃ (ix2 h t)
    = (u (ix2 h t) + v (ix2 h t) * catS a₀ a₁ a₂ a₃ t) + dotC h q C t 1 * catS b₀ b₁ b₂ b₃ t := by
  pointwise [k0_pay8, k0_pay4, k0_pay5, k0_pay6, k0_pay7]
  rfl
/-- The third group of the scores of a block is added. -/
theorem pay10_at : k0_pay10 u (k0_pay9 q) C a₀ a₁ a₂ a₃ (ix2 h t) = u (ix2 h t) + dotC h q C t 2 * catS a₀ a₁ a₂ a₃ t := by
  pointwise [k0_pay10, k0_pay9]
  rfl
/-- The fourth group's products with the codes of a block. -/
theorem pay11_at : k0_pay11 q C (ix2 h t) = dotC h q C t 3 := by
  pointwise [k0_pay11]
  rfl
/-- The finished scores of a block, scaled and masked past the length. -/
theorem pay12_at (k : BitVec 32) : k0_pay12 len k u v a₀ a₁ a₂ a₃ (ix2 h t)
    = Scalar.select (IntOp.cmpi .slt (IntOp.addi (BitVec.ofNat 32 t.val) (Scalar.muli k 256#32)) len)
        ((u (ix2 h t) + v (ix2 h t) * catS a₀ a₁ a₂ a₃ t) * Row.κ) (Ideal.ofBits .f32 0xFF800000#32) := by
  pointwise [k0_pay12]
  rfl

variable (d : FVec Ideal S32x1 .f32) (e : Vec Ideal S1x32x256 .f32) (p : FVec Ideal S32x256 .bf16) (j : Fin 128)

/-- The weights of a block's tokens. -/
theorem pay24_at : k0_pay24 d e (ix2 h t) = Ideal.div (e (ix3 0 h t)) (d (ix2 h 0)) := by
  pointwise [k0_pay24]
/-- The weighted values of a block, first group. -/
theorem pay26_at : k0_pay26 (k0_pay25 d e a₀ a₁ a₂ a₃) C (ix2 h j) = ∑ t : Fin 256, k0_pay24 d e (ix2 h t) * catS a₀ a₁ a₂ a₃ t * C (ix3 0 t j) := by
  pointwise [k0_pay25, k0_pay26]
  rfl
/-- The weighted values of a block, a later group. -/
theorem pay27_at : k0_pay27 p a₀ a₁ a₂ a₃ C (ix2 h j) = ∑ t : Fin 256, p (ix2 h t) * catS a₀ a₁ a₂ a₃ t * C (ix3 0 t j) := by
  pointwise [k0_pay27]
  rfl
/-- The weighted values of a block, a later group. -/
theorem pay28_at : k0_pay28 p a₀ a₁ a₂ a₃ C (ix2 h j) = ∑ t : Fin 256, p (ix2 h t) * catS a₀ a₁ a₂ a₃ t * C (ix3 0 t j) := by
  pointwise [k0_pay28]
  rfl
/-- The four groups of the weighted values, joined. -/
theorem pay56_at (a : FVec Ideal S32x512 .f32) (o₀ o₁ o₂ : FVec Ideal S32x128 .f32) (c : Fin 512) :
    k0_pay56 a p o₀ o₁ o₂ (k0_pay29 a₀) a₁ a₂ a₃ C (ix2 h c) = a (ix2 h c)
      + if h₀ : c.val < 128 then o₀ (ix2 h ⟨c.val, h₀⟩)
        else if h₁ : c.val - 128 < 128 then o₁ (ix2 h ⟨c.val - 128, h₁⟩)
        else if h₂ : c.val - 128 - 128 < 128 then o₂ (ix2 h ⟨c.val - 128 - 128, h₂⟩)
        else ∑ t : Fin 256, p (ix2 h t) * catS a₀ a₁ a₂ a₃ t * C (ix3 0 t ⟨c.val - 128 - 128 - 128, by omega⟩) := by
  pointwise [k0_pay56, k0_pay29]
  rfl

end Payloads

/-- The mask of block `k`. -/
theorem mask_at {k : ℕ} (hk : k < 8) (t : Fin 256) :
    IntOp.cmpi .slt (IntOp.addi (BitVec.ofNat 32 t.val) (Scalar.muli (Scf.iv 0#32 1#32 k) 256#32)) len
      = BitVec.ofBool (decide (((256 * k + t.val : ℕ) : ℤ) < len.toInt)) := by
  have e : IntOp.addi (BitVec.ofNat 32 t.val) (Scalar.muli (Scf.iv 0#32 1#32 k) 256#32) = BitVec.ofNat 32 (256 * k + t.val) := by
    apply BitVec.eq_of_toNat_eq
    simp [IntOp.addi, Scalar.muli, IntOp.muli, Scf.iv]
    omega
  have e2 : (BitVec.ofNat 32 (256 * k + t.val)).toInt = ((256 * k + t.val : ℕ) : ℤ) := by
    rw [BitVec.toInt_eq_toNat_cond, BitVec.toNat_ofNat]
    have := t.isLt
    omega
  rw [e]
  show BitVec.ofBool (BitVec.slt _ _) = _
  rw [BitVec.slt, e2]

/-- Group `g` of the query against the codes of block `k`. -/
theorem dotC_at {k : ℕ} (hk : k < 8) (g : Fin 4) {c : ℕ} (hc : c = 128 * g.val) (t : Fin 256) :
    dotC h (k0_pay36 x) (rdC (gC T X.codes b) s k c) t g = (row T X b len x y z w h).dot (256 * k + t.val) g := by
  refine Finset.sum_congr rfl fun d _ => ?_
  rw [rdC_at (len := len) (x := x) (y := y) (z := z) (w := w) h hk g hc]
  pointwise [k0_pay36]
  rfl

/-- The scores of a block. -/
theorem blk_at {k : ℕ} (hk : k < 8) (t : Fin 256) :
    blk T X s b len (k0_pay36 x) (k0_pay37 y) k (ix2 h t) = (row T X b len x y z w h).score (256 * k + t.val) := by
  have hR : k0_pay2 (k0_pay37 y) (rdR (gR T X.ropes b) s k) (ix2 h t) = ∑ d : Fin 64, (row T X b len x y z w h).q d * (row T X b len x y z w h).R (256 * k + t.val) d := by
    rw [pay2_at]
    refine Finset.sum_congr rfl fun d _ => ?_
    rw [rdR_at (len := len) (x := x) (y := y) (z := z) (w := w) h hk]
    pointwise [k0_pay37]
    rfl
  unfold blk
  dsimp only
  rw [pay12_at, pay10_at, pay8_at, pay3_at, pay11_at, hR, mask_at hk t, negInf,
    catS_at (len := len) (x := x) (y := y) (z := z) (w := w) h hk 0 (c := 0) rfl t, catS_at (len := len) (x := x) (y := y) (z := z) (w := w) h hk 1 (c := 1) rfl t,
    catS_at (len := len) (x := x) (y := y) (z := z) (w := w) h hk 2 (c := 2) rfl t, catS_at (len := len) (x := x) (y := y) (z := z) (w := w) h hk 3 (c := 3) rfl t,
    dotC_at (len := len) (y := y) (z := z) (w := w) h hk 0 (c := 0) rfl t, dotC_at (len := len) (y := y) (z := z) (w := w) h hk 1 (c := 128) rfl t,
    dotC_at (len := len) (y := y) (z := z) (w := w) h hk 2 (c := 256) rfl t, dotC_at (len := len) (y := y) (z := z) (w := w) h hk 3 (c := 384) rfl t]
  unfold Row.score
  by_cases hv : ((256 * k + t.val : ℕ) : ℤ) < len.toInt
  · rw [if_pos (show ((256 * k + t.val : ℕ) : ℤ) < (row T X b len x y z w h).len from hv), decide_eq_true hv]
    rfl
  · rw [if_neg (show ¬ ((256 * k + t.val : ℕ) : ℤ) < (row T X b len x y z w h).len from hv), decide_eq_false hv]
    rfl

/-- The new token's score. -/
theorem new_at : k0_pay41 (k0_pay39 x z) (k0_pay40 y) w (ix2 h 0) = (row T X b len x y z w h).new := by
  pointwise [k0_pay36, k0_pay37, k0_pay38, k0_pay39, k0_pay40, k0_pay41]
  rfl

/-- A step of the weighted values. -/
theorem vals_at {k : ℕ} (hk : k < 8) (m d : FVec Ideal S32x1 .f32) (a : FVec Ideal S32x512 .f32) (e : Fin 512) :
    vals T X s b len (k0_pay36 x) (k0_pay37 y) m d a k (ix2 h e)
      = a (ix2 h e) + ∑ t : Fin 256, (row T X b len x y z w h).term (m (ix2 h 0)) (d (ix2 h 0)) e (256 * k + t.val) := by
  have key : ∀ (g : Fin 4) (c : ℕ) (i : Fin 128), e.val = 128 * g.val + i.val → c = 128 * g.val →
      ∑ t : Fin 256, k0_pay24 d (ex T X s b len (k0_pay36 x) (k0_pay37 y) m k) (ix2 h t)
        * catS (rdS (gS T X.scales b) s (4 * k + 0) g.val) (rdS (gS T X.scales b) s (4 * k + 1) g.val) (rdS (gS T X.scales b) s (4 * k + 2) g.val)
            (rdS (gS T X.scales b) s (4 * k + 3) g.val) t * rdC (gC T X.codes b) s k c (ix3 0 t i)
        = ∑ t : Fin 256, (row T X b len x y z w h).term (m (ix2 h 0)) (d (ix2 h 0)) e (256 * k + t.val) := by
    intro g c i he hc
    refine Finset.sum_congr rfl fun t _ => ?_
    have e1 : col g i = e := Fin.ext he.symm
    have e2 : grp e = g := Fin.ext (by show e.val / 128 = g.val; omega)
    have hx : ex T X s b len (k0_pay36 x) (k0_pay37 y) m k (ix3 0 h t) = (row T X b len x y z w h).ex (m (ix2 h 0)) (256 * k + t.val) := by
      unfold ex
      pointwise [k0_pay48, k0_pay49, k0_pay42]
      rw [blk_at (z := z) (w := w) h hk t]
      rfl
    unfold Row.term
    rw [pay24_at, hx, catS_at (len := len) (x := x) (y := y) (z := z) (w := w) h hk g rfl, rdC_at (len := len) (x := x) (y := y) (z := z) (w := w) h hk g hc, e1, e2]
  unfold vals
  dsimp only
  rw [pay56_at]
  congr 1
  split
  · rw [pay26_at]
    exact key 0 0 _ (by simp) rfl
  split
  · rw [pay27_at]
    exact key 1 128 _ (by simp; omega) rfl
  split
  · rw [pay28_at]
    exact key 2 256 _ (by simp; omega) rfl
  · exact key 3 384 _ (by simp; omega) rfl

/-- The running maximum after `n` blocks. -/
theorem mx_at {n : ℕ} (hn : n ≤ 8) :
    mx T X s b len (k0_pay36 x) (k0_pay37 y) (k0_pay41 (k0_pay39 x z) (k0_pay40 y) w) n (ix2 h 0) = (row T X b len x y z w h).top (256 * n) := by
  induction n with
  | zero =>
    show k0_pay41 (k0_pay39 x z) (k0_pay40 y) w (ix2 h 0) = _
    rw [new_at (T := T) (X := X) (b := b) (len := len)]
    exact (max_bot_right _).symm
  | succ k ih =>
    have ih := ih (by omega)
    show k0_pay43 (mx T X s b len (k0_pay36 x) (k0_pay37 y) (k0_pay41 (k0_pay39 x z) (k0_pay40 y) w) k) (blk T X s b len (k0_pay36 x) (k0_pay37 y) k) (ix2 h 0) = _
    pointwise [k0_pay43]
    rw [ih, negInf]
    simp only [blk_at (z := z) (w := w) h (by omega : k < 8)]
    unfold Row.top
    rw [Row.sup_block, ← max_assoc]
    rfl

/-- The sum of the exponentials of `n` blocks. -/
theorem sm_at {n : ℕ} (hn : n ≤ 8) (m : FVec Ideal S32x1 .f32) :
    sm T X s b len (k0_pay36 x) (k0_pay37 y) m k0_pay47 n (ix2 h 0) = ∑ t ∈ Finset.range (256 * n), (row T X b len x y z w h).ex (m (ix2 h 0)) t := by
  induction n with
  | zero =>
    show (k0_pay47 : FVec Ideal S32x1 .f32) (ix2 h 0) = 0
    pointwise [k0_pay47]
  | succ k ih =>
    have ih := ih (by omega)
    show k0_pay50 m (sm T X s b len (k0_pay36 x) (k0_pay37 y) m k0_pay47 k) (k0_pay42 (blk T X s b len (k0_pay36 x) (k0_pay37 y) k)) (ix2 h 0) = _
    pointwise [k0_pay50, k0_pay48, k0_pay42]
    rw [ih, Row.sum_block]
    simp only [blk_at (z := z) (w := w) h (by omega : k < 8)]
    rfl

/-- The weighted values of `n` blocks. -/
theorem av_at {n : ℕ} (hn : n ≤ 8) (m d : FVec Ideal S32x1 .f32) (e : Fin 512) :
    av T X s b len (k0_pay36 x) (k0_pay37 y) m d k0_pay55 n (ix2 h e)
      = ∑ t ∈ Finset.range (256 * n), (row T X b len x y z w h).term (m (ix2 h 0)) (d (ix2 h 0)) e t := by
  induction n with
  | zero =>
    show (k0_pay55 : FVec Ideal S32x512 .f32) (ix2 h e) = 0
    pointwise [k0_pay55]
  | succ k ih =>
    have ih := ih (by omega)
    show vals T X s b len (k0_pay36 x) (k0_pay37 y) m d (av T X s b len (k0_pay36 x) (k0_pay37 y) m d k0_pay55 k) k (ix2 h e) = _
    rw [vals_at (z := z) (w := w) h (by omega : k < 8), ih, Row.sum_block]

/-- An entry of what a grid point stores is the row's result over the tokens of the blocks the sequence reaches. -/
theorem out_at (L : Lens) (hL : (Hand.len L b).toInt ≤ 2048) (e : Fin 512) :
    out T L X b x y z w (ix3 0 h e) = (row T X b (Hand.len L b) x y z w h).out (256 * nblk (Hand.len L b)) e := by
  have hn := nblk_le hL
  unfold out
  pointwise [k0_pay1, k0_pay58, k0_pay54, k0_pay46]
  rw [av_at (z := z) (w := w) h hn]
  pointwise [k0_pay54, k0_pay46]
  rw [sm_at (z := z) (w := w) h hn, mx_at h hn, new_at (T := T) (X := X) (b := b) (len := Hand.len L b)]
  unfold Row.out Row.den Row.exNew
  congr 2
  pointwise [k0_pay38]
  rfl

end Cert.KernelIdeal.Hand

end
-- ==== Proof.RI.Defs.lean ====
/-
  The reference's host lines as functions of arrays, named stage by stage.
-/
module

public import proofs.«01_k».proof.Proof.Gen.ReferenceIdeal.Frame
public import Idealize.ShloMosaic.Lib.Pointwise

@[expose] public section

set_option maxRecDepth 16384

noncomputable section

namespace Cert.ReferenceIdeal.Hand

open Idealize.ShloMosaic Idealize.ShloMosaic.TcCoe Idealize.ShloMosaic.Tactic Cert.ReferenceIdeal Cert.ReferenceIdeal.Gen

/-- The page numbers as the gathers take them: a negative one counts from the pool's end. -/
def wrapped (T : IVec S128x32 32) : IVec S128x32x1 32 :=
  broadcastInDim S128x32x1 ![0, 1] bcast_S128x32_S128x32x1_0_1
    (select (cmpi .slt T (broadcastInDim S128x32 ![] bcast_S_S128x32 (constantI S_ 32 0#32)))
      (addi T (broadcastInDim S128x32 ![] bcast_S_S128x32 (constantI S_ 32 5120#32))) T)

/-- Each sequence's codes, token by token. -/
def codes (C : FVec Ideal S5120x64x512 .bf16) (T : IVec S128x32 32) : FVec Ideal S128x2048x512 .bf16 :=
  shapeCast S128x2048x512 (Host.gather gather_S5120x64x512_S128x32x1_S128x32x64x512_23_0_n_n_0_2_164512 C (wrapped T)) shapeCasts_S128x32x64x512_S128x2048x512

/-- Each sequence's scales, token by token. -/
def scales (S : FVec Ideal S5120x64x4 .f32) (T : IVec S128x32 32) : FVec Ideal S4x128x2048 .f32 :=
  transpose S4x128x2048 [2, 0, 1]
    (shapeCast S128x2048x4 (Host.gather gather_S5120x64x4_S128x32x1_S128x32x64x4_23_0_n_n_0_2_1644 S (wrapped T)) shapeCasts_S128x32x64x4_S128x2048x4)
    transposes_S128x2048x4_S4x128x2048_2_0_1

/-- Each sequence's rope keys, token by token. -/
def ropes (R : FVec Ideal S5120x64x64 .bf16) (T : IVec S128x32 32) : FVec Ideal S128x2048x64 .bf16 :=
  shapeCast S128x2048x64 (Host.gather gather_S5120x64x64_S128x32x1_S128x32x64x64_23_0_n_n_0_2_16464 R (wrapped T)) shapeCasts_S128x32x64x64_S128x2048x64

/-- One column group's share of the scores: the query's group against the codes' group, times the group's scale. -/
def share (x : FVec Ideal S128x1x32x128 .bf16) (c : FVec Ideal S128x2048x128 .bf16) (s : FVec Ideal S1x128x2048 .f32) : FVec Ideal S128x1x32x2048 .f32 :=
  mulf (Host.dotGeneral dot_S128x1x32x128_S128x2048x128_S128x1x32x2048_3_2_12_1_0_0 none x c)
    (broadcastInDim S128x1x32x2048 ![0, 1, 2, 3] bcast_S128x1x1x2048_S128x1x32x2048_0_1_2_3
      (broadcastInDim S128x1x1x2048 ![0, 3] bcast_S128x2048_S128x1x1x2048_0_3 (shapeCast S128x2048 s shapeCasts_S1x128x2048_S128x2048)))

/-- The scores of the cached tokens. -/
def scores (x : FVec Ideal S128x1x32x512 .bf16) (q : FVec Ideal S128x1x32x64 .bf16) (c : FVec Ideal S128x2048x512 .bf16)
    (s : FVec Ideal S4x128x2048 .f32) (r : FVec Ideal S128x2048x64 .bf16) : FVec Ideal S128x1x32x2048 .f32 :=
  mulf
    (addf
      (addf
        (addf
          (addf
            (share (extractStridedSlice S128x1x32x128 ![0, 0, 0, 0] x slices_S128x1x32x512_S128x1x32x128_0_0_0_0)
              (extractStridedSlice S128x2048x128 ![0, 0, 0] c slices_S128x2048x512_S128x2048x128_0_0_0)
              (extractStridedSlice S1x128x2048 ![0, 0, 0] s slices_S4x128x2048_S1x128x2048_0_0_0))
            (share (extractStridedSlice S128x1x32x128 ![0, 0, 0, 128] x slices_S128x1x32x512_S128x1x32x128_0_0_0_128)
              (extractStridedSlice S128x2048x128 ![0, 0, 128] c slices_S128x2048x512_S128x2048x128_0_0_128)
              (extractStridedSlice S1x128x2048 ![1, 0, 0] s slices_S4x128x2048_S1x128x2048_1_0_0)))
          (share (extractStridedSlice S128x1x32x128 ![0, 0, 0, 256] x slices_S128x1x32x512_S128x1x32x128_0_0_0_256)
            (extractStridedSlice S128x2048x128 ![0, 0, 256] c slices_S128x2048x512_S128x2048x128_0_0_256)
            (extractStridedSlice S1x128x2048 ![2, 0, 0] s slices_S4x128x2048_S1x128x2048_2_0_0)))
        (share (extractStridedSlice S128x1x32x128 ![0, 0, 0, 384] x slices_S128x1x32x512_S128x1x32x128_0_0_0_384)
          (extractStridedSlice S128x2048x128 ![0, 0, 384] c slices_S128x2048x512_S128x2048x128_0_0_384)
          (extractStridedSlice S1x128x2048 ![3, 0, 0] s slices_S4x128x2048_S1x128x2048_3_0_0)))
      (Host.dotGeneral dot_S128x1x32x64_S128x2048x64_S128x1x32x2048_3_2_12_1_0_0 none q r))
    (broadcastInDim S128x1x32x2048 ![] bcast_S_S128x1x32x2048 (constant S_ .f32 0x3D93CD3A#32))

/-- The new token's scores. -/
def newScore (x : FVec Ideal S128x1x32x512 .bf16) (q : FVec Ideal S128x1x32x64 .bf16) (z : FVec Ideal S128x1x512 .bf16)
    (w : FVec Ideal S128x1x64 .bf16) : FVec Ideal S128x1x32x1 .f32 :=
  mulf
    (addf (Host.dotGeneral dot_S128x1x32x512_S128x1x512_S128x1x32x1_3_2_12_1_0_0 none x z)
      (Host.dotGeneral dot_S128x1x32x64_S128x1x64_S128x1x32x1_3_2_12_1_0_0 none q w))
    (broadcastInDim S128x1x32x1 ![] bcast_S_S128x1x32x1 (constant S_ .f32 0x3D93CD3A#32))

/-- Which cached tokens a sequence has. -/
def cached (L : IVec S128 32) : IVec S128x1x1x2048 1 :=
  broadcastInDim S128x1x1x2048 ![0, 3] bcast_S128x2048_S128x1x1x2048_0_3
    (cmpi .slt (broadcastInDim S128x2048 ![0, 1] bcast_S1x2048_S128x2048_0_1 (broadcastInDim S1x2048 ![1] bcast_S2048_S1x2048_1 (iotaInDim S2048 32 0)))
      (broadcastInDim S128x2048 ![0, 1] bcast_S128x1_S128x2048_0_1 (broadcastInDim S128x1 ![0] bcast_S128_S128x1_0 L)))

/-- The scores of the cached tokens, masked. -/
def masked (k : IVec S128x1x1x2048 1) (p : FVec Ideal S128x1x32x2048 .f32) : FVec Ideal S128x1x32x2048 .f32 :=
  select (broadcastInDim S128x1x32x2048 ![0, 1, 2, 3] bcast_S128x1x1x2048_S128x1x32x2048_0_1_2_3 k) p
    (broadcastInDim S128x1x32x2048 ![] bcast_S_S128x1x32x2048 (constant S_ .f32 0xFF800000#32))

/-- The new token among itself: position 0 of 1. -/
def causal : IVec S1x1 1 :=
  cmpi .sle (broadcastInDim S1x1 ![1] bcast_S1_S1x1_1 (iotaInDim S1 32 0)) (broadcastInDim S1x1 ![0] bcast_S1_S1x1_0 (iotaInDim S1 32 0))

/-- The new token's scores, masked. -/
def newMasked (k : IVec S1x1 1) (p : FVec Ideal S128x1x32x1 .f32) : FVec Ideal S128x1x32x1 .f32 :=
  select (broadcastInDim S128x1x32x1 ![0, 1, 2, 3] bcast_S1x1x1x1_S128x1x32x1_0_1_2_3 (broadcastInDim S1x1x1x1 ![1, 3] bcast_S1x1_S1x1x1x1_1_3 k)) p
    (broadcastInDim S128x1x32x1 ![] bcast_S_S128x1x32x1 (constant S_ .f32 0xFF800000#32))

/-- The largest of each row of the cached tokens' scores, and of a starting value. -/
def rowMax (p : FVec Ideal S128x1x32x2048 .f32) (v : FVec Ideal S_ .f32) : FVec Ideal S128x1x32 .f32 :=
  Host.reduce FloatOps.maximumf p v reducesTo_S128x1x32x2048_S128x1x32_d3 h_S_
/-- The largest of the new token's scores, and of a starting value. -/
def newMax (n : FVec Ideal S128x1x32x1 .f32) (v : FVec Ideal S_ .f32) : FVec Ideal S128x1x32 .f32 :=
  Host.reduce FloatOps.maximumf n v reducesTo_S128x1x32x1_S128x1x32_d3 h_S_

/-- One number per row as a column. -/
def column (a : FVec Ideal S128x1x32 .f32) : FVec Ideal S128x1x32x1 .f32 := broadcastInDim S128x1x32x1 ![0, 1, 2] bcast_S128x1x32_S128x1x32x1_0_1_2 a

/-- The largest scores. -/
def top (p : FVec Ideal S128x1x32x2048 .f32) (n : FVec Ideal S128x1x32x1 .f32) : FVec Ideal S128x1x32x1 .f32 :=
  maximumf (column (rowMax p (constant S_ .f32 0xFF800000#32))) (column (newMax n (constant S_ .f32 0xFF800000#32)))

/-- The exponentials of the cached tokens' scores less the largest. -/
def exps (p : FVec Ideal S128x1x32x2048 .f32) (m : FVec Ideal S128x1x32x1 .f32) : FVec Ideal S128x1x32x2048 .f32 :=
  Host.exp (subf p (broadcastInDim S128x1x32x2048 ![0, 1, 2, 3] bcast_S128x1x32x1_S128x1x32x2048_0_1_2_3 m))

/-- The exponentials of the new token's scores less the largest. -/
def newExp (n m : FVec Ideal S128x1x32x1 .f32) : FVec Ideal S128x1x32x1 .f32 := Host.exp (subf n m)

/-- The sums of the exponentials. -/
def den (p : FVec Ideal S128x1x32x2048 .f32) (n : FVec Ideal S128x1x32x1 .f32) : FVec Ideal S128x1x32x1 .f32 :=
  addf
    (broadcastInDim S128x1x32x1 ![0, 1, 2] bcast_S128x1x32_S128x1x32x1_0_1_2
      (Host.reduceAdd p (constant S_ .f32 0x00000000#32) reducesTo_S128x1x32x2048_S128x1x32_d3 h_S_))
    (broadcastInDim S128x1x32x1 ![0, 1, 2] bcast_S128x1x32_S128x1x32x1_0_1_2
      (Host.reduceAdd n (constant S_ .f32 0x00000000#32) reducesTo_S128x1x32x1_S128x1x32_d3 h_S_))

/-- The cached tokens' weights. -/
def weights (p : FVec Ideal S128x1x32x2048 .f32) (d : FVec Ideal S128x1x32x1 .f32) : FVec Ideal S128x1x32x2048 .bf16 :=
  truncf .bf16 (Host.divf p (broadcastInDim S128x1x32x2048 ![0, 1, 2, 3] bcast_S128x1x32x1_S128x1x32x2048_0_1_2_3 d)) bitsLt_bf16_f32

/-- The new token's weight. -/
def newWeight (n d : FVec Ideal S128x1x32x1 .f32) : FVec Ideal S128x1x32x1 .bf16 := truncf .bf16 (Host.divf n d) bitsLt_bf16_f32

/-- One column group of the weighted values. -/
def group (p : FVec Ideal S128x1x32x2048 .bf16) (s : FVec Ideal S1x128x2048 .bf16) (c : FVec Ideal S128x2048x128 .bf16) : FVec Ideal S128x1x32x128 .f32 :=
  Host.dotGeneral dot_S128x1x32x2048_S128x2048x128_S128x1x32x128_3_1_12_2_0_0 none
    (mulf p (broadcastInDim S128x1x32x2048 ![0, 1, 2, 3] bcast_S128x1x1x2048_S128x1x32x2048_0_1_2_3
      (broadcastInDim S128x1x1x2048 ![0, 3] bcast_S128x2048_S128x1x1x2048_0_3 (shapeCast S128x2048 s shapeCasts_S1x128x2048_S128x2048))))
    c

/-- The result, from the four groups and the new token's weight. -/
def joined (g0 g1 g2 g3 : FVec Ideal S128x1x32x128 .f32) (p : FVec Ideal S128x1x32x1 .bf16) (z : FVec Ideal S128x1x512 .bf16) : FVec Ideal S128x32x512 .bf16 :=
  shapeCast S128x32x512
    (truncf .bf16
      (addf
        (concatenate S128x1x32x512 3 [⟨S128x1x32x128, g0⟩, ⟨S128x1x32x128, g1⟩, ⟨S128x1x32x128, g2⟩, ⟨S128x1x32x128, g3⟩]
          concatenates_S128x1x32x128_S128x1x32x128_S128x1x32x128_S128x1x32x128_S128x1x32x512_d3)
        (Host.dotGeneral dot_S128x1x32x1_S128x1x512_S128x1x32x512_3_1_12_2_0_0 none p z))
      bitsLt_bf16_f32)
    shapeCasts_S128x1x32x512_S128x32x512

/-- The scales at the narrower width. -/
def narrow (s : FVec Ideal S4x128x2048 .f32) : FVec Ideal S4x128x2048 .bf16 := truncf .bf16 s bitsLt_bf16_f32

/-- The result from the codes, the scales, the exponentials and their sum. -/
def values (c : FVec Ideal S128x2048x512 .bf16) (s : FVec Ideal S4x128x2048 .bf16) (p : FVec Ideal S128x1x32x2048 .bf16)
    (n : FVec Ideal S128x1x32x1 .bf16) (z : FVec Ideal S128x1x512 .bf16) : FVec Ideal S128x32x512 .bf16 :=
  joined
    (group p (extractStridedSlice S1x128x2048 ![0, 0, 0] s slices_S4x128x2048_S1x128x2048_0_0_0) (extractStridedSlice S128x2048x128 ![0, 0, 0] c slices_S128x2048x512_S128x2048x128_0_0_0))
    (group p (extractStridedSlice S1x128x2048 ![1, 0, 0] s slices_S4x128x2048_S1x128x2048_1_0_0) (extractStridedSlice S128x2048x128 ![0, 0, 128] c slices_S128x2048x512_S128x2048x128_0_0_128))
    (group p (extractStridedSlice S1x128x2048 ![2, 0, 0] s slices_S4x128x2048_S1x128x2048_2_0_0) (extractStridedSlice S128x2048x128 ![0, 0, 256] c slices_S128x2048x512_S128x2048x128_0_0_256))
    (group p (extractStridedSlice S1x128x2048 ![3, 0, 0] s slices_S4x128x2048_S1x128x2048_3_0_0) (extractStridedSlice S128x2048x128 ![0, 0, 384] c slices_S128x2048x512_S128x2048x128_0_0_384))
    n z

/-- The result from the masked scores. -/
def attend (c : FVec Ideal S128x2048x512 .bf16) (s : FVec Ideal S4x128x2048 .bf16) (p : FVec Ideal S128x1x32x2048 .f32)
    (n : FVec Ideal S128x1x32x1 .f32) (z : FVec Ideal S128x1x512 .bf16) : FVec Ideal S128x32x512 .bf16 :=
  values c s (weights (exps p (top p n)) (den (exps p (top p n)) (newExp n (top p n))))
    (newWeight (newExp n (top p n)) (den (exps p (top p n)) (newExp n (top p n)))) z

/-- The reference's result as a function of its arguments, the codes already widened. -/
def result (x : FVec Ideal S128x1x32x512 .bf16) (q : FVec Ideal S128x1x32x64 .bf16) (z : FVec Ideal S128x1x512 .bf16) (w : FVec Ideal S128x1x64 .bf16)
    (C : FVec Ideal S5120x64x512 .bf16) (S : FVec Ideal S5120x64x4 .f32) (R : FVec Ideal S5120x64x64 .bf16) (T : IVec S128x32 32) (L : IVec S128 32) :
    FVec Ideal S128x32x512 .bf16 :=
  attend (codes C T) (narrow (scales S T)) (masked (cached L) (scores x q (codes C T) (scales S T) (ropes R T))) (newMasked causal (newScore x q z w)) z

end Cert.ReferenceIdeal.Hand

end
-- ==== Proof.RI.Value.lean ====
/-
  The reference's result at an index: a row of attention over all 2048 token positions.
-/
module

public import proofs.«01_k».proof.Proof.RI.Defs
public import proofs.«01_k».proof.Proof.Gather
public import proofs.«01_k».proof.Proof.Spec

@[expose] public section

set_option maxRecDepth 16384

noncomputable section

namespace Cert.ReferenceIdeal.Hand

open Idealize.ShloMosaic Idealize.ShloMosaic.TcCoe Idealize.ShloMosaic.Tactic Cert.ReferenceIdeal Cert.ReferenceIdeal.Gen Cert.Spec

/-- The page that holds the `j`-th 64 tokens of sequence `b`. -/
def page (T : IVec S128x32 32) (b : Fin 128) (j : ℕ) : Fin 5120 := ⟨(T (ix2 b ⟨j % 32, Nat.mod_lt _ (by omega)⟩)).toNat % 5120, Nat.mod_lt _ (by omega)⟩
/-- A token's row in its page. -/
def slot (t : ℕ) : Fin 64 := ⟨t % 64, Nat.mod_lt _ (by omega)⟩

/-- The row of head `h` of sequence `b`. -/
def row (x : FVec Ideal S128x1x32x512 .bf16) (q : FVec Ideal S128x1x32x64 .bf16) (z : FVec Ideal S128x1x512 .bf16) (w : FVec Ideal S128x1x64 .bf16)
    (C : FVec Ideal S5120x64x512 .bf16) (S : FVec Ideal S5120x64x4 .f32) (R : FVec Ideal S5120x64x64 .bf16) (T : IVec S128x32 32) (L : IVec S128 32)
    (b : Fin 128) (h : Fin 32) : Row where
  x d := x (ix4 b 0 h d)
  q d := q (ix4 b 0 h d)
  z d := z (ix3 b 0 d)
  w d := w (ix3 b 0 d)
  C t d := C (ix3 (page T b (t / 64)) (slot t) d)
  S t g := S (ix3 (page T b (t / 64)) (slot t) g)
  R t d := R (ix3 (page T b (t / 64)) (slot t) d)
  len := (L (ix1 b)).toInt

/-! ## Gathers -/

/-- A page number in range is not wrapped. -/
theorem wrapped_at {T : IVec S128x32 32} (hT : ∀ y, (T y).toNat < 5120) (b : Fin 128) (j : Fin 32) : wrapped T (ix3 b j 0) = T (ix2 b j) := by
  pointwise [wrapped]
  have h := hT (ix2 b j)
  have : (T (ix2 b j)).slt 0#32 = false := by
    simp only [BitVec.slt, decide_eq_false_iff_not, BitVec.toInt_eq_toNat_cond]
    have : (0#32).toNat = 0 := rfl
    split <;> split <;> omega
  show Scalar.select (BitVec.ofBool ((T (ix2 b j)).slt 0#32)) _ _ = _
  rw [this]
  rfl

/-- The page of a token, read from the table with its negative words wrapped. -/
theorem wrapped_page {T : IVec S128x32 32} (hT : ∀ y, (T y).toNat < 5120) (b : Fin 128) {t : ℕ} (ht : t / 64 < 32) :
    (wrapped T (ix3 b ⟨t / 64, ht⟩ 0)).toNat = (page T b (t / 64)).val := by
  rw [wrapped_at hT]
  show _ = (T (ix2 b ⟨t / 64 % 32, _⟩)).toNat % 5120
  simp only [Nat.mod_eq_of_lt ht]
  exact (Nat.mod_eq_of_lt (hT _)).symm

variable {T : IVec S128x32 32} (hT : ∀ y, (T y).toNat < 5120) (b : Fin 128) (h : Fin 32) (t : Fin 2048)
include hT

/-- Codes of a token. -/
theorem codes_at (C : FVec Ideal S5120x64x512 .bf16) (d : Fin 512) : codes C T (ix3 b t d) = C (ix3 (page T b (t.val / 64)) (slot t.val) d) := by
  pointwise [codes]
  exact Gather.at_page _ C (wrapped T) b _ _ d _ (wrapped_page hT b _)

/-- Scales of a token. -/
theorem scales_at (S : FVec Ideal S5120x64x4 .f32) (g : Fin 4) : scales S T (ix3 g b t) = S (ix3 (page T b (t.val / 64)) (slot t.val) g) := by
  pointwise [scales]
  exact Gather.at_page _ S (wrapped T) b _ _ g _ (wrapped_page hT b _)

/-- The rope key of a token. -/
theorem ropes_at (R : FVec Ideal S5120x64x64 .bf16) (d : Fin 64) : ropes R T (ix3 b t d) = R (ix3 (page T b (t.val / 64)) (slot t.val) d) := by
  pointwise [ropes]
  exact Gather.at_page _ R (wrapped T) b _ _ d _ (wrapped_page hT b _)

omit hT

/-! ## Scores -/

/-- A cached token's score before masking. -/
theorem scores_at (x : FVec Ideal S128x1x32x512 .bf16) (q : FVec Ideal S128x1x32x64 .bf16) (c : FVec Ideal S128x2048x512 .bf16)
    (s : FVec Ideal S4x128x2048 .f32) (r : FVec Ideal S128x2048x64 .bf16) :
    scores x q c s r (ix4 b 0 h t) =
      (((((∑ k : Fin 128, x (ix4 b 0 h ⟨k.val, by omega⟩) * c (ix3 b t ⟨k.val, by omega⟩)) * s (ix3 0 b t)
        + (∑ k : Fin 128, x (ix4 b 0 h ⟨128 + k.val, by omega⟩) * c (ix3 b t ⟨128 + k.val, by omega⟩)) * s (ix3 1 b t))
        + (∑ k : Fin 128, x (ix4 b 0 h ⟨256 + k.val, by omega⟩) * c (ix3 b t ⟨256 + k.val, by omega⟩)) * s (ix3 2 b t))
        + (∑ k : Fin 128, x (ix4 b 0 h ⟨384 + k.val, by omega⟩) * c (ix3 b t ⟨384 + k.val, by omega⟩)) * s (ix3 3 b t))
        + ∑ k : Fin 64, q (ix4 b 0 h k) * r (ix3 b t k)) * Row.κ := by
  pointwise [scores, share]
  rfl

/-- The new token's score. -/
theorem newScore_at (x : FVec Ideal S128x1x32x512 .bf16) (q : FVec Ideal S128x1x32x64 .bf16) (z : FVec Ideal S128x1x512 .bf16) (w : FVec Ideal S128x1x64 .bf16) :
    newScore x q z w (ix4 b 0 h 0) = ((∑ d : Fin 512, x (ix4 b 0 h d) * z (ix3 b 0 d)) + ∑ d : Fin 64, q (ix4 b 0 h d) * w (ix3 b 0 d)) * Row.κ := by
  pointwise [newScore]
  rfl

/-- Whether a token is cached. -/
theorem cached_at (L : IVec S128 32) : cached L (ix4 b 0 0 t) = BitVec.ofBool (decide ((t.val : ℤ) < (L (ix1 b)).toInt)) := by
  pointwise [cached]
  show BitVec.ofBool ((BitVec.ofNat 32 t.val).slt (L (ix1 b))) = _
  have : (BitVec.ofNat 32 t.val).toInt = t.val := StableHlo.Predicate.toInt_ofNat_small _ (by omega)
  simp only [BitVec.slt, this]

/-- A masked score at an index. -/
theorem masked_at (k : IVec S128x1x1x2048 1) (p : FVec Ideal S128x1x32x2048 .f32) :
    masked k p (ix4 b 0 h t) = Scalar.select (k (ix4 b 0 0 t)) (p (ix4 b 0 h t)) (Ideal.ofBits .f32 0xFF800000#32) := by
  pointwise [masked]

/-- The new token's score is never masked. -/
theorem newMasked_at (p : FVec Ideal S128x1x32x1 .f32) : newMasked causal p (ix4 b 0 h 0) = p (ix4 b 0 h 0) := by
  pointwise [newMasked, causal]
  rfl

/-! ## The softmax -/

/-- The largest of the cached scores of a row. -/
theorem rowMax_at (p : FVec Ideal S128x1x32x2048 .f32) (v : FVec Ideal S_ .f32) :
    rowMax p v (ix3 b 0 h) = Finset.fold max (v (Shape.Idx.first h_S_)) (fun x : Fin 2048 => p (ix4 b 0 h x)) Finset.univ := by
  pointwise [rowMax]
/-- The largest of the new token's one score. -/
theorem newMax_at (n : FVec Ideal S128x1x32x1 .f32) (v : FVec Ideal S_ .f32) :
    newMax n v (ix3 b 0 h) = Finset.fold max (v (Shape.Idx.first h_S_)) (fun x : Fin 1 => n (ix4 b 0 h x)) Finset.univ := by
  pointwise [newMax]

/-- An entry of a column. -/
theorem column_at (a : FVec Ideal S128x1x32 .f32) : column a (ix4 b 0 h 0) = a (ix3 b 0 h) := by
  pointwise [column]

/-- The larger of two arrays at an index. -/
theorem larger (a c : FVec Ideal S128x1x32x1 .f32) (y) : maximumf a c y = max (a y) (c y) := rfl

/-- A fold of `max` from minus infinity is the supremum. -/
theorem fold_sup {n : ℕ} (f : Fin n → EReal) {v : EReal} (hv : v = ⊥) : Finset.fold max v f Finset.univ = Finset.univ.sup f := by
  subst hv; rfl

/-- A supremum over the first `n` naturals. -/
theorem sup_range (f : ℕ → EReal) (n : ℕ) : (Finset.univ.sup fun x : Fin n => f x.val) = (Finset.range n).sup f :=
  le_antisymm (Finset.sup_le fun x _ => Finset.le_sup (f := f) (Finset.mem_range.mpr x.isLt))
    (Finset.sup_le fun t ht => Finset.le_sup (f := fun x : Fin n => f x.val) (Finset.mem_univ ⟨t, Finset.mem_range.mp ht⟩))

/-- The largest score. -/
theorem top_at (p : FVec Ideal S128x1x32x2048 .f32) (n : FVec Ideal S128x1x32x1 .f32) :
    top p n (ix4 b 0 h 0) = max (Finset.univ.sup fun x : Fin 2048 => p (ix4 b 0 h x)) (n (ix4 b 0 h 0)) := by
  unfold top
  have hv : (constant S_ .f32 0xFF800000#32 : FVec Ideal S_ .f32) (Shape.Idx.first h_S_) = ⊥ := negInf
  rw [larger, column_at, column_at, rowMax_at, newMax_at, fold_sup _ hv, fold_sup _ hv]
  simp

/-- The denominator of a row: the sum of all exponentials. -/
theorem den_at (p : FVec Ideal S128x1x32x2048 .f32) (n : FVec Ideal S128x1x32x1 .f32) :
    den p n (ix4 b 0 h 0) = (∑ x : Fin 2048, p (ix4 b 0 h x)) + ∑ x : Fin 1, n (ix4 b 0 h x) := by
  pointwise [den]
/-- The exponential of a cached token's score. -/
theorem exps_at (p : FVec Ideal S128x1x32x2048 .f32) (m : FVec Ideal S128x1x32x1 .f32) : exps p m (ix4 b 0 h t) = Ideal.exp (p (ix4 b 0 h t) - m (ix4 b 0 h 0)) := by
  pointwise [exps]
/-- The exponential of the new token's score. -/
theorem newExp_at (n m : FVec Ideal S128x1x32x1 .f32) : newExp n m (ix4 b 0 h 0) = Ideal.exp (n (ix4 b 0 h 0) - m (ix4 b 0 h 0)) := by
  pointwise [newExp]
/-- A cached token's weight. -/
theorem weights_at (p : FVec Ideal S128x1x32x2048 .f32) (d : FVec Ideal S128x1x32x1 .f32) : weights p d (ix4 b 0 h t) = Ideal.div (p (ix4 b 0 h t)) (d (ix4 b 0 h 0)) := by
  pointwise [weights]
/-- The new token's weight. -/
theorem newWeight_at (n d : FVec Ideal S128x1x32x1 .f32) : newWeight n d (ix4 b 0 h 0) = Ideal.div (n (ix4 b 0 h 0)) (d (ix4 b 0 h 0)) := by
  pointwise [newWeight]

/-! ## The values -/

/-- One group of the weighted values, at an index. -/
theorem group_at (p : FVec Ideal S128x1x32x2048 .bf16) (s : FVec Ideal S1x128x2048 .bf16) (c : FVec Ideal S128x2048x128 .bf16) (d : Fin 128) :
    group p s c (ix4 b 0 h d) = ∑ x : Fin 2048, p (ix4 b 0 h x) * s (ix3 0 b x) * c (ix3 b x d) := by
  pointwise [group]

/-- Four groups of columns side by side. -/
def cat (g0 g1 g2 g3 : FVec Ideal S128x1x32x128 .f32) (b : Fin 128) (h : Fin 32) (e : Fin 512) : EReal :=
  if h_1 : e.val < 128 then g0 (ix4 b 0 h ⟨e.val, h_1⟩)
  else if h_2 : e.val - 128 < 128 then g1 (ix4 b 0 h ⟨e.val - 128, h_2⟩)
  else if h_3 : e.val - 128 - 128 < 128 then g2 (ix4 b 0 h ⟨e.val - 128 - 128, h_3⟩)
  else g3 (ix4 b 0 h ⟨e.val - 128 - 128 - 128, by omega⟩)

/-- The result at an index, by the group of its column. -/
theorem joined_at (g0 g1 g2 g3 : FVec Ideal S128x1x32x128 .f32) (p : FVec Ideal S128x1x32x1 .bf16) (z : FVec Ideal S128x1x512 .bf16) (e : Fin 512) :
    joined g0 g1 g2 g3 p z (ix3 b h e) = cat g0 g1 g2 g3 b h e + ∑ x : Fin 1, p (ix4 b 0 h x) * z (ix3 b x e) := by
  pointwise [joined]
  rfl

/-- A column of four groups side by side, each given by the same formula of the column in the whole. -/
theorem cat_at {g0 g1 g2 g3 : FVec Ideal S128x1x32x128 .f32} {f : Fin 4 → Fin 512 → EReal} (e : Fin 512)
    (h0 : ∀ d : Fin 128, g0 (ix4 b 0 h d) = f 0 ⟨d.val, by omega⟩) (h1 : ∀ d : Fin 128, g1 (ix4 b 0 h d) = f 1 ⟨128 + d.val, by omega⟩)
    (h2 : ∀ d : Fin 128, g2 (ix4 b 0 h d) = f 2 ⟨256 + d.val, by omega⟩) (h3 : ∀ d : Fin 128, g3 (ix4 b 0 h d) = f 3 ⟨384 + d.val, by omega⟩) :
    cat g0 g1 g2 g3 b h e = f (grp e) e := by
  have he := e.isLt
  unfold cat
  split
  · exact (h0 _).trans (congrArg₂ f (Fin.ext (show 0 = e.val / 128 by omega)) (Fin.ext (show e.val = e.val by omega)))
  split
  · exact (h1 _).trans (congrArg₂ f (Fin.ext (show 1 = e.val / 128 by omega)) (Fin.ext (show 128 + (e.val - 128) = e.val by omega)))
  split
  · exact (h2 _).trans (congrArg₂ f (Fin.ext (show 2 = e.val / 128 by omega)) (Fin.ext (show 256 + (e.val - 128 - 128) = e.val by omega)))
  · exact (h3 _).trans (congrArg₂ f (Fin.ext (show 3 = e.val / 128 by omega)) (Fin.ext (show 384 + (e.val - 128 - 128 - 128) = e.val by omega)))

/-- The weighted values of the cached tokens at an index. -/
theorem values_at (c : FVec Ideal S128x2048x512 .bf16) (s : FVec Ideal S4x128x2048 .bf16) (p : FVec Ideal S128x1x32x2048 .bf16)
    (n : FVec Ideal S128x1x32x1 .bf16) (z : FVec Ideal S128x1x512 .bf16) (e : Fin 512) :
    values c s p n z (ix3 b h e)
      = (∑ x : Fin 2048, p (ix4 b 0 h x) * s (ix3 (grp e) b x) * c (ix3 b x e)) + n (ix4 b 0 h 0) * z (ix3 b 0 e) := by
  unfold values
  rw [joined_at, cat_at (f := fun g e => ∑ x : Fin 2048, p (ix4 b 0 h x) * s (ix3 g b x) * c (ix3 b x e)), Fin.sum_univ_one]
  all_goals
    intro d
    rw [group_at]
    refine Finset.sum_congr rfl fun x _ => ?_
    pointwise

/-! ## The whole -/

/-- The result from scores, scales and codes that are a row's: the row's result. -/
theorem attend_at (r : Row) (c : FVec Ideal S128x2048x512 .bf16) (s : FVec Ideal S4x128x2048 .bf16) (p : FVec Ideal S128x1x32x2048 .f32)
    (n : FVec Ideal S128x1x32x1 .f32) (z : FVec Ideal S128x1x512 .bf16)
    (hc : ∀ (t : Fin 2048) d, c (ix3 b t d) = r.C t.val d) (hs : ∀ (t : Fin 2048) g, s (ix3 g b t) = r.S t.val g)
    (hp : ∀ t : Fin 2048, p (ix4 b 0 h t) = r.score t.val) (hn : n (ix4 b 0 h 0) = r.new) (hz : ∀ d, z (ix3 b 0 d) = r.z d) (e : Fin 512) :
    attend c s p n z (ix3 b h e) = r.out 2048 e := by
  have htop : top p n (ix4 b 0 h 0) = r.top 2048 := by
    rw [top_at, hn, max_comm]
    unfold Row.top
    rw [← sup_range]
    simp only [hp]
  have hex : ∀ t : Fin 2048, exps p (top p n) (ix4 b 0 h t) = r.ex (r.top 2048) t.val := fun t => by rw [exps_at, htop, hp]; rfl
  have hnew : newExp n (top p n) (ix4 b 0 h 0) = r.exNew (r.top 2048) := by rw [newExp_at, htop, hn]; rfl
  have hden : den (exps p (top p n)) (newExp n (top p n)) (ix4 b 0 h 0) = r.den (r.top 2048) 2048 := by
    rw [den_at, Fin.sum_univ_one, hnew]
    unfold Row.den
    rw [Finset.sum_range]
    simp only [hex]
  unfold attend
  rw [values_at, newWeight_at, hden, hnew, hz]
  unfold Row.out
  rw [Finset.sum_range]
  refine congrArg₂ (· + ·) ?_ rfl
  refine Finset.sum_congr rfl fun t _ => ?_
  rw [weights_at, hden, hex, hs, hc]
  rfl

/-- An entry of the reference's result is the row's result over all 2048 positions. -/
theorem result_at (x : FVec Ideal S128x1x32x512 .bf16) (q : FVec Ideal S128x1x32x64 .bf16) (z : FVec Ideal S128x1x512 .bf16) (w : FVec Ideal S128x1x64 .bf16)
    (C : FVec Ideal S5120x64x512 .bf16) (S : FVec Ideal S5120x64x4 .f32) (R : FVec Ideal S5120x64x64 .bf16) {T : IVec S128x32 32}
    (hT : ∀ y, (T y).toNat < 5120) (L : IVec S128 32) (e : Fin 512) :
    result x q z w C S R T L (ix3 b h e) = (row x q z w C S R T L b h).out 2048 e := by
  unfold result
  refine attend_at b h _ _ _ _ _ _ (fun t d => codes_at hT b t C d) (fun t g => scales_at hT b t S g) (fun t => ?_) ?_ (fun d => rfl) e
  · rw [masked_at, cached_at, scores_at]
    simp only [codes_at hT, scales_at hT, ropes_at hT]
    unfold Row.score
    rw [negInf]
    by_cases hl : (t.val : ℤ) < (L (ix1 b)).toInt
    · rw [if_pos (show (t.val : ℤ) < (row x q z w C S R T L b h).len from hl), decide_eq_true hl]
      refine (congrArg (· * Row.κ) ?_ : _ = _)
      rw [add_comm]
      simp only [← add_assoc]
      refine congrArg₂ (· + ·) (congrArg₂ (· + ·) (congrArg₂ (· + ·) (congrArg₂ (· + ·) rfl ?_) ?_) ?_) ?_
      all_goals
        refine congrArg₂ (· * ·) (Finset.sum_congr rfl fun k _ => ?_) rfl
        exact congrArg₂ (· * ·) (congrArg _ (congrArg _ (Fin.ext (by simp [col])))) (congrArg _ (congrArg _ (Fin.ext (by simp [col]))))
    · rw [if_neg (show ¬ (t.val : ℤ) < (row x q z w C S R T L b h).len from hl), decide_eq_false hl]
      rfl
  · rw [newMasked_at, newScore_at]
    rfl

end Cert.ReferenceIdeal.Hand

end
-- ==== Proof.Final.lean ====
/-
  The kernel's result array, over extended reals: each entry is one row of attention over the tokens of the blocks its
  sequence reaches.
-/
module

public import proofs.«01_k».proof.Proof.KI.Frame
public import proofs.«01_k».proof.Proof.KI.Value
public import proofs.«01_k».proof.Proof.RI.Value
public import Idealize.ShloMosaic.Lib.StableHlo.ReadAt
public import Idealize.ShloMosaic.Lib.Pipeline.Value
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic Cert.KernelIdeal Cert.KernelIdeal.Gen Cert.Words Cert.Pages Cert.Spec
open Idealize.ShloMosaic.Pipeline (Dat Window)

variable (m : (ℓ : Loc nD τ sig) → Buf (Elt Ideal) ℓ) (c : Dev nD)

/-! ## The host operations before the region, at an index -/

/-- Before the launch the scales of each page are transposed: the groups come first, then the tokens. -/
theorem V_v0 : V m c main_v0 = transpose S5120x4x64 [0, 2, 1] (m ((c : Thread nD τ).loc main_arg5)) transposes_S5120x64x4_S5120x4x64_0_2_1 := by
  show StableHlo.after hostOps0 (fun b => m (c, b)) main_v0 = _
  after_reads_simp
/-- Before the launch the axis of one new token is dropped from the queries. -/
theorem V_v1 : V m c main_v1 = shapeCast S128x32x512 (m ((c : Thread nD τ).loc main_arg0)) shapeCasts_S128x1x32x512_S128x32x512 := by
  show StableHlo.after hostOps0 (fun b => m (c, b)) main_v1 = _
  after_reads_simp
  rfl
/-- Before the launch the axis of one new token is dropped from the rope queries. -/
theorem V_v2 : V m c main_v2 = shapeCast S128x32x64 (m ((c : Thread nD τ).loc main_arg1)) shapeCasts_S128x1x32x64_S128x32x64 := by
  show StableHlo.after hostOps0 (fun b => m (c, b)) main_v2 = _
  after_reads_simp
  rfl

/-- An entry of the transposed scales. -/
theorem scales_at (X : FVec Ideal S5120x64x4 .f32) (p : Fin 5120) (g : Fin 4) (s : Fin 64) :
    transpose S5120x4x64 [0, 2, 1] X transposes_S5120x64x4_S5120x4x64_0_2_1 (ix3 p g s) = X (ix3 p s g) := by
  pointwise []
/-- An entry of the reshaped queries. -/
theorem query_at (X : FVec Ideal S128x1x32x512 .bf16) (b : Fin 128) (h : Fin 32) (d : Fin 512) :
    shapeCast S128x32x512 X shapeCasts_S128x1x32x512_S128x32x512 (ix3 b h d) = X (ix4 b 0 h d) := by
  pointwise []
/-- An entry of the reshaped rope queries. -/
theorem rope_at (X : FVec Ideal S128x1x32x64 .bf16) (b : Fin 128) (h : Fin 32) (d : Fin 64) :
    shapeCast S128x32x64 X shapeCasts_S128x1x32x64_S128x32x64 (ix3 b h d) = X (ix4 b 0 h d) := by
  pointwise []

/-- The transposed scales at an index, in terms of the argument. -/
theorem v0_at (p : Fin 5120) (g : Fin 4) (s : Fin 64) : V m c main_v0 (ix3 p g s) = m ((c : Thread nD τ).loc main_arg5) (ix3 p s g) :=
  (congrFun (V_v0 m c) _).trans (scales_at _ p g s)
/-- The reshaped queries at an index, in terms of the argument. -/
theorem v1_at (b : Fin 128) (h : Fin 32) (d : Fin 512) : V m c main_v1 (ix3 b h d) = m ((c : Thread nD τ).loc main_arg0) (ix4 b 0 h d) :=
  (congrFun (V_v1 m c) _).trans (query_at _ b h d)
/-- The reshaped rope queries at an index, in terms of the argument. -/
theorem v2_at (b : Fin 128) (h : Fin 32) (d : Fin 64) : V m c main_v2 (ix3 b h d) = m ((c : Thread nD τ).loc main_arg1) (ix4 b 0 h d) :=
  (congrFun (V_v2 m c) _).trans (rope_at _ b h d)

/-! ## The windows -/

/-- A grid point is its coordinate. -/
theorem coord_val (t : Fin (cfgM m).N) : (BitVec.ofNat 32 ((cfgM m).grid.coords t 0).val).toNat = t.val := by
  have h : t.val < 128 := lt_of_lt_of_eq t.isLt N_0
  have e : ((cfgM m).grid.coords t 0).val = t.val := pt_coords m t
  rw [e, BitVec.toNat_ofNat]
  exact Nat.mod_eq_of_lt (by omega)

/-- The sequence of a grid point. -/
abbrev sq (t : Fin (cfgM m).N) : Fin 128 := ⟨t.val, lt_of_lt_of_eq t.isLt N_0⟩

/-- Each window's block of point `t` is the `t`-th along the first axis. -/
theorem index_eq (t : Fin (cfgM m).N) : ((cfgM m).win 0).index t = ![t.val, 0, 0] ∧ ((cfgM m).win 1).index t = ![t.val, 0, 0]
    ∧ ((cfgM m).win 2).index t = ![t.val, 0, 0] ∧ ((cfgM m).win 3).index t = ![t.val, 0, 0] ∧ ((cfgM m).win 4).index t = ![t.val, 0, 0] := by
  have e : (![(BitVec.ofNat 32 ((cfgM m).grid.coords t 0).val).toNat, 0, 0] : Fin 3 → ℕ) = ![t.val, 0, 0] := by rw [coord_val]
  exact ⟨e, e, e, e, e⟩

/-- The block of queries at a grid point is the one of its sequence. -/
theorem emb0 (t : Fin (cfgM m).N) (h : Fin 32) (d : Fin 512) : (((cfgM m).win 0).blk t).view.emb (ix3 0 h d) = (ix3 (sq m t) h d : S128x32x512.Idx) := by
  funext a; apply Fin.ext
  refine (Window.rect_emb_val ((cfgM m).win 0) t (ix3 0 h d : S1x32x512.Idx) a).trans ?_
  have e := (index_eq m t).1
  fin_cases a
  · refine (congrArg (fun k => k * 1 + 0) (congrFun e (0 : Fin 3))).trans ?_
    show t.val * 1 + 0 = t.val; omega
  · refine (congrArg (fun k => k * 32 + h.val) (congrFun e (1 : Fin 3))).trans ?_
    show 0 * 32 + h.val = h.val; omega
  · refine (congrArg (fun k => k * 512 + d.val) (congrFun e (2 : Fin 3))).trans ?_
    show 0 * 512 + d.val = d.val; omega
/-- The block of rope queries at a grid point is the one of its sequence. -/
theorem emb1 (t : Fin (cfgM m).N) (h : Fin 32) (d : Fin 64) : (((cfgM m).win 1).blk t).view.emb (ix3 0 h d) = (ix3 (sq m t) h d : S128x32x64.Idx) := by
  funext a; apply Fin.ext
  refine (Window.rect_emb_val ((cfgM m).win 1) t (ix3 0 h d : S1x32x64.Idx) a).trans ?_
  have e := (index_eq m t).2.1
  fin_cases a
  · refine (congrArg (fun k => k * 1 + 0) (congrFun e (0 : Fin 3))).trans ?_
    show t.val * 1 + 0 = t.val; omega
  · refine (congrArg (fun k => k * 32 + h.val) (congrFun e (1 : Fin 3))).trans ?_
    show 0 * 32 + h.val = h.val; omega
  · refine (congrArg (fun k => k * 64 + d.val) (congrFun e (2 : Fin 3))).trans ?_
    show 0 * 64 + d.val = d.val; omega
/-- The block of the new token's latents at a grid point is the one of its sequence. -/
theorem emb2 (t : Fin (cfgM m).N) (d : Fin 512) : (((cfgM m).win 2).blk t).view.emb (ix3 0 0 d) = (ix3 (sq m t) 0 d : S128x1x512.Idx) := by
  funext a; apply Fin.ext
  refine (Window.rect_emb_val ((cfgM m).win 2) t (ix3 0 0 d : S1x1x512.Idx) a).trans ?_
  have e := (index_eq m t).2.2.1
  fin_cases a
  · refine (congrArg (fun k => k * 1 + 0) (congrFun e (0 : Fin 3))).trans ?_
    show t.val * 1 + 0 = t.val; omega
  · refine (congrArg (fun k => k * 1 + 0) (congrFun e (1 : Fin 3))).trans ?_
    rfl
  · refine (congrArg (fun k => k * 512 + d.val) (congrFun e (2 : Fin 3))).trans ?_
    show 0 * 512 + d.val = d.val; omega
/-- The block of the new token's rope keys at a grid point is the one of its sequence. -/
theorem emb3 (t : Fin (cfgM m).N) (d : Fin 64) : (((cfgM m).win 3).blk t).view.emb (ix3 0 0 d) = (ix3 (sq m t) 0 d : S128x1x64.Idx) := by
  funext a; apply Fin.ext
  refine (Window.rect_emb_val ((cfgM m).win 3) t (ix3 0 0 d : S1x1x64.Idx) a).trans ?_
  have e := (index_eq m t).2.2.2.1
  fin_cases a
  · refine (congrArg (fun k => k * 1 + 0) (congrFun e (0 : Fin 3))).trans ?_
    show t.val * 1 + 0 = t.val; omega
  · refine (congrArg (fun k => k * 1 + 0) (congrFun e (1 : Fin 3))).trans ?_
    rfl
  · refine (congrArg (fun k => k * 64 + d.val) (congrFun e (2 : Fin 3))).trans ?_
    show 0 * 64 + d.val = d.val; omega
/-- The block of the result at a grid point is the one of its sequence. -/
theorem emb4 (t : Fin (cfgM m).N) (h : Fin 32) (d : Fin 512) : (((cfgM m).win 4).blk t).view.emb (ix3 0 h d) = (ix3 (sq m t) h d : S128x32x512.Idx) := by
  funext a; apply Fin.ext
  refine (Window.rect_emb_val ((cfgM m).win 4) t (ix3 0 h d : S1x32x512.Idx) a).trans ?_
  have e := (index_eq m t).2.2.2.2
  fin_cases a
  · refine (congrArg (fun k => k * 1 + 0) (congrFun e (0 : Fin 3))).trans ?_
    show t.val * 1 + 0 = t.val; omega
  · refine (congrArg (fun k => k * 32 + h.val) (congrFun e (1 : Fin 3))).trans ?_
    show 0 * 32 + h.val = h.val; omega
  · refine (congrArg (fun k => k * 512 + d.val) (congrFun e (2 : Fin 3))).trans ?_
    show 0 * 512 + d.val = d.val; omega

/-- What a grid point reads of the queries. -/
theorem iblk0 (t : Fin (cfgM m).N) (h : Fin 32) (d : Fin 512) : iblk m c 0 t (ix3 0 h d : S1x32x512.Idx) = m ((c : Thread nD τ).loc main_arg0) (ix4 (sq m t) 0 h d) :=
  (congrArg (V m c main_v1) (emb0 m t h d)).trans (v1_at m c _ h d)
/-- What a grid point reads of the rope queries. -/
theorem iblk1 (t : Fin (cfgM m).N) (h : Fin 32) (d : Fin 64) : iblk m c 1 t (ix3 0 h d : S1x32x64.Idx) = m ((c : Thread nD τ).loc main_arg1) (ix4 (sq m t) 0 h d) :=
  (congrArg (V m c main_v2) (emb1 m t h d)).trans (v2_at m c _ h d)
/-- What a grid point reads of the new token's latents. -/
theorem iblk2 (t : Fin (cfgM m).N) (d : Fin 512) : iblk m c 2 t (ix3 0 0 d : S1x1x512.Idx) = m ((c : Thread nD τ).loc main_arg2) (ix3 (sq m t) 0 d) :=
  (congrArg (V m c main_arg2) (emb2 m t d)).trans (congrFun (V_main_arg2 m c) _)
/-- What a grid point reads of the new token's rope keys. -/
theorem iblk3 (t : Fin (cfgM m).N) (d : Fin 64) : iblk m c 3 t (ix3 0 0 d : S1x1x64.Idx) = m ((c : Thread nD τ).loc main_arg3) (ix3 (sq m t) 0 d) :=
  (congrArg (V m c main_arg3) (emb3 m t d)).trans (congrFun (V_main_arg3 m c) _)

/-! ## The row of a grid point is the reference's row -/

/-- The row of head `h` of sequence `b`, from the arguments. -/
abbrev fullRow (b : Fin 128) (h : Fin 32) : Row :=
  Cert.ReferenceIdeal.Hand.row (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8)) b h

/-- The run's index of the page table, by its coordinates. -/
theorem ixT_eq (b : Fin 128) (j : ℕ) : ixT b.val j = ix2 b ⟨j % 32, Nat.mod_lt _ (by omega)⟩ := by
  funext a; apply Fin.ext
  fin_cases a
  · exact Nat.mod_eq_of_lt b.isLt
  · rfl
/-- The run's index of the lengths, by its coordinate. -/
theorem ixL_eq (b : Fin 128) : ixL b.val = ix1 b := by
  funext a; apply Fin.ext
  fin_cases a
  exact Nat.mod_eq_of_lt b.isLt
/-- The run's page number is the reference's. -/
theorem pg_eq (T : Tab) (b : Fin 128) (j : ℕ) : pg T b.val j = (Cert.ReferenceIdeal.Hand.page T b j).val := by
  unfold pg; rw [ixT_eq]; rfl
/-- The run's index of the codes is the reference's. -/
theorem ixC_eq (p : Fin 5120) (t : ℕ) (d : Fin 512) : ixC p.val (t % 64) d.val = ix3 p (Cert.ReferenceIdeal.Hand.slot t) d := by
  funext a; apply Fin.ext
  fin_cases a
  · exact Nat.mod_eq_of_lt p.isLt
  · exact Nat.mod_mod t 64
  · exact Nat.mod_eq_of_lt d.isLt
/-- The run's index of the rope keys is the reference's. -/
theorem ixR_eq (p : Fin 5120) (t : ℕ) (d : Fin 64) : ixR p.val (t % 64) d.val = ix3 p (Cert.ReferenceIdeal.Hand.slot t) d := by
  funext a; apply Fin.ext
  fin_cases a
  · exact Nat.mod_eq_of_lt p.isLt
  · exact Nat.mod_mod t 64
  · exact Nat.mod_eq_of_lt d.isLt
/-- The run's index of the scales is the reference's, transposed. -/
theorem ixS_eq (p : Fin 5120) (t : ℕ) (g : Fin 4) : ixS p.val g.val (t % 64) = ix3 p g (Cert.ReferenceIdeal.Hand.slot t) := by
  funext a; apply Fin.ext
  fin_cases a
  · exact Nat.mod_eq_of_lt p.isLt
  · exact Nat.mod_eq_of_lt g.isLt
  · exact Nat.mod_mod t 64

/-- The row of attention a grid point computes is the row of the arguments that the reference computes. -/
theorem row_eq (t : Fin (cfgM m).N) (h : Fin 32) :
    row (pages m) (pools m c) t.val (len (lengths m) t.val) (iblk m c 0 t) (iblk m c 1 t) (iblk m c 2 t) (iblk m c 3 t) h = fullRow m c (sq m t) h := by
  obtain rfl : c = 0 := Subsingleton.elim _ _
  unfold row fullRow Cert.ReferenceIdeal.Hand.row
  congr 1
  · funext d; exact iblk0 m 0 t h d
  · funext d; exact iblk1 m 0 t h d
  · funext d; exact iblk2 m 0 t d
  · funext d; exact iblk3 m 0 t d
  · funext u d
    rw [show t.val = (sq m t).val from rfl, pg_eq, ixC_eq]
    exact congrFun (V_main_arg4 m 0) _
  · funext u g
    rw [show t.val = (sq m t).val from rfl, pg_eq, ixS_eq]
    exact v0_at m 0 _ g _
  · funext u d
    rw [show t.val = (sq m t).val from rfl, pg_eq, ixR_eq]
    exact congrFun (V_main_arg6 m 0) _
  · unfold len
    rw [show t.val = (sq m t).val from rfl, ixL_eq]

/-! ## The result array -/

variable (hG : Good (pages m) (lengths m))

/-- The result array: a row of attention over the tokens of the blocks reached, at each sequence and head. -/
def final : Buf (Elt Ideal) ((c : Thread nD τ).loc main_v3) := fun i : S128x32x512.Idx =>
  (fullRow m c (i 0) (i 1)).out (256 * nblk (len (lengths m) (i 0).val)) (i 2)

/-- What a grid point writes back is its block of the result. -/
theorem flushed_eq (t : Fin (cfgM m).N) : (dats m hG 0 c).flushed 4 t = (((cfgM m).win 4).blk t).view.read (Elt Ideal) (final m c) := by
  refine funext fun (y : S1x32x512.Idx) => ?_
  obtain ⟨a, h, e, rfl⟩ : ∃ (a : Fin 1) (h : Fin 32) (e : Fin 512), y = (ix3 a h e : S1x32x512.Idx) :=
    ⟨y 0, y 1, y 2, funext fun a => by fin_cases a <;> rfl⟩
  obtain rfl : a = 0 := Subsingleton.elim _ _
  have e1 : (dats m hG 0 c).flushed 4 t (ix3 0 h e : S1x32x512.Idx) = oblk m c t (ix3 0 h e) :=
    congrFun (after_4 m hG c t) (ix3 0 h e : S1x32x512.Idx)
  have e2 : (((cfgM m).win 4).blk t).view.read (Elt Ideal) (final m c) (ix3 0 h e : S1x32x512.Idx) = final m c (ix3 (sq m t) h e : S128x32x512.Idx) :=
    congrArg (final m c) (emb4 m t h e)
  refine e1.trans (Eq.trans ?_ e2.symm)
  refine (out_at (T := pages m) (X := pools m c) (b := t.val) (x := iblk m c 0 t) (y := iblk m c 1 t) (z := iblk m c 2 t) (w := iblk m c 3 t)
    h (lengths m) (hG.le _) e).trans ?_
  exact congrArg (fun r : Row => r.out (256 * nblk (len (lengths m) t.val)) e) (row_eq m c t h)

/-- Every index of the result lies in the block of some grid point. -/
theorem cover (i : S128x32x512.Idx) : ∃ t : Fin (cfgM m).N, ((cfgM m).win 4).flush t = true ∧ i ∈ (((cfgM m).win 4).blk t).view.set := by
  have hi : (i 0).val < 128 := (i 0).isLt
  let t : Fin (cfgM m).N := ⟨(i 0).val, lt_of_lt_of_eq hi N_0.symm⟩
  refine ⟨t, ?_, ?_⟩
  · unfold Window.flush
    rw [Bool.and_eq_true, Bool.or_eq_true]
    refine ⟨rfl, ?_⟩
    by_cases hl : (i 0).val + 1 < (cfgM m).N
    · right
      refine decide_eq_true ⟨hl, fun e => ?_⟩
      have e' := congrFun e (0 : Fin 3)
      rw [(index_eq m _).2.2.2.2, (index_eq m _).2.2.2.2] at e'
      have : (i 0).val + 1 = (i 0).val := e'
      omega
    · left
      refine decide_eq_true ?_
      have hN : (cfgM m).N = 128 := N_0
      show (i 0).val + 1 = (cfgM m).N
      omega
  · have ei : (((cfgM m).win 4).blk t).view.emb (ix3 0 (i 1) (i 2)) = i :=
      (emb4 m t (i 1) (i 2)).trans (funext fun a => by fin_cases a <;> rfl)
    rw [← ei]
    exact (((cfgM m).win 4).blk t).view.emb_mem_set _

/-- The result array at the end of the run. -/
theorem final_eq : (dats m hG 0 c).arrAt 4 (cfgM m).N = final m c :=
  (dats m hG 0 c).arrAt_eq_of_cover 4 (final m c) (fun t _ => flushed_eq m c hG t) (cover m)

end Cert.KernelIdeal.Hand

end
-- ==== Proof.RI.Read.lean ====
/-
  The reference's run: its result array as a function of its arguments.
-/
module

public import proofs.«01_k».proof.Proof.RI.Defs
public import Idealize.ShloMosaic.Lib.StableHlo.ReadAt

@[expose] public section

set_option maxRecDepth 16384

noncomputable section

namespace Cert.ReferenceIdeal.Hand

open Idealize.ShloMosaic Idealize.ShloMosaic.TcCoe Idealize.ShloMosaic.Tactic Cert.ReferenceIdeal Cert.ReferenceIdeal.Gen

variable (W : Valuation τ sig (Elt Ideal))

/-! ## The lines up to the first mask -/

set_option maxHeartbeats 4000000

/-- The scores of the cached tokens. -/
theorem read_scores : StableHlo.after hostOps1 W main_v65
    = scores (W main_arg0) (W main_arg1) (codes (W main_v0) (W main_arg7)) (scales (W main_arg5) (W main_arg7)) (ropes (W main_arg6) (W main_arg7)) := by
  after_reads_simp
  rfl
/-- The new token's score. -/
theorem read_new : StableHlo.after hostOps1 W main_v70 = newScore (W main_arg0) (W main_arg1) (W main_arg2) (W main_arg3) := by
  after_reads_simp
  rfl
/-- Which cached tokens are within the length. -/
theorem read_cached : StableHlo.after hostOps1 W main_v82 = cached (W main_arg8) := by
  after_reads_simp
  rfl
/-- The new token sees itself. -/
theorem read_causal : StableHlo.after hostOps1 W main_v81 = causal := by
  after_reads_simp
  rfl
/-- The value of a masked score. -/
theorem read_inf : StableHlo.after hostOps1 W main_cst_6 = (constant S_ .f32 0xFF800000#32 : FVec Ideal S_ .f32) := by
  after_reads_simp
/-- The scales used for the values. -/
theorem read_narrow : StableHlo.after hostOps1 W main_v26 = narrow (scales (W main_arg5) (W main_arg7)) := by
  after_reads_simp
  rfl
/-- The first group of the codes. -/
theorem read_c0 : StableHlo.after hostOps1 W main_v27
    = extractStridedSlice S128x2048x128 ![0, 0, 0] (codes (W main_v0) (W main_arg7)) slices_S128x2048x512_S128x2048x128_0_0_0 := by
  after_reads_simp
  rfl
/-- The second group of the codes. -/
theorem read_c1 : StableHlo.after hostOps1 W main_v28
    = extractStridedSlice S128x2048x128 ![0, 0, 128] (codes (W main_v0) (W main_arg7)) slices_S128x2048x512_S128x2048x128_0_0_128 := by
  after_reads_simp
  rfl
/-- The third group of the codes. -/
theorem read_c2 : StableHlo.after hostOps1 W main_v29
    = extractStridedSlice S128x2048x128 ![0, 0, 256] (codes (W main_v0) (W main_arg7)) slices_S128x2048x512_S128x2048x128_0_0_256 := by
  after_reads_simp
  rfl
/-- The fourth group of the codes. -/
theorem read_c3 : StableHlo.after hostOps1 W main_v30
    = extractStridedSlice S128x2048x128 ![0, 0, 384] (codes (W main_v0) (W main_arg7)) slices_S128x2048x512_S128x2048x128_0_0_384 := by
  after_reads_simp
  rfl

/-! ## The masks -/

/-- The scores of the cached tokens, masked. -/
theorem read_where : StableHlo.after hostOps1_1 W main_v83
    = select (broadcastInDim S128x1x32x2048 ![0, 1, 2, 3] bcast_S128x1x1x2048_S128x1x32x2048_0_1_2_3 (W main_v82)) (W main_v65)
        (broadcastInDim S128x1x32x2048 ![] bcast_S_S128x1x32x2048 (W main_cst_6)) := by
  after_reads_simp
  rfl
/-- The new token's mask, with its missing axes. -/
theorem read_v84 : StableHlo.after hostOps1_2 W main_v84 = broadcastInDim S1x1x1x1 ![1, 3] bcast_S1x1_S1x1x1x1_1_3 (W main_v81) := by
  after_reads_simp
/-- The value of a masked score, for the new token. -/
theorem read_cst7 : StableHlo.after hostOps1_2 W main_cst_7 = (constant S_ .f32 0xFF800000#32 : FVec Ideal S_ .f32) := by
  after_reads_simp
/-- The new token's score, masked. -/
theorem read_where' : StableHlo.after hostOps1_3 W main_v85
    = select (broadcastInDim S128x1x32x1 ![0, 1, 2, 3] bcast_S1x1x1x1_S128x1x32x1_0_1_2_3 (W main_v84)) (W main_v70)
        (broadcastInDim S128x1x32x1 ![] bcast_S_S128x1x32x1 (W main_cst_7)) := by
  after_reads_simp
  rfl

/-! ## The lines after -/

/-- The cached tokens' weights, from the masked scores. -/
def wts (p : FVec Ideal S128x1x32x2048 .f32) (n : FVec Ideal S128x1x32x1 .f32) : FVec Ideal S128x1x32x2048 .bf16 :=
  weights (exps p (top p n)) (den (exps p (top p n)) (newExp n (top p n)))

/-- The weighted values, first group. -/
theorem read_g0 : StableHlo.upto hostOps1_4 W 48 main_v111
    = group (wts (W main_v83) (W main_v85)) (extractStridedSlice S1x128x2048 ![0, 0, 0] (W main_v26) slices_S4x128x2048_S1x128x2048_0_0_0) (W main_v27) := by
  after_reads_simp
  rfl
/-- The weighted values, second group. -/
theorem read_g1 : StableHlo.upto hostOps1_4 W 48 main_v117
    = group (wts (W main_v83) (W main_v85)) (extractStridedSlice S1x128x2048 ![1, 0, 0] (W main_v26) slices_S4x128x2048_S1x128x2048_1_0_0) (W main_v28) := by
  after_reads_simp
  rfl
/-- The weighted values, third group. -/
theorem read_g2 : StableHlo.upto hostOps1_4 W 48 main_v123
    = group (wts (W main_v83) (W main_v85)) (extractStridedSlice S1x128x2048 ![2, 0, 0] (W main_v26) slices_S4x128x2048_S1x128x2048_2_0_0) (W main_v29) := by
  after_reads_simp
  rfl
/-- The weighted values, fourth group. -/
theorem read_g3 : StableHlo.upto hostOps1_4 W 48 main_v129
    = group (wts (W main_v83) (W main_v85)) (extractStridedSlice S1x128x2048 ![3, 0, 0] (W main_v26) slices_S4x128x2048_S1x128x2048_3_0_0) (W main_v30) := by
  after_reads_simp
  rfl
/-- The result, from the four groups and the new token. -/
theorem read_result (U : Valuation τ sig (Elt Ideal)) (hU : StableHlo.upto hostOps1_4 W 48 = U) : StableHlo.after hostOps1_4 W main_v134
    = joined (U main_v111) (U main_v117) (U main_v123) (U main_v129)
        (newWeight (newExp (W main_v85) (top (W main_v83) (W main_v85)))
          (den (exps (W main_v83) (top (W main_v83) (W main_v85))) (newExp (W main_v85) (top (W main_v83) (W main_v85))))) (W main_arg2) := by
  after_reads_simp
  generalize hV : StableHlo.upto hostOps1_4 W 48 = V
  obtain rfl : V = U := hV.symm.trans hU
  rfl

end Cert.ReferenceIdeal.Hand

end
-- ==== Proof.RI.Run.lean ====
/-
  The reference's run: its result array holds `result` of its arguments.
-/
module

public import proofs.«01_k».proof.Proof.RI.Read
public import proofs.«01_k».proof.Proof.Gen.ReferenceIdeal.Frame
public import Idealize.ShloMosaic.Lib.Pipeline.Value
public import Idealize.ShloMosaic.Lib.Pipeline.ValueKit

@[expose] public section

set_option maxRecDepth 16384

noncomputable section

namespace Cert.ReferenceIdeal.Hand

open Idealize.ShloMosaic Idealize.ShloMosaic.TcCoe Idealize.ShloMosaic.Tactic Cert.ReferenceIdeal Cert.ReferenceIdeal.Gen Idealize.SL.Sem

/-! ## The lines after the region, composed -/

section Lines

variable (W : Valuation τ sig (Elt Ideal))

/-- The buffers before the last run of lines. -/
abbrev W1 : Valuation τ sig (Elt Ideal) := StableHlo.after hostOps1 W
abbrev W2 : Valuation τ sig (Elt Ideal) := StableHlo.after hostOps1_1 (W1 W)
abbrev W3 : Valuation τ sig (Elt Ideal) := StableHlo.after hostOps1_2 (W2 W)
abbrev W4 : Valuation τ sig (Elt Ideal) := StableHlo.after hostOps1_3 (W3 W)

/-- A buffer the two selections and the lines between them do not write. -/
theorem kept {r : Ref sig .tc} (h1 : r ∉ hostOps1_1_W) (h2 : r ∉ hostOps1_2_W) (h3 : r ∉ hostOps1_3_W) : W4 W r = W1 W r :=
  (StableHlo.after_of_writes_sub (r := r) hostOps1_3 _ hostOps1_3_writes h3).trans
    ((StableHlo.after_of_writes_sub (r := r) hostOps1_2 _ hostOps1_2_writes h2).trans
      (StableHlo.after_of_writes_sub (r := r) hostOps1_1 _ hostOps1_1_writes h1))

/-- The masked scores of the cached tokens. -/
theorem at_v83 : W4 W main_v83 = masked (cached (W main_arg8)) (scores (W main_arg0) (W main_arg1) (codes (W main_v0) (W main_arg7)) (scales (W main_arg5) (W main_arg7)) (ropes (W main_arg6) (W main_arg7))) := by
  refine ((StableHlo.after_of_writes_sub (r := main_v83) hostOps1_3 _ hostOps1_3_writes (by decide)).trans
    (StableHlo.after_of_writes_sub (r := main_v83) hostOps1_2 _ hostOps1_2_writes (by decide))).trans ((read_where (W1 W)).trans ?_)
  rw [show W1 W main_v65 = _ from read_scores W, show W1 W main_v82 = _ from read_cached W, show W1 W main_cst_6 = _ from read_inf W]
  rfl

/-- The masked score of the new token. -/
theorem at_v85 : W4 W main_v85 = newMasked causal (newScore (W main_arg0) (W main_arg1) (W main_arg2) (W main_arg3)) := by
  refine (read_where' (W3 W)).trans ?_
  rw [show W3 W main_v84 = _ from read_v84 (W2 W), show W3 W main_cst_7 = _ from read_cst7 (W2 W),
    show W3 W main_v70 = W1 W main_v70 from
      (StableHlo.after_of_writes_sub (r := main_v70) hostOps1_2 _ hostOps1_2_writes (by decide)).trans
        (StableHlo.after_of_writes_sub (r := main_v70) hostOps1_1 _ hostOps1_1_writes (by decide)),
    show W2 W main_v81 = W1 W main_v81 from StableHlo.after_of_writes_sub (r := main_v81) hostOps1_1 _ hostOps1_1_writes (by decide),
    show W1 W main_v70 = _ from read_new W, show W1 W main_v81 = _ from read_causal W]
  rfl

/-- The result of all the lines. -/
theorem read_all : StableHlo.after hostOps1_4 (W4 W) main_v134
    = result (W main_arg0) (W main_arg1) (W main_arg2) (W main_arg3) (W main_v0) (W main_arg5) (W main_arg6) (W main_arg7) (W main_arg8) := by
  rw [read_result (W4 W) _ rfl, read_g0, read_g1, read_g2, read_g3, at_v83, at_v85,
    kept W (r := main_v26) (by decide) (by decide) (by decide), kept W (r := main_v27) (by decide) (by decide) (by decide),
    kept W (r := main_v28) (by decide) (by decide) (by decide), kept W (r := main_v29) (by decide) (by decide) (by decide),
    kept W (r := main_v30) (by decide) (by decide) (by decide), kept W (r := main_arg2) (by decide) (by decide) (by decide),
    show W1 W main_v26 = _ from read_narrow W, show W1 W main_v27 = _ from read_c0 W, show W1 W main_v28 = _ from read_c1 W,
    show W1 W main_v29 = _ from read_c2 W, show W1 W main_v30 = _ from read_c3 W,
    show W1 W main_arg2 = W main_arg2 from StableHlo.after_of_writes_sub (r := main_arg2) hostOps1 _ hostOps1_writes (by decide +kernel)]
  rfl

end Lines

/-! ## The region: the codes at the wider type -/

section Region

variable (m : (ℓ : Loc nD τ sig) → Buf (Elt Ideal) ℓ) (ρ : Dev nD → PrngReg) (c : Dev nD)

/-- The codes of the pool, as launched. -/
abbrev pool : FVec Ideal S5120x64x512 .bf16 := m ((c : Thread nD τ).loc main_arg4)

/-- The body leaves its block as it is. -/
theorem out_eq (x : Vec Ideal S5120x64x512 .fp8e4m3) : (out0_1 x : FVec Ideal S5120x64x512 .bf16) = x := by
  have hz : ∀ a : Fin S5120x64x512.rank, (![0, 0, 0] : Fin 3 → Nat) a = 0 := by decide
  unfold out0_1 r0_0
  rw [View.ld_unit_lit' inb_S5120x64x512_S5120x64x512_0_0_0 x hz, View.canon_cons_unit_lit' inb_S5120x64x512_S5120x64x512_0_0_0 _ _ hz]
  rfl

/-- What the cast writes back is its block of the cast pool. -/
theorem flushed_eq (t : Fin cfg0.N) : (dats m 0 c).flushed (1 : Fin 2) t = ((cfg0.win (1 : Fin 2)).blk t).view.read (Elt Ideal) (pool m c) := by
  show (cfg0.win (1 : Fin 2)).cut (cfg0.grid.coords t) ((dats m 0 c).after (1 : Fin 2) t) = _
  rw [after0_1, out_eq]
  rfl

/-- Every index of the cast pool is written. -/
theorem cover (i : S5120x64x512.Idx) : ∃ t : Fin cfg0.N, (cfg0.win (1 : Fin 2)).flush t = true ∧ i ∈ ((cfg0.win (1 : Fin 2)).blk t).view.set := by
  let t0 : Fin cfg0.N := ⟨0, by decide⟩
  refine ⟨t0, by decide +kernel, ?_⟩
  show i ∈ ((View.whole main_v0).slice ((cfg0.win (1 : Fin 2)).rect t0)).set
  erw [View.set_slice_whole]
  refine (Pipeline.Window.mem_rect_iff (cfg0.win (1 : Fin 2)) t0 i (by rfl)).mpr fun a => ?_
  have e : ∀ (t : Fin cfg0.N) a, (cfg0.win (1 : Fin 2)).index t a * (cfg0.win (1 : Fin 2)).size a = 0
      ∧ (cfg0.win (1 : Fin 2)).xsize (cfg0.grid.coords t) a = S5120x64x512.size a := by
    decide +kernel
  rw [(e t0 a).1, (e t0 a).2, Nat.zero_add]
  exact ⟨Nat.zero_le _, (i a).isLt⟩

/-- The region ends with the codes, at the wider type. -/
theorem widened : (dats m 0 c).arrAt (1 : Fin 2) cfg0.N = pool m c :=
  (dats m 0 c).arrAt_eq_of_cover (1 : Fin 2) (pool m c) (fun t _ => flushed_eq m c t) cover

/-! ## The run -/

/-- The result of the reference's arguments. -/
abbrev val : Buf (Elt Ideal) ((c : Thread nD τ).loc main_v134) :=
  result (m ((c : Thread nD τ).loc main_arg0)) (m ((c : Thread nD τ).loc main_arg1)) (m ((c : Thread nD τ).loc main_arg2)) (m ((c : Thread nD τ).loc main_arg3))
    (pool m c) (m ((c : Thread nD τ).loc main_arg5)) (m ((c : Thread nD τ).loc main_arg6)) (m ((c : Thread nD τ).loc main_arg7)) (m ((c : Thread nD τ).loc main_arg8))

/-- What the buffers hold when the lines after the region begin. -/
abbrev start : Valuation τ sig (Elt Ideal) := Pipeline.withArrays spec0 c (V0 m c) fun w => (dats m 0 c).arrAt w cfg0.N

/-- The cast leaves every other array as it was. -/
theorem start_arg {r : Ref sig .tc} (h : ∀ w, Pipeline.arrRef spec0 w ≠ r) : start m c r = m ((c : Thread nD τ).loc r) :=
  Pipeline.withArrays_of_ne _ c (V0 m c) _ r h

/-- After the cast its array holds the cast pool. -/
theorem start_v0 : start m c main_v0 = pool m c :=
  (Pipeline.withArrays_arr spec0 (by decide) c (V0 m c) _ (1 : Fin 2)).trans (widened m c)

/-- The host lines after the cast, taken in five stretches, leave the reference's result. -/
theorem tail_eq : Pipeline.afterTail₀ cfgs (dats m) 0 (V0 m) [hostOps1, hostOps1_1, hostOps1_2, hostOps1_3, hostOps1_4] c main_v134 = val m c := by
  unfold Pipeline.afterTail₀
  rw [List.flatten_cons, List.flatten_cons, List.flatten_cons, List.flatten_cons, List.flatten_cons, List.flatten_nil, List.append_nil,
    StableHlo.after_append, StableHlo.after_append, StableHlo.after_append, StableHlo.after_append]
  refine (read_all (start m c)).trans ?_
  rw [start_arg m c (r := main_arg0) (by decide), start_arg m c (r := main_arg1) (by decide), start_arg m c (r := main_arg2) (by decide),
    start_arg m c (r := main_arg3) (by decide), start_arg m c (r := main_arg5) (by decide), start_arg m c (r := main_arg6) (by decide),
    start_arg m c (r := main_arg7) (by decide), start_arg m c (r := main_arg8) (by decide), start_v0]

/-- The run, with its result. -/
theorem run : θ_run defs (onTc (τ := τ) (main (F := Ideal))) ⟨m, fun _ => 0, ρ⟩ fun r => ∀ c : Dev nD, r.2.mem ((c : Thread nD τ).loc main_v134) = val m c :=
  (θ_run defs _ _).mono (fun _ h c => ((h c).2 main_v134 (Pipeline.mem_restRefs_of main_v134 (by decide) (by decide))).trans (tail_eq m c)) (run_main m ρ)

end Region

end Cert.ReferenceIdeal.Hand

end
-- ==== Proof.lean ====
module

public import proofs.«01_k».proof.Defs
public import proofs.«01_k».proof.Proof.Gen.ReferenceIdeal.Frame
public import proofs.«01_k».proof.Proof.K.Frame
public import proofs.«01_k».proof.Proof.KI.Frame
public import proofs.«01_k».proof.Proof.Bounds
public import proofs.«01_k».proof.Proof.Tail
public import proofs.«01_k».proof.Proof.Final
public import proofs.«01_k».proof.Proof.RI.Run

/-! # The certificate's claims, proved -/

@[expose] public section

namespace Cert.Proof

open Idealize.ShloMosaic Idealize.SL.Sem

/-- The precondition bounds the kernel's page table and lengths. -/
theorem good_Kernel {m} (h : Cert.Pre_Kernel m) : Cert.Kernel.Hand.Good (Cert.Kernel.Hand.pages m) (Cert.Kernel.Hand.lengths m) :=
  ⟨(Cert.Bounds.bounds (h 0)).1, (Cert.Bounds.bounds (h 0)).2⟩

/-- The same of the kernel read over the extended reals. -/
theorem good_KernelIdeal {m} (h : Cert.Pre_KernelIdeal m) : Cert.KernelIdeal.Hand.Good (Cert.KernelIdeal.Hand.pages m) (Cert.KernelIdeal.Hand.lengths m) :=
  ⟨(Cert.Bounds.bounds (h 0)).1, (Cert.Bounds.bounds (h 0)).2⟩

/-- The kernel runs, leaves its arguments unchanged and ends with every counter at zero. -/
theorem frame_Kernel : Cert.quiescent_Kernel := fun m g h =>
  (θ_run _ _ _).mono (fun _ h => ⟨fun c => (h.1 c).2, h.2⟩) (Cert.Kernel.Hand.run m g (good_Kernel h))

/-- The same of the kernel read over the extended reals. -/
theorem frame_KernelIdeal : Cert.quiescent_KernelIdeal := fun m g h =>
  (θ_run _ _ _).mono (fun _ h => ⟨fun c => (h.1 c).2, h.2⟩) (Cert.KernelIdeal.Hand.run m g (good_KernelIdeal h))

/-- The precondition of the value claim bounds them too. -/
theorem good_tail {m} (h : Cert.Pre_KernelIdeal_blank_tail (hPre_blank_tail := Cert.Tail.facts) m) : Cert.KernelIdeal.Hand.Good (Cert.KernelIdeal.Hand.pages m) (Cert.KernelIdeal.Hand.lengths m) :=
  ⟨(Cert.Tail.bounds (h 0)).1, (Cert.Tail.bounds (h 0)).2⟩

/-- The frame under that precondition. -/
theorem frame_tail : Cert.quiescent_KernelIdeal_pre_blank_tail (hPre_blank_tail := Cert.Tail.facts) := fun m g h =>
  (θ_run _ _ _).mono (fun _ h => ⟨fun c => (h.1 c).2, h.2⟩) (Cert.KernelIdeal.Hand.run m g (good_tail h))

/-! ## The results agree -/

open Cert.KernelIdeal.Hand (fullRow final lengths pages len ixL_eq) in
/-- Under the precondition the kernel's result is the reference's: the tokens past the blocks a sequence reaches are masked
    and have scales zero, so that they add nothing. -/
theorem same {m} (h : Cert.Pre_KernelIdeal_blank_tail (hPre_blank_tail := Cert.Tail.facts) m) (c : Dev Cert.KernelIdeal.nD) :
    (final m c : FVec Ideal Cert.ReferenceIdeal.S128x32x512 .bf16) = Cert.ReferenceIdeal.Hand.result
      (m (c.tc.loc Cert.KernelIdeal.main_arg0)) (m (c.tc.loc Cert.KernelIdeal.main_arg1)) (m (c.tc.loc Cert.KernelIdeal.main_arg2))
      (m (c.tc.loc Cert.KernelIdeal.main_arg3)) (m (c.tc.loc Cert.KernelIdeal.main_arg4)) (m (c.tc.loc Cert.KernelIdeal.main_arg5))
      (m (c.tc.loc Cert.KernelIdeal.main_arg6)) (m (c.tc.loc Cert.KernelIdeal.main_arg7)) (m (c.tc.loc Cert.KernelIdeal.main_arg8)) := by
  obtain rfl : c = 0 := Subsingleton.elim _ _
  funext i
  obtain ⟨b, k, e, rfl⟩ : ∃ (b : Fin 128) (k : Fin 32) (e : Fin 512), i = ix3 b k e :=
    ⟨i 0, i 1, i 2, funext fun a => by fin_cases a <;> rfl⟩
  have ha := fun j => Cert.Tail.at_ix (h 0) b j
  have hT := (Cert.KernelIdeal.Hand.Good.page (good_tail h))
  refine Eq.trans ?_ (Cert.ReferenceIdeal.Hand.result_at b k _ _ _ _ _ _ _ hT _ e).symm
  have hl : len (lengths m) b.val = m (Dev.tc (0 : Dev Cert.KernelIdeal.nD) |>.loc Cert.KernelIdeal.main_arg8) (ix1 b) := by
    unfold len; rw [ixL_eq]
  show (fullRow m 0 b k).out (256 * Cert.Words.nblk (len (lengths m) b.val)) e = (fullRow m 0 b k).out 2048 e
  have hn := Cert.Words.nblk_le ((good_tail h).le (Cert.KernelIdeal.Hand.ixL b.val))
  have hn' : Cert.Words.nblk (len (lengths m) b.val) ≤ 8 := hn
  have hlen : ∀ t, 256 * Cert.Words.nblk (len (lengths m) b.val) ≤ t → (len (lengths m) b.val).toInt ≤ (t : ℤ) := by
    intro t ht
    unfold Cert.Words.nblk at ht
    omega
  refine ((fullRow m 0 b k).out_extend (by omega) (fun t ht _ => ?_) (fun t ht ht' g => ?_) e).symm
  · show (m (Dev.tc (0 : Dev Cert.KernelIdeal.nD) |>.loc Cert.KernelIdeal.main_arg8) (ix1 b)).toInt ≤ _
    rw [← hl]
    exact hlen t ht
  · have hj : t / 64 < 32 := by omega
    obtain ⟨hp, -, hz⟩ := ha ⟨t / 64, hj⟩
    rcases hz (Cert.ReferenceIdeal.Hand.slot t) g with lt | z
    · exfalso
      have l1 := hlen (t / 256 * 256) (by omega)
      rw [hl] at l1
      have : t / 64 / 4 = t / 256 := by omega
      simp only [this] at lt
      exact absurd l1 (not_le.mpr lt)
    · refine Eq.trans (congrArg (fun p => m (Dev.tc (0 : Dev Cert.KernelIdeal.nD) |>.loc Cert.KernelIdeal.main_arg5) (ix3 p (Cert.ReferenceIdeal.Hand.slot t) g)) ?_) z
      apply Fin.ext
      unfold Cert.ReferenceIdeal.Hand.page
      simp only [Nat.mod_eq_of_lt hj]
      exact Nat.mod_eq_of_lt hp

/-- Over the extended reals, under the precondition, the kernel and the reference end with the same result. -/
theorem algebraic : Cert.algebraic_KernelIdeal_ReferenceIdeal_pre_blank_tail (hPre_blank_tail := Cert.Tail.facts) := by
  intro m g m' g' h hm
  refine ⟨fun c => Cert.KernelIdeal.Hand.final m c, (θ_run _ _ _).mono (fun r hr c => ?_) (Cert.KernelIdeal.Hand.run m g (good_tail h)),
    (θ_run _ _ _).mono (fun r hr c => ?_) (θ_run_and (Cert.ReferenceIdeal.Hand.run m' g') (Cert.ReferenceIdeal.Gen.frame m' g'))⟩
  · exact ⟨((hr.1 c).1).trans (Cert.KernelIdeal.Hand.final_eq m c (good_tail h)), (hr.1 c).2⟩
  · refine ⟨(hr.1 c).trans ?_, hr.2.1 c⟩
    obtain ⟨e0, e1, e2, e3, e4, e5, e6, e7, e8⟩ := hm c
    refine Eq.trans ?_ (same h c).symm
    unfold Cert.ReferenceIdeal.Hand.val Cert.ReferenceIdeal.Hand.pool
    rw [e0, e1, e2, e3, e4, e5, e6, e7, e8]

/-- Everything claimed. -/
theorem claim : Cert.Claim :=
  ⟨Cert.Kernel.Gen.facts, Cert.KernelIdeal.Gen.facts, Cert.ReferenceIdeal.Gen.facts, Cert.Pre_pages_and_lengths.Gen.facts, Cert.Tail.facts,
    frame_Kernel, frame_KernelIdeal, frame_tail, fun m g _ => Cert.ReferenceIdeal.Gen.frame m g, fun m g _ => Cert.ReferenceIdeal.Gen.frame m g,
    trivial, algebraic⟩

end Cert.Proof

end
